-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v20_0)) (v1 : (c : Dev Cert.KernelIdeal.nD) → Buf (Elt Ideal) ((c.tc : Thread Cert.KernelIdeal.nD Cert.KernelIdeal.τ).loc Cert.KernelIdeal.main_v20_1)) (v2 : (c : Dev Cert.KernelIdeal.nD) → Buf (Elt Ideal) ((c.tc : Thread Cert.KernelIdeal.nD Cert.KernelIdeal.τ).loc Cert.KernelIdeal.main_v20_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20_0) = v0 c
          ∧ r.2.mem ((c.tc : Thread Cert.KernelIdeal.nD Cert.KernelIdeal.τ).loc Cert.KernelIdeal.main_v20_1) = v1 c
          ∧ r.2.mem ((c.tc : Thread Cert.KernelIdeal.nD Cert.KernelIdeal.τ).loc Cert.KernelIdeal.main_v20_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_v53) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v2_0)) (v1 : (c : Dev Cert.Kernel2Ideal.nD) → Buf (Elt Ideal) ((c.tc : Thread Cert.Kernel2Ideal.nD Cert.Kernel2Ideal.τ).loc Cert.Kernel2Ideal.main_v2_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2_0) = v0 c
          ∧ r.2.mem ((c.tc : Thread Cert.Kernel2Ideal.nD Cert.Kernel2Ideal.τ).loc Cert.Kernel2Ideal.main_v2_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v40) = v0 c
          ∧ r.2.mem ((c.tc : Thread Cert.Reference2Ideal.nD Cert.Reference2Ideal.τ).loc Cert.Reference2Ideal.main_v41) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v15)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v15) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v41) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v4_0)) (v1 : (c : Dev Cert.Kernel4Ideal.nD) → Buf (Elt Ideal) ((c.tc : Thread Cert.Kernel4Ideal.nD Cert.Kernel4Ideal.τ).loc Cert.Kernel4Ideal.main_v4_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4_0) = v0 c
          ∧ r.2.mem ((c.tc : Thread Cert.Kernel4Ideal.nD Cert.Kernel4Ideal.τ).loc Cert.Kernel4Ideal.main_v4_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v36) = v0 c
          ∧ r.2.mem ((c.tc : Thread Cert.Reference4Ideal.nD Cert.Reference4Ideal.τ).loc Cert.Reference4Ideal.main_v22) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v27_0)) (v1 : (c : Dev Cert.Kernel5Ideal.nD) → Buf (Elt Ideal) ((c.tc : Thread Cert.Kernel5Ideal.nD Cert.Kernel5Ideal.τ).loc Cert.Kernel5Ideal.main_v27_1)) (v2 : (c : Dev Cert.Kernel5Ideal.nD) → Buf (Elt Ideal) ((c.tc : Thread Cert.Kernel5Ideal.nD Cert.Kernel5Ideal.τ).loc Cert.Kernel5Ideal.main_v27_2)) (v3 : (c : Dev Cert.Kernel5Ideal.nD) → Buf (Elt Ideal) ((c.tc : Thread Cert.Kernel5Ideal.nD Cert.Kernel5Ideal.τ).loc Cert.Kernel5Ideal.main_v27_3)) (v4 : (c : Dev Cert.Kernel5Ideal.nD) → Buf (Elt Ideal) ((c.tc : Thread Cert.Kernel5Ideal.nD Cert.Kernel5Ideal.τ).loc Cert.Kernel5Ideal.main_v27_4)) (v5 : (c : Dev Cert.Kernel5Ideal.nD) → Buf (Elt Ideal) ((c.tc : Thread Cert.Kernel5Ideal.nD Cert.Kernel5Ideal.τ).loc Cert.Kernel5Ideal.main_v27_5)) (v6 : (c : Dev Cert.Kernel5Ideal.nD) → Buf (Elt Ideal) ((c.tc : Thread Cert.Kernel5Ideal.nD Cert.Kernel5Ideal.τ).loc Cert.Kernel5Ideal.main_v27_6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v27_0) = v0 c
          ∧ r.2.mem ((c.tc : Thread Cert.Kernel5Ideal.nD Cert.Kernel5Ideal.τ).loc Cert.Kernel5Ideal.main_v27_1) = v1 c
          ∧ r.2.mem ((c.tc : Thread Cert.Kernel5Ideal.nD Cert.Kernel5Ideal.τ).loc Cert.Kernel5Ideal.main_v27_2) = v2 c
          ∧ r.2.mem ((c.tc : Thread Cert.Kernel5Ideal.nD Cert.Kernel5Ideal.τ).loc Cert.Kernel5Ideal.main_v27_3) = v3 c
          ∧ r.2.mem ((c.tc : Thread Cert.Kernel5Ideal.nD Cert.Kernel5Ideal.τ).loc Cert.Kernel5Ideal.main_v27_4) = v4 c
          ∧ r.2.mem ((c.tc : Thread Cert.Kernel5Ideal.nD Cert.Kernel5Ideal.τ).loc Cert.Kernel5Ideal.main_v27_5) = v5 c
          ∧ r.2.mem ((c.tc : Thread Cert.Kernel5Ideal.nD Cert.Kernel5Ideal.τ).loc Cert.Kernel5Ideal.main_v27_6) = v6 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v78) = v0 c
          ∧ r.2.mem ((c.tc : Thread Cert.Reference5Ideal.nD Cert.Reference5Ideal.τ).loc Cert.Reference5Ideal.main_v81) = v1 c
          ∧ r.2.mem ((c.tc : Thread Cert.Reference5Ideal.nD Cert.Reference5Ideal.τ).loc Cert.Reference5Ideal.main_v83) = v2 c
          ∧ r.2.mem ((c.tc : Thread Cert.Reference5Ideal.nD Cert.Reference5Ideal.τ).loc Cert.Reference5Ideal.main_v66) = v3 c
          ∧ r.2.mem ((c.tc : Thread Cert.Reference5Ideal.nD Cert.Reference5Ideal.τ).loc Cert.Reference5Ideal.main_v77) = v4 c
          ∧ r.2.mem ((c.tc : Thread Cert.Reference5Ideal.nD Cert.Reference5Ideal.τ).loc Cert.Reference5Ideal.main_v71) = v5 c
          ∧ r.2.mem ((c.tc : Thread Cert.Reference5Ideal.nD Cert.Reference5Ideal.τ).loc Cert.Reference5Ideal.main_v84) = v6 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v28) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v2_0)) (v1 : (c : Dev Cert.Kernel7Ideal.nD) → Buf (Elt Ideal) ((c.tc : Thread Cert.Kernel7Ideal.nD Cert.Kernel7Ideal.τ).loc Cert.Kernel7Ideal.main_v2_1)) (v2 : (c : Dev Cert.Kernel7Ideal.nD) → Buf (Elt Ideal) ((c.tc : Thread Cert.Kernel7Ideal.nD Cert.Kernel7Ideal.τ).loc Cert.Kernel7Ideal.main_v2_2)) (v3 : (c : Dev Cert.Kernel7Ideal.nD) → Buf (Elt Ideal) ((c.tc : Thread Cert.Kernel7Ideal.nD Cert.Kernel7Ideal.τ).loc Cert.Kernel7Ideal.main_v2_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2_0) = v0 c
          ∧ r.2.mem ((c.tc : Thread Cert.Kernel7Ideal.nD Cert.Kernel7Ideal.τ).loc Cert.Kernel7Ideal.main_v2_1) = v1 c
          ∧ r.2.mem ((c.tc : Thread Cert.Kernel7Ideal.nD Cert.Kernel7Ideal.τ).loc Cert.Kernel7Ideal.main_v2_2) = v2 c
          ∧ r.2.mem ((c.tc : Thread Cert.Kernel7Ideal.nD Cert.Kernel7Ideal.τ).loc Cert.Kernel7Ideal.main_v2_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v64) = v0 c
          ∧ r.2.mem ((c.tc : Thread Cert.Reference7Ideal.nD Cert.Reference7Ideal.τ).loc Cert.Reference7Ideal.main_v42) = v1 c
          ∧ r.2.mem ((c.tc : Thread Cert.Reference7Ideal.nD Cert.Reference7Ideal.τ).loc Cert.Reference7Ideal.main_v51) = v2 c
          ∧ r.2.mem ((c.tc : Thread Cert.Reference7Ideal.nD Cert.Reference7Ideal.τ).loc Cert.Reference7Ideal.main_v65) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite.lean ====
abbrev S8192x512 : Shape := ⟨2, ![8192, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn_part1 {F : FTy → Type} [FloatOps F] (main_v13 : IVec S_ 1) (main_v16 : IVec S8192x512 1) : IVec S_ 1 :=
  let main_c_5 : IVec S_ 1 := constantI S_ 1 1#1
  let main_v17 : IVec S_ 1 := (fun x v => Host.reduce IntOp.andi x v reducesTo_S8192x512_S_d0_1 h_S_) main_v16 main_c_5
  let main_v18 : IVec S_ 1 := andi main_v13 main_v17
  main_v18

def fn {F : FTy → Type} [FloatOps F] (main_arg0 : FVec F S8192x512 .f32) (main_arg1 : FVec F S8192x512 .f32) (main_arg2 : FVec F S8192x512 .f32) (main_arg3 : FVec F S8192x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S8192x512 .f32 := Host.absf main_arg2
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  let main_c_3 : IVec S_ 1 := constantI S_ 1 1#1
  let main_v12 : IVec S_ 1 := (fun x v => Host.reduce IntOp.andi x v reducesTo_S8192x512_S_d0_1 h_S_) main_v11 main_c_3
  let main_v13 : IVec S_ 1 := andi main_v8 main_v12
  let main_v14 : FVec F S8192x512 .f32 := Host.absf main_arg3
  let main_cst_4 : FVec F S_ .f32 := constant S_ .f32 0x7F800000#32
  let main_v15 : FVec F S8192x512 .f32 := broadcastInDim S8192x512 ![] bcast_S_S8192x512 main_cst_4
  let main_v16 : IVec S8192x512 1 := cmpf .olt main_v14 main_v15
  fn_part1 (F := F) main_v13 main_v16
-- ==== Kernel.lean ====
abbrev S8192x512 : Shape := ⟨2, ![8192, 512]⟩
abbrev S_ : Shape := ⟨0, ![]⟩
abbrev S512x8192 : Shape := ⟨2, ![512, 8192]⟩
abbrev S8x64x8192 : Shape := ⟨3, ![8, 64, 8192]⟩
abbrev S1x64x256 : Shape := ⟨3, ![1, 64, 256]⟩
abbrev S1x64x8192 : Shape := ⟨3, ![1, 64, 8192]⟩
abbrev S32x256x256 : Shape := ⟨3, ![32, 256, 256]⟩
abbrev S4x256x256 : Shape := ⟨3, ![4, 256, 256]⟩
abbrev S64x8192 : Shape := ⟨2, ![64, 8192]⟩
abbrev S64x256 : Shape := ⟨2, ![64, 256]⟩
abbrev S256x64 : Shape := ⟨2, ![256, 64]⟩
abbrev S256x256 : Shape := ⟨2, ![256, 256]⟩
abbrev S512x256 : Shape := ⟨2, ![512, 256]⟩
abbrev S256x1 : Shape := ⟨2, ![256, 1]⟩
abbrev S256x512 : Shape := ⟨2, ![256, 512]⟩
abbrev S1x256x256 : Shape := ⟨3, ![1, 256, 256]⟩
abbrev S256 : Shape := ⟨1, ![256]⟩

abbrev nBuf : Space → Nat
  | .hbm => 31
  | .vmem => 19
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S_, .f32⟩
  | .hbm, ⟨5, _⟩ => ⟨S8192x512, .f32⟩
  | .hbm, ⟨6, _⟩ => ⟨S8192x512, .f32⟩
  | .hbm, ⟨7, _⟩ => ⟨S512x8192, .f32⟩
  | .hbm, ⟨8, _⟩ => ⟨S512x8192, .bf16⟩
  | .hbm, ⟨9, _⟩ => ⟨S8x64x8192, .bf16⟩
  | .hbm, ⟨10, _⟩ => ⟨S_, .f32⟩
  | .hbm, ⟨11, _⟩ => ⟨S8192x512, .f32⟩
  | .hbm, ⟨12, _⟩ => ⟨S8192x512, .f32⟩
  | .hbm, ⟨13, _⟩ => ⟨S512x8192, .f32⟩
  | .hbm, ⟨14, _⟩ => ⟨S512x8192, .bf16⟩
  | .hbm, ⟨15, _⟩ => ⟨S8x64x8192, .bf16⟩
  | .hbm, ⟨16, _⟩ => ⟨S_, .f32⟩
  | .hbm, ⟨17, _⟩ => ⟨S8192x512, .f32⟩
  | .hbm, ⟨18, _⟩ => ⟨S8192x512, .f32⟩
  | .hbm, ⟨19, _⟩ => ⟨S512x8192, .f32⟩
  | .hbm, ⟨20, _⟩ => ⟨S512x8192, .bf16⟩
  | .hbm, ⟨21, _⟩ => ⟨S8x64x8192, .bf16⟩
  | .hbm, ⟨22, _⟩ => ⟨S_, .f32⟩
  | .hbm, ⟨23, _⟩ => ⟨S8192x512, .f32⟩
  | .hbm, ⟨24, _⟩ => ⟨S8192x512, .f32⟩
  | .hbm, ⟨25, _⟩ => ⟨S512x8192, .f32⟩
  | .hbm, ⟨26, _⟩ => ⟨S512x8192, .bf16⟩
  | .hbm, ⟨27, _⟩ => ⟨S8x64x8192, .bf16⟩
  | .hbm, ⟨28, _⟩ => ⟨S8x64x8192, .f32⟩
  | .hbm, ⟨29, _⟩ => ⟨S8x64x8192, .f32⟩
  | .hbm, ⟨30, _⟩ => ⟨S8x64x8192, .f32⟩
  | .local _ .vmem, ⟨0, _⟩ => ⟨S1x64x256, .bf16⟩
  | .local _ .vmem, ⟨1, _⟩ => ⟨S1x64x256, .bf16⟩
  | .local _ .vmem, ⟨2, _⟩ => ⟨S1x64x8192, .bf16⟩
  | .local _ .vmem, ⟨3, _⟩ => ⟨S1x64x8192, .bf16⟩
  | .local _ .vmem, ⟨4, _⟩ => ⟨S1x64x8192, .bf16⟩
  | .local _ .vmem, ⟨5, _⟩ => ⟨S1x64x8192, .bf16⟩
  | .local _ .vmem, ⟨6, _⟩ => ⟨S1x64x256, .bf16⟩
  | .local _ .vmem, ⟨7, _⟩ => ⟨S1x64x256, .bf16⟩
  | .local _ .vmem, ⟨8, _⟩ => ⟨S1x64x256, .f32⟩
  | .local _ .vmem, ⟨9, _⟩ => ⟨S1x64x256, .f32⟩
  | .local _ .vmem, ⟨10, _⟩ => ⟨S1x64x8192, .f32⟩
  | .local _ .vmem, ⟨11, _⟩ => ⟨S1x64x8192, .f32⟩
  | .local _ .vmem, ⟨12, _⟩ => ⟨S1x64x8192, .f32⟩
  | .local _ .vmem, ⟨13, _⟩ => ⟨S1x64x8192, .f32⟩
  | .local _ .vmem, ⟨14, _⟩ => ⟨S32x256x256, .f32⟩
  | .local _ .vmem, ⟨15, _⟩ => ⟨S32x256x256, .bf16⟩
  | .local _ .vmem, ⟨16, _⟩ => ⟨S4x256x256, .f32⟩
  | .local _ .vmem, ⟨17, _⟩ => ⟨S4x256x256, .f32⟩
  | .local _ .vmem, ⟨18, _⟩ => ⟨S4x256x256, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20_0 : Ref sig .tc := ⟨.hbm, 28, rfl⟩
abbrev main_v20_1 : Ref sig .tc := ⟨.hbm, 29, rfl⟩
abbrev main_v20_2 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 32], ![false, false]⟩

def k0_cond2 (i : grid0.Coords) : BitVec 1 :=
  let arg1 : BitVec 32 := BitVec.ofNat 32 (i 1).val
  let c4_i32_17 : BitVec 32 := 4#32
  let c0_i32_18 : BitVec 32 := 0#32
  let v46 : BitVec 1 := Scalar.cmpi .eq c4_i32_17 c0_i32_18
  let c1_i32_19 : BitVec 32 := 1#32
  let v47 : BitVec 32 := Scalar.select v46 c1_i32_19 c4_i32_17
  let v48 : BitVec 32 := Scalar.remsi arg1 v47
  let c0_i32_21 : BitVec 32 := 0#32
  let v50 : BitVec 1 := Scalar.cmpi .slt v48 c0_i32_21
  let c0_i32_22 : BitVec 32 := 0#32
  let v51 : BitVec 1 := Scalar.cmpi .slt v47 c0_i32_22
  let v52 : BitVec 1 := Scalar.xori v50 v51
  let c0_i32_20 : BitVec 32 := 0#32
  let v49 : BitVec 1 := Scalar.cmpi .ne v48 c0_i32_20
  let v53 : BitVec 1 := Scalar.andi v52 v49
  let v54 : BitVec 32 := Scalar.addi v48 v47
  let v55 : BitVec 32 := Scalar.select v53 v54 v48
  let c0_i32_23 : BitVec 32 := 0#32
  let v57 : BitVec 32 := Scalar.maxsi v55 c0_i32_23
  let c3_i32 : BitVec 32 := 3#32
  let v58 : BitVec 32 := Scalar.minsi v57 c3_i32
  let c0_i32_24 : BitVec 32 := 0#32
  let v59 : BitVec 1 := Scalar.cmpi .ne v58 c0_i32_24
  v59

def k0_cond3 (i : grid0.Coords) : BitVec 1 :=
  let arg1 : BitVec 32 := BitVec.ofNat 32 (i 1).val
  let c4_i32_17 : BitVec 32 := 4#32
  let c0_i32_18 : BitVec 32 := 0#32
  let v46 : BitVec 1 := Scalar.cmpi .eq c4_i32_17 c0_i32_18
  let c1_i32_19 : BitVec 32 := 1#32
  let v47 : BitVec 32 := Scalar.select v46 c1_i32_19 c4_i32_17
  let v48 : BitVec 32 := Scalar.remsi arg1 v47
  let c0_i32_21 : BitVec 32 := 0#32
  let v50 : BitVec 1 := Scalar.cmpi .slt v48 c0_i32_21
  let c0_i32_22 : BitVec 32 := 0#32
  let v51 : BitVec 1 := Scalar.cmpi .slt v47 c0_i32_22
  let v52 : BitVec 1 := Scalar.xori v50 v51
  let c0_i32_20 : BitVec 32 := 0#32
  let v49 : BitVec 1 := Scalar.cmpi .ne v48 c0_i32_20
  let v53 : BitVec 1 := Scalar.andi v52 v49
  let v54 : BitVec 32 := Scalar.addi v48 v47
  let v55 : BitVec 32 := Scalar.select v53 v54 v48
  let c0_i32_23 : BitVec 32 := 0#32
  let v57 : BitVec 32 := Scalar.maxsi v55 c0_i32_23
  let c3_i32 : BitVec 32 := 3#32
  let v58 : BitVec 32 := Scalar.minsi v57 c3_i32
  let c1_i32_84 : BitVec 32 := 1#32
  let v162 : BitVec 32 := Scalar.subi v58 c1_i32_84
  let c0_i32_85 : BitVec 32 := 0#32
  let v163 : BitVec 1 := Scalar.cmpi .ne v162 c0_i32_85
  v163

def k0_cond4 (i : grid0.Coords) : BitVec 1 :=
  let arg1 : BitVec 32 := BitVec.ofNat 32 (i 1).val
  let c4_i32_17 : BitVec 32 := 4#32
  let c0_i32_18 : BitVec 32 := 0#32
  let v46 : BitVec 1 := Scalar.cmpi .eq c4_i32_17 c0_i32_18
  let c1_i32_19 : BitVec 32 := 1#32
  let v47 : BitVec 32 := Scalar.select v46 c1_i32_19 c4_i32_17
  let v48 : BitVec 32 := Scalar.remsi arg1 v47
  let c0_i32_21 : BitVec 32 := 0#32
  let v50 : BitVec 1 := Scalar.cmpi .slt v48 c0_i32_21
  let c0_i32_22 : BitVec 32 := 0#32
  let v51 : BitVec 1 := Scalar.cmpi .slt v47 c0_i32_22
  let v52 : BitVec 1 := Scalar.xori v50 v51
  let c0_i32_20 : BitVec 32 := 0#32
  let v49 : BitVec 1 := Scalar.cmpi .ne v48 c0_i32_20
  let v53 : BitVec 1 := Scalar.andi v52 v49
  let v54 : BitVec 32 := Scalar.addi v48 v47
  let v55 : BitVec 32 := Scalar.select v53 v54 v48
  let c0_i32_23 : BitVec 32 := 0#32
  let v57 : BitVec 32 := Scalar.maxsi v55 c0_i32_23
  let c3_i32 : BitVec 32 := 3#32
  let v58 : BitVec 32 := Scalar.minsi v57 c3_i32
  let c1_i32_84 : BitVec 32 := 1#32
  let v162 : BitVec 32 := Scalar.subi v58 c1_i32_84
  let c1_i32_86 : BitVec 32 := 1#32
  let v165 : BitVec 32 := Scalar.subi v162 c1_i32_86
  let c0_i32_87 : BitVec 32 := 0#32
  let v166 : BitVec 1 := Scalar.cmpi .ne v165 c0_i32_87
  v166

def k0_mult1 (i : grid0.Coords) : BitVec 32 :=
  let arg1 : BitVec 32 := BitVec.ofNat 32 (i 1).val
  let c0_i32_88 : BitVec 32 := 0#32
  let v168 : BitVec 32 := Scalar.subi arg1 c0_i32_88
  let c256_i32_89 : BitVec 32 := 256#32
  let v169 : BitVec 32 := Scalar.muli v168 c256_i32_89
  v169
def k0_off1 (i : grid0.Coords) (c0_i32_88 : BitVec 32) : Fin 3 → Nat :=
  let c0_90 : Index := 0#32
  let c0_91 : Index := 0#32
  let arg1 : BitVec 32 := BitVec.ofNat 32 (i 1).val
  let v168 : BitVec 32 := Scalar.subi arg1 c0_i32_88
  let c256_i32_89 : BitVec 32 := 256#32
  let v169 : BitVec 32 := Scalar.muli v168 c256_i32_89
  let v170 : BitVec 32 := v169
  let v171 : Index := Scalar.indexCast v170
  ![0, 0, v171.toNat]
def k0_mult2 (i : grid0.Coords) : BitVec 32 :=
  let arg1 : BitVec 32 := BitVec.ofNat 32 (i 1).val
  let c1_i32_93 : BitVec 32 := 1#32
  let v175 : BitVec 32 := Scalar.subi arg1 c1_i32_93
  let c256_i32_94 : BitVec 32 := 256#32
  let v176 : BitVec 32 := Scalar.muli v175 c256_i32_94
  v176
def k0_mult3 (i : grid0.Coords) : BitVec 32 :=
  let arg1 : BitVec 32 := BitVec.ofNat 32 (i 1).val
  let c2_i32_98 : BitVec 32 := 2#32
  let v182 : BitVec 32 := Scalar.subi arg1 c2_i32_98
  let c256_i32_99 : BitVec 32 := 256#32
  let v183 : BitVec 32 := Scalar.muli v182 c256_i32_99
  v183
def k0_mult4 (i : grid0.Coords) : BitVec 32 :=
  let arg1 : BitVec 32 := BitVec.ofNat 32 (i 1).val
  let c3_i32_103 : BitVec 32 := 3#32
  let v189 : BitVec 32 := Scalar.subi arg1 c3_i32_103
  let c256_i32_104 : BitVec 32 := 256#32
  let v190 : BitVec 32 := Scalar.muli v189 c256_i32_104
  v190
def k0_mult5 (i : grid0.Coords) : BitVec 32 :=
  let arg1 : BitVec 32 := BitVec.ofNat 32 (i 1).val
  let c0_i32_108 : BitVec 32 := 0#32
  let v196 : BitVec 32 := Scalar.subi arg1 c0_i32_108
  let c256_i32_109 : BitVec 32 := 256#32
  let v197 : BitVec 32 := Scalar.muli v196 c256_i32_109
  v197
def k0_mult6 (i : grid0.Coords) : BitVec 32 :=
  let arg1 : BitVec 32 := BitVec.ofNat 32 (i 1).val
  let c1_i32_113 : BitVec 32 := 1#32
  let v203 : BitVec 32 := Scalar.subi arg1 c1_i32_113
  let c256_i32_114 : BitVec 32 := 256#32
  let v204 : BitVec 32 := Scalar.muli v203 c256_i32_114
  v204
def k0_mult7 (i : grid0.Coords) : BitVec 32 :=
  let arg1 : BitVec 32 := BitVec.ofNat 32 (i 1).val
  let c2_i32_118 : BitVec 32 := 2#32
  let v210 : BitVec 32 := Scalar.subi arg1 c2_i32_118
  let c256_i32_119 : BitVec 32 := 256#32
  let v211 : BitVec 32 := Scalar.muli v210 c256_i32_119
  v211
def k0_mult8 (i : grid0.Coords) : BitVec 32 :=
  let arg1 : BitVec 32 := BitVec.ofNat 32 (i 1).val
  let c3_i32_123 : BitVec 32 := 3#32
  let v217 : BitVec 32 := Scalar.subi arg1 c3_i32_123
  let c256_i32_124 : BitVec 32 := 256#32
  let v218 : BitVec 32 := Scalar.muli v217 c256_i32_124
  v218
def k0_mult9 (i : grid0.Coords) : BitVec 32 :=
  let arg1 : BitVec 32 := BitVec.ofNat 32 (i 1).val
  let c0_i32_12 : BitVec 32 := 0#32
  let v30 : BitVec 1 := Scalar.cmpi .sgt arg1 c0_i32_12
  let v31 : BitVec 32 := Scalar.extui v30
  let c0_i32_13 : BitVec 32 := 0#32
  let v32 : BitVec 1 := Scalar.cmpi .slt arg1 c0_i32_13
  let v33 : BitVec 32 := Scalar.extui v32
  let v34 : BitVec 32 := Scalar.subi v31 v33
  let c4_i32 : BitVec 32 := 4#32
  let c0_i32_14 : BitVec 32 := 0#32
  let v35 : BitVec 1 := Scalar.cmpi .sgt c4_i32 c0_i32_14
  let v36 : BitVec 32 := Scalar.extui v35
  let c0_i32_15 : BitVec 32 := 0#32
  let v37 : BitVec 1 := Scalar.cmpi .slt c4_i32 c0_i32_15
  let v38 : BitVec 32 := Scalar.extui v37
  let v39 : BitVec 32 := Scalar.subi v36 v38
  let v40 : BitVec 1 := Scalar.cmpi .ne v34 v39
  let v41 : BitVec 32 := Scalar.remsi arg1 c4_i32
  let c0_i32_16 : BitVec 32 := 0#32
  let v42 : BitVec 1 := Scalar.cmpi .ne v41 c0_i32_16
  let v43 : BitVec 1 := Scalar.andi v40 v42
  let v29 : BitVec 32 := Scalar.divsi arg1 c4_i32
  let c1_i32 : BitVec 32 := 1#32
  let v44 : BitVec 32 := Scalar.subi v29 c1_i32
  let v45 : BitVec 32 := Scalar.select v43 v44 v29
  let c1_i32_141 : BitVec 32 := 1#32
  let v290 : BitVec 32 := Scalar.subi v45 c1_i32_141
  let c0_i32_142 : BitVec 32 := 0#32
  let v291 : BitVec 32 := Scalar.maxsi v290 c0_i32_142
  let c4_i32_143 : BitVec 32 := 4#32
  let v292 : BitVec 32 := Scalar.muli v291 c4_i32_143
  let c3_i32_144 : BitVec 32 := 3#32
  let v293 : BitVec 32 := Scalar.addi v292 c3_i32_144
  let c256_i32_151 : BitVec 32 := 256#32
  let v300 : BitVec 32 := Scalar.muli v293 c256_i32_151
  v300
def k0_off2 (i : grid0.Coords) (c3_i32_144 : BitVec 32) : Fin 3 → Nat :=
  let c0_152 : Index := 0#32
  let c0_153 : Index := 0#32
  let arg1 : BitVec 32 := BitVec.ofNat 32 (i 1).val
  let c0_i32_12 : BitVec 32 := 0#32
  let v30 : BitVec 1 := Scalar.cmpi .sgt arg1 c0_i32_12
  let v31 : BitVec 32 := Scalar.extui v30
  let c0_i32_13 : BitVec 32 := 0#32
  let v32 : BitVec 1 := Scalar.cmpi .slt arg1 c0_i32_13
  let v33 : BitVec 32 := Scalar.extui v32
  let v34 : BitVec 32 := Scalar.subi v31 v33
  let c4_i32 : BitVec 32 := 4#32
  let c0_i32_14 : BitVec 32 := 0#32
  let v35 : BitVec 1 := Scalar.cmpi .sgt c4_i32 c0_i32_14
  let v36 : BitVec 32 := Scalar.extui v35
  let c0_i32_15 : BitVec 32 := 0#32
  let v37 : BitVec 1 := Scalar.cmpi .slt c4_i32 c0_i32_15
  let v38 : BitVec 32 := Scalar.extui v37
  let v39 : BitVec 32 := Scalar.subi v36 v38
  let v40 : BitVec 1 := Scalar.cmpi .ne v34 v39
  let v41 : BitVec 32 := Scalar.remsi arg1 c4_i32
  let c0_i32_16 : BitVec 32 := 0#32
  let v42 : BitVec 1 := Scalar.cmpi .ne v41 c0_i32_16
  let v43 : BitVec 1 := Scalar.andi v40 v42
  let v29 : BitVec 32 := Scalar.divsi arg1 c4_i32
  let c1_i32 : BitVec 32 := 1#32
  let v44 : BitVec 32 := Scalar.subi v29 c1_i32
  let v45 : BitVec 32 := Scalar.select v43 v44 v29
  let c1_i32_141 : BitVec 32 := 1#32
  let v290 : BitVec 32 := Scalar.subi v45 c1_i32_141
  let c0_i32_142 : BitVec 32 := 0#32
  let v291 : BitVec 32 := Scalar.maxsi v290 c0_i32_142
  let c4_i32_143 : BitVec 32 := 4#32
  let v292 : BitVec 32 := Scalar.muli v291 c4_i32_143
  let v293 : BitVec 32 := Scalar.addi v292 c3_i32_144
  let c256_i32_151 : BitVec 32 := 256#32
  let v300 : BitVec 32 := Scalar.muli v293 c256_i32_151
  let v301 : BitVec 32 := v300
  let v302 : Index := Scalar.indexCast v301
  ![0, 0, v302.toNat]
def k0_mult10 (i : grid0.Coords) : BitVec 32 :=
  let arg1 : BitVec 32 := BitVec.ofNat 32 (i 1).val
  let c0_i32_12 : BitVec 32 := 0#32
  let v30 : BitVec 1 := Scalar.cmpi .sgt arg1 c0_i32_12
  let v31 : BitVec 32 := Scalar.extui v30
  let c0_i32_13 : BitVec 32 := 0#32
  let v32 : BitVec 1 := Scalar.cmpi .slt arg1 c0_i32_13
  let v33 : BitVec 32 := Scalar.extui v32
  let v34 : BitVec 32 := Scalar.subi v31 v33
  let c4_i32 : BitVec 32 := 4#32
  let c0_i32_14 : BitVec 32 := 0#32
  let v35 : BitVec 1 := Scalar.cmpi .sgt c4_i32 c0_i32_14
  let v36 : BitVec 32 := Scalar.extui v35
  let c0_i32_15 : BitVec 32 := 0#32
  let v37 : BitVec 1 := Scalar.cmpi .slt c4_i32 c0_i32_15
  let v38 : BitVec 32 := Scalar.extui v37
  let v39 : BitVec 32 := Scalar.subi v36 v38
  let v40 : BitVec 1 := Scalar.cmpi .ne v34 v39
  let v41 : BitVec 32 := Scalar.remsi arg1 c4_i32
  let c0_i32_16 : BitVec 32 := 0#32
  let v42 : BitVec 1 := Scalar.cmpi .ne v41 c0_i32_16
  let v43 : BitVec 1 := Scalar.andi v40 v42
  let v29 : BitVec 32 := Scalar.divsi arg1 c4_i32
  let c1_i32 : BitVec 32 := 1#32
  let v44 : BitVec 32 := Scalar.subi v29 c1_i32
  let v45 : BitVec 32 := Scalar.select v43 v44 v29
  let c1_i32_141 : BitVec 32 := 1#32
  let v290 : BitVec 32 := Scalar.subi v45 c1_i32_141
  let c0_i32_142 : BitVec 32 := 0#32
  let v291 : BitVec 32 := Scalar.maxsi v290 c0_i32_142
  let c4_i32_145 : BitVec 32 := 4#32
  let v294 : BitVec 32 := Scalar.muli v291 c4_i32_145
  let c2_i32_146 : BitVec 32 := 2#32
  let v295 : BitVec 32 := Scalar.addi v294 c2_i32_146
  let c256_i32_158 : BitVec 32 := 256#32
  let v309 : BitVec 32 := Scalar.muli v295 c256_i32_158
  v309
def k0_mult11 (i : grid0.Coords) : BitVec 32 :=
  let arg1 : BitVec 32 := BitVec.ofNat 32 (i 1).val
  let c0_i32_12 : BitVec 32 := 0#32
  let v30 : BitVec 1 := Scalar.cmpi .sgt arg1 c0_i32_12
  let v31 : BitVec 32 := Scalar.extui v30
  let c0_i32_13 : BitVec 32 := 0#32
  let v32 : BitVec 1 := Scalar.cmpi .slt arg1 c0_i32_13
  let v33 : BitVec 32 := Scalar.extui v32
  let v34 : BitVec 32 := Scalar.subi v31 v33
  let c4_i32 : BitVec 32 := 4#32
  let c0_i32_14 : BitVec 32 := 0#32
  let v35 : BitVec 1 := Scalar.cmpi .sgt c4_i32 c0_i32_14
  let v36 : BitVec 32 := Scalar.extui v35
  let c0_i32_15 : BitVec 32 := 0#32
  let v37 : BitVec 1 := Scalar.cmpi .slt c4_i32 c0_i32_15
  let v38 : BitVec 32 := Scalar.extui v37
  let v39 : BitVec 32 := Scalar.subi v36 v38
  let v40 : BitVec 1 := Scalar.cmpi .ne v34 v39
  let v41 : BitVec 32 := Scalar.remsi arg1 c4_i32
  let c0_i32_16 : BitVec 32 := 0#32
  let v42 : BitVec 1 := Scalar.cmpi .ne v41 c0_i32_16
  let v43 : BitVec 1 := Scalar.andi v40 v42
  let v29 : BitVec 32 := Scalar.divsi arg1 c4_i32
  let c1_i32 : BitVec 32 := 1#32
  let v44 : BitVec 32 := Scalar.subi v29 c1_i32
  let v45 : BitVec 32 := Scalar.select v43 v44 v29
  let c1_i32_141 : BitVec 32 := 1#32
  let v290 : BitVec 32 := Scalar.subi v45 c1_i32_141
  let c0_i32_142 : BitVec 32 := 0#32
  let v291 : BitVec 32 := Scalar.maxsi v290 c0_i32_142
  let c4_i32_147 : BitVec 32 := 4#32
  let v296 : BitVec 32 := Scalar.muli v291 c4_i32_147
  let c1_i32_148 : BitVec 32 := 1#32
  let v297 : BitVec 32 := Scalar.addi v296 c1_i32_148
  let c256_i32_165 : BitVec 32 := 256#32
  let v318 : BitVec 32 := Scalar.muli v297 c256_i32_165
  v318
def k0_mult12 (i : grid0.Coords) : BitVec 32 :=
  let arg1 : BitVec 32 := BitVec.ofNat 32 (i 1).val
  let c0_i32_12 : BitVec 32 := 0#32
  let v30 : BitVec 1 := Scalar.cmpi .sgt arg1 c0_i32_12
  let v31 : BitVec 32 := Scalar.extui v30
  let c0_i32_13 : BitVec 32 := 0#32
  let v32 : BitVec 1 := Scalar.cmpi .slt arg1 c0_i32_13
  let v33 : BitVec 32 := Scalar.extui v32
  let v34 : BitVec 32 := Scalar.subi v31 v33
  let c4_i32 : BitVec 32 := 4#32
  let c0_i32_14 : BitVec 32 := 0#32
  let v35 : BitVec 1 := Scalar.cmpi .sgt c4_i32 c0_i32_14
  let v36 : BitVec 32 := Scalar.extui v35
  let c0_i32_15 : BitVec 32 := 0#32
  let v37 : BitVec 1 := Scalar.cmpi .slt c4_i32 c0_i32_15
  let v38 : BitVec 32 := Scalar.extui v37
  let v39 : BitVec 32 := Scalar.subi v36 v38
  let v40 : BitVec 1 := Scalar.cmpi .ne v34 v39
  let v41 : BitVec 32 := Scalar.remsi arg1 c4_i32
  let c0_i32_16 : BitVec 32 := 0#32
  let v42 : BitVec 1 := Scalar.cmpi .ne v41 c0_i32_16
  let v43 : BitVec 1 := Scalar.andi v40 v42
  let v29 : BitVec 32 := Scalar.divsi arg1 c4_i32
  let c1_i32 : BitVec 32 := 1#32
  let v44 : BitVec 32 := Scalar.subi v29 c1_i32
  let v45 : BitVec 32 := Scalar.select v43 v44 v29
  let c1_i32_141 : BitVec 32 := 1#32
  let v290 : BitVec 32 := Scalar.subi v45 c1_i32_141
  let c0_i32_142 : BitVec 32 := 0#32
  let v291 : BitVec 32 := Scalar.maxsi v290 c0_i32_142
  let c4_i32_149 : BitVec 32 := 4#32
  let v298 : BitVec 32 := Scalar.muli v291 c4_i32_149
  let c0_i32_150 : BitVec 32 := 0#32
  let v299 : BitVec 32 := Scalar.addi v298 c0_i32_150
  let c256_i32_172 : BitVec 32 := 256#32
  let v327 : BitVec 32 := Scalar.muli v299 c256_i32_172
  v327
def k0_mult13 (i : grid0.Coords) : BitVec 32 :=
  let arg1 : BitVec 32 := BitVec.ofNat 32 (i 1).val
  let c0_i32_12 : BitVec 32 := 0#32
  let v30 : BitVec 1 := Scalar.cmpi .sgt arg1 c0_i32_12
  let v31 : BitVec 32 := Scalar.extui v30
  let c0_i32_13 : BitVec 32 := 0#32
  let v32 : BitVec 1 := Scalar.cmpi .slt arg1 c0_i32_13
  let v33 : BitVec 32 := Scalar.extui v32
  let v34 : BitVec 32 := Scalar.subi v31 v33
  let c4_i32 : BitVec 32 := 4#32
  let c0_i32_14 : BitVec 32 := 0#32
  let v35 : BitVec 1 := Scalar.cmpi .sgt c4_i32 c0_i32_14
  let v36 : BitVec 32 := Scalar.extui v35
  let c0_i32_15 : BitVec 32 := 0#32
  let v37 : BitVec 1 := Scalar.cmpi .slt c4_i32 c0_i32_15
  let v38 : BitVec 32 := Scalar.extui v37
  let v39 : BitVec 32 := Scalar.subi v36 v38
  let v40 : BitVec 1 := Scalar.cmpi .ne v34 v39
  let v41 : BitVec 32 := Scalar.remsi arg1 c4_i32
  let c0_i32_16 : BitVec 32 := 0#32
  let v42 : BitVec 1 := Scalar.cmpi .ne v41 c0_i32_16
  let v43 : BitVec 1 := Scalar.andi v40 v42
  let v29 : BitVec 32 := Scalar.divsi arg1 c4_i32
  let c1_i32 : BitVec 32 := 1#32
  let v44 : BitVec 32 := Scalar.subi v29 c1_i32
  let v45 : BitVec 32 := Scalar.select v43 v44 v29
  let c1_i32_141 : BitVec 32 := 1#32
  let v290 : BitVec 32 := Scalar.subi v45 c1_i32_141
  let c0_i32_179 : BitVec 32 := 0#32
  let v336 : BitVec 32 := Scalar.maxsi v290 c0_i32_179
  let c4_i32_180 : BitVec 32 := 4#32
  let v337 : BitVec 32 := Scalar.muli v336 c4_i32_180
  let c3_i32_181 : BitVec 32 := 3#32
  let v338 : BitVec 32 := Scalar.addi v337 c3_i32_181
  let c256_i32_188 : BitVec 32 := 256#32
  let v345 : BitVec 32 := Scalar.muli v338 c256_i32_188
  v345
def k0_mult14 (i : grid0.Coords) : BitVec 32 :=
  let arg1 : BitVec 32 := BitVec.ofNat 32 (i 1).val
  let c0_i32_12 : BitVec 32 := 0#32
  let v30 : BitVec 1 := Scalar.cmpi .sgt arg1 c0_i32_12
  let v31 : BitVec 32 := Scalar.extui v30
  let c0_i32_13 : BitVec 32 := 0#32
  let v32 : BitVec 1 := Scalar.cmpi .slt arg1 c0_i32_13
  let v33 : BitVec 32 := Scalar.extui v32
  let v34 : BitVec 32 := Scalar.subi v31 v33
  let c4_i32 : BitVec 32 := 4#32
  let c0_i32_14 : BitVec 32 := 0#32
  let v35 : BitVec 1 := Scalar.cmpi .sgt c4_i32 c0_i32_14
  let v36 : BitVec 32 := Scalar.extui v35
  let c0_i32_15 : BitVec 32 := 0#32
  let v37 : BitVec 1 := Scalar.cmpi .slt c4_i32 c0_i32_15
  let v38 : BitVec 32 := Scalar.extui v37
  let v39 : BitVec 32 := Scalar.subi v36 v38
  let v40 : BitVec 1 := Scalar.cmpi .ne v34 v39
  let v41 : BitVec 32 := Scalar.remsi arg1 c4_i32
  let c0_i32_16 : BitVec 32 := 0#32
  let v42 : BitVec 1 := Scalar.cmpi .ne v41 c0_i32_16
  let v43 : BitVec 1 := Scalar.andi v40 v42
  let v29 : BitVec 32 := Scalar.divsi arg1 c4_i32
  let c1_i32 : BitVec 32 := 1#32
  let v44 : BitVec 32 := Scalar.subi v29 c1_i32
  let v45 : BitVec 32 := Scalar.select v43 v44 v29
  let c1_i32_141 : BitVec 32 := 1#32
  let v290 : BitVec 32 := Scalar.subi v45 c1_i32_141
  let c0_i32_179 : BitVec 32 := 0#32
  let v336 : BitVec 32 := Scalar.maxsi v290 c0_i32_179
  let c4_i32_182 : BitVec 32 := 4#32
  let v339 : BitVec 32 := Scalar.muli v336 c4_i32_182
  let c2_i32_183 : BitVec 32 := 2#32
  let v340 : BitVec 32 := Scalar.addi v339 c2_i32_183
  let c256_i32_195 : BitVec 32 := 256#32
  let v354 : BitVec 32 := Scalar.muli v340 c256_i32_195
  v354
def k0_mult15 (i : grid0.Coords) : BitVec 32 :=
  let arg1 : BitVec 32 := BitVec.ofNat 32 (i 1).val
  let c0_i32_12 : BitVec 32 := 0#32
  let v30 : BitVec 1 := Scalar.cmpi .sgt arg1 c0_i32_12
  let v31 : BitVec 32 := Scalar.extui v30
  let c0_i32_13 : BitVec 32 := 0#32
  let v32 : BitVec 1 := Scalar.cmpi .slt arg1 c0_i32_13
  let v33 : BitVec 32 := Scalar.extui v32
  let v34 : BitVec 32 := Scalar.subi v31 v33
  let c4_i32 : BitVec 32 := 4#32
  let c0_i32_14 : BitVec 32 := 0#32
  let v35 : BitVec 1 := Scalar.cmpi .sgt c4_i32 c0_i32_14
  let v36 : BitVec 32 := Scalar.extui v35
  let c0_i32_15 : BitVec 32 := 0#32
  let v37 : BitVec 1 := Scalar.cmpi .slt c4_i32 c0_i32_15
  let v38 : BitVec 32 := Scalar.extui v37
  let v39 : BitVec 32 := Scalar.subi v36 v38
  let v40 : BitVec 1 := Scalar.cmpi .ne v34 v39
  let v41 : BitVec 32 := Scalar.remsi arg1 c4_i32
  let c0_i32_16 : BitVec 32 := 0#32
  let v42 : BitVec 1 := Scalar.cmpi .ne v41 c0_i32_16
  let v43 : BitVec 1 := Scalar.andi v40 v42
  let v29 : BitVec 32 := Scalar.divsi arg1 c4_i32
  let c1_i32 : BitVec 32 := 1#32
  let v44 : BitVec 32 := Scalar.subi v29 c1_i32
  let v45 : BitVec 32 := Scalar.select v43 v44 v29
  let c1_i32_141 : BitVec 32 := 1#32
  let v290 : BitVec 32 := Scalar.subi v45 c1_i32_141
  let c0_i32_179 : BitVec 32 := 0#32
  let v336 : BitVec 32 := Scalar.maxsi v290 c0_i32_179
  let c4_i32_184 : BitVec 32 := 4#32
  let v341 : BitVec 32 := Scalar.muli v336 c4_i32_184
  let c1_i32_185 : BitVec 32 := 1#32
  let v342 : BitVec 32 := Scalar.addi v341 c1_i32_185
  let c256_i32_202 : BitVec 32 := 256#32
  let v363 : BitVec 32 := Scalar.muli v342 c256_i32_202
  v363
def k0_mult16 (i : grid0.Coords) : BitVec 32 :=
  let arg1 : BitVec 32 := BitVec.ofNat 32 (i 1).val
  let c0_i32_12 : BitVec 32 := 0#32
  let v30 : BitVec 1 := Scalar.cmpi .sgt arg1 c0_i32_12
  let v31 : BitVec 32 := Scalar.extui v30
  let c0_i32_13 : BitVec 32 := 0#32
  let v32 : BitVec 1 := Scalar.cmpi .slt arg1 c0_i32_13
  let v33 : BitVec 32 := Scalar.extui v32
  let v34 : BitVec 32 := Scalar.subi v31 v33
  let c4_i32 : BitVec 32 := 4#32
  let c0_i32_14 : BitVec 32 := 0#32
  let v35 : BitVec 1 := Scalar.cmpi .sgt c4_i32 c0_i32_14
  let v36 : BitVec 32 := Scalar.extui v35
  let c0_i32_15 : BitVec 32 := 0#32
  let v37 : BitVec 1 := Scalar.cmpi .slt c4_i32 c0_i32_15
  let v38 : BitVec 32 := Scalar.extui v37
  let v39 : BitVec 32 := Scalar.subi v36 v38
  let v40 : BitVec 1 := Scalar.cmpi .ne v34 v39
  let v41 : BitVec 32 := Scalar.remsi arg1 c4_i32
  let c0_i32_16 : BitVec 32 := 0#32
  let v42 : BitVec 1 := Scalar.cmpi .ne v41 c0_i32_16
  let v43 : BitVec 1 := Scalar.andi v40 v42
  let v29 : BitVec 32 := Scalar.divsi arg1 c4_i32
  let c1_i32 : BitVec 32 := 1#32
  let v44 : BitVec 32 := Scalar.subi v29 c1_i32
  let v45 : BitVec 32 := Scalar.select v43 v44 v29
  let c1_i32_141 : BitVec 32 := 1#32
  let v290 : BitVec 32 := Scalar.subi v45 c1_i32_141
  let c0_i32_179 : BitVec 32 := 0#32
  let v336 : BitVec 32 := Scalar.maxsi v290 c0_i32_179
  let c4_i32_186 : BitVec 32 := 4#32
  let v343 : BitVec 32 := Scalar.muli v336 c4_i32_186
  let c0_i32_187 : BitVec 32 := 0#32
  let v344 : BitVec 32 := Scalar.addi v343 c0_i32_187
  let c256_i32_209 : BitVec 32 := 256#32
  let v372 : BitVec 32 := Scalar.muli v344 c256_i32_209
  v372
def k0_off3 (i : grid0.Coords) (c0_i32_221 : BitVec 32) : Fin 3 → Nat :=
  let arg1 : BitVec 32 := BitVec.ofNat 32 (i 1).val
  let v411 : BitVec 32 := Scalar.subi arg1 c0_i32_221
  let v417 : Index := Scalar.indexCast v411
  let c0_225 : Index := 0#32
  let c0_226 : Index := 0#32
  ![v417.toNat, 0, 0]
def k0_mult17 (i : grid0.Coords) : BitVec 32 :=
  let arg1 : BitVec 32 := BitVec.ofNat 32 (i 1).val
  let c0_i32_88 : BitVec 32 := 0#32
  let v168 : BitVec 32 := Scalar.subi arg1 c0_i32_88
  let c256_i32_89 : BitVec 32 := 256#32
  let v169 : BitVec 32 := Scalar.muli v168 c256_i32_89
  v169
def k0_off4 (i : grid0.Coords) (c0_i32_88 : BitVec 32) : Fin 3 → Nat :=
  let c0_90 : Index := 0#32
  let c0_91 : Index := 0#32
  let arg1 : BitVec 32 := BitVec.ofNat 32 (i 1).val
  let v168 : BitVec 32 := Scalar.subi arg1 c0_i32_88
  let c256_i32_89 : BitVec 32 := 256#32
  let v169 : BitVec 32 := Scalar.muli v168 c256_i32_89
  let v170 : BitVec 32 := v169
  let v171 : Index := Scalar.indexCast v170
  ![0, 0, v171.toNat]
def k0_mult18 (i : grid0.Coords) : BitVec 32 :=
  let arg1 : BitVec 32 := BitVec.ofNat 32 (i 1).val
  let c1_i32_93 : BitVec 32 := 1#32
  let v175 : BitVec 32 := Scalar.subi arg1 c1_i32_93
  let c256_i32_94 : BitVec 32 := 256#32
  let v176 : BitVec 32 := Scalar.muli v175 c256_i32_94
  v176
def k0_mult19 (i : grid0.Coords) : BitVec 32 :=
  let arg1 : BitVec 32 := BitVec.ofNat 32 (i 1).val
  let c2_i32_98 : BitVec 32 := 2#32
  let v182 : BitVec 32 := Scalar.subi arg1 c2_i32_98
  let c256_i32_99 : BitVec 32 := 256#32
  let v183 : BitVec 32 := Scalar.muli v182 c256_i32_99
  v183
def k0_mult20 (i : grid0.Coords) : BitVec 32 :=
  let arg1 : BitVec 32 := BitVec.ofNat 32 (i 1).val
  let c0_i32_103 : BitVec 32 := 0#32
  let v189 : BitVec 32 := Scalar.subi arg1 c0_i32_103
  let c256_i32_104 : BitVec 32 := 256#32
  let v190 : BitVec 32 := Scalar.muli v189 c256_i32_104
  v190
def k0_mult21 (i : grid0.Coords) : BitVec 32 :=
  let arg1 : BitVec 32 := BitVec.ofNat 32 (i 1).val
  let c1_i32_108 : BitVec 32 := 1#32
  let v196 : BitVec 32 := Scalar.subi arg1 c1_i32_108
  let c256_i32_109 : BitVec 32 := 256#32
  let v197 : BitVec 32 := Scalar.muli v196 c256_i32_109
  v197
def k0_mult22 (i : grid0.Coords) : BitVec 32 :=
  let arg1 : BitVec 32 := BitVec.ofNat 32 (i 1).val
  let c2_i32_113 : BitVec 32 := 2#32
  let v203 : BitVec 32 := Scalar.subi arg1 c2_i32_113
  let c256_i32_114 : BitVec 32 := 256#32
  let v204 : BitVec 32 := Scalar.muli v203 c256_i32_114
  v204
def k0_mult23 (i : grid0.Coords) : BitVec 32 :=
  let arg1 : BitVec 32 := BitVec.ofNat 32 (i 1).val
  let c0_i32_12 : BitVec 32 := 0#32
  let v30 : BitVec 1 := Scalar.cmpi .sgt arg1 c0_i32_12
  let v31 : BitVec 32 := Scalar.extui v30
  let c0_i32_13 : BitVec 32 := 0#32
  let v32 : BitVec 1 := Scalar.cmpi .slt arg1 c0_i32_13
  let v33 : BitVec 32 := Scalar.extui v32
  let v34 : BitVec 32 := Scalar.subi v31 v33
  let c4_i32 : BitVec 32 := 4#32
  let c0_i32_14 : BitVec 32 := 0#32
  let v35 : BitVec 1 := Scalar.cmpi .sgt c4_i32 c0_i32_14
  let v36 : BitVec 32 := Scalar.extui v35
  let c0_i32_15 : BitVec 32 := 0#32
  let v37 : BitVec 1 := Scalar.cmpi .slt c4_i32 c0_i32_15
  let v38 : BitVec 32 := Scalar.extui v37
  let v39 : BitVec 32 := Scalar.subi v36 v38
  let v40 : BitVec 1 := Scalar.cmpi .ne v34 v39
  let v41 : BitVec 32 := Scalar.remsi arg1 c4_i32
  let c0_i32_16 : BitVec 32 := 0#32
  let v42 : BitVec 1 := Scalar.cmpi .ne v41 c0_i32_16
  let v43 : BitVec 1 := Scalar.andi v40 v42
  let v29 : BitVec 32 := Scalar.divsi arg1 c4_i32
  let c1_i32 : BitVec 32 := 1#32
  let v44 : BitVec 32 := Scalar.subi v29 c1_i32
  let v45 : BitVec 32 := Scalar.select v43 v44 v29
  let c1_i32_128 : BitVec 32 := 1#32
  let v260 : BitVec 32 := Scalar.subi v45 c1_i32_128
  let c0_i32_129 : BitVec 32 := 0#32
  let v261 : BitVec 32 := Scalar.maxsi v260 c0_i32_129
  let c4_i32_130 : BitVec 32 := 4#32
  let v262 : BitVec 32 := Scalar.muli v261 c4_i32_130
  let c3_i32_131 : BitVec 32 := 3#32
  let v263 : BitVec 32 := Scalar.addi v262 c3_i32_131
  let c256_i32_138 : BitVec 32 := 256#32
  let v270 : BitVec 32 := Scalar.muli v263 c256_i32_138
  v270
def k0_off5 (i : grid0.Coords) (c3_i32_131 : BitVec 32) : Fin 3 → Nat :=
  let c0_139 : Index := 0#32
  let c0_140 : Index := 0#32
  let arg1 : BitVec 32 := BitVec.ofNat 32 (i 1).val
  let c0_i32_12 : BitVec 32 := 0#32
  let v30 : BitVec 1 := Scalar.cmpi .sgt arg1 c0_i32_12
  let v31 : BitVec 32 := Scalar.extui v30
  let c0_i32_13 : BitVec 32 := 0#32
  let v32 : BitVec 1 := Scalar.cmpi .slt arg1 c0_i32_13
  let v33 : BitVec 32 := Scalar.extui v32
  let v34 : BitVec 32 := Scalar.subi v31 v33
  let c4_i32 : BitVec 32 := 4#32
  let c0_i32_14 : BitVec 32 := 0#32
  let v35 : BitVec 1 := Scalar.cmpi .sgt c4_i32 c0_i32_14
  let v36 : BitVec 32 := Scalar.extui v35
  let c0_i32_15 : BitVec 32 := 0#32
  let v37 : BitVec 1 := Scalar.cmpi .slt c4_i32 c0_i32_15
  let v38 : BitVec 32 := Scalar.extui v37
  let v39 : BitVec 32 := Scalar.subi v36 v38
  let v40 : BitVec 1 := Scalar.cmpi .ne v34 v39
  let v41 : BitVec 32 := Scalar.remsi arg1 c4_i32
  let c0_i32_16 : BitVec 32 := 0#32
  let v42 : BitVec 1 := Scalar.cmpi .ne v41 c0_i32_16
  let v43 : BitVec 1 := Scalar.andi v40 v42
  let v29 : BitVec 32 := Scalar.divsi arg1 c4_i32
  let c1_i32 : BitVec 32 := 1#32
  let v44 : BitVec 32 := Scalar.subi v29 c1_i32
  let v45 : BitVec 32 := Scalar.select v43 v44 v29
  let c1_i32_128 : BitVec 32 := 1#32
  let v260 : BitVec 32 := Scalar.subi v45 c1_i32_128
  let c0_i32_129 : BitVec 32 := 0#32
  let v261 : BitVec 32 := Scalar.maxsi v260 c0_i32_129
  let c4_i32_130 : BitVec 32 := 4#32
  let v262 : BitVec 32 := Scalar.muli v261 c4_i32_130
  let v263 : BitVec 32 := Scalar.addi v262 c3_i32_131
  let c256_i32_138 : BitVec 32 := 256#32
  let v270 : BitVec 32 := Scalar.muli v263 c256_i32_138
  let v271 : BitVec 32 := v270
  let v272 : Index := Scalar.indexCast v271
  ![0, 0, v272.toNat]
def k0_mult24 (i : grid0.Coords) : BitVec 32 :=
  let arg1 : BitVec 32 := BitVec.ofNat 32 (i 1).val
  let c0_i32_12 : BitVec 32 := 0#32
  let v30 : BitVec 1 := Scalar.cmpi .sgt arg1 c0_i32_12
  let v31 : BitVec 32 := Scalar.extui v30
  let c0_i32_13 : BitVec 32 := 0#32
  let v32 : BitVec 1 := Scalar.cmpi .slt arg1 c0_i32_13
  let v33 : BitVec 32 := Scalar.extui v32
  let v34 : BitVec 32 := Scalar.subi v31 v33
  let c4_i32 : BitVec 32 := 4#32
  let c0_i32_14 : BitVec 32 := 0#32
  let v35 : BitVec 1 := Scalar.cmpi .sgt c4_i32 c0_i32_14
  let v36 : BitVec 32 := Scalar.extui v35
  let c0_i32_15 : BitVec 32 := 0#32
  let v37 : BitVec 1 := Scalar.cmpi .slt c4_i32 c0_i32_15
  let v38 : BitVec 32 := Scalar.extui v37
  let v39 : BitVec 32 := Scalar.subi v36 v38
  let v40 : BitVec 1 := Scalar.cmpi .ne v34 v39
  let v41 : BitVec 32 := Scalar.remsi arg1 c4_i32
  let c0_i32_16 : BitVec 32 := 0#32
  let v42 : BitVec 1 := Scalar.cmpi .ne v41 c0_i32_16
  let v43 : BitVec 1 := Scalar.andi v40 v42
  let v29 : BitVec 32 := Scalar.divsi arg1 c4_i32
  let c1_i32 : BitVec 32 := 1#32
  let v44 : BitVec 32 := Scalar.subi v29 c1_i32
  let v45 : BitVec 32 := Scalar.select v43 v44 v29
  let c1_i32_128 : BitVec 32 := 1#32
  let v260 : BitVec 32 := Scalar.subi v45 c1_i32_128
  let c0_i32_129 : BitVec 32 := 0#32
  let v261 : BitVec 32 := Scalar.maxsi v260 c0_i32_129
  let c4_i32_132 : BitVec 32 := 4#32
  let v264 : BitVec 32 := Scalar.muli v261 c4_i32_132
  let c2_i32_133 : BitVec 32 := 2#32
  let v265 : BitVec 32 := Scalar.addi v264 c2_i32_133
  let c256_i32_145 : BitVec 32 := 256#32
  let v279 : BitVec 32 := Scalar.muli v265 c256_i32_145
  v279
def k0_mult25 (i : grid0.Coords) : BitVec 32 :=
  let arg1 : BitVec 32 := BitVec.ofNat 32 (i 1).val
  let c0_i32_12 : BitVec 32 := 0#32
  let v30 : BitVec 1 := Scalar.cmpi .sgt arg1 c0_i32_12
  let v31 : BitVec 32 := Scalar.extui v30
  let c0_i32_13 : BitVec 32 := 0#32
  let v32 : BitVec 1 := Scalar.cmpi .slt arg1 c0_i32_13
  let v33 : BitVec 32 := Scalar.extui v32
  let v34 : BitVec 32 := Scalar.subi v31 v33
  let c4_i32 : BitVec 32 := 4#32
  let c0_i32_14 : BitVec 32 := 0#32
  let v35 : BitVec 1 := Scalar.cmpi .sgt c4_i32 c0_i32_14
  let v36 : BitVec 32 := Scalar.extui v35
  let c0_i32_15 : BitVec 32 := 0#32
  let v37 : BitVec 1 := Scalar.cmpi .slt c4_i32 c0_i32_15
  let v38 : BitVec 32 := Scalar.extui v37
  let v39 : BitVec 32 := Scalar.subi v36 v38
  let v40 : BitVec 1 := Scalar.cmpi .ne v34 v39
  let v41 : BitVec 32 := Scalar.remsi arg1 c4_i32
  let c0_i32_16 : BitVec 32 := 0#32
  let v42 : BitVec 1 := Scalar.cmpi .ne v41 c0_i32_16
  let v43 : BitVec 1 := Scalar.andi v40 v42
  let v29 : BitVec 32 := Scalar.divsi arg1 c4_i32
  let c1_i32 : BitVec 32 := 1#32
  let v44 : BitVec 32 := Scalar.subi v29 c1_i32
  let v45 : BitVec 32 := Scalar.select v43 v44 v29
  let c1_i32_128 : BitVec 32 := 1#32
  let v260 : BitVec 32 := Scalar.subi v45 c1_i32_128
  let c0_i32_129 : BitVec 32 := 0#32
  let v261 : BitVec 32 := Scalar.maxsi v260 c0_i32_129
  let c4_i32_134 : BitVec 32 := 4#32
  let v266 : BitVec 32 := Scalar.muli v261 c4_i32_134
  let c1_i32_135 : BitVec 32 := 1#32
  let v267 : BitVec 32 := Scalar.addi v266 c1_i32_135
  let c256_i32_152 : BitVec 32 := 256#32
  let v288 : BitVec 32 := Scalar.muli v267 c256_i32_152
  v288
def k0_mult26 (i : grid0.Coords) : BitVec 32 :=
  let arg1 : BitVec 32 := BitVec.ofNat 32 (i 1).val
  let c0_i32_12 : BitVec 32 := 0#32
  let v30 : BitVec 1 := Scalar.cmpi .sgt arg1 c0_i32_12
  let v31 : BitVec 32 := Scalar.extui v30
  let c0_i32_13 : BitVec 32 := 0#32
  let v32 : BitVec 1 := Scalar.cmpi .slt arg1 c0_i32_13
  let v33 : BitVec 32 := Scalar.extui v32
  let v34 : BitVec 32 := Scalar.subi v31 v33
  let c4_i32 : BitVec 32 := 4#32
  let c0_i32_14 : BitVec 32 := 0#32
  let v35 : BitVec 1 := Scalar.cmpi .sgt c4_i32 c0_i32_14
  let v36 : BitVec 32 := Scalar.extui v35
  let c0_i32_15 : BitVec 32 := 0#32
  let v37 : BitVec 1 := Scalar.cmpi .slt c4_i32 c0_i32_15
  let v38 : BitVec 32 := Scalar.extui v37
  let v39 : BitVec 32 := Scalar.subi v36 v38
  let v40 : BitVec 1 := Scalar.cmpi .ne v34 v39
  let v41 : BitVec 32 := Scalar.remsi arg1 c4_i32
  let c0_i32_16 : BitVec 32 := 0#32
  let v42 : BitVec 1 := Scalar.cmpi .ne v41 c0_i32_16
  let v43 : BitVec 1 := Scalar.andi v40 v42
  let v29 : BitVec 32 := Scalar.divsi arg1 c4_i32
  let c1_i32 : BitVec 32 := 1#32
  let v44 : BitVec 32 := Scalar.subi v29 c1_i32
  let v45 : BitVec 32 := Scalar.select v43 v44 v29
  let c1_i32_128 : BitVec 32 := 1#32
  let v260 : BitVec 32 := Scalar.subi v45 c1_i32_128
  let c0_i32_129 : BitVec 32 := 0#32
  let v261 : BitVec 32 := Scalar.maxsi v260 c0_i32_129
  let c4_i32_136 : BitVec 32 := 4#32
  let v268 : BitVec 32 := Scalar.muli v261 c4_i32_136
  let c0_i32_137 : BitVec 32 := 0#32
  let v269 : BitVec 32 := Scalar.addi v268 c0_i32_137
  let c256_i32_159 : BitVec 32 := 256#32
  let v297 : BitVec 32 := Scalar.muli v269 c256_i32_159
  v297
def k0_mult27 (i : grid0.Coords) : BitVec 32 :=
  let arg1 : BitVec 32 := BitVec.ofNat 32 (i 1).val
  let c0_i32_12 : BitVec 32 := 0#32
  let v30 : BitVec 1 := Scalar.cmpi .sgt arg1 c0_i32_12
  let v31 : BitVec 32 := Scalar.extui v30
  let c0_i32_13 : BitVec 32 := 0#32
  let v32 : BitVec 1 := Scalar.cmpi .slt arg1 c0_i32_13
  let v33 : BitVec 32 := Scalar.extui v32
  let v34 : BitVec 32 := Scalar.subi v31 v33
  let c4_i32 : BitVec 32 := 4#32
  let c0_i32_14 : BitVec 32 := 0#32
  let v35 : BitVec 1 := Scalar.cmpi .sgt c4_i32 c0_i32_14
  let v36 : BitVec 32 := Scalar.extui v35
  let c0_i32_15 : BitVec 32 := 0#32
  let v37 : BitVec 1 := Scalar.cmpi .slt c4_i32 c0_i32_15
  let v38 : BitVec 32 := Scalar.extui v37
  let v39 : BitVec 32 := Scalar.subi v36 v38
  let v40 : BitVec 1 := Scalar.cmpi .ne v34 v39
  let v41 : BitVec 32 := Scalar.remsi arg1 c4_i32
  let c0_i32_16 : BitVec 32 := 0#32
  let v42 : BitVec 1 := Scalar.cmpi .ne v41 c0_i32_16
  let v43 : BitVec 1 := Scalar.andi v40 v42
  let v29 : BitVec 32 := Scalar.divsi arg1 c4_i32
  let c1_i32 : BitVec 32 := 1#32
  let v44 : BitVec 32 := Scalar.subi v29 c1_i32
  let v45 : BitVec 32 := Scalar.select v43 v44 v29
  let c1_i32_128 : BitVec 32 := 1#32
  let v260 : BitVec 32 := Scalar.subi v45 c1_i32_128
  let c0_i32_166 : BitVec 32 := 0#32
  let v306 : BitVec 32 := Scalar.maxsi v260 c0_i32_166
  let c4_i32_167 : BitVec 32 := 4#32
  let v307 : BitVec 32 := Scalar.muli v306 c4_i32_167
  let c3_i32_168 : BitVec 32 := 3#32
  let v308 : BitVec 32 := Scalar.addi v307 c3_i32_168
  let c256_i32_175 : BitVec 32 := 256#32
  let v315 : BitVec 32 := Scalar.muli v308 c256_i32_175
  v315
def k0_mult28 (i : grid0.Coords) : BitVec 32 :=
  let arg1 : BitVec 32 := BitVec.ofNat 32 (i 1).val
  let c0_i32_12 : BitVec 32 := 0#32
  let v30 : BitVec 1 := Scalar.cmpi .sgt arg1 c0_i32_12
  let v31 : BitVec 32 := Scalar.extui v30
  let c0_i32_13 : BitVec 32 := 0#32
  let v32 : BitVec 1 := Scalar.cmpi .slt arg1 c0_i32_13
  let v33 : BitVec 32 := Scalar.extui v32
  let v34 : BitVec 32 := Scalar.subi v31 v33
  let c4_i32 : BitVec 32 := 4#32
  let c0_i32_14 : BitVec 32 := 0#32
  let v35 : BitVec 1 := Scalar.cmpi .sgt c4_i32 c0_i32_14
  let v36 : BitVec 32 := Scalar.extui v35
  let c0_i32_15 : BitVec 32 := 0#32
  let v37 : BitVec 1 := Scalar.cmpi .slt c4_i32 c0_i32_15
  let v38 : BitVec 32 := Scalar.extui v37
  let v39 : BitVec 32 := Scalar.subi v36 v38
  let v40 : BitVec 1 := Scalar.cmpi .ne v34 v39
  let v41 : BitVec 32 := Scalar.remsi arg1 c4_i32
  let c0_i32_16 : BitVec 32 := 0#32
  let v42 : BitVec 1 := Scalar.cmpi .ne v41 c0_i32_16
  let v43 : BitVec 1 := Scalar.andi v40 v42
  let v29 : BitVec 32 := Scalar.divsi arg1 c4_i32
  let c1_i32 : BitVec 32 := 1#32
  let v44 : BitVec 32 := Scalar.subi v29 c1_i32
  let v45 : BitVec 32 := Scalar.select v43 v44 v29
  let c1_i32_128 : BitVec 32 := 1#32
  let v260 : BitVec 32 := Scalar.subi v45 c1_i32_128
  let c0_i32_166 : BitVec 32 := 0#32
  let v306 : BitVec 32 := Scalar.maxsi v260 c0_i32_166
  let c4_i32_169 : BitVec 32 := 4#32
  let v309 : BitVec 32 := Scalar.muli v306 c4_i32_169
  let c2_i32_170 : BitVec 32 := 2#32
  let v310 : BitVec 32 := Scalar.addi v309 c2_i32_170
  let c256_i32_182 : BitVec 32 := 256#32
  let v324 : BitVec 32 := Scalar.muli v310 c256_i32_182
  v324
def k0_mult29 (i : grid0.Coords) : BitVec 32 :=
  let arg1 : BitVec 32 := BitVec.ofNat 32 (i 1).val
  let c0_i32_12 : BitVec 32 := 0#32
  let v30 : BitVec 1 := Scalar.cmpi .sgt arg1 c0_i32_12
  let v31 : BitVec 32 := Scalar.extui v30
  let c0_i32_13 : BitVec 32 := 0#32
  let v32 : BitVec 1 := Scalar.cmpi .slt arg1 c0_i32_13
  let v33 : BitVec 32 := Scalar.extui v32
  let v34 : BitVec 32 := Scalar.subi v31 v33
  let c4_i32 : BitVec 32 := 4#32
  let c0_i32_14 : BitVec 32 := 0#32
  let v35 : BitVec 1 := Scalar.cmpi .sgt c4_i32 c0_i32_14
  let v36 : BitVec 32 := Scalar.extui v35
  let c0_i32_15 : BitVec 32 := 0#32
  let v37 : BitVec 1 := Scalar.cmpi .slt c4_i32 c0_i32_15
  let v38 : BitVec 32 := Scalar.extui v37
  let v39 : BitVec 32 := Scalar.subi v36 v38
  let v40 : BitVec 1 := Scalar.cmpi .ne v34 v39
  let v41 : BitVec 32 := Scalar.remsi arg1 c4_i32
  let c0_i32_16 : BitVec 32 := 0#32
  let v42 : BitVec 1 := Scalar.cmpi .ne v41 c0_i32_16
  let v43 : BitVec 1 := Scalar.andi v40 v42
  let v29 : BitVec 32 := Scalar.divsi arg1 c4_i32
  let c1_i32 : BitVec 32 := 1#32
  let v44 : BitVec 32 := Scalar.subi v29 c1_i32
  let v45 : BitVec 32 := Scalar.select v43 v44 v29
  let c1_i32_128 : BitVec 32 := 1#32
  let v260 : BitVec 32 := Scalar.subi v45 c1_i32_128
  let c0_i32_166 : BitVec 32 := 0#32
  let v306 : BitVec 32 := Scalar.maxsi v260 c0_i32_166
  let c4_i32_171 : BitVec 32 := 4#32
  let v311 : BitVec 32 := Scalar.muli v306 c4_i32_171
  let c1_i32_172 : BitVec 32 := 1#32
  let v312 : BitVec 32 := Scalar.addi v311 c1_i32_172
  let c256_i32_189 : BitVec 32 := 256#32
  let v333 : BitVec 32 := Scalar.muli v312 c256_i32_189
  v333
def k0_mult30 (i : grid0.Coords) : BitVec 32 :=
  let arg1 : BitVec 32 := BitVec.ofNat 32 (i 1).val
  let c0_i32_12 : BitVec 32 := 0#32
  let v30 : BitVec 1 := Scalar.cmpi .sgt arg1 c0_i32_12
  let v31 : BitVec 32 := Scalar.extui v30
  let c0_i32_13 : BitVec 32 := 0#32
  let v32 : BitVec 1 := Scalar.cmpi .slt arg1 c0_i32_13
  let v33 : BitVec 32 := Scalar.extui v32
  let v34 : BitVec 32 := Scalar.subi v31 v33
  let c4_i32 : BitVec 32 := 4#32
  let c0_i32_14 : BitVec 32 := 0#32
  let v35 : BitVec 1 := Scalar.cmpi .sgt c4_i32 c0_i32_14
  let v36 : BitVec 32 := Scalar.extui v35
  let c0_i32_15 : BitVec 32 := 0#32
  let v37 : BitVec 1 := Scalar.cmpi .slt c4_i32 c0_i32_15
  let v38 : BitVec 32 := Scalar.extui v37
  let v39 : BitVec 32 := Scalar.subi v36 v38
  let v40 : BitVec 1 := Scalar.cmpi .ne v34 v39
  let v41 : BitVec 32 := Scalar.remsi arg1 c4_i32
  let c0_i32_16 : BitVec 32 := 0#32
  let v42 : BitVec 1 := Scalar.cmpi .ne v41 c0_i32_16
  let v43 : BitVec 1 := Scalar.andi v40 v42
  let v29 : BitVec 32 := Scalar.divsi arg1 c4_i32
  let c1_i32 : BitVec 32 := 1#32
  let v44 : BitVec 32 := Scalar.subi v29 c1_i32
  let v45 : BitVec 32 := Scalar.select v43 v44 v29
  let c1_i32_128 : BitVec 32 := 1#32
  let v260 : BitVec 32 := Scalar.subi v45 c1_i32_128
  let c0_i32_166 : BitVec 32 := 0#32
  let v306 : BitVec 32 := Scalar.maxsi v260 c0_i32_166
  let c4_i32_173 : BitVec 32 := 4#32
  let v313 : BitVec 32 := Scalar.muli v306 c4_i32_173
  let c0_i32_174 : BitVec 32 := 0#32
  let v314 : BitVec 32 := Scalar.addi v313 c0_i32_174
  let c256_i32_196 : BitVec 32 := 256#32
  let v342 : BitVec 32 := Scalar.muli v314 c256_i32_196
  v342
def k0_off6 (i : grid0.Coords) : Fin 3 → Nat :=
  let arg1 : BitVec 32 := BitVec.ofNat 32 (i 1).val
  let c4_i32_207 : BitVec 32 := 4#32
  let v374 : BitVec 32 := Scalar.addi arg1 c4_i32_207
  let c3_i32_208 : BitVec 32 := 3#32
  let v375 : BitVec 32 := Scalar.subi v374 c3_i32_208
  let c0_i32_209 : BitVec 32 := 0#32
  let v376 : BitVec 32 := Scalar.subi v375 c0_i32_209
  let v382 : Index := Scalar.indexCast v376
  let c0_215 : Index := 0#32
  let c0_216 : Index := 0#32
  ![v382.toNat, 0, 0]
def k0_off7 (i : grid0.Coords) (c0_i32_220 : BitVec 32) : Fin 3 → Nat :=
  let arg1 : BitVec 32 := BitVec.ofNat 32 (i 1).val
  let v391 : BitVec 32 := Scalar.subi arg1 c0_i32_220
  let v397 : Index := Scalar.indexCast v391
  let c0_224 : Index := 0#32
  let c0_225 : Index := 0#32
  ![v397.toNat, 0, 0]
def k0_mult31 (i : grid0.Coords) : BitVec 32 :=
  let arg1 : BitVec 32 := BitVec.ofNat 32 (i 1).val
  let c0_i32_86 : BitVec 32 := 0#32
  let v165 : BitVec 32 := Scalar.subi arg1 c0_i32_86
  let c256_i32_87 : BitVec 32 := 256#32
  let v166 : BitVec 32 := Scalar.muli v165 c256_i32_87
  v166
def k0_off8 (i : grid0.Coords) (c0_i32_86 : BitVec 32) : Fin 3 → Nat :=
  let c0_88 : Index := 0#32
  let c0_89 : Index := 0#32
  let arg1 : BitVec 32 := BitVec.ofNat 32 (i 1).val
  let v165 : BitVec 32 := Scalar.subi arg1 c0_i32_86
  let c256_i32_87 : BitVec 32 := 256#32
  let v166 : BitVec 32 := Scalar.muli v165 c256_i32_87
  let v167 : BitVec 32 := v166
  let v168 : Index := Scalar.indexCast v167
  ![0, 0, v168.toNat]
def k0_mult32 (i : grid0.Coords) : BitVec 32 :=
  let arg1 : BitVec 32 := BitVec.ofNat 32 (i 1).val
  let c1_i32_91 : BitVec 32 := 1#32
  let v172 : BitVec 32 := Scalar.subi arg1 c1_i32_91
  let c256_i32_92 : BitVec 32 := 256#32
  let v173 : BitVec 32 := Scalar.muli v172 c256_i32_92
  v173
def k0_mult33 (i : grid0.Coords) : BitVec 32 :=
  let arg1 : BitVec 32 := BitVec.ofNat 32 (i 1).val
  let c0_i32_96 : BitVec 32 := 0#32
  let v179 : BitVec 32 := Scalar.subi arg1 c0_i32_96
  let c256_i32_97 : BitVec 32 := 256#32
  let v180 : BitVec 32 := Scalar.muli v179 c256_i32_97
  v180
def k0_mult34 (i : grid0.Coords) : BitVec 32 :=
  let arg1 : BitVec 32 := BitVec.ofNat 32 (i 1).val
  let c1_i32_101 : BitVec 32 := 1#32
  let v186 : BitVec 32 := Scalar.subi arg1 c1_i32_101
  let c256_i32_102 : BitVec 32 := 256#32
  let v187 : BitVec 32 := Scalar.muli v186 c256_i32_102
  v187
def k0_mult35 (i : grid0.Coords) : BitVec 32 :=
  let arg1 : BitVec 32 := BitVec.ofNat 32 (i 1).val
  let c0_i32_12 : BitVec 32 := 0#32
  let v30 : BitVec 1 := Scalar.cmpi .sgt arg1 c0_i32_12
  let v31 : BitVec 32 := Scalar.extui v30
  let c0_i32_13 : BitVec 32 := 0#32
  let v32 : BitVec 1 := Scalar.cmpi .slt arg1 c0_i32_13
  let v33 : BitVec 32 := Scalar.extui v32
  let v34 : BitVec 32 := Scalar.subi v31 v33
  let c4_i32 : BitVec 32 := 4#32
  let c0_i32_14 : BitVec 32 := 0#32
  let v35 : BitVec 1 := Scalar.cmpi .sgt c4_i32 c0_i32_14
  let v36 : BitVec 32 := Scalar.extui v35
  let c0_i32_15 : BitVec 32 := 0#32
  let v37 : BitVec 1 := Scalar.cmpi .slt c4_i32 c0_i32_15
  let v38 : BitVec 32 := Scalar.extui v37
  let v39 : BitVec 32 := Scalar.subi v36 v38
  let v40 : BitVec 1 := Scalar.cmpi .ne v34 v39
  let v41 : BitVec 32 := Scalar.remsi arg1 c4_i32
  let c0_i32_16 : BitVec 32 := 0#32
  let v42 : BitVec 1 := Scalar.cmpi .ne v41 c0_i32_16
  let v43 : BitVec 1 := Scalar.andi v40 v42
  let v29 : BitVec 32 := Scalar.divsi arg1 c4_i32
  let c1_i32 : BitVec 32 := 1#32
  let v44 : BitVec 32 := Scalar.subi v29 c1_i32
  let v45 : BitVec 32 := Scalar.select v43 v44 v29
  let c1_i32_113 : BitVec 32 := 1#32
  let v227 : BitVec 32 := Scalar.subi v45 c1_i32_113
  let c0_i32_114 : BitVec 32 := 0#32
  let v228 : BitVec 32 := Scalar.maxsi v227 c0_i32_114
  let c4_i32_115 : BitVec 32 := 4#32
  let v229 : BitVec 32 := Scalar.muli v228 c4_i32_115
  let c3_i32_116 : BitVec 32 := 3#32
  let v230 : BitVec 32 := Scalar.addi v229 c3_i32_116
  let c256_i32_123 : BitVec 32 := 256#32
  let v237 : BitVec 32 := Scalar.muli v230 c256_i32_123
  v237
def k0_off9 (i : grid0.Coords) (c3_i32_116 : BitVec 32) : Fin 3 → Nat :=
  let c0_124 : Index := 0#32
  let c0_125 : Index := 0#32
  let arg1 : BitVec 32 := BitVec.ofNat 32 (i 1).val
  let c0_i32_12 : BitVec 32 := 0#32
  let v30 : BitVec 1 := Scalar.cmpi .sgt arg1 c0_i32_12
  let v31 : BitVec 32 := Scalar.extui v30
  let c0_i32_13 : BitVec 32 := 0#32
  let v32 : BitVec 1 := Scalar.cmpi .slt arg1 c0_i32_13
  let v33 : BitVec 32 := Scalar.extui v32
  let v34 : BitVec 32 := Scalar.subi v31 v33
  let c4_i32 : BitVec 32 := 4#32
  let c0_i32_14 : BitVec 32 := 0#32
  let v35 : BitVec 1 := Scalar.cmpi .sgt c4_i32 c0_i32_14
  let v36 : BitVec 32 := Scalar.extui v35
  let c0_i32_15 : BitVec 32 := 0#32
  let v37 : BitVec 1 := Scalar.cmpi .slt c4_i32 c0_i32_15
  let v38 : BitVec 32 := Scalar.extui v37
  let v39 : BitVec 32 := Scalar.subi v36 v38
  let v40 : BitVec 1 := Scalar.cmpi .ne v34 v39
  let v41 : BitVec 32 := Scalar.remsi arg1 c4_i32
  let c0_i32_16 : BitVec 32 := 0#32
  let v42 : BitVec 1 := Scalar.cmpi .ne v41 c0_i32_16
  let v43 : BitVec 1 := Scalar.andi v40 v42
  let v29 : BitVec 32 := Scalar.divsi arg1 c4_i32
  let c1_i32 : BitVec 32 := 1#32
  let v44 : BitVec 32 := Scalar.subi v29 c1_i32
  let v45 : BitVec 32 := Scalar.select v43 v44 v29
  let c1_i32_113 : BitVec 32 := 1#32
  let v227 : BitVec 32 := Scalar.subi v45 c1_i32_113
  let c0_i32_114 : BitVec 32 := 0#32
  let v228 : BitVec 32 := Scalar.maxsi v227 c0_i32_114
  let c4_i32_115 : BitVec 32 := 4#32
  let v229 : BitVec 32 := Scalar.muli v228 c4_i32_115
  let v230 : BitVec 32 := Scalar.addi v229 c3_i32_116
  let c256_i32_123 : BitVec 32 := 256#32
  let v237 : BitVec 32 := Scalar.muli v230 c256_i32_123
  let v238 : BitVec 32 := v237
  let v239 : Index := Scalar.indexCast v238
  ![0, 0, v239.toNat]
def k0_mult36 (i : grid0.Coords) : BitVec 32 :=
  let arg1 : BitVec 32 := BitVec.ofNat 32 (i 1).val
  let c0_i32_12 : BitVec 32 := 0#32
  let v30 : BitVec 1 := Scalar.cmpi .sgt arg1 c0_i32_12
  let v31 : BitVec 32 := Scalar.extui v30
  let c0_i32_13 : BitVec 32 := 0#32
  let v32 : BitVec 1 := Scalar.cmpi .slt arg1 c0_i32_13
  let v33 : BitVec 32 := Scalar.extui v32
  let v34 : BitVec 32 := Scalar.subi v31 v33
  let c4_i32 : BitVec 32 := 4#32
  let c0_i32_14 : BitVec 32 := 0#32
  let v35 : BitVec 1 := Scalar.cmpi .sgt c4_i32 c0_i32_14
  let v36 : BitVec 32 := Scalar.extui v35
  let c0_i32_15 : BitVec 32 := 0#32
  let v37 : BitVec 1 := Scalar.cmpi .slt c4_i32 c0_i32_15
  let v38 : BitVec 32 := Scalar.extui v37
  let v39 : BitVec 32 := Scalar.subi v36 v38
  let v40 : BitVec 1 := Scalar.cmpi .ne v34 v39
  let v41 : BitVec 32 := Scalar.remsi arg1 c4_i32
  let c0_i32_16 : BitVec 32 := 0#32
  let v42 : BitVec 1 := Scalar.cmpi .ne v41 c0_i32_16
  let v43 : BitVec 1 := Scalar.andi v40 v42
  let v29 : BitVec 32 := Scalar.divsi arg1 c4_i32
  let c1_i32 : BitVec 32 := 1#32
  let v44 : BitVec 32 := Scalar.subi v29 c1_i32
  let v45 : BitVec 32 := Scalar.select v43 v44 v29
  let c1_i32_113 : BitVec 32 := 1#32
  let v227 : BitVec 32 := Scalar.subi v45 c1_i32_113
  let c0_i32_114 : BitVec 32 := 0#32
  let v228 : BitVec 32 := Scalar.maxsi v227 c0_i32_114
  let c4_i32_117 : BitVec 32 := 4#32
  let v231 : BitVec 32 := Scalar.muli v228 c4_i32_117
  let c2_i32_118 : BitVec 32 := 2#32
  let v232 : BitVec 32 := Scalar.addi v231 c2_i32_118
  let c256_i32_130 : BitVec 32 := 256#32
  let v246 : BitVec 32 := Scalar.muli v232 c256_i32_130
  v246
def k0_mult37 (i : grid0.Coords) : BitVec 32 :=
  let arg1 : BitVec 32 := BitVec.ofNat 32 (i 1).val
  let c0_i32_12 : BitVec 32 := 0#32
  let v30 : BitVec 1 := Scalar.cmpi .sgt arg1 c0_i32_12
  let v31 : BitVec 32 := Scalar.extui v30
  let c0_i32_13 : BitVec 32 := 0#32
  let v32 : BitVec 1 := Scalar.cmpi .slt arg1 c0_i32_13
  let v33 : BitVec 32 := Scalar.extui v32
  let v34 : BitVec 32 := Scalar.subi v31 v33
  let c4_i32 : BitVec 32 := 4#32
  let c0_i32_14 : BitVec 32 := 0#32
  let v35 : BitVec 1 := Scalar.cmpi .sgt c4_i32 c0_i32_14
  let v36 : BitVec 32 := Scalar.extui v35
  let c0_i32_15 : BitVec 32 := 0#32
  let v37 : BitVec 1 := Scalar.cmpi .slt c4_i32 c0_i32_15
  let v38 : BitVec 32 := Scalar.extui v37
  let v39 : BitVec 32 := Scalar.subi v36 v38
  let v40 : BitVec 1 := Scalar.cmpi .ne v34 v39
  let v41 : BitVec 32 := Scalar.remsi arg1 c4_i32
  let c0_i32_16 : BitVec 32 := 0#32
  let v42 : BitVec 1 := Scalar.cmpi .ne v41 c0_i32_16
  let v43 : BitVec 1 := Scalar.andi v40 v42
  let v29 : BitVec 32 := Scalar.divsi arg1 c4_i32
  let c1_i32 : BitVec 32 := 1#32
  let v44 : BitVec 32 := Scalar.subi v29 c1_i32
  let v45 : BitVec 32 := Scalar.select v43 v44 v29
  let c1_i32_113 : BitVec 32 := 1#32
  let v227 : BitVec 32 := Scalar.subi v45 c1_i32_113
  let c0_i32_114 : BitVec 32 := 0#32
  let v228 : BitVec 32 := Scalar.maxsi v227 c0_i32_114
  let c4_i32_119 : BitVec 32 := 4#32
  let v233 : BitVec 32 := Scalar.muli v228 c4_i32_119
  let c1_i32_120 : BitVec 32 := 1#32
  let v234 : BitVec 32 := Scalar.addi v233 c1_i32_120
  let c256_i32_137 : BitVec 32 := 256#32
  let v255 : BitVec 32 := Scalar.muli v234 c256_i32_137
  v255
def k0_mult38 (i : grid0.Coords) : BitVec 32 :=
  let arg1 : BitVec 32 := BitVec.ofNat 32 (i 1).val
  let c0_i32_12 : BitVec 32 := 0#32
  let v30 : BitVec 1 := Scalar.cmpi .sgt arg1 c0_i32_12
  let v31 : BitVec 32 := Scalar.extui v30
  let c0_i32_13 : BitVec 32 := 0#32
  let v32 : BitVec 1 := Scalar.cmpi .slt arg1 c0_i32_13
  let v33 : BitVec 32 := Scalar.extui v32
  let v34 : BitVec 32 := Scalar.subi v31 v33
  let c4_i32 : BitVec 32 := 4#32
  let c0_i32_14 : BitVec 32 := 0#32
  let v35 : BitVec 1 := Scalar.cmpi .sgt c4_i32 c0_i32_14
  let v36 : BitVec 32 := Scalar.extui v35
  let c0_i32_15 : BitVec 32 := 0#32
  let v37 : BitVec 1 := Scalar.cmpi .slt c4_i32 c0_i32_15
  let v38 : BitVec 32 := Scalar.extui v37
  let v39 : BitVec 32 := Scalar.subi v36 v38
  let v40 : BitVec 1 := Scalar.cmpi .ne v34 v39
  let v41 : BitVec 32 := Scalar.remsi arg1 c4_i32
  let c0_i32_16 : BitVec 32 := 0#32
  let v42 : BitVec 1 := Scalar.cmpi .ne v41 c0_i32_16
  let v43 : BitVec 1 := Scalar.andi v40 v42
  let v29 : BitVec 32 := Scalar.divsi arg1 c4_i32
  let c1_i32 : BitVec 32 := 1#32
  let v44 : BitVec 32 := Scalar.subi v29 c1_i32
  let v45 : BitVec 32 := Scalar.select v43 v44 v29
  let c1_i32_113 : BitVec 32 := 1#32
  let v227 : BitVec 32 := Scalar.subi v45 c1_i32_113
  let c0_i32_114 : BitVec 32 := 0#32
  let v228 : BitVec 32 := Scalar.maxsi v227 c0_i32_114
  let c4_i32_121 : BitVec 32 := 4#32
  let v235 : BitVec 32 := Scalar.muli v228 c4_i32_121
  let c0_i32_122 : BitVec 32 := 0#32
  let v236 : BitVec 32 := Scalar.addi v235 c0_i32_122
  let c256_i32_144 : BitVec 32 := 256#32
  let v264 : BitVec 32 := Scalar.muli v236 c256_i32_144
  v264
def k0_mult39 (i : grid0.Coords) : BitVec 32 :=
  let arg1 : BitVec 32 := BitVec.ofNat 32 (i 1).val
  let c0_i32_12 : BitVec 32 := 0#32
  let v30 : BitVec 1 := Scalar.cmpi .sgt arg1 c0_i32_12
  let v31 : BitVec 32 := Scalar.extui v30
  let c0_i32_13 : BitVec 32 := 0#32
  let v32 : BitVec 1 := Scalar.cmpi .slt arg1 c0_i32_13
  let v33 : BitVec 32 := Scalar.extui v32
  let v34 : BitVec 32 := Scalar.subi v31 v33
  let c4_i32 : BitVec 32 := 4#32
  let c0_i32_14 : BitVec 32 := 0#32
  let v35 : BitVec 1 := Scalar.cmpi .sgt c4_i32 c0_i32_14
  let v36 : BitVec 32 := Scalar.extui v35
  let c0_i32_15 : BitVec 32 := 0#32
  let v37 : BitVec 1 := Scalar.cmpi .slt c4_i32 c0_i32_15
  let v38 : BitVec 32 := Scalar.extui v37
  let v39 : BitVec 32 := Scalar.subi v36 v38
  let v40 : BitVec 1 := Scalar.cmpi .ne v34 v39
  let v41 : BitVec 32 := Scalar.remsi arg1 c4_i32
  let c0_i32_16 : BitVec 32 := 0#32
  let v42 : BitVec 1 := Scalar.cmpi .ne v41 c0_i32_16
  let v43 : BitVec 1 := Scalar.andi v40 v42
  let v29 : BitVec 32 := Scalar.divsi arg1 c4_i32
  let c1_i32 : BitVec 32 := 1#32
  let v44 : BitVec 32 := Scalar.subi v29 c1_i32
  let v45 : BitVec 32 := Scalar.select v43 v44 v29
  let c1_i32_113 : BitVec 32 := 1#32
  let v227 : BitVec 32 := Scalar.subi v45 c1_i32_113
  let c0_i32_151 : BitVec 32 := 0#32
  let v273 : BitVec 32 := Scalar.maxsi v227 c0_i32_151
  let c4_i32_152 : BitVec 32 := 4#32
  let v274 : BitVec 32 := Scalar.muli v273 c4_i32_152
  let c3_i32_153 : BitVec 32 := 3#32
  let v275 : BitVec 32 := Scalar.addi v274 c3_i32_153
  let c256_i32_160 : BitVec 32 := 256#32
  let v282 : BitVec 32 := Scalar.muli v275 c256_i32_160
  v282
def k0_mult40 (i : grid0.Coords) : BitVec 32 :=
  let arg1 : BitVec 32 := BitVec.ofNat 32 (i 1).val
  let c0_i32_12 : BitVec 32 := 0#32
  let v30 : BitVec 1 := Scalar.cmpi .sgt arg1 c0_i32_12
  let v31 : BitVec 32 := Scalar.extui v30
  let c0_i32_13 : BitVec 32 := 0#32
  let v32 : BitVec 1 := Scalar.cmpi .slt arg1 c0_i32_13
  let v33 : BitVec 32 := Scalar.extui v32
  let v34 : BitVec 32 := Scalar.subi v31 v33
  let c4_i32 : BitVec 32 := 4#32
  let c0_i32_14 : BitVec 32 := 0#32
  let v35 : BitVec 1 := Scalar.cmpi .sgt c4_i32 c0_i32_14
  let v36 : BitVec 32 := Scalar.extui v35
  let c0_i32_15 : BitVec 32 := 0#32
  let v37 : BitVec 1 := Scalar.cmpi .slt c4_i32 c0_i32_15
  let v38 : BitVec 32 := Scalar.extui v37
  let v39 : BitVec 32 := Scalar.subi v36 v38
  let v40 : BitVec 1 := Scalar.cmpi .ne v34 v39
  let v41 : BitVec 32 := Scalar.remsi arg1 c4_i32
  let c0_i32_16 : BitVec 32 := 0#32
  let v42 : BitVec 1 := Scalar.cmpi .ne v41 c0_i32_16
  let v43 : BitVec 1 := Scalar.andi v40 v42
  let v29 : BitVec 32 := Scalar.divsi arg1 c4_i32
  let c1_i32 : BitVec 32 := 1#32
  let v44 : BitVec 32 := Scalar.subi v29 c1_i32
  let v45 : BitVec 32 := Scalar.select v43 v44 v29
  let c1_i32_113 : BitVec 32 := 1#32
  let v227 : BitVec 32 := Scalar.subi v45 c1_i32_113
  let c0_i32_151 : BitVec 32 := 0#32
  let v273 : BitVec 32 := Scalar.maxsi v227 c0_i32_151
  let c4_i32_154 : BitVec 32 := 4#32
  let v276 : BitVec 32 := Scalar.muli v273 c4_i32_154
  let c2_i32_155 : BitVec 32 := 2#32
  let v277 : BitVec 32 := Scalar.addi v276 c2_i32_155
  let c256_i32_167 : BitVec 32 := 256#32
  let v291 : BitVec 32 := Scalar.muli v277 c256_i32_167
  v291
def k0_mult41 (i : grid0.Coords) : BitVec 32 :=
  let arg1 : BitVec 32 := BitVec.ofNat 32 (i 1).val
  let c0_i32_12 : BitVec 32 := 0#32
  let v30 : BitVec 1 := Scalar.cmpi .sgt arg1 c0_i32_12
  let v31 : BitVec 32 := Scalar.extui v30
  let c0_i32_13 : BitVec 32 := 0#32
  let v32 : BitVec 1 := Scalar.cmpi .slt arg1 c0_i32_13
  let v33 : BitVec 32 := Scalar.extui v32
  let v34 : BitVec 32 := Scalar.subi v31 v33
  let c4_i32 : BitVec 32 := 4#32
  let c0_i32_14 : BitVec 32 := 0#32
  let v35 : BitVec 1 := Scalar.cmpi .sgt c4_i32 c0_i32_14
  let v36 : BitVec 32 := Scalar.extui v35
  let c0_i32_15 : BitVec 32 := 0#32
  let v37 : BitVec 1 := Scalar.cmpi .slt c4_i32 c0_i32_15
  let v38 : BitVec 32 := Scalar.extui v37
  let v39 : BitVec 32 := Scalar.subi v36 v38
  let v40 : BitVec 1 := Scalar.cmpi .ne v34 v39
  let v41 : BitVec 32 := Scalar.remsi arg1 c4_i32
  let c0_i32_16 : BitVec 32 := 0#32
  let v42 : BitVec 1 := Scalar.cmpi .ne v41 c0_i32_16
  let v43 : BitVec 1 := Scalar.andi v40 v42
  let v29 : BitVec 32 := Scalar.divsi arg1 c4_i32
  let c1_i32 : BitVec 32 := 1#32
  let v44 : BitVec 32 := Scalar.subi v29 c1_i32
  let v45 : BitVec 32 := Scalar.select v43 v44 v29
  let c1_i32_113 : BitVec 32 := 1#32
  let v227 : BitVec 32 := Scalar.subi v45 c1_i32_113
  let c0_i32_151 : BitVec 32 := 0#32
  let v273 : BitVec 32 := Scalar.maxsi v227 c0_i32_151
  let c4_i32_156 : BitVec 32 := 4#32
  let v278 : BitVec 32 := Scalar.muli v273 c4_i32_156
  let c1_i32_157 : BitVec 32 := 1#32
  let v279 : BitVec 32 := Scalar.addi v278 c1_i32_157
  let c256_i32_174 : BitVec 32 := 256#32
  let v300 : BitVec 32 := Scalar.muli v279 c256_i32_174
  v300
def k0_mult42 (i : grid0.Coords) : BitVec 32 :=
  let arg1 : BitVec 32 := BitVec.ofNat 32 (i 1).val
  let c0_i32_12 : BitVec 32 := 0#32
  let v30 : BitVec 1 := Scalar.cmpi .sgt arg1 c0_i32_12
  let v31 : BitVec 32 := Scalar.extui v30
  let c0_i32_13 : BitVec 32 := 0#32
  let v32 : BitVec 1 := Scalar.cmpi .slt arg1 c0_i32_13
  let v33 : BitVec 32 := Scalar.extui v32
  let v34 : BitVec 32 := Scalar.subi v31 v33
  let c4_i32 : BitVec 32 := 4#32
  let c0_i32_14 : BitVec 32 := 0#32
  let v35 : BitVec 1 := Scalar.cmpi .sgt c4_i32 c0_i32_14
  let v36 : BitVec 32 := Scalar.extui v35
  let c0_i32_15 : BitVec 32 := 0#32
  let v37 : BitVec 1 := Scalar.cmpi .slt c4_i32 c0_i32_15
  let v38 : BitVec 32 := Scalar.extui v37
  let v39 : BitVec 32 := Scalar.subi v36 v38
  let v40 : BitVec 1 := Scalar.cmpi .ne v34 v39
  let v41 : BitVec 32 := Scalar.remsi arg1 c4_i32
  let c0_i32_16 : BitVec 32 := 0#32
  let v42 : BitVec 1 := Scalar.cmpi .ne v41 c0_i32_16
  let v43 : BitVec 1 := Scalar.andi v40 v42
  let v29 : BitVec 32 := Scalar.divsi arg1 c4_i32
  let c1_i32 : BitVec 32 := 1#32
  let v44 : BitVec 32 := Scalar.subi v29 c1_i32
  let v45 : BitVec 32 := Scalar.select v43 v44 v29
  let c1_i32_113 : BitVec 32 := 1#32
  let v227 : BitVec 32 := Scalar.subi v45 c1_i32_113
  let c0_i32_151 : BitVec 32 := 0#32
  let v273 : BitVec 32 := Scalar.maxsi v227 c0_i32_151
  let c4_i32_158 : BitVec 32 := 4#32
  let v280 : BitVec 32 := Scalar.muli v273 c4_i32_158
  let c0_i32_159 : BitVec 32 := 0#32
  let v281 : BitVec 32 := Scalar.addi v280 c0_i32_159
  let c256_i32_181 : BitVec 32 := 256#32
  let v309 : BitVec 32 := Scalar.muli v281 c256_i32_181
  v309
def k0_off10 (i : grid0.Coords) (c0_i32_193 : BitVec 32) : Fin 3 → Nat :=
  let arg1 : BitVec 32 := BitVec.ofNat 32 (i 1).val
  let c4_i32_191 : BitVec 32 := 4#32
  let v334 : BitVec 32 := Scalar.addi arg1 c4_i32_191
  let c2_i32_192 : BitVec 32 := 2#32
  let v335 : BitVec 32 := Scalar.subi v334 c2_i32_192
  let v336 : BitVec 32 := Scalar.subi v335 c0_i32_193
  let v342 : Index := Scalar.indexCast v336
  let c0_199 : Index := 0#32
  let c0_200 : Index := 0#32
  ![v342.toNat, 0, 0]
def k0_off11 (i : grid0.Coords) (c0_i32_217 : BitVec 32) : Fin 3 → Nat :=
  let arg1 : BitVec 32 := BitVec.ofNat 32 (i 1).val
  let v368 : BitVec 32 := Scalar.subi arg1 c0_i32_217
  let v374 : Index := Scalar.indexCast v368
  let c0_221 : Index := 0#32
  let c0_222 : Index := 0#32
  ![v374.toNat, 0, 0]
def k0_mult43 (i : grid0.Coords) : BitVec 32 :=
  let arg1 : BitVec 32 := BitVec.ofNat 32 (i 1).val
  let c0_i32_84 : BitVec 32 := 0#32
  let v162 : BitVec 32 := Scalar.subi arg1 c0_i32_84
  let c256_i32_85 : BitVec 32 := 256#32
  let v163 : BitVec 32 := Scalar.muli v162 c256_i32_85
  v163
def k0_off12 (i : grid0.Coords) : Fin 3 → Nat :=
  let c0_86 : Index := 0#32
  let c0_87 : Index := 0#32
  let arg1 : BitVec 32 := BitVec.ofNat 32 (i 1).val
  let c0_i32_84 : BitVec 32 := 0#32
  let v162 : BitVec 32 := Scalar.subi arg1 c0_i32_84
  let c256_i32_85 : BitVec 32 := 256#32
  let v163 : BitVec 32 := Scalar.muli v162 c256_i32_85
  let v164 : BitVec 32 := v163
  let v165 : Index := Scalar.indexCast v164
  ![0, 0, v165.toNat]
def k0_mult44 (i : grid0.Coords) : BitVec 32 :=
  let arg1 : BitVec 32 := BitVec.ofNat 32 (i 1).val
  let c0_i32_89 : BitVec 32 := 0#32
  let v169 : BitVec 32 := Scalar.subi arg1 c0_i32_89
  let c256_i32_90 : BitVec 32 := 256#32
  let v170 : BitVec 32 := Scalar.muli v169 c256_i32_90
  v170
def k0_mult45 (i : grid0.Coords) : BitVec 32 :=
  let arg1 : BitVec 32 := BitVec.ofNat 32 (i 1).val
  let c0_i32_12 : BitVec 32 := 0#32
  let v30 : BitVec 1 := Scalar.cmpi .sgt arg1 c0_i32_12
  let v31 : BitVec 32 := Scalar.extui v30
  let c0_i32_13 : BitVec 32 := 0#32
  let v32 : BitVec 1 := Scalar.cmpi .slt arg1 c0_i32_13
  let v33 : BitVec 32 := Scalar.extui v32
  let v34 : BitVec 32 := Scalar.subi v31 v33
  let c4_i32 : BitVec 32 := 4#32
  let c0_i32_14 : BitVec 32 := 0#32
  let v35 : BitVec 1 := Scalar.cmpi .sgt c4_i32 c0_i32_14
  let v36 : BitVec 32 := Scalar.extui v35
  let c0_i32_15 : BitVec 32 := 0#32
  let v37 : BitVec 1 := Scalar.cmpi .slt c4_i32 c0_i32_15
  let v38 : BitVec 32 := Scalar.extui v37
  let v39 : BitVec 32 := Scalar.subi v36 v38
  let v40 : BitVec 1 := Scalar.cmpi .ne v34 v39
  let v41 : BitVec 32 := Scalar.remsi arg1 c4_i32
  let c0_i32_16 : BitVec 32 := 0#32
  let v42 : BitVec 1 := Scalar.cmpi .ne v41 c0_i32_16
  let v43 : BitVec 1 := Scalar.andi v40 v42
  let v29 : BitVec 32 := Scalar.divsi arg1 c4_i32
  let c1_i32 : BitVec 32 := 1#32
  let v44 : BitVec 32 := Scalar.subi v29 c1_i32
  let v45 : BitVec 32 := Scalar.select v43 v44 v29
  let c1_i32_98 : BitVec 32 := 1#32
  let v194 : BitVec 32 := Scalar.subi v45 c1_i32_98
  let c0_i32_99 : BitVec 32 := 0#32
  let v195 : BitVec 32 := Scalar.maxsi v194 c0_i32_99
  let c4_i32_100 : BitVec 32 := 4#32
  let v196 : BitVec 32 := Scalar.muli v195 c4_i32_100
  let c3_i32_101 : BitVec 32 := 3#32
  let v197 : BitVec 32 := Scalar.addi v196 c3_i32_101
  let c256_i32_108 : BitVec 32 := 256#32
  let v204 : BitVec 32 := Scalar.muli v197 c256_i32_108
  v204
def k0_off13 (i : grid0.Coords) (c3_i32_101 : BitVec 32) : Fin 3 → Nat :=
  let c0_109 : Index := 0#32
  let c0_110 : Index := 0#32
  let arg1 : BitVec 32 := BitVec.ofNat 32 (i 1).val
  let c0_i32_12 : BitVec 32 := 0#32
  let v30 : BitVec 1 := Scalar.cmpi .sgt arg1 c0_i32_12
  let v31 : BitVec 32 := Scalar.extui v30
  let c0_i32_13 : BitVec 32 := 0#32
  let v32 : BitVec 1 := Scalar.cmpi .slt arg1 c0_i32_13
  let v33 : BitVec 32 := Scalar.extui v32
  let v34 : BitVec 32 := Scalar.subi v31 v33
  let c4_i32 : BitVec 32 := 4#32
  let c0_i32_14 : BitVec 32 := 0#32
  let v35 : BitVec 1 := Scalar.cmpi .sgt c4_i32 c0_i32_14
  let v36 : BitVec 32 := Scalar.extui v35
  let c0_i32_15 : BitVec 32 := 0#32
  let v37 : BitVec 1 := Scalar.cmpi .slt c4_i32 c0_i32_15
  let v38 : BitVec 32 := Scalar.extui v37
  let v39 : BitVec 32 := Scalar.subi v36 v38
  let v40 : BitVec 1 := Scalar.cmpi .ne v34 v39
  let v41 : BitVec 32 := Scalar.remsi arg1 c4_i32
  let c0_i32_16 : BitVec 32 := 0#32
  let v42 : BitVec 1 := Scalar.cmpi .ne v41 c0_i32_16
  let v43 : BitVec 1 := Scalar.andi v40 v42
  let v29 : BitVec 32 := Scalar.divsi arg1 c4_i32
  let c1_i32 : BitVec 32 := 1#32
  let v44 : BitVec 32 := Scalar.subi v29 c1_i32
  let v45 : BitVec 32 := Scalar.select v43 v44 v29
  let c1_i32_98 : BitVec 32 := 1#32
  let v194 : BitVec 32 := Scalar.subi v45 c1_i32_98
  let c0_i32_99 : BitVec 32 := 0#32
  let v195 : BitVec 32 := Scalar.maxsi v194 c0_i32_99
  let c4_i32_100 : BitVec 32 := 4#32
  let v196 : BitVec 32 := Scalar.muli v195 c4_i32_100
  let v197 : BitVec 32 := Scalar.addi v196 c3_i32_101
  let c256_i32_108 : BitVec 32 := 256#32
  let v204 : BitVec 32 := Scalar.muli v197 c256_i32_108
  let v205 : BitVec 32 := v204
  let v206 : Index := Scalar.indexCast v205
  ![0, 0, v206.toNat]
def k0_mult46 (i : grid0.Coords) : BitVec 32 :=
  let arg1 : BitVec 32 := BitVec.ofNat 32 (i 1).val
  let c0_i32_12 : BitVec 32 := 0#32
  let v30 : BitVec 1 := Scalar.cmpi .sgt arg1 c0_i32_12
  let v31 : BitVec 32 := Scalar.extui v30
  let c0_i32_13 : BitVec 32 := 0#32
  let v32 : BitVec 1 := Scalar.cmpi .slt arg1 c0_i32_13
  let v33 : BitVec 32 := Scalar.extui v32
  let v34 : BitVec 32 := Scalar.subi v31 v33
  let c4_i32 : BitVec 32 := 4#32
  let c0_i32_14 : BitVec 32 := 0#32
  let v35 : BitVec 1 := Scalar.cmpi .sgt c4_i32 c0_i32_14
  let v36 : BitVec 32 := Scalar.extui v35
  let c0_i32_15 : BitVec 32 := 0#32
  let v37 : BitVec 1 := Scalar.cmpi .slt c4_i32 c0_i32_15
  let v38 : BitVec 32 := Scalar.extui v37
  let v39 : BitVec 32 := Scalar.subi v36 v38
  let v40 : BitVec 1 := Scalar.cmpi .ne v34 v39
  let v41 : BitVec 32 := Scalar.remsi arg1 c4_i32
  let c0_i32_16 : BitVec 32 := 0#32
  let v42 : BitVec 1 := Scalar.cmpi .ne v41 c0_i32_16
  let v43 : BitVec 1 := Scalar.andi v40 v42
  let v29 : BitVec 32 := Scalar.divsi arg1 c4_i32
  let c1_i32 : BitVec 32 := 1#32
  let v44 : BitVec 32 := Scalar.subi v29 c1_i32
  let v45 : BitVec 32 := Scalar.select v43 v44 v29
  let c1_i32_98 : BitVec 32 := 1#32
  let v194 : BitVec 32 := Scalar.subi v45 c1_i32_98
  let c0_i32_99 : BitVec 32 := 0#32
  let v195 : BitVec 32 := Scalar.maxsi v194 c0_i32_99
  let c4_i32_102 : BitVec 32 := 4#32
  let v198 : BitVec 32 := Scalar.muli v195 c4_i32_102
  let c2_i32_103 : BitVec 32 := 2#32
  let v199 : BitVec 32 := Scalar.addi v198 c2_i32_103
  let c256_i32_115 : BitVec 32 := 256#32
  let v213 : BitVec 32 := Scalar.muli v199 c256_i32_115
  v213
def k0_mult47 (i : grid0.Coords) : BitVec 32 :=
  let arg1 : BitVec 32 := BitVec.ofNat 32 (i 1).val
  let c0_i32_12 : BitVec 32 := 0#32
  let v30 : BitVec 1 := Scalar.cmpi .sgt arg1 c0_i32_12
  let v31 : BitVec 32 := Scalar.extui v30
  let c0_i32_13 : BitVec 32 := 0#32
  let v32 : BitVec 1 := Scalar.cmpi .slt arg1 c0_i32_13
  let v33 : BitVec 32 := Scalar.extui v32
  let v34 : BitVec 32 := Scalar.subi v31 v33
  let c4_i32 : BitVec 32 := 4#32
  let c0_i32_14 : BitVec 32 := 0#32
  let v35 : BitVec 1 := Scalar.cmpi .sgt c4_i32 c0_i32_14
  let v36 : BitVec 32 := Scalar.extui v35
  let c0_i32_15 : BitVec 32 := 0#32
  let v37 : BitVec 1 := Scalar.cmpi .slt c4_i32 c0_i32_15
  let v38 : BitVec 32 := Scalar.extui v37
  let v39 : BitVec 32 := Scalar.subi v36 v38
  let v40 : BitVec 1 := Scalar.cmpi .ne v34 v39
  let v41 : BitVec 32 := Scalar.remsi arg1 c4_i32
  let c0_i32_16 : BitVec 32 := 0#32
  let v42 : BitVec 1 := Scalar.cmpi .ne v41 c0_i32_16
  let v43 : BitVec 1 := Scalar.andi v40 v42
  let v29 : BitVec 32 := Scalar.divsi arg1 c4_i32
  let c1_i32 : BitVec 32 := 1#32
  let v44 : BitVec 32 := Scalar.subi v29 c1_i32
  let v45 : BitVec 32 := Scalar.select v43 v44 v29
  let c1_i32_98 : BitVec 32 := 1#32
  let v194 : BitVec 32 := Scalar.subi v45 c1_i32_98
  let c0_i32_99 : BitVec 32 := 0#32
  let v195 : BitVec 32 := Scalar.maxsi v194 c0_i32_99
  let c4_i32_104 : BitVec 32 := 4#32
  let v200 : BitVec 32 := Scalar.muli v195 c4_i32_104
  let c1_i32_105 : BitVec 32 := 1#32
  let v201 : BitVec 32 := Scalar.addi v200 c1_i32_105
  let c256_i32_122 : BitVec 32 := 256#32
  let v222 : BitVec 32 := Scalar.muli v201 c256_i32_122
  v222
def k0_mult48 (i : grid0.Coords) : BitVec 32 :=
  let arg1 : BitVec 32 := BitVec.ofNat 32 (i 1).val
  let c0_i32_12 : BitVec 32 := 0#32
  let v30 : BitVec 1 := Scalar.cmpi .sgt arg1 c0_i32_12
  let v31 : BitVec 32 := Scalar.extui v30
  let c0_i32_13 : BitVec 32 := 0#32
  let v32 : BitVec 1 := Scalar.cmpi .slt arg1 c0_i32_13
  let v33 : BitVec 32 := Scalar.extui v32
  let v34 : BitVec 32 := Scalar.subi v31 v33
  let c4_i32 : BitVec 32 := 4#32
  let c0_i32_14 : BitVec 32 := 0#32
  let v35 : BitVec 1 := Scalar.cmpi .sgt c4_i32 c0_i32_14
  let v36 : BitVec 32 := Scalar.extui v35
  let c0_i32_15 : BitVec 32 := 0#32
  let v37 : BitVec 1 := Scalar.cmpi .slt c4_i32 c0_i32_15
  let v38 : BitVec 32 := Scalar.extui v37
  let v39 : BitVec 32 := Scalar.subi v36 v38
  let v40 : BitVec 1 := Scalar.cmpi .ne v34 v39
  let v41 : BitVec 32 := Scalar.remsi arg1 c4_i32
  let c0_i32_16 : BitVec 32 := 0#32
  let v42 : BitVec 1 := Scalar.cmpi .ne v41 c0_i32_16
  let v43 : BitVec 1 := Scalar.andi v40 v42
  let v29 : BitVec 32 := Scalar.divsi arg1 c4_i32
  let c1_i32 : BitVec 32 := 1#32
  let v44 : BitVec 32 := Scalar.subi v29 c1_i32
  let v45 : BitVec 32 := Scalar.select v43 v44 v29
  let c1_i32_98 : BitVec 32 := 1#32
  let v194 : BitVec 32 := Scalar.subi v45 c1_i32_98
  let c0_i32_99 : BitVec 32 := 0#32
  let v195 : BitVec 32 := Scalar.maxsi v194 c0_i32_99
  let c4_i32_106 : BitVec 32 := 4#32
  let v202 : BitVec 32 := Scalar.muli v195 c4_i32_106
  let c0_i32_107 : BitVec 32 := 0#32
  let v203 : BitVec 32 := Scalar.addi v202 c0_i32_107
  let c256_i32_129 : BitVec 32 := 256#32
  let v231 : BitVec 32 := Scalar.muli v203 c256_i32_129
  v231
def k0_mult49 (i : grid0.Coords) : BitVec 32 :=
  let arg1 : BitVec 32 := BitVec.ofNat 32 (i 1).val
  let c0_i32_12 : BitVec 32 := 0#32
  let v30 : BitVec 1 := Scalar.cmpi .sgt arg1 c0_i32_12
  let v31 : BitVec 32 := Scalar.extui v30
  let c0_i32_13 : BitVec 32 := 0#32
  let v32 : BitVec 1 := Scalar.cmpi .slt arg1 c0_i32_13
  let v33 : BitVec 32 := Scalar.extui v32
  let v34 : BitVec 32 := Scalar.subi v31 v33
  let c4_i32 : BitVec 32 := 4#32
  let c0_i32_14 : BitVec 32 := 0#32
  let v35 : BitVec 1 := Scalar.cmpi .sgt c4_i32 c0_i32_14
  let v36 : BitVec 32 := Scalar.extui v35
  let c0_i32_15 : BitVec 32 := 0#32
  let v37 : BitVec 1 := Scalar.cmpi .slt c4_i32 c0_i32_15
  let v38 : BitVec 32 := Scalar.extui v37
  let v39 : BitVec 32 := Scalar.subi v36 v38
  let v40 : BitVec 1 := Scalar.cmpi .ne v34 v39
  let v41 : BitVec 32 := Scalar.remsi arg1 c4_i32
  let c0_i32_16 : BitVec 32 := 0#32
  let v42 : BitVec 1 := Scalar.cmpi .ne v41 c0_i32_16
  let v43 : BitVec 1 := Scalar.andi v40 v42
  let v29 : BitVec 32 := Scalar.divsi arg1 c4_i32
  let c1_i32 : BitVec 32 := 1#32
  let v44 : BitVec 32 := Scalar.subi v29 c1_i32
  let v45 : BitVec 32 := Scalar.select v43 v44 v29
  let c1_i32_98 : BitVec 32 := 1#32
  let v194 : BitVec 32 := Scalar.subi v45 c1_i32_98
  let c0_i32_136 : BitVec 32 := 0#32
  let v240 : BitVec 32 := Scalar.maxsi v194 c0_i32_136
  let c4_i32_137 : BitVec 32 := 4#32
  let v241 : BitVec 32 := Scalar.muli v240 c4_i32_137
  let c3_i32_138 : BitVec 32 := 3#32
  let v242 : BitVec 32 := Scalar.addi v241 c3_i32_138
  let c256_i32_145 : BitVec 32 := 256#32
  let v249 : BitVec 32 := Scalar.muli v242 c256_i32_145
  v249
def k0_mult50 (i : grid0.Coords) : BitVec 32 :=
  let arg1 : BitVec 32 := BitVec.ofNat 32 (i 1).val
  let c0_i32_12 : BitVec 32 := 0#32
  let v30 : BitVec 1 := Scalar.cmpi .sgt arg1 c0_i32_12
  let v31 : BitVec 32 := Scalar.extui v30
  let c0_i32_13 : BitVec 32 := 0#32
  let v32 : BitVec 1 := Scalar.cmpi .slt arg1 c0_i32_13
  let v33 : BitVec 32 := Scalar.extui v32
  let v34 : BitVec 32 := Scalar.subi v31 v33
  let c4_i32 : BitVec 32 := 4#32
  let c0_i32_14 : BitVec 32 := 0#32
  let v35 : BitVec 1 := Scalar.cmpi .sgt c4_i32 c0_i32_14
  let v36 : BitVec 32 := Scalar.extui v35
  let c0_i32_15 : BitVec 32 := 0#32
  let v37 : BitVec 1 := Scalar.cmpi .slt c4_i32 c0_i32_15
  let v38 : BitVec 32 := Scalar.extui v37
  let v39 : BitVec 32 := Scalar.subi v36 v38
  let v40 : BitVec 1 := Scalar.cmpi .ne v34 v39
  let v41 : BitVec 32 := Scalar.remsi arg1 c4_i32
  let c0_i32_16 : BitVec 32 := 0#32
  let v42 : BitVec 1 := Scalar.cmpi .ne v41 c0_i32_16
  let v43 : BitVec 1 := Scalar.andi v40 v42
  let v29 : BitVec 32 := Scalar.divsi arg1 c4_i32
  let c1_i32 : BitVec 32 := 1#32
  let v44 : BitVec 32 := Scalar.subi v29 c1_i32
  let v45 : BitVec 32 := Scalar.select v43 v44 v29
  let c1_i32_98 : BitVec 32 := 1#32
  let v194 : BitVec 32 := Scalar.subi v45 c1_i32_98
  let c0_i32_136 : BitVec 32 := 0#32
  let v240 : BitVec 32 := Scalar.maxsi v194 c0_i32_136
  let c4_i32_139 : BitVec 32 := 4#32
  let v243 : BitVec 32 := Scalar.muli v240 c4_i32_139
  let c2_i32_140 : BitVec 32 := 2#32
  let v244 : BitVec 32 := Scalar.addi v243 c2_i32_140
  let c256_i32_152 : BitVec 32 := 256#32
  let v258 : BitVec 32 := Scalar.muli v244 c256_i32_152
  v258
def k0_mult51 (i : grid0.Coords) : BitVec 32 :=
  let arg1 : BitVec 32 := BitVec.ofNat 32 (i 1).val
  let c0_i32_12 : BitVec 32 := 0#32
  let v30 : BitVec 1 := Scalar.cmpi .sgt arg1 c0_i32_12
  let v31 : BitVec 32 := Scalar.extui v30
  let c0_i32_13 : BitVec 32 := 0#32
  let v32 : BitVec 1 := Scalar.cmpi .slt arg1 c0_i32_13
  let v33 : BitVec 32 := Scalar.extui v32
  let v34 : BitVec 32 := Scalar.subi v31 v33
  let c4_i32 : BitVec 32 := 4#32
  let c0_i32_14 : BitVec 32 := 0#32
  let v35 : BitVec 1 := Scalar.cmpi .sgt c4_i32 c0_i32_14
  let v36 : BitVec 32 := Scalar.extui v35
  let c0_i32_15 : BitVec 32 := 0#32
  let v37 : BitVec 1 := Scalar.cmpi .slt c4_i32 c0_i32_15
  let v38 : BitVec 32 := Scalar.extui v37
  let v39 : BitVec 32 := Scalar.subi v36 v38
  let v40 : BitVec 1 := Scalar.cmpi .ne v34 v39
  let v41 : BitVec 32 := Scalar.remsi arg1 c4_i32
  let c0_i32_16 : BitVec 32 := 0#32
  let v42 : BitVec 1 := Scalar.cmpi .ne v41 c0_i32_16
  let v43 : BitVec 1 := Scalar.andi v40 v42
  let v29 : BitVec 32 := Scalar.divsi arg1 c4_i32
  let c1_i32 : BitVec 32 := 1#32
  let v44 : BitVec 32 := Scalar.subi v29 c1_i32
  let v45 : BitVec 32 := Scalar.select v43 v44 v29
  let c1_i32_98 : BitVec 32 := 1#32
  let v194 : BitVec 32 := Scalar.subi v45 c1_i32_98
  let c0_i32_136 : BitVec 32 := 0#32
  let v240 : BitVec 32 := Scalar.maxsi v194 c0_i32_136
  let c4_i32_141 : BitVec 32 := 4#32
  let v245 : BitVec 32 := Scalar.muli v240 c4_i32_141
  let c1_i32_142 : BitVec 32 := 1#32
  let v246 : BitVec 32 := Scalar.addi v245 c1_i32_142
  let c256_i32_159 : BitVec 32 := 256#32
  let v267 : BitVec 32 := Scalar.muli v246 c256_i32_159
  v267
def k0_mult52 (i : grid0.Coords) : BitVec 32 :=
  let arg1 : BitVec 32 := BitVec.ofNat 32 (i 1).val
  let c0_i32_12 : BitVec 32 := 0#32
  let v30 : BitVec 1 := Scalar.cmpi .sgt arg1 c0_i32_12
  let v31 : BitVec 32 := Scalar.extui v30
  let c0_i32_13 : BitVec 32 := 0#32
  let v32 : BitVec 1 := Scalar.cmpi .slt arg1 c0_i32_13
  let v33 : BitVec 32 := Scalar.extui v32
  let v34 : BitVec 32 := Scalar.subi v31 v33
  let c4_i32 : BitVec 32 := 4#32
  let c0_i32_14 : BitVec 32 := 0#32
  let v35 : BitVec 1 := Scalar.cmpi .sgt c4_i32 c0_i32_14
  let v36 : BitVec 32 := Scalar.extui v35
  let c0_i32_15 : BitVec 32 := 0#32
  let v37 : BitVec 1 := Scalar.cmpi .slt c4_i32 c0_i32_15
  let v38 : BitVec 32 := Scalar.extui v37
  let v39 : BitVec 32 := Scalar.subi v36 v38
  let v40 : BitVec 1 := Scalar.cmpi .ne v34 v39
  let v41 : BitVec 32 := Scalar.remsi arg1 c4_i32
  let c0_i32_16 : BitVec 32 := 0#32
  let v42 : BitVec 1 := Scalar.cmpi .ne v41 c0_i32_16
  let v43 : BitVec 1 := Scalar.andi v40 v42
  let v29 : BitVec 32 := Scalar.divsi arg1 c4_i32
  let c1_i32 : BitVec 32 := 1#32
  let v44 : BitVec 32 := Scalar.subi v29 c1_i32
  let v45 : BitVec 32 := Scalar.select v43 v44 v29
  let c1_i32_98 : BitVec 32 := 1#32
  let v194 : BitVec 32 := Scalar.subi v45 c1_i32_98
  let c0_i32_136 : BitVec 32 := 0#32
  let v240 : BitVec 32 := Scalar.maxsi v194 c0_i32_136
  let c4_i32_143 : BitVec 32 := 4#32
  let v247 : BitVec 32 := Scalar.muli v240 c4_i32_143
  let c0_i32_144 : BitVec 32 := 0#32
  let v248 : BitVec 32 := Scalar.addi v247 c0_i32_144
  let c256_i32_166 : BitVec 32 := 256#32
  let v276 : BitVec 32 := Scalar.muli v248 c256_i32_166
  v276
def k0_off14 (i : grid0.Coords) (c0_i32_177 : BitVec 32) : Fin 3 → Nat :=
  let arg1 : BitVec 32 := BitVec.ofNat 32 (i 1).val
  let c4_i32_175 : BitVec 32 := 4#32
  let v294 : BitVec 32 := Scalar.addi arg1 c4_i32_175
  let c1_i32_176 : BitVec 32 := 1#32
  let v295 : BitVec 32 := Scalar.subi v294 c1_i32_176
  let v296 : BitVec 32 := Scalar.subi v295 c0_i32_177
  let v302 : Index := Scalar.indexCast v296
  let c0_183 : Index := 0#32
  let c0_184 : Index := 0#32
  ![v302.toNat, 0, 0]
def k0_off15 (i : grid0.Coords) : Fin 3 → Nat :=
  let arg1 : BitVec 32 := BitVec.ofNat 32 (i 1).val
  let c0_i32_214 : BitVec 32 := 0#32
  let v345 : BitVec 32 := Scalar.subi arg1 c0_i32_214
  let v351 : Index := Scalar.indexCast v345
  let c0_218 : Index := 0#32
  let c0_219 : Index := 0#32
  ![v351.toNat, 0, 0]
@[reducible] def k0_t1_loop (i : grid0.Coords) : Scf.Loop 32 :=
  let c0_i32_25 : BitVec 32 := 0#32
  let arg1 : BitVec 32 := BitVec.ofNat 32 (i 1).val
  let c0_i32_12 : BitVec 32 := 0#32
  let v30 : BitVec 1 := Scalar.cmpi .sgt arg1 c0_i32_12
  let v31 : BitVec 32 := Scalar.extui v30
  let c0_i32_13 : BitVec 32 := 0#32
  let v32 : BitVec 1 := Scalar.cmpi .slt arg1 c0_i32_13
  let v33 : BitVec 32 := Scalar.extui v32
  let v34 : BitVec 32 := Scalar.subi v31 v33
  let c4_i32 : BitVec 32 := 4#32
  let c0_i32_14 : BitVec 32 := 0#32
  let v35 : BitVec 1 := Scalar.cmpi .sgt c4_i32 c0_i32_14
  let v36 : BitVec 32 := Scalar.extui v35
  let c0_i32_15 : BitVec 32 := 0#32
  let v37 : BitVec 1 := Scalar.cmpi .slt c4_i32 c0_i32_15
  let v38 : BitVec 32 := Scalar.extui v37
  let v39 : BitVec 32 := Scalar.subi v36 v38
  let v40 : BitVec 1 := Scalar.cmpi .ne v34 v39
  let v41 : BitVec 32 := Scalar.remsi arg1 c4_i32
  let c0_i32_16 : BitVec 32 := 0#32
  let v42 : BitVec 1 := Scalar.cmpi .ne v41 c0_i32_16
  let v43 : BitVec 1 := Scalar.andi v40 v42
  let v29 : BitVec 32 := Scalar.divsi arg1 c4_i32
  let c1_i32 : BitVec 32 := 1#32
  let v44 : BitVec 32 := Scalar.subi v29 c1_i32
  let v45 : BitVec 32 := Scalar.select v43 v44 v29
  let v61 : BitVec 32 := Scalar.subi v45 c0_i32_25
  let c1_i32_26 : BitVec 32 := 1#32
  let v63 : BitVec 32 := Scalar.divsi v61 c1_i32_26
  let v64 : BitVec 32 := Scalar.muli v63 c1_i32_26
  let v65 : BitVec 32 := Scalar.addi c0_i32_25 v64
  let c1_i32_27 : BitVec 32 := 1#32
  ⟨c0_i32_25, v65, c1_i32_27⟩
def k0_mult53 (i : grid0.Coords) (k0_t1 : Fin (k0_t1_loop i).trips) : BitVec 32 :=
  let arg1 : BitVec 32 := BitVec.ofNat 32 (i 1).val
  let c0_i32_12 : BitVec 32 := 0#32
  let v30 : BitVec 1 := Scalar.cmpi .sgt arg1 c0_i32_12
  let v31 : BitVec 32 := Scalar.extui v30
  let c0_i32_13 : BitVec 32 := 0#32
  let v32 : BitVec 1 := Scalar.cmpi .slt arg1 c0_i32_13
  let v33 : BitVec 32 := Scalar.extui v32
  let v34 : BitVec 32 := Scalar.subi v31 v33
  let c4_i32 : BitVec 32 := 4#32
  let c0_i32_14 : BitVec 32 := 0#32
  let v35 : BitVec 1 := Scalar.cmpi .sgt c4_i32 c0_i32_14
  let v36 : BitVec 32 := Scalar.extui v35
  let c0_i32_15 : BitVec 32 := 0#32
  let v37 : BitVec 1 := Scalar.cmpi .slt c4_i32 c0_i32_15
  let v38 : BitVec 32 := Scalar.extui v37
  let v39 : BitVec 32 := Scalar.subi v36 v38
  let v40 : BitVec 1 := Scalar.cmpi .ne v34 v39
  let v41 : BitVec 32 := Scalar.remsi arg1 c4_i32
  let c0_i32_16 : BitVec 32 := 0#32
  let v42 : BitVec 1 := Scalar.cmpi .ne v41 c0_i32_16
  let v43 : BitVec 1 := Scalar.andi v40 v42
  let v29 : BitVec 32 := Scalar.divsi arg1 c4_i32
  let c1_i32 : BitVec 32 := 1#32
  let v44 : BitVec 32 := Scalar.subi v29 c1_i32
  let v45 : BitVec 32 := Scalar.select v43 v44 v29
  let c1_i32_84 : BitVec 32 := 1#32
  let v162 : BitVec 32 := Scalar.subi v45 c1_i32_84
  let c0_i32_25 : BitVec 32 := 0#32
  let c1_i32_27 : BitVec 32 := 1#32
  let arg14 : BitVec 32 := Scf.iv c0_i32_25 c1_i32_27 k0_t1
  let v163 : BitVec 32 := Scalar.subi v162 arg14
  let c1_i32_85 : BitVec 32 := 1#32
  let v164 : BitVec 32 := Scalar.addi v163 c1_i32_85
  let c4_i32_86 : BitVec 32 := 4#32
  let v165 : BitVec 32 := Scalar.muli v164 c4_i32_86
  let c3_i32_87 : BitVec 32 := 3#32
  let v166 : BitVec 32 := Scalar.addi v165 c3_i32_87
  let c256_i32_94 : BitVec 32 := 256#32
  let v173 : BitVec 32 := Scalar.muli v166 c256_i32_94
  v173
def k0_off16 (i : grid0.Coords) (k0_t1 : Fin (k0_t1_loop i).trips) (c3_i32_87 : BitVec 32) : Fin 3 → Nat :=
  let c0_95 : Index := 0#32
  let c0_96 : Index := 0#32
  let arg1 : BitVec 32 := BitVec.ofNat 32 (i 1).val
  let c0_i32_12 : BitVec 32 := 0#32
  let v30 : BitVec 1 := Scalar.cmpi .sgt arg1 c0_i32_12
  let v31 : BitVec 32 := Scalar.extui v30
  let c0_i32_13 : BitVec 32 := 0#32
  let v32 : BitVec 1 := Scalar.cmpi .slt arg1 c0_i32_13
  let v33 : BitVec 32 := Scalar.extui v32
  let v34 : BitVec 32 := Scalar.subi v31 v33
  let c4_i32 : BitVec 32 := 4#32
  let c0_i32_14 : BitVec 32 := 0#32
  let v35 : BitVec 1 := Scalar.cmpi .sgt c4_i32 c0_i32_14
  let v36 : BitVec 32 := Scalar.extui v35
  let c0_i32_15 : BitVec 32 := 0#32
  let v37 : BitVec 1 := Scalar.cmpi .slt c4_i32 c0_i32_15
  let v38 : BitVec 32 := Scalar.extui v37
  let v39 : BitVec 32 := Scalar.subi v36 v38
  let v40 : BitVec 1 := Scalar.cmpi .ne v34 v39
  let v41 : BitVec 32 := Scalar.remsi arg1 c4_i32
  let c0_i32_16 : BitVec 32 := 0#32
  let v42 : BitVec 1 := Scalar.cmpi .ne v41 c0_i32_16
  let v43 : BitVec 1 := Scalar.andi v40 v42
  let v29 : BitVec 32 := Scalar.divsi arg1 c4_i32
  let c1_i32 : BitVec 32 := 1#32
  let v44 : BitVec 32 := Scalar.subi v29 c1_i32
  let v45 : BitVec 32 := Scalar.select v43 v44 v29
  let c1_i32_84 : BitVec 32 := 1#32
  let v162 : BitVec 32 := Scalar.subi v45 c1_i32_84
  let c0_i32_25 : BitVec 32 := 0#32
  let c1_i32_27 : BitVec 32 := 1#32
  let arg14 : BitVec 32 := Scf.iv c0_i32_25 c1_i32_27 k0_t1
  let v163 : BitVec 32 := Scalar.subi v162 arg14
  let c1_i32_85 : BitVec 32 := 1#32
  let v164 : BitVec 32 := Scalar.addi v163 c1_i32_85
  let c4_i32_86 : BitVec 32 := 4#32
  let v165 : BitVec 32 := Scalar.muli v164 c4_i32_86
  let v166 : BitVec 32 := Scalar.addi v165 c3_i32_87
  let c256_i32_94 : BitVec 32 := 256#32
  let v173 : BitVec 32 := Scalar.muli v166 c256_i32_94
  let v174 : BitVec 32 := v173
  let v175 : Index := Scalar.indexCast v174
  ![0, 0, v175.toNat]
def k0_mult54 (i : grid0.Coords) (k0_t1 : Fin (k0_t1_loop i).trips) : BitVec 32 :=
  let arg1 : BitVec 32 := BitVec.ofNat 32 (i 1).val
  let c0_i32_12 : BitVec 32 := 0#32
  let v30 : BitVec 1 := Scalar.cmpi .sgt arg1 c0_i32_12
  let v31 : BitVec 32 := Scalar.extui v30
  let c0_i32_13 : BitVec 32 := 0#32
  let v32 : BitVec 1 := Scalar.cmpi .slt arg1 c0_i32_13
  let v33 : BitVec 32 := Scalar.extui v32
  let v34 : BitVec 32 := Scalar.subi v31 v33
  let c4_i32 : BitVec 32 := 4#32
  let c0_i32_14 : BitVec 32 := 0#32
  let v35 : BitVec 1 := Scalar.cmpi .sgt c4_i32 c0_i32_14
  let v36 : BitVec 32 := Scalar.extui v35
  let c0_i32_15 : BitVec 32 := 0#32
  let v37 : BitVec 1 := Scalar.cmpi .slt c4_i32 c0_i32_15
  let v38 : BitVec 32 := Scalar.extui v37
  let v39 : BitVec 32 := Scalar.subi v36 v38
  let v40 : BitVec 1 := Scalar.cmpi .ne v34 v39
  let v41 : BitVec 32 := Scalar.remsi arg1 c4_i32
  let c0_i32_16 : BitVec 32 := 0#32
  let v42 : BitVec 1 := Scalar.cmpi .ne v41 c0_i32_16
  let v43 : BitVec 1 := Scalar.andi v40 v42
  let v29 : BitVec 32 := Scalar.divsi arg1 c4_i32
  let c1_i32 : BitVec 32 := 1#32
  let v44 : BitVec 32 := Scalar.subi v29 c1_i32
  let v45 : BitVec 32 := Scalar.select v43 v44 v29
  let c1_i32_84 : BitVec 32 := 1#32
  let v162 : BitVec 32 := Scalar.subi v45 c1_i32_84
  let c0_i32_25 : BitVec 32 := 0#32
  let c1_i32_27 : BitVec 32 := 1#32
  let arg14 : BitVec 32 := Scf.iv c0_i32_25 c1_i32_27 k0_t1
  let v163 : BitVec 32 := Scalar.subi v162 arg14
  let c1_i32_85 : BitVec 32 := 1#32
  let v164 : BitVec 32 := Scalar.addi v163 c1_i32_85
  let c4_i32_88 : BitVec 32 := 4#32
  let v167 : BitVec 32 := Scalar.muli v164 c4_i32_88
  let c2_i32_89 : BitVec 32 := 2#32
  let v168 : BitVec 32 := Scalar.addi v167 c2_i32_89
  let c256_i32_103 : BitVec 32 := 256#32
  let v186 : BitVec 32 := Scalar.muli v168 c256_i32_103
  v186
def k0_mult55 (i : grid0.Coords) (k0_t1 : Fin (k0_t1_loop i).trips) : BitVec 32 :=
  let arg1 : BitVec 32 := BitVec.ofNat 32 (i 1).val
  let c0_i32_12 : BitVec 32 := 0#32
  let v30 : BitVec 1 := Scalar.cmpi .sgt arg1 c0_i32_12
  let v31 : BitVec 32 := Scalar.extui v30
  let c0_i32_13 : BitVec 32 := 0#32
  let v32 : BitVec 1 := Scalar.cmpi .slt arg1 c0_i32_13
  let v33 : BitVec 32 := Scalar.extui v32
  let v34 : BitVec 32 := Scalar.subi v31 v33
  let c4_i32 : BitVec 32 := 4#32
  let c0_i32_14 : BitVec 32 := 0#32
  let v35 : BitVec 1 := Scalar.cmpi .sgt c4_i32 c0_i32_14
  let v36 : BitVec 32 := Scalar.extui v35
  let c0_i32_15 : BitVec 32 := 0#32
  let v37 : BitVec 1 := Scalar.cmpi .slt c4_i32 c0_i32_15
  let v38 : BitVec 32 := Scalar.extui v37
  let v39 : BitVec 32 := Scalar.subi v36 v38
  let v40 : BitVec 1 := Scalar.cmpi .ne v34 v39
  let v41 : BitVec 32 := Scalar.remsi arg1 c4_i32
  let c0_i32_16 : BitVec 32 := 0#32
  let v42 : BitVec 1 := Scalar.cmpi .ne v41 c0_i32_16
  let v43 : BitVec 1 := Scalar.andi v40 v42
  let v29 : BitVec 32 := Scalar.divsi arg1 c4_i32
  let c1_i32 : BitVec 32 := 1#32
  let v44 : BitVec 32 := Scalar.subi v29 c1_i32
  let v45 : BitVec 32 := Scalar.select v43 v44 v29
  let c1_i32_84 : BitVec 32 := 1#32
  let v162 : BitVec 32 := Scalar.subi v45 c1_i32_84
  let c0_i32_25 : BitVec 32 := 0#32
  let c1_i32_27 : BitVec 32 := 1#32
  let arg14 : BitVec 32 := Scf.iv c0_i32_25 c1_i32_27 k0_t1
  let v163 : BitVec 32 := Scalar.subi v162 arg14
  let c1_i32_85 : BitVec 32 := 1#32
  let v164 : BitVec 32 := Scalar.addi v163 c1_i32_85
  let c4_i32_90 : BitVec 32 := 4#32
  let v169 : BitVec 32 := Scalar.muli v164 c4_i32_90
  let c1_i32_91 : BitVec 32 := 1#32
  let v170 : BitVec 32 := Scalar.addi v169 c1_i32_91
  let c256_i32_112 : BitVec 32 := 256#32
  let v199 : BitVec 32 := Scalar.muli v170 c256_i32_112
  v199
def k0_mult56 (i : grid0.Coords) (k0_t1 : Fin (k0_t1_loop i).trips) : BitVec 32 :=
  let arg1 : BitVec 32 := BitVec.ofNat 32 (i 1).val
  let c0_i32_12 : BitVec 32 := 0#32
  let v30 : BitVec 1 := Scalar.cmpi .sgt arg1 c0_i32_12
  let v31 : BitVec 32 := Scalar.extui v30
  let c0_i32_13 : BitVec 32 := 0#32
  let v32 : BitVec 1 := Scalar.cmpi .slt arg1 c0_i32_13
  let v33 : BitVec 32 := Scalar.extui v32
  let v34 : BitVec 32 := Scalar.subi v31 v33
  let c4_i32 : BitVec 32 := 4#32
  let c0_i32_14 : BitVec 32 := 0#32
  let v35 : BitVec 1 := Scalar.cmpi .sgt c4_i32 c0_i32_14
  let v36 : BitVec 32 := Scalar.extui v35
  let c0_i32_15 : BitVec 32 := 0#32
  let v37 : BitVec 1 := Scalar.cmpi .slt c4_i32 c0_i32_15
  let v38 : BitVec 32 := Scalar.extui v37
  let v39 : BitVec 32 := Scalar.subi v36 v38
  let v40 : BitVec 1 := Scalar.cmpi .ne v34 v39
  let v41 : BitVec 32 := Scalar.remsi arg1 c4_i32
  let c0_i32_16 : BitVec 32 := 0#32
  let v42 : BitVec 1 := Scalar.cmpi .ne v41 c0_i32_16
  let v43 : BitVec 1 := Scalar.andi v40 v42
  let v29 : BitVec 32 := Scalar.divsi arg1 c4_i32
  let c1_i32 : BitVec 32 := 1#32
  let v44 : BitVec 32 := Scalar.subi v29 c1_i32
  let v45 : BitVec 32 := Scalar.select v43 v44 v29
  let c1_i32_84 : BitVec 32 := 1#32
  let v162 : BitVec 32 := Scalar.subi v45 c1_i32_84
  let c0_i32_25 : BitVec 32 := 0#32
  let c1_i32_27 : BitVec 32 := 1#32
  let arg14 : BitVec 32 := Scf.iv c0_i32_25 c1_i32_27 k0_t1
  let v163 : BitVec 32 := Scalar.subi v162 arg14
  let c1_i32_85 : BitVec 32 := 1#32
  let v164 : BitVec 32 := Scalar.addi v163 c1_i32_85
  let c4_i32_92 : BitVec 32 := 4#32
  let v171 : BitVec 32 := Scalar.muli v164 c4_i32_92
  let c0_i32_93 : BitVec 32 := 0#32
  let v172 : BitVec 32 := Scalar.addi v171 c0_i32_93
  let c256_i32_121 : BitVec 32 := 256#32
  let v212 : BitVec 32 := Scalar.muli v172 c256_i32_121
  v212
def k0_mult57 (i : grid0.Coords) (k0_t1 : Fin (k0_t1_loop i).trips) : BitVec 32 :=
  let arg1 : BitVec 32 := BitVec.ofNat 32 (i 1).val
  let c0_i32_12 : BitVec 32 := 0#32
  let v30 : BitVec 1 := Scalar.cmpi .sgt arg1 c0_i32_12
  let v31 : BitVec 32 := Scalar.extui v30
  let c0_i32_13 : BitVec 32 := 0#32
  let v32 : BitVec 1 := Scalar.cmpi .slt arg1 c0_i32_13
  let v33 : BitVec 32 := Scalar.extui v32
  let v34 : BitVec 32 := Scalar.subi v31 v33
  let c4_i32 : BitVec 32 := 4#32
  let c0_i32_14 : BitVec 32 := 0#32
  let v35 : BitVec 1 := Scalar.cmpi .sgt c4_i32 c0_i32_14
  let v36 : BitVec 32 := Scalar.extui v35
  let c0_i32_15 : BitVec 32 := 0#32
  let v37 : BitVec 1 := Scalar.cmpi .slt c4_i32 c0_i32_15
  let v38 : BitVec 32 := Scalar.extui v37
  let v39 : BitVec 32 := Scalar.subi v36 v38
  let v40 : BitVec 1 := Scalar.cmpi .ne v34 v39
  let v41 : BitVec 32 := Scalar.remsi arg1 c4_i32
  let c0_i32_16 : BitVec 32 := 0#32
  let v42 : BitVec 1 := Scalar.cmpi .ne v41 c0_i32_16
  let v43 : BitVec 1 := Scalar.andi v40 v42
  let v29 : BitVec 32 := Scalar.divsi arg1 c4_i32
  let c1_i32 : BitVec 32 := 1#32
  let v44 : BitVec 32 := Scalar.subi v29 c1_i32
  let v45 : BitVec 32 := Scalar.select v43 v44 v29
  let c1_i32_84 : BitVec 32 := 1#32
  let v162 : BitVec 32 := Scalar.subi v45 c1_i32_84
  let c0_i32_25 : BitVec 32 := 0#32
  let c1_i32_27 : BitVec 32 := 1#32
  let arg14 : BitVec 32 := Scf.iv c0_i32_25 c1_i32_27 k0_t1
  let v163 : BitVec 32 := Scalar.subi v162 arg14
  let c1_i32_166 : BitVec 32 := 1#32
  let v305 : BitVec 32 := Scalar.subi v163 c1_i32_166
  let c0_i32_167 : BitVec 32 := 0#32
  let v306 : BitVec 32 := Scalar.maxsi v305 c0_i32_167
  let c4_i32_168 : BitVec 32 := 4#32
  let v307 : BitVec 32 := Scalar.muli v306 c4_i32_168
  let c3_i32_169 : BitVec 32 := 3#32
  let v308 : BitVec 32 := Scalar.addi v307 c3_i32_169
  let c256_i32_176 : BitVec 32 := 256#32
  let v315 : BitVec 32 := Scalar.muli v308 c256_i32_176
  v315
def k0_off17 (i : grid0.Coords) (k0_t1 : Fin (k0_t1_loop i).trips) (c3_i32_169 : BitVec 32) : Fin 3 → Nat :=
  let c0_177 : Index := 0#32
  let c0_178 : Index := 0#32
  let arg1 : BitVec 32 := BitVec.ofNat 32 (i 1).val
  let c0_i32_12 : BitVec 32 := 0#32
  let v30 : BitVec 1 := Scalar.cmpi .sgt arg1 c0_i32_12
  let v31 : BitVec 32 := Scalar.extui v30
  let c0_i32_13 : BitVec 32 := 0#32
  let v32 : BitVec 1 := Scalar.cmpi .slt arg1 c0_i32_13
  let v33 : BitVec 32 := Scalar.extui v32
  let v34 : BitVec 32 := Scalar.subi v31 v33
  let c4_i32 : BitVec 32 := 4#32
  let c0_i32_14 : BitVec 32 := 0#32
  let v35 : BitVec 1 := Scalar.cmpi .sgt c4_i32 c0_i32_14
  let v36 : BitVec 32 := Scalar.extui v35
  let c0_i32_15 : BitVec 32 := 0#32
  let v37 : BitVec 1 := Scalar.cmpi .slt c4_i32 c0_i32_15
  let v38 : BitVec 32 := Scalar.extui v37
  let v39 : BitVec 32 := Scalar.subi v36 v38
  let v40 : BitVec 1 := Scalar.cmpi .ne v34 v39
  let v41 : BitVec 32 := Scalar.remsi arg1 c4_i32
  let c0_i32_16 : BitVec 32 := 0#32
  let v42 : BitVec 1 := Scalar.cmpi .ne v41 c0_i32_16
  let v43 : BitVec 1 := Scalar.andi v40 v42
  let v29 : BitVec 32 := Scalar.divsi arg1 c4_i32
  let c1_i32 : BitVec 32 := 1#32
  let v44 : BitVec 32 := Scalar.subi v29 c1_i32
  let v45 : BitVec 32 := Scalar.select v43 v44 v29
  let c1_i32_84 : BitVec 32 := 1#32
  let v162 : BitVec 32 := Scalar.subi v45 c1_i32_84
  let c0_i32_25 : BitVec 32 := 0#32
  let c1_i32_27 : BitVec 32 := 1#32
  let arg14 : BitVec 32 := Scf.iv c0_i32_25 c1_i32_27 k0_t1
  let v163 : BitVec 32 := Scalar.subi v162 arg14
  let c1_i32_166 : BitVec 32 := 1#32
  let v305 : BitVec 32 := Scalar.subi v163 c1_i32_166
  let c0_i32_167 : BitVec 32 := 0#32
  let v306 : BitVec 32 := Scalar.maxsi v305 c0_i32_167
  let c4_i32_168 : BitVec 32 := 4#32
  let v307 : BitVec 32 := Scalar.muli v306 c4_i32_168
  let v308 : BitVec 32 := Scalar.addi v307 c3_i32_169
  let c256_i32_176 : BitVec 32 := 256#32
  let v315 : BitVec 32 := Scalar.muli v308 c256_i32_176
  let v316 : BitVec 32 := v315
  let v317 : Index := Scalar.indexCast v316
  ![0, 0, v317.toNat]
def k0_mult58 (i : grid0.Coords) (k0_t1 : Fin (k0_t1_loop i).trips) : BitVec 32 :=
  let arg1 : BitVec 32 := BitVec.ofNat 32 (i 1).val
  let c0_i32_12 : BitVec 32 := 0#32
  let v30 : BitVec 1 := Scalar.cmpi .sgt arg1 c0_i32_12
  let v31 : BitVec 32 := Scalar.extui v30
  let c0_i32_13 : BitVec 32 := 0#32
  let v32 : BitVec 1 := Scalar.cmpi .slt arg1 c0_i32_13
  let v33 : BitVec 32 := Scalar.extui v32
  let v34 : BitVec 32 := Scalar.subi v31 v33
  let c4_i32 : BitVec 32 := 4#32
  let c0_i32_14 : BitVec 32 := 0#32
  let v35 : BitVec 1 := Scalar.cmpi .sgt c4_i32 c0_i32_14
  let v36 : BitVec 32 := Scalar.extui v35
  let c0_i32_15 : BitVec 32 := 0#32
  let v37 : BitVec 1 := Scalar.cmpi .slt c4_i32 c0_i32_15
  let v38 : BitVec 32 := Scalar.extui v37
  let v39 : BitVec 32 := Scalar.subi v36 v38
  let v40 : BitVec 1 := Scalar.cmpi .ne v34 v39
  let v41 : BitVec 32 := Scalar.remsi arg1 c4_i32
  let c0_i32_16 : BitVec 32 := 0#32
  let v42 : BitVec 1 := Scalar.cmpi .ne v41 c0_i32_16
  let v43 : BitVec 1 := Scalar.andi v40 v42
  let v29 : BitVec 32 := Scalar.divsi arg1 c4_i32
  let c1_i32 : BitVec 32 := 1#32
  let v44 : BitVec 32 := Scalar.subi v29 c1_i32
  let v45 : BitVec 32 := Scalar.select v43 v44 v29
  let c1_i32_84 : BitVec 32 := 1#32
  let v162 : BitVec 32 := Scalar.subi v45 c1_i32_84
  let c0_i32_25 : BitVec 32 := 0#32
  let c1_i32_27 : BitVec 32 := 1#32
  let arg14 : BitVec 32 := Scf.iv c0_i32_25 c1_i32_27 k0_t1
  let v163 : BitVec 32 := Scalar.subi v162 arg14
  let c1_i32_166 : BitVec 32 := 1#32
  let v305 : BitVec 32 := Scalar.subi v163 c1_i32_166
  let c0_i32_167 : BitVec 32 := 0#32
  let v306 : BitVec 32 := Scalar.maxsi v305 c0_i32_167
  let c4_i32_170 : BitVec 32 := 4#32
  let v309 : BitVec 32 := Scalar.muli v306 c4_i32_170
  let c2_i32_171 : BitVec 32 := 2#32
  let v310 : BitVec 32 := Scalar.addi v309 c2_i32_171
  let c256_i32_183 : BitVec 32 := 256#32
  let v324 : BitVec 32 := Scalar.muli v310 c256_i32_183
  v324
def k0_mult59 (i : grid0.Coords) (k0_t1 : Fin (k0_t1_loop i).trips) : BitVec 32 :=
  let arg1 : BitVec 32 := BitVec.ofNat 32 (i 1).val
  let c0_i32_12 : BitVec 32 := 0#32
  let v30 : BitVec 1 := Scalar.cmpi .sgt arg1 c0_i32_12
  let v31 : BitVec 32 := Scalar.extui v30
  let c0_i32_13 : BitVec 32 := 0#32
  let v32 : BitVec 1 := Scalar.cmpi .slt arg1 c0_i32_13
  let v33 : BitVec 32 := Scalar.extui v32
  let v34 : BitVec 32 := Scalar.subi v31 v33
  let c4_i32 : BitVec 32 := 4#32
  let c0_i32_14 : BitVec 32 := 0#32
  let v35 : BitVec 1 := Scalar.cmpi .sgt c4_i32 c0_i32_14
  let v36 : BitVec 32 := Scalar.extui v35
  let c0_i32_15 : BitVec 32 := 0#32
  let v37 : BitVec 1 := Scalar.cmpi .slt c4_i32 c0_i32_15
  let v38 : BitVec 32 := Scalar.extui v37
  let v39 : BitVec 32 := Scalar.subi v36 v38
  let v40 : BitVec 1 := Scalar.cmpi .ne v34 v39
  let v41 : BitVec 32 := Scalar.remsi arg1 c4_i32
  let c0_i32_16 : BitVec 32 := 0#32
  let v42 : BitVec 1 := Scalar.cmpi .ne v41 c0_i32_16
  let v43 : BitVec 1 := Scalar.andi v40 v42
  let v29 : BitVec 32 := Scalar.divsi arg1 c4_i32
  let c1_i32 : BitVec 32 := 1#32
  let v44 : BitVec 32 := Scalar.subi v29 c1_i32
  let v45 : BitVec 32 := Scalar.select v43 v44 v29
  let c1_i32_84 : BitVec 32 := 1#32
  let v162 : BitVec 32 := Scalar.subi v45 c1_i32_84
  let c0_i32_25 : BitVec 32 := 0#32
  let c1_i32_27 : BitVec 32 := 1#32
  let arg14 : BitVec 32 := Scf.iv c0_i32_25 c1_i32_27 k0_t1
  let v163 : BitVec 32 := Scalar.subi v162 arg14
  let c1_i32_166 : BitVec 32 := 1#32
  let v305 : BitVec 32 := Scalar.subi v163 c1_i32_166
  let c0_i32_167 : BitVec 32 := 0#32
  let v306 : BitVec 32 := Scalar.maxsi v305 c0_i32_167
  let c4_i32_172 : BitVec 32 := 4#32
  let v311 : BitVec 32 := Scalar.muli v306 c4_i32_172
  let c1_i32_173 : BitVec 32 := 1#32
  let v312 : BitVec 32 := Scalar.addi v311 c1_i32_173
  let c256_i32_190 : BitVec 32 := 256#32
  let v333 : BitVec 32 := Scalar.muli v312 c256_i32_190
  v333
def k0_mult60 (i : grid0.Coords) (k0_t1 : Fin (k0_t1_loop i).trips) : BitVec 32 :=
  let arg1 : BitVec 32 := BitVec.ofNat 32 (i 1).val
  let c0_i32_12 : BitVec 32 := 0#32
  let v30 : BitVec 1 := Scalar.cmpi .sgt arg1 c0_i32_12
  let v31 : BitVec 32 := Scalar.extui v30
  let c0_i32_13 : BitVec 32 := 0#32
  let v32 : BitVec 1 := Scalar.cmpi .slt arg1 c0_i32_13
  let v33 : BitVec 32 := Scalar.extui v32
  let v34 : BitVec 32 := Scalar.subi v31 v33
  let c4_i32 : BitVec 32 := 4#32
  let c0_i32_14 : BitVec 32 := 0#32
  let v35 : BitVec 1 := Scalar.cmpi .sgt c4_i32 c0_i32_14
  let v36 : BitVec 32 := Scalar.extui v35
  let c0_i32_15 : BitVec 32 := 0#32
  let v37 : BitVec 1 := Scalar.cmpi .slt c4_i32 c0_i32_15
  let v38 : BitVec 32 := Scalar.extui v37
  let v39 : BitVec 32 := Scalar.subi v36 v38
  let v40 : BitVec 1 := Scalar.cmpi .ne v34 v39
  let v41 : BitVec 32 := Scalar.remsi arg1 c4_i32
  let c0_i32_16 : BitVec 32 := 0#32
  let v42 : BitVec 1 := Scalar.cmpi .ne v41 c0_i32_16
  let v43 : BitVec 1 := Scalar.andi v40 v42
  let v29 : BitVec 32 := Scalar.divsi arg1 c4_i32
  let c1_i32 : BitVec 32 := 1#32
  let v44 : BitVec 32 := Scalar.subi v29 c1_i32
  let v45 : BitVec 32 := Scalar.select v43 v44 v29
  let c1_i32_84 : BitVec 32 := 1#32
  let v162 : BitVec 32 := Scalar.subi v45 c1_i32_84
  let c0_i32_25 : BitVec 32 := 0#32
  let c1_i32_27 : BitVec 32 := 1#32
  let arg14 : BitVec 32 := Scf.iv c0_i32_25 c1_i32_27 k0_t1
  let v163 : BitVec 32 := Scalar.subi v162 arg14
  let c1_i32_166 : BitVec 32 := 1#32
  let v305 : BitVec 32 := Scalar.subi v163 c1_i32_166
  let c0_i32_167 : BitVec 32 := 0#32
  let v306 : BitVec 32 := Scalar.maxsi v305 c0_i32_167
  let c4_i32_174 : BitVec 32 := 4#32
  let v313 : BitVec 32 := Scalar.muli v306 c4_i32_174
  let c0_i32_175 : BitVec 32 := 0#32
  let v314 : BitVec 32 := Scalar.addi v313 c0_i32_175
  let c256_i32_197 : BitVec 32 := 256#32
  let v342 : BitVec 32 := Scalar.muli v314 c256_i32_197
  v342
def k0_mult61 (i : grid0.Coords) (k0_t1 : Fin (k0_t1_loop i).trips) : BitVec 32 :=
  let arg1 : BitVec 32 := BitVec.ofNat 32 (i 1).val
  let c0_i32_12 : BitVec 32 := 0#32
  let v30 : BitVec 1 := Scalar.cmpi .sgt arg1 c0_i32_12
  let v31 : BitVec 32 := Scalar.extui v30
  let c0_i32_13 : BitVec 32 := 0#32
  let v32 : BitVec 1 := Scalar.cmpi .slt arg1 c0_i32_13
  let v33 : BitVec 32 := Scalar.extui v32
  let v34 : BitVec 32 := Scalar.subi v31 v33
  let c4_i32 : BitVec 32 := 4#32
  let c0_i32_14 : BitVec 32 := 0#32
  let v35 : BitVec 1 := Scalar.cmpi .sgt c4_i32 c0_i32_14
  let v36 : BitVec 32 := Scalar.extui v35
  let c0_i32_15 : BitVec 32 := 0#32
  let v37 : BitVec 1 := Scalar.cmpi .slt c4_i32 c0_i32_15
  let v38 : BitVec 32 := Scalar.extui v37
  let v39 : BitVec 32 := Scalar.subi v36 v38
  let v40 : BitVec 1 := Scalar.cmpi .ne v34 v39
  let v41 : BitVec 32 := Scalar.remsi arg1 c4_i32
  let c0_i32_16 : BitVec 32 := 0#32
  let v42 : BitVec 1 := Scalar.cmpi .ne v41 c0_i32_16
  let v43 : BitVec 1 := Scalar.andi v40 v42
  let v29 : BitVec 32 := Scalar.divsi arg1 c4_i32
  let c1_i32 : BitVec 32 := 1#32
  let v44 : BitVec 32 := Scalar.subi v29 c1_i32
  let v45 : BitVec 32 := Scalar.select v43 v44 v29
  let c1_i32_84 : BitVec 32 := 1#32
  let v162 : BitVec 32 := Scalar.subi v45 c1_i32_84
  let c0_i32_25 : BitVec 32 := 0#32
  let c1_i32_27 : BitVec 32 := 1#32
  let arg14 : BitVec 32 := Scf.iv c0_i32_25 c1_i32_27 k0_t1
  let v163 : BitVec 32 := Scalar.subi v162 arg14
  let c1_i32_166 : BitVec 32 := 1#32
  let v305 : BitVec 32 := Scalar.subi v163 c1_i32_166
  let c0_i32_204 : BitVec 32 := 0#32
  let v351 : BitVec 32 := Scalar.maxsi v305 c0_i32_204
  let c4_i32_205 : BitVec 32 := 4#32
  let v352 : BitVec 32 := Scalar.muli v351 c4_i32_205
  let c3_i32_206 : BitVec 32 := 3#32
  let v353 : BitVec 32 := Scalar.addi v352 c3_i32_206
  let c256_i32_213 : BitVec 32 := 256#32
  let v360 : BitVec 32 := Scalar.muli v353 c256_i32_213
  v360
def k0_mult62 (i : grid0.Coords) (k0_t1 : Fin (k0_t1_loop i).trips) : BitVec 32 :=
  let arg1 : BitVec 32 := BitVec.ofNat 32 (i 1).val
  let c0_i32_12 : BitVec 32 := 0#32
  let v30 : BitVec 1 := Scalar.cmpi .sgt arg1 c0_i32_12
  let v31 : BitVec 32 := Scalar.extui v30
  let c0_i32_13 : BitVec 32 := 0#32
  let v32 : BitVec 1 := Scalar.cmpi .slt arg1 c0_i32_13
  let v33 : BitVec 32 := Scalar.extui v32
  let v34 : BitVec 32 := Scalar.subi v31 v33
  let c4_i32 : BitVec 32 := 4#32
  let c0_i32_14 : BitVec 32 := 0#32
  let v35 : BitVec 1 := Scalar.cmpi .sgt c4_i32 c0_i32_14
  let v36 : BitVec 32 := Scalar.extui v35
  let c0_i32_15 : BitVec 32 := 0#32
  let v37 : BitVec 1 := Scalar.cmpi .slt c4_i32 c0_i32_15
  let v38 : BitVec 32 := Scalar.extui v37
  let v39 : BitVec 32 := Scalar.subi v36 v38
  let v40 : BitVec 1 := Scalar.cmpi .ne v34 v39
  let v41 : BitVec 32 := Scalar.remsi arg1 c4_i32
  let c0_i32_16 : BitVec 32 := 0#32
  let v42 : BitVec 1 := Scalar.cmpi .ne v41 c0_i32_16
  let v43 : BitVec 1 := Scalar.andi v40 v42
  let v29 : BitVec 32 := Scalar.divsi arg1 c4_i32
  let c1_i32 : BitVec 32 := 1#32
  let v44 : BitVec 32 := Scalar.subi v29 c1_i32
  let v45 : BitVec 32 := Scalar.select v43 v44 v29
  let c1_i32_84 : BitVec 32 := 1#32
  let v162 : BitVec 32 := Scalar.subi v45 c1_i32_84
  let c0_i32_25 : BitVec 32 := 0#32
  let c1_i32_27 : BitVec 32 := 1#32
  let arg14 : BitVec 32 := Scf.iv c0_i32_25 c1_i32_27 k0_t1
  let v163 : BitVec 32 := Scalar.subi v162 arg14
  let c1_i32_166 : BitVec 32 := 1#32
  let v305 : BitVec 32 := Scalar.subi v163 c1_i32_166
  let c0_i32_204 : BitVec 32 := 0#32
  let v351 : BitVec 32 := Scalar.maxsi v305 c0_i32_204
  let c4_i32_207 : BitVec 32 := 4#32
  let v354 : BitVec 32 := Scalar.muli v351 c4_i32_207
  let c2_i32_208 : BitVec 32 := 2#32
  let v355 : BitVec 32 := Scalar.addi v354 c2_i32_208
  let c256_i32_220 : BitVec 32 := 256#32
  let v369 : BitVec 32 := Scalar.muli v355 c256_i32_220
  v369
def k0_mult63 (i : grid0.Coords) (k0_t1 : Fin (k0_t1_loop i).trips) : BitVec 32 :=
  let arg1 : BitVec 32 := BitVec.ofNat 32 (i 1).val
  let c0_i32_12 : BitVec 32 := 0#32
  let v30 : BitVec 1 := Scalar.cmpi .sgt arg1 c0_i32_12
  let v31 : BitVec 32 := Scalar.extui v30
  let c0_i32_13 : BitVec 32 := 0#32
  let v32 : BitVec 1 := Scalar.cmpi .slt arg1 c0_i32_13
  let v33 : BitVec 32 := Scalar.extui v32
  let v34 : BitVec 32 := Scalar.subi v31 v33
  let c4_i32 : BitVec 32 := 4#32
  let c0_i32_14 : BitVec 32 := 0#32
  let v35 : BitVec 1 := Scalar.cmpi .sgt c4_i32 c0_i32_14
  let v36 : BitVec 32 := Scalar.extui v35
  let c0_i32_15 : BitVec 32 := 0#32
  let v37 : BitVec 1 := Scalar.cmpi .slt c4_i32 c0_i32_15
  let v38 : BitVec 32 := Scalar.extui v37
  let v39 : BitVec 32 := Scalar.subi v36 v38
  let v40 : BitVec 1 := Scalar.cmpi .ne v34 v39
  let v41 : BitVec 32 := Scalar.remsi arg1 c4_i32
  let c0_i32_16 : BitVec 32 := 0#32
  let v42 : BitVec 1 := Scalar.cmpi .ne v41 c0_i32_16
  let v43 : BitVec 1 := Scalar.andi v40 v42
  let v29 : BitVec 32 := Scalar.divsi arg1 c4_i32
  let c1_i32 : BitVec 32 := 1#32
  let v44 : BitVec 32 := Scalar.subi v29 c1_i32
  let v45 : BitVec 32 := Scalar.select v43 v44 v29
  let c1_i32_84 : BitVec 32 := 1#32
  let v162 : BitVec 32 := Scalar.subi v45 c1_i32_84
  let c0_i32_25 : BitVec 32 := 0#32
  let c1_i32_27 : BitVec 32 := 1#32
  let arg14 : BitVec 32 := Scf.iv c0_i32_25 c1_i32_27 k0_t1
  let v163 : BitVec 32 := Scalar.subi v162 arg14
  let c1_i32_166 : BitVec 32 := 1#32
  let v305 : BitVec 32 := Scalar.subi v163 c1_i32_166
  let c0_i32_204 : BitVec 32 := 0#32
  let v351 : BitVec 32 := Scalar.maxsi v305 c0_i32_204
  let c4_i32_209 : BitVec 32 := 4#32
  let v356 : BitVec 32 := Scalar.muli v351 c4_i32_209
  let c1_i32_210 : BitVec 32 := 1#32
  let v357 : BitVec 32 := Scalar.addi v356 c1_i32_210
  let c256_i32_227 : BitVec 32 := 256#32
  let v378 : BitVec 32 := Scalar.muli v357 c256_i32_227
  v378
def k0_mult64 (i : grid0.Coords) (k0_t1 : Fin (k0_t1_loop i).trips) : BitVec 32 :=
  let arg1 : BitVec 32 := BitVec.ofNat 32 (i 1).val
  let c0_i32_12 : BitVec 32 := 0#32
  let v30 : BitVec 1 := Scalar.cmpi .sgt arg1 c0_i32_12
  let v31 : BitVec 32 := Scalar.extui v30
  let c0_i32_13 : BitVec 32 := 0#32
  let v32 : BitVec 1 := Scalar.cmpi .slt arg1 c0_i32_13
  let v33 : BitVec 32 := Scalar.extui v32
  let v34 : BitVec 32 := Scalar.subi v31 v33
  let c4_i32 : BitVec 32 := 4#32
  let c0_i32_14 : BitVec 32 := 0#32
  let v35 : BitVec 1 := Scalar.cmpi .sgt c4_i32 c0_i32_14
  let v36 : BitVec 32 := Scalar.extui v35
  let c0_i32_15 : BitVec 32 := 0#32
  let v37 : BitVec 1 := Scalar.cmpi .slt c4_i32 c0_i32_15
  let v38 : BitVec 32 := Scalar.extui v37
  let v39 : BitVec 32 := Scalar.subi v36 v38
  let v40 : BitVec 1 := Scalar.cmpi .ne v34 v39
  let v41 : BitVec 32 := Scalar.remsi arg1 c4_i32
  let c0_i32_16 : BitVec 32 := 0#32
  let v42 : BitVec 1 := Scalar.cmpi .ne v41 c0_i32_16
  let v43 : BitVec 1 := Scalar.andi v40 v42
  let v29 : BitVec 32 := Scalar.divsi arg1 c4_i32
  let c1_i32 : BitVec 32 := 1#32
  let v44 : BitVec 32 := Scalar.subi v29 c1_i32
  let v45 : BitVec 32 := Scalar.select v43 v44 v29
  let c1_i32_84 : BitVec 32 := 1#32
  let v162 : BitVec 32 := Scalar.subi v45 c1_i32_84
  let c0_i32_25 : BitVec 32 := 0#32
  let c1_i32_27 : BitVec 32 := 1#32
  let arg14 : BitVec 32 := Scf.iv c0_i32_25 c1_i32_27 k0_t1
  let v163 : BitVec 32 := Scalar.subi v162 arg14
  let c1_i32_166 : BitVec 32 := 1#32
  let v305 : BitVec 32 := Scalar.subi v163 c1_i32_166
  let c0_i32_204 : BitVec 32 := 0#32
  let v351 : BitVec 32 := Scalar.maxsi v305 c0_i32_204
  let c4_i32_211 : BitVec 32 := 4#32
  let v358 : BitVec 32 := Scalar.muli v351 c4_i32_211
  let c0_i32_212 : BitVec 32 := 0#32
  let v359 : BitVec 32 := Scalar.addi v358 c0_i32_212
  let c256_i32_234 : BitVec 32 := 256#32
  let v387 : BitVec 32 := Scalar.muli v359 c256_i32_234
  v387
def k0_off18 (i : grid0.Coords) (k0_t1 : Fin (k0_t1_loop i).trips) (c3_i32_246 : BitVec 32) : Fin 3 → Nat :=
  let arg1 : BitVec 32 := BitVec.ofNat 32 (i 1).val
  let c0_i32_12 : BitVec 32 := 0#32
  let v30 : BitVec 1 := Scalar.cmpi .sgt arg1 c0_i32_12
  let v31 : BitVec 32 := Scalar.extui v30
  let c0_i32_13 : BitVec 32 := 0#32
  let v32 : BitVec 1 := Scalar.cmpi .slt arg1 c0_i32_13
  let v33 : BitVec 32 := Scalar.extui v32
  let v34 : BitVec 32 := Scalar.subi v31 v33
  let c4_i32 : BitVec 32 := 4#32
  let c0_i32_14 : BitVec 32 := 0#32
  let v35 : BitVec 1 := Scalar.cmpi .sgt c4_i32 c0_i32_14
  let v36 : BitVec 32 := Scalar.extui v35
  let c0_i32_15 : BitVec 32 := 0#32
  let v37 : BitVec 1 := Scalar.cmpi .slt c4_i32 c0_i32_15
  let v38 : BitVec 32 := Scalar.extui v37
  let v39 : BitVec 32 := Scalar.subi v36 v38
  let v40 : BitVec 1 := Scalar.cmpi .ne v34 v39
  let v41 : BitVec 32 := Scalar.remsi arg1 c4_i32
  let c0_i32_16 : BitVec 32 := 0#32
  let v42 : BitVec 1 := Scalar.cmpi .ne v41 c0_i32_16
  let v43 : BitVec 1 := Scalar.andi v40 v42
  let v29 : BitVec 32 := Scalar.divsi arg1 c4_i32
  let c1_i32 : BitVec 32 := 1#32
  let v44 : BitVec 32 := Scalar.subi v29 c1_i32
  let v45 : BitVec 32 := Scalar.select v43 v44 v29
  let c1_i32_84 : BitVec 32 := 1#32
  let v162 : BitVec 32 := Scalar.subi v45 c1_i32_84
  let c0_i32_25 : BitVec 32 := 0#32
  let c1_i32_27 : BitVec 32 := 1#32
  let arg14 : BitVec 32 := Scf.iv c0_i32_25 c1_i32_27 k0_t1
  let v163 : BitVec 32 := Scalar.subi v162 arg14
  let c4_i32_245 : BitVec 32 := 4#32
  let v424 : BitVec 32 := Scalar.muli v163 c4_i32_245
  let v425 : BitVec 32 := Scalar.addi v424 c3_i32_246
  let v437 : Index := Scalar.indexCast v425
  let c0_256 : Index := 0#32
  let c0_257 : Index := 0#32
  ![v437.toNat, 0, 0]
@[reducible] def k0_t2_loop (i : grid0.Coords) : Scf.Loop 32 :=
  let c0_i32_25 : BitVec 32 := 0#32
  let arg1 : BitVec 32 := BitVec.ofNat 32 (i 1).val
  let c0_i32_12 : BitVec 32 := 0#32
  let v30 : BitVec 1 := Scalar.cmpi .sgt arg1 c0_i32_12
  let v31 : BitVec 32 := Scalar.extui v30
  let c0_i32_13 : BitVec 32 := 0#32
  let v32 : BitVec 1 := Scalar.cmpi .slt arg1 c0_i32_13
  let v33 : BitVec 32 := Scalar.extui v32
  let v34 : BitVec 32 := Scalar.subi v31 v33
  let c4_i32 : BitVec 32 := 4#32
  let c0_i32_14 : BitVec 32 := 0#32
  let v35 : BitVec 1 := Scalar.cmpi .sgt c4_i32 c0_i32_14
  let v36 : BitVec 32 := Scalar.extui v35
  let c0_i32_15 : BitVec 32 := 0#32
  let v37 : BitVec 1 := Scalar.cmpi .slt c4_i32 c0_i32_15
  let v38 : BitVec 32 := Scalar.extui v37
  let v39 : BitVec 32 := Scalar.subi v36 v38
  let v40 : BitVec 1 := Scalar.cmpi .ne v34 v39
  let v41 : BitVec 32 := Scalar.remsi arg1 c4_i32
  let c0_i32_16 : BitVec 32 := 0#32
  let v42 : BitVec 1 := Scalar.cmpi .ne v41 c0_i32_16
  let v43 : BitVec 1 := Scalar.andi v40 v42
  let v29 : BitVec 32 := Scalar.divsi arg1 c4_i32
  let c1_i32 : BitVec 32 := 1#32
  let v44 : BitVec 32 := Scalar.subi v29 c1_i32
  let v45 : BitVec 32 := Scalar.select v43 v44 v29
  let v61 : BitVec 32 := Scalar.subi v45 c0_i32_25
  let c1_i32_26 : BitVec 32 := 1#32
  let v63 : BitVec 32 := Scalar.divsi v61 c1_i32_26
  let v64 : BitVec 32 := Scalar.muli v63 c1_i32_26
  let v65 : BitVec 32 := Scalar.addi c0_i32_25 v64
  let v62 : BitVec 32 := Scalar.addi c0_i32_25 v61
  let c1_i32_28 : BitVec 32 := 1#32
  ⟨v65, v62, c1_i32_28⟩
def k0_mult65 (i : grid0.Coords) (k0_t2 : Fin (k0_t2_loop i).trips) : BitVec 32 :=
  let arg1 : BitVec 32 := BitVec.ofNat 32 (i 1).val
  let c0_i32_12 : BitVec 32 := 0#32
  let v30 : BitVec 1 := Scalar.cmpi .sgt arg1 c0_i32_12
  let v31 : BitVec 32 := Scalar.extui v30
  let c0_i32_13 : BitVec 32 := 0#32
  let v32 : BitVec 1 := Scalar.cmpi .slt arg1 c0_i32_13
  let v33 : BitVec 32 := Scalar.extui v32
  let v34 : BitVec 32 := Scalar.subi v31 v33
  let c4_i32 : BitVec 32 := 4#32
  let c0_i32_14 : BitVec 32 := 0#32
  let v35 : BitVec 1 := Scalar.cmpi .sgt c4_i32 c0_i32_14
  let v36 : BitVec 32 := Scalar.extui v35
  let c0_i32_15 : BitVec 32 := 0#32
  let v37 : BitVec 1 := Scalar.cmpi .slt c4_i32 c0_i32_15
  let v38 : BitVec 32 := Scalar.extui v37
  let v39 : BitVec 32 := Scalar.subi v36 v38
  let v40 : BitVec 1 := Scalar.cmpi .ne v34 v39
  let v41 : BitVec 32 := Scalar.remsi arg1 c4_i32
  let c0_i32_16 : BitVec 32 := 0#32
  let v42 : BitVec 1 := Scalar.cmpi .ne v41 c0_i32_16
  let v43 : BitVec 1 := Scalar.andi v40 v42
  let v29 : BitVec 32 := Scalar.divsi arg1 c4_i32
  let c1_i32 : BitVec 32 := 1#32
  let v44 : BitVec 32 := Scalar.subi v29 c1_i32
  let v45 : BitVec 32 := Scalar.select v43 v44 v29
  let c1_i32_84 : BitVec 32 := 1#32
  let v162 : BitVec 32 := Scalar.subi v45 c1_i32_84
  let c0_i32_25 : BitVec 32 := 0#32
  let v61 : BitVec 32 := Scalar.subi v45 c0_i32_25
  let c1_i32_26 : BitVec 32 := 1#32
  let v63 : BitVec 32 := Scalar.divsi v61 c1_i32_26
  let v64 : BitVec 32 := Scalar.muli v63 c1_i32_26
  let v65 : BitVec 32 := Scalar.addi c0_i32_25 v64
  let c1_i32_28 : BitVec 32 := 1#32
  let arg14 : BitVec 32 := Scf.iv v65 c1_i32_28 k0_t2
  let v163 : BitVec 32 := Scalar.subi v162 arg14
  let c1_i32_85 : BitVec 32 := 1#32
  let v164 : BitVec 32 := Scalar.addi v163 c1_i32_85
  let c4_i32_86 : BitVec 32 := 4#32
  let v165 : BitVec 32 := Scalar.muli v164 c4_i32_86
  let c3_i32_87 : BitVec 32 := 3#32
  let v166 : BitVec 32 := Scalar.addi v165 c3_i32_87
  let c256_i32_94 : BitVec 32 := 256#32
  let v173 : BitVec 32 := Scalar.muli v166 c256_i32_94
  v173
def k0_off19 (i : grid0.Coords) (k0_t2 : Fin (k0_t2_loop i).trips) (c3_i32_87 : BitVec 32) : Fin 3 → Nat :=
  let c0_95 : Index := 0#32
  let c0_96 : Index := 0#32
  let arg1 : BitVec 32 := BitVec.ofNat 32 (i 1).val
  let c0_i32_12 : BitVec 32 := 0#32
  let v30 : BitVec 1 := Scalar.cmpi .sgt arg1 c0_i32_12
  let v31 : BitVec 32 := Scalar.extui v30
  let c0_i32_13 : BitVec 32 := 0#32
  let v32 : BitVec 1 := Scalar.cmpi .slt arg1 c0_i32_13
  let v33 : BitVec 32 := Scalar.extui v32
  let v34 : BitVec 32 := Scalar.subi v31 v33
  let c4_i32 : BitVec 32 := 4#32
  let c0_i32_14 : BitVec 32 := 0#32
  let v35 : BitVec 1 := Scalar.cmpi .sgt c4_i32 c0_i32_14
  let v36 : BitVec 32 := Scalar.extui v35
  let c0_i32_15 : BitVec 32 := 0#32
  let v37 : BitVec 1 := Scalar.cmpi .slt c4_i32 c0_i32_15
  let v38 : BitVec 32 := Scalar.extui v37
  let v39 : BitVec 32 := Scalar.subi v36 v38
  let v40 : BitVec 1 := Scalar.cmpi .ne v34 v39
  let v41 : BitVec 32 := Scalar.remsi arg1 c4_i32
  let c0_i32_16 : BitVec 32 := 0#32
  let v42 : BitVec 1 := Scalar.cmpi .ne v41 c0_i32_16
  let v43 : BitVec 1 := Scalar.andi v40 v42
  let v29 : BitVec 32 := Scalar.divsi arg1 c4_i32
  let c1_i32 : BitVec 32 := 1#32
  let v44 : BitVec 32 := Scalar.subi v29 c1_i32
  let v45 : BitVec 32 := Scalar.select v43 v44 v29
  let c1_i32_84 : BitVec 32 := 1#32
  let v162 : BitVec 32 := Scalar.subi v45 c1_i32_84
  let c0_i32_25 : BitVec 32 := 0#32
  let v61 : BitVec 32 := Scalar.subi v45 c0_i32_25
  let c1_i32_26 : BitVec 32 := 1#32
  let v63 : BitVec 32 := Scalar.divsi v61 c1_i32_26
  let v64 : BitVec 32 := Scalar.muli v63 c1_i32_26
  let v65 : BitVec 32 := Scalar.addi c0_i32_25 v64
  let c1_i32_28 : BitVec 32 := 1#32
  let arg14 : BitVec 32 := Scf.iv v65 c1_i32_28 k0_t2
  let v163 : BitVec 32 := Scalar.subi v162 arg14
  let c1_i32_85 : BitVec 32 := 1#32
  let v164 : BitVec 32 := Scalar.addi v163 c1_i32_85
  let c4_i32_86 : BitVec 32 := 4#32
  let v165 : BitVec 32 := Scalar.muli v164 c4_i32_86
  let v166 : BitVec 32 := Scalar.addi v165 c3_i32_87
  let c256_i32_94 : BitVec 32 := 256#32
  let v173 : BitVec 32 := Scalar.muli v166 c256_i32_94
  let v174 : BitVec 32 := v173
  let v175 : Index := Scalar.indexCast v174
  ![0, 0, v175.toNat]
def k0_mult66 (i : grid0.Coords) (k0_t2 : Fin (k0_t2_loop i).trips) : BitVec 32 :=
  let arg1 : BitVec 32 := BitVec.ofNat 32 (i 1).val
  let c0_i32_12 : BitVec 32 := 0#32
  let v30 : BitVec 1 := Scalar.cmpi .sgt arg1 c0_i32_12
  let v31 : BitVec 32 := Scalar.extui v30
  let c0_i32_13 : BitVec 32 := 0#32
  let v32 : BitVec 1 := Scalar.cmpi .slt arg1 c0_i32_13
  let v33 : BitVec 32 := Scalar.extui v32
  let v34 : BitVec 32 := Scalar.subi v31 v33
  let c4_i32 : BitVec 32 := 4#32
  let c0_i32_14 : BitVec 32 := 0#32
  let v35 : BitVec 1 := Scalar.cmpi .sgt c4_i32 c0_i32_14
  let v36 : BitVec 32 := Scalar.extui v35
  let c0_i32_15 : BitVec 32 := 0#32
  let v37 : BitVec 1 := Scalar.cmpi .slt c4_i32 c0_i32_15
  let v38 : BitVec 32 := Scalar.extui v37
  let v39 : BitVec 32 := Scalar.subi v36 v38
  let v40 : BitVec 1 := Scalar.cmpi .ne v34 v39
  let v41 : BitVec 32 := Scalar.remsi arg1 c4_i32
  let c0_i32_16 : BitVec 32 := 0#32
  let v42 : BitVec 1 := Scalar.cmpi .ne v41 c0_i32_16
  let v43 : BitVec 1 := Scalar.andi v40 v42
  let v29 : BitVec 32 := Scalar.divsi arg1 c4_i32
  let c1_i32 : BitVec 32 := 1#32
  let v44 : BitVec 32 := Scalar.subi v29 c1_i32
  let v45 : BitVec 32 := Scalar.select v43 v44 v29
  let c1_i32_84 : BitVec 32 := 1#32
  let v162 : BitVec 32 := Scalar.subi v45 c1_i32_84
  let c0_i32_25 : BitVec 32 := 0#32
  let v61 : BitVec 32 := Scalar.subi v45 c0_i32_25
  let c1_i32_26 : BitVec 32 := 1#32
  let v63 : BitVec 32 := Scalar.divsi v61 c1_i32_26
  let v64 : BitVec 32 := Scalar.muli v63 c1_i32_26
  let v65 : BitVec 32 := Scalar.addi c0_i32_25 v64
  let c1_i32_28 : BitVec 32 := 1#32
  let arg14 : BitVec 32 := Scf.iv v65 c1_i32_28 k0_t2
  let v163 : BitVec 32 := Scalar.subi v162 arg14
  let c1_i32_85 : BitVec 32 := 1#32
  let v164 : BitVec 32 := Scalar.addi v163 c1_i32_85
  let c4_i32_88 : BitVec 32 := 4#32
  let v167 : BitVec 32 := Scalar.muli v164 c4_i32_88
  let c2_i32_89 : BitVec 32 := 2#32
  let v168 : BitVec 32 := Scalar.addi v167 c2_i32_89
  let c256_i32_103 : BitVec 32 := 256#32
  let v186 : BitVec 32 := Scalar.muli v168 c256_i32_103
  v186
def k0_mult67 (i : grid0.Coords) (k0_t2 : Fin (k0_t2_loop i).trips) : BitVec 32 :=
  let arg1 : BitVec 32 := BitVec.ofNat 32 (i 1).val
  let c0_i32_12 : BitVec 32 := 0#32
  let v30 : BitVec 1 := Scalar.cmpi .sgt arg1 c0_i32_12
  let v31 : BitVec 32 := Scalar.extui v30
  let c0_i32_13 : BitVec 32 := 0#32
  let v32 : BitVec 1 := Scalar.cmpi .slt arg1 c0_i32_13
  let v33 : BitVec 32 := Scalar.extui v32
  let v34 : BitVec 32 := Scalar.subi v31 v33
  let c4_i32 : BitVec 32 := 4#32
  let c0_i32_14 : BitVec 32 := 0#32
  let v35 : BitVec 1 := Scalar.cmpi .sgt c4_i32 c0_i32_14
  let v36 : BitVec 32 := Scalar.extui v35
  let c0_i32_15 : BitVec 32 := 0#32
  let v37 : BitVec 1 := Scalar.cmpi .slt c4_i32 c0_i32_15
  let v38 : BitVec 32 := Scalar.extui v37
  let v39 : BitVec 32 := Scalar.subi v36 v38
  let v40 : BitVec 1 := Scalar.cmpi .ne v34 v39
  let v41 : BitVec 32 := Scalar.remsi arg1 c4_i32
  let c0_i32_16 : BitVec 32 := 0#32
  let v42 : BitVec 1 := Scalar.cmpi .ne v41 c0_i32_16
  let v43 : BitVec 1 := Scalar.andi v40 v42
  let v29 : BitVec 32 := Scalar.divsi arg1 c4_i32
  let c1_i32 : BitVec 32 := 1#32
  let v44 : BitVec 32 := Scalar.subi v29 c1_i32
  let v45 : BitVec 32 := Scalar.select v43 v44 v29
  let c1_i32_84 : BitVec 32 := 1#32
  let v162 : BitVec 32 := Scalar.subi v45 c1_i32_84
  let c0_i32_25 : BitVec 32 := 0#32
  let v61 : BitVec 32 := Scalar.subi v45 c0_i32_25
  let c1_i32_26 : BitVec 32 := 1#32
  let v63 : BitVec 32 := Scalar.divsi v61 c1_i32_26
  let v64 : BitVec 32 := Scalar.muli v63 c1_i32_26
  let v65 : BitVec 32 := Scalar.addi c0_i32_25 v64
  let c1_i32_28 : BitVec 32 := 1#32
  let arg14 : BitVec 32 := Scf.iv v65 c1_i32_28 k0_t2
  let v163 : BitVec 32 := Scalar.subi v162 arg14
  let c1_i32_85 : BitVec 32 := 1#32
  let v164 : BitVec 32 := Scalar.addi v163 c1_i32_85
  let c4_i32_90 : BitVec 32 := 4#32
  let v169 : BitVec 32 := Scalar.muli v164 c4_i32_90
  let c1_i32_91 : BitVec 32 := 1#32
  let v170 : BitVec 32 := Scalar.addi v169 c1_i32_91
  let c256_i32_112 : BitVec 32 := 256#32
  let v199 : BitVec 32 := Scalar.muli v170 c256_i32_112
  v199
def k0_mult68 (i : grid0.Coords) (k0_t2 : Fin (k0_t2_loop i).trips) : BitVec 32 :=
  let arg1 : BitVec 32 := BitVec.ofNat 32 (i 1).val
  let c0_i32_12 : BitVec 32 := 0#32
  let v30 : BitVec 1 := Scalar.cmpi .sgt arg1 c0_i32_12
  let v31 : BitVec 32 := Scalar.extui v30
  let c0_i32_13 : BitVec 32 := 0#32
  let v32 : BitVec 1 := Scalar.cmpi .slt arg1 c0_i32_13
  let v33 : BitVec 32 := Scalar.extui v32
  let v34 : BitVec 32 := Scalar.subi v31 v33
  let c4_i32 : BitVec 32 := 4#32
  let c0_i32_14 : BitVec 32 := 0#32
  let v35 : BitVec 1 := Scalar.cmpi .sgt c4_i32 c0_i32_14
  let v36 : BitVec 32 := Scalar.extui v35
  let c0_i32_15 : BitVec 32 := 0#32
  let v37 : BitVec 1 := Scalar.cmpi .slt c4_i32 c0_i32_15
  let v38 : BitVec 32 := Scalar.extui v37
  let v39 : BitVec 32 := Scalar.subi v36 v38
  let v40 : BitVec 1 := Scalar.cmpi .ne v34 v39
  let v41 : BitVec 32 := Scalar.remsi arg1 c4_i32
  let c0_i32_16 : BitVec 32 := 0#32
  let v42 : BitVec 1 := Scalar.cmpi .ne v41 c0_i32_16
  let v43 : BitVec 1 := Scalar.andi v40 v42
  let v29 : BitVec 32 := Scalar.divsi arg1 c4_i32
  let c1_i32 : BitVec 32 := 1#32
  let v44 : BitVec 32 := Scalar.subi v29 c1_i32
  let v45 : BitVec 32 := Scalar.select v43 v44 v29
  let c1_i32_84 : BitVec 32 := 1#32
  let v162 : BitVec 32 := Scalar.subi v45 c1_i32_84
  let c0_i32_25 : BitVec 32 := 0#32
  let v61 : BitVec 32 := Scalar.subi v45 c0_i32_25
  let c1_i32_26 : BitVec 32 := 1#32
  let v63 : BitVec 32 := Scalar.divsi v61 c1_i32_26
  let v64 : BitVec 32 := Scalar.muli v63 c1_i32_26
  let v65 : BitVec 32 := Scalar.addi c0_i32_25 v64
  let c1_i32_28 : BitVec 32 := 1#32
  let arg14 : BitVec 32 := Scf.iv v65 c1_i32_28 k0_t2
  let v163 : BitVec 32 := Scalar.subi v162 arg14
  let c1_i32_85 : BitVec 32 := 1#32
  let v164 : BitVec 32 := Scalar.addi v163 c1_i32_85
  let c4_i32_92 : BitVec 32 := 4#32
  let v171 : BitVec 32 := Scalar.muli v164 c4_i32_92
  let c0_i32_93 : BitVec 32 := 0#32
  let v172 : BitVec 32 := Scalar.addi v171 c0_i32_93
  let c256_i32_121 : BitVec 32 := 256#32
  let v212 : BitVec 32 := Scalar.muli v172 c256_i32_121
  v212
def k0_mult69 (i : grid0.Coords) (k0_t2 : Fin (k0_t2_loop i).trips) : BitVec 32 :=
  let arg1 : BitVec 32 := BitVec.ofNat 32 (i 1).val
  let c0_i32_12 : BitVec 32 := 0#32
  let v30 : BitVec 1 := Scalar.cmpi .sgt arg1 c0_i32_12
  let v31 : BitVec 32 := Scalar.extui v30
  let c0_i32_13 : BitVec 32 := 0#32
  let v32 : BitVec 1 := Scalar.cmpi .slt arg1 c0_i32_13
  let v33 : BitVec 32 := Scalar.extui v32
  let v34 : BitVec 32 := Scalar.subi v31 v33
  let c4_i32 : BitVec 32 := 4#32
  let c0_i32_14 : BitVec 32 := 0#32
  let v35 : BitVec 1 := Scalar.cmpi .sgt c4_i32 c0_i32_14
  let v36 : BitVec 32 := Scalar.extui v35
  let c0_i32_15 : BitVec 32 := 0#32
  let v37 : BitVec 1 := Scalar.cmpi .slt c4_i32 c0_i32_15
  let v38 : BitVec 32 := Scalar.extui v37
  let v39 : BitVec 32 := Scalar.subi v36 v38
  let v40 : BitVec 1 := Scalar.cmpi .ne v34 v39
  let v41 : BitVec 32 := Scalar.remsi arg1 c4_i32
  let c0_i32_16 : BitVec 32 := 0#32
  let v42 : BitVec 1 := Scalar.cmpi .ne v41 c0_i32_16
  let v43 : BitVec 1 := Scalar.andi v40 v42
  let v29 : BitVec 32 := Scalar.divsi arg1 c4_i32
  let c1_i32 : BitVec 32 := 1#32
  let v44 : BitVec 32 := Scalar.subi v29 c1_i32
  let v45 : BitVec 32 := Scalar.select v43 v44 v29
  let c1_i32_84 : BitVec 32 := 1#32
  let v162 : BitVec 32 := Scalar.subi v45 c1_i32_84
  let c0_i32_25 : BitVec 32 := 0#32
  let v61 : BitVec 32 := Scalar.subi v45 c0_i32_25
  let c1_i32_26 : BitVec 32 := 1#32
  let v63 : BitVec 32 := Scalar.divsi v61 c1_i32_26
  let v64 : BitVec 32 := Scalar.muli v63 c1_i32_26
  let v65 : BitVec 32 := Scalar.addi c0_i32_25 v64
  let c1_i32_28 : BitVec 32 := 1#32
  let arg14 : BitVec 32 := Scf.iv v65 c1_i32_28 k0_t2
  let v163 : BitVec 32 := Scalar.subi v162 arg14
  let c1_i32_166 : BitVec 32 := 1#32
  let v305 : BitVec 32 := Scalar.subi v163 c1_i32_166
  let c0_i32_167 : BitVec 32 := 0#32
  let v306 : BitVec 32 := Scalar.maxsi v305 c0_i32_167
  let c4_i32_168 : BitVec 32 := 4#32
  let v307 : BitVec 32 := Scalar.muli v306 c4_i32_168
  let c3_i32_169 : BitVec 32 := 3#32
  let v308 : BitVec 32 := Scalar.addi v307 c3_i32_169
  let c256_i32_176 : BitVec 32 := 256#32
  let v315 : BitVec 32 := Scalar.muli v308 c256_i32_176
  v315
def k0_off20 (i : grid0.Coords) (k0_t2 : Fin (k0_t2_loop i).trips) (c3_i32_169 : BitVec 32) : Fin 3 → Nat :=
  let c0_177 : Index := 0#32
  let c0_178 : Index := 0#32
  let arg1 : BitVec 32 := BitVec.ofNat 32 (i 1).val
  let c0_i32_12 : BitVec 32 := 0#32
  let v30 : BitVec 1 := Scalar.cmpi .sgt arg1 c0_i32_12
  let v31 : BitVec 32 := Scalar.extui v30
  let c0_i32_13 : BitVec 32 := 0#32
  let v32 : BitVec 1 := Scalar.cmpi .slt arg1 c0_i32_13
  let v33 : BitVec 32 := Scalar.extui v32
  let v34 : BitVec 32 := Scalar.subi v31 v33
  let c4_i32 : BitVec 32 := 4#32
  let c0_i32_14 : BitVec 32 := 0#32
  let v35 : BitVec 1 := Scalar.cmpi .sgt c4_i32 c0_i32_14
  let v36 : BitVec 32 := Scalar.extui v35
  let c0_i32_15 : BitVec 32 := 0#32
  let v37 : BitVec 1 := Scalar.cmpi .slt c4_i32 c0_i32_15
  let v38 : BitVec 32 := Scalar.extui v37
  let v39 : BitVec 32 := Scalar.subi v36 v38
  let v40 : BitVec 1 := Scalar.cmpi .ne v34 v39
  let v41 : BitVec 32 := Scalar.remsi arg1 c4_i32
  let c0_i32_16 : BitVec 32 := 0#32
  let v42 : BitVec 1 := Scalar.cmpi .ne v41 c0_i32_16
  let v43 : BitVec 1 := Scalar.andi v40 v42
  let v29 : BitVec 32 := Scalar.divsi arg1 c4_i32
  let c1_i32 : BitVec 32 := 1#32
  let v44 : BitVec 32 := Scalar.subi v29 c1_i32
  let v45 : BitVec 32 := Scalar.select v43 v44 v29
  let c1_i32_84 : BitVec 32 := 1#32
  let v162 : BitVec 32 := Scalar.subi v45 c1_i32_84
  let c0_i32_25 : BitVec 32 := 0#32
  let v61 : BitVec 32 := Scalar.subi v45 c0_i32_25
  let c1_i32_26 : BitVec 32 := 1#32
  let v63 : BitVec 32 := Scalar.divsi v61 c1_i32_26
  let v64 : BitVec 32 := Scalar.muli v63 c1_i32_26
  let v65 : BitVec 32 := Scalar.addi c0_i32_25 v64
  let c1_i32_28 : BitVec 32 := 1#32
  let arg14 : BitVec 32 := Scf.iv v65 c1_i32_28 k0_t2
  let v163 : BitVec 32 := Scalar.subi v162 arg14
  let c1_i32_166 : BitVec 32 := 1#32
  let v305 : BitVec 32 := Scalar.subi v163 c1_i32_166
  let c0_i32_167 : BitVec 32 := 0#32
  let v306 : BitVec 32 := Scalar.maxsi v305 c0_i32_167
  let c4_i32_168 : BitVec 32 := 4#32
  let v307 : BitVec 32 := Scalar.muli v306 c4_i32_168
  let v308 : BitVec 32 := Scalar.addi v307 c3_i32_169
  let c256_i32_176 : BitVec 32 := 256#32
  let v315 : BitVec 32 := Scalar.muli v308 c256_i32_176
  let v316 : BitVec 32 := v315
  let v317 : Index := Scalar.indexCast v316
  ![0, 0, v317.toNat]
def k0_mult70 (i : grid0.Coords) (k0_t2 : Fin (k0_t2_loop i).trips) : BitVec 32 :=
  let arg1 : BitVec 32 := BitVec.ofNat 32 (i 1).val
  let c0_i32_12 : BitVec 32 := 0#32
  let v30 : BitVec 1 := Scalar.cmpi .sgt arg1 c0_i32_12
  let v31 : BitVec 32 := Scalar.extui v30
  let c0_i32_13 : BitVec 32 := 0#32
  let v32 : BitVec 1 := Scalar.cmpi .slt arg1 c0_i32_13
  let v33 : BitVec 32 := Scalar.extui v32
  let v34 : BitVec 32 := Scalar.subi v31 v33
  let c4_i32 : BitVec 32 := 4#32
  let c0_i32_14 : BitVec 32 := 0#32
  let v35 : BitVec 1 := Scalar.cmpi .sgt c4_i32 c0_i32_14
  let v36 : BitVec 32 := Scalar.extui v35
  let c0_i32_15 : BitVec 32 := 0#32
  let v37 : BitVec 1 := Scalar.cmpi .slt c4_i32 c0_i32_15
  let v38 : BitVec 32 := Scalar.extui v37
  let v39 : BitVec 32 := Scalar.subi v36 v38
  let v40 : BitVec 1 := Scalar.cmpi .ne v34 v39
  let v41 : BitVec 32 := Scalar.remsi arg1 c4_i32
  let c0_i32_16 : BitVec 32 := 0#32
  let v42 : BitVec 1 := Scalar.cmpi .ne v41 c0_i32_16
  let v43 : BitVec 1 := Scalar.andi v40 v42
  let v29 : BitVec 32 := Scalar.divsi arg1 c4_i32
  let c1_i32 : BitVec 32 := 1#32
  let v44 : BitVec 32 := Scalar.subi v29 c1_i32
  let v45 : BitVec 32 := Scalar.select v43 v44 v29
  let c1_i32_84 : BitVec 32 := 1#32
  let v162 : BitVec 32 := Scalar.subi v45 c1_i32_84
  let c0_i32_25 : BitVec 32 := 0#32
  let v61 : BitVec 32 := Scalar.subi v45 c0_i32_25
  let c1_i32_26 : BitVec 32 := 1#32
  let v63 : BitVec 32 := Scalar.divsi v61 c1_i32_26
  let v64 : BitVec 32 := Scalar.muli v63 c1_i32_26
  let v65 : BitVec 32 := Scalar.addi c0_i32_25 v64
  let c1_i32_28 : BitVec 32 := 1#32
  let arg14 : BitVec 32 := Scf.iv v65 c1_i32_28 k0_t2
  let v163 : BitVec 32 := Scalar.subi v162 arg14
  let c1_i32_166 : BitVec 32 := 1#32
  let v305 : BitVec 32 := Scalar.subi v163 c1_i32_166
  let c0_i32_167 : BitVec 32 := 0#32
  let v306 : BitVec 32 := Scalar.maxsi v305 c0_i32_167
  let c4_i32_170 : BitVec 32 := 4#32
  let v309 : BitVec 32 := Scalar.muli v306 c4_i32_170
  let c2_i32_171 : BitVec 32 := 2#32
  let v310 : BitVec 32 := Scalar.addi v309 c2_i32_171
  let c256_i32_183 : BitVec 32 := 256#32
  let v324 : BitVec 32 := Scalar.muli v310 c256_i32_183
  v324
def k0_mult71 (i : grid0.Coords) (k0_t2 : Fin (k0_t2_loop i).trips) : BitVec 32 :=
  let arg1 : BitVec 32 := BitVec.ofNat 32 (i 1).val
  let c0_i32_12 : BitVec 32 := 0#32
  let v30 : BitVec 1 := Scalar.cmpi .sgt arg1 c0_i32_12
  let v31 : BitVec 32 := Scalar.extui v30
  let c0_i32_13 : BitVec 32 := 0#32
  let v32 : BitVec 1 := Scalar.cmpi .slt arg1 c0_i32_13
  let v33 : BitVec 32 := Scalar.extui v32
  let v34 : BitVec 32 := Scalar.subi v31 v33
  let c4_i32 : BitVec 32 := 4#32
  let c0_i32_14 : BitVec 32 := 0#32
  let v35 : BitVec 1 := Scalar.cmpi .sgt c4_i32 c0_i32_14
  let v36 : BitVec 32 := Scalar.extui v35
  let c0_i32_15 : BitVec 32 := 0#32
  let v37 : BitVec 1 := Scalar.cmpi .slt c4_i32 c0_i32_15
  let v38 : BitVec 32 := Scalar.extui v37
  let v39 : BitVec 32 := Scalar.subi v36 v38
  let v40 : BitVec 1 := Scalar.cmpi .ne v34 v39
  let v41 : BitVec 32 := Scalar.remsi arg1 c4_i32
  let c0_i32_16 : BitVec 32 := 0#32
  let v42 : BitVec 1 := Scalar.cmpi .ne v41 c0_i32_16
  let v43 : BitVec 1 := Scalar.andi v40 v42
  let v29 : BitVec 32 := Scalar.divsi arg1 c4_i32
  let c1_i32 : BitVec 32 := 1#32
  let v44 : BitVec 32 := Scalar.subi v29 c1_i32
  let v45 : BitVec 32 := Scalar.select v43 v44 v29
  let c1_i32_84 : BitVec 32 := 1#32
  let v162 : BitVec 32 := Scalar.subi v45 c1_i32_84
  let c0_i32_25 : BitVec 32 := 0#32
  let v61 : BitVec 32 := Scalar.subi v45 c0_i32_25
  let c1_i32_26 : BitVec 32 := 1#32
  let v63 : BitVec 32 := Scalar.divsi v61 c1_i32_26
  let v64 : BitVec 32 := Scalar.muli v63 c1_i32_26
  let v65 : BitVec 32 := Scalar.addi c0_i32_25 v64
  let c1_i32_28 : BitVec 32 := 1#32
  let arg14 : BitVec 32 := Scf.iv v65 c1_i32_28 k0_t2
  let v163 : BitVec 32 := Scalar.subi v162 arg14
  let c1_i32_166 : BitVec 32 := 1#32
  let v305 : BitVec 32 := Scalar.subi v163 c1_i32_166
  let c0_i32_167 : BitVec 32 := 0#32
  let v306 : BitVec 32 := Scalar.maxsi v305 c0_i32_167
  let c4_i32_172 : BitVec 32 := 4#32
  let v311 : BitVec 32 := Scalar.muli v306 c4_i32_172
  let c1_i32_173 : BitVec 32 := 1#32
  let v312 : BitVec 32 := Scalar.addi v311 c1_i32_173
  let c256_i32_190 : BitVec 32 := 256#32
  let v333 : BitVec 32 := Scalar.muli v312 c256_i32_190
  v333
def k0_mult72 (i : grid0.Coords) (k0_t2 : Fin (k0_t2_loop i).trips) : BitVec 32 :=
  let arg1 : BitVec 32 := BitVec.ofNat 32 (i 1).val
  let c0_i32_12 : BitVec 32 := 0#32
  let v30 : BitVec 1 := Scalar.cmpi .sgt arg1 c0_i32_12
  let v31 : BitVec 32 := Scalar.extui v30
  let c0_i32_13 : BitVec 32 := 0#32
  let v32 : BitVec 1 := Scalar.cmpi .slt arg1 c0_i32_13
  let v33 : BitVec 32 := Scalar.extui v32
  let v34 : BitVec 32 := Scalar.subi v31 v33
  let c4_i32 : BitVec 32 := 4#32
  let c0_i32_14 : BitVec 32 := 0#32
  let v35 : BitVec 1 := Scalar.cmpi .sgt c4_i32 c0_i32_14
  let v36 : BitVec 32 := Scalar.extui v35
  let c0_i32_15 : BitVec 32 := 0#32
  let v37 : BitVec 1 := Scalar.cmpi .slt c4_i32 c0_i32_15
  let v38 : BitVec 32 := Scalar.extui v37
  let v39 : BitVec 32 := Scalar.subi v36 v38
  let v40 : BitVec 1 := Scalar.cmpi .ne v34 v39
  let v41 : BitVec 32 := Scalar.remsi arg1 c4_i32
  let c0_i32_16 : BitVec 32 := 0#32
  let v42 : BitVec 1 := Scalar.cmpi .ne v41 c0_i32_16
  let v43 : BitVec 1 := Scalar.andi v40 v42
  let v29 : BitVec 32 := Scalar.divsi arg1 c4_i32
  let c1_i32 : BitVec 32 := 1#32
  let v44 : BitVec 32 := Scalar.subi v29 c1_i32
  let v45 : BitVec 32 := Scalar.select v43 v44 v29
  let c1_i32_84 : BitVec 32 := 1#32
  let v162 : BitVec 32 := Scalar.subi v45 c1_i32_84
  let c0_i32_25 : BitVec 32 := 0#32
  let v61 : BitVec 32 := Scalar.subi v45 c0_i32_25
  let c1_i32_26 : BitVec 32 := 1#32
  let v63 : BitVec 32 := Scalar.divsi v61 c1_i32_26
  let v64 : BitVec 32 := Scalar.muli v63 c1_i32_26
  let v65 : BitVec 32 := Scalar.addi c0_i32_25 v64
  let c1_i32_28 : BitVec 32 := 1#32
  let arg14 : BitVec 32 := Scf.iv v65 c1_i32_28 k0_t2
  let v163 : BitVec 32 := Scalar.subi v162 arg14
  let c1_i32_166 : BitVec 32 := 1#32
  let v305 : BitVec 32 := Scalar.subi v163 c1_i32_166
  let c0_i32_167 : BitVec 32 := 0#32
  let v306 : BitVec 32 := Scalar.maxsi v305 c0_i32_167
  let c4_i32_174 : BitVec 32 := 4#32
  let v313 : BitVec 32 := Scalar.muli v306 c4_i32_174
  let c0_i32_175 : BitVec 32 := 0#32
  let v314 : BitVec 32 := Scalar.addi v313 c0_i32_175
  let c256_i32_197 : BitVec 32 := 256#32
  let v342 : BitVec 32 := Scalar.muli v314 c256_i32_197
  v342
def k0_mult73 (i : grid0.Coords) (k0_t2 : Fin (k0_t2_loop i).trips) : BitVec 32 :=
  let arg1 : BitVec 32 := BitVec.ofNat 32 (i 1).val
  let c0_i32_12 : BitVec 32 := 0#32
  let v30 : BitVec 1 := Scalar.cmpi .sgt arg1 c0_i32_12
  let v31 : BitVec 32 := Scalar.extui v30
  let c0_i32_13 : BitVec 32 := 0#32
  let v32 : BitVec 1 := Scalar.cmpi .slt arg1 c0_i32_13
  let v33 : BitVec 32 := Scalar.extui v32
  let v34 : BitVec 32 := Scalar.subi v31 v33
  let c4_i32 : BitVec 32 := 4#32
  let c0_i32_14 : BitVec 32 := 0#32
  let v35 : BitVec 1 := Scalar.cmpi .sgt c4_i32 c0_i32_14
  let v36 : BitVec 32 := Scalar.extui v35
  let c0_i32_15 : BitVec 32 := 0#32
  let v37 : BitVec 1 := Scalar.cmpi .slt c4_i32 c0_i32_15
  let v38 : BitVec 32 := Scalar.extui v37
  let v39 : BitVec 32 := Scalar.subi v36 v38
  let v40 : BitVec 1 := Scalar.cmpi .ne v34 v39
  let v41 : BitVec 32 := Scalar.remsi arg1 c4_i32
  let c0_i32_16 : BitVec 32 := 0#32
  let v42 : BitVec 1 := Scalar.cmpi .ne v41 c0_i32_16
  let v43 : BitVec 1 := Scalar.andi v40 v42
  let v29 : BitVec 32 := Scalar.divsi arg1 c4_i32
  let c1_i32 : BitVec 32 := 1#32
  let v44 : BitVec 32 := Scalar.subi v29 c1_i32
  let v45 : BitVec 32 := Scalar.select v43 v44 v29
  let c1_i32_84 : BitVec 32 := 1#32
  let v162 : BitVec 32 := Scalar.subi v45 c1_i32_84
  let c0_i32_25 : BitVec 32 := 0#32
  let v61 : BitVec 32 := Scalar.subi v45 c0_i32_25
  let c1_i32_26 : BitVec 32 := 1#32
  let v63 : BitVec 32 := Scalar.divsi v61 c1_i32_26
  let v64 : BitVec 32 := Scalar.muli v63 c1_i32_26
  let v65 : BitVec 32 := Scalar.addi c0_i32_25 v64
  let c1_i32_28 : BitVec 32 := 1#32
  let arg14 : BitVec 32 := Scf.iv v65 c1_i32_28 k0_t2
  let v163 : BitVec 32 := Scalar.subi v162 arg14
  let c1_i32_166 : BitVec 32 := 1#32
  let v305 : BitVec 32 := Scalar.subi v163 c1_i32_166
  let c0_i32_204 : BitVec 32 := 0#32
  let v351 : BitVec 32 := Scalar.maxsi v305 c0_i32_204
  let c4_i32_205 : BitVec 32 := 4#32
  let v352 : BitVec 32 := Scalar.muli v351 c4_i32_205
  let c3_i32_206 : BitVec 32 := 3#32
  let v353 : BitVec 32 := Scalar.addi v352 c3_i32_206
  let c256_i32_213 : BitVec 32 := 256#32
  let v360 : BitVec 32 := Scalar.muli v353 c256_i32_213
  v360
def k0_mult74 (i : grid0.Coords) (k0_t2 : Fin (k0_t2_loop i).trips) : BitVec 32 :=
  let arg1 : BitVec 32 := BitVec.ofNat 32 (i 1).val
  let c0_i32_12 : BitVec 32 := 0#32
  let v30 : BitVec 1 := Scalar.cmpi .sgt arg1 c0_i32_12
  let v31 : BitVec 32 := Scalar.extui v30
  let c0_i32_13 : BitVec 32 := 0#32
  let v32 : BitVec 1 := Scalar.cmpi .slt arg1 c0_i32_13
  let v33 : BitVec 32 := Scalar.extui v32
  let v34 : BitVec 32 := Scalar.subi v31 v33
  let c4_i32 : BitVec 32 := 4#32
  let c0_i32_14 : BitVec 32 := 0#32
  let v35 : BitVec 1 := Scalar.cmpi .sgt c4_i32 c0_i32_14
  let v36 : BitVec 32 := Scalar.extui v35
  let c0_i32_15 : BitVec 32 := 0#32
  let v37 : BitVec 1 := Scalar.cmpi .slt c4_i32 c0_i32_15
  let v38 : BitVec 32 := Scalar.extui v37
  let v39 : BitVec 32 := Scalar.subi v36 v38
  let v40 : BitVec 1 := Scalar.cmpi .ne v34 v39
  let v41 : BitVec 32 := Scalar.remsi arg1 c4_i32
  let c0_i32_16 : BitVec 32 := 0#32
  let v42 : BitVec 1 := Scalar.cmpi .ne v41 c0_i32_16
  let v43 : BitVec 1 := Scalar.andi v40 v42
  let v29 : BitVec 32 := Scalar.divsi arg1 c4_i32
  let c1_i32 : BitVec 32 := 1#32
  let v44 : BitVec 32 := Scalar.subi v29 c1_i32
  let v45 : BitVec 32 := Scalar.select v43 v44 v29
  let c1_i32_84 : BitVec 32 := 1#32
  let v162 : BitVec 32 := Scalar.subi v45 c1_i32_84
  let c0_i32_25 : BitVec 32 := 0#32
  let v61 : BitVec 32 := Scalar.subi v45 c0_i32_25
  let c1_i32_26 : BitVec 32 := 1#32
  let v63 : BitVec 32 := Scalar.divsi v61 c1_i32_26
  let v64 : BitVec 32 := Scalar.muli v63 c1_i32_26
  let v65 : BitVec 32 := Scalar.addi c0_i32_25 v64
  let c1_i32_28 : BitVec 32 := 1#32
  let arg14 : BitVec 32 := Scf.iv v65 c1_i32_28 k0_t2
  let v163 : BitVec 32 := Scalar.subi v162 arg14
  let c1_i32_166 : BitVec 32 := 1#32
  let v305 : BitVec 32 := Scalar.subi v163 c1_i32_166
  let c0_i32_204 : BitVec 32 := 0#32
  let v351 : BitVec 32 := Scalar.maxsi v305 c0_i32_204
  let c4_i32_207 : BitVec 32 := 4#32
  let v354 : BitVec 32 := Scalar.muli v351 c4_i32_207
  let c2_i32_208 : BitVec 32 := 2#32
  let v355 : BitVec 32 := Scalar.addi v354 c2_i32_208
  let c256_i32_220 : BitVec 32 := 256#32
  let v369 : BitVec 32 := Scalar.muli v355 c256_i32_220
  v369
def k0_mult75 (i : grid0.Coords) (k0_t2 : Fin (k0_t2_loop i).trips) : BitVec 32 :=
  let arg1 : BitVec 32 := BitVec.ofNat 32 (i 1).val
  let c0_i32_12 : BitVec 32 := 0#32
  let v30 : BitVec 1 := Scalar.cmpi .sgt arg1 c0_i32_12
  let v31 : BitVec 32 := Scalar.extui v30
  let c0_i32_13 : BitVec 32 := 0#32
  let v32 : BitVec 1 := Scalar.cmpi .slt arg1 c0_i32_13
  let v33 : BitVec 32 := Scalar.extui v32
  let v34 : BitVec 32 := Scalar.subi v31 v33
  let c4_i32 : BitVec 32 := 4#32
  let c0_i32_14 : BitVec 32 := 0#32
  let v35 : BitVec 1 := Scalar.cmpi .sgt c4_i32 c0_i32_14
  let v36 : BitVec 32 := Scalar.extui v35
  let c0_i32_15 : BitVec 32 := 0#32
  let v37 : BitVec 1 := Scalar.cmpi .slt c4_i32 c0_i32_15
  let v38 : BitVec 32 := Scalar.extui v37
  let v39 : BitVec 32 := Scalar.subi v36 v38
  let v40 : BitVec 1 := Scalar.cmpi .ne v34 v39
  let v41 : BitVec 32 := Scalar.remsi arg1 c4_i32
  let c0_i32_16 : BitVec 32 := 0#32
  let v42 : BitVec 1 := Scalar.cmpi .ne v41 c0_i32_16
  let v43 : BitVec 1 := Scalar.andi v40 v42
  let v29 : BitVec 32 := Scalar.divsi arg1 c4_i32
  let c1_i32 : BitVec 32 := 1#32
  let v44 : BitVec 32 := Scalar.subi v29 c1_i32
  let v45 : BitVec 32 := Scalar.select v43 v44 v29
  let c1_i32_84 : BitVec 32 := 1#32
  let v162 : BitVec 32 := Scalar.subi v45 c1_i32_84
  let c0_i32_25 : BitVec 32 := 0#32
  let v61 : BitVec 32 := Scalar.subi v45 c0_i32_25
  let c1_i32_26 : BitVec 32 := 1#32
  let v63 : BitVec 32 := Scalar.divsi v61 c1_i32_26
  let v64 : BitVec 32 := Scalar.muli v63 c1_i32_26
  let v65 : BitVec 32 := Scalar.addi c0_i32_25 v64
  let c1_i32_28 : BitVec 32 := 1#32
  let arg14 : BitVec 32 := Scf.iv v65 c1_i32_28 k0_t2
  let v163 : BitVec 32 := Scalar.subi v162 arg14
  let c1_i32_166 : BitVec 32 := 1#32
  let v305 : BitVec 32 := Scalar.subi v163 c1_i32_166
  let c0_i32_204 : BitVec 32 := 0#32
  let v351 : BitVec 32 := Scalar.maxsi v305 c0_i32_204
  let c4_i32_209 : BitVec 32 := 4#32
  let v356 : BitVec 32 := Scalar.muli v351 c4_i32_209
  let c1_i32_210 : BitVec 32 := 1#32
  let v357 : BitVec 32 := Scalar.addi v356 c1_i32_210
  let c256_i32_227 : BitVec 32 := 256#32
  let v378 : BitVec 32 := Scalar.muli v357 c256_i32_227
  v378
def k0_mult76 (i : grid0.Coords) (k0_t2 : Fin (k0_t2_loop i).trips) : BitVec 32 :=
  let arg1 : BitVec 32 := BitVec.ofNat 32 (i 1).val
  let c0_i32_12 : BitVec 32 := 0#32
  let v30 : BitVec 1 := Scalar.cmpi .sgt arg1 c0_i32_12
  let v31 : BitVec 32 := Scalar.extui v30
  let c0_i32_13 : BitVec 32 := 0#32
  let v32 : BitVec 1 := Scalar.cmpi .slt arg1 c0_i32_13
  let v33 : BitVec 32 := Scalar.extui v32
  let v34 : BitVec 32 := Scalar.subi v31 v33
  let c4_i32 : BitVec 32 := 4#32
  let c0_i32_14 : BitVec 32 := 0#32
  let v35 : BitVec 1 := Scalar.cmpi .sgt c4_i32 c0_i32_14
  let v36 : BitVec 32 := Scalar.extui v35
  let c0_i32_15 : BitVec 32 := 0#32
  let v37 : BitVec 1 := Scalar.cmpi .slt c4_i32 c0_i32_15
  let v38 : BitVec 32 := Scalar.extui v37
  let v39 : BitVec 32 := Scalar.subi v36 v38
  let v40 : BitVec 1 := Scalar.cmpi .ne v34 v39
  let v41 : BitVec 32 := Scalar.remsi arg1 c4_i32
  let c0_i32_16 : BitVec 32 := 0#32
  let v42 : BitVec 1 := Scalar.cmpi .ne v41 c0_i32_16
  let v43 : BitVec 1 := Scalar.andi v40 v42
  let v29 : BitVec 32 := Scalar.divsi arg1 c4_i32
  let c1_i32 : BitVec 32 := 1#32
  let v44 : BitVec 32 := Scalar.subi v29 c1_i32
  let v45 : BitVec 32 := Scalar.select v43 v44 v29
  let c1_i32_84 : BitVec 32 := 1#32
  let v162 : BitVec 32 := Scalar.subi v45 c1_i32_84
  let c0_i32_25 : BitVec 32 := 0#32
  let v61 : BitVec 32 := Scalar.subi v45 c0_i32_25
  let c1_i32_26 : BitVec 32 := 1#32
  let v63 : BitVec 32 := Scalar.divsi v61 c1_i32_26
  let v64 : BitVec 32 := Scalar.muli v63 c1_i32_26
  let v65 : BitVec 32 := Scalar.addi c0_i32_25 v64
  let c1_i32_28 : BitVec 32 := 1#32
  let arg14 : BitVec 32 := Scf.iv v65 c1_i32_28 k0_t2
  let v163 : BitVec 32 := Scalar.subi v162 arg14
  let c1_i32_166 : BitVec 32 := 1#32
  let v305 : BitVec 32 := Scalar.subi v163 c1_i32_166
  let c0_i32_204 : BitVec 32 := 0#32
  let v351 : BitVec 32 := Scalar.maxsi v305 c0_i32_204
  let c4_i32_211 : BitVec 32 := 4#32
  let v358 : BitVec 32 := Scalar.muli v351 c4_i32_211
  let c0_i32_212 : BitVec 32 := 0#32
  let v359 : BitVec 32 := Scalar.addi v358 c0_i32_212
  let c256_i32_234 : BitVec 32 := 256#32
  let v387 : BitVec 32 := Scalar.muli v359 c256_i32_234
  v387
def k0_off21 (i : grid0.Coords) (k0_t2 : Fin (k0_t2_loop i).trips) (c3_i32_246 : BitVec 32) : Fin 3 → Nat :=
  let arg1 : BitVec 32 := BitVec.ofNat 32 (i 1).val
  let c0_i32_12 : BitVec 32 := 0#32
  let v30 : BitVec 1 := Scalar.cmpi .sgt arg1 c0_i32_12
  let v31 : BitVec 32 := Scalar.extui v30
  let c0_i32_13 : BitVec 32 := 0#32
  let v32 : BitVec 1 := Scalar.cmpi .slt arg1 c0_i32_13
  let v33 : BitVec 32 := Scalar.extui v32
  let v34 : BitVec 32 := Scalar.subi v31 v33
  let c4_i32 : BitVec 32 := 4#32
  let c0_i32_14 : BitVec 32 := 0#32
  let v35 : BitVec 1 := Scalar.cmpi .sgt c4_i32 c0_i32_14
  let v36 : BitVec 32 := Scalar.extui v35
  let c0_i32_15 : BitVec 32 := 0#32
  let v37 : BitVec 1 := Scalar.cmpi .slt c4_i32 c0_i32_15
  let v38 : BitVec 32 := Scalar.extui v37
  let v39 : BitVec 32 := Scalar.subi v36 v38
  let v40 : BitVec 1 := Scalar.cmpi .ne v34 v39
  let v41 : BitVec 32 := Scalar.remsi arg1 c4_i32
  let c0_i32_16 : BitVec 32 := 0#32
  let v42 : BitVec 1 := Scalar.cmpi .ne v41 c0_i32_16
  let v43 : BitVec 1 := Scalar.andi v40 v42
  let v29 : BitVec 32 := Scalar.divsi arg1 c4_i32
  let c1_i32 : BitVec 32 := 1#32
  let v44 : BitVec 32 := Scalar.subi v29 c1_i32
  let v45 : BitVec 32 := Scalar.select v43 v44 v29
  let c1_i32_84 : BitVec 32 := 1#32
  let v162 : BitVec 32 := Scalar.subi v45 c1_i32_84
  let c0_i32_25 : BitVec 32 := 0#32
  let v61 : BitVec 32 := Scalar.subi v45 c0_i32_25
  let c1_i32_26 : BitVec 32 := 1#32
  let v63 : BitVec 32 := Scalar.divsi v61 c1_i32_26
  let v64 : BitVec 32 := Scalar.muli v63 c1_i32_26
  let v65 : BitVec 32 := Scalar.addi c0_i32_25 v64
  let c1_i32_28 : BitVec 32 := 1#32
  let arg14 : BitVec 32 := Scf.iv v65 c1_i32_28 k0_t2
  let v163 : BitVec 32 := Scalar.subi v162 arg14
  let c4_i32_245 : BitVec 32 := 4#32
  let v424 : BitVec 32 := Scalar.muli v163 c4_i32_245
  let v425 : BitVec 32 := Scalar.addi v424 c3_i32_246
  let v437 : Index := Scalar.indexCast v425
  let c0_256 : Index := 0#32
  let c0_257 : Index := 0#32
  ![v437.toNat, 0, 0]
def k0_mult77 : BitVec 32 :=
  let c768_i32 : BitVec 32 := 768#32
  c768_i32
def k0_mult78 : BitVec 32 :=
  let c512_i32 : BitVec 32 := 512#32
  c512_i32
def k0_mult79 : BitVec 32 :=
  let c256_i32 : BitVec 32 := 256#32
  c256_i32
def k0_mult80 : BitVec 32 :=
  let c0_i32_51 : BitVec 32 := 0#32
  c0_i32_51
@[reducible] def k0_t3_loop (i : grid0.Coords) : Scf.Loop 32 :=
  let c0_i32_68 : BitVec 32 := 0#32
  let arg1 : BitVec 32 := BitVec.ofNat 32 (i 1).val
  let c0_i32_12 : BitVec 32 := 0#32
  let v30 : BitVec 1 := Scalar.cmpi .sgt arg1 c0_i32_12
  let v31 : BitVec 32 := Scalar.extui v30
  let c0_i32_13 : BitVec 32 := 0#32
  let v32 : BitVec 1 := Scalar.cmpi .slt arg1 c0_i32_13
  let v33 : BitVec 32 := Scalar.extui v32
  let v34 : BitVec 32 := Scalar.subi v31 v33
  let c4_i32 : BitVec 32 := 4#32
  let c0_i32_14 : BitVec 32 := 0#32
  let v35 : BitVec 1 := Scalar.cmpi .sgt c4_i32 c0_i32_14
  let v36 : BitVec 32 := Scalar.extui v35
  let c0_i32_15 : BitVec 32 := 0#32
  let v37 : BitVec 1 := Scalar.cmpi .slt c4_i32 c0_i32_15
  let v38 : BitVec 32 := Scalar.extui v37
  let v39 : BitVec 32 := Scalar.subi v36 v38
  let v40 : BitVec 1 := Scalar.cmpi .ne v34 v39
  let v41 : BitVec 32 := Scalar.remsi arg1 c4_i32
  let c0_i32_16 : BitVec 32 := 0#32
  let v42 : BitVec 1 := Scalar.cmpi .ne v41 c0_i32_16
  let v43 : BitVec 1 := Scalar.andi v40 v42
  let v29 : BitVec 32 := Scalar.divsi arg1 c4_i32
  let c1_i32 : BitVec 32 := 1#32
  let v44 : BitVec 32 := Scalar.subi v29 c1_i32
  let v45 : BitVec 32 := Scalar.select v43 v44 v29
  let c1_i32_59 : BitVec 32 := 1#32
  let v116 : BitVec 32 := Scalar.addi v45 c1_i32_59
  let c0_i32_60 : BitVec 32 := 0#32
  let v118 : BitVec 1 := Scalar.cmpi .sgt v116 c0_i32_60
  let v119 : BitVec 32 := Scalar.extui v118
  let c0_i32_61 : BitVec 32 := 0#32
  let v120 : BitVec 1 := Scalar.cmpi .slt v116 c0_i32_61
  let v121 : BitVec 32 := Scalar.extui v120
  let v122 : BitVec 32 := Scalar.subi v119 v121
  let c2_i32 : BitVec 32 := 2#32
  let c0_i32_62 : BitVec 32 := 0#32
  let v123 : BitVec 1 := Scalar.cmpi .sgt c2_i32 c0_i32_62
  let v124 : BitVec 32 := Scalar.extui v123
  let c0_i32_63 : BitVec 32 := 0#32
  let v125 : BitVec 1 := Scalar.cmpi .slt c2_i32 c0_i32_63
  let v126 : BitVec 32 := Scalar.extui v125
  let v127 : BitVec 32 := Scalar.subi v124 v126
  let v128 : BitVec 1 := Scalar.cmpi .ne v122 v127
  let v129 : BitVec 32 := Scalar.remsi v116 c2_i32
  let c0_i32_64 : BitVec 32 := 0#32
  let v130 : BitVec 1 := Scalar.cmpi .ne v129 c0_i32_64
  let v131 : BitVec 1 := Scalar.andi v128 v130
  let v117 : BitVec 32 := Scalar.divsi v116 c2_i32
  let c1_i32_65 : BitVec 32 := 1#32
  let v132 : BitVec 32 := Scalar.subi v117 c1_i32_65
  let v133 : BitVec 32 := Scalar.select v131 v132 v117
  let v136 : BitVec 32 := Scalar.subi v133 c0_i32_68
  let c1_i32_69 : BitVec 32 := 1#32
  let v138 : BitVec 32 := Scalar.divsi v136 c1_i32_69
  let v139 : BitVec 32 := Scalar.muli v138 c1_i32_69
  let v140 : BitVec 32 := Scalar.addi c0_i32_68 v139
  let c1_i32_70 : BitVec 32 := 1#32
  ⟨c0_i32_68, v140, c1_i32_70⟩
def k0_off22 (i : grid0.Coords) (k0_t3 : Fin (k0_t3_loop i).trips) (c0_i32_86 : BitVec 32) : Fin 3 → Nat :=
  let c0_i32_68 : BitVec 32 := 0#32
  let c1_i32_70 : BitVec 32 := 1#32
  let arg14 : BitVec 32 := Scf.iv c0_i32_68 c1_i32_70 k0_t3
  let c2_i32_84 : BitVec 32 := 2#32
  let v162 : BitVec 32 := Scalar.muli arg14 c2_i32_84
  let c4_i32_85 : BitVec 32 := 4#32
  let v163 : BitVec 32 := Scalar.muli v162 c4_i32_85
  let v164 : BitVec 32 := Scalar.addi v163 c0_i32_86
  let v172 : Index := Scalar.indexCast v164
  let c0_91 : Index := 0#32
  let c0_92 : Index := 0#32
  ![v172.toNat, 0, 0]
def k0_mult81 (i : grid0.Coords) (k0_t3 : Fin (k0_t3_loop i).trips) : BitVec 32 :=
  let c0_i32_68 : BitVec 32 := 0#32
  let c1_i32_70 : BitVec 32 := 1#32
  let arg14 : BitVec 32 := Scf.iv c0_i32_68 c1_i32_70 k0_t3
  let c2_i32_84 : BitVec 32 := 2#32
  let v162 : BitVec 32 := Scalar.muli arg14 c2_i32_84
  let c4_i32_85 : BitVec 32 := 4#32
  let v163 : BitVec 32 := Scalar.muli v162 c4_i32_85
  let c0_i32_86 : BitVec 32 := 0#32
  let v164 : BitVec 32 := Scalar.addi v163 c0_i32_86
  let c256_i32_117 : BitVec 32 := 256#32
  let v222 : BitVec 32 := Scalar.muli v164 c256_i32_117
  v222
def k0_off23 (i : grid0.Coords) (k0_t3 : Fin (k0_t3_loop i).trips) (c0_i32_86 : BitVec 32) : Fin 3 → Nat :=
  let c0_118 : Index := 0#32
  let c0_119 : Index := 0#32
  let c0_i32_68 : BitVec 32 := 0#32
  let c1_i32_70 : BitVec 32 := 1#32
  let arg14 : BitVec 32 := Scf.iv c0_i32_68 c1_i32_70 k0_t3
  let c2_i32_84 : BitVec 32 := 2#32
  let v162 : BitVec 32 := Scalar.muli arg14 c2_i32_84
  let c4_i32_85 : BitVec 32 := 4#32
  let v163 : BitVec 32 := Scalar.muli v162 c4_i32_85
  let v164 : BitVec 32 := Scalar.addi v163 c0_i32_86
  let c256_i32_117 : BitVec 32 := 256#32
  let v222 : BitVec 32 := Scalar.muli v164 c256_i32_117
  let v223 : BitVec 32 := v222
  let v224 : Index := Scalar.indexCast v223
  ![0, 0, v224.toNat]
def k0_mult82 (i : grid0.Coords) (k0_t3 : Fin (k0_t3_loop i).trips) : BitVec 32 :=
  let c0_i32_68 : BitVec 32 := 0#32
  let c1_i32_70 : BitVec 32 := 1#32
  let arg14 : BitVec 32 := Scf.iv c0_i32_68 c1_i32_70 k0_t3
  let c2_i32_84 : BitVec 32 := 2#32
  let v162 : BitVec 32 := Scalar.muli arg14 c2_i32_84
  let c4_i32_85 : BitVec 32 := 4#32
  let v163 : BitVec 32 := Scalar.muli v162 c4_i32_85
  let c0_i32_86 : BitVec 32 := 0#32
  let v164 : BitVec 32 := Scalar.addi v163 c0_i32_86
  let c256_i32_123 : BitVec 32 := 256#32
  let v233 : BitVec 32 := Scalar.muli v164 c256_i32_123
  v233
def k0_mult83 (i : grid0.Coords) (k0_t3 : Fin (k0_t3_loop i).trips) : BitVec 32 :=
  let c0_i32_68 : BitVec 32 := 0#32
  let c1_i32_70 : BitVec 32 := 1#32
  let arg14 : BitVec 32 := Scf.iv c0_i32_68 c1_i32_70 k0_t3
  let c2_i32_84 : BitVec 32 := 2#32
  let v162 : BitVec 32 := Scalar.muli arg14 c2_i32_84
  let c4_i32_85 : BitVec 32 := 4#32
  let v163 : BitVec 32 := Scalar.muli v162 c4_i32_85
  let c1_i32_87 : BitVec 32 := 1#32
  let v165 : BitVec 32 := Scalar.addi v163 c1_i32_87
  let c256_i32_130 : BitVec 32 := 256#32
  let v253 : BitVec 32 := Scalar.muli v165 c256_i32_130
  v253
def k0_mult84 (i : grid0.Coords) (k0_t3 : Fin (k0_t3_loop i).trips) : BitVec 32 :=
  let c0_i32_68 : BitVec 32 := 0#32
  let c1_i32_70 : BitVec 32 := 1#32
  let arg14 : BitVec 32 := Scf.iv c0_i32_68 c1_i32_70 k0_t3
  let c2_i32_84 : BitVec 32 := 2#32
  let v162 : BitVec 32 := Scalar.muli arg14 c2_i32_84
  let c4_i32_85 : BitVec 32 := 4#32
  let v163 : BitVec 32 := Scalar.muli v162 c4_i32_85
  let c1_i32_87 : BitVec 32 := 1#32
  let v165 : BitVec 32 := Scalar.addi v163 c1_i32_87
  let c256_i32_136 : BitVec 32 := 256#32
  let v264 : BitVec 32 := Scalar.muli v165 c256_i32_136
  v264
def k0_mult85 (i : grid0.Coords) (k0_t3 : Fin (k0_t3_loop i).trips) : BitVec 32 :=
  let c0_i32_68 : BitVec 32 := 0#32
  let c1_i32_70 : BitVec 32 := 1#32
  let arg14 : BitVec 32 := Scf.iv c0_i32_68 c1_i32_70 k0_t3
  let c2_i32_84 : BitVec 32 := 2#32
  let v162 : BitVec 32 := Scalar.muli arg14 c2_i32_84
  let c4_i32_85 : BitVec 32 := 4#32
  let v163 : BitVec 32 := Scalar.muli v162 c4_i32_85
  let c2_i32_88 : BitVec 32 := 2#32
  let v166 : BitVec 32 := Scalar.addi v163 c2_i32_88
  let c256_i32_143 : BitVec 32 := 256#32
  let v284 : BitVec 32 := Scalar.muli v166 c256_i32_143
  v284
def k0_mult86 (i : grid0.Coords) (k0_t3 : Fin (k0_t3_loop i).trips) : BitVec 32 :=
  let c0_i32_68 : BitVec 32 := 0#32
  let c1_i32_70 : BitVec 32 := 1#32
  let arg14 : BitVec 32 := Scf.iv c0_i32_68 c1_i32_70 k0_t3
  let c2_i32_84 : BitVec 32 := 2#32
  let v162 : BitVec 32 := Scalar.muli arg14 c2_i32_84
  let c4_i32_85 : BitVec 32 := 4#32
  let v163 : BitVec 32 := Scalar.muli v162 c4_i32_85
  let c2_i32_88 : BitVec 32 := 2#32
  let v166 : BitVec 32 := Scalar.addi v163 c2_i32_88
  let c256_i32_149 : BitVec 32 := 256#32
  let v295 : BitVec 32 := Scalar.muli v166 c256_i32_149
  v295
def k0_mult87 (i : grid0.Coords) (k0_t3 : Fin (k0_t3_loop i).trips) : BitVec 32 :=
  let c0_i32_68 : BitVec 32 := 0#32
  let c1_i32_70 : BitVec 32 := 1#32
  let arg14 : BitVec 32 := Scf.iv c0_i32_68 c1_i32_70 k0_t3
  let c2_i32_84 : BitVec 32 := 2#32
  let v162 : BitVec 32 := Scalar.muli arg14 c2_i32_84
  let c4_i32_85 : BitVec 32 := 4#32
  let v163 : BitVec 32 := Scalar.muli v162 c4_i32_85
  let c3_i32_89 : BitVec 32 := 3#32
  let v167 : BitVec 32 := Scalar.addi v163 c3_i32_89
  let c256_i32_156 : BitVec 32 := 256#32
  let v315 : BitVec 32 := Scalar.muli v167 c256_i32_156
  v315
def k0_mult88 (i : grid0.Coords) (k0_t3 : Fin (k0_t3_loop i).trips) : BitVec 32 :=
  let c0_i32_68 : BitVec 32 := 0#32
  let c1_i32_70 : BitVec 32 := 1#32
  let arg14 : BitVec 32 := Scf.iv c0_i32_68 c1_i32_70 k0_t3
  let c2_i32_84 : BitVec 32 := 2#32
  let v162 : BitVec 32 := Scalar.muli arg14 c2_i32_84
  let c4_i32_85 : BitVec 32 := 4#32
  let v163 : BitVec 32 := Scalar.muli v162 c4_i32_85
  let c3_i32_89 : BitVec 32 := 3#32
  let v167 : BitVec 32 := Scalar.addi v163 c3_i32_89
  let c256_i32_162 : BitVec 32 := 256#32
  let v326 : BitVec 32 := Scalar.muli v167 c256_i32_162
  v326
def k0_mult89 (i : grid0.Coords) (k0_t3 : Fin (k0_t3_loop i).trips) : BitVec 32 :=
  let c0_i32_68 : BitVec 32 := 0#32
  let c1_i32_70 : BitVec 32 := 1#32
  let arg14 : BitVec 32 := Scf.iv c0_i32_68 c1_i32_70 k0_t3
  let c2_i32_84 : BitVec 32 := 2#32
  let v162 : BitVec 32 := Scalar.muli arg14 c2_i32_84
  let c4_i32_85 : BitVec 32 := 4#32
  let v163 : BitVec 32 := Scalar.muli v162 c4_i32_85
  let c4_i32_90 : BitVec 32 := 4#32
  let v168 : BitVec 32 := Scalar.addi v163 c4_i32_90
  let c256_i32_169 : BitVec 32 := 256#32
  let v346 : BitVec 32 := Scalar.muli v168 c256_i32_169
  v346
def k0_mult90 (i : grid0.Coords) (k0_t3 : Fin (k0_t3_loop i).trips) : BitVec 32 :=
  let c0_i32_68 : BitVec 32 := 0#32
  let c1_i32_70 : BitVec 32 := 1#32
  let arg14 : BitVec 32 := Scf.iv c0_i32_68 c1_i32_70 k0_t3
  let c2_i32_84 : BitVec 32 := 2#32
  let v162 : BitVec 32 := Scalar.muli arg14 c2_i32_84
  let c4_i32_85 : BitVec 32 := 4#32
  let v163 : BitVec 32 := Scalar.muli v162 c4_i32_85
  let c4_i32_90 : BitVec 32 := 4#32
  let v168 : BitVec 32 := Scalar.addi v163 c4_i32_90
  let c256_i32_175 : BitVec 32 := 256#32
  let v357 : BitVec 32 := Scalar.muli v168 c256_i32_175
  v357
def k0_mult91 (i : grid0.Coords) (k0_t3 : Fin (k0_t3_loop i).trips) : BitVec 32 :=
  let c0_i32_68 : BitVec 32 := 0#32
  let c1_i32_70 : BitVec 32 := 1#32
  let arg14 : BitVec 32 := Scf.iv c0_i32_68 c1_i32_70 k0_t3
  let c2_i32_84 : BitVec 32 := 2#32
  let v162 : BitVec 32 := Scalar.muli arg14 c2_i32_84
  let c4_i32_85 : BitVec 32 := 4#32
  let v163 : BitVec 32 := Scalar.muli v162 c4_i32_85
  let c5_i32 : BitVec 32 := 5#32
  let v169 : BitVec 32 := Scalar.addi v163 c5_i32
  let c256_i32_182 : BitVec 32 := 256#32
  let v377 : BitVec 32 := Scalar.muli v169 c256_i32_182
  v377
def k0_mult92 (i : grid0.Coords) (k0_t3 : Fin (k0_t3_loop i).trips) : BitVec 32 :=
  let c0_i32_68 : BitVec 32 := 0#32
  let c1_i32_70 : BitVec 32 := 1#32
  let arg14 : BitVec 32 := Scf.iv c0_i32_68 c1_i32_70 k0_t3
  let c2_i32_84 : BitVec 32 := 2#32
  let v162 : BitVec 32 := Scalar.muli arg14 c2_i32_84
  let c4_i32_85 : BitVec 32 := 4#32
  let v163 : BitVec 32 := Scalar.muli v162 c4_i32_85
  let c5_i32 : BitVec 32 := 5#32
  let v169 : BitVec 32 := Scalar.addi v163 c5_i32
  let c256_i32_188 : BitVec 32 := 256#32
  let v388 : BitVec 32 := Scalar.muli v169 c256_i32_188
  v388
def k0_mult93 (i : grid0.Coords) (k0_t3 : Fin (k0_t3_loop i).trips) : BitVec 32 :=
  let c0_i32_68 : BitVec 32 := 0#32
  let c1_i32_70 : BitVec 32 := 1#32
  let arg14 : BitVec 32 := Scf.iv c0_i32_68 c1_i32_70 k0_t3
  let c2_i32_84 : BitVec 32 := 2#32
  let v162 : BitVec 32 := Scalar.muli arg14 c2_i32_84
  let c4_i32_85 : BitVec 32 := 4#32
  let v163 : BitVec 32 := Scalar.muli v162 c4_i32_85
  let c6_i32 : BitVec 32 := 6#32
  let v170 : BitVec 32 := Scalar.addi v163 c6_i32
  let c256_i32_195 : BitVec 32 := 256#32
  let v408 : BitVec 32 := Scalar.muli v170 c256_i32_195
  v408
def k0_mult94 (i : grid0.Coords) (k0_t3 : Fin (k0_t3_loop i).trips) : BitVec 32 :=
  let c0_i32_68 : BitVec 32 := 0#32
  let c1_i32_70 : BitVec 32 := 1#32
  let arg14 : BitVec 32 := Scf.iv c0_i32_68 c1_i32_70 k0_t3
  let c2_i32_84 : BitVec 32 := 2#32
  let v162 : BitVec 32 := Scalar.muli arg14 c2_i32_84
  let c4_i32_85 : BitVec 32 := 4#32
  let v163 : BitVec 32 := Scalar.muli v162 c4_i32_85
  let c6_i32 : BitVec 32 := 6#32
  let v170 : BitVec 32 := Scalar.addi v163 c6_i32
  let c256_i32_201 : BitVec 32 := 256#32
  let v419 : BitVec 32 := Scalar.muli v170 c256_i32_201
  v419
def k0_mult95 (i : grid0.Coords) (k0_t3 : Fin (k0_t3_loop i).trips) : BitVec 32 :=
  let c0_i32_68 : BitVec 32 := 0#32
  let c1_i32_70 : BitVec 32 := 1#32
  let arg14 : BitVec 32 := Scf.iv c0_i32_68 c1_i32_70 k0_t3
  let c2_i32_84 : BitVec 32 := 2#32
  let v162 : BitVec 32 := Scalar.muli arg14 c2_i32_84
  let c4_i32_85 : BitVec 32 := 4#32
  let v163 : BitVec 32 := Scalar.muli v162 c4_i32_85
  let c7_i32 : BitVec 32 := 7#32
  let v171 : BitVec 32 := Scalar.addi v163 c7_i32
  let c256_i32_208 : BitVec 32 := 256#32
  let v439 : BitVec 32 := Scalar.muli v171 c256_i32_208
  v439
def k0_mult96 (i : grid0.Coords) (k0_t3 : Fin (k0_t3_loop i).trips) : BitVec 32 :=
  let c0_i32_68 : BitVec 32 := 0#32
  let c1_i32_70 : BitVec 32 := 1#32
  let arg14 : BitVec 32 := Scf.iv c0_i32_68 c1_i32_70 k0_t3
  let c2_i32_84 : BitVec 32 := 2#32
  let v162 : BitVec 32 := Scalar.muli arg14 c2_i32_84
  let c4_i32_85 : BitVec 32 := 4#32
  let v163 : BitVec 32 := Scalar.muli v162 c4_i32_85
  let c7_i32 : BitVec 32 := 7#32
  let v171 : BitVec 32 := Scalar.addi v163 c7_i32
  let c256_i32_214 : BitVec 32 := 256#32
  let v450 : BitVec 32 := Scalar.muli v171 c256_i32_214
  v450
@[reducible] def k0_t4_loop (i : grid0.Coords) : Scf.Loop 32 :=
  let c0_i32_68 : BitVec 32 := 0#32
  let arg1 : BitVec 32 := BitVec.ofNat 32 (i 1).val
  let c0_i32_12 : BitVec 32 := 0#32
  let v30 : BitVec 1 := Scalar.cmpi .sgt arg1 c0_i32_12
  let v31 : BitVec 32 := Scalar.extui v30
  let c0_i32_13 : BitVec 32 := 0#32
  let v32 : BitVec 1 := Scalar.cmpi .slt arg1 c0_i32_13
  let v33 : BitVec 32 := Scalar.extui v32
  let v34 : BitVec 32 := Scalar.subi v31 v33
  let c4_i32 : BitVec 32 := 4#32
  let c0_i32_14 : BitVec 32 := 0#32
  let v35 : BitVec 1 := Scalar.cmpi .sgt c4_i32 c0_i32_14
  let v36 : BitVec 32 := Scalar.extui v35
  let c0_i32_15 : BitVec 32 := 0#32
  let v37 : BitVec 1 := Scalar.cmpi .slt c4_i32 c0_i32_15
  let v38 : BitVec 32 := Scalar.extui v37
  let v39 : BitVec 32 := Scalar.subi v36 v38
  let v40 : BitVec 1 := Scalar.cmpi .ne v34 v39
  let v41 : BitVec 32 := Scalar.remsi arg1 c4_i32
  let c0_i32_16 : BitVec 32 := 0#32
  let v42 : BitVec 1 := Scalar.cmpi .ne v41 c0_i32_16
  let v43 : BitVec 1 := Scalar.andi v40 v42
  let v29 : BitVec 32 := Scalar.divsi arg1 c4_i32
  let c1_i32 : BitVec 32 := 1#32
  let v44 : BitVec 32 := Scalar.subi v29 c1_i32
  let v45 : BitVec 32 := Scalar.select v43 v44 v29
  let c1_i32_59 : BitVec 32 := 1#32
  let v116 : BitVec 32 := Scalar.addi v45 c1_i32_59
  let c0_i32_60 : BitVec 32 := 0#32
  let v118 : BitVec 1 := Scalar.cmpi .sgt v116 c0_i32_60
  let v119 : BitVec 32 := Scalar.extui v118
  let c0_i32_61 : BitVec 32 := 0#32
  let v120 : BitVec 1 := Scalar.cmpi .slt v116 c0_i32_61
  let v121 : BitVec 32 := Scalar.extui v120
  let v122 : BitVec 32 := Scalar.subi v119 v121
  let c2_i32 : BitVec 32 := 2#32
  let c0_i32_62 : BitVec 32 := 0#32
  let v123 : BitVec 1 := Scalar.cmpi .sgt c2_i32 c0_i32_62
  let v124 : BitVec 32 := Scalar.extui v123
  let c0_i32_63 : BitVec 32 := 0#32
  let v125 : BitVec 1 := Scalar.cmpi .slt c2_i32 c0_i32_63
  let v126 : BitVec 32 := Scalar.extui v125
  let v127 : BitVec 32 := Scalar.subi v124 v126
  let v128 : BitVec 1 := Scalar.cmpi .ne v122 v127
  let v129 : BitVec 32 := Scalar.remsi v116 c2_i32
  let c0_i32_64 : BitVec 32 := 0#32
  let v130 : BitVec 1 := Scalar.cmpi .ne v129 c0_i32_64
  let v131 : BitVec 1 := Scalar.andi v128 v130
  let v117 : BitVec 32 := Scalar.divsi v116 c2_i32
  let c1_i32_65 : BitVec 32 := 1#32
  let v132 : BitVec 32 := Scalar.subi v117 c1_i32_65
  let v133 : BitVec 32 := Scalar.select v131 v132 v117
  let v136 : BitVec 32 := Scalar.subi v133 c0_i32_68
  let c1_i32_69 : BitVec 32 := 1#32
  let v138 : BitVec 32 := Scalar.divsi v136 c1_i32_69
  let v139 : BitVec 32 := Scalar.muli v138 c1_i32_69
  let v140 : BitVec 32 := Scalar.addi c0_i32_68 v139
  let v137 : BitVec 32 := Scalar.addi c0_i32_68 v136
  let c1_i32_71 : BitVec 32 := 1#32
  ⟨v140, v137, c1_i32_71⟩
def k0_off24 (i : grid0.Coords) (k0_t4 : Fin (k0_t4_loop i).trips) (c0_i32_86 : BitVec 32) : Fin 3 → Nat :=
  let c0_i32_68 : BitVec 32 := 0#32
  let arg1 : BitVec 32 := BitVec.ofNat 32 (i 1).val
  let c0_i32_12 : BitVec 32 := 0#32
  let v30 : BitVec 1 := Scalar.cmpi .sgt arg1 c0_i32_12
  let v31 : BitVec 32 := Scalar.extui v30
  let c0_i32_13 : BitVec 32 := 0#32
  let v32 : BitVec 1 := Scalar.cmpi .slt arg1 c0_i32_13
  let v33 : BitVec 32 := Scalar.extui v32
  let v34 : BitVec 32 := Scalar.subi v31 v33
  let c4_i32 : BitVec 32 := 4#32
  let c0_i32_14 : BitVec 32 := 0#32
  let v35 : BitVec 1 := Scalar.cmpi .sgt c4_i32 c0_i32_14
  let v36 : BitVec 32 := Scalar.extui v35
  let c0_i32_15 : BitVec 32 := 0#32
  let v37 : BitVec 1 := Scalar.cmpi .slt c4_i32 c0_i32_15
  let v38 : BitVec 32 := Scalar.extui v37
  let v39 : BitVec 32 := Scalar.subi v36 v38
  let v40 : BitVec 1 := Scalar.cmpi .ne v34 v39
  let v41 : BitVec 32 := Scalar.remsi arg1 c4_i32
  let c0_i32_16 : BitVec 32 := 0#32
  let v42 : BitVec 1 := Scalar.cmpi .ne v41 c0_i32_16
  let v43 : BitVec 1 := Scalar.andi v40 v42
  let v29 : BitVec 32 := Scalar.divsi arg1 c4_i32
  let c1_i32 : BitVec 32 := 1#32
  let v44 : BitVec 32 := Scalar.subi v29 c1_i32
  let v45 : BitVec 32 := Scalar.select v43 v44 v29
  let c1_i32_59 : BitVec 32 := 1#32
  let v116 : BitVec 32 := Scalar.addi v45 c1_i32_59
  let c0_i32_60 : BitVec 32 := 0#32
  let v118 : BitVec 1 := Scalar.cmpi .sgt v116 c0_i32_60
  let v119 : BitVec 32 := Scalar.extui v118
  let c0_i32_61 : BitVec 32 := 0#32
  let v120 : BitVec 1 := Scalar.cmpi .slt v116 c0_i32_61
  let v121 : BitVec 32 := Scalar.extui v120
  let v122 : BitVec 32 := Scalar.subi v119 v121
  let c2_i32 : BitVec 32 := 2#32
  let c0_i32_62 : BitVec 32 := 0#32
  let v123 : BitVec 1 := Scalar.cmpi .sgt c2_i32 c0_i32_62
  let v124 : BitVec 32 := Scalar.extui v123
  let c0_i32_63 : BitVec 32 := 0#32
  let v125 : BitVec 1 := Scalar.cmpi .slt c2_i32 c0_i32_63
  let v126 : BitVec 32 := Scalar.extui v125
  let v127 : BitVec 32 := Scalar.subi v124 v126
  let v128 : BitVec 1 := Scalar.cmpi .ne v122 v127
  let v129 : BitVec 32 := Scalar.remsi v116 c2_i32
  let c0_i32_64 : BitVec 32 := 0#32
  let v130 : BitVec 1 := Scalar.cmpi .ne v129 c0_i32_64
  let v131 : BitVec 1 := Scalar.andi v128 v130
  let v117 : BitVec 32 := Scalar.divsi v116 c2_i32
  let c1_i32_65 : BitVec 32 := 1#32
  let v132 : BitVec 32 := Scalar.subi v117 c1_i32_65
  let v133 : BitVec 32 := Scalar.select v131 v132 v117
  let v136 : BitVec 32 := Scalar.subi v133 c0_i32_68
  let c1_i32_69 : BitVec 32 := 1#32
  let v138 : BitVec 32 := Scalar.divsi v136 c1_i32_69
  let v139 : BitVec 32 := Scalar.muli v138 c1_i32_69
  let v140 : BitVec 32 := Scalar.addi c0_i32_68 v139
  let c1_i32_71 : BitVec 32 := 1#32
  let arg14 : BitVec 32 := Scf.iv v140 c1_i32_71 k0_t4
  let c2_i32_84 : BitVec 32 := 2#32
  let v162 : BitVec 32 := Scalar.muli arg14 c2_i32_84
  let c4_i32_85 : BitVec 32 := 4#32
  let v163 : BitVec 32 := Scalar.muli v162 c4_i32_85
  let v164 : BitVec 32 := Scalar.addi v163 c0_i32_86
  let v172 : Index := Scalar.indexCast v164
  let c0_91 : Index := 0#32
  let c0_92 : Index := 0#32
  ![v172.toNat, 0, 0]
def k0_mult97 (i : grid0.Coords) (k0_t4 : Fin (k0_t4_loop i).trips) : BitVec 32 :=
  let c0_i32_68 : BitVec 32 := 0#32
  let arg1 : BitVec 32 := BitVec.ofNat 32 (i 1).val
  let c0_i32_12 : BitVec 32 := 0#32
  let v30 : BitVec 1 := Scalar.cmpi .sgt arg1 c0_i32_12
  let v31 : BitVec 32 := Scalar.extui v30
  let c0_i32_13 : BitVec 32 := 0#32
  let v32 : BitVec 1 := Scalar.cmpi .slt arg1 c0_i32_13
  let v33 : BitVec 32 := Scalar.extui v32
  let v34 : BitVec 32 := Scalar.subi v31 v33
  let c4_i32 : BitVec 32 := 4#32
  let c0_i32_14 : BitVec 32 := 0#32
  let v35 : BitVec 1 := Scalar.cmpi .sgt c4_i32 c0_i32_14
  let v36 : BitVec 32 := Scalar.extui v35
  let c0_i32_15 : BitVec 32 := 0#32
  let v37 : BitVec 1 := Scalar.cmpi .slt c4_i32 c0_i32_15
  let v38 : BitVec 32 := Scalar.extui v37
  let v39 : BitVec 32 := Scalar.subi v36 v38
  let v40 : BitVec 1 := Scalar.cmpi .ne v34 v39
  let v41 : BitVec 32 := Scalar.remsi arg1 c4_i32
  let c0_i32_16 : BitVec 32 := 0#32
  let v42 : BitVec 1 := Scalar.cmpi .ne v41 c0_i32_16
  let v43 : BitVec 1 := Scalar.andi v40 v42
  let v29 : BitVec 32 := Scalar.divsi arg1 c4_i32
  let c1_i32 : BitVec 32 := 1#32
  let v44 : BitVec 32 := Scalar.subi v29 c1_i32
  let v45 : BitVec 32 := Scalar.select v43 v44 v29
  let c1_i32_59 : BitVec 32 := 1#32
  let v116 : BitVec 32 := Scalar.addi v45 c1_i32_59
  let c0_i32_60 : BitVec 32 := 0#32
  let v118 : BitVec 1 := Scalar.cmpi .sgt v116 c0_i32_60
  let v119 : BitVec 32 := Scalar.extui v118
  let c0_i32_61 : BitVec 32 := 0#32
  let v120 : BitVec 1 := Scalar.cmpi .slt v116 c0_i32_61
  let v121 : BitVec 32 := Scalar.extui v120
  let v122 : BitVec 32 := Scalar.subi v119 v121
  let c2_i32 : BitVec 32 := 2#32
  let c0_i32_62 : BitVec 32 := 0#32
  let v123 : BitVec 1 := Scalar.cmpi .sgt c2_i32 c0_i32_62
  let v124 : BitVec 32 := Scalar.extui v123
  let c0_i32_63 : BitVec 32 := 0#32
  let v125 : BitVec 1 := Scalar.cmpi .slt c2_i32 c0_i32_63
  let v126 : BitVec 32 := Scalar.extui v125
  let v127 : BitVec 32 := Scalar.subi v124 v126
  let v128 : BitVec 1 := Scalar.cmpi .ne v122 v127
  let v129 : BitVec 32 := Scalar.remsi v116 c2_i32
  let c0_i32_64 : BitVec 32 := 0#32
  let v130 : BitVec 1 := Scalar.cmpi .ne v129 c0_i32_64
  let v131 : BitVec 1 := Scalar.andi v128 v130
  let v117 : BitVec 32 := Scalar.divsi v116 c2_i32
  let c1_i32_65 : BitVec 32 := 1#32
  let v132 : BitVec 32 := Scalar.subi v117 c1_i32_65
  let v133 : BitVec 32 := Scalar.select v131 v132 v117
  let v136 : BitVec 32 := Scalar.subi v133 c0_i32_68
  let c1_i32_69 : BitVec 32 := 1#32
  let v138 : BitVec 32 := Scalar.divsi v136 c1_i32_69
  let v139 : BitVec 32 := Scalar.muli v138 c1_i32_69
  let v140 : BitVec 32 := Scalar.addi c0_i32_68 v139
  let c1_i32_71 : BitVec 32 := 1#32
  let arg14 : BitVec 32 := Scf.iv v140 c1_i32_71 k0_t4
  let c2_i32_84 : BitVec 32 := 2#32
  let v162 : BitVec 32 := Scalar.muli arg14 c2_i32_84
  let c4_i32_85 : BitVec 32 := 4#32
  let v163 : BitVec 32 := Scalar.muli v162 c4_i32_85
  let c0_i32_86 : BitVec 32 := 0#32
  let v164 : BitVec 32 := Scalar.addi v163 c0_i32_86
  let c256_i32_117 : BitVec 32 := 256#32
  let v222 : BitVec 32 := Scalar.muli v164 c256_i32_117
  v222
def k0_off25 (i : grid0.Coords) (k0_t4 : Fin (k0_t4_loop i).trips) (c0_i32_86 : BitVec 32) : Fin 3 → Nat :=
  let c0_118 : Index := 0#32
  let c0_119 : Index := 0#32
  let c0_i32_68 : BitVec 32 := 0#32
  let arg1 : BitVec 32 := BitVec.ofNat 32 (i 1).val
  let c0_i32_12 : BitVec 32 := 0#32
  let v30 : BitVec 1 := Scalar.cmpi .sgt arg1 c0_i32_12
  let v31 : BitVec 32 := Scalar.extui v30
  let c0_i32_13 : BitVec 32 := 0#32
  let v32 : BitVec 1 := Scalar.cmpi .slt arg1 c0_i32_13
  let v33 : BitVec 32 := Scalar.extui v32
  let v34 : BitVec 32 := Scalar.subi v31 v33
  let c4_i32 : BitVec 32 := 4#32
  let c0_i32_14 : BitVec 32 := 0#32
  let v35 : BitVec 1 := Scalar.cmpi .sgt c4_i32 c0_i32_14
  let v36 : BitVec 32 := Scalar.extui v35
  let c0_i32_15 : BitVec 32 := 0#32
  let v37 : BitVec 1 := Scalar.cmpi .slt c4_i32 c0_i32_15
  let v38 : BitVec 32 := Scalar.extui v37
  let v39 : BitVec 32 := Scalar.subi v36 v38
  let v40 : BitVec 1 := Scalar.cmpi .ne v34 v39
  let v41 : BitVec 32 := Scalar.remsi arg1 c4_i32
  let c0_i32_16 : BitVec 32 := 0#32
  let v42 : BitVec 1 := Scalar.cmpi .ne v41 c0_i32_16
  let v43 : BitVec 1 := Scalar.andi v40 v42
  let v29 : BitVec 32 := Scalar.divsi arg1 c4_i32
  let c1_i32 : BitVec 32 := 1#32
  let v44 : BitVec 32 := Scalar.subi v29 c1_i32
  let v45 : BitVec 32 := Scalar.select v43 v44 v29
  let c1_i32_59 : BitVec 32 := 1#32
  let v116 : BitVec 32 := Scalar.addi v45 c1_i32_59
  let c0_i32_60 : BitVec 32 := 0#32
  let v118 : BitVec 1 := Scalar.cmpi .sgt v116 c0_i32_60
  let v119 : BitVec 32 := Scalar.extui v118
  let c0_i32_61 : BitVec 32 := 0#32
  let v120 : BitVec 1 := Scalar.cmpi .slt v116 c0_i32_61
  let v121 : BitVec 32 := Scalar.extui v120
  let v122 : BitVec 32 := Scalar.subi v119 v121
  let c2_i32 : BitVec 32 := 2#32
  let c0_i32_62 : BitVec 32 := 0#32
  let v123 : BitVec 1 := Scalar.cmpi .sgt c2_i32 c0_i32_62
  let v124 : BitVec 32 := Scalar.extui v123
  let c0_i32_63 : BitVec 32 := 0#32
  let v125 : BitVec 1 := Scalar.cmpi .slt c2_i32 c0_i32_63
  let v126 : BitVec 32 := Scalar.extui v125
  let v127 : BitVec 32 := Scalar.subi v124 v126
  let v128 : BitVec 1 := Scalar.cmpi .ne v122 v127
  let v129 : BitVec 32 := Scalar.remsi v116 c2_i32
  let c0_i32_64 : BitVec 32 := 0#32
  let v130 : BitVec 1 := Scalar.cmpi .ne v129 c0_i32_64
  let v131 : BitVec 1 := Scalar.andi v128 v130
  let v117 : BitVec 32 := Scalar.divsi v116 c2_i32
  let c1_i32_65 : BitVec 32 := 1#32
  let v132 : BitVec 32 := Scalar.subi v117 c1_i32_65
  let v133 : BitVec 32 := Scalar.select v131 v132 v117
  let v136 : BitVec 32 := Scalar.subi v133 c0_i32_68
  let c1_i32_69 : BitVec 32 := 1#32
  let v138 : BitVec 32 := Scalar.divsi v136 c1_i32_69
  let v139 : BitVec 32 := Scalar.muli v138 c1_i32_69
  let v140 : BitVec 32 := Scalar.addi c0_i32_68 v139
  let c1_i32_71 : BitVec 32 := 1#32
  let arg14 : BitVec 32 := Scf.iv v140 c1_i32_71 k0_t4
  let c2_i32_84 : BitVec 32 := 2#32
  let v162 : BitVec 32 := Scalar.muli arg14 c2_i32_84
  let c4_i32_85 : BitVec 32 := 4#32
  let v163 : BitVec 32 := Scalar.muli v162 c4_i32_85
  let v164 : BitVec 32 := Scalar.addi v163 c0_i32_86
  let c256_i32_117 : BitVec 32 := 256#32
  let v222 : BitVec 32 := Scalar.muli v164 c256_i32_117
  let v223 : BitVec 32 := v222
  let v224 : Index := Scalar.indexCast v223
  ![0, 0, v224.toNat]
def k0_mult98 (i : grid0.Coords) (k0_t4 : Fin (k0_t4_loop i).trips) : BitVec 32 :=
  let c0_i32_68 : BitVec 32 := 0#32
  let arg1 : BitVec 32 := BitVec.ofNat 32 (i 1).val
  let c0_i32_12 : BitVec 32 := 0#32
  let v30 : BitVec 1 := Scalar.cmpi .sgt arg1 c0_i32_12
  let v31 : BitVec 32 := Scalar.extui v30
  let c0_i32_13 : BitVec 32 := 0#32
  let v32 : BitVec 1 := Scalar.cmpi .slt arg1 c0_i32_13
  let v33 : BitVec 32 := Scalar.extui v32
  let v34 : BitVec 32 := Scalar.subi v31 v33
  let c4_i32 : BitVec 32 := 4#32
  let c0_i32_14 : BitVec 32 := 0#32
  let v35 : BitVec 1 := Scalar.cmpi .sgt c4_i32 c0_i32_14
  let v36 : BitVec 32 := Scalar.extui v35
  let c0_i32_15 : BitVec 32 := 0#32
  let v37 : BitVec 1 := Scalar.cmpi .slt c4_i32 c0_i32_15
  let v38 : BitVec 32 := Scalar.extui v37
  let v39 : BitVec 32 := Scalar.subi v36 v38
  let v40 : BitVec 1 := Scalar.cmpi .ne v34 v39
  let v41 : BitVec 32 := Scalar.remsi arg1 c4_i32
  let c0_i32_16 : BitVec 32 := 0#32
  let v42 : BitVec 1 := Scalar.cmpi .ne v41 c0_i32_16
  let v43 : BitVec 1 := Scalar.andi v40 v42
  let v29 : BitVec 32 := Scalar.divsi arg1 c4_i32
  let c1_i32 : BitVec 32 := 1#32
  let v44 : BitVec 32 := Scalar.subi v29 c1_i32
  let v45 : BitVec 32 := Scalar.select v43 v44 v29
  let c1_i32_59 : BitVec 32 := 1#32
  let v116 : BitVec 32 := Scalar.addi v45 c1_i32_59
  let c0_i32_60 : BitVec 32 := 0#32
  let v118 : BitVec 1 := Scalar.cmpi .sgt v116 c0_i32_60
  let v119 : BitVec 32 := Scalar.extui v118
  let c0_i32_61 : BitVec 32 := 0#32
  let v120 : BitVec 1 := Scalar.cmpi .slt v116 c0_i32_61
  let v121 : BitVec 32 := Scalar.extui v120
  let v122 : BitVec 32 := Scalar.subi v119 v121
  let c2_i32 : BitVec 32 := 2#32
  let c0_i32_62 : BitVec 32 := 0#32
  let v123 : BitVec 1 := Scalar.cmpi .sgt c2_i32 c0_i32_62
  let v124 : BitVec 32 := Scalar.extui v123
  let c0_i32_63 : BitVec 32 := 0#32
  let v125 : BitVec 1 := Scalar.cmpi .slt c2_i32 c0_i32_63
  let v126 : BitVec 32 := Scalar.extui v125
  let v127 : BitVec 32 := Scalar.subi v124 v126
  let v128 : BitVec 1 := Scalar.cmpi .ne v122 v127
  let v129 : BitVec 32 := Scalar.remsi v116 c2_i32
  let c0_i32_64 : BitVec 32 := 0#32
  let v130 : BitVec 1 := Scalar.cmpi .ne v129 c0_i32_64
  let v131 : BitVec 1 := Scalar.andi v128 v130
  let v117 : BitVec 32 := Scalar.divsi v116 c2_i32
  let c1_i32_65 : BitVec 32 := 1#32
  let v132 : BitVec 32 := Scalar.subi v117 c1_i32_65
  let v133 : BitVec 32 := Scalar.select v131 v132 v117
  let v136 : BitVec 32 := Scalar.subi v133 c0_i32_68
  let c1_i32_69 : BitVec 32 := 1#32
  let v138 : BitVec 32 := Scalar.divsi v136 c1_i32_69
  let v139 : BitVec 32 := Scalar.muli v138 c1_i32_69
  let v140 : BitVec 32 := Scalar.addi c0_i32_68 v139
  let c1_i32_71 : BitVec 32 := 1#32
  let arg14 : BitVec 32 := Scf.iv v140 c1_i32_71 k0_t4
  let c2_i32_84 : BitVec 32 := 2#32
  let v162 : BitVec 32 := Scalar.muli arg14 c2_i32_84
  let c4_i32_85 : BitVec 32 := 4#32
  let v163 : BitVec 32 := Scalar.muli v162 c4_i32_85
  let c0_i32_86 : BitVec 32 := 0#32
  let v164 : BitVec 32 := Scalar.addi v163 c0_i32_86
  let c256_i32_123 : BitVec 32 := 256#32
  let v233 : BitVec 32 := Scalar.muli v164 c256_i32_123
  v233
def k0_mult99 (i : grid0.Coords) (k0_t4 : Fin (k0_t4_loop i).trips) : BitVec 32 :=
  let c0_i32_68 : BitVec 32 := 0#32
  let arg1 : BitVec 32 := BitVec.ofNat 32 (i 1).val
  let c0_i32_12 : BitVec 32 := 0#32
  let v30 : BitVec 1 := Scalar.cmpi .sgt arg1 c0_i32_12
  let v31 : BitVec 32 := Scalar.extui v30
  let c0_i32_13 : BitVec 32 := 0#32
  let v32 : BitVec 1 := Scalar.cmpi .slt arg1 c0_i32_13
  let v33 : BitVec 32 := Scalar.extui v32
  let v34 : BitVec 32 := Scalar.subi v31 v33
  let c4_i32 : BitVec 32 := 4#32
  let c0_i32_14 : BitVec 32 := 0#32
  let v35 : BitVec 1 := Scalar.cmpi .sgt c4_i32 c0_i32_14
  let v36 : BitVec 32 := Scalar.extui v35
  let c0_i32_15 : BitVec 32 := 0#32
  let v37 : BitVec 1 := Scalar.cmpi .slt c4_i32 c0_i32_15
  let v38 : BitVec 32 := Scalar.extui v37
  let v39 : BitVec 32 := Scalar.subi v36 v38
  let v40 : BitVec 1 := Scalar.cmpi .ne v34 v39
  let v41 : BitVec 32 := Scalar.remsi arg1 c4_i32
  let c0_i32_16 : BitVec 32 := 0#32
  let v42 : BitVec 1 := Scalar.cmpi .ne v41 c0_i32_16
  let v43 : BitVec 1 := Scalar.andi v40 v42
  let v29 : BitVec 32 := Scalar.divsi arg1 c4_i32
  let c1_i32 : BitVec 32 := 1#32
  let v44 : BitVec 32 := Scalar.subi v29 c1_i32
  let v45 : BitVec 32 := Scalar.select v43 v44 v29
  let c1_i32_59 : BitVec 32 := 1#32
  let v116 : BitVec 32 := Scalar.addi v45 c1_i32_59
  let c0_i32_60 : BitVec 32 := 0#32
  let v118 : BitVec 1 := Scalar.cmpi .sgt v116 c0_i32_60
  let v119 : BitVec 32 := Scalar.extui v118
  let c0_i32_61 : BitVec 32 := 0#32
  let v120 : BitVec 1 := Scalar.cmpi .slt v116 c0_i32_61
  let v121 : BitVec 32 := Scalar.extui v120
  let v122 : BitVec 32 := Scalar.subi v119 v121
  let c2_i32 : BitVec 32 := 2#32
  let c0_i32_62 : BitVec 32 := 0#32
  let v123 : BitVec 1 := Scalar.cmpi .sgt c2_i32 c0_i32_62
  let v124 : BitVec 32 := Scalar.extui v123
  let c0_i32_63 : BitVec 32 := 0#32
  let v125 : BitVec 1 := Scalar.cmpi .slt c2_i32 c0_i32_63
  let v126 : BitVec 32 := Scalar.extui v125
  let v127 : BitVec 32 := Scalar.subi v124 v126
  let v128 : BitVec 1 := Scalar.cmpi .ne v122 v127
  let v129 : BitVec 32 := Scalar.remsi v116 c2_i32
  let c0_i32_64 : BitVec 32 := 0#32
  let v130 : BitVec 1 := Scalar.cmpi .ne v129 c0_i32_64
  let v131 : BitVec 1 := Scalar.andi v128 v130
  let v117 : BitVec 32 := Scalar.divsi v116 c2_i32
  let c1_i32_65 : BitVec 32 := 1#32
  let v132 : BitVec 32 := Scalar.subi v117 c1_i32_65
  let v133 : BitVec 32 := Scalar.select v131 v132 v117
  let v136 : BitVec 32 := Scalar.subi v133 c0_i32_68
  let c1_i32_69 : BitVec 32 := 1#32
  let v138 : BitVec 32 := Scalar.divsi v136 c1_i32_69
  let v139 : BitVec 32 := Scalar.muli v138 c1_i32_69
  let v140 : BitVec 32 := Scalar.addi c0_i32_68 v139
  let c1_i32_71 : BitVec 32 := 1#32
  let arg14 : BitVec 32 := Scf.iv v140 c1_i32_71 k0_t4
  let c2_i32_84 : BitVec 32 := 2#32
  let v162 : BitVec 32 := Scalar.muli arg14 c2_i32_84
  let c4_i32_85 : BitVec 32 := 4#32
  let v163 : BitVec 32 := Scalar.muli v162 c4_i32_85
  let c1_i32_87 : BitVec 32 := 1#32
  let v165 : BitVec 32 := Scalar.addi v163 c1_i32_87
  let c256_i32_130 : BitVec 32 := 256#32
  let v253 : BitVec 32 := Scalar.muli v165 c256_i32_130
  v253
def k0_mult100 (i : grid0.Coords) (k0_t4 : Fin (k0_t4_loop i).trips) : BitVec 32 :=
  let c0_i32_68 : BitVec 32 := 0#32
  let arg1 : BitVec 32 := BitVec.ofNat 32 (i 1).val
  let c0_i32_12 : BitVec 32 := 0#32
  let v30 : BitVec 1 := Scalar.cmpi .sgt arg1 c0_i32_12
  let v31 : BitVec 32 := Scalar.extui v30
  let c0_i32_13 : BitVec 32 := 0#32
  let v32 : BitVec 1 := Scalar.cmpi .slt arg1 c0_i32_13
  let v33 : BitVec 32 := Scalar.extui v32
  let v34 : BitVec 32 := Scalar.subi v31 v33
  let c4_i32 : BitVec 32 := 4#32
  let c0_i32_14 : BitVec 32 := 0#32
  let v35 : BitVec 1 := Scalar.cmpi .sgt c4_i32 c0_i32_14
  let v36 : BitVec 32 := Scalar.extui v35
  let c0_i32_15 : BitVec 32 := 0#32
  let v37 : BitVec 1 := Scalar.cmpi .slt c4_i32 c0_i32_15
  let v38 : BitVec 32 := Scalar.extui v37
  let v39 : BitVec 32 := Scalar.subi v36 v38
  let v40 : BitVec 1 := Scalar.cmpi .ne v34 v39
  let v41 : BitVec 32 := Scalar.remsi arg1 c4_i32
  let c0_i32_16 : BitVec 32 := 0#32
  let v42 : BitVec 1 := Scalar.cmpi .ne v41 c0_i32_16
  let v43 : BitVec 1 := Scalar.andi v40 v42
  let v29 : BitVec 32 := Scalar.divsi arg1 c4_i32
  let c1_i32 : BitVec 32 := 1#32
  let v44 : BitVec 32 := Scalar.subi v29 c1_i32
  let v45 : BitVec 32 := Scalar.select v43 v44 v29
  let c1_i32_59 : BitVec 32 := 1#32
  let v116 : BitVec 32 := Scalar.addi v45 c1_i32_59
  let c0_i32_60 : BitVec 32 := 0#32
  let v118 : BitVec 1 := Scalar.cmpi .sgt v116 c0_i32_60
  let v119 : BitVec 32 := Scalar.extui v118
  let c0_i32_61 : BitVec 32 := 0#32
  let v120 : BitVec 1 := Scalar.cmpi .slt v116 c0_i32_61
  let v121 : BitVec 32 := Scalar.extui v120
  let v122 : BitVec 32 := Scalar.subi v119 v121
  let c2_i32 : BitVec 32 := 2#32
  let c0_i32_62 : BitVec 32 := 0#32
  let v123 : BitVec 1 := Scalar.cmpi .sgt c2_i32 c0_i32_62
  let v124 : BitVec 32 := Scalar.extui v123
  let c0_i32_63 : BitVec 32 := 0#32
  let v125 : BitVec 1 := Scalar.cmpi .slt c2_i32 c0_i32_63
  let v126 : BitVec 32 := Scalar.extui v125
  let v127 : BitVec 32 := Scalar.subi v124 v126
  let v128 : BitVec 1 := Scalar.cmpi .ne v122 v127
  let v129 : BitVec 32 := Scalar.remsi v116 c2_i32
  let c0_i32_64 : BitVec 32 := 0#32
  let v130 : BitVec 1 := Scalar.cmpi .ne v129 c0_i32_64
  let v131 : BitVec 1 := Scalar.andi v128 v130
  let v117 : BitVec 32 := Scalar.divsi v116 c2_i32
  let c1_i32_65 : BitVec 32 := 1#32
  let v132 : BitVec 32 := Scalar.subi v117 c1_i32_65
  let v133 : BitVec 32 := Scalar.select v131 v132 v117
  let v136 : BitVec 32 := Scalar.subi v133 c0_i32_68
  let c1_i32_69 : BitVec 32 := 1#32
  let v138 : BitVec 32 := Scalar.divsi v136 c1_i32_69
  let v139 : BitVec 32 := Scalar.muli v138 c1_i32_69
  let v140 : BitVec 32 := Scalar.addi c0_i32_68 v139
  let c1_i32_71 : BitVec 32 := 1#32
  let arg14 : BitVec 32 := Scf.iv v140 c1_i32_71 k0_t4
  let c2_i32_84 : BitVec 32 := 2#32
  let v162 : BitVec 32 := Scalar.muli arg14 c2_i32_84
  let c4_i32_85 : BitVec 32 := 4#32
  let v163 : BitVec 32 := Scalar.muli v162 c4_i32_85
  let c1_i32_87 : BitVec 32 := 1#32
  let v165 : BitVec 32 := Scalar.addi v163 c1_i32_87
  let c256_i32_136 : BitVec 32 := 256#32
  let v264 : BitVec 32 := Scalar.muli v165 c256_i32_136
  v264
def k0_mult101 (i : grid0.Coords) (k0_t4 : Fin (k0_t4_loop i).trips) : BitVec 32 :=
  let c0_i32_68 : BitVec 32 := 0#32
  let arg1 : BitVec 32 := BitVec.ofNat 32 (i 1).val
  let c0_i32_12 : BitVec 32 := 0#32
  let v30 : BitVec 1 := Scalar.cmpi .sgt arg1 c0_i32_12
  let v31 : BitVec 32 := Scalar.extui v30
  let c0_i32_13 : BitVec 32 := 0#32
  let v32 : BitVec 1 := Scalar.cmpi .slt arg1 c0_i32_13
  let v33 : BitVec 32 := Scalar.extui v32
  let v34 : BitVec 32 := Scalar.subi v31 v33
  let c4_i32 : BitVec 32 := 4#32
  let c0_i32_14 : BitVec 32 := 0#32
  let v35 : BitVec 1 := Scalar.cmpi .sgt c4_i32 c0_i32_14
  let v36 : BitVec 32 := Scalar.extui v35
  let c0_i32_15 : BitVec 32 := 0#32
  let v37 : BitVec 1 := Scalar.cmpi .slt c4_i32 c0_i32_15
  let v38 : BitVec 32 := Scalar.extui v37
  let v39 : BitVec 32 := Scalar.subi v36 v38
  let v40 : BitVec 1 := Scalar.cmpi .ne v34 v39
  let v41 : BitVec 32 := Scalar.remsi arg1 c4_i32
  let c0_i32_16 : BitVec 32 := 0#32
  let v42 : BitVec 1 := Scalar.cmpi .ne v41 c0_i32_16
  let v43 : BitVec 1 := Scalar.andi v40 v42
  let v29 : BitVec 32 := Scalar.divsi arg1 c4_i32
  let c1_i32 : BitVec 32 := 1#32
  let v44 : BitVec 32 := Scalar.subi v29 c1_i32
  let v45 : BitVec 32 := Scalar.select v43 v44 v29
  let c1_i32_59 : BitVec 32 := 1#32
  let v116 : BitVec 32 := Scalar.addi v45 c1_i32_59
  let c0_i32_60 : BitVec 32 := 0#32
  let v118 : BitVec 1 := Scalar.cmpi .sgt v116 c0_i32_60
  let v119 : BitVec 32 := Scalar.extui v118
  let c0_i32_61 : BitVec 32 := 0#32
  let v120 : BitVec 1 := Scalar.cmpi .slt v116 c0_i32_61
  let v121 : BitVec 32 := Scalar.extui v120
  let v122 : BitVec 32 := Scalar.subi v119 v121
  let c2_i32 : BitVec 32 := 2#32
  let c0_i32_62 : BitVec 32 := 0#32
  let v123 : BitVec 1 := Scalar.cmpi .sgt c2_i32 c0_i32_62
  let v124 : BitVec 32 := Scalar.extui v123
  let c0_i32_63 : BitVec 32 := 0#32
  let v125 : BitVec 1 := Scalar.cmpi .slt c2_i32 c0_i32_63
  let v126 : BitVec 32 := Scalar.extui v125
  let v127 : BitVec 32 := Scalar.subi v124 v126
  let v128 : BitVec 1 := Scalar.cmpi .ne v122 v127
  let v129 : BitVec 32 := Scalar.remsi v116 c2_i32
  let c0_i32_64 : BitVec 32 := 0#32
  let v130 : BitVec 1 := Scalar.cmpi .ne v129 c0_i32_64
  let v131 : BitVec 1 := Scalar.andi v128 v130
  let v117 : BitVec 32 := Scalar.divsi v116 c2_i32
  let c1_i32_65 : BitVec 32 := 1#32
  let v132 : BitVec 32 := Scalar.subi v117 c1_i32_65
  let v133 : BitVec 32 := Scalar.select v131 v132 v117
  let v136 : BitVec 32 := Scalar.subi v133 c0_i32_68
  let c1_i32_69 : BitVec 32 := 1#32
  let v138 : BitVec 32 := Scalar.divsi v136 c1_i32_69
  let v139 : BitVec 32 := Scalar.muli v138 c1_i32_69
  let v140 : BitVec 32 := Scalar.addi c0_i32_68 v139
  let c1_i32_71 : BitVec 32 := 1#32
  let arg14 : BitVec 32 := Scf.iv v140 c1_i32_71 k0_t4
  let c2_i32_84 : BitVec 32 := 2#32
  let v162 : BitVec 32 := Scalar.muli arg14 c2_i32_84
  let c4_i32_85 : BitVec 32 := 4#32
  let v163 : BitVec 32 := Scalar.muli v162 c4_i32_85
  let c2_i32_88 : BitVec 32 := 2#32
  let v166 : BitVec 32 := Scalar.addi v163 c2_i32_88
  let c256_i32_143 : BitVec 32 := 256#32
  let v284 : BitVec 32 := Scalar.muli v166 c256_i32_143
  v284
def k0_mult102 (i : grid0.Coords) (k0_t4 : Fin (k0_t4_loop i).trips) : BitVec 32 :=
  let c0_i32_68 : BitVec 32 := 0#32
  let arg1 : BitVec 32 := BitVec.ofNat 32 (i 1).val
  let c0_i32_12 : BitVec 32 := 0#32
  let v30 : BitVec 1 := Scalar.cmpi .sgt arg1 c0_i32_12
  let v31 : BitVec 32 := Scalar.extui v30
  let c0_i32_13 : BitVec 32 := 0#32
  let v32 : BitVec 1 := Scalar.cmpi .slt arg1 c0_i32_13
  let v33 : BitVec 32 := Scalar.extui v32
  let v34 : BitVec 32 := Scalar.subi v31 v33
  let c4_i32 : BitVec 32 := 4#32
  let c0_i32_14 : BitVec 32 := 0#32
  let v35 : BitVec 1 := Scalar.cmpi .sgt c4_i32 c0_i32_14
  let v36 : BitVec 32 := Scalar.extui v35
  let c0_i32_15 : BitVec 32 := 0#32
  let v37 : BitVec 1 := Scalar.cmpi .slt c4_i32 c0_i32_15
  let v38 : BitVec 32 := Scalar.extui v37
  let v39 : BitVec 32 := Scalar.subi v36 v38
  let v40 : BitVec 1 := Scalar.cmpi .ne v34 v39
  let v41 : BitVec 32 := Scalar.remsi arg1 c4_i32
  let c0_i32_16 : BitVec 32 := 0#32
  let v42 : BitVec 1 := Scalar.cmpi .ne v41 c0_i32_16
  let v43 : BitVec 1 := Scalar.andi v40 v42
  let v29 : BitVec 32 := Scalar.divsi arg1 c4_i32
  let c1_i32 : BitVec 32 := 1#32
  let v44 : BitVec 32 := Scalar.subi v29 c1_i32
  let v45 : BitVec 32 := Scalar.select v43 v44 v29
  let c1_i32_59 : BitVec 32 := 1#32
  let v116 : BitVec 32 := Scalar.addi v45 c1_i32_59
  let c0_i32_60 : BitVec 32 := 0#32
  let v118 : BitVec 1 := Scalar.cmpi .sgt v116 c0_i32_60
  let v119 : BitVec 32 := Scalar.extui v118
  let c0_i32_61 : BitVec 32 := 0#32
  let v120 : BitVec 1 := Scalar.cmpi .slt v116 c0_i32_61
  let v121 : BitVec 32 := Scalar.extui v120
  let v122 : BitVec 32 := Scalar.subi v119 v121
  let c2_i32 : BitVec 32 := 2#32
  let c0_i32_62 : BitVec 32 := 0#32
  let v123 : BitVec 1 := Scalar.cmpi .sgt c2_i32 c0_i32_62
  let v124 : BitVec 32 := Scalar.extui v123
  let c0_i32_63 : BitVec 32 := 0#32
  let v125 : BitVec 1 := Scalar.cmpi .slt c2_i32 c0_i32_63
  let v126 : BitVec 32 := Scalar.extui v125
  let v127 : BitVec 32 := Scalar.subi v124 v126
  let v128 : BitVec 1 := Scalar.cmpi .ne v122 v127
  let v129 : BitVec 32 := Scalar.remsi v116 c2_i32
  let c0_i32_64 : BitVec 32 := 0#32
  let v130 : BitVec 1 := Scalar.cmpi .ne v129 c0_i32_64
  let v131 : BitVec 1 := Scalar.andi v128 v130
  let v117 : BitVec 32 := Scalar.divsi v116 c2_i32
  let c1_i32_65 : BitVec 32 := 1#32
  let v132 : BitVec 32 := Scalar.subi v117 c1_i32_65
  let v133 : BitVec 32 := Scalar.select v131 v132 v117
  let v136 : BitVec 32 := Scalar.subi v133 c0_i32_68
  let c1_i32_69 : BitVec 32 := 1#32
  let v138 : BitVec 32 := Scalar.divsi v136 c1_i32_69
  let v139 : BitVec 32 := Scalar.muli v138 c1_i32_69
  let v140 : BitVec 32 := Scalar.addi c0_i32_68 v139
  let c1_i32_71 : BitVec 32 := 1#32
  let arg14 : BitVec 32 := Scf.iv v140 c1_i32_71 k0_t4
  let c2_i32_84 : BitVec 32 := 2#32
  let v162 : BitVec 32 := Scalar.muli arg14 c2_i32_84
  let c4_i32_85 : BitVec 32 := 4#32
  let v163 : BitVec 32 := Scalar.muli v162 c4_i32_85
  let c2_i32_88 : BitVec 32 := 2#32
  let v166 : BitVec 32 := Scalar.addi v163 c2_i32_88
  let c256_i32_149 : BitVec 32 := 256#32
  let v295 : BitVec 32 := Scalar.muli v166 c256_i32_149
  v295
def k0_mult103 (i : grid0.Coords) (k0_t4 : Fin (k0_t4_loop i).trips) : BitVec 32 :=
  let c0_i32_68 : BitVec 32 := 0#32
  let arg1 : BitVec 32 := BitVec.ofNat 32 (i 1).val
  let c0_i32_12 : BitVec 32 := 0#32
  let v30 : BitVec 1 := Scalar.cmpi .sgt arg1 c0_i32_12
  let v31 : BitVec 32 := Scalar.extui v30
  let c0_i32_13 : BitVec 32 := 0#32
  let v32 : BitVec 1 := Scalar.cmpi .slt arg1 c0_i32_13
  let v33 : BitVec 32 := Scalar.extui v32
  let v34 : BitVec 32 := Scalar.subi v31 v33
  let c4_i32 : BitVec 32 := 4#32
  let c0_i32_14 : BitVec 32 := 0#32
  let v35 : BitVec 1 := Scalar.cmpi .sgt c4_i32 c0_i32_14
  let v36 : BitVec 32 := Scalar.extui v35
  let c0_i32_15 : BitVec 32 := 0#32
  let v37 : BitVec 1 := Scalar.cmpi .slt c4_i32 c0_i32_15
  let v38 : BitVec 32 := Scalar.extui v37
  let v39 : BitVec 32 := Scalar.subi v36 v38
  let v40 : BitVec 1 := Scalar.cmpi .ne v34 v39
  let v41 : BitVec 32 := Scalar.remsi arg1 c4_i32
  let c0_i32_16 : BitVec 32 := 0#32
  let v42 : BitVec 1 := Scalar.cmpi .ne v41 c0_i32_16
  let v43 : BitVec 1 := Scalar.andi v40 v42
  let v29 : BitVec 32 := Scalar.divsi arg1 c4_i32
  let c1_i32 : BitVec 32 := 1#32
  let v44 : BitVec 32 := Scalar.subi v29 c1_i32
  let v45 : BitVec 32 := Scalar.select v43 v44 v29
  let c1_i32_59 : BitVec 32 := 1#32
  let v116 : BitVec 32 := Scalar.addi v45 c1_i32_59
  let c0_i32_60 : BitVec 32 := 0#32
  let v118 : BitVec 1 := Scalar.cmpi .sgt v116 c0_i32_60
  let v119 : BitVec 32 := Scalar.extui v118
  let c0_i32_61 : BitVec 32 := 0#32
  let v120 : BitVec 1 := Scalar.cmpi .slt v116 c0_i32_61
  let v121 : BitVec 32 := Scalar.extui v120
  let v122 : BitVec 32 := Scalar.subi v119 v121
  let c2_i32 : BitVec 32 := 2#32
  let c0_i32_62 : BitVec 32 := 0#32
  let v123 : BitVec 1 := Scalar.cmpi .sgt c2_i32 c0_i32_62
  let v124 : BitVec 32 := Scalar.extui v123
  let c0_i32_63 : BitVec 32 := 0#32
  let v125 : BitVec 1 := Scalar.cmpi .slt c2_i32 c0_i32_63
  let v126 : BitVec 32 := Scalar.extui v125
  let v127 : BitVec 32 := Scalar.subi v124 v126
  let v128 : BitVec 1 := Scalar.cmpi .ne v122 v127
  let v129 : BitVec 32 := Scalar.remsi v116 c2_i32
  let c0_i32_64 : BitVec 32 := 0#32
  let v130 : BitVec 1 := Scalar.cmpi .ne v129 c0_i32_64
  let v131 : BitVec 1 := Scalar.andi v128 v130
  let v117 : BitVec 32 := Scalar.divsi v116 c2_i32
  let c1_i32_65 : BitVec 32 := 1#32
  let v132 : BitVec 32 := Scalar.subi v117 c1_i32_65
  let v133 : BitVec 32 := Scalar.select v131 v132 v117
  let v136 : BitVec 32 := Scalar.subi v133 c0_i32_68
  let c1_i32_69 : BitVec 32 := 1#32
  let v138 : BitVec 32 := Scalar.divsi v136 c1_i32_69
  let v139 : BitVec 32 := Scalar.muli v138 c1_i32_69
  let v140 : BitVec 32 := Scalar.addi c0_i32_68 v139
  let c1_i32_71 : BitVec 32 := 1#32
  let arg14 : BitVec 32 := Scf.iv v140 c1_i32_71 k0_t4
  let c2_i32_84 : BitVec 32 := 2#32
  let v162 : BitVec 32 := Scalar.muli arg14 c2_i32_84
  let c4_i32_85 : BitVec 32 := 4#32
  let v163 : BitVec 32 := Scalar.muli v162 c4_i32_85
  let c3_i32_89 : BitVec 32 := 3#32
  let v167 : BitVec 32 := Scalar.addi v163 c3_i32_89
  let c256_i32_156 : BitVec 32 := 256#32
  let v315 : BitVec 32 := Scalar.muli v167 c256_i32_156
  v315
def k0_mult104 (i : grid0.Coords) (k0_t4 : Fin (k0_t4_loop i).trips) : BitVec 32 :=
  let c0_i32_68 : BitVec 32 := 0#32
  let arg1 : BitVec 32 := BitVec.ofNat 32 (i 1).val
  let c0_i32_12 : BitVec 32 := 0#32
  let v30 : BitVec 1 := Scalar.cmpi .sgt arg1 c0_i32_12
  let v31 : BitVec 32 := Scalar.extui v30
  let c0_i32_13 : BitVec 32 := 0#32
  let v32 : BitVec 1 := Scalar.cmpi .slt arg1 c0_i32_13
  let v33 : BitVec 32 := Scalar.extui v32
  let v34 : BitVec 32 := Scalar.subi v31 v33
  let c4_i32 : BitVec 32 := 4#32
  let c0_i32_14 : BitVec 32 := 0#32
  let v35 : BitVec 1 := Scalar.cmpi .sgt c4_i32 c0_i32_14
  let v36 : BitVec 32 := Scalar.extui v35
  let c0_i32_15 : BitVec 32 := 0#32
  let v37 : BitVec 1 := Scalar.cmpi .slt c4_i32 c0_i32_15
  let v38 : BitVec 32 := Scalar.extui v37
  let v39 : BitVec 32 := Scalar.subi v36 v38
  let v40 : BitVec 1 := Scalar.cmpi .ne v34 v39
  let v41 : BitVec 32 := Scalar.remsi arg1 c4_i32
  let c0_i32_16 : BitVec 32 := 0#32
  let v42 : BitVec 1 := Scalar.cmpi .ne v41 c0_i32_16
  let v43 : BitVec 1 := Scalar.andi v40 v42
  let v29 : BitVec 32 := Scalar.divsi arg1 c4_i32
  let c1_i32 : BitVec 32 := 1#32
  let v44 : BitVec 32 := Scalar.subi v29 c1_i32
  let v45 : BitVec 32 := Scalar.select v43 v44 v29
  let c1_i32_59 : BitVec 32 := 1#32
  let v116 : BitVec 32 := Scalar.addi v45 c1_i32_59
  let c0_i32_60 : BitVec 32 := 0#32
  let v118 : BitVec 1 := Scalar.cmpi .sgt v116 c0_i32_60
  let v119 : BitVec 32 := Scalar.extui v118
  let c0_i32_61 : BitVec 32 := 0#32
  let v120 : BitVec 1 := Scalar.cmpi .slt v116 c0_i32_61
  let v121 : BitVec 32 := Scalar.extui v120
  let v122 : BitVec 32 := Scalar.subi v119 v121
  let c2_i32 : BitVec 32 := 2#32
  let c0_i32_62 : BitVec 32 := 0#32
  let v123 : BitVec 1 := Scalar.cmpi .sgt c2_i32 c0_i32_62
  let v124 : BitVec 32 := Scalar.extui v123
  let c0_i32_63 : BitVec 32 := 0#32
  let v125 : BitVec 1 := Scalar.cmpi .slt c2_i32 c0_i32_63
  let v126 : BitVec 32 := Scalar.extui v125
  let v127 : BitVec 32 := Scalar.subi v124 v126
  let v128 : BitVec 1 := Scalar.cmpi .ne v122 v127
  let v129 : BitVec 32 := Scalar.remsi v116 c2_i32
  let c0_i32_64 : BitVec 32 := 0#32
  let v130 : BitVec 1 := Scalar.cmpi .ne v129 c0_i32_64
  let v131 : BitVec 1 := Scalar.andi v128 v130
  let v117 : BitVec 32 := Scalar.divsi v116 c2_i32
  let c1_i32_65 : BitVec 32 := 1#32
  let v132 : BitVec 32 := Scalar.subi v117 c1_i32_65
  let v133 : BitVec 32 := Scalar.select v131 v132 v117
  let v136 : BitVec 32 := Scalar.subi v133 c0_i32_68
  let c1_i32_69 : BitVec 32 := 1#32
  let v138 : BitVec 32 := Scalar.divsi v136 c1_i32_69
  let v139 : BitVec 32 := Scalar.muli v138 c1_i32_69
  let v140 : BitVec 32 := Scalar.addi c0_i32_68 v139
  let c1_i32_71 : BitVec 32 := 1#32
  let arg14 : BitVec 32 := Scf.iv v140 c1_i32_71 k0_t4
  let c2_i32_84 : BitVec 32 := 2#32
  let v162 : BitVec 32 := Scalar.muli arg14 c2_i32_84
  let c4_i32_85 : BitVec 32 := 4#32
  let v163 : BitVec 32 := Scalar.muli v162 c4_i32_85
  let c3_i32_89 : BitVec 32 := 3#32
  let v167 : BitVec 32 := Scalar.addi v163 c3_i32_89
  let c256_i32_162 : BitVec 32 := 256#32
  let v326 : BitVec 32 := Scalar.muli v167 c256_i32_162
  v326
def k0_mult105 (i : grid0.Coords) (k0_t4 : Fin (k0_t4_loop i).trips) : BitVec 32 :=
  let c0_i32_68 : BitVec 32 := 0#32
  let arg1 : BitVec 32 := BitVec.ofNat 32 (i 1).val
  let c0_i32_12 : BitVec 32 := 0#32
  let v30 : BitVec 1 := Scalar.cmpi .sgt arg1 c0_i32_12
  let v31 : BitVec 32 := Scalar.extui v30
  let c0_i32_13 : BitVec 32 := 0#32
  let v32 : BitVec 1 := Scalar.cmpi .slt arg1 c0_i32_13
  let v33 : BitVec 32 := Scalar.extui v32
  let v34 : BitVec 32 := Scalar.subi v31 v33
  let c4_i32 : BitVec 32 := 4#32
  let c0_i32_14 : BitVec 32 := 0#32
  let v35 : BitVec 1 := Scalar.cmpi .sgt c4_i32 c0_i32_14
  let v36 : BitVec 32 := Scalar.extui v35
  let c0_i32_15 : BitVec 32 := 0#32
  let v37 : BitVec 1 := Scalar.cmpi .slt c4_i32 c0_i32_15
  let v38 : BitVec 32 := Scalar.extui v37
  let v39 : BitVec 32 := Scalar.subi v36 v38
  let v40 : BitVec 1 := Scalar.cmpi .ne v34 v39
  let v41 : BitVec 32 := Scalar.remsi arg1 c4_i32
  let c0_i32_16 : BitVec 32 := 0#32
  let v42 : BitVec 1 := Scalar.cmpi .ne v41 c0_i32_16
  let v43 : BitVec 1 := Scalar.andi v40 v42
  let v29 : BitVec 32 := Scalar.divsi arg1 c4_i32
  let c1_i32 : BitVec 32 := 1#32
  let v44 : BitVec 32 := Scalar.subi v29 c1_i32
  let v45 : BitVec 32 := Scalar.select v43 v44 v29
  let c1_i32_59 : BitVec 32 := 1#32
  let v116 : BitVec 32 := Scalar.addi v45 c1_i32_59
  let c0_i32_60 : BitVec 32 := 0#32
  let v118 : BitVec 1 := Scalar.cmpi .sgt v116 c0_i32_60
  let v119 : BitVec 32 := Scalar.extui v118
  let c0_i32_61 : BitVec 32 := 0#32
  let v120 : BitVec 1 := Scalar.cmpi .slt v116 c0_i32_61
  let v121 : BitVec 32 := Scalar.extui v120
  let v122 : BitVec 32 := Scalar.subi v119 v121
  let c2_i32 : BitVec 32 := 2#32
  let c0_i32_62 : BitVec 32 := 0#32
  let v123 : BitVec 1 := Scalar.cmpi .sgt c2_i32 c0_i32_62
  let v124 : BitVec 32 := Scalar.extui v123
  let c0_i32_63 : BitVec 32 := 0#32
  let v125 : BitVec 1 := Scalar.cmpi .slt c2_i32 c0_i32_63
  let v126 : BitVec 32 := Scalar.extui v125
  let v127 : BitVec 32 := Scalar.subi v124 v126
  let v128 : BitVec 1 := Scalar.cmpi .ne v122 v127
  let v129 : BitVec 32 := Scalar.remsi v116 c2_i32
  let c0_i32_64 : BitVec 32 := 0#32
  let v130 : BitVec 1 := Scalar.cmpi .ne v129 c0_i32_64
  let v131 : BitVec 1 := Scalar.andi v128 v130
  let v117 : BitVec 32 := Scalar.divsi v116 c2_i32
  let c1_i32_65 : BitVec 32 := 1#32
  let v132 : BitVec 32 := Scalar.subi v117 c1_i32_65
  let v133 : BitVec 32 := Scalar.select v131 v132 v117
  let v136 : BitVec 32 := Scalar.subi v133 c0_i32_68
  let c1_i32_69 : BitVec 32 := 1#32
  let v138 : BitVec 32 := Scalar.divsi v136 c1_i32_69
  let v139 : BitVec 32 := Scalar.muli v138 c1_i32_69
  let v140 : BitVec 32 := Scalar.addi c0_i32_68 v139
  let c1_i32_71 : BitVec 32 := 1#32
  let arg14 : BitVec 32 := Scf.iv v140 c1_i32_71 k0_t4
  let c2_i32_84 : BitVec 32 := 2#32
  let v162 : BitVec 32 := Scalar.muli arg14 c2_i32_84
  let c4_i32_85 : BitVec 32 := 4#32
  let v163 : BitVec 32 := Scalar.muli v162 c4_i32_85
  let c4_i32_90 : BitVec 32 := 4#32
  let v168 : BitVec 32 := Scalar.addi v163 c4_i32_90
  let c256_i32_169 : BitVec 32 := 256#32
  let v346 : BitVec 32 := Scalar.muli v168 c256_i32_169
  v346
def k0_mult106 (i : grid0.Coords) (k0_t4 : Fin (k0_t4_loop i).trips) : BitVec 32 :=
  let c0_i32_68 : BitVec 32 := 0#32
  let arg1 : BitVec 32 := BitVec.ofNat 32 (i 1).val
  let c0_i32_12 : BitVec 32 := 0#32
  let v30 : BitVec 1 := Scalar.cmpi .sgt arg1 c0_i32_12
  let v31 : BitVec 32 := Scalar.extui v30
  let c0_i32_13 : BitVec 32 := 0#32
  let v32 : BitVec 1 := Scalar.cmpi .slt arg1 c0_i32_13
  let v33 : BitVec 32 := Scalar.extui v32
  let v34 : BitVec 32 := Scalar.subi v31 v33
  let c4_i32 : BitVec 32 := 4#32
  let c0_i32_14 : BitVec 32 := 0#32
  let v35 : BitVec 1 := Scalar.cmpi .sgt c4_i32 c0_i32_14
  let v36 : BitVec 32 := Scalar.extui v35
  let c0_i32_15 : BitVec 32 := 0#32
  let v37 : BitVec 1 := Scalar.cmpi .slt c4_i32 c0_i32_15
  let v38 : BitVec 32 := Scalar.extui v37
  let v39 : BitVec 32 := Scalar.subi v36 v38
  let v40 : BitVec 1 := Scalar.cmpi .ne v34 v39
  let v41 : BitVec 32 := Scalar.remsi arg1 c4_i32
  let c0_i32_16 : BitVec 32 := 0#32
  let v42 : BitVec 1 := Scalar.cmpi .ne v41 c0_i32_16
  let v43 : BitVec 1 := Scalar.andi v40 v42
  let v29 : BitVec 32 := Scalar.divsi arg1 c4_i32
  let c1_i32 : BitVec 32 := 1#32
  let v44 : BitVec 32 := Scalar.subi v29 c1_i32
  let v45 : BitVec 32 := Scalar.select v43 v44 v29
  let c1_i32_59 : BitVec 32 := 1#32
  let v116 : BitVec 32 := Scalar.addi v45 c1_i32_59
  let c0_i32_60 : BitVec 32 := 0#32
  let v118 : BitVec 1 := Scalar.cmpi .sgt v116 c0_i32_60
  let v119 : BitVec 32 := Scalar.extui v118
  let c0_i32_61 : BitVec 32 := 0#32
  let v120 : BitVec 1 := Scalar.cmpi .slt v116 c0_i32_61
  let v121 : BitVec 32 := Scalar.extui v120
  let v122 : BitVec 32 := Scalar.subi v119 v121
  let c2_i32 : BitVec 32 := 2#32
  let c0_i32_62 : BitVec 32 := 0#32
  let v123 : BitVec 1 := Scalar.cmpi .sgt c2_i32 c0_i32_62
  let v124 : BitVec 32 := Scalar.extui v123
  let c0_i32_63 : BitVec 32 := 0#32
  let v125 : BitVec 1 := Scalar.cmpi .slt c2_i32 c0_i32_63
  let v126 : BitVec 32 := Scalar.extui v125
  let v127 : BitVec 32 := Scalar.subi v124 v126
  let v128 : BitVec 1 := Scalar.cmpi .ne v122 v127
  let v129 : BitVec 32 := Scalar.remsi v116 c2_i32
  let c0_i32_64 : BitVec 32 := 0#32
  let v130 : BitVec 1 := Scalar.cmpi .ne v129 c0_i32_64
  let v131 : BitVec 1 := Scalar.andi v128 v130
  let v117 : BitVec 32 := Scalar.divsi v116 c2_i32
  let c1_i32_65 : BitVec 32 := 1#32
  let v132 : BitVec 32 := Scalar.subi v117 c1_i32_65
  let v133 : BitVec 32 := Scalar.select v131 v132 v117
  let v136 : BitVec 32 := Scalar.subi v133 c0_i32_68
  let c1_i32_69 : BitVec 32 := 1#32
  let v138 : BitVec 32 := Scalar.divsi v136 c1_i32_69
  let v139 : BitVec 32 := Scalar.muli v138 c1_i32_69
  let v140 : BitVec 32 := Scalar.addi c0_i32_68 v139
  let c1_i32_71 : BitVec 32 := 1#32
  let arg14 : BitVec 32 := Scf.iv v140 c1_i32_71 k0_t4
  let c2_i32_84 : BitVec 32 := 2#32
  let v162 : BitVec 32 := Scalar.muli arg14 c2_i32_84
  let c4_i32_85 : BitVec 32 := 4#32
  let v163 : BitVec 32 := Scalar.muli v162 c4_i32_85
  let c4_i32_90 : BitVec 32 := 4#32
  let v168 : BitVec 32 := Scalar.addi v163 c4_i32_90
  let c256_i32_175 : BitVec 32 := 256#32
  let v357 : BitVec 32 := Scalar.muli v168 c256_i32_175
  v357
def k0_mult107 (i : grid0.Coords) (k0_t4 : Fin (k0_t4_loop i).trips) : BitVec 32 :=
  let c0_i32_68 : BitVec 32 := 0#32
  let arg1 : BitVec 32 := BitVec.ofNat 32 (i 1).val
  let c0_i32_12 : BitVec 32 := 0#32
  let v30 : BitVec 1 := Scalar.cmpi .sgt arg1 c0_i32_12
  let v31 : BitVec 32 := Scalar.extui v30
  let c0_i32_13 : BitVec 32 := 0#32
  let v32 : BitVec 1 := Scalar.cmpi .slt arg1 c0_i32_13
  let v33 : BitVec 32 := Scalar.extui v32
  let v34 : BitVec 32 := Scalar.subi v31 v33
  let c4_i32 : BitVec 32 := 4#32
  let c0_i32_14 : BitVec 32 := 0#32
  let v35 : BitVec 1 := Scalar.cmpi .sgt c4_i32 c0_i32_14
  let v36 : BitVec 32 := Scalar.extui v35
  let c0_i32_15 : BitVec 32 := 0#32
  let v37 : BitVec 1 := Scalar.cmpi .slt c4_i32 c0_i32_15
  let v38 : BitVec 32 := Scalar.extui v37
  let v39 : BitVec 32 := Scalar.subi v36 v38
  let v40 : BitVec 1 := Scalar.cmpi .ne v34 v39
  let v41 : BitVec 32 := Scalar.remsi arg1 c4_i32
  let c0_i32_16 : BitVec 32 := 0#32
  let v42 : BitVec 1 := Scalar.cmpi .ne v41 c0_i32_16
  let v43 : BitVec 1 := Scalar.andi v40 v42
  let v29 : BitVec 32 := Scalar.divsi arg1 c4_i32
  let c1_i32 : BitVec 32 := 1#32
  let v44 : BitVec 32 := Scalar.subi v29 c1_i32
  let v45 : BitVec 32 := Scalar.select v43 v44 v29
  let c1_i32_59 : BitVec 32 := 1#32
  let v116 : BitVec 32 := Scalar.addi v45 c1_i32_59
  let c0_i32_60 : BitVec 32 := 0#32
  let v118 : BitVec 1 := Scalar.cmpi .sgt v116 c0_i32_60
  let v119 : BitVec 32 := Scalar.extui v118
  let c0_i32_61 : BitVec 32 := 0#32
  let v120 : BitVec 1 := Scalar.cmpi .slt v116 c0_i32_61
  let v121 : BitVec 32 := Scalar.extui v120
  let v122 : BitVec 32 := Scalar.subi v119 v121
  let c2_i32 : BitVec 32 := 2#32
  let c0_i32_62 : BitVec 32 := 0#32
  let v123 : BitVec 1 := Scalar.cmpi .sgt c2_i32 c0_i32_62
  let v124 : BitVec 32 := Scalar.extui v123
  let c0_i32_63 : BitVec 32 := 0#32
  let v125 : BitVec 1 := Scalar.cmpi .slt c2_i32 c0_i32_63
  let v126 : BitVec 32 := Scalar.extui v125
  let v127 : BitVec 32 := Scalar.subi v124 v126
  let v128 : BitVec 1 := Scalar.cmpi .ne v122 v127
  let v129 : BitVec 32 := Scalar.remsi v116 c2_i32
  let c0_i32_64 : BitVec 32 := 0#32
  let v130 : BitVec 1 := Scalar.cmpi .ne v129 c0_i32_64
  let v131 : BitVec 1 := Scalar.andi v128 v130
  let v117 : BitVec 32 := Scalar.divsi v116 c2_i32
  let c1_i32_65 : BitVec 32 := 1#32
  let v132 : BitVec 32 := Scalar.subi v117 c1_i32_65
  let v133 : BitVec 32 := Scalar.select v131 v132 v117
  let v136 : BitVec 32 := Scalar.subi v133 c0_i32_68
  let c1_i32_69 : BitVec 32 := 1#32
  let v138 : BitVec 32 := Scalar.divsi v136 c1_i32_69
  let v139 : BitVec 32 := Scalar.muli v138 c1_i32_69
  let v140 : BitVec 32 := Scalar.addi c0_i32_68 v139
  let c1_i32_71 : BitVec 32 := 1#32
  let arg14 : BitVec 32 := Scf.iv v140 c1_i32_71 k0_t4
  let c2_i32_84 : BitVec 32 := 2#32
  let v162 : BitVec 32 := Scalar.muli arg14 c2_i32_84
  let c4_i32_85 : BitVec 32 := 4#32
  let v163 : BitVec 32 := Scalar.muli v162 c4_i32_85
  let c5_i32 : BitVec 32 := 5#32
  let v169 : BitVec 32 := Scalar.addi v163 c5_i32
  let c256_i32_182 : BitVec 32 := 256#32
  let v377 : BitVec 32 := Scalar.muli v169 c256_i32_182
  v377
def k0_mult108 (i : grid0.Coords) (k0_t4 : Fin (k0_t4_loop i).trips) : BitVec 32 :=
  let c0_i32_68 : BitVec 32 := 0#32
  let arg1 : BitVec 32 := BitVec.ofNat 32 (i 1).val
  let c0_i32_12 : BitVec 32 := 0#32
  let v30 : BitVec 1 := Scalar.cmpi .sgt arg1 c0_i32_12
  let v31 : BitVec 32 := Scalar.extui v30
  let c0_i32_13 : BitVec 32 := 0#32
  let v32 : BitVec 1 := Scalar.cmpi .slt arg1 c0_i32_13
  let v33 : BitVec 32 := Scalar.extui v32
  let v34 : BitVec 32 := Scalar.subi v31 v33
  let c4_i32 : BitVec 32 := 4#32
  let c0_i32_14 : BitVec 32 := 0#32
  let v35 : BitVec 1 := Scalar.cmpi .sgt c4_i32 c0_i32_14
  let v36 : BitVec 32 := Scalar.extui v35
  let c0_i32_15 : BitVec 32 := 0#32
  let v37 : BitVec 1 := Scalar.cmpi .slt c4_i32 c0_i32_15
  let v38 : BitVec 32 := Scalar.extui v37
  let v39 : BitVec 32 := Scalar.subi v36 v38
  let v40 : BitVec 1 := Scalar.cmpi .ne v34 v39
  let v41 : BitVec 32 := Scalar.remsi arg1 c4_i32
  let c0_i32_16 : BitVec 32 := 0#32
  let v42 : BitVec 1 := Scalar.cmpi .ne v41 c0_i32_16
  let v43 : BitVec 1 := Scalar.andi v40 v42
  let v29 : BitVec 32 := Scalar.divsi arg1 c4_i32
  let c1_i32 : BitVec 32 := 1#32
  let v44 : BitVec 32 := Scalar.subi v29 c1_i32
  let v45 : BitVec 32 := Scalar.select v43 v44 v29
  let c1_i32_59 : BitVec 32 := 1#32
  let v116 : BitVec 32 := Scalar.addi v45 c1_i32_59
  let c0_i32_60 : BitVec 32 := 0#32
  let v118 : BitVec 1 := Scalar.cmpi .sgt v116 c0_i32_60
  let v119 : BitVec 32 := Scalar.extui v118
  let c0_i32_61 : BitVec 32 := 0#32
  let v120 : BitVec 1 := Scalar.cmpi .slt v116 c0_i32_61
  let v121 : BitVec 32 := Scalar.extui v120
  let v122 : BitVec 32 := Scalar.subi v119 v121
  let c2_i32 : BitVec 32 := 2#32
  let c0_i32_62 : BitVec 32 := 0#32
  let v123 : BitVec 1 := Scalar.cmpi .sgt c2_i32 c0_i32_62
  let v124 : BitVec 32 := Scalar.extui v123
  let c0_i32_63 : BitVec 32 := 0#32
  let v125 : BitVec 1 := Scalar.cmpi .slt c2_i32 c0_i32_63
  let v126 : BitVec 32 := Scalar.extui v125
  let v127 : BitVec 32 := Scalar.subi v124 v126
  let v128 : BitVec 1 := Scalar.cmpi .ne v122 v127
  let v129 : BitVec 32 := Scalar.remsi v116 c2_i32
  let c0_i32_64 : BitVec 32 := 0#32
  let v130 : BitVec 1 := Scalar.cmpi .ne v129 c0_i32_64
  let v131 : BitVec 1 := Scalar.andi v128 v130
  let v117 : BitVec 32 := Scalar.divsi v116 c2_i32
  let c1_i32_65 : BitVec 32 := 1#32
  let v132 : BitVec 32 := Scalar.subi v117 c1_i32_65
  let v133 : BitVec 32 := Scalar.select v131 v132 v117
  let v136 : BitVec 32 := Scalar.subi v133 c0_i32_68
  let c1_i32_69 : BitVec 32 := 1#32
  let v138 : BitVec 32 := Scalar.divsi v136 c1_i32_69
  let v139 : BitVec 32 := Scalar.muli v138 c1_i32_69
  let v140 : BitVec 32 := Scalar.addi c0_i32_68 v139
  let c1_i32_71 : BitVec 32 := 1#32
  let arg14 : BitVec 32 := Scf.iv v140 c1_i32_71 k0_t4
  let c2_i32_84 : BitVec 32 := 2#32
  let v162 : BitVec 32 := Scalar.muli arg14 c2_i32_84
  let c4_i32_85 : BitVec 32 := 4#32
  let v163 : BitVec 32 := Scalar.muli v162 c4_i32_85
  let c5_i32 : BitVec 32 := 5#32
  let v169 : BitVec 32 := Scalar.addi v163 c5_i32
  let c256_i32_188 : BitVec 32 := 256#32
  let v388 : BitVec 32 := Scalar.muli v169 c256_i32_188
  v388
def k0_mult109 (i : grid0.Coords) (k0_t4 : Fin (k0_t4_loop i).trips) : BitVec 32 :=
  let c0_i32_68 : BitVec 32 := 0#32
  let arg1 : BitVec 32 := BitVec.ofNat 32 (i 1).val
  let c0_i32_12 : BitVec 32 := 0#32
  let v30 : BitVec 1 := Scalar.cmpi .sgt arg1 c0_i32_12
  let v31 : BitVec 32 := Scalar.extui v30
  let c0_i32_13 : BitVec 32 := 0#32
  let v32 : BitVec 1 := Scalar.cmpi .slt arg1 c0_i32_13
  let v33 : BitVec 32 := Scalar.extui v32
  let v34 : BitVec 32 := Scalar.subi v31 v33
  let c4_i32 : BitVec 32 := 4#32
  let c0_i32_14 : BitVec 32 := 0#32
  let v35 : BitVec 1 := Scalar.cmpi .sgt c4_i32 c0_i32_14
  let v36 : BitVec 32 := Scalar.extui v35
  let c0_i32_15 : BitVec 32 := 0#32
  let v37 : BitVec 1 := Scalar.cmpi .slt c4_i32 c0_i32_15
  let v38 : BitVec 32 := Scalar.extui v37
  let v39 : BitVec 32 := Scalar.subi v36 v38
  let v40 : BitVec 1 := Scalar.cmpi .ne v34 v39
  let v41 : BitVec 32 := Scalar.remsi arg1 c4_i32
  let c0_i32_16 : BitVec 32 := 0#32
  let v42 : BitVec 1 := Scalar.cmpi .ne v41 c0_i32_16
  let v43 : BitVec 1 := Scalar.andi v40 v42
  let v29 : BitVec 32 := Scalar.divsi arg1 c4_i32
  let c1_i32 : BitVec 32 := 1#32
  let v44 : BitVec 32 := Scalar.subi v29 c1_i32
  let v45 : BitVec 32 := Scalar.select v43 v44 v29
  let c1_i32_59 : BitVec 32 := 1#32
  let v116 : BitVec 32 := Scalar.addi v45 c1_i32_59
  let c0_i32_60 : BitVec 32 := 0#32
  let v118 : BitVec 1 := Scalar.cmpi .sgt v116 c0_i32_60
  let v119 : BitVec 32 := Scalar.extui v118
  let c0_i32_61 : BitVec 32 := 0#32
  let v120 : BitVec 1 := Scalar.cmpi .slt v116 c0_i32_61
  let v121 : BitVec 32 := Scalar.extui v120
  let v122 : BitVec 32 := Scalar.subi v119 v121
  let c2_i32 : BitVec 32 := 2#32
  let c0_i32_62 : BitVec 32 := 0#32
  let v123 : BitVec 1 := Scalar.cmpi .sgt c2_i32 c0_i32_62
  let v124 : BitVec 32 := Scalar.extui v123
  let c0_i32_63 : BitVec 32 := 0#32
  let v125 : BitVec 1 := Scalar.cmpi .slt c2_i32 c0_i32_63
  let v126 : BitVec 32 := Scalar.extui v125
  let v127 : BitVec 32 := Scalar.subi v124 v126
  let v128 : BitVec 1 := Scalar.cmpi .ne v122 v127
  let v129 : BitVec 32 := Scalar.remsi v116 c2_i32
  let c0_i32_64 : BitVec 32 := 0#32
  let v130 : BitVec 1 := Scalar.cmpi .ne v129 c0_i32_64
  let v131 : BitVec 1 := Scalar.andi v128 v130
  let v117 : BitVec 32 := Scalar.divsi v116 c2_i32
  let c1_i32_65 : BitVec 32 := 1#32
  let v132 : BitVec 32 := Scalar.subi v117 c1_i32_65
  let v133 : BitVec 32 := Scalar.select v131 v132 v117
  let v136 : BitVec 32 := Scalar.subi v133 c0_i32_68
  let c1_i32_69 : BitVec 32 := 1#32
  let v138 : BitVec 32 := Scalar.divsi v136 c1_i32_69
  let v139 : BitVec 32 := Scalar.muli v138 c1_i32_69
  let v140 : BitVec 32 := Scalar.addi c0_i32_68 v139
  let c1_i32_71 : BitVec 32 := 1#32
  let arg14 : BitVec 32 := Scf.iv v140 c1_i32_71 k0_t4
  let c2_i32_84 : BitVec 32 := 2#32
  let v162 : BitVec 32 := Scalar.muli arg14 c2_i32_84
  let c4_i32_85 : BitVec 32 := 4#32
  let v163 : BitVec 32 := Scalar.muli v162 c4_i32_85
  let c6_i32 : BitVec 32 := 6#32
  let v170 : BitVec 32 := Scalar.addi v163 c6_i32
  let c256_i32_195 : BitVec 32 := 256#32
  let v408 : BitVec 32 := Scalar.muli v170 c256_i32_195
  v408
def k0_mult110 (i : grid0.Coords) (k0_t4 : Fin (k0_t4_loop i).trips) : BitVec 32 :=
  let c0_i32_68 : BitVec 32 := 0#32
  let arg1 : BitVec 32 := BitVec.ofNat 32 (i 1).val
  let c0_i32_12 : BitVec 32 := 0#32
  let v30 : BitVec 1 := Scalar.cmpi .sgt arg1 c0_i32_12
  let v31 : BitVec 32 := Scalar.extui v30
  let c0_i32_13 : BitVec 32 := 0#32
  let v32 : BitVec 1 := Scalar.cmpi .slt arg1 c0_i32_13
  let v33 : BitVec 32 := Scalar.extui v32
  let v34 : BitVec 32 := Scalar.subi v31 v33
  let c4_i32 : BitVec 32 := 4#32
  let c0_i32_14 : BitVec 32 := 0#32
  let v35 : BitVec 1 := Scalar.cmpi .sgt c4_i32 c0_i32_14
  let v36 : BitVec 32 := Scalar.extui v35
  let c0_i32_15 : BitVec 32 := 0#32
  let v37 : BitVec 1 := Scalar.cmpi .slt c4_i32 c0_i32_15
  let v38 : BitVec 32 := Scalar.extui v37
  let v39 : BitVec 32 := Scalar.subi v36 v38
  let v40 : BitVec 1 := Scalar.cmpi .ne v34 v39
  let v41 : BitVec 32 := Scalar.remsi arg1 c4_i32
  let c0_i32_16 : BitVec 32 := 0#32
  let v42 : BitVec 1 := Scalar.cmpi .ne v41 c0_i32_16
  let v43 : BitVec 1 := Scalar.andi v40 v42
  let v29 : BitVec 32 := Scalar.divsi arg1 c4_i32
  let c1_i32 : BitVec 32 := 1#32
  let v44 : BitVec 32 := Scalar.subi v29 c1_i32
  let v45 : BitVec 32 := Scalar.select v43 v44 v29
  let c1_i32_59 : BitVec 32 := 1#32
  let v116 : BitVec 32 := Scalar.addi v45 c1_i32_59
  let c0_i32_60 : BitVec 32 := 0#32
  let v118 : BitVec 1 := Scalar.cmpi .sgt v116 c0_i32_60
  let v119 : BitVec 32 := Scalar.extui v118
  let c0_i32_61 : BitVec 32 := 0#32
  let v120 : BitVec 1 := Scalar.cmpi .slt v116 c0_i32_61
  let v121 : BitVec 32 := Scalar.extui v120
  let v122 : BitVec 32 := Scalar.subi v119 v121
  let c2_i32 : BitVec 32 := 2#32
  let c0_i32_62 : BitVec 32 := 0#32
  let v123 : BitVec 1 := Scalar.cmpi .sgt c2_i32 c0_i32_62
  let v124 : BitVec 32 := Scalar.extui v123
  let c0_i32_63 : BitVec 32 := 0#32
  let v125 : BitVec 1 := Scalar.cmpi .slt c2_i32 c0_i32_63
  let v126 : BitVec 32 := Scalar.extui v125
  let v127 : BitVec 32 := Scalar.subi v124 v126
  let v128 : BitVec 1 := Scalar.cmpi .ne v122 v127
  let v129 : BitVec 32 := Scalar.remsi v116 c2_i32
  let c0_i32_64 : BitVec 32 := 0#32
  let v130 : BitVec 1 := Scalar.cmpi .ne v129 c0_i32_64
  let v131 : BitVec 1 := Scalar.andi v128 v130
  let v117 : BitVec 32 := Scalar.divsi v116 c2_i32
  let c1_i32_65 : BitVec 32 := 1#32
  let v132 : BitVec 32 := Scalar.subi v117 c1_i32_65
  let v133 : BitVec 32 := Scalar.select v131 v132 v117
  let v136 : BitVec 32 := Scalar.subi v133 c0_i32_68
  let c1_i32_69 : BitVec 32 := 1#32
  let v138 : BitVec 32 := Scalar.divsi v136 c1_i32_69
  let v139 : BitVec 32 := Scalar.muli v138 c1_i32_69
  let v140 : BitVec 32 := Scalar.addi c0_i32_68 v139
  let c1_i32_71 : BitVec 32 := 1#32
  let arg14 : BitVec 32 := Scf.iv v140 c1_i32_71 k0_t4
  let c2_i32_84 : BitVec 32 := 2#32
  let v162 : BitVec 32 := Scalar.muli arg14 c2_i32_84
  let c4_i32_85 : BitVec 32 := 4#32
  let v163 : BitVec 32 := Scalar.muli v162 c4_i32_85
  let c6_i32 : BitVec 32 := 6#32
  let v170 : BitVec 32 := Scalar.addi v163 c6_i32
  let c256_i32_201 : BitVec 32 := 256#32
  let v419 : BitVec 32 := Scalar.muli v170 c256_i32_201
  v419
def k0_mult111 (i : grid0.Coords) (k0_t4 : Fin (k0_t4_loop i).trips) : BitVec 32 :=
  let c0_i32_68 : BitVec 32 := 0#32
  let arg1 : BitVec 32 := BitVec.ofNat 32 (i 1).val
  let c0_i32_12 : BitVec 32 := 0#32
  let v30 : BitVec 1 := Scalar.cmpi .sgt arg1 c0_i32_12
  let v31 : BitVec 32 := Scalar.extui v30
  let c0_i32_13 : BitVec 32 := 0#32
  let v32 : BitVec 1 := Scalar.cmpi .slt arg1 c0_i32_13
  let v33 : BitVec 32 := Scalar.extui v32
  let v34 : BitVec 32 := Scalar.subi v31 v33
  let c4_i32 : BitVec 32 := 4#32
  let c0_i32_14 : BitVec 32 := 0#32
  let v35 : BitVec 1 := Scalar.cmpi .sgt c4_i32 c0_i32_14
  let v36 : BitVec 32 := Scalar.extui v35
  let c0_i32_15 : BitVec 32 := 0#32
  let v37 : BitVec 1 := Scalar.cmpi .slt c4_i32 c0_i32_15
  let v38 : BitVec 32 := Scalar.extui v37
  let v39 : BitVec 32 := Scalar.subi v36 v38
  let v40 : BitVec 1 := Scalar.cmpi .ne v34 v39
  let v41 : BitVec 32 := Scalar.remsi arg1 c4_i32
  let c0_i32_16 : BitVec 32 := 0#32
  let v42 : BitVec 1 := Scalar.cmpi .ne v41 c0_i32_16
  let v43 : BitVec 1 := Scalar.andi v40 v42
  let v29 : BitVec 32 := Scalar.divsi arg1 c4_i32
  let c1_i32 : BitVec 32 := 1#32
  let v44 : BitVec 32 := Scalar.subi v29 c1_i32
  let v45 : BitVec 32 := Scalar.select v43 v44 v29
  let c1_i32_59 : BitVec 32 := 1#32
  let v116 : BitVec 32 := Scalar.addi v45 c1_i32_59
  let c0_i32_60 : BitVec 32 := 0#32
  let v118 : BitVec 1 := Scalar.cmpi .sgt v116 c0_i32_60
  let v119 : BitVec 32 := Scalar.extui v118
  let c0_i32_61 : BitVec 32 := 0#32
  let v120 : BitVec 1 := Scalar.cmpi .slt v116 c0_i32_61
  let v121 : BitVec 32 := Scalar.extui v120
  let v122 : BitVec 32 := Scalar.subi v119 v121
  let c2_i32 : BitVec 32 := 2#32
  let c0_i32_62 : BitVec 32 := 0#32
  let v123 : BitVec 1 := Scalar.cmpi .sgt c2_i32 c0_i32_62
  let v124 : BitVec 32 := Scalar.extui v123
  let c0_i32_63 : BitVec 32 := 0#32
  let v125 : BitVec 1 := Scalar.cmpi .slt c2_i32 c0_i32_63
  let v126 : BitVec 32 := Scalar.extui v125
  let v127 : BitVec 32 := Scalar.subi v124 v126
  let v128 : BitVec 1 := Scalar.cmpi .ne v122 v127
  let v129 : BitVec 32 := Scalar.remsi v116 c2_i32
  let c0_i32_64 : BitVec 32 := 0#32
  let v130 : BitVec 1 := Scalar.cmpi .ne v129 c0_i32_64
  let v131 : BitVec 1 := Scalar.andi v128 v130
  let v117 : BitVec 32 := Scalar.divsi v116 c2_i32
  let c1_i32_65 : BitVec 32 := 1#32
  let v132 : BitVec 32 := Scalar.subi v117 c1_i32_65
  let v133 : BitVec 32 := Scalar.select v131 v132 v117
  let v136 : BitVec 32 := Scalar.subi v133 c0_i32_68
  let c1_i32_69 : BitVec 32 := 1#32
  let v138 : BitVec 32 := Scalar.divsi v136 c1_i32_69
  let v139 : BitVec 32 := Scalar.muli v138 c1_i32_69
  let v140 : BitVec 32 := Scalar.addi c0_i32_68 v139
  let c1_i32_71 : BitVec 32 := 1#32
  let arg14 : BitVec 32 := Scf.iv v140 c1_i32_71 k0_t4
  let c2_i32_84 : BitVec 32 := 2#32
  let v162 : BitVec 32 := Scalar.muli arg14 c2_i32_84
  let c4_i32_85 : BitVec 32 := 4#32
  let v163 : BitVec 32 := Scalar.muli v162 c4_i32_85
  let c7_i32 : BitVec 32 := 7#32
  let v171 : BitVec 32 := Scalar.addi v163 c7_i32
  let c256_i32_208 : BitVec 32 := 256#32
  let v439 : BitVec 32 := Scalar.muli v171 c256_i32_208
  v439
def k0_mult112 (i : grid0.Coords) (k0_t4 : Fin (k0_t4_loop i).trips) : BitVec 32 :=
  let c0_i32_68 : BitVec 32 := 0#32
  let arg1 : BitVec 32 := BitVec.ofNat 32 (i 1).val
  let c0_i32_12 : BitVec 32 := 0#32
  let v30 : BitVec 1 := Scalar.cmpi .sgt arg1 c0_i32_12
  let v31 : BitVec 32 := Scalar.extui v30
  let c0_i32_13 : BitVec 32 := 0#32
  let v32 : BitVec 1 := Scalar.cmpi .slt arg1 c0_i32_13
  let v33 : BitVec 32 := Scalar.extui v32
  let v34 : BitVec 32 := Scalar.subi v31 v33
  let c4_i32 : BitVec 32 := 4#32
  let c0_i32_14 : BitVec 32 := 0#32
  let v35 : BitVec 1 := Scalar.cmpi .sgt c4_i32 c0_i32_14
  let v36 : BitVec 32 := Scalar.extui v35
  let c0_i32_15 : BitVec 32 := 0#32
  let v37 : BitVec 1 := Scalar.cmpi .slt c4_i32 c0_i32_15
  let v38 : BitVec 32 := Scalar.extui v37
  let v39 : BitVec 32 := Scalar.subi v36 v38
  let v40 : BitVec 1 := Scalar.cmpi .ne v34 v39
  let v41 : BitVec 32 := Scalar.remsi arg1 c4_i32
  let c0_i32_16 : BitVec 32 := 0#32
  let v42 : BitVec 1 := Scalar.cmpi .ne v41 c0_i32_16
  let v43 : BitVec 1 := Scalar.andi v40 v42
  let v29 : BitVec 32 := Scalar.divsi arg1 c4_i32
  let c1_i32 : BitVec 32 := 1#32
  let v44 : BitVec 32 := Scalar.subi v29 c1_i32
  let v45 : BitVec 32 := Scalar.select v43 v44 v29
  let c1_i32_59 : BitVec 32 := 1#32
  let v116 : BitVec 32 := Scalar.addi v45 c1_i32_59
  let c0_i32_60 : BitVec 32 := 0#32
  let v118 : BitVec 1 := Scalar.cmpi .sgt v116 c0_i32_60
  let v119 : BitVec 32 := Scalar.extui v118
  let c0_i32_61 : BitVec 32 := 0#32
  let v120 : BitVec 1 := Scalar.cmpi .slt v116 c0_i32_61
  let v121 : BitVec 32 := Scalar.extui v120
  let v122 : BitVec 32 := Scalar.subi v119 v121
  let c2_i32 : BitVec 32 := 2#32
  let c0_i32_62 : BitVec 32 := 0#32
  let v123 : BitVec 1 := Scalar.cmpi .sgt c2_i32 c0_i32_62
  let v124 : BitVec 32 := Scalar.extui v123
  let c0_i32_63 : BitVec 32 := 0#32
  let v125 : BitVec 1 := Scalar.cmpi .slt c2_i32 c0_i32_63
  let v126 : BitVec 32 := Scalar.extui v125
  let v127 : BitVec 32 := Scalar.subi v124 v126
  let v128 : BitVec 1 := Scalar.cmpi .ne v122 v127
  let v129 : BitVec 32 := Scalar.remsi v116 c2_i32
  let c0_i32_64 : BitVec 32 := 0#32
  let v130 : BitVec 1 := Scalar.cmpi .ne v129 c0_i32_64
  let v131 : BitVec 1 := Scalar.andi v128 v130
  let v117 : BitVec 32 := Scalar.divsi v116 c2_i32
  let c1_i32_65 : BitVec 32 := 1#32
  let v132 : BitVec 32 := Scalar.subi v117 c1_i32_65
  let v133 : BitVec 32 := Scalar.select v131 v132 v117
  let v136 : BitVec 32 := Scalar.subi v133 c0_i32_68
  let c1_i32_69 : BitVec 32 := 1#32
  let v138 : BitVec 32 := Scalar.divsi v136 c1_i32_69
  let v139 : BitVec 32 := Scalar.muli v138 c1_i32_69
  let v140 : BitVec 32 := Scalar.addi c0_i32_68 v139
  let c1_i32_71 : BitVec 32 := 1#32
  let arg14 : BitVec 32 := Scf.iv v140 c1_i32_71 k0_t4
  let c2_i32_84 : BitVec 32 := 2#32
  let v162 : BitVec 32 := Scalar.muli arg14 c2_i32_84
  let c4_i32_85 : BitVec 32 := 4#32
  let v163 : BitVec 32 := Scalar.muli v162 c4_i32_85
  let c7_i32 : BitVec 32 := 7#32
  let v171 : BitVec 32 := Scalar.addi v163 c7_i32
  let c256_i32_214 : BitVec 32 := 256#32
  let v450 : BitVec 32 := Scalar.muli v171 c256_i32_214
  v450
def k0_cond5 (i : grid0.Coords) : BitVec 1 :=
  let arg1 : BitVec 32 := BitVec.ofNat 32 (i 1).val
  let c0_i32_12 : BitVec 32 := 0#32
  let v30 : BitVec 1 := Scalar.cmpi .sgt arg1 c0_i32_12
  let v31 : BitVec 32 := Scalar.extui v30
  let c0_i32_13 : BitVec 32 := 0#32
  let v32 : BitVec 1 := Scalar.cmpi .slt arg1 c0_i32_13
  let v33 : BitVec 32 := Scalar.extui v32
  let v34 : BitVec 32 := Scalar.subi v31 v33
  let c4_i32 : BitVec 32 := 4#32
  let c0_i32_14 : BitVec 32 := 0#32
  let v35 : BitVec 1 := Scalar.cmpi .sgt c4_i32 c0_i32_14
  let v36 : BitVec 32 := Scalar.extui v35
  let c0_i32_15 : BitVec 32 := 0#32
  let v37 : BitVec 1 := Scalar.cmpi .slt c4_i32 c0_i32_15
  let v38 : BitVec 32 := Scalar.extui v37
  let v39 : BitVec 32 := Scalar.subi v36 v38
  let v40 : BitVec 1 := Scalar.cmpi .ne v34 v39
  let v41 : BitVec 32 := Scalar.remsi arg1 c4_i32
  let c0_i32_16 : BitVec 32 := 0#32
  let v42 : BitVec 1 := Scalar.cmpi .ne v41 c0_i32_16
  let v43 : BitVec 1 := Scalar.andi v40 v42
  let v29 : BitVec 32 := Scalar.divsi arg1 c4_i32
  let c1_i32 : BitVec 32 := 1#32
  let v44 : BitVec 32 := Scalar.subi v29 c1_i32
  let v45 : BitVec 32 := Scalar.select v43 v44 v29
  let c2_i32_72 : BitVec 32 := 2#32
  let c0_i32_73 : BitVec 32 := 0#32
  let v143 : BitVec 1 := Scalar.cmpi .eq c2_i32_72 c0_i32_73
  let c1_i32_74 : BitVec 32 := 1#32
  let v144 : BitVec 32 := Scalar.select v143 c1_i32_74 c2_i32_72
  let v145 : BitVec 32 := Scalar.remsi v45 v144
  let c0_i32_76 : BitVec 32 := 0#32
  let v147 : BitVec 1 := Scalar.cmpi .slt v145 c0_i32_76
  let c0_i32_77 : BitVec 32 := 0#32
  let v148 : BitVec 1 := Scalar.cmpi .slt v144 c0_i32_77
  let v149 : BitVec 1 := Scalar.xori v147 v148
  let c0_i32_75 : BitVec 32 := 0#32
  let v146 : BitVec 1 := Scalar.cmpi .ne v145 c0_i32_75
  let v150 : BitVec 1 := Scalar.andi v149 v146
  let v151 : BitVec 32 := Scalar.addi v145 v144
  let v152 : BitVec 32 := Scalar.select v150 v151 v145
  let c0_i32_78 : BitVec 32 := 0#32
  let v153 : BitVec 1 := Scalar.cmpi .eq v152 c0_i32_78
  let v154 : BitVec 32 := Scalar.extui v153
  let c0_i32_79 : BitVec 32 := 0#32
  let v155 : BitVec 1 := Scalar.cmpi .ne v154 c0_i32_79
  v155

def k0_off26 (i : grid0.Coords) (c0_i32_85 : BitVec 32) : Fin 3 → Nat :=
  let arg1 : BitVec 32 := BitVec.ofNat 32 (i 1).val
  let c0_i32_12 : BitVec 32 := 0#32
  let v30 : BitVec 1 := Scalar.cmpi .sgt arg1 c0_i32_12
  let v31 : BitVec 32 := Scalar.extui v30
  let c0_i32_13 : BitVec 32 := 0#32
  let v32 : BitVec 1 := Scalar.cmpi .slt arg1 c0_i32_13
  let v33 : BitVec 32 := Scalar.extui v32
  let v34 : BitVec 32 := Scalar.subi v31 v33
  let c4_i32 : BitVec 32 := 4#32
  let c0_i32_14 : BitVec 32 := 0#32
  let v35 : BitVec 1 := Scalar.cmpi .sgt c4_i32 c0_i32_14
  let v36 : BitVec 32 := Scalar.extui v35
  let c0_i32_15 : BitVec 32 := 0#32
  let v37 : BitVec 1 := Scalar.cmpi .slt c4_i32 c0_i32_15
  let v38 : BitVec 32 := Scalar.extui v37
  let v39 : BitVec 32 := Scalar.subi v36 v38
  let v40 : BitVec 1 := Scalar.cmpi .ne v34 v39
  let v41 : BitVec 32 := Scalar.remsi arg1 c4_i32
  let c0_i32_16 : BitVec 32 := 0#32
  let v42 : BitVec 1 := Scalar.cmpi .ne v41 c0_i32_16
  let v43 : BitVec 1 := Scalar.andi v40 v42
  let v29 : BitVec 32 := Scalar.divsi arg1 c4_i32
  let c1_i32 : BitVec 32 := 1#32
  let v44 : BitVec 32 := Scalar.subi v29 c1_i32
  let v45 : BitVec 32 := Scalar.select v43 v44 v29
  let c4_i32_84 : BitVec 32 := 4#32
  let v162 : BitVec 32 := Scalar.muli v45 c4_i32_84
  let v163 : BitVec 32 := Scalar.addi v162 c0_i32_85
  let v167 : Index := Scalar.indexCast v163
  let c0_89 : Index := 0#32
  let c0_90 : Index := 0#32
  ![v167.toNat, 0, 0]
def k0_mult113 (i : grid0.Coords) : BitVec 32 :=
  let arg1 : BitVec 32 := BitVec.ofNat 32 (i 1).val
  let c0_i32_12 : BitVec 32 := 0#32
  let v30 : BitVec 1 := Scalar.cmpi .sgt arg1 c0_i32_12
  let v31 : BitVec 32 := Scalar.extui v30
  let c0_i32_13 : BitVec 32 := 0#32
  let v32 : BitVec 1 := Scalar.cmpi .slt arg1 c0_i32_13
  let v33 : BitVec 32 := Scalar.extui v32
  let v34 : BitVec 32 := Scalar.subi v31 v33
  let c4_i32 : BitVec 32 := 4#32
  let c0_i32_14 : BitVec 32 := 0#32
  let v35 : BitVec 1 := Scalar.cmpi .sgt c4_i32 c0_i32_14
  let v36 : BitVec 32 := Scalar.extui v35
  let c0_i32_15 : BitVec 32 := 0#32
  let v37 : BitVec 1 := Scalar.cmpi .slt c4_i32 c0_i32_15
  let v38 : BitVec 32 := Scalar.extui v37
  let v39 : BitVec 32 := Scalar.subi v36 v38
  let v40 : BitVec 1 := Scalar.cmpi .ne v34 v39
  let v41 : BitVec 32 := Scalar.remsi arg1 c4_i32
  let c0_i32_16 : BitVec 32 := 0#32
  let v42 : BitVec 1 := Scalar.cmpi .ne v41 c0_i32_16
  let v43 : BitVec 1 := Scalar.andi v40 v42
  let v29 : BitVec 32 := Scalar.divsi arg1 c4_i32
  let c1_i32 : BitVec 32 := 1#32
  let v44 : BitVec 32 := Scalar.subi v29 c1_i32
  let v45 : BitVec 32 := Scalar.select v43 v44 v29
  let c4_i32_84 : BitVec 32 := 4#32
  let v162 : BitVec 32 := Scalar.muli v45 c4_i32_84
  let c0_i32_85 : BitVec 32 := 0#32
  let v163 : BitVec 32 := Scalar.addi v162 c0_i32_85
  let c256_i32_103 : BitVec 32 := 256#32
  let v197 : BitVec 32 := Scalar.muli v163 c256_i32_103
  v197
def k0_off27 (i : grid0.Coords) (c0_i32_85 : BitVec 32) : Fin 3 → Nat :=
  let c0_104 : Index := 0#32
  let c0_105 : Index := 0#32
  let arg1 : BitVec 32 := BitVec.ofNat 32 (i 1).val
  let c0_i32_12 : BitVec 32 := 0#32
  let v30 : BitVec 1 := Scalar.cmpi .sgt arg1 c0_i32_12
  let v31 : BitVec 32 := Scalar.extui v30
  let c0_i32_13 : BitVec 32 := 0#32
  let v32 : BitVec 1 := Scalar.cmpi .slt arg1 c0_i32_13
  let v33 : BitVec 32 := Scalar.extui v32
  let v34 : BitVec 32 := Scalar.subi v31 v33
  let c4_i32 : BitVec 32 := 4#32
  let c0_i32_14 : BitVec 32 := 0#32
  let v35 : BitVec 1 := Scalar.cmpi .sgt c4_i32 c0_i32_14
  let v36 : BitVec 32 := Scalar.extui v35
  let c0_i32_15 : BitVec 32 := 0#32
  let v37 : BitVec 1 := Scalar.cmpi .slt c4_i32 c0_i32_15
  let v38 : BitVec 32 := Scalar.extui v37
  let v39 : BitVec 32 := Scalar.subi v36 v38
  let v40 : BitVec 1 := Scalar.cmpi .ne v34 v39
  let v41 : BitVec 32 := Scalar.remsi arg1 c4_i32
  let c0_i32_16 : BitVec 32 := 0#32
  let v42 : BitVec 1 := Scalar.cmpi .ne v41 c0_i32_16
  let v43 : BitVec 1 := Scalar.andi v40 v42
  let v29 : BitVec 32 := Scalar.divsi arg1 c4_i32
  let c1_i32 : BitVec 32 := 1#32
  let v44 : BitVec 32 := Scalar.subi v29 c1_i32
  let v45 : BitVec 32 := Scalar.select v43 v44 v29
  let c4_i32_84 : BitVec 32 := 4#32
  let v162 : BitVec 32 := Scalar.muli v45 c4_i32_84
  let v163 : BitVec 32 := Scalar.addi v162 c0_i32_85
  let c256_i32_103 : BitVec 32 := 256#32
  let v197 : BitVec 32 := Scalar.muli v163 c256_i32_103
  let v198 : BitVec 32 := v197
  let v199 : Index := Scalar.indexCast v198
  ![0, 0, v199.toNat]
def k0_mult114 (i : grid0.Coords) : BitVec 32 :=
  let arg1 : BitVec 32 := BitVec.ofNat 32 (i 1).val
  let c0_i32_12 : BitVec 32 := 0#32
  let v30 : BitVec 1 := Scalar.cmpi .sgt arg1 c0_i32_12
  let v31 : BitVec 32 := Scalar.extui v30
  let c0_i32_13 : BitVec 32 := 0#32
  let v32 : BitVec 1 := Scalar.cmpi .slt arg1 c0_i32_13
  let v33 : BitVec 32 := Scalar.extui v32
  let v34 : BitVec 32 := Scalar.subi v31 v33
  let c4_i32 : BitVec 32 := 4#32
  let c0_i32_14 : BitVec 32 := 0#32
  let v35 : BitVec 1 := Scalar.cmpi .sgt c4_i32 c0_i32_14
  let v36 : BitVec 32 := Scalar.extui v35
  let c0_i32_15 : BitVec 32 := 0#32
  let v37 : BitVec 1 := Scalar.cmpi .slt c4_i32 c0_i32_15
  let v38 : BitVec 32 := Scalar.extui v37
  let v39 : BitVec 32 := Scalar.subi v36 v38
  let v40 : BitVec 1 := Scalar.cmpi .ne v34 v39
  let v41 : BitVec 32 := Scalar.remsi arg1 c4_i32
  let c0_i32_16 : BitVec 32 := 0#32
  let v42 : BitVec 1 := Scalar.cmpi .ne v41 c0_i32_16
  let v43 : BitVec 1 := Scalar.andi v40 v42
  let v29 : BitVec 32 := Scalar.divsi arg1 c4_i32
  let c1_i32 : BitVec 32 := 1#32
  let v44 : BitVec 32 := Scalar.subi v29 c1_i32
  let v45 : BitVec 32 := Scalar.select v43 v44 v29
  let c4_i32_84 : BitVec 32 := 4#32
  let v162 : BitVec 32 := Scalar.muli v45 c4_i32_84
  let c0_i32_85 : BitVec 32 := 0#32
  let v163 : BitVec 32 := Scalar.addi v162 c0_i32_85
  let c256_i32_109 : BitVec 32 := 256#32
  let v208 : BitVec 32 := Scalar.muli v163 c256_i32_109
  v208
def k0_mult115 (i : grid0.Coords) : BitVec 32 :=
  let arg1 : BitVec 32 := BitVec.ofNat 32 (i 1).val
  let c0_i32_12 : BitVec 32 := 0#32
  let v30 : BitVec 1 := Scalar.cmpi .sgt arg1 c0_i32_12
  let v31 : BitVec 32 := Scalar.extui v30
  let c0_i32_13 : BitVec 32 := 0#32
  let v32 : BitVec 1 := Scalar.cmpi .slt arg1 c0_i32_13
  let v33 : BitVec 32 := Scalar.extui v32
  let v34 : BitVec 32 := Scalar.subi v31 v33
  let c4_i32 : BitVec 32 := 4#32
  let c0_i32_14 : BitVec 32 := 0#32
  let v35 : BitVec 1 := Scalar.cmpi .sgt c4_i32 c0_i32_14
  let v36 : BitVec 32 := Scalar.extui v35
  let c0_i32_15 : BitVec 32 := 0#32
  let v37 : BitVec 1 := Scalar.cmpi .slt c4_i32 c0_i32_15
  let v38 : BitVec 32 := Scalar.extui v37
  let v39 : BitVec 32 := Scalar.subi v36 v38
  let v40 : BitVec 1 := Scalar.cmpi .ne v34 v39
  let v41 : BitVec 32 := Scalar.remsi arg1 c4_i32
  let c0_i32_16 : BitVec 32 := 0#32
  let v42 : BitVec 1 := Scalar.cmpi .ne v41 c0_i32_16
  let v43 : BitVec 1 := Scalar.andi v40 v42
  let v29 : BitVec 32 := Scalar.divsi arg1 c4_i32
  let c1_i32 : BitVec 32 := 1#32
  let v44 : BitVec 32 := Scalar.subi v29 c1_i32
  let v45 : BitVec 32 := Scalar.select v43 v44 v29
  let c4_i32_84 : BitVec 32 := 4#32
  let v162 : BitVec 32 := Scalar.muli v45 c4_i32_84
  let c1_i32_86 : BitVec 32 := 1#32
  let v164 : BitVec 32 := Scalar.addi v162 c1_i32_86
  let c256_i32_116 : BitVec 32 := 256#32
  let v228 : BitVec 32 := Scalar.muli v164 c256_i32_116
  v228
def k0_mult116 (i : grid0.Coords) : BitVec 32 :=
  let arg1 : BitVec 32 := BitVec.ofNat 32 (i 1).val
  let c0_i32_12 : BitVec 32 := 0#32
  let v30 : BitVec 1 := Scalar.cmpi .sgt arg1 c0_i32_12
  let v31 : BitVec 32 := Scalar.extui v30
  let c0_i32_13 : BitVec 32 := 0#32
  let v32 : BitVec 1 := Scalar.cmpi .slt arg1 c0_i32_13
  let v33 : BitVec 32 := Scalar.extui v32
  let v34 : BitVec 32 := Scalar.subi v31 v33
  let c4_i32 : BitVec 32 := 4#32
  let c0_i32_14 : BitVec 32 := 0#32
  let v35 : BitVec 1 := Scalar.cmpi .sgt c4_i32 c0_i32_14
  let v36 : BitVec 32 := Scalar.extui v35
  let c0_i32_15 : BitVec 32 := 0#32
  let v37 : BitVec 1 := Scalar.cmpi .slt c4_i32 c0_i32_15
  let v38 : BitVec 32 := Scalar.extui v37
  let v39 : BitVec 32 := Scalar.subi v36 v38
  let v40 : BitVec 1 := Scalar.cmpi .ne v34 v39
  let v41 : BitVec 32 := Scalar.remsi arg1 c4_i32
  let c0_i32_16 : BitVec 32 := 0#32
  let v42 : BitVec 1 := Scalar.cmpi .ne v41 c0_i32_16
  let v43 : BitVec 1 := Scalar.andi v40 v42
  let v29 : BitVec 32 := Scalar.divsi arg1 c4_i32
  let c1_i32 : BitVec 32 := 1#32
  let v44 : BitVec 32 := Scalar.subi v29 c1_i32
  let v45 : BitVec 32 := Scalar.select v43 v44 v29
  let c4_i32_84 : BitVec 32 := 4#32
  let v162 : BitVec 32 := Scalar.muli v45 c4_i32_84
  let c1_i32_86 : BitVec 32 := 1#32
  let v164 : BitVec 32 := Scalar.addi v162 c1_i32_86
  let c256_i32_122 : BitVec 32 := 256#32
  let v239 : BitVec 32 := Scalar.muli v164 c256_i32_122
  v239
def k0_mult117 (i : grid0.Coords) : BitVec 32 :=
  let arg1 : BitVec 32 := BitVec.ofNat 32 (i 1).val
  let c0_i32_12 : BitVec 32 := 0#32
  let v30 : BitVec 1 := Scalar.cmpi .sgt arg1 c0_i32_12
  let v31 : BitVec 32 := Scalar.extui v30
  let c0_i32_13 : BitVec 32 := 0#32
  let v32 : BitVec 1 := Scalar.cmpi .slt arg1 c0_i32_13
  let v33 : BitVec 32 := Scalar.extui v32
  let v34 : BitVec 32 := Scalar.subi v31 v33
  let c4_i32 : BitVec 32 := 4#32
  let c0_i32_14 : BitVec 32 := 0#32
  let v35 : BitVec 1 := Scalar.cmpi .sgt c4_i32 c0_i32_14
  let v36 : BitVec 32 := Scalar.extui v35
  let c0_i32_15 : BitVec 32 := 0#32
  let v37 : BitVec 1 := Scalar.cmpi .slt c4_i32 c0_i32_15
  let v38 : BitVec 32 := Scalar.extui v37
  let v39 : BitVec 32 := Scalar.subi v36 v38
  let v40 : BitVec 1 := Scalar.cmpi .ne v34 v39
  let v41 : BitVec 32 := Scalar.remsi arg1 c4_i32
  let c0_i32_16 : BitVec 32 := 0#32
  let v42 : BitVec 1 := Scalar.cmpi .ne v41 c0_i32_16
  let v43 : BitVec 1 := Scalar.andi v40 v42
  let v29 : BitVec 32 := Scalar.divsi arg1 c4_i32
  let c1_i32 : BitVec 32 := 1#32
  let v44 : BitVec 32 := Scalar.subi v29 c1_i32
  let v45 : BitVec 32 := Scalar.select v43 v44 v29
  let c4_i32_84 : BitVec 32 := 4#32
  let v162 : BitVec 32 := Scalar.muli v45 c4_i32_84
  let c2_i32_87 : BitVec 32 := 2#32
  let v165 : BitVec 32 := Scalar.addi v162 c2_i32_87
  let c256_i32_129 : BitVec 32 := 256#32
  let v259 : BitVec 32 := Scalar.muli v165 c256_i32_129
  v259
def k0_mult118 (i : grid0.Coords) : BitVec 32 :=
  let arg1 : BitVec 32 := BitVec.ofNat 32 (i 1).val
  let c0_i32_12 : BitVec 32 := 0#32
  let v30 : BitVec 1 := Scalar.cmpi .sgt arg1 c0_i32_12
  let v31 : BitVec 32 := Scalar.extui v30
  let c0_i32_13 : BitVec 32 := 0#32
  let v32 : BitVec 1 := Scalar.cmpi .slt arg1 c0_i32_13
  let v33 : BitVec 32 := Scalar.extui v32
  let v34 : BitVec 32 := Scalar.subi v31 v33
  let c4_i32 : BitVec 32 := 4#32
  let c0_i32_14 : BitVec 32 := 0#32
  let v35 : BitVec 1 := Scalar.cmpi .sgt c4_i32 c0_i32_14
  let v36 : BitVec 32 := Scalar.extui v35
  let c0_i32_15 : BitVec 32 := 0#32
  let v37 : BitVec 1 := Scalar.cmpi .slt c4_i32 c0_i32_15
  let v38 : BitVec 32 := Scalar.extui v37
  let v39 : BitVec 32 := Scalar.subi v36 v38
  let v40 : BitVec 1 := Scalar.cmpi .ne v34 v39
  let v41 : BitVec 32 := Scalar.remsi arg1 c4_i32
  let c0_i32_16 : BitVec 32 := 0#32
  let v42 : BitVec 1 := Scalar.cmpi .ne v41 c0_i32_16
  let v43 : BitVec 1 := Scalar.andi v40 v42
  let v29 : BitVec 32 := Scalar.divsi arg1 c4_i32
  let c1_i32 : BitVec 32 := 1#32
  let v44 : BitVec 32 := Scalar.subi v29 c1_i32
  let v45 : BitVec 32 := Scalar.select v43 v44 v29
  let c4_i32_84 : BitVec 32 := 4#32
  let v162 : BitVec 32 := Scalar.muli v45 c4_i32_84
  let c2_i32_87 : BitVec 32 := 2#32
  let v165 : BitVec 32 := Scalar.addi v162 c2_i32_87
  let c256_i32_135 : BitVec 32 := 256#32
  let v270 : BitVec 32 := Scalar.muli v165 c256_i32_135
  v270
def k0_mult119 (i : grid0.Coords) : BitVec 32 :=
  let arg1 : BitVec 32 := BitVec.ofNat 32 (i 1).val
  let c0_i32_12 : BitVec 32 := 0#32
  let v30 : BitVec 1 := Scalar.cmpi .sgt arg1 c0_i32_12
  let v31 : BitVec 32 := Scalar.extui v30
  let c0_i32_13 : BitVec 32 := 0#32
  let v32 : BitVec 1 := Scalar.cmpi .slt arg1 c0_i32_13
  let v33 : BitVec 32 := Scalar.extui v32
  let v34 : BitVec 32 := Scalar.subi v31 v33
  let c4_i32 : BitVec 32 := 4#32
  let c0_i32_14 : BitVec 32 := 0#32
  let v35 : BitVec 1 := Scalar.cmpi .sgt c4_i32 c0_i32_14
  let v36 : BitVec 32 := Scalar.extui v35
  let c0_i32_15 : BitVec 32 := 0#32
  let v37 : BitVec 1 := Scalar.cmpi .slt c4_i32 c0_i32_15
  let v38 : BitVec 32 := Scalar.extui v37
  let v39 : BitVec 32 := Scalar.subi v36 v38
  let v40 : BitVec 1 := Scalar.cmpi .ne v34 v39
  let v41 : BitVec 32 := Scalar.remsi arg1 c4_i32
  let c0_i32_16 : BitVec 32 := 0#32
  let v42 : BitVec 1 := Scalar.cmpi .ne v41 c0_i32_16
  let v43 : BitVec 1 := Scalar.andi v40 v42
  let v29 : BitVec 32 := Scalar.divsi arg1 c4_i32
  let c1_i32 : BitVec 32 := 1#32
  let v44 : BitVec 32 := Scalar.subi v29 c1_i32
  let v45 : BitVec 32 := Scalar.select v43 v44 v29
  let c4_i32_84 : BitVec 32 := 4#32
  let v162 : BitVec 32 := Scalar.muli v45 c4_i32_84
  let c3_i32_88 : BitVec 32 := 3#32
  let v166 : BitVec 32 := Scalar.addi v162 c3_i32_88
  let c256_i32_142 : BitVec 32 := 256#32
  let v290 : BitVec 32 := Scalar.muli v166 c256_i32_142
  v290
def k0_mult120 (i : grid0.Coords) : BitVec 32 :=
  let arg1 : BitVec 32 := BitVec.ofNat 32 (i 1).val
  let c0_i32_12 : BitVec 32 := 0#32
  let v30 : BitVec 1 := Scalar.cmpi .sgt arg1 c0_i32_12
  let v31 : BitVec 32 := Scalar.extui v30
  let c0_i32_13 : BitVec 32 := 0#32
  let v32 : BitVec 1 := Scalar.cmpi .slt arg1 c0_i32_13
  let v33 : BitVec 32 := Scalar.extui v32
  let v34 : BitVec 32 := Scalar.subi v31 v33
  let c4_i32 : BitVec 32 := 4#32
  let c0_i32_14 : BitVec 32 := 0#32
  let v35 : BitVec 1 := Scalar.cmpi .sgt c4_i32 c0_i32_14
  let v36 : BitVec 32 := Scalar.extui v35
  let c0_i32_15 : BitVec 32 := 0#32
  let v37 : BitVec 1 := Scalar.cmpi .slt c4_i32 c0_i32_15
  let v38 : BitVec 32 := Scalar.extui v37
  let v39 : BitVec 32 := Scalar.subi v36 v38
  let v40 : BitVec 1 := Scalar.cmpi .ne v34 v39
  let v41 : BitVec 32 := Scalar.remsi arg1 c4_i32
  let c0_i32_16 : BitVec 32 := 0#32
  let v42 : BitVec 1 := Scalar.cmpi .ne v41 c0_i32_16
  let v43 : BitVec 1 := Scalar.andi v40 v42
  let v29 : BitVec 32 := Scalar.divsi arg1 c4_i32
  let c1_i32 : BitVec 32 := 1#32
  let v44 : BitVec 32 := Scalar.subi v29 c1_i32
  let v45 : BitVec 32 := Scalar.select v43 v44 v29
  let c4_i32_84 : BitVec 32 := 4#32
  let v162 : BitVec 32 := Scalar.muli v45 c4_i32_84
  let c3_i32_88 : BitVec 32 := 3#32
  let v166 : BitVec 32 := Scalar.addi v162 c3_i32_88
  let c256_i32_148 : BitVec 32 := 256#32
  let v301 : BitVec 32 := Scalar.muli v166 c256_i32_148
  v301
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x8192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x64x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x64x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x8192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x64x8192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceIdeal.lean ====
abbrev S8192x512 : Shape := ⟨2, ![8192, 512]⟩
abbrev S1x8192x8x64 : Shape := ⟨4, ![1, 8192, 8, 64]⟩
abbrev S1x8x8192x8192 : Shape := ⟨4, ![1, 8, 8192, 8192]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S1x8x64x8192 : Shape := ⟨4, ![1, 8, 64, 8192]⟩
abbrev S1x8x8192x64 : Shape := ⟨4, ![1, 8, 8192, 64]⟩
abbrev S512x8192 : Shape := ⟨2, ![512, 8192]⟩
abbrev S8x64x8192 : Shape := ⟨3, ![8, 64, 8192]⟩

abbrev nBuf : Space → Nat
  | .hbm => 129
  | .vmem => 0
  | .smem => 0
  | _ => 0

abbrev hbmTy0_0 (i : Nat) : BufTy := match i % 128 with
  | 0 => ⟨S8192x512, .f32⟩
  | 1 => ⟨S8192x512, .f32⟩
  | 2 => ⟨S8192x512, .f32⟩
  | 3 => ⟨S8192x512, .f32⟩
  | 4 => ⟨S1x8192x8x64, .f32⟩
  | 5 => ⟨S1x8192x8x64, .f32⟩
  | 6 => ⟨S1x8192x8x64, .f32⟩
  | 7 => ⟨S1x8x8192x8192, .f32⟩
  | 8 => ⟨S_, .f32⟩
  | 9 => ⟨S1x8x8192x8192, .f32⟩
  | 10 => ⟨S1x8x8192x8192, .f32⟩
  | 11 => ⟨S8192, .i32⟩
  | 12 => ⟨S8192x1, .i32⟩
  | 13 => ⟨S8192, .i32⟩
  | 14 => ⟨S1x8192, .i32⟩
  | 15 => ⟨S8192x8192, .i32⟩
  | 16 => ⟨S8192x8192, .i32⟩
  | 17 => ⟨S8192x8192, .i1⟩
  | 18 => ⟨S1x8x8192x8192, .f32⟩
  | 19 => ⟨S_, .f32⟩
  | 20 => ⟨S1x8x8192x8192, .f32⟩
  | 21 => ⟨S1x8x8192x8192, .f32⟩
  | 22 => ⟨S1x8x8192x8192, .f32⟩
  | 23 => ⟨S1x8x8192x8192, .f32⟩
  | 24 => ⟨S1x8x8192x8192, .i1⟩
  | 25 => ⟨S1x8x8192x8192, .f32⟩
  | 26 => ⟨S1x8x8192x8192, .f32⟩
  | 27 => ⟨S1x8x8192x8192, .f32⟩
  | 28 => ⟨S1x8x8192x8192, .f32⟩
  | 29 => ⟨S1x8x8192x8192, .f32⟩
  | 30 => ⟨S1x8x8192x8192, .f32⟩
  | 31 => ⟨S1x8x8192x8192, .f32⟩
  | 32 => ⟨S1x8x8192x8192, .f32⟩
  | 33 => ⟨S_, .f32⟩
  | 34 => ⟨S1x8x8192x8192, .f32⟩
  | 35 => ⟨S1x8x8192x8192, .i1⟩
  | 36 => ⟨S_, .f32⟩
  | 37 => ⟨S1x8x8192x8192, .f32⟩
  | 38 => ⟨S1x8x8192x8192, .f32⟩
  | 39 => ⟨S_, .f32⟩
  | 40 => ⟨S1x8x8192x8192, .f32⟩
  | 41 => ⟨S1x8x8192x8192, .i1⟩
  | 42 => ⟨S_, .f32⟩
  | 43 => ⟨S1x8x8192x8192, .f32⟩
  | 44 => ⟨S1x8x8192x8192, .f32⟩
  | 45 => ⟨S1x8x8192x8192, .f32⟩
  | 46 => ⟨S1x8x8192x8192, .f32⟩
  | 47 => ⟨S_, .f32⟩
  | 48 => ⟨S_, .f32⟩
  | 49 => ⟨S_, .i1⟩
  | 50 => ⟨S_, .f32⟩
  | 51 => ⟨S_, .f32⟩
  | 52 => ⟨S_, .f32⟩
  | 53 => ⟨S_, .f32⟩
  | 54 => ⟨S1x8x8192x8192, .f32⟩
  | 55 => ⟨S1x8x8192x8192, .i1⟩
  | 56 => ⟨S_, .f32⟩
  | 57 => ⟨S1x8x8192x8192, .f32⟩
  | 58 => ⟨S1x8x8192x8192, .f32⟩
  | 59 => ⟨S1x8x8192x8192, .f32⟩
  | 60 => ⟨S1x8x8192x8192, .f32⟩
  | 61 => ⟨S1x8x8192x8192, .f32⟩
  | 62 => ⟨S_, .f32⟩
  | 63 => ⟨S1x8x8192x8192, .f32⟩
  | 64 => ⟨S1x8x8192x8192, .f32⟩
  | 65 => ⟨S1x8x8192x8192, .f32⟩
  | 66 => ⟨S1x8x8192x8192, .f32⟩
  | 67 => ⟨S_, .f32⟩
  | 68 => ⟨S_, .f32⟩
  | 69 => ⟨S1x8x8192x8192, .i1⟩
  | 70 => ⟨S1x8x8192x8192, .f32⟩
  | 71 => ⟨S1x8x8192x8192, .f32⟩
  | 72 => ⟨S_, .f32⟩
  | 73 => ⟨S1x8x8192x8192, .f32⟩
  | 74 => ⟨S_, .f32⟩
  | 75 => ⟨S_, .f32⟩
  | 76 => ⟨S1x8x8192x8192, .f32⟩
  | 77 => ⟨S1x8x8192x8192, .f32⟩
  | 78 => ⟨S1x8x8192x8192, .f32⟩
  | 79 => ⟨S1x8x8192x8192, .f32⟩
  | 80 => ⟨S_, .f32⟩
  | 81 => ⟨S_, .f32⟩
  | 82 => ⟨S1x8x8192x8192, .i1⟩
  | 83 => ⟨S1x8x8192x8192, .f32⟩
  | 84 => ⟨S1x8x8192x8192, .f32⟩
  | 85 => ⟨S_, .f32⟩
  | 86 => ⟨S1x8x8192x8192, .f32⟩
  | 87 => ⟨S1x8x64x8192, .f32⟩
  | 88 => ⟨S1x8192x8x64, .f32⟩
  | 89 => ⟨S8192x512, .f32⟩
  | 90 => ⟨S1x8192x8x64, .f32⟩
  | 91 => ⟨S1x8x64x8192, .f32⟩
  | 92 => ⟨S1x8x8192x8192, .f32⟩
  | 93 => ⟨S1x8x64x8192, .f32⟩
  | 94 => ⟨S1x8192x8x64, .f32⟩
  | 95 => ⟨S_, .f32⟩
  | 96 => ⟨S1x8x8192x8192, .f32⟩
  | 97 => ⟨S1x8x8192x8192, .f32⟩
  | 98 => ⟨S1x8x8192x8192, .f32⟩
  | 99 => ⟨S1x8x8192x8192, .f32⟩
  | 100 => ⟨S_, .f32⟩
  | 101 => ⟨S_, .f32⟩
  | 102 => ⟨S1x8x8192x8192, .f32⟩
  | 103 => ⟨S1x8x8192x8192, .f32⟩
  | 104 => ⟨S_, .f32⟩
  | 105 => ⟨S1x8x8192x8192, .f32⟩
  | 106 => ⟨S1x8x8192x8192, .f32⟩
  | 107 => ⟨S1x8x8192x8192, .f32⟩
  | 108 => ⟨S1x8x8192x8192, .f32⟩
  | 109 => ⟨S1x8x8192x8192, .f32⟩
  | 110 => ⟨S1x8x8192x8192, .f32⟩
  | 111 => ⟨S1x8x8192x8192, .f32⟩
  | 112 => ⟨S1x8x8192x8192, .f32⟩
  | 113 => ⟨S_, .f32⟩
  | 114 => ⟨S1x8x8192x8192, .f32⟩
  | 115 => ⟨S1x8x8192x8192, .f32⟩
  | 116 => ⟨S1x8x8192x64, .f32⟩
  | 117 => ⟨S1x8192x8x64, .f32⟩
  | 118 => ⟨S1x8x8192x64, .f32⟩
  | 119 => ⟨S1x8192x8x64, .f32⟩
  | 120 => ⟨S8192x512, .f32⟩
  | 121 => ⟨S8192x512, .f32⟩
  | 122 => ⟨S8192x512, .f32⟩
  | 123 => ⟨S512x8192, .f32⟩
  | 124 => ⟨S8x64x8192, .f32⟩
  | 125 => ⟨S512x8192, .f32⟩
  | 126 => ⟨S8x64x8192, .f32⟩
  | 127 => ⟨S512x8192, .f32⟩
  | _ => ⟨S8192x512, .f32⟩

abbrev hbmTy0_1 (i : Nat) : BufTy := match i % 128 with
  | 0 => ⟨S8x64x8192, .f32⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_call0_v0 : Ref sig .tc := ⟨.hbm, 18, rfl⟩
abbrev main_call0_call0_cst : Ref sig .tc := ⟨.hbm, 19, rfl⟩
abbrev main_call0_call0_v0 : Ref sig .tc := ⟨.hbm, 20, rfl⟩
abbrev main_call0_call0_v1 : Ref sig .tc := ⟨.hbm, 21, rfl⟩
abbrev main_call0_call0_v2 : Ref sig .tc := ⟨.hbm, 22, rfl⟩
abbrev main_call0_call0_v3 : Ref sig .tc := ⟨.hbm, 23, rfl⟩
abbrev main_call0_call0_v4 : Ref sig .tc := ⟨.hbm, 24, rfl⟩
abbrev main_call0_call0_v5 : Ref sig .tc := ⟨.hbm, 25, rfl⟩
abbrev main_call0_call0_v6 : Ref sig .tc := ⟨.hbm, 26, rfl⟩
abbrev main_call0_call0_v7 : Ref sig .tc := ⟨.hbm, 27, rfl⟩
abbrev main_call0_call0_v8 : Ref sig .tc := ⟨.hbm, 28, rfl⟩
abbrev main_call0_call0_v9 : Ref sig .tc := ⟨.hbm, 29, rfl⟩
abbrev main_call0_call0_v10 : Ref sig .tc := ⟨.hbm, 30, rfl⟩
abbrev main_call0_call0_v11 : Ref sig .tc := ⟨.hbm, 31, rfl⟩
abbrev main_call0_v1_0 : Ref sig .tc := ⟨.hbm, 32, rfl⟩
abbrev main_call0_call0_cst_0 : Ref sig .tc := ⟨.hbm, 33, rfl⟩
abbrev main_call0_call0_v13 : Ref sig .tc := ⟨.hbm, 34, rfl⟩
abbrev main_call0_call0_v14 : Ref sig .tc := ⟨.hbm, 35, rfl⟩
abbrev main_call0_call0_cst_1 : Ref sig .tc := ⟨.hbm, 36, rfl⟩
abbrev main_call0_call0_v15 : Ref sig .tc := ⟨.hbm, 37, rfl⟩
abbrev main_call0_call0_v16 : Ref sig .tc := ⟨.hbm, 38, rfl⟩
abbrev main_call0_call0_cst_2 : Ref sig .tc := ⟨.hbm, 39, rfl⟩
abbrev main_call0_call0_v17 : Ref sig .tc := ⟨.hbm, 40, rfl⟩
abbrev main_call0_call0_v18 : Ref sig .tc := ⟨.hbm, 41, rfl⟩
abbrev main_call0_call0_cst_3 : Ref sig .tc := ⟨.hbm, 42, rfl⟩
abbrev main_call0_call0_v19 : Ref sig .tc := ⟨.hbm, 43, rfl⟩
abbrev main_call0_call0_v20 : Ref sig .tc := ⟨.hbm, 44, rfl⟩
abbrev main_call0_call0_v21 : Ref sig .tc := ⟨.hbm, 45, rfl⟩
abbrev main_v13_1 : Ref sig .tc := ⟨.hbm, 46, rfl⟩
abbrev main_call0_call0_cst_4 : Ref sig .tc := ⟨.hbm, 47, rfl⟩
abbrev main_call0_call0_cst_5 : Ref sig .tc := ⟨.hbm, 48, rfl⟩
abbrev main_call0_call0_v23 : Ref sig .tc := ⟨.hbm, 49, rfl⟩
abbrev main_call0_call0_cst_6 : Ref sig .tc := ⟨.hbm, 50, rfl⟩
abbrev main_call0_call0_cst_7 : Ref sig .tc := ⟨.hbm, 51, rfl⟩
abbrev main_call0_call0_v24 : Ref sig .tc := ⟨.hbm, 52, rfl⟩
abbrev main_call0_call0_cst_8 : Ref sig .tc := ⟨.hbm, 53, rfl⟩
abbrev main_call0_call0_v25 : Ref sig .tc := ⟨.hbm, 54, rfl⟩
abbrev main_call0_call0_v26 : Ref sig .tc := ⟨.hbm, 55, rfl⟩
abbrev main_call0_call0_cst_9 : Ref sig .tc := ⟨.hbm, 56, rfl⟩
abbrev main_call0_call0_v27 : Ref sig .tc := ⟨.hbm, 57, rfl⟩
abbrev main_call0_call0_v28 : Ref sig .tc := ⟨.hbm, 58, rfl⟩
abbrev main_call0_call0_v29 : Ref sig .tc := ⟨.hbm, 59, rfl⟩
abbrev main_call0_call0_v30 : Ref sig .tc := ⟨.hbm, 60, rfl⟩
abbrev main_call0_call0_v31 : Ref sig .tc := ⟨.hbm, 61, rfl⟩
abbrev main_call0_call0_cst_10 : Ref sig .tc := ⟨.hbm, 62, rfl⟩
abbrev main_call0_call0_v32 : Ref sig .tc := ⟨.hbm, 63, rfl⟩
abbrev main_v13_2 : Ref sig .tc := ⟨.hbm, 64, rfl⟩
abbrev main_v13_0 : Ref sig .tc := ⟨.hbm, 65, rfl⟩
abbrev main_v14 : Ref sig .tc := ⟨.hbm, 66, rfl⟩
abbrev main_cst_0 : Ref sig .tc := ⟨.hbm, 67, rfl⟩
abbrev main_call1_v0 : Ref sig .tc := ⟨.hbm, 68, rfl⟩
abbrev main_v15_1 : Ref sig .tc := ⟨.hbm, 69, rfl⟩
abbrev main_call1_v2 : Ref sig .tc := ⟨.hbm, 70, rfl⟩
abbrev main_v15_0 : Ref sig .tc := ⟨.hbm, 71, rfl⟩
abbrev main_call1_cst : Ref sig .tc := ⟨.hbm, 72, rfl⟩
abbrev main_v15_2 : Ref sig .tc := ⟨.hbm, 73, rfl⟩
abbrev main_call2_cst : Ref sig .tc := ⟨.hbm, 74, rfl⟩
abbrev main_call2_v0 : Ref sig .tc := ⟨.hbm, 75, rfl⟩
abbrev main_v16 : Ref sig .tc := ⟨.hbm, 76, rfl⟩
abbrev main_v17 : Ref sig .tc := ⟨.hbm, 77, rfl⟩
abbrev main_v18 : Ref sig .tc := ⟨.hbm, 78, rfl⟩
abbrev main_v19 : Ref sig .tc := ⟨.hbm, 79, rfl⟩
abbrev main_cst_1 : Ref sig .tc := ⟨.hbm, 80, rfl⟩
abbrev main_call3_v0 : Ref sig .tc := ⟨.hbm, 81, rfl⟩
abbrev main_v20_1 : Ref sig .tc := ⟨.hbm, 82, rfl⟩
abbrev main_call3_v2 : Ref sig .tc := ⟨.hbm, 83, rfl⟩
abbrev main_v20_0 : Ref sig .tc := ⟨.hbm, 84, rfl⟩
abbrev main_call3_cst : Ref sig .tc := ⟨.hbm, 85, rfl⟩
abbrev main_v20_2 : Ref sig .tc := ⟨.hbm, 86, rfl⟩
abbrev main_v21 : Ref sig .tc := ⟨.hbm, 87, rfl⟩
abbrev main_v22 : Ref sig .tc := ⟨.hbm, 88, rfl⟩
abbrev main_v23 : Ref sig .tc := ⟨.hbm, 89, rfl⟩
abbrev main_v24 : Ref sig .tc := ⟨.hbm, 90, rfl⟩
abbrev main_v25 : Ref sig .tc := ⟨.hbm, 91, rfl⟩
abbrev main_v26 : Ref sig .tc := ⟨.hbm, 92, rfl⟩
abbrev main_v27 : Ref sig .tc := ⟨.hbm, 93, rfl⟩
abbrev main_v28 : Ref sig .tc := ⟨.hbm, 94, rfl⟩
abbrev main_call4_cst : Ref sig .tc := ⟨.hbm, 95, rfl⟩
abbrev main_call4_v0 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_call5_cst : Ref sig .tc := ⟨.hbm, 100, rfl⟩
abbrev main_call5_v0 : Ref sig .tc := ⟨.hbm, 101, rfl⟩
abbrev main_v32 : Ref sig .tc := ⟨.hbm, 102, rfl⟩
abbrev main_v33 : Ref sig .tc := ⟨.hbm, 103, rfl⟩
abbrev main_call6_cst : Ref sig .tc := ⟨.hbm, 104, rfl⟩
abbrev main_call6_v0 : Ref sig .tc := ⟨.hbm, 105, rfl⟩
abbrev main_v34 : Ref sig .tc := ⟨.hbm, 106, rfl⟩
abbrev main_v35 : Ref sig .tc := ⟨.hbm, 107, rfl⟩
abbrev main_v36 : Ref sig .tc := ⟨.hbm, 108, rfl⟩
abbrev main_call7_v0 : Ref sig .tc := ⟨.hbm, 109, rfl⟩
abbrev main_call7_v1 : Ref sig .tc := ⟨.hbm, 110, rfl⟩
abbrev main_v37 : Ref sig .tc := ⟨.hbm, 111, rfl⟩
abbrev main_v38 : Ref sig .tc := ⟨.hbm, 112, rfl⟩
abbrev main_cst_2 : Ref sig .tc := ⟨.hbm, 113, rfl⟩
abbrev main_v39 : Ref sig .tc := ⟨.hbm, 114, rfl⟩
abbrev main_v40 : Ref sig .tc := ⟨.hbm, 115, rfl⟩
abbrev main_v41 : Ref sig .tc := ⟨.hbm, 116, rfl⟩
abbrev main_v42 : Ref sig .tc := ⟨.hbm, 117, rfl⟩
abbrev main_v43 : Ref sig .tc := ⟨.hbm, 118, rfl⟩
abbrev main_v44 : Ref sig .tc := ⟨.hbm, 119, rfl⟩
abbrev main_v45 : Ref sig .tc := ⟨.hbm, 120, rfl⟩
abbrev main_v46 : Ref sig .tc := ⟨.hbm, 121, rfl⟩
abbrev main_v47 : Ref sig .tc := ⟨.hbm, 122, rfl⟩
abbrev main_v48 : Ref sig .tc := ⟨.hbm, 123, rfl⟩
abbrev main_v49 : Ref sig .tc := ⟨.hbm, 124, rfl⟩
abbrev main_v50 : Ref sig .tc := ⟨.hbm, 125, rfl⟩
abbrev main_v51 : Ref sig .tc := ⟨.hbm, 126, rfl⟩
abbrev main_v52 : Ref sig .tc := ⟨.hbm, 127, rfl⟩
abbrev main_v53 : Ref sig .tc := ⟨.hbm, 128, rfl⟩

abbrev nD : Nat := 1
abbrev τ : Topo := Topo.v7x

variable {F : FTy → Type} [FloatOps F]
-- ==== Kernel2.lean ====
abbrev S8192x1024 : Shape := ⟨2, ![8192, 1024]⟩
abbrev S1024 : Shape := ⟨1, ![1024]⟩
abbrev S1024x5120 : Shape := ⟨2, ![1024, 5120]⟩
abbrev S8192x5120 : Shape := ⟨2, ![8192, 5120]⟩
abbrev S1x1024 : Shape := ⟨2, ![1, 1024]⟩
abbrev S256x5120 : Shape := ⟨2, ![256, 5120]⟩
abbrev S256x1024 : Shape := ⟨2, ![256, 1024]⟩
abbrev S256 : Shape := ⟨1, ![256]⟩
abbrev S256x1 : Shape := ⟨2, ![256, 1]⟩

abbrev nBuf : Space → Nat
  | .hbm => 9
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5120, .f32⟩
  | .hbm, ⟨3, _⟩ => ⟨S8192x5120, .f32⟩
  | .hbm, ⟨4, _⟩ => ⟨S8192x1024, .f32⟩
  | .hbm, ⟨5, _⟩ => ⟨S1x1024, .f32⟩
  | .hbm, ⟨6, _⟩ => ⟨S1024x5120, .bf16⟩
  | .hbm, ⟨7, _⟩ => ⟨S8192x1024, .f32⟩
  | .hbm, ⟨8, _⟩ => ⟨S1x1024, .f32⟩
  | .local _ .vmem, ⟨0, _⟩ => ⟨S256x5120, .f32⟩
  | .local _ .vmem, ⟨1, _⟩ => ⟨S256x5120, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1024x5120, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x5120 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x5120 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference2Ideal.lean ====
abbrev S8192x1024 : Shape := ⟨2, ![8192, 1024]⟩
abbrev S1024 : Shape := ⟨1, ![1024]⟩
abbrev S1024x5120 : Shape := ⟨2, ![1024, 5120]⟩
abbrev S8192x5120 : Shape := ⟨2, ![8192, 5120]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S5120x1024 : Shape := ⟨2, ![5120, 1024]⟩

abbrev nBuf : Space → Nat
  | .hbm => 56
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5120, .f32⟩
  | .hbm, ⟨3, _⟩ => ⟨S8192x5120, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x5120, .f32⟩
  | .hbm, ⟨26, _⟩ => ⟨S5120x1024, .f32⟩
  | .hbm, ⟨27, _⟩ => ⟨S1024x5120, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S1024, .f32⟩
  | .hbm, ⟨37, _⟩ => ⟨S8192x1024, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S_, .f32⟩
  | .hbm, ⟨48, _⟩ => ⟨S8192, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Kernel3.lean ====
abbrev S8192x1024 : Shape := ⟨2, ![8192, 1024]⟩
abbrev S1024 : Shape := ⟨1, ![1024]⟩
abbrev S1024x5120 : Shape := ⟨2, ![1024, 5120]⟩
abbrev S8192x5120 : Shape := ⟨2, ![8192, 5120]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1024x8192 : Shape := ⟨2, ![1024, 8192]⟩
abbrev S8x1024x640 : Shape := ⟨3, ![8, 1024, 640]⟩
abbrev S2048x640 : Shape := ⟨2, ![2048, 640]⟩
abbrev S1024x2048 : Shape := ⟨2, ![1024, 2048]⟩
abbrev S1x1024x640 : Shape := ⟨3, ![1, 1024, 640]⟩
abbrev S1024x640 : Shape := ⟨2, ![1024, 640]⟩

abbrev nBuf : Space → Nat
  | .hbm => 23
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5120, .f32⟩
  | .hbm, ⟨3, _⟩ => ⟨S8192x5120, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S1024x8192, .f32⟩
  | .hbm, ⟨21, _⟩ => ⟨S1024x8192, .bf16⟩
  | .hbm, ⟨22, _⟩ => ⟨S8x1024x640, .f32⟩
  | .local _ .vmem, ⟨0, _⟩ => ⟨S2048x640, .f32⟩
  | .local _ .vmem, ⟨1, _⟩ => ⟨S2048x640, .f32⟩
  | .local _ .vmem, ⟨2, _⟩ => ⟨S1024x2048, .bf16⟩
  | .local _ .vmem, ⟨3, _⟩ => ⟨S1024x2048, .bf16⟩
  | .local _ .vmem, ⟨4, _⟩ => ⟨S1x1024x640, .f32⟩
  | .local _ .vmem, ⟨5, _⟩ => ⟨S1x1024x640, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference3Ideal.lean ====
abbrev S8192x1024 : Shape := ⟨2, ![8192, 1024]⟩
abbrev S1024 : Shape := ⟨1, ![1024]⟩
abbrev S1024x5120 : Shape := ⟨2, ![1024, 5120]⟩
abbrev S8192x5120 : Shape := ⟨2, ![8192, 5120]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S5120x1024 : Shape := ⟨2, ![5120, 1024]⟩
abbrev S1024x8x640 : Shape := ⟨3, ![1024, 8, 640]⟩
abbrev S8x1024x640 : Shape := ⟨3, ![8, 1024, 640]⟩

abbrev nBuf : Space → Nat
  | .hbm => 55
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5120, .f32⟩
  | .hbm, ⟨3, _⟩ => ⟨S8192x5120, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x5120, .f32⟩
  | .hbm, ⟨25, _⟩ => ⟨S5120x1024, .f32⟩
  | .hbm, ⟨26, _⟩ => ⟨S1024x5120, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S1024, .f32⟩
  | .hbm, ⟨36, _⟩ => ⟨S8192x1024, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S8192x1024, .f32⟩
  | .hbm, ⟨41, _⟩ => ⟨S8192x1024, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S1024x8x640, .f32⟩
  | .hbm, ⟨54, _⟩ => ⟨S8x1024x640, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_6 : Ref sig .tc := ⟨.hbm, 43, rfl⟩
abbrev main_v32 : Ref sig .tc := ⟨.hbm, 44, rfl⟩
abbrev main_v33 : Ref sig .tc := ⟨.hbm, 45, rfl⟩
abbrev main_cst_7 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩

abbrev nD : Nat := 1
abbrev τ : Topo := Topo.v7x

variable {F : FTy → Type} [FloatOps F]
-- ==== Kernel4.lean ====
abbrev S8192x512 : Shape := ⟨2, ![8192, 512]⟩
abbrev S8192x5120 : Shape := ⟨2, ![8192, 5120]⟩
abbrev S8192x1024 : Shape := ⟨2, ![8192, 1024]⟩
abbrev S512x1024 : Shape := ⟨2, ![512, 1024]⟩
abbrev S1024x1024 : Shape := ⟨2, ![1024, 1024]⟩
abbrev S1024 : Shape := ⟨1, ![1024]⟩
abbrev S1x1024 : Shape := ⟨2, ![1, 1024]⟩
abbrev S256x512 : Shape := ⟨2, ![256, 512]⟩
abbrev S256x1024 : Shape := ⟨2, ![256, 1024]⟩
abbrev S256 : Shape := ⟨1, ![256]⟩
abbrev S256x1 : Shape := ⟨2, ![256, 1]⟩

abbrev nBuf : Space → Nat
  | .hbm => 14
  | .vmem => 20
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x5120, .f32⟩
  | .hbm, ⟨3, _⟩ => ⟨S8192x1024, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S1024, .f32⟩
  | .hbm, ⟨8, _⟩ => ⟨S512x1024, .bf16⟩
  | .hbm, ⟨9, _⟩ => ⟨S512x1024, .bf16⟩
  | .hbm, ⟨10, _⟩ => ⟨S1024x1024, .bf16⟩
  | .hbm, ⟨11, _⟩ => ⟨S1x1024, .f32⟩
  | .hbm, ⟨12, _⟩ => ⟨S8192x1024, .f32⟩
  | .hbm, ⟨13, _⟩ => ⟨S8192x1024, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S512x1024, .bf16⟩
  | .local _ .vmem, ⟨13, _⟩ => ⟨S512x1024, .bf16⟩
  | .local _ .vmem, ⟨14, _⟩ => ⟨S1024x1024, .bf16⟩
  | .local _ .vmem, ⟨15, _⟩ => ⟨S1x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference4Ideal.lean ====
abbrev S8192x512 : Shape := ⟨2, ![8192, 512]⟩
abbrev S8192x5120 : Shape := ⟨2, ![8192, 5120]⟩
abbrev S8192x1024 : Shape := ⟨2, ![8192, 1024]⟩
abbrev S512x1024 : Shape := ⟨2, ![512, 1024]⟩
abbrev S1024x1024 : Shape := ⟨2, ![1024, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 60
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x5120, .f32⟩
  | .hbm, ⟨3, _⟩ => ⟨S8192x1024, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S1024, .f32⟩
  | .hbm, ⟨8, _⟩ => ⟨S8192x512, .f32⟩
  | .hbm, ⟨9, _⟩ => ⟨S8192x1024, .f32⟩
  | .hbm, ⟨10, _⟩ => ⟨S8192x1024, .f32⟩
  | .hbm, ⟨11, _⟩ => ⟨S8192x512, .f32⟩
  | .hbm, ⟨12, _⟩ => ⟨S8192x512, .f32⟩
  | .hbm, ⟨13, _⟩ => ⟨S_, .f32⟩
  | .hbm, ⟨14, _⟩ => ⟨S8192x512, .f32⟩
  | .hbm, ⟨15, _⟩ => ⟨S8192x512, .f32⟩
  | .hbm, ⟨16, _⟩ => ⟨S_, .f32⟩
  | .hbm, ⟨17, _⟩ => ⟨S8192x512, .f32⟩
  | .hbm, ⟨18, _⟩ => ⟨S8192x512, .f32⟩
  | .hbm, ⟨19, _⟩ => ⟨S8192x512, .f32⟩
  | .hbm, ⟨20, _⟩ => ⟨S8192x512, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S8192, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S_, .f32⟩
  | .hbm, ⟨51, _⟩ => ⟨S8192x1, .f32⟩
  | .hbm, ⟨52, _⟩ => ⟨S8192x1, .f32⟩
  | .hbm, ⟨53, _⟩ => ⟨S8192x1, .f32⟩
  | .hbm, ⟨54, _⟩ => ⟨S8192x1024, .f32⟩
  | .hbm, ⟨55, _⟩ => ⟨S8192x1024, .f32⟩
  | .hbm, ⟨56, _⟩ => ⟨S1x1024, .f32⟩
  | .hbm, ⟨57, _⟩ => ⟨S8192x1024, .f32⟩
  | .hbm, ⟨58, _⟩ => ⟨S8192x1024, .f32⟩
  | .hbm, ⟨59, _⟩ => ⟨S8192x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_v8 : Ref sig .tc := ⟨.hbm, 25, rfl⟩
abbrev main_cst_0 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_1 : Ref sig .tc := ⟨.hbm, 33, rfl⟩
abbrev main_v15 : Ref sig .tc := ⟨.hbm, 34, rfl⟩
abbrev main_v16 : Ref sig .tc := ⟨.hbm, 35, rfl⟩
abbrev main_cst_2 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_3 : Ref sig .tc := ⟨.hbm, 44, rfl⟩
abbrev main_v24 : Ref sig .tc := ⟨.hbm, 45, rfl⟩
abbrev main_v25 : Ref sig .tc := ⟨.hbm, 46, rfl⟩
abbrev main_cst_4 : Ref sig .tc := ⟨.hbm, 47, rfl⟩
abbrev main_v26 : Ref sig .tc := ⟨.hbm, 48, rfl⟩
abbrev main_v27 : Ref sig .tc := ⟨.hbm, 49, rfl⟩
abbrev main_cst_5 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩

abbrev nD : Nat := 1
abbrev τ : Topo := Topo.v7x

variable {F : FTy → Type} [FloatOps F]
-- ==== Kernel5.lean ====
abbrev S8192x1024 : Shape := ⟨2, ![8192, 1024]⟩
abbrev S8192x512 : Shape := ⟨2, ![8192, 512]⟩
abbrev S8192x5120 : Shape := ⟨2, ![8192, 5120]⟩
abbrev S512x1024 : Shape := ⟨2, ![512, 1024]⟩
abbrev S1024x1024 : Shape := ⟨2, ![1024, 1024]⟩
abbrev S1024 : Shape := ⟨1, ![1024]⟩
abbrev S_ : Shape := ⟨0, ![]⟩
abbrev S1x1024 : Shape := ⟨2, ![1, 1024]⟩
abbrev S8192x2560 : Shape := ⟨2, ![8192, 2560]⟩
abbrev S256x1024 : Shape := ⟨2, ![256, 1024]⟩
abbrev S256x512 : Shape := ⟨2, ![256, 512]⟩
abbrev S256x2560 : Shape := ⟨2, ![256, 2560]⟩
abbrev S256 : Shape := ⟨1, ![256]⟩
abbrev S256x1 : Shape := ⟨2, ![256, 1]⟩

abbrev nBuf : Space → Nat
  | .hbm => 54
  | .vmem => 28
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S8192x5120, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S1024, .f32⟩
  | .hbm, ⟨8, _⟩ => ⟨S8192x512, .f32⟩
  | .hbm, ⟨9, _⟩ => ⟨S8192x1024, .f32⟩
  | .hbm, ⟨10, _⟩ => ⟨S8192x1024, .f32⟩
  | .hbm, ⟨11, _⟩ => ⟨S8192x512, .f32⟩
  | .hbm, ⟨12, _⟩ => ⟨S8192x512, .f32⟩
  | .hbm, ⟨13, _⟩ => ⟨S_, .f32⟩
  | .hbm, ⟨14, _⟩ => ⟨S8192x512, .f32⟩
  | .hbm, ⟨15, _⟩ => ⟨S8192x512, .f32⟩
  | .hbm, ⟨16, _⟩ => ⟨S_, .f32⟩
  | .hbm, ⟨17, _⟩ => ⟨S8192x512, .f32⟩
  | .hbm, ⟨18, _⟩ => ⟨S8192x512, .f32⟩
  | .hbm, ⟨19, _⟩ => ⟨S8192x512, .f32⟩
  | .hbm, ⟨20, _⟩ => ⟨S8192x512, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S512x1024, .bf16⟩
  | .hbm, ⟨44, _⟩ => ⟨S512x1024, .bf16⟩
  | .hbm, ⟨45, _⟩ => ⟨S1024x1024, .bf16⟩
  | .hbm, ⟨46, _⟩ => ⟨S1x1024, .f32⟩
  | .hbm, ⟨47, _⟩ => ⟨S8192x512, .f32⟩
  | .hbm, ⟨48, _⟩ => ⟨S8192x512, .f32⟩
  | .hbm, ⟨49, _⟩ => ⟨S8192x2560, .f32⟩
  | .hbm, ⟨50, _⟩ => ⟨S1024x1024, .f32⟩
  | .hbm, ⟨51, _⟩ => ⟨S512x1024, .f32⟩
  | .hbm, ⟨52, _⟩ => ⟨S512x1024, .f32⟩
  | .hbm, ⟨53, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S512x1024, .bf16⟩
  | .local _ .vmem, ⟨15, _⟩ => ⟨S512x1024, .bf16⟩
  | .local _ .vmem, ⟨16, _⟩ => ⟨S1024x1024, .bf16⟩
  | .local _ .vmem, ⟨17, _⟩ => ⟨S1x1024, .f32⟩
  | .local _ .vmem, ⟨18, _⟩ => ⟨S256x512, .f32⟩
  | .local _ .vmem, ⟨19, _⟩ => ⟨S256x512, .f32⟩
  | .local _ .vmem, ⟨20, _⟩ => ⟨S256x512, .f32⟩
  | .local _ .vmem, ⟨21, _⟩ => ⟨S256x512, .f32⟩
  | .local _ .vmem, ⟨22, _⟩ => ⟨S256x2560, .f32⟩
  | .local _ .vmem, ⟨23, _⟩ => ⟨S256x2560, .f32⟩
  | .local _ .vmem, ⟨24, _⟩ => ⟨S1024x1024, .f32⟩
  | .local _ .vmem, ⟨25, _⟩ => ⟨S512x1024, .f32⟩
  | .local _ .vmem, ⟨26, _⟩ => ⟨S512x1024, .f32⟩
  | .local _ .vmem, ⟨27, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_v8 : Ref sig .tc := ⟨.hbm, 25, rfl⟩
abbrev main_cst_0 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_1 : Ref sig .tc := ⟨.hbm, 33, rfl⟩
abbrev main_v15 : Ref sig .tc := ⟨.hbm, 34, rfl⟩
abbrev main_v16 : Ref sig .tc := ⟨.hbm, 35, rfl⟩
abbrev main_cst_2 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27_0 : Ref sig .tc := ⟨.hbm, 47, rfl⟩
abbrev main_v27_1 : Ref sig .tc := ⟨.hbm, 48, rfl⟩
abbrev main_v27_2 : Ref sig .tc := ⟨.hbm, 49, rfl⟩
abbrev main_v27_3 : Ref sig .tc := ⟨.hbm, 50, rfl⟩
abbrev main_v27_4 : Ref sig .tc := ⟨.hbm, 51, rfl⟩
abbrev main_v27_5 : Ref sig .tc := ⟨.hbm, 52, rfl⟩
abbrev main_v27_6 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg17_0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem15_0 : DmaSem sig := 25
abbrev cc0_sem16_0 : DmaSem sig := 26
abbrev cc0_sem17_0 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_5 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_6 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x2560 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1024x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S512x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S512x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== Reference5Ideal.lean ====
abbrev S8192x1024 : Shape := ⟨2, ![8192, 1024]⟩
abbrev S8192x512 : Shape := ⟨2, ![8192, 512]⟩
abbrev S8192x5120 : Shape := ⟨2, ![8192, 5120]⟩
abbrev S512x1024 : Shape := ⟨2, ![512, 1024]⟩
abbrev S1024x1024 : Shape := ⟨2, ![1024, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1024x512 : Shape := ⟨2, ![1024, 512]⟩
abbrev S8192x2560 : Shape := ⟨2, ![8192, 2560]⟩

abbrev nBuf : Space → Nat
  | .hbm => 123
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S8192x5120, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S1024, .f32⟩
  | .hbm, ⟨8, _⟩ => ⟨S8192x512, .f32⟩
  | .hbm, ⟨9, _⟩ => ⟨S8192x1024, .f32⟩
  | .hbm, ⟨10, _⟩ => ⟨S8192x1024, .f32⟩
  | .hbm, ⟨11, _⟩ => ⟨S8192x512, .f32⟩
  | .hbm, ⟨12, _⟩ => ⟨S8192x512, .f32⟩
  | .hbm, ⟨13, _⟩ => ⟨S_, .f32⟩
  | .hbm, ⟨14, _⟩ => ⟨S8192x512, .f32⟩
  | .hbm, ⟨15, _⟩ => ⟨S8192x512, .f32⟩
  | .hbm, ⟨16, _⟩ => ⟨S_, .f32⟩
  | .hbm, ⟨17, _⟩ => ⟨S8192x512, .f32⟩
  | .hbm, ⟨18, _⟩ => ⟨S8192x512, .f32⟩
  | .hbm, ⟨19, _⟩ => ⟨S_, .f32⟩
  | .hbm, ⟨20, _⟩ => ⟨S8192x512, .f32⟩
  | .hbm, ⟨21, _⟩ => ⟨S8192x512, .f32⟩
  | .hbm, ⟨22, _⟩ => ⟨S8192x512, .f32⟩
  | .hbm, ⟨23, _⟩ => ⟨S8192x512, .f32⟩
  | .hbm, ⟨24, _⟩ => ⟨S8192x512, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S8192, .f32⟩
  | .hbm, ⟨58, _⟩ => ⟨S8192x1, .f32⟩
  | .hbm, ⟨59, _⟩ => ⟨S_, .f32⟩
  | .hbm, ⟨60, _⟩ => ⟨S8192x1, .f32⟩
  | .hbm, ⟨61, _⟩ => ⟨S8192x1, .f32⟩
  | .hbm, ⟨62, _⟩ => ⟨S_, .f32⟩
  | .hbm, ⟨63, _⟩ => ⟨S8192x1, .f32⟩
  | .hbm, ⟨64, _⟩ => ⟨S8192x1, .f32⟩
  | .hbm, ⟨65, _⟩ => ⟨S8192x1, .f32⟩
  | .hbm, ⟨66, _⟩ => ⟨S8192x1, .f32⟩
  | .hbm, ⟨67, _⟩ => ⟨S_, .f32⟩
  | .hbm, ⟨68, _⟩ => ⟨S8192x1, .f32⟩
  | .hbm, ⟨69, _⟩ => ⟨S8192x1, .f32⟩
  | .hbm, ⟨70, _⟩ => ⟨S8192x1024, .f32⟩
  | .hbm, ⟨71, _⟩ => ⟨S8192x1024, .f32⟩
  | .hbm, ⟨72, _⟩ => ⟨S1x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S_, .f32⟩
  | .hbm, ⟨77, _⟩ => ⟨S1024, .f32⟩
  | .hbm, ⟨78, _⟩ => ⟨S1x1024, .f32⟩
  | .hbm, ⟨79, _⟩ => ⟨S8192x1024, .f32⟩
  | .hbm, ⟨80, _⟩ => ⟨S8192x1024, .f32⟩
  | .hbm, ⟨81, _⟩ => ⟨S_, .f32⟩
  | .hbm, ⟨82, _⟩ => ⟨S1024, .f32⟩
  | .hbm, ⟨83, _⟩ => ⟨S8192x1024, .f32⟩
  | .hbm, ⟨84, _⟩ => ⟨S_, .f32⟩
  | .hbm, ⟨85, _⟩ => ⟨S8192, .f32⟩
  | .hbm, ⟨86, _⟩ => ⟨S8192x1, .f32⟩
  | .hbm, ⟨87, _⟩ => ⟨S8192x1024, .f32⟩
  | .hbm, ⟨88, _⟩ => ⟨S8192x1024, .f32⟩
  | .hbm, ⟨89, _⟩ => ⟨S8192x1, .f32⟩
  | .hbm, ⟨90, _⟩ => ⟨S_, .f32⟩
  | .hbm, ⟨91, _⟩ => ⟨S8192x1, .f32⟩
  | .hbm, ⟨92, _⟩ => ⟨S8192x1, .f32⟩
  | .hbm, ⟨93, _⟩ => ⟨S_, .f32⟩
  | .hbm, ⟨94, _⟩ => ⟨S8192, .f32⟩
  | .hbm, ⟨95, _⟩ => ⟨S8192x1024, .f32⟩
  | .hbm, ⟨96, _⟩ => ⟨S8192x1024, .f32⟩
  | .hbm, ⟨97, _⟩ => ⟨S8192x1024, .f32⟩
  | .hbm, ⟨98, _⟩ => ⟨S8192x1024, .f32⟩
  | .hbm, ⟨99, _⟩ => ⟨S8192x1024, .f32⟩
  | .hbm, ⟨100, _⟩ => ⟨S1024x1024, .f32⟩
  | .hbm, ⟨101, _⟩ => ⟨S1024x1024, .f32⟩
  | .hbm, ⟨102, _⟩ => ⟨S8192x1024, .f32⟩
  | .hbm, ⟨103, _⟩ => ⟨S8192x1024, .f32⟩
  | .hbm, ⟨104, _⟩ => ⟨S8192x1024, .f32⟩
  | .hbm, ⟨105, _⟩ => ⟨S1024x512, .f32⟩
  | .hbm, ⟨106, _⟩ => ⟨S512x1024, .f32⟩
  | .hbm, ⟨107, _⟩ => ⟨S8192x512, .f32⟩
  | .hbm, ⟨108, _⟩ => ⟨S8192x1024, .f32⟩
  | .hbm, ⟨109, _⟩ => ⟨S8192x1024, .f32⟩
  | .hbm, ⟨110, _⟩ => ⟨S8192x1024, .f32⟩
  | .hbm, ⟨111, _⟩ => ⟨S1024x512, .f32⟩
  | .hbm, ⟨112, _⟩ => ⟨S512x1024, .f32⟩
  | .hbm, ⟨113, _⟩ => ⟨S8192x512, .f32⟩
  | .hbm, ⟨114, _⟩ => ⟨S8192x1024, .f32⟩
  | .hbm, ⟨115, _⟩ => ⟨S8192x512, .f32⟩
  | .hbm, ⟨116, _⟩ => ⟨S8192x512, .f32⟩
  | .hbm, ⟨117, _⟩ => ⟨S8192x512, .f32⟩
  | .hbm, ⟨118, _⟩ => ⟨S8192x512, .f32⟩
  | .hbm, ⟨119, _⟩ => ⟨S8192x512, .f32⟩
  | .hbm, ⟨120, _⟩ => ⟨S8192x512, .f32⟩
  | .hbm, ⟨121, _⟩ => ⟨S8192x2560, .f32⟩
  | .hbm, ⟨122, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_v3_2 : Ref sig .tc := ⟨.hbm, 18, rfl⟩
abbrev main_call0_cst_1 : Ref sig .tc := ⟨.hbm, 19, rfl⟩
abbrev main_call0_v6 : Ref sig .tc := ⟨.hbm, 20, rfl⟩
abbrev main_call0_v7 : Ref sig .tc := ⟨.hbm, 21, rfl⟩
abbrev main_v3_1 : Ref sig .tc := ⟨.hbm, 22, rfl⟩
abbrev main_v3_0 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst : Ref sig .tc := ⟨.hbm, 27, rfl⟩
abbrev main_v7 : Ref sig .tc := ⟨.hbm, 28, rfl⟩
abbrev main_v8 : Ref sig .tc := ⟨.hbm, 29, rfl⟩
abbrev main_cst_0 : Ref sig .tc := ⟨.hbm, 30, rfl⟩
abbrev main_v9 : Ref sig .tc := ⟨.hbm, 31, rfl⟩
abbrev main_v10 : Ref sig .tc := ⟨.hbm, 32, rfl⟩
abbrev main_cst_1 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_cst_2 : Ref sig .tc := ⟨.hbm, 41, rfl⟩
abbrev main_v18 : Ref sig .tc := ⟨.hbm, 42, rfl⟩
abbrev main_v19 : Ref sig .tc := ⟨.hbm, 43, rfl⟩
abbrev main_cst_3 : Ref sig .tc := ⟨.hbm, 44, rfl⟩
abbrev main_v20 : Ref sig .tc := ⟨.hbm, 45, rfl⟩
abbrev main_v21 : Ref sig .tc := ⟨.hbm, 46, rfl⟩
abbrev main_cst_4 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_cst_5 : Ref sig .tc := ⟨.hbm, 56, rfl⟩
abbrev main_v30 : Ref sig .tc := ⟨.hbm, 57, rfl⟩
abbrev main_v31 : Ref sig .tc := ⟨.hbm, 58, rfl⟩
abbrev main_cst_6 : Ref sig .tc := ⟨.hbm, 59, rfl⟩
abbrev main_v32 : Ref sig .tc := ⟨.hbm, 60, rfl⟩
abbrev main_v33 : Ref sig .tc := ⟨.hbm, 61, rfl⟩
abbrev main_cst_7 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_cst_8 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_cst_9 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_cst_10 : Ref sig .tc := ⟨.hbm, 81, rfl⟩
abbrev main_v50 : Ref sig .tc := ⟨.hbm, 82, rfl⟩
abbrev main_v51 : Ref sig .tc := ⟨.hbm, 83, rfl⟩
abbrev main_cst_11 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_cst_12 : Ref sig .tc := ⟨.hbm, 90, rfl⟩
abbrev main_v57 : Ref sig .tc := ⟨.hbm, 91, rfl⟩
abbrev main_v58 : Ref sig .tc := ⟨.hbm, 92, rfl⟩
abbrev main_cst_13 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_call1_v0 : Ref sig .tc := ⟨.hbm, 117, rfl⟩
abbrev main_call1_v1 : Ref sig .tc := ⟨.hbm, 118, rfl⟩
abbrev main_call1_v2 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩

abbrev nD : Nat := 1
abbrev τ : Topo := Topo.v7x

variable {F : FTy → Type} [FloatOps F]
-- ==== Kernel6.lean ====
abbrev S8192x512 : Shape := ⟨2, ![8192, 512]⟩
abbrev S8192x5120 : Shape := ⟨2, ![8192, 5120]⟩
abbrev S512x1024 : Shape := ⟨2, ![512, 1024]⟩
abbrev S1024 : Shape := ⟨1, ![1024]⟩
abbrev S1x1024 : Shape := ⟨2, ![1, 1024]⟩
abbrev S512x512 : Shape := ⟨2, ![512, 512]⟩

abbrev nBuf : Space → Nat
  | .hbm => 7
  | .vmem => 8
  | .smem => 0
  | _ => 0

abbrev bufTy : (tb : Table) → Fin (tcTables nBuf tb) → BufTy
  | .hbm, ⟨0, _⟩ => ⟨S8192x512, .f32⟩
  | .hbm, ⟨1, _⟩ => ⟨S8192x5120, .f32⟩
  | .hbm, ⟨2, _⟩ => ⟨S512x1024, .f32⟩
  | .hbm, ⟨3, _⟩ => ⟨S1024, .f32⟩
  | .hbm, ⟨4, _⟩ => ⟨S512x1024, .bf16⟩
  | .hbm, ⟨5, _⟩ => ⟨S1x1024, .f32⟩
  | .hbm, ⟨6, _⟩ => ⟨S8192x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x1024, .bf16⟩
  | .local _ .vmem, ⟨5, _⟩ => ⟨S1x1024, .f32⟩
  | .local _ .vmem, ⟨6, _⟩ => ⟨S512x512, .f32⟩
  | .local _ .vmem, ⟨7, _⟩ => ⟨S512x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference6Ideal.lean ====
abbrev S8192x512 : Shape := ⟨2, ![8192, 512]⟩
abbrev S8192x5120 : Shape := ⟨2, ![8192, 5120]⟩
abbrev S512x1024 : Shape := ⟨2, ![512, 1024]⟩
abbrev S1024 : Shape := ⟨1, ![1024]⟩
abbrev S_ : Shape := ⟨0, ![]⟩
abbrev S8192x1024 : Shape := ⟨2, ![8192, 1024]⟩
abbrev S1x1024 : Shape := ⟨2, ![1, 1024]⟩

abbrev nBuf : Space → Nat
  | .hbm => 47
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x5120, .f32⟩
  | .hbm, ⟨2, _⟩ => ⟨S512x1024, .f32⟩
  | .hbm, ⟨3, _⟩ => ⟨S1024, .f32⟩
  | .hbm, ⟨4, _⟩ => ⟨S8192x512, .f32⟩
  | .hbm, ⟨5, _⟩ => ⟨S8192x512, .f32⟩
  | .hbm, ⟨6, _⟩ => ⟨S8192x512, .f32⟩
  | .hbm, ⟨7, _⟩ => ⟨S_, .f32⟩
  | .hbm, ⟨8, _⟩ => ⟨S8192x512, .f32⟩
  | .hbm, ⟨9, _⟩ => ⟨S8192x512, .f32⟩
  | .hbm, ⟨10, _⟩ => ⟨S8192x512, .f32⟩
  | .hbm, ⟨11, _⟩ => ⟨S_, .f32⟩
  | .hbm, ⟨12, _⟩ => ⟨S8192x512, .f32⟩
  | .hbm, ⟨13, _⟩ => ⟨S8192x512, .f32⟩
  | .hbm, ⟨14, _⟩ => ⟨S8192x512, .f32⟩
  | .hbm, ⟨15, _⟩ => ⟨S_, .f32⟩
  | .hbm, ⟨16, _⟩ => ⟨S8192x512, .f32⟩
  | .hbm, ⟨17, _⟩ => ⟨S8192x512, .f32⟩
  | .hbm, ⟨18, _⟩ => ⟨S_, .f32⟩
  | .hbm, ⟨19, _⟩ => ⟨S8192x512, .f32⟩
  | .hbm, ⟨20, _⟩ => ⟨S8192x512, .f32⟩
  | .hbm, ⟨21, _⟩ => ⟨S8192x512, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x512, .f32⟩
  | .hbm, ⟨27, _⟩ => ⟨S8192x512, .f32⟩
  | .hbm, ⟨28, _⟩ => ⟨S8192x512, .f32⟩
  | .hbm, ⟨29, _⟩ => ⟨S8192x512, .f32⟩
  | .hbm, ⟨30, _⟩ => ⟨S_, .f32⟩
  | .hbm, ⟨31, _⟩ => ⟨S8192x512, .f32⟩
  | .hbm, ⟨32, _⟩ => ⟨S8192x512, .f32⟩
  | .hbm, ⟨33, _⟩ => ⟨S_, .f32⟩
  | .hbm, ⟨34, _⟩ => ⟨S8192x512, .f32⟩
  | .hbm, ⟨35, _⟩ => ⟨S8192x512, .f32⟩
  | .hbm, ⟨36, _⟩ => ⟨S8192x512, .f32⟩
  | .hbm, ⟨37, _⟩ => ⟨S8192x512, .f32⟩
  | .hbm, ⟨38, _⟩ => ⟨S8192x512, .f32⟩
  | .hbm, ⟨39, _⟩ => ⟨S_, .f32⟩
  | .hbm, ⟨40, _⟩ => ⟨S8192x512, .f32⟩
  | .hbm, ⟨41, _⟩ => ⟨S8192x512, .f32⟩
  | .hbm, ⟨42, _⟩ => ⟨S_, .f32⟩
  | .hbm, ⟨43, _⟩ => ⟨S8192x512, .f32⟩
  | .hbm, ⟨44, _⟩ => ⟨S8192x512, .f32⟩
  | .hbm, ⟨45, _⟩ => ⟨S8192x512, .f32⟩
  | .hbm, ⟨46, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v27 : Ref sig .tc := ⟨.hbm, 45, rfl⟩
abbrev main_v28 : Ref sig .tc := ⟨.hbm, 46, rfl⟩

abbrev nD : Nat := 1
abbrev τ : Topo := Topo.v7x

variable {F : FTy → Type} [FloatOps F]
-- ==== Kernel7.lean ====
abbrev S8192x512 : Shape := ⟨2, ![8192, 512]⟩
abbrev S8192x5120 : Shape := ⟨2, ![8192, 5120]⟩
abbrev S512x1024 : Shape := ⟨2, ![512, 1024]⟩
abbrev S1024 : Shape := ⟨1, ![1024]⟩
abbrev S1x1024 : Shape := ⟨2, ![1, 1024]⟩
abbrev S512x512 : Shape := ⟨2, ![512, 512]⟩

abbrev nBuf : Space → Nat
  | .hbm => 11
  | .vmem => 14
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x5120, .f32⟩
  | .hbm, ⟨3, _⟩ => ⟨S512x1024, .f32⟩
  | .hbm, ⟨4, _⟩ => ⟨S1024, .f32⟩
  | .hbm, ⟨5, _⟩ => ⟨S512x1024, .bf16⟩
  | .hbm, ⟨6, _⟩ => ⟨S1x1024, .f32⟩
  | .hbm, ⟨7, _⟩ => ⟨S8192x512, .f32⟩
  | .hbm, ⟨8, _⟩ => ⟨S8192x512, .f32⟩
  | .hbm, ⟨9, _⟩ => ⟨S512x1024, .f32⟩
  | .hbm, ⟨10, _⟩ => ⟨S1x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x1024, .bf16⟩
  | .local _ .vmem, ⟨7, _⟩ => ⟨S1x1024, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x1024, .f32⟩
  | .local _ .vmem, ⟨13, _⟩ => ⟨S1x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S512x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference7Ideal.lean ====
abbrev S8192x512 : Shape := ⟨2, ![8192, 512]⟩
abbrev S8192x5120 : Shape := ⟨2, ![8192, 5120]⟩
abbrev S512x1024 : Shape := ⟨2, ![512, 1024]⟩
abbrev S1024 : Shape := ⟨1, ![1024]⟩
abbrev S_ : Shape := ⟨0, ![]⟩
abbrev S8192x1024 : Shape := ⟨2, ![8192, 1024]⟩
abbrev S1x1024 : Shape := ⟨2, ![1, 1024]⟩
abbrev S1024x512 : Shape := ⟨2, ![1024, 512]⟩

abbrev nBuf : Space → Nat
  | .hbm => 101
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x5120, .f32⟩
  | .hbm, ⟨3, _⟩ => ⟨S512x1024, .f32⟩
  | .hbm, ⟨4, _⟩ => ⟨S1024, .f32⟩
  | .hbm, ⟨5, _⟩ => ⟨S8192x512, .f32⟩
  | .hbm, ⟨6, _⟩ => ⟨S8192x512, .f32⟩
  | .hbm, ⟨7, _⟩ => ⟨S8192x512, .f32⟩
  | .hbm, ⟨8, _⟩ => ⟨S8192x512, .f32⟩
  | .hbm, ⟨9, _⟩ => ⟨S_, .f32⟩
  | .hbm, ⟨10, _⟩ => ⟨S8192x512, .f32⟩
  | .hbm, ⟨11, _⟩ => ⟨S8192x512, .f32⟩
  | .hbm, ⟨12, _⟩ => ⟨S_, .f32⟩
  | .hbm, ⟨13, _⟩ => ⟨S8192x512, .f32⟩
  | .hbm, ⟨14, _⟩ => ⟨S8192x512, .f32⟩
  | .hbm, ⟨15, _⟩ => ⟨S8192x512, .f32⟩
  | .hbm, ⟨16, _⟩ => ⟨S_, .f32⟩
  | .hbm, ⟨17, _⟩ => ⟨S8192x512, .f32⟩
  | .hbm, ⟨18, _⟩ => ⟨S8192x512, .f32⟩
  | .hbm, ⟨19, _⟩ => ⟨S8192x512, .f32⟩
  | .hbm, ⟨20, _⟩ => ⟨S_, .f32⟩
  | .hbm, ⟨21, _⟩ => ⟨S8192x512, .f32⟩
  | .hbm, ⟨22, _⟩ => ⟨S8192x512, .f32⟩
  | .hbm, ⟨23, _⟩ => ⟨S_, .f32⟩
  | .hbm, ⟨24, _⟩ => ⟨S8192x512, .f32⟩
  | .hbm, ⟨25, _⟩ => ⟨S8192x512, .f32⟩
  | .hbm, ⟨26, _⟩ => ⟨S8192x512, .f32⟩
  | .hbm, ⟨27, _⟩ => ⟨S_, .f32⟩
  | .hbm, ⟨28, _⟩ => ⟨S8192x512, .f32⟩
  | .hbm, ⟨29, _⟩ => ⟨S8192x512, .f32⟩
  | .hbm, ⟨30, _⟩ => ⟨S_, .f32⟩
  | .hbm, ⟨31, _⟩ => ⟨S8192x512, .f32⟩
  | .hbm, ⟨32, _⟩ => ⟨S8192x512, .f32⟩
  | .hbm, ⟨33, _⟩ => ⟨S8192x512, .f32⟩
  | .hbm, ⟨34, _⟩ => ⟨S8192x1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S8192x512, .f32⟩
  | .hbm, ⟨39, _⟩ => ⟨S8192x512, .f32⟩
  | .hbm, ⟨40, _⟩ => ⟨S8192x512, .f32⟩
  | .hbm, ⟨41, _⟩ => ⟨S8192x512, .f32⟩
  | .hbm, ⟨42, _⟩ => ⟨S_, .f32⟩
  | .hbm, ⟨43, _⟩ => ⟨S8192x512, .f32⟩
  | .hbm, ⟨44, _⟩ => ⟨S8192x512, .f32⟩
  | .hbm, ⟨45, _⟩ => ⟨S_, .f32⟩
  | .hbm, ⟨46, _⟩ => ⟨S8192x512, .f32⟩
  | .hbm, ⟨47, _⟩ => ⟨S8192x512, .f32⟩
  | .hbm, ⟨48, _⟩ => ⟨S_, .f32⟩
  | .hbm, ⟨49, _⟩ => ⟨S8192x512, .f32⟩
  | .hbm, ⟨50, _⟩ => ⟨S8192x512, .f32⟩
  | .hbm, ⟨51, _⟩ => ⟨S8192x512, .f32⟩
  | .hbm, ⟨52, _⟩ => ⟨S8192x512, .f32⟩
  | .hbm, ⟨53, _⟩ => ⟨S8192x512, .f32⟩
  | .hbm, ⟨54, _⟩ => ⟨S8192x512, .f32⟩
  | .hbm, ⟨55, _⟩ => ⟨S_, .f32⟩
  | .hbm, ⟨56, _⟩ => ⟨S8192x512, .f32⟩
  | .hbm, ⟨57, _⟩ => ⟨S8192x512, .f32⟩
  | .hbm, ⟨58, _⟩ => ⟨S_, .f32⟩
  | .hbm, ⟨59, _⟩ => ⟨S8192x512, .f32⟩
  | .hbm, ⟨60, _⟩ => ⟨S8192x512, .f32⟩
  | .hbm, ⟨61, _⟩ => ⟨S_, .f32⟩
  | .hbm, ⟨62, _⟩ => ⟨S8192x512, .f32⟩
  | .hbm, ⟨63, _⟩ => ⟨S8192x512, .f32⟩
  | .hbm, ⟨64, _⟩ => ⟨S8192x512, .f32⟩
  | .hbm, ⟨65, _⟩ => ⟨S8192x512, .f32⟩
  | .hbm, ⟨66, _⟩ => ⟨S8192x512, .f32⟩
  | .hbm, ⟨67, _⟩ => ⟨S8192x512, .f32⟩
  | .hbm, ⟨68, _⟩ => ⟨S8192x512, .f32⟩
  | .hbm, ⟨69, _⟩ => ⟨S8192x512, .f32⟩
  | .hbm, ⟨70, _⟩ => ⟨S8192x512, .f32⟩
  | .hbm, ⟨71, _⟩ => ⟨S8192x512, .f32⟩
  | .hbm, ⟨72, _⟩ => ⟨S8192x512, .f32⟩
  | .hbm, ⟨73, _⟩ => ⟨S8192x512, .f32⟩
  | .hbm, ⟨74, _⟩ => ⟨S8192x512, .f32⟩
  | .hbm, ⟨75, _⟩ => ⟨S8192x512, .f32⟩
  | .hbm, ⟨76, _⟩ => ⟨S8192x1024, .f32⟩
  | .hbm, ⟨77, _⟩ => ⟨S_, .f32⟩
  | .hbm, ⟨78, _⟩ => ⟨S1024, .f32⟩
  | .hbm, ⟨79, _⟩ => ⟨S1x1024, .f32⟩
  | .hbm, ⟨80, _⟩ => ⟨S_, .f32⟩
  | .hbm, ⟨81, _⟩ => ⟨S1024, .f32⟩
  | .hbm, ⟨82, _⟩ => ⟨S1024x512, .f32⟩
  | .hbm, ⟨83, _⟩ => ⟨S512x1024, .f32⟩
  | .hbm, ⟨84, _⟩ => ⟨S8192x512, .f32⟩
  | .hbm, ⟨85, _⟩ => ⟨S8192x512, .f32⟩
  | .hbm, ⟨86, _⟩ => ⟨S8192x512, .f32⟩
  | .hbm, ⟨87, _⟩ => ⟨S_, .f32⟩
  | .hbm, ⟨88, _⟩ => ⟨S8192x512, .f32⟩
  | .hbm, ⟨89, _⟩ => ⟨S8192x512, .f32⟩
  | .hbm, ⟨90, _⟩ => ⟨S8192x512, .f32⟩
  | .hbm, ⟨91, _⟩ => ⟨S_, .f32⟩
  | .hbm, ⟨92, _⟩ => ⟨S8192x512, .f32⟩
  | .hbm, ⟨93, _⟩ => ⟨S8192x512, .f32⟩
  | .hbm, ⟨94, _⟩ => ⟨S8192x512, .f32⟩
  | .hbm, ⟨95, _⟩ => ⟨S_, .f32⟩
  | .hbm, ⟨96, _⟩ => ⟨S8192x512, .f32⟩
  | .hbm, ⟨97, _⟩ => ⟨S8192x512, .f32⟩
  | .hbm, ⟨98, _⟩ => ⟨S8192x512, .f32⟩
  | .hbm, ⟨99, _⟩ => ⟨S8192x512, .f32⟩
  | .hbm, ⟨100, _⟩ => ⟨S1x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_cst_8 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_call0_v0 : Ref sig .tc := ⟨.hbm, 53, rfl⟩
abbrev main_call0_v1 : Ref sig .tc := ⟨.hbm, 54, rfl⟩
abbrev main_call0_cst : Ref sig .tc := ⟨.hbm, 55, rfl⟩
abbrev main_call0_v2 : Ref sig .tc := ⟨.hbm, 56, rfl⟩
abbrev main_call0_v3 : Ref sig .tc := ⟨.hbm, 57, rfl⟩
abbrev main_call0_cst_0 : Ref sig .tc := ⟨.hbm, 58, rfl⟩
abbrev main_call0_v4 : Ref sig .tc := ⟨.hbm, 59, rfl⟩
abbrev main_v38_2 : Ref sig .tc := ⟨.hbm, 60, rfl⟩
abbrev main_call0_cst_1 : Ref sig .tc := ⟨.hbm, 61, rfl⟩
abbrev main_call0_v6 : Ref sig .tc := ⟨.hbm, 62, rfl⟩
abbrev main_call0_v7 : Ref sig .tc := ⟨.hbm, 63, rfl⟩
abbrev main_v38_1 : Ref sig .tc := ⟨.hbm, 64, rfl⟩
abbrev main_v38_0 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_call1_v0 : Ref sig .tc := ⟨.hbm, 69, rfl⟩
abbrev main_call1_v1 : Ref sig .tc := ⟨.hbm, 70, rfl⟩
abbrev main_call1_v2 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_cst_9 : Ref sig .tc := ⟨.hbm, 77, rfl⟩
abbrev main_v47 : Ref sig .tc := ⟨.hbm, 78, rfl⟩
abbrev main_v48 : Ref sig .tc := ⟨.hbm, 79, rfl⟩
abbrev main_cst_10 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_cst_11 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_cst_12 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_cst_13 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩

abbrev nD : Nat := 1
abbrev τ : Topo := Topo.v7x

variable {F : FTy → Type} [FloatOps F]
-- ==== Proof.Ev.lean ====
/- What the kernel's twelve buffers hold, tile by tile, and the rules by which a straight run of loads and stores is
   evaluated: `Ev A c p s a s'` says that the program `p`, started with the buffers holding `s`, ends in the value `a`
   with the buffers holding `s'`. -/
module

public import proofs.«01_k».proof.Proof.Gen.KernelIdeal.Skeleton
public import proofs.«01_k».proof.Proof.Gen.KernelIdeal.Frame

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

/-! ## Contents by tiles -/

/-- A position of a row of 8192 lies in tile `j / 256`, at `j % 256`. -/
def inCol (i : S1x64x8192.Idx) : S1x64x256.Idx
  | ⟨0, _⟩ => i (0 : Fin 3)
  | ⟨1, _⟩ => i (1 : Fin 3)
  | ⟨2, _⟩ => (⟨(i (2 : Fin 3)).val % 256, Nat.mod_lt _ (Nat.zero_lt_succ 255)⟩ : Fin 256)

/-- The [1, 64, 8192] array whose columns `256 n … 256 n + 255` are the tile `f n`. -/
def unCol {α : Type} (f : ℕ → S1x64x256.Idx → α) : S1x64x8192.Idx → α :=
  fun i => f ((i (2 : Fin 3)).val / 256) (inCol i)

def inStack32 (i : S32x256x256.Idx) : S1x256x256.Idx
  | ⟨0, _⟩ => (0 : Fin 1)
  | ⟨1, _⟩ => i (1 : Fin 3)
  | ⟨2, _⟩ => i (2 : Fin 3)

/-- The stack of 32 tiles. -/
def unStack32 {α : Type} (f : ℕ → S1x256x256.Idx → α) : S32x256x256.Idx → α :=
  fun i => f (i (0 : Fin 3)).val (inStack32 i)

def inStack4 (i : S4x256x256.Idx) : S1x256x256.Idx
  | ⟨0, _⟩ => (0 : Fin 1)
  | ⟨1, _⟩ => i (1 : Fin 3)
  | ⟨2, _⟩ => i (2 : Fin 3)

/-- The stack of 4 tiles. -/
def unStack4 {α : Type} (f : ℕ → S1x256x256.Idx → α) : S4x256x256.Idx → α :=
  fun i => f (i (0 : Fin 3)).val (inStack4 i)

/-- Reading tile `n` of a row of tiles. -/
theorem ld_unCol {α : Type} (f : ℕ → S1x64x256.Idx → α) (n : ℕ) {off : Fin 3 → ℕ} (ho : off = ![0, 0, 256 * n])
    (inb : ∀ a, off a + S1x64x256.size a ≤ S1x64x8192.size a) :
    (fun x => unCol f ((Rect.unit (s := S1x64x8192) off S1x64x256.size inb).toLoadRect.idx x)) = f n := by
  subst ho
  funext x
  have h2 : (x (2 : Fin 3)).val < 256 := (x (2 : Fin 3)).isLt
  have e2 : ((Rect.unit (s := S1x64x8192) ![0, 0, 256 * n] S1x64x256.size inb).toLoadRect.idx x (2 : Fin 3)).val
      = 256 * n + 1 * (x (2 : Fin 3)).val := rfl
  show f (((Rect.unit (s := S1x64x8192) ![0, 0, 256 * n] S1x64x256.size inb).toLoadRect.idx x (2 : Fin 3)).val / 256) _ = f n x
  rw [show ((Rect.unit (s := S1x64x8192) ![0, 0, 256 * n] S1x64x256.size inb).toLoadRect.idx x (2 : Fin 3)).val / 256 = n by
    rw [e2]; omega]
  congr 1
  funext a
  match a with
  | ⟨0, _⟩ => exact Fin.ext (by show 0 + 1 * (x (0 : Fin 3)).val = (x (0 : Fin 3)).val; omega)
  | ⟨1, _⟩ => exact Fin.ext (by show 0 + 1 * (x (1 : Fin 3)).val = (x (1 : Fin 3)).val; omega)
  | ⟨2, _⟩ => exact Fin.ext (by
      show ((Rect.unit (s := S1x64x8192) ![0, 0, 256 * n] S1x64x256.size inb).toLoadRect.idx x (2 : Fin 3)).val % 256
        = (x (2 : Fin 3)).val
      rw [e2]; omega)

theorem ld_unStack32 {α : Type} (f : ℕ → S1x256x256.Idx → α) (n : ℕ) {off : Fin 3 → ℕ} (ho : off = ![n, 0, 0])
    (inb : ∀ a, off a + S1x256x256.size a ≤ S32x256x256.size a) :
    (fun x => unStack32 f ((Rect.unit (s := S32x256x256) off S1x256x256.size inb).toLoadRect.idx x)) = f n := by
  subst ho
  funext x
  have h0 : (x (0 : Fin 3)).val < 1 := (x (0 : Fin 3)).isLt
  have e0 : ((Rect.unit (s := S32x256x256) ![n, 0, 0] S1x256x256.size inb).toLoadRect.idx x (0 : Fin 3)).val
      = n + 1 * (x (0 : Fin 3)).val := rfl
  show f ((Rect.unit (s := S32x256x256) ![n, 0, 0] S1x256x256.size inb).toLoadRect.idx x (0 : Fin 3)).val _ = f n x
  rw [show ((Rect.unit (s := S32x256x256) ![n, 0, 0] S1x256x256.size inb).toLoadRect.idx x (0 : Fin 3)).val = n by
    rw [e0]; omega]
  congr 1
  funext a
  match a with
  | ⟨0, _⟩ => exact Fin.ext (by show 0 = (x (0 : Fin 3)).val; omega)
  | ⟨1, _⟩ => exact Fin.ext (by show 0 + 1 * (x (1 : Fin 3)).val = (x (1 : Fin 3)).val; omega)
  | ⟨2, _⟩ => exact Fin.ext (by show 0 + 1 * (x (2 : Fin 3)).val = (x (2 : Fin 3)).val; omega)

theorem ld_unStack4 {α : Type} (f : ℕ → S1x256x256.Idx → α) (n : ℕ) {off : Fin 3 → ℕ} (ho : off = ![n, 0, 0])
    (inb : ∀ a, off a + S1x256x256.size a ≤ S4x256x256.size a) :
    (fun x => unStack4 f ((Rect.unit (s := S4x256x256) off S1x256x256.size inb).toLoadRect.idx x)) = f n := by
  subst ho
  funext x
  have h0 : (x (0 : Fin 3)).val < 1 := (x (0 : Fin 3)).isLt
  have e0 : ((Rect.unit (s := S4x256x256) ![n, 0, 0] S1x256x256.size inb).toLoadRect.idx x (0 : Fin 3)).val
      = n + 1 * (x (0 : Fin 3)).val := rfl
  show f ((Rect.unit (s := S4x256x256) ![n, 0, 0] S1x256x256.size inb).toLoadRect.idx x (0 : Fin 3)).val _ = f n x
  rw [show ((Rect.unit (s := S4x256x256) ![n, 0, 0] S1x256x256.size inb).toLoadRect.idx x (0 : Fin 3)).val = n by
    rw [e0]; omega]
  congr 1
  funext a
  match a with
  | ⟨0, _⟩ => exact Fin.ext (by show 0 = (x (0 : Fin 3)).val; omega)
  | ⟨1, _⟩ => exact Fin.ext (by show 0 + 1 * (x (1 : Fin 3)).val = (x (1 : Fin 3)).val; omega)
  | ⟨2, _⟩ => exact Fin.ext (by show 0 + 1 * (x (2 : Fin 3)).val = (x (2 : Fin 3)).val; omega)

/-- Overwriting one tile of a tiled array: the overlay at the tile's rectangle is the tiling with that tile replaced.
    `look` says where an index of the whole lies: its tile, and its place there. -/
theorem overlay_tiles {S T : Shape} {α : Type} (r : Rect S) (tile : S.Idx → ℕ) (place : S.Idx → T.Idx) (n : ℕ)
    (f : ℕ → T.Idx → α) (w : T.Idx → α) (w' : r.shape.Idx → α) (ht : ∀ x, tile (r.emb x) = n)
    (hp : ∀ x, w' x = w (place (r.emb x))) (hs : ∀ i, tile i = n → i ∈ r.set) :
    r.overlay (fun i => f (tile i) (place i)) w' = fun i => Function.update f n w (tile i) (place i) := by
  funext i
  by_cases hi : i ∈ r.set
  · obtain ⟨x, rfl⟩ : ∃ x, r.emb x = i := r.exists_idx_of_mem hi
    rw [Rect.overlay_emb, hp, ht, Function.update_self]
  · rw [Rect.overlay_of_not_mem _ _ _ hi, Function.update_of_ne (fun h => hi (hs i h))]

theorem overlay_unCol {α : Type} (f : ℕ → S1x64x256.Idx → α) (n : ℕ) {off : Fin 3 → ℕ} (ho : off = ![0, 0, 256 * n])
    (inb : ∀ a, off a + S1x64x256.size a ≤ S1x64x8192.size a) (w : S1x64x256.Idx → α) :
    (Rect.unit (s := S1x64x8192) off S1x64x256.size inb).overlay (unCol f) w = unCol (Function.update f n w) := by
  have key := ld_unCol (fun m x => (m, x)) n ho inb
  refine overlay_tiles (T := S1x64x256) (Rect.unit (s := S1x64x8192) off S1x64x256.size inb)
    (fun i => (i (2 : Fin 3)).val / 256) inCol n f w w (fun x => congrArg Prod.fst (congrFun key x))
    (fun x => congrArg w (congrArg Prod.snd (congrFun key x)).symm) (fun i hi => ?_)
  subst ho
  have h0 : (i (0 : Fin 3)).val < 1 := (i (0 : Fin 3)).isLt
  have h1 : (i (1 : Fin 3)).val < 64 := (i (1 : Fin 3)).isLt
  refine Rect.mem_set_unit.mpr fun a => ?_
  match a with
  | ⟨0, _⟩ => exact ⟨Nat.zero_le _, by show (i (0 : Fin 3)).val < 0 + 1; omega⟩
  | ⟨1, _⟩ => exact ⟨Nat.zero_le _, by show (i (1 : Fin 3)).val < 0 + 64; omega⟩
  | ⟨2, _⟩ =>
    have hi' : (i (2 : Fin 3)).val / 256 = n := hi
    exact ⟨by show 256 * n ≤ (i (2 : Fin 3)).val; omega, by show (i (2 : Fin 3)).val < 256 * n + 256; omega⟩

theorem overlay_unStack32 {α : Type} (f : ℕ → S1x256x256.Idx → α) (n : ℕ) {off : Fin 3 → ℕ} (ho : off = ![n, 0, 0])
    (inb : ∀ a, off a + S1x256x256.size a ≤ S32x256x256.size a) (w : S1x256x256.Idx → α) :
    (Rect.unit (s := S32x256x256) off S1x256x256.size inb).overlay (unStack32 f) w = unStack32 (Function.update f n w) := by
  have key := ld_unStack32 (fun m x => (m, x)) n ho inb
  refine overlay_tiles (T := S1x256x256) (Rect.unit (s := S32x256x256) off S1x256x256.size inb)
    (fun i => (i (0 : Fin 3)).val) inStack32 n f w w (fun x => congrArg Prod.fst (congrFun key x))
    (fun x => congrArg w (congrArg Prod.snd (congrFun key x)).symm) (fun i hi => ?_)
  subst ho
  have hi' : (i (0 : Fin 3)).val = n := hi
  have h1 : (i (1 : Fin 3)).val < 256 := (i (1 : Fin 3)).isLt
  have h2 : (i (2 : Fin 3)).val < 256 := (i (2 : Fin 3)).isLt
  refine Rect.mem_set_unit.mpr fun a => ?_
  match a with
  | ⟨0, _⟩ => exact ⟨by show n ≤ (i (0 : Fin 3)).val; omega, by show (i (0 : Fin 3)).val < n + 1; omega⟩
  | ⟨1, _⟩ => exact ⟨Nat.zero_le _, by show (i (1 : Fin 3)).val < 0 + 256; omega⟩
  | ⟨2, _⟩ => exact ⟨Nat.zero_le _, by show (i (2 : Fin 3)).val < 0 + 256; omega⟩

theorem overlay_unStack4 {α : Type} (f : ℕ → S1x256x256.Idx → α) (n : ℕ) {off : Fin 3 → ℕ} (ho : off = ![n, 0, 0])
    (inb : ∀ a, off a + S1x256x256.size a ≤ S4x256x256.size a) (w : S1x256x256.Idx → α) :
    (Rect.unit (s := S4x256x256) off S1x256x256.size inb).overlay (unStack4 f) w = unStack4 (Function.update f n w) := by
  have key := ld_unStack4 (fun m x => (m, x)) n ho inb
  refine overlay_tiles (T := S1x256x256) (Rect.unit (s := S4x256x256) off S1x256x256.size inb)
    (fun i => (i (0 : Fin 3)).val) inStack4 n f w w (fun x => congrArg Prod.fst (congrFun key x))
    (fun x => congrArg w (congrArg Prod.snd (congrFun key x)).symm) (fun i hi => ?_)
  subst ho
  have hi' : (i (0 : Fin 3)).val = n := hi
  have h1 : (i (1 : Fin 3)).val < 256 := (i (1 : Fin 3)).isLt
  have h2 : (i (2 : Fin 3)).val < 256 := (i (2 : Fin 3)).isLt
  refine Rect.mem_set_unit.mpr fun a => ?_
  match a with
  | ⟨0, _⟩ => exact ⟨by show n ≤ (i (0 : Fin 3)).val; omega, by show (i (0 : Fin 3)).val < n + 1; omega⟩
  | ⟨1, _⟩ => exact ⟨Nat.zero_le _, by show (i (1 : Fin 3)).val < 0 + 256; omega⟩
  | ⟨2, _⟩ => exact ⟨Nat.zero_le _, by show (i (2 : Fin 3)).val < 0 + 256; omega⟩

/-- Reading, and overwriting, all of an array. -/
theorem ld_whole {d : Fin 3 → ℕ} {α : Type} (X : (⟨3, d⟩ : Shape).Idx → α) {off : Fin 3 → ℕ} (ho : off = ![0, 0, 0])
    (inb : ∀ a, off a + (⟨3, d⟩ : Shape).size a ≤ (⟨3, d⟩ : Shape).size a) :
    (fun x => X ((Rect.unit (s := ⟨3, d⟩) off (⟨3, d⟩ : Shape).size inb).toLoadRect.idx x)) = X := by
  subst ho
  funext x
  congr 1
  funext a
  refine Fin.ext ?_
  show (![0, 0, 0] : Fin 3 → ℕ) a + 1 * (x a).val = (x a).val
  have h : ∀ a : Fin 3, (![0, 0, 0] : Fin 3 → ℕ) a = 0 := by decide
  have h := h a
  omega

theorem overlay_whole {d : Fin 3 → ℕ} {α : Type} (X : (⟨3, d⟩ : Shape).Idx → α) {off : Fin 3 → ℕ} (ho : off = ![0, 0, 0])
    (inb : ∀ a, off a + (⟨3, d⟩ : Shape).size a ≤ (⟨3, d⟩ : Shape).size a) (w : (⟨3, d⟩ : Shape).Idx → α) :
    (Rect.unit (s := ⟨3, d⟩) off (⟨3, d⟩ : Shape).size inb).overlay X w = w := by
  funext i
  have e : (Rect.unit (s := ⟨3, d⟩) off (⟨3, d⟩ : Shape).size inb).emb i = i := congrFun (ld_whole (fun x => x) ho inb) i
  conv_lhs => rw [← e]
  exact Rect.overlay_emb _ _ _ _

/-! ## The buffers and what they hold -/

/-- The twelve buffers the body is called with. -/
structure Bufs where
  a2 : Memref sig .tc .vmem S1x64x256 .bf16
  h2 : a2.IsWhole
  a3 : Memref sig .tc .vmem S1x64x8192 .bf16
  h3 : a3.IsWhole
  a4 : Memref sig .tc .vmem S1x64x8192 .bf16
  h4 : a4.IsWhole
  a5 : Memref sig .tc .vmem S1x64x256 .bf16
  h5 : a5.IsWhole
  a6 : Memref sig .tc .vmem S1x64x256 .f32
  h6 : a6.IsWhole
  a7 : Memref sig .tc .vmem S1x64x8192 .f32
  h7 : a7.IsWhole
  a8 : Memref sig .tc .vmem S1x64x8192 .f32
  h8 : a8.IsWhole
  a9 : Memref sig .tc .vmem S32x256x256 .f32
  h9 : a9.IsWhole
  a10 : Memref sig .tc .vmem S32x256x256 .bf16
  h10 : a10.IsWhole
  a11 : Memref sig .tc .vmem S4x256x256 .f32
  h11 : a11.IsWhole
  a12 : Memref sig .tc .vmem S4x256x256 .f32
  h12 : a12.IsWhole
  a13 : Memref sig .tc .vmem S4x256x256 .bf16
  h13 : a13.IsWhole

/-- What they hold: the query and output-gradient tiles of the point, the keys and the values by tiles, the three
    gradients, and the five scratch buffers by tiles. -/
@[ext]
structure St (F : FTy → Type) where
  q : Vec F S1x64x256 .bf16
  k : ℕ → Vec F S1x64x256 .bf16
  v : ℕ → Vec F S1x64x256 .bf16
  o : Vec F S1x64x256 .bf16
  dq : Vec F S1x64x256 .f32
  dk : ℕ → Vec F S1x64x256 .f32
  dv : ℕ → Vec F S1x64x256 .f32
  e : ℕ → Vec F S1x256x256 .f32
  b : ℕ → Vec F S1x256x256 .bf16
  z : ℕ → Vec F S1x256x256 .f32
  dw : ℕ → Vec F S1x256x256 .f32
  w : ℕ → Vec F S1x256x256 .bf16

/-! ## Replacing a tile -/

def St.pdq (s : St F) (x : Vec F S1x64x256 .f32) : St F := { s with dq := x }
def St.pdk (s : St F) (n : ℕ) (x : Vec F S1x64x256 .f32) : St F := { s with dk := Function.update s.dk n x }
def St.pdv (s : St F) (n : ℕ) (x : Vec F S1x64x256 .f32) : St F := { s with dv := Function.update s.dv n x }
def St.pe (s : St F) (n : ℕ) (x : Vec F S1x256x256 .f32) : St F := { s with e := Function.update s.e n x }
def St.pb (s : St F) (n : ℕ) (x : Vec F S1x256x256 .bf16) : St F := { s with b := Function.update s.b n x }
def St.pz (s : St F) (n : ℕ) (x : Vec F S1x256x256 .f32) : St F := { s with z := Function.update s.z n x }
def St.pdw (s : St F) (n : ℕ) (x : Vec F S1x256x256 .f32) : St F := { s with dw := Function.update s.dw n x }
def St.pw (s : St F) (n : ℕ) (x : Vec F S1x256x256 .bf16) : St F := { s with w := Function.update s.w n x }
def St.fdk (s : St F) (x : Vec F S1x64x256 .f32) : St F := { s with dk := fun _ => x }
def St.fdv (s : St F) (x : Vec F S1x64x256 .f32) : St F := { s with dv := fun _ => x }

@[simp] theorem St.pdq_q (s : St F) (x : Vec F S1x64x256 .f32) : (s.pdq x).q = s.q := rfl
@[simp] theorem St.pdq_k (s : St F) (x : Vec F S1x64x256 .f32) : (s.pdq x).k = s.k := rfl
@[simp] theorem St.pdq_v (s : St F) (x : Vec F S1x64x256 .f32) : (s.pdq x).v = s.v := rfl
@[simp] theorem St.pdq_o (s : St F) (x : Vec F S1x64x256 .f32) : (s.pdq x).o = s.o := rfl
@[simp] theorem St.pdq_dq (s : St F) (x : Vec F S1x64x256 .f32) : (s.pdq x).dq = x := rfl
@[simp] theorem St.pdq_dk (s : St F) (x : Vec F S1x64x256 .f32) : (s.pdq x).dk = s.dk := rfl
@[simp] theorem St.pdq_dv (s : St F) (x : Vec F S1x64x256 .f32) : (s.pdq x).dv = s.dv := rfl
@[simp] theorem St.pdq_e (s : St F) (x : Vec F S1x64x256 .f32) : (s.pdq x).e = s.e := rfl
@[simp] theorem St.pdq_b (s : St F) (x : Vec F S1x64x256 .f32) : (s.pdq x).b = s.b := rfl
@[simp] theorem St.pdq_z (s : St F) (x : Vec F S1x64x256 .f32) : (s.pdq x).z = s.z := rfl
@[simp] theorem St.pdq_dw (s : St F) (x : Vec F S1x64x256 .f32) : (s.pdq x).dw = s.dw := rfl
@[simp] theorem St.pdq_w (s : St F) (x : Vec F S1x64x256 .f32) : (s.pdq x).w = s.w := rfl
@[simp] theorem St.pdk_q (s : St F) (n : ℕ) (x : Vec F S1x64x256 .f32) : (s.pdk n x).q = s.q := rfl
@[simp] theorem St.pdk_k (s : St F) (n : ℕ) (x : Vec F S1x64x256 .f32) : (s.pdk n x).k = s.k := rfl
@[simp] theorem St.pdk_v (s : St F) (n : ℕ) (x : Vec F S1x64x256 .f32) : (s.pdk n x).v = s.v := rfl
@[simp] theorem St.pdk_o (s : St F) (n : ℕ) (x : Vec F S1x64x256 .f32) : (s.pdk n x).o = s.o := rfl
@[simp] theorem St.pdk_dq (s : St F) (n : ℕ) (x : Vec F S1x64x256 .f32) : (s.pdk n x).dq = s.dq := rfl
@[simp] theorem St.pdk_dk (s : St F) (n : ℕ) (x : Vec F S1x64x256 .f32) : (s.pdk n x).dk = Function.update s.dk n x := rfl
@[simp] theorem St.pdk_dv (s : St F) (n : ℕ) (x : Vec F S1x64x256 .f32) : (s.pdk n x).dv = s.dv := rfl
@[simp] theorem St.pdk_e (s : St F) (n : ℕ) (x : Vec F S1x64x256 .f32) : (s.pdk n x).e = s.e := rfl
@[simp] theorem St.pdk_b (s : St F) (n : ℕ) (x : Vec F S1x64x256 .f32) : (s.pdk n x).b = s.b := rfl
@[simp] theorem St.pdk_z (s : St F) (n : ℕ) (x : Vec F S1x64x256 .f32) : (s.pdk n x).z = s.z := rfl
@[simp] theorem St.pdk_dw (s : St F) (n : ℕ) (x : Vec F S1x64x256 .f32) : (s.pdk n x).dw = s.dw := rfl
@[simp] theorem St.pdk_w (s : St F) (n : ℕ) (x : Vec F S1x64x256 .f32) : (s.pdk n x).w = s.w := rfl
@[simp] theorem St.pdv_q (s : St F) (n : ℕ) (x : Vec F S1x64x256 .f32) : (s.pdv n x).q = s.q := rfl
@[simp] theorem St.pdv_k (s : St F) (n : ℕ) (x : Vec F S1x64x256 .f32) : (s.pdv n x).k = s.k := rfl
@[simp] theorem St.pdv_v (s : St F) (n : ℕ) (x : Vec F S1x64x256 .f32) : (s.pdv n x).v = s.v := rfl
@[simp] theorem St.pdv_o (s : St F) (n : ℕ) (x : Vec F S1x64x256 .f32) : (s.pdv n x).o = s.o := rfl
@[simp] theorem St.pdv_dq (s : St F) (n : ℕ) (x : Vec F S1x64x256 .f32) : (s.pdv n x).dq = s.dq := rfl
@[simp] theorem St.pdv_dk (s : St F) (n : ℕ) (x : Vec F S1x64x256 .f32) : (s.pdv n x).dk = s.dk := rfl
@[simp] theorem St.pdv_dv (s : St F) (n : ℕ) (x : Vec F S1x64x256 .f32) : (s.pdv n x).dv = Function.update s.dv n x := rfl
@[simp] theorem St.pdv_e (s : St F) (n : ℕ) (x : Vec F S1x64x256 .f32) : (s.pdv n x).e = s.e := rfl
@[simp] theorem St.pdv_b (s : St F) (n : ℕ) (x : Vec F S1x64x256 .f32) : (s.pdv n x).b = s.b := rfl
@[simp] theorem St.pdv_z (s : St F) (n : ℕ) (x : Vec F S1x64x256 .f32) : (s.pdv n x).z = s.z := rfl
@[simp] theorem St.pdv_dw (s : St F) (n : ℕ) (x : Vec F S1x64x256 .f32) : (s.pdv n x).dw = s.dw := rfl
@[simp] theorem St.pdv_w (s : St F) (n : ℕ) (x : Vec F S1x64x256 .f32) : (s.pdv n x).w = s.w := rfl
@[simp] theorem St.pe_q (s : St F) (n : ℕ) (x : Vec F S1x256x256 .f32) : (s.pe n x).q = s.q := rfl
@[simp] theorem St.pe_k (s : St F) (n : ℕ) (x : Vec F S1x256x256 .f32) : (s.pe n x).k = s.k := rfl
@[simp] theorem St.pe_v (s : St F) (n : ℕ) (x : Vec F S1x256x256 .f32) : (s.pe n x).v = s.v := rfl
@[simp] theorem St.pe_o (s : St F) (n : ℕ) (x : Vec F S1x256x256 .f32) : (s.pe n x).o = s.o := rfl
@[simp] theorem St.pe_dq (s : St F) (n : ℕ) (x : Vec F S1x256x256 .f32) : (s.pe n x).dq = s.dq := rfl
@[simp] theorem St.pe_dk (s : St F) (n : ℕ) (x : Vec F S1x256x256 .f32) : (s.pe n x).dk = s.dk := rfl
@[simp] theorem St.pe_dv (s : St F) (n : ℕ) (x : Vec F S1x256x256 .f32) : (s.pe n x).dv = s.dv := rfl
@[simp] theorem St.pe_e (s : St F) (n : ℕ) (x : Vec F S1x256x256 .f32) : (s.pe n x).e = Function.update s.e n x := rfl
@[simp] theorem St.pe_b (s : St F) (n : ℕ) (x : Vec F S1x256x256 .f32) : (s.pe n x).b = s.b := rfl
@[simp] theorem St.pe_z (s : St F) (n : ℕ) (x : Vec F S1x256x256 .f32) : (s.pe n x).z = s.z := rfl
@[simp] theorem St.pe_dw (s : St F) (n : ℕ) (x : Vec F S1x256x256 .f32) : (s.pe n x).dw = s.dw := rfl
@[simp] theorem St.pe_w (s : St F) (n : ℕ) (x : Vec F S1x256x256 .f32) : (s.pe n x).w = s.w := rfl
@[simp] theorem St.pb_q (s : St F) (n : ℕ) (x : Vec F S1x256x256 .bf16) : (s.pb n x).q = s.q := rfl
@[simp] theorem St.pb_k (s : St F) (n : ℕ) (x : Vec F S1x256x256 .bf16) : (s.pb n x).k = s.k := rfl
@[simp] theorem St.pb_v (s : St F) (n : ℕ) (x : Vec F S1x256x256 .bf16) : (s.pb n x).v = s.v := rfl
@[simp] theorem St.pb_o (s : St F) (n : ℕ) (x : Vec F S1x256x256 .bf16) : (s.pb n x).o = s.o := rfl
@[simp] theorem St.pb_dq (s : St F) (n : ℕ) (x : Vec F S1x256x256 .bf16) : (s.pb n x).dq = s.dq := rfl
@[simp] theorem St.pb_dk (s : St F) (n : ℕ) (x : Vec F S1x256x256 .bf16) : (s.pb n x).dk = s.dk := rfl
@[simp] theorem St.pb_dv (s : St F) (n : ℕ) (x : Vec F S1x256x256 .bf16) : (s.pb n x).dv = s.dv := rfl
@[simp] theorem St.pb_e (s : St F) (n : ℕ) (x : Vec F S1x256x256 .bf16) : (s.pb n x).e = s.e := rfl
@[simp] theorem St.pb_b (s : St F) (n : ℕ) (x : Vec F S1x256x256 .bf16) : (s.pb n x).b = Function.update s.b n x := rfl
@[simp] theorem St.pb_z (s : St F) (n : ℕ) (x : Vec F S1x256x256 .bf16) : (s.pb n x).z = s.z := rfl
@[simp] theorem St.pb_dw (s : St F) (n : ℕ) (x : Vec F S1x256x256 .bf16) : (s.pb n x).dw = s.dw := rfl
@[simp] theorem St.pb_w (s : St F) (n : ℕ) (x : Vec F S1x256x256 .bf16) : (s.pb n x).w = s.w := rfl
@[simp] theorem St.pz_q (s : St F) (n : ℕ) (x : Vec F S1x256x256 .f32) : (s.pz n x).q = s.q := rfl
@[simp] theorem St.pz_k (s : St F) (n : ℕ) (x : Vec F S1x256x256 .f32) : (s.pz n x).k = s.k := rfl
@[simp] theorem St.pz_v (s : St F) (n : ℕ) (x : Vec F S1x256x256 .f32) : (s.pz n x).v = s.v := rfl
@[simp] theorem St.pz_o (s : St F) (n : ℕ) (x : Vec F S1x256x256 .f32) : (s.pz n x).o = s.o := rfl
@[simp] theorem St.pz_dq (s : St F) (n : ℕ) (x : Vec F S1x256x256 .f32) : (s.pz n x).dq = s.dq := rfl
@[simp] theorem St.pz_dk (s : St F) (n : ℕ) (x : Vec F S1x256x256 .f32) : (s.pz n x).dk = s.dk := rfl
@[simp] theorem St.pz_dv (s : St F) (n : ℕ) (x : Vec F S1x256x256 .f32) : (s.pz n x).dv = s.dv := rfl
@[simp] theorem St.pz_e (s : St F) (n : ℕ) (x : Vec F S1x256x256 .f32) : (s.pz n x).e = s.e := rfl
@[simp] theorem St.pz_b (s : St F) (n : ℕ) (x : Vec F S1x256x256 .f32) : (s.pz n x).b = s.b := rfl
@[simp] theorem St.pz_z (s : St F) (n : ℕ) (x : Vec F S1x256x256 .f32) : (s.pz n x).z = Function.update s.z n x := rfl
@[simp] theorem St.pz_dw (s : St F) (n : ℕ) (x : Vec F S1x256x256 .f32) : (s.pz n x).dw = s.dw := rfl
@[simp] theorem St.pz_w (s : St F) (n : ℕ) (x : Vec F S1x256x256 .f32) : (s.pz n x).w = s.w := rfl
@[simp] theorem St.pdw_q (s : St F) (n : ℕ) (x : Vec F S1x256x256 .f32) : (s.pdw n x).q = s.q := rfl
@[simp] theorem St.pdw_k (s : St F) (n : ℕ) (x : Vec F S1x256x256 .f32) : (s.pdw n x).k = s.k := rfl
@[simp] theorem St.pdw_v (s : St F) (n : ℕ) (x : Vec F S1x256x256 .f32) : (s.pdw n x).v = s.v := rfl
@[simp] theorem St.pdw_o (s : St F) (n : ℕ) (x : Vec F S1x256x256 .f32) : (s.pdw n x).o = s.o := rfl
@[simp] theorem St.pdw_dq (s : St F) (n : ℕ) (x : Vec F S1x256x256 .f32) : (s.pdw n x).dq = s.dq := rfl
@[simp] theorem St.pdw_dk (s : St F) (n : ℕ) (x : Vec F S1x256x256 .f32) : (s.pdw n x).dk = s.dk := rfl
@[simp] theorem St.pdw_dv (s : St F) (n : ℕ) (x : Vec F S1x256x256 .f32) : (s.pdw n x).dv = s.dv := rfl
@[simp] theorem St.pdw_e (s : St F) (n : ℕ) (x : Vec F S1x256x256 .f32) : (s.pdw n x).e = s.e := rfl
@[simp] theorem St.pdw_b (s : St F) (n : ℕ) (x : Vec F S1x256x256 .f32) : (s.pdw n x).b = s.b := rfl
@[simp] theorem St.pdw_z (s : St F) (n : ℕ) (x : Vec F S1x256x256 .f32) : (s.pdw n x).z = s.z := rfl
@[simp] theorem St.pdw_dw (s : St F) (n : ℕ) (x : Vec F S1x256x256 .f32) : (s.pdw n x).dw = Function.update s.dw n x := rfl
@[simp] theorem St.pdw_w (s : St F) (n : ℕ) (x : Vec F S1x256x256 .f32) : (s.pdw n x).w = s.w := rfl
@[simp] theorem St.pw_q (s : St F) (n : ℕ) (x : Vec F S1x256x256 .bf16) : (s.pw n x).q = s.q := rfl
@[simp] theorem St.pw_k (s : St F) (n : ℕ) (x : Vec F S1x256x256 .bf16) : (s.pw n x).k = s.k := rfl
@[simp] theorem St.pw_v (s : St F) (n : ℕ) (x : Vec F S1x256x256 .bf16) : (s.pw n x).v = s.v := rfl
@[simp] theorem St.pw_o (s : St F) (n : ℕ) (x : Vec F S1x256x256 .bf16) : (s.pw n x).o = s.o := rfl
@[simp] theorem St.pw_dq (s : St F) (n : ℕ) (x : Vec F S1x256x256 .bf16) : (s.pw n x).dq = s.dq := rfl
@[simp] theorem St.pw_dk (s : St F) (n : ℕ) (x : Vec F S1x256x256 .bf16) : (s.pw n x).dk = s.dk := rfl
@[simp] theorem St.pw_dv (s : St F) (n : ℕ) (x : Vec F S1x256x256 .bf16) : (s.pw n x).dv = s.dv := rfl
@[simp] theorem St.pw_e (s : St F) (n : ℕ) (x : Vec F S1x256x256 .bf16) : (s.pw n x).e = s.e := rfl
@[simp] theorem St.pw_b (s : St F) (n : ℕ) (x : Vec F S1x256x256 .bf16) : (s.pw n x).b = s.b := rfl
@[simp] theorem St.pw_z (s : St F) (n : ℕ) (x : Vec F S1x256x256 .bf16) : (s.pw n x).z = s.z := rfl
@[simp] theorem St.pw_dw (s : St F) (n : ℕ) (x : Vec F S1x256x256 .bf16) : (s.pw n x).dw = s.dw := rfl
@[simp] theorem St.pw_w (s : St F) (n : ℕ) (x : Vec F S1x256x256 .bf16) : (s.pw n x).w = Function.update s.w n x := rfl
@[simp] theorem St.fdk_q (s : St F) (x : Vec F S1x64x256 .f32) : (s.fdk x).q = s.q := rfl
@[simp] theorem St.fdk_k (s : St F) (x : Vec F S1x64x256 .f32) : (s.fdk x).k = s.k := rfl
@[simp] theorem St.fdk_v (s : St F) (x : Vec F S1x64x256 .f32) : (s.fdk x).v = s.v := rfl
@[simp] theorem St.fdk_o (s : St F) (x : Vec F S1x64x256 .f32) : (s.fdk x).o = s.o := rfl
@[simp] theorem St.fdk_dq (s : St F) (x : Vec F S1x64x256 .f32) : (s.fdk x).dq = s.dq := rfl
@[simp] theorem St.fdk_dk (s : St F) (x : Vec F S1x64x256 .f32) : (s.fdk x).dk = fun _ => x := rfl
@[simp] theorem St.fdk_dv (s : St F) (x : Vec F S1x64x256 .f32) : (s.fdk x).dv = s.dv := rfl
@[simp] theorem St.fdk_e (s : St F) (x : Vec F S1x64x256 .f32) : (s.fdk x).e = s.e := rfl
@[simp] theorem St.fdk_b (s : St F) (x : Vec F S1x64x256 .f32) : (s.fdk x).b = s.b := rfl
@[simp] theorem St.fdk_z (s : St F) (x : Vec F S1x64x256 .f32) : (s.fdk x).z = s.z := rfl
@[simp] theorem St.fdk_dw (s : St F) (x : Vec F S1x64x256 .f32) : (s.fdk x).dw = s.dw := rfl
@[simp] theorem St.fdk_w (s : St F) (x : Vec F S1x64x256 .f32) : (s.fdk x).w = s.w := rfl
@[simp] theorem St.fdv_q (s : St F) (x : Vec F S1x64x256 .f32) : (s.fdv x).q = s.q := rfl
@[simp] theorem St.fdv_k (s : St F) (x : Vec F S1x64x256 .f32) : (s.fdv x).k = s.k := rfl
@[simp] theorem St.fdv_v (s : St F) (x : Vec F S1x64x256 .f32) : (s.fdv x).v = s.v := rfl
@[simp] theorem St.fdv_o (s : St F) (x : Vec F S1x64x256 .f32) : (s.fdv x).o = s.o := rfl
@[simp] theorem St.fdv_dq (s : St F) (x : Vec F S1x64x256 .f32) : (s.fdv x).dq = s.dq := rfl
@[simp] theorem St.fdv_dk (s : St F) (x : Vec F S1x64x256 .f32) : (s.fdv x).dk = s.dk := rfl
@[simp] theorem St.fdv_dv (s : St F) (x : Vec F S1x64x256 .f32) : (s.fdv x).dv = fun _ => x := rfl
@[simp] theorem St.fdv_e (s : St F) (x : Vec F S1x64x256 .f32) : (s.fdv x).e = s.e := rfl
@[simp] theorem St.fdv_b (s : St F) (x : Vec F S1x64x256 .f32) : (s.fdv x).b = s.b := rfl
@[simp] theorem St.fdv_z (s : St F) (x : Vec F S1x64x256 .f32) : (s.fdv x).z = s.z := rfl
@[simp] theorem St.fdv_dw (s : St F) (x : Vec F S1x64x256 .f32) : (s.fdv x).dw = s.dw := rfl
@[simp] theorem St.fdv_w (s : St F) (x : Vec F S1x64x256 .f32) : (s.fdv x).w = s.w := rfl

/-- A whole buffer held in full, reading `X`. -/
def pt (c : Dev nD) {s : Shape} {e : EltTy} (m : Memref sig .tc .vmem s e) (h : m.IsWhole) (X : s.Idx → Elt F e) : sProp 𝕄 :=
  (m.view.loc (c : Thread nD τ) ↦[m.view.set]{fullShare} h.unread X)

/-- The buffers hold `s`. -/
def Held (A : Bufs) (c : Dev nD) (s : St F) : sProp 𝕄 :=
  iprop(pt c A.a2 A.h2 s.q ∗ pt c A.a3 A.h3 (unCol s.k) ∗ pt c A.a4 A.h4 (unCol s.v) ∗ pt c A.a5 A.h5 s.o
    ∗ pt c A.a6 A.h6 s.dq ∗ pt c A.a7 A.h7 (unCol s.dk) ∗ pt c A.a8 A.h8 (unCol s.dv)
    ∗ pt c A.a9 A.h9 (unStack32 s.e) ∗ pt c A.a10 A.h10 (unStack32 s.b)
    ∗ pt c A.a11 A.h11 (unStack4 s.z) ∗ pt c A.a12 A.h12 (unStack4 s.dw) ∗ pt c A.a13 A.h13 (unStack4 s.w))

/-- The program `p` takes the buffers from `s` to `s'` and ends in `a`. -/
structure Ev (A : Bufs) (c : Dev nD) {α : Type} (p : Prog (TpuEff nD τ sig (Elt F) Λ₀ .tc) α) (s : St F) (a : α) (s' : St F) : Prop where
  run : ∀ Q : α → sProp 𝕄, (Held A c s' ⊢ Q a) → (Held A c s ⊢ wp frame (wpE (defs₀ (F := F)) Variants.none (c : Thread nD τ) none) Set.univ p Q)

variable {A : Bufs} {c : Dev nD}

/-- The result and the final contents may be renamed by equations. -/
theorem Ev.cast {α : Type} {p : Prog (TpuEff nD τ sig (Elt F) Λ₀ .tc) α} {s s₁ s₂ : St F} {a b : α} (h : Ev A c p s a s₁)
    (ha : a = b) (hs : s₁ = s₂) : Ev A c p s b s₂ := ha ▸ hs ▸ h

theorem Ev.ret {α : Type} (a : α) (s : St F) : Ev A c (pure a) s a s := ⟨fun Q h => h.trans (le_wp_ret _ _ _ a Q)⟩

theorem Ev.bind {α β : Type} {p : Prog (TpuEff nD τ sig (Elt F) Λ₀ .tc) α} {k : α → Prog (TpuEff nD τ sig (Elt F) Λ₀ .tc) β}
    {s s₁ s₂ : St F} {a : α} {b : β} (hp : Ev A c p s a s₁) (hk : Ev A c (k a) s₁ b s₂) : Ev A c (p >>= k) s b s₂ := by
  refine ⟨fun Q h => ?_⟩
  rw [wp_bind]
  exact hp.run _ (hk.run Q h)

/-- So may those a continuation starts from. -/
theorem Ev.into {α β : Type} {K : α → Prog (TpuEff nD τ sig (Elt F) Λ₀ .tc) β} {s s₁ s₂ : St F} {a a' : α} {b : β}
    (h : Ev A c (K a) s b s₂) (ha : a' = a) (hs : s₁ = s) : Ev A c (K a') s₁ b s₂ := ha ▸ hs ▸ h

/-- A load of a buffer picked out of those held. -/
theorem ev_load {s : Shape} {e : EltTy} {m : Memref sig .tc .vmem s e} {h : m.IsWhole} {X : s.Idx → Elt F e} {R : sProp 𝕄}
    {st : St F} (h₁ : Held A c st ⊢ iprop(pt c m h X ∗ R)) (h₂ : iprop(pt c m h X ∗ R) ⊢ Held A c st)
    (r : LoadRect s) (hl : m.view.LoadsAt r) (Y : r.shape.Idx → Elt F e) (hY : (fun x => X (r.idx x)) = Y) :
    Ev A c (Prog.lift (.load m r hl)) st Y st := by
  refine ⟨fun Q hQ => ?_⟩
  refine h₁.trans ?_
  subst hY
  have hv : m.view.readAt (Elt F) r (h.unread X) = fun x => X (r.idx x) := funext fun x => congrFun (h.read_unread X) (r.idx x)
  iintro ⟨H, HR⟩
  unfold pt
  iapply (wp_load (defs := defs₀ (F := F)) Variants.none (c : Thread nD τ) none Set.univ (hl := hl) (View.setOn_subset_set _ _)) $$ H
  iintro H
  rw [hv]
  iapply le_wp_ret
  iapply hQ
  iapply h₂
  unfold pt
  iframe

/-- A store into a buffer picked out of those held. -/
theorem ev_store {s : Shape} {e : EltTy} {m : Memref sig .tc .vmem s e} {h : m.IsWhole} {X X' : s.Idx → Elt F e} {R : sProp 𝕄}
    {st st' : St F} (h₁ : Held A c st ⊢ iprop(pt c m h X ∗ R)) (h₂ : iprop(pt c m h X' ∗ R) ⊢ Held A c st')
    (r : Rect s) (w : r.shape.Idx → Elt F e) (hx : (m.access r).Stores Finset.univ) (hm : (Finset.univ : Finset r.shape.Idx) = Finset.univ ∨ ∀ a, r.stride a = 1)
    (hX : r.overlay X w = X') : Ev A c (Prog.lift (.store m r w Finset.univ hx hm)) st ⟨⟩ st' := by
  refine ⟨fun Q hQ => ?_⟩
  refine h₁.trans ?_
  subst hX
  have hv : (m.access r).write (Elt F) (h.unread X) w Finset.univ = h.unread (r.overlay X w) := by
    apply h.eq_unread
    funext i
    by_cases hi : i ∈ r.set
    · obtain ⟨x, rfl⟩ : ∃ x, r.emb x = i := r.exists_idx_of_mem hi
      rw [Rect.overlay_emb]
      exact View.read_slice_write_emb r _ w (Finset.mem_univ x)
    · rw [Rect.overlay_of_not_mem _ _ _ hi]
      refine (View.read_slice_write_of_not_mem r _ w _ (by rw [Rect.map_emb_univ]; exact hi)).trans ?_
      rw [h.read_unread]
  iintro ⟨H, HR⟩
  unfold pt
  iapply (wp_store (defs := defs₀ (F := F)) Variants.none (c : Thread nD τ) none Set.univ (hx := hx) (hm := hm) (Memref.setOn_access_subset _ _ _)) $$ H
  iintro H
  rw [hv]
  iapply le_wp_ret
  iapply hQ
  iapply h₂
  unfold pt
  iframe

/-! ## One rule per buffer -/

/-- What is held beside buffer 2. -/
def Rest2 (A : Bufs) (c : Dev nD) (s : St F) : sProp 𝕄 :=
  iprop(pt c A.a3 A.h3 (unCol s.k) ∗ pt c A.a4 A.h4 (unCol s.v) ∗ pt c A.a5 A.h5 s.o ∗ pt c A.a6 A.h6 s.dq ∗ pt c A.a7 A.h7 (unCol s.dk) ∗ pt c A.a8 A.h8 (unCol s.dv) ∗ pt c A.a9 A.h9 (unStack32 s.e) ∗ pt c A.a10 A.h10 (unStack32 s.b) ∗ pt c A.a11 A.h11 (unStack4 s.z) ∗ pt c A.a12 A.h12 (unStack4 s.dw) ∗ pt c A.a13 A.h13 (unStack4 s.w))

theorem take2 (s : St F) : Held A c s ⊢ iprop(pt c A.a2 A.h2 s.q ∗ Rest2 A c s) := by
  unfold Held Rest2
  iintro ⟨H2, H3, H4, H5, H6, H7, H8, H9, H10, H11, H12, H13⟩
  iframe

theorem give2 (s : St F) : iprop(pt c A.a2 A.h2 s.q ∗ Rest2 A c s) ⊢ Held A c s := by
  unfold Held Rest2
  iintro ⟨H2, H3, H4, H5, H6, H7, H8, H9, H10, H11, H12, H13⟩
  iframe

theorem Ev.load2 {s : St F} {off : Fin 3 → ℕ} (ho : off = ![0, 0, 0]) {inb : ∀ a, off a + S1x64x256.size a ≤ S1x64x256.size a}
    {hl : A.a2.view.LoadsAt (Rect.unit (s := S1x64x256) off S1x64x256.size inb).toLoadRect} :
    Ev A c (Prog.lift (.load A.a2 (Rect.unit (s := S1x64x256) off S1x64x256.size inb).toLoadRect hl)) s s.q s :=
  ev_load (take2 s) (give2 s) _ hl _ (ld_whole s.q ho inb)

/-- What is held beside buffer 3. -/
def Rest3 (A : Bufs) (c : Dev nD) (s : St F) : sProp 𝕄 :=
  iprop(pt c A.a2 A.h2 s.q ∗ pt c A.a4 A.h4 (unCol s.v) ∗ pt c A.a5 A.h5 s.o ∗ pt c A.a6 A.h6 s.dq ∗ pt c A.a7 A.h7 (unCol s.dk) ∗ pt c A.a8 A.h8 (unCol s.dv) ∗ pt c A.a9 A.h9 (unStack32 s.e) ∗ pt c A.a10 A.h10 (unStack32 s.b) ∗ pt c A.a11 A.h11 (unStack4 s.z) ∗ pt c A.a12 A.h12 (unStack4 s.dw) ∗ pt c A.a13 A.h13 (unStack4 s.w))

theorem take3 (s : St F) : Held A c s ⊢ iprop(pt c A.a3 A.h3 (unCol s.k) ∗ Rest3 A c s) := by
  unfold Held Rest3
  iintro ⟨H2, H3, H4, H5, H6, H7, H8, H9, H10, H11, H12, H13⟩
  iframe

theorem give3 (s : St F) : iprop(pt c A.a3 A.h3 (unCol s.k) ∗ Rest3 A c s) ⊢ Held A c s := by
  unfold Held Rest3
  iintro ⟨H3, H2, H4, H5, H6, H7, H8, H9, H10, H11, H12, H13⟩
  iframe

theorem Ev.load3 {s : St F} (n : ℕ) {off : Fin 3 → ℕ} (ho : off = ![0, 0, 256 * n]) {inb : ∀ a, off a + S1x64x256.size a ≤ S1x64x8192.size a}
    {hl : A.a3.view.LoadsAt (Rect.unit (s := S1x64x8192) off S1x64x256.size inb).toLoadRect} :
    Ev A c (Prog.lift (.load A.a3 (Rect.unit (s := S1x64x8192) off S1x64x256.size inb).toLoadRect hl)) s (s.k n) s :=
  ev_load (take3 s) (give3 s) _ hl _ (ld_unCol s.k n ho inb)

/-- What is held beside buffer 4. -/
def Rest4 (A : Bufs) (c : Dev nD) (s : St F) : sProp 𝕄 :=
  iprop(pt c A.a2 A.h2 s.q ∗ pt c A.a3 A.h3 (unCol s.k) ∗ pt c A.a5 A.h5 s.o ∗ pt c A.a6 A.h6 s.dq ∗ pt c A.a7 A.h7 (unCol s.dk) ∗ pt c A.a8 A.h8 (unCol s.dv) ∗ pt c A.a9 A.h9 (unStack32 s.e) ∗ pt c A.a10 A.h10 (unStack32 s.b) ∗ pt c A.a11 A.h11 (unStack4 s.z) ∗ pt c A.a12 A.h12 (unStack4 s.dw) ∗ pt c A.a13 A.h13 (unStack4 s.w))

theorem take4 (s : St F) : Held A c s ⊢ iprop(pt c A.a4 A.h4 (unCol s.v) ∗ Rest4 A c s) := by
  unfold Held Rest4
  iintro ⟨H2, H3, H4, H5, H6, H7, H8, H9, H10, H11, H12, H13⟩
  iframe

theorem give4 (s : St F) : iprop(pt c A.a4 A.h4 (unCol s.v) ∗ Rest4 A c s) ⊢ Held A c s := by
  unfold Held Rest4
  iintro ⟨H4, H2, H3, H5, H6, H7, H8, H9, H10, H11, H12, H13⟩
  iframe

theorem Ev.load4 {s : St F} (n : ℕ) {off : Fin 3 → ℕ} (ho : off = ![0, 0, 256 * n]) {inb : ∀ a, off a + S1x64x256.size a ≤ S1x64x8192.size a}
    {hl : A.a4.view.LoadsAt (Rect.unit (s := S1x64x8192) off S1x64x256.size inb).toLoadRect} :
    Ev A c (Prog.lift (.load A.a4 (Rect.unit (s := S1x64x8192) off S1x64x256.size inb).toLoadRect hl)) s (s.v n) s :=
  ev_load (take4 s) (give4 s) _ hl _ (ld_unCol s.v n ho inb)

/-- What is held beside buffer 5. -/
def Rest5 (A : Bufs) (c : Dev nD) (s : St F) : sProp 𝕄 :=
  iprop(pt c A.a2 A.h2 s.q ∗ pt c A.a3 A.h3 (unCol s.k) ∗ pt c A.a4 A.h4 (unCol s.v) ∗ pt c A.a6 A.h6 s.dq ∗ pt c A.a7 A.h7 (unCol s.dk) ∗ pt c A.a8 A.h8 (unCol s.dv) ∗ pt c A.a9 A.h9 (unStack32 s.e) ∗ pt c A.a10 A.h10 (unStack32 s.b) ∗ pt c A.a11 A.h11 (unStack4 s.z) ∗ pt c A.a12 A.h12 (unStack4 s.dw) ∗ pt c A.a13 A.h13 (unStack4 s.w))

theorem take5 (s : St F) : Held A c s ⊢ iprop(pt c A.a5 A.h5 s.o ∗ Rest5 A c s) := by
  unfold Held Rest5
  iintro ⟨H2, H3, H4, H5, H6, H7, H8, H9, H10, H11, H12, H13⟩
  iframe

theorem give5 (s : St F) : iprop(pt c A.a5 A.h5 s.o ∗ Rest5 A c s) ⊢ Held A c s := by
  unfold Held Rest5
  iintro ⟨H5, H2, H3, H4, H6, H7, H8, H9, H10, H11, H12, H13⟩
  iframe

theorem Ev.load5 {s : St F} {off : Fin 3 → ℕ} (ho : off = ![0, 0, 0]) {inb : ∀ a, off a + S1x64x256.size a ≤ S1x64x256.size a}
    {hl : A.a5.view.LoadsAt (Rect.unit (s := S1x64x256) off S1x64x256.size inb).toLoadRect} :
    Ev A c (Prog.lift (.load A.a5 (Rect.unit (s := S1x64x256) off S1x64x256.size inb).toLoadRect hl)) s s.o s :=
  ev_load (take5 s) (give5 s) _ hl _ (ld_whole s.o ho inb)

/-- What is held beside buffer 6. -/
def Rest6 (A : Bufs) (c : Dev nD) (s : St F) : sProp 𝕄 :=
  iprop(pt c A.a2 A.h2 s.q ∗ pt c A.a3 A.h3 (unCol s.k) ∗ pt c A.a4 A.h4 (unCol s.v) ∗ pt c A.a5 A.h5 s.o ∗ pt c A.a7 A.h7 (unCol s.dk) ∗ pt c A.a8 A.h8 (unCol s.dv) ∗ pt c A.a9 A.h9 (unStack32 s.e) ∗ pt c A.a10 A.h10 (unStack32 s.b) ∗ pt c A.a11 A.h11 (unStack4 s.z) ∗ pt c A.a12 A.h12 (unStack4 s.dw) ∗ pt c A.a13 A.h13 (unStack4 s.w))

theorem take6 (s : St F) : Held A c s ⊢ iprop(pt c A.a6 A.h6 s.dq ∗ Rest6 A c s) := by
  unfold Held Rest6
  iintro ⟨H2, H3, H4, H5, H6, H7, H8, H9, H10, H11, H12, H13⟩
  iframe

theorem give6 (s : St F) : iprop(pt c A.a6 A.h6 s.dq ∗ Rest6 A c s) ⊢ Held A c s := by
  unfold Held Rest6
  iintro ⟨H6, H2, H3, H4, H5, H7, H8, H9, H10, H11, H12, H13⟩
  iframe

theorem Ev.load6 {s : St F} {off : Fin 3 → ℕ} (ho : off = ![0, 0, 0]) {inb : ∀ a, off a + S1x64x256.size a ≤ S1x64x256.size a}
    {hl : A.a6.view.LoadsAt (Rect.unit (s := S1x64x256) off S1x64x256.size inb).toLoadRect} :
    Ev A c (Prog.lift (.load A.a6 (Rect.unit (s := S1x64x256) off S1x64x256.size inb).toLoadRect hl)) s s.dq s :=
  ev_load (take6 s) (give6 s) _ hl _ (ld_whole s.dq ho inb)

theorem Ev.store6 {s : St F} {off : Fin 3 → ℕ} (ho : off = ![0, 0, 0]) {inb : ∀ a, off a + S1x64x256.size a ≤ S1x64x256.size a}
    {w : Vec F S1x64x256 .f32} {hx : (A.a6.access (Rect.unit (s := S1x64x256) off S1x64x256.size inb)).Stores Finset.univ}
    {hm : (Finset.univ : Finset (Rect.unit (s := S1x64x256) off S1x64x256.size inb).shape.Idx) = Finset.univ ∨ ∀ a, (Rect.unit (s := S1x64x256) off S1x64x256.size inb).stride a = 1} :
    Ev A c (Prog.lift (.store A.a6 (Rect.unit (s := S1x64x256) off S1x64x256.size inb) w Finset.univ hx hm)) s ⟨⟩ (s.pdq w) :=
  ev_store (take6 s) (give6 (s.pdq w)) _ _ hx hm (overlay_whole s.dq ho inb w)

/-- What is held beside buffer 7. -/
def Rest7 (A : Bufs) (c : Dev nD) (s : St F) : sProp 𝕄 :=
  iprop(pt c A.a2 A.h2 s.q ∗ pt c A.a3 A.h3 (unCol s.k) ∗ pt c A.a4 A.h4 (unCol s.v) ∗ pt c A.a5 A.h5 s.o ∗ pt c A.a6 A.h6 s.dq ∗ pt c A.a8 A.h8 (unCol s.dv) ∗ pt c A.a9 A.h9 (unStack32 s.e) ∗ pt c A.a10 A.h10 (unStack32 s.b) ∗ pt c A.a11 A.h11 (unStack4 s.z) ∗ pt c A.a12 A.h12 (unStack4 s.dw) ∗ pt c A.a13 A.h13 (unStack4 s.w))

theorem take7 (s : St F) : Held A c s ⊢ iprop(pt c A.a7 A.h7 (unCol s.dk) ∗ Rest7 A c s) := by
  unfold Held Rest7
  iintro ⟨H2, H3, H4, H5, H6, H7, H8, H9, H10, H11, H12, H13⟩
  iframe

theorem give7 (s : St F) : iprop(pt c A.a7 A.h7 (unCol s.dk) ∗ Rest7 A c s) ⊢ Held A c s := by
  unfold Held Rest7
  iintro ⟨H7, H2, H3, H4, H5, H6, H8, H9, H10, H11, H12, H13⟩
  iframe

theorem Ev.load7 {s : St F} (n : ℕ) {off : Fin 3 → ℕ} (ho : off = ![0, 0, 256 * n]) {inb : ∀ a, off a + S1x64x256.size a ≤ S1x64x8192.size a}
    {hl : A.a7.view.LoadsAt (Rect.unit (s := S1x64x8192) off S1x64x256.size inb).toLoadRect} :
    Ev A c (Prog.lift (.load A.a7 (Rect.unit (s := S1x64x8192) off S1x64x256.size inb).toLoadRect hl)) s (s.dk n) s :=
  ev_load (take7 s) (give7 s) _ hl _ (ld_unCol s.dk n ho inb)

theorem Ev.store7 {s : St F} (n : ℕ) {off : Fin 3 → ℕ} (ho : off = ![0, 0, 256 * n]) {inb : ∀ a, off a + S1x64x256.size a ≤ S1x64x8192.size a}
    {w : Vec F S1x64x256 .f32} {hx : (A.a7.access (Rect.unit (s := S1x64x8192) off S1x64x256.size inb)).Stores Finset.univ}
    {hm : (Finset.univ : Finset (Rect.unit (s := S1x64x8192) off S1x64x256.size inb).shape.Idx) = Finset.univ ∨ ∀ a, (Rect.unit (s := S1x64x8192) off S1x64x256.size inb).stride a = 1} :
    Ev A c (Prog.lift (.store A.a7 (Rect.unit (s := S1x64x8192) off S1x64x256.size inb) w Finset.univ hx hm)) s ⟨⟩
      (s.pdk n w) :=
  ev_store (take7 s) (give7 (s.pdk n w)) _ _ hx hm (overlay_unCol s.dk n ho inb w)

/-- The whole of a gradient's buffer is set to one value. -/
theorem Ev.fill7 {s : St F} (t : Vec F S1x64x256 .f32) {off : Fin 3 → ℕ} (ho : off = ![0, 0, 0]) {inb : ∀ a, off a + S1x64x8192.size a ≤ S1x64x8192.size a}
    {w : Vec F S1x64x8192 .f32} (hw : w = unCol fun _ => t) {hx : (A.a7.access (Rect.unit (s := S1x64x8192) off S1x64x8192.size inb)).Stores Finset.univ}
    {hm : (Finset.univ : Finset (Rect.unit (s := S1x64x8192) off S1x64x8192.size inb).shape.Idx) = Finset.univ ∨ ∀ a, (Rect.unit (s := S1x64x8192) off S1x64x8192.size inb).stride a = 1} :
    Ev A c (Prog.lift (.store A.a7 (Rect.unit (s := S1x64x8192) off S1x64x8192.size inb) w Finset.univ hx hm)) s ⟨⟩ (s.fdk t) :=
  ev_store (take7 s) (give7 (s.fdk t)) _ _ hx hm ((overlay_whole _ ho inb w).trans hw)

/-- What a load of the whole of it reads. -/
theorem Ev.whole7 {s : St F} {off : Fin 3 → ℕ} (ho : off = ![0, 0, 0]) {inb : ∀ a, off a + S1x64x8192.size a ≤ S1x64x8192.size a}
    {hl : A.a7.view.LoadsAt (Rect.unit (s := S1x64x8192) off S1x64x8192.size inb).toLoadRect} :
    Ev A c (Prog.lift (.load A.a7 (Rect.unit (s := S1x64x8192) off S1x64x8192.size inb).toLoadRect hl)) s (unCol s.dk) s :=
  ev_load (take7 s) (give7 s) _ hl _ (ld_whole (unCol s.dk) ho inb)

/-- What is held beside buffer 8. -/
def Rest8 (A : Bufs) (c : Dev nD) (s : St F) : sProp 𝕄 :=
  iprop(pt c A.a2 A.h2 s.q ∗ pt c A.a3 A.h3 (unCol s.k) ∗ pt c A.a4 A.h4 (unCol s.v) ∗ pt c A.a5 A.h5 s.o ∗ pt c A.a6 A.h6 s.dq ∗ pt c A.a7 A.h7 (unCol s.dk) ∗ pt c A.a9 A.h9 (unStack32 s.e) ∗ pt c A.a10 A.h10 (unStack32 s.b) ∗ pt c A.a11 A.h11 (unStack4 s.z) ∗ pt c A.a12 A.h12 (unStack4 s.dw) ∗ pt c A.a13 A.h13 (unStack4 s.w))

theorem take8 (s : St F) : Held A c s ⊢ iprop(pt c A.a8 A.h8 (unCol s.dv) ∗ Rest8 A c s) := by
  unfold Held Rest8
  iintro ⟨H2, H3, H4, H5, H6, H7, H8, H9, H10, H11, H12, H13⟩
  iframe

theorem give8 (s : St F) : iprop(pt c A.a8 A.h8 (unCol s.dv) ∗ Rest8 A c s) ⊢ Held A c s := by
  unfold Held Rest8
  iintro ⟨H8, H2, H3, H4, H5, H6, H7, H9, H10, H11, H12, H13⟩
  iframe

theorem Ev.load8 {s : St F} (n : ℕ) {off : Fin 3 → ℕ} (ho : off = ![0, 0, 256 * n]) {inb : ∀ a, off a + S1x64x256.size a ≤ S1x64x8192.size a}
    {hl : A.a8.view.LoadsAt (Rect.unit (s := S1x64x8192) off S1x64x256.size inb).toLoadRect} :
    Ev A c (Prog.lift (.load A.a8 (Rect.unit (s := S1x64x8192) off S1x64x256.size inb).toLoadRect hl)) s (s.dv n) s :=
  ev_load (take8 s) (give8 s) _ hl _ (ld_unCol s.dv n ho inb)

theorem Ev.store8 {s : St F} (n : ℕ) {off : Fin 3 → ℕ} (ho : off = ![0, 0, 256 * n]) {inb : ∀ a, off a + S1x64x256.size a ≤ S1x64x8192.size a}
    {w : Vec F S1x64x256 .f32} {hx : (A.a8.access (Rect.unit (s := S1x64x8192) off S1x64x256.size inb)).Stores Finset.univ}
    {hm : (Finset.univ : Finset (Rect.unit (s := S1x64x8192) off S1x64x256.size inb).shape.Idx) = Finset.univ ∨ ∀ a, (Rect.unit (s := S1x64x8192) off S1x64x256.size inb).stride a = 1} :
    Ev A c (Prog.lift (.store A.a8 (Rect.unit (s := S1x64x8192) off S1x64x256.size inb) w Finset.univ hx hm)) s ⟨⟩
      (s.pdv n w) :=
  ev_store (take8 s) (give8 (s.pdv n w)) _ _ hx hm (overlay_unCol s.dv n ho inb w)

/-- The whole of a gradient's buffer is set to one value. -/
theorem Ev.fill8 {s : St F} (t : Vec F S1x64x256 .f32) {off : Fin 3 → ℕ} (ho : off = ![0, 0, 0]) {inb : ∀ a, off a + S1x64x8192.size a ≤ S1x64x8192.size a}
    {w : Vec F S1x64x8192 .f32} (hw : w = unCol fun _ => t) {hx : (A.a8.access (Rect.unit (s := S1x64x8192) off S1x64x8192.size inb)).Stores Finset.univ}
    {hm : (Finset.univ : Finset (Rect.unit (s := S1x64x8192) off S1x64x8192.size inb).shape.Idx) = Finset.univ ∨ ∀ a, (Rect.unit (s := S1x64x8192) off S1x64x8192.size inb).stride a = 1} :
    Ev A c (Prog.lift (.store A.a8 (Rect.unit (s := S1x64x8192) off S1x64x8192.size inb) w Finset.univ hx hm)) s ⟨⟩ (s.fdv t) :=
  ev_store (take8 s) (give8 (s.fdv t)) _ _ hx hm ((overlay_whole _ ho inb w).trans hw)

/-- What a load of the whole of it reads. -/
theorem Ev.whole8 {s : St F} {off : Fin 3 → ℕ} (ho : off = ![0, 0, 0]) {inb : ∀ a, off a + S1x64x8192.size a ≤ S1x64x8192.size a}
    {hl : A.a8.view.LoadsAt (Rect.unit (s := S1x64x8192) off S1x64x8192.size inb).toLoadRect} :
    Ev A c (Prog.lift (.load A.a8 (Rect.unit (s := S1x64x8192) off S1x64x8192.size inb).toLoadRect hl)) s (unCol s.dv) s :=
  ev_load (take8 s) (give8 s) _ hl _ (ld_whole (unCol s.dv) ho inb)

/-- What is held beside buffer 9. -/
def Rest9 (A : Bufs) (c : Dev nD) (s : St F) : sProp 𝕄 :=
  iprop(pt c A.a2 A.h2 s.q ∗ pt c A.a3 A.h3 (unCol s.k) ∗ pt c A.a4 A.h4 (unCol s.v) ∗ pt c A.a5 A.h5 s.o ∗ pt c A.a6 A.h6 s.dq ∗ pt c A.a7 A.h7 (unCol s.dk) ∗ pt c A.a8 A.h8 (unCol s.dv) ∗ pt c A.a10 A.h10 (unStack32 s.b) ∗ pt c A.a11 A.h11 (unStack4 s.z) ∗ pt c A.a12 A.h12 (unStack4 s.dw) ∗ pt c A.a13 A.h13 (unStack4 s.w))

theorem take9 (s : St F) : Held A c s ⊢ iprop(pt c A.a9 A.h9 (unStack32 s.e) ∗ Rest9 A c s) := by
  unfold Held Rest9
  iintro ⟨H2, H3, H4, H5, H6, H7, H8, H9, H10, H11, H12, H13⟩
  iframe

theorem give9 (s : St F) : iprop(pt c A.a9 A.h9 (unStack32 s.e) ∗ Rest9 A c s) ⊢ Held A c s := by
  unfold Held Rest9
  iintro ⟨H9, H2, H3, H4, H5, H6, H7, H8, H10, H11, H12, H13⟩
  iframe

theorem Ev.load9 {s : St F} (n : ℕ) {off : Fin 3 → ℕ} (ho : off = ![n, 0, 0]) {inb : ∀ a, off a + S1x256x256.size a ≤ S32x256x256.size a}
    {hl : A.a9.view.LoadsAt (Rect.unit (s := S32x256x256) off S1x256x256.size inb).toLoadRect} :
    Ev A c (Prog.lift (.load A.a9 (Rect.unit (s := S32x256x256) off S1x256x256.size inb).toLoadRect hl)) s (s.e n) s :=
  ev_load (take9 s) (give9 s) _ hl _ (ld_unStack32 s.e n ho inb)

theorem Ev.store9 {s : St F} (n : ℕ) {off : Fin 3 → ℕ} (ho : off = ![n, 0, 0]) {inb : ∀ a, off a + S1x256x256.size a ≤ S32x256x256.size a}
    {w : Vec F S1x256x256 .f32} {hx : (A.a9.access (Rect.unit (s := S32x256x256) off S1x256x256.size inb)).Stores Finset.univ}
    {hm : (Finset.univ : Finset (Rect.unit (s := S32x256x256) off S1x256x256.size inb).shape.Idx) = Finset.univ ∨ ∀ a, (Rect.unit (s := S32x256x256) off S1x256x256.size inb).stride a = 1} :
    Ev A c (Prog.lift (.store A.a9 (Rect.unit (s := S32x256x256) off S1x256x256.size inb) w Finset.univ hx hm)) s ⟨⟩
      (s.pe n w) :=
  ev_store (take9 s) (give9 (s.pe n w)) _ _ hx hm (overlay_unStack32 s.e n ho inb w)

/-- What is held beside buffer 10. -/
def Rest10 (A : Bufs) (c : Dev nD) (s : St F) : sProp 𝕄 :=
  iprop(pt c A.a2 A.h2 s.q ∗ pt c A.a3 A.h3 (unCol s.k) ∗ pt c A.a4 A.h4 (unCol s.v) ∗ pt c A.a5 A.h5 s.o ∗ pt c A.a6 A.h6 s.dq ∗ pt c A.a7 A.h7 (unCol s.dk) ∗ pt c A.a8 A.h8 (unCol s.dv) ∗ pt c A.a9 A.h9 (unStack32 s.e) ∗ pt c A.a11 A.h11 (unStack4 s.z) ∗ pt c A.a12 A.h12 (unStack4 s.dw) ∗ pt c A.a13 A.h13 (unStack4 s.w))

theorem take10 (s : St F) : Held A c s ⊢ iprop(pt c A.a10 A.h10 (unStack32 s.b) ∗ Rest10 A c s) := by
  unfold Held Rest10
  iintro ⟨H2, H3, H4, H5, H6, H7, H8, H9, H10, H11, H12, H13⟩
  iframe

theorem give10 (s : St F) : iprop(pt c A.a10 A.h10 (unStack32 s.b) ∗ Rest10 A c s) ⊢ Held A c s := by
  unfold Held Rest10
  iintro ⟨H10, H2, H3, H4, H5, H6, H7, H8, H9, H11, H12, H13⟩
  iframe

theorem Ev.load10 {s : St F} (n : ℕ) {off : Fin 3 → ℕ} (ho : off = ![n, 0, 0]) {inb : ∀ a, off a + S1x256x256.size a ≤ S32x256x256.size a}
    {hl : A.a10.view.LoadsAt (Rect.unit (s := S32x256x256) off S1x256x256.size inb).toLoadRect} :
    Ev A c (Prog.lift (.load A.a10 (Rect.unit (s := S32x256x256) off S1x256x256.size inb).toLoadRect hl)) s (s.b n) s :=
  ev_load (take10 s) (give10 s) _ hl _ (ld_unStack32 s.b n ho inb)

theorem Ev.store10 {s : St F} (n : ℕ) {off : Fin 3 → ℕ} (ho : off = ![n, 0, 0]) {inb : ∀ a, off a + S1x256x256.size a ≤ S32x256x256.size a}
    {w : Vec F S1x256x256 .bf16} {hx : (A.a10.access (Rect.unit (s := S32x256x256) off S1x256x256.size inb)).Stores Finset.univ}
    {hm : (Finset.univ : Finset (Rect.unit (s := S32x256x256) off S1x256x256.size inb).shape.Idx) = Finset.univ ∨ ∀ a, (Rect.unit (s := S32x256x256) off S1x256x256.size inb).stride a = 1} :
    Ev A c (Prog.lift (.store A.a10 (Rect.unit (s := S32x256x256) off S1x256x256.size inb) w Finset.univ hx hm)) s ⟨⟩
      (s.pb n w) :=
  ev_store (take10 s) (give10 (s.pb n w)) _ _ hx hm (overlay_unStack32 s.b n ho inb w)

/-- What is held beside buffer 11. -/
def Rest11 (A : Bufs) (c : Dev nD) (s : St F) : sProp 𝕄 :=
  iprop(pt c A.a2 A.h2 s.q ∗ pt c A.a3 A.h3 (unCol s.k) ∗ pt c A.a4 A.h4 (unCol s.v) ∗ pt c A.a5 A.h5 s.o ∗ pt c A.a6 A.h6 s.dq ∗ pt c A.a7 A.h7 (unCol s.dk) ∗ pt c A.a8 A.h8 (unCol s.dv) ∗ pt c A.a9 A.h9 (unStack32 s.e) ∗ pt c A.a10 A.h10 (unStack32 s.b) ∗ pt c A.a12 A.h12 (unStack4 s.dw) ∗ pt c A.a13 A.h13 (unStack4 s.w))

theorem take11 (s : St F) : Held A c s ⊢ iprop(pt c A.a11 A.h11 (unStack4 s.z) ∗ Rest11 A c s) := by
  unfold Held Rest11
  iintro ⟨H2, H3, H4, H5, H6, H7, H8, H9, H10, H11, H12, H13⟩
  iframe

theorem give11 (s : St F) : iprop(pt c A.a11 A.h11 (unStack4 s.z) ∗ Rest11 A c s) ⊢ Held A c s := by
  unfold Held Rest11
  iintro ⟨H11, H2, H3, H4, H5, H6, H7, H8, H9, H10, H12, H13⟩
  iframe

theorem Ev.load11 {s : St F} (n : ℕ) {off : Fin 3 → ℕ} (ho : off = ![n, 0, 0]) {inb : ∀ a, off a + S1x256x256.size a ≤ S4x256x256.size a}
    {hl : A.a11.view.LoadsAt (Rect.unit (s := S4x256x256) off S1x256x256.size inb).toLoadRect} :
    Ev A c (Prog.lift (.load A.a11 (Rect.unit (s := S4x256x256) off S1x256x256.size inb).toLoadRect hl)) s (s.z n) s :=
  ev_load (take11 s) (give11 s) _ hl _ (ld_unStack4 s.z n ho inb)

theorem Ev.store11 {s : St F} (n : ℕ) {off : Fin 3 → ℕ} (ho : off = ![n, 0, 0]) {inb : ∀ a, off a + S1x256x256.size a ≤ S4x256x256.size a}
    {w : Vec F S1x256x256 .f32} {hx : (A.a11.access (Rect.unit (s := S4x256x256) off S1x256x256.size inb)).Stores Finset.univ}
    {hm : (Finset.univ : Finset (Rect.unit (s := S4x256x256) off S1x256x256.size inb).shape.Idx) = Finset.univ ∨ ∀ a, (Rect.unit (s := S4x256x256) off S1x256x256.size inb).stride a = 1} :
    Ev A c (Prog.lift (.store A.a11 (Rect.unit (s := S4x256x256) off S1x256x256.size inb) w Finset.univ hx hm)) s ⟨⟩
      (s.pz n w) :=
  ev_store (take11 s) (give11 (s.pz n w)) _ _ hx hm (overlay_unStack4 s.z n ho inb w)

/-- What is held beside buffer 12. -/
def Rest12 (A : Bufs) (c : Dev nD) (s : St F) : sProp 𝕄 :=
  iprop(pt c A.a2 A.h2 s.q ∗ pt c A.a3 A.h3 (unCol s.k) ∗ pt c A.a4 A.h4 (unCol s.v) ∗ pt c A.a5 A.h5 s.o ∗ pt c A.a6 A.h6 s.dq ∗ pt c A.a7 A.h7 (unCol s.dk) ∗ pt c A.a8 A.h8 (unCol s.dv) ∗ pt c A.a9 A.h9 (unStack32 s.e) ∗ pt c A.a10 A.h10 (unStack32 s.b) ∗ pt c A.a11 A.h11 (unStack4 s.z) ∗ pt c A.a13 A.h13 (unStack4 s.w))

theorem take12 (s : St F) : Held A c s ⊢ iprop(pt c A.a12 A.h12 (unStack4 s.dw) ∗ Rest12 A c s) := by
  unfold Held Rest12
  iintro ⟨H2, H3, H4, H5, H6, H7, H8, H9, H10, H11, H12, H13⟩
  iframe

theorem give12 (s : St F) : iprop(pt c A.a12 A.h12 (unStack4 s.dw) ∗ Rest12 A c s) ⊢ Held A c s := by
  unfold Held Rest12
  iintro ⟨H12, H2, H3, H4, H5, H6, H7, H8, H9, H10, H11, H13⟩
  iframe

theorem Ev.load12 {s : St F} (n : ℕ) {off : Fin 3 → ℕ} (ho : off = ![n, 0, 0]) {inb : ∀ a, off a + S1x256x256.size a ≤ S4x256x256.size a}
    {hl : A.a12.view.LoadsAt (Rect.unit (s := S4x256x256) off S1x256x256.size inb).toLoadRect} :
    Ev A c (Prog.lift (.load A.a12 (Rect.unit (s := S4x256x256) off S1x256x256.size inb).toLoadRect hl)) s (s.dw n) s :=
  ev_load (take12 s) (give12 s) _ hl _ (ld_unStack4 s.dw n ho inb)

theorem Ev.store12 {s : St F} (n : ℕ) {off : Fin 3 → ℕ} (ho : off = ![n, 0, 0]) {inb : ∀ a, off a + S1x256x256.size a ≤ S4x256x256.size a}
    {w : Vec F S1x256x256 .f32} {hx : (A.a12.access (Rect.unit (s := S4x256x256) off S1x256x256.size inb)).Stores Finset.univ}
    {hm : (Finset.univ : Finset (Rect.unit (s := S4x256x256) off S1x256x256.size inb).shape.Idx) = Finset.univ ∨ ∀ a, (Rect.unit (s := S4x256x256) off S1x256x256.size inb).stride a = 1} :
    Ev A c (Prog.lift (.store A.a12 (Rect.unit (s := S4x256x256) off S1x256x256.size inb) w Finset.univ hx hm)) s ⟨⟩
      (s.pdw n w) :=
  ev_store (take12 s) (give12 (s.pdw n w)) _ _ hx hm (overlay_unStack4 s.dw n ho inb w)

/-- What is held beside buffer 13. -/
def Rest13 (A : Bufs) (c : Dev nD) (s : St F) : sProp 𝕄 :=
  iprop(pt c A.a2 A.h2 s.q ∗ pt c A.a3 A.h3 (unCol s.k) ∗ pt c A.a4 A.h4 (unCol s.v) ∗ pt c A.a5 A.h5 s.o ∗ pt c A.a6 A.h6 s.dq ∗ pt c A.a7 A.h7 (unCol s.dk) ∗ pt c A.a8 A.h8 (unCol s.dv) ∗ pt c A.a9 A.h9 (unStack32 s.e) ∗ pt c A.a10 A.h10 (unStack32 s.b) ∗ pt c A.a11 A.h11 (unStack4 s.z) ∗ pt c A.a12 A.h12 (unStack4 s.dw))

theorem take13 (s : St F) : Held A c s ⊢ iprop(pt c A.a13 A.h13 (unStack4 s.w) ∗ Rest13 A c s) := by
  unfold Held Rest13
  iintro ⟨H2, H3, H4, H5, H6, H7, H8, H9, H10, H11, H12, H13⟩
  iframe

theorem give13 (s : St F) : iprop(pt c A.a13 A.h13 (unStack4 s.w) ∗ Rest13 A c s) ⊢ Held A c s := by
  unfold Held Rest13
  iintro ⟨H13, H2, H3, H4, H5, H6, H7, H8, H9, H10, H11, H12⟩
  iframe

theorem Ev.load13 {s : St F} (n : ℕ) {off : Fin 3 → ℕ} (ho : off = ![n, 0, 0]) {inb : ∀ a, off a + S1x256x256.size a ≤ S4x256x256.size a}
    {hl : A.a13.view.LoadsAt (Rect.unit (s := S4x256x256) off S1x256x256.size inb).toLoadRect} :
    Ev A c (Prog.lift (.load A.a13 (Rect.unit (s := S4x256x256) off S1x256x256.size inb).toLoadRect hl)) s (s.w n) s :=
  ev_load (take13 s) (give13 s) _ hl _ (ld_unStack4 s.w n ho inb)

theorem Ev.store13 {s : St F} (n : ℕ) {off : Fin 3 → ℕ} (ho : off = ![n, 0, 0]) {inb : ∀ a, off a + S1x256x256.size a ≤ S4x256x256.size a}
    {w : Vec F S1x256x256 .bf16} {hx : (A.a13.access (Rect.unit (s := S4x256x256) off S1x256x256.size inb)).Stores Finset.univ}
    {hm : (Finset.univ : Finset (Rect.unit (s := S4x256x256) off S1x256x256.size inb).shape.Idx) = Finset.univ ∨ ∀ a, (Rect.unit (s := S4x256x256) off S1x256x256.size inb).stride a = 1} :
    Ev A c (Prog.lift (.store A.a13 (Rect.unit (s := S4x256x256) off S1x256x256.size inb) w Finset.univ hx hm)) s ⟨⟩
      (s.pw n w) :=
  ev_store (take13 s) (give13 (s.pw n w)) _ _ hx hm (overlay_unStack4 s.w n ho inb w)

end Cert.KernelIdeal.Own

end
-- ==== Proof.Tiles.lean ====
/- The tile arithmetic of the backward sweep, each step named once: the logits and the weights of a tile, the sums
   carried along a row of tiles, and what a tile adds to the three gradients. -/
module

public import proofs.«01_k».proof.Proof.Ev

@[expose] public section

set_option maxRecDepth 16384

noncomputable section

namespace Cert.KernelIdeal.Own

open Idealize.ShloMosaic Idealize.ShloMosaic.TcCoe
open Cert.KernelIdeal Cert.KernelIdeal.Gen

variable {F : FTy → Type} [FloatOps F]

/-! ## Between a tile and its place in a stack -/

def up (x : FVec F S256x256 .f32) : FVec F S1x256x256 .f32 := shapeCast S1x256x256 x shapeCasts_S256x256_S1x256x256
def upb (x : FVec F S256x256 .bf16) : FVec F S1x256x256 .bf16 := shapeCast S1x256x256 x shapeCasts_S256x256_S1x256x256
def dn (x : Vec F S1x256x256 .f32) : FVec F S256x256 .f32 := shapeCast S256x256 x shapeCasts_S1x256x256_S256x256
def dnb (x : Vec F S1x256x256 .bf16) : FVec F S256x256 .bf16 := shapeCast S256x256 x shapeCasts_S1x256x256_S256x256
def flat (x : Vec F S1x64x256 .bf16) : FVec F S64x256 .bf16 := shapeCast S64x256 x shapeCasts_S1x64x256_S64x256
def flatf (x : Vec F S1x64x256 .f32) : FVec F S64x256 .f32 := shapeCast S64x256 x shapeCasts_S1x64x256_S64x256
def lift (x : FVec F S64x256 .f32) : FVec F S1x64x256 .f32 := shapeCast S1x64x256 x shapeCasts_S64x256_S1x64x256

/-- The tile's rows: the transpose of its 64 rows of columns. -/
def rows (x : Vec F S1x64x256 .bf16) : FVec F S256x64 .bf16 :=
  truncf .bf16 (transpose S256x64 [1, 0] (extf .f32 (flat x) bitsLt_bf16_f32) transposes_S64x256_p1_0_S256x64) bitsLt_bf16_f32

/-! ## The weights of a tile -/

def zero : FVec F S256x256 .f32 := broadcast S256x256 (Scalar.ofBits .f32 0x00000000#32 : F .f32)

/-- The products of the query rows `r` with the columns of a tile. -/
def prod (r : FVec F S256x64 .bf16) (k : Vec F S1x64x256 .bf16) : FVec F S256x256 .f32 :=
  matmul dot_S256x64_S64x256_S256x256_1_0_0_1_n_n none r (flat k) (constant S256x256 .f32 0x00000000#32)

/-- The logarithm of the logistic function of the logits. -/
def lb (z : FVec F S256x256 .f32) : FVec F S256x256 .f32 :=
  subf (minimumf z (broadcast S256x256 (Scalar.ofBits .f32 0x00000000#32 : F .f32)))
    (log (addf (broadcast S256x256 (Scalar.ofBits .f32 0x3F800000#32 : F .f32))
      (exp (subf (addf (minimumf z (broadcast S256x256 (Scalar.ofBits .f32 0x00000000#32 : F .f32)))
        (minimumf z (broadcast S256x256 (Scalar.ofBits .f32 0x00000000#32 : F .f32)))) z))))

/-- The logarithm of its complement. -/
def lc (z : FVec F S256x256 .f32) : FVec F S256x256 .f32 := subf (lb z) z

/-- Its high part and its remainder, side by side. -/
def split (l : FVec F S256x256 .f32) : FVec F S256x512 .bf16 :=
  concatenate S256x512 1 [⟨S256x256, truncf .bf16 l bitsLt_bf16_f32⟩,
    ⟨S256x256, truncf .bf16 (subf l (extf .f32 (truncf .bf16 l bitsLt_bf16_f32) bitsLt_bf16_f32)) bitsLt_bf16_f32⟩]
    concatenates_S256x256_S256x256_S256x512_d1

/-- The sums of the entries after each in its row of the tile. -/
def aft (tri : FVec F S512x256 .bf16) (l : FVec F S256x256 .f32) : FVec F S256x256 .f32 :=
  matmul dot_S256x512_S512x256_S256x256_1_0_0_1_n_n none (split l) tri (constant S256x256 .f32 0x00000000#32)

/-- A row sum added to a carried one. -/
def nxt (R : FVec F S256x1 .f32) (l : FVec F S256x256 .f32) : FVec F S256x1 .f32 :=
  addf R (shapeCast S256x1 (multiReduction .add [1] S256 l 0x00000000#32 reduces_S256x256_S256 (.inl rfl) rfl) shapeCasts_S256_S256x1)

/-- The weights, from the logits `a`, the logarithms of the complements `l` and the sum carried from the tiles after. -/
def wgt (tri : FVec F S512x256 .bf16) (a l : FVec F S256x256 .f32) (R : FVec F S256x1 .f32) : FVec F S256x256 .f32 :=
  exp (addf (addf a (aft tri l)) (broadcastTo S256x256 R broadcasts_S256x1_S256x256))

def half (x : FVec F S256x256 .f32) : FVec F S256x256 .bf16 := truncf .bf16 x bitsLt_bf16_f32

/-- What a tile of weights adds to the gradient of the values. -/
def pushV (o : FVec F S64x256 .bf16) (w : Vec F S1x256x256 .bf16) (d : Vec F S1x64x256 .f32) : FVec F S1x64x256 .f32 :=
  lift (addf (flatf d) (matmul dot_S64x256_S256x256_S64x256_1_0_0_1_n_n none o (dnb w) (constant S64x256 .f32 0x00000000#32)))

/-! ## The way back up -/

/-- The gradient of the logits of a tile: `P` is the sum carried from the tiles before. -/
def gz (pre : FVec F S256x256 .bf16) (e : FVec F S256x256 .f32) (b : FVec F S256x256 .bf16) (P : FVec F S256x1 .f32) : FVec F S256x256 .bf16 :=
  half (subf e (mulf (extf .f32 b bitsLt_bf16_f32)
    (addf (addf e (matmul dot_S256x256_S256x256_S256x256_1_0_0_1_n_n none (half e) pre (constant S256x256 .f32 0x00000000#32)))
      (broadcastTo S256x256 P broadcasts_S256x1_S256x256))))

/-- What it adds to the gradient of the keys, -/
def pushK (q : FVec F S64x256 .bf16) (g : FVec F S256x256 .bf16) (d : Vec F S1x64x256 .f32) : FVec F S1x64x256 .f32 :=
  lift (addf (flatf d) (matmul dot_S64x256_S256x256_S64x256_1_0_0_1_n_n none q g (constant S64x256 .f32 0x00000000#32)))

/-- and to the gradient of the queries. -/
def pushQ (acc : FVec F S64x256 .f32) (k : Vec F S1x64x256 .bf16) (g : FVec F S256x256 .bf16) : FVec F S64x256 .f32 :=
  addf acc (matmul dot_S64x256_S256x256_S64x256_1_1_0_0_n_n none (flat k) g (constant S64x256 .f32 0x00000000#32))

/-! ## A group of four tiles -/

/-- Four tiles replaced, one after the other. -/
def put4 {α : Type} (f : ℕ → α) (n : Fin 4 → ℕ) (x : Fin 4 → α) : ℕ → α :=
  Function.update (Function.update (Function.update (Function.update f (n 0) (x 0)) (n 1) (x 1)) (n 2) (x 2)) (n 3) (x 3)

/-- The carried sum before slot `h` of a group with complements `l`. -/
def carry (R : FVec F S256x1 .f32) (l : ℕ → FVec F S256x256 .f32) : ℕ → FVec F S256x1 .f32
  | 0 => R
  | h + 1 => nxt (carry R l h) (l h)

/-! ## One trip of the sweep down

The group `a`'s weights are pushed into the gradient of the values, the group before it is weighed, and the products
of the group before that are formed. -/

section Trip

variable (r ro : FVec F S256x64 .bf16) (o : FVec F S64x256 .bf16) (tri : FVec F S512x256 .bf16) (a : ℕ) (s : St F) (R : FVec F S256x1 .f32)

/-- The logits held in slot `h`. -/
def slotZ (h : ℕ) : FVec F S256x256 .f32 := dn (s.z h)

/-- The carried sum before slot `h`, -/
def slotR (h : ℕ) : FVec F S256x1 .f32 := carry R (fun h => lc (slotZ s h)) h

/-- and its weights. -/
def slotW (h : ℕ) : FVec F S256x256 .f32 := wgt tri (lb (slotZ s h)) (lc (slotZ s h)) (slotR s R h)

def down : St F where
  q := s.q
  k := s.k
  v := s.v
  o := s.o
  dq := s.dq
  dk := s.dk
  dv := put4 s.dv (fun h => 4 * a + (3 - h.val)) (fun h => pushV o (s.w h) (s.dv (4 * a + (3 - h.val))))
  e := put4 s.e (fun h => 4 * (a - 1) + (3 - h.val)) (fun h => up (mulf (dn (s.dw h)) (slotW tri s R h)))
  b := put4 s.b (fun h => 4 * (a - 1) + (3 - h.val)) (fun h => upb (half (exp (lb (slotZ s h)))))
  z := put4 s.z (fun h => h.val) (fun h => up (prod r (s.k (4 * (a - 2) + (3 - h.val)))))
  dw := put4 s.dw (fun h => h.val) (fun h => up (prod ro (s.v (4 * (a - 2) + (3 - h.val)))))
  w := put4 s.w (fun h => h.val) (fun h => upb (half (slotW tri s R h)))

end Trip

/-! ## The diagonal group

The point's own tile is in slot `d` of its group: the slots before it lie past the diagonal and weigh nothing, its own
is masked, and the ones after it are weighed in full. -/

section Diag

variable (m : IVec S256x256 1) (r ro : FVec F S256x64 .bf16) (tri : FVec F S512x256 .bf16) (a d : ℕ) (s : St F)

def zerob : FVec F S256x256 .bf16 := broadcast S256x256 (Scalar.ofBits .bf16 0x0000#16 : F .bf16)

def diagZ (h : ℕ) : FVec F S256x256 .f32 := prod r (s.k (4 * a + (3 - h)))

/-- The logarithms of the complements in slot `h`. -/
def diagC (h : ℕ) : FVec F S256x256 .f32 := if h = d then select m (lc (diagZ r a s h)) zero else lc (diagZ r a s h)

/-- The sum carried to slot `h`. -/
def diagR (h : ℕ) : FVec F S256x1 .f32 :=
  carry (broadcast S256x1 (Scalar.ofBits .f32 0x00000000#32 : F .f32)) (fun j => diagC m r a d s (d + j)) (h - d)

/-- The weights in slot `h`. -/
def diagW (h : ℕ) : FVec F S256x256 .f32 :=
  if h = d then select m (wgt tri (lb (diagZ r a s h)) (diagC m r a d s h) (diagR m r a d s h)) zero
  else wgt tri (lb (diagZ r a s h)) (diagC m r a d s h) (diagR m r a d s h)

def diagB (h : ℕ) : FVec F S256x256 .f32 :=
  if h = d then select m (exp (lb (diagZ r a s h))) zero else exp (lb (diagZ r a s h))

def across : St F where
  q := s.q
  k := s.k
  v := s.v
  o := s.o
  dq := s.dq
  dk := s.dk
  dv := s.dv
  e := put4 s.e (fun h => 4 * a + (3 - h.val))
    (fun h => if h.val < d then up zero else up (mulf (prod ro (s.v (4 * a + (3 - h.val)))) (diagW m r tri a d s h)))
  b := put4 s.b (fun h => 4 * a + (3 - h.val)) (fun h => if h.val < d then upb zerob else upb (half (diagB m r a d s h)))
  z := put4 s.z (fun h => h.val) (fun h => up (prod r (s.k (4 * (a - 1) + (3 - h.val)))))
  dw := put4 s.dw (fun h => h.val) (fun h => up (prod ro (s.v (4 * (a - 1) + (3 - h.val)))))
  w := put4 s.w (fun h => h.val) (fun h => if h.val < d then upb zerob else upb (half (diagW m r tri a d s h)))

end Diag

/-! ## The sweep up, tile by tile -/

section Up

variable (q : FVec F S64x256 .bf16) (pre : FVec F S256x256 .bf16) (s : St F)

/-- The sum carried from the tiles before tile `n`. -/
def accP (n : ℕ) : FVec F S256x1 .f32 := carry (broadcast S256x1 (Scalar.ofBits .f32 0x00000000#32 : F .f32)) (fun n => dn (s.e n)) n

/-- The gradient of the logits of tile `n`. -/
def gradZ (n : ℕ) : FVec F S256x256 .bf16 := gz pre (dn (s.e n)) (dnb (s.b n)) (accP s n)

/-- What the tiles before tile `n` give the gradient of the queries. -/
def accQ : ℕ → FVec F S64x256 .f32
  | 0 => broadcast S64x256 (Scalar.ofBits .f32 0x00000000#32 : F .f32)
  | n + 1 => pushQ (accQ n) (s.k n) (gradZ pre s n)

/-- The contents after the first `n` tiles. -/
def raised (n : ℕ) : St F where
  q := s.q
  k := s.k
  v := s.v
  o := s.o
  dq := s.dq
  dk := fun m => if m < n then pushK q (gradZ pre s m) (s.dk m) else s.dk m
  dv := s.dv
  e := s.e
  b := s.b
  z := s.z
  dw := s.dw
  w := s.w

end Up

end Cert.KernelIdeal.Own

end
-- ==== Proof.Offs.lean ====
/- Which tile each load and store of the body goes to: the offsets' word arithmetic in closed form, decided over the
   grid and the trips of the two loops. -/
module

public import proofs.«01_k».proof.Proof.Gen.KernelIdeal

@[expose] public section

set_option maxRecDepth 65536

noncomputable section

namespace Cert.KernelIdeal.Own

open Idealize.ShloMosaic Cert.KernelIdeal

/-- The group of four tiles the point's query tile lies in. -/
abbrev J (i : grid0.Coords) : ℕ := (i 1).val / 4

theorem trips1 : ∀ i : grid0.Coords, (k0_t1_loop i).trips = J i := by decide +kernel
theorem trips2 : ∀ i : grid0.Coords, (k0_t2_loop i).trips = 0 := by decide +kernel
theorem trips3 : ∀ i : grid0.Coords, (k0_t3_loop i).trips = (J i + 1) / 2 := by decide +kernel
theorem trips4 : ∀ i : grid0.Coords, (k0_t4_loop i).trips = 0 := by decide +kernel

/-! ## Which case a point is in -/

theorem case4 : ∀ i : grid0.Coords, k0_cond2 i = 1#1 → k0_cond3 i = 1#1 → k0_cond4 i = 1#1 → (i 1).val % 4 = 3 := by decide +kernel
theorem case3 : ∀ i : grid0.Coords, k0_cond2 i = 1#1 → k0_cond3 i = 1#1 → ¬ k0_cond4 i = 1#1 → (i 1).val % 4 = 2 := by decide +kernel
theorem case2 : ∀ i : grid0.Coords, k0_cond2 i = 1#1 → ¬ k0_cond3 i = 1#1 → (i 1).val % 4 = 1 := by decide +kernel
theorem case1 : ∀ i : grid0.Coords, ¬ k0_cond2 i = 1#1 → (i 1).val % 4 = 0 := by decide +kernel
theorem case5 : ∀ i : grid0.Coords, k0_cond5 i = 1#1 ↔ J i % 2 = 0 := by decide +kernel

/-! ## The diagonal group -/

theorem off1 : ∀ (i : grid0.Coords) (h : Fin 4), (i 1).val % 4 = 3 →
    k0_off1 i (BitVec.ofNat 32 h.val) = ![0, 0, 256 * (4 * J i + (3 - h.val))] := by decide +kernel
theorem off2 : ∀ (i : grid0.Coords) (h : Fin 4),
    k0_off2 i (BitVec.ofNat 32 h.val) = ![0, 0, 256 * (4 * (J i - 1) + h.val)] := by decide +kernel
theorem off3 : ∀ (i : grid0.Coords) (h : Fin 4), (i 1).val % 4 = 3 →
    k0_off3 i (BitVec.ofNat 32 h.val) = ![4 * J i + (3 - h.val), 0, 0] := by decide +kernel
theorem off4 : ∀ (i : grid0.Coords) (h : Fin 3), (i 1).val % 4 = 2 →
    k0_off4 i (BitVec.ofNat 32 h.val) = ![0, 0, 256 * (4 * J i + (2 - h.val))] := by decide +kernel
theorem off5 : ∀ (i : grid0.Coords) (h : Fin 4),
    k0_off5 i (BitVec.ofNat 32 h.val) = ![0, 0, 256 * (4 * (J i - 1) + h.val)] := by decide +kernel
theorem off6 : ∀ (i : grid0.Coords), (i 1).val % 4 = 2 →
    k0_off6 i = ![4 * J i + 3, 0, 0] := by decide +kernel
theorem off7 : ∀ (i : grid0.Coords) (h : Fin 3), (i 1).val % 4 = 2 →
    k0_off7 i (BitVec.ofNat 32 h.val) = ![4 * J i + (2 - h.val), 0, 0] := by decide +kernel
theorem off8 : ∀ (i : grid0.Coords) (h : Fin 2), (i 1).val % 4 = 1 →
    k0_off8 i (BitVec.ofNat 32 h.val) = ![0, 0, 256 * (4 * J i + (1 - h.val))] := by decide +kernel
theorem off9 : ∀ (i : grid0.Coords) (h : Fin 4),
    k0_off9 i (BitVec.ofNat 32 h.val) = ![0, 0, 256 * (4 * (J i - 1) + h.val)] := by decide +kernel
theorem off10 : ∀ (i : grid0.Coords) (h : Fin 2), (i 1).val % 4 = 1 →
    k0_off10 i (BitVec.ofNat 32 h.val) = ![4 * J i + (3 - h.val), 0, 0] := by decide +kernel
theorem off11 : ∀ (i : grid0.Coords) (h : Fin 2), (i 1).val % 4 = 1 →
    k0_off11 i (BitVec.ofNat 32 h.val) = ![4 * J i + (1 - h.val), 0, 0] := by decide +kernel
theorem off12 : ∀ (i : grid0.Coords), (i 1).val % 4 = 0 →
    k0_off12 i = ![0, 0, 256 * (4 * J i)] := by decide +kernel
theorem off13 : ∀ (i : grid0.Coords) (h : Fin 4),
    k0_off13 i (BitVec.ofNat 32 h.val) = ![0, 0, 256 * (4 * (J i - 1) + h.val)] := by decide +kernel
theorem off14 : ∀ (i : grid0.Coords) (h : Fin 3), (i 1).val % 4 = 0 →
    k0_off14 i (BitVec.ofNat 32 h.val) = ![4 * J i + (3 - h.val), 0, 0] := by decide +kernel
theorem off15 : ∀ (i : grid0.Coords), (i 1).val % 4 = 0 →
    k0_off15 i = ![4 * J i, 0, 0] := by decide +kernel

/-! ## The groups below it, and the sweep up -/

theorem off16 : ∀ (i : grid0.Coords) (t : Fin (k0_t1_loop i).trips) (h : Fin 4),
    k0_off16 i t (BitVec.ofNat 32 h.val) = ![0, 0, 256 * (4 * (J i - t.val) + h.val)] := by decide +kernel
theorem off17 : ∀ (i : grid0.Coords) (t : Fin (k0_t1_loop i).trips) (h : Fin 4),
    k0_off17 i t (BitVec.ofNat 32 h.val) = ![0, 0, 256 * (4 * (J i - t.val - 2) + h.val)] := by decide +kernel
theorem off18 : ∀ (i : grid0.Coords) (t : Fin (k0_t1_loop i).trips) (h : Fin 4),
    k0_off18 i t (BitVec.ofNat 32 h.val) = ![4 * (J i - t.val - 1) + h.val, 0, 0] := by decide +kernel
theorem off22 : ∀ (i : grid0.Coords) (t : Fin (k0_t3_loop i).trips) (h : Fin 8),
    k0_off22 i t (BitVec.ofNat 32 h.val) = ![8 * t.val + h.val, 0, 0] := by decide +kernel
theorem off23 : ∀ (i : grid0.Coords) (t : Fin (k0_t3_loop i).trips) (h : Fin 8),
    k0_off23 i t (BitVec.ofNat 32 h.val) = ![0, 0, 256 * (8 * t.val + h.val)] := by decide +kernel
theorem off26 : ∀ (i : grid0.Coords) (h : Fin 4),
    k0_off26 i (BitVec.ofNat 32 h.val) = ![4 * J i + h.val, 0, 0] := by decide +kernel
theorem off27 : ∀ (i : grid0.Coords) (h : Fin 4),
    k0_off27 i (BitVec.ofNat 32 h.val) = ![0, 0, 256 * (4 * J i + h.val)] := by decide +kernel

end Cert.KernelIdeal.Own

end
-- ==== Proof.Point.lean ====
/- What a point of the grid makes of the contents of its buffers, and the rules for loops. -/
module

public import proofs.«01_k».proof.Proof.Tiles
public import proofs.«01_k».proof.Proof.Offs

@[expose] public section

set_option maxRecDepth 65536

noncomputable section

namespace Cert.KernelIdeal.Own

open Idealize.ShloMosaic Idealize.ShloMosaic.TcCoe Idealize.SL.Sem
open Cert.KernelIdeal Cert.KernelIdeal.Gen

variable {F : FTy → Type} [FloatOps F] {A : Bufs} {c : Dev nD}

/-! ## Loops -/

theorem ev_from {σ : Type} {n : ℕ} (body : Fin n → σ → Prog (TpuEff nD τ sig (Elt F) Λ₀ .tc) σ) (a : ℕ → σ) (st : ℕ → St F)
    (h : ∀ k : Fin n, Ev A c (body k (a k)) (st k) (a (k + 1)) (st (k + 1))) :
    ∀ (k : ℕ) (_ : k ≤ n), Ev A c (Scf.forFrom body ((List.finRange n).drop k) (a k)) (st k) (a n) (st n) := by
  intro k
  induction hm : n - k generalizing k with
  | zero =>
    intro hk
    obtain rfl : k = n := by omega
    rw [List.drop_of_length_le (by simp), Scf.forFrom_nil]
    exact Ev.ret _ _
  | succ m ih =>
    intro hk
    have hlt : k < n := by omega
    rw [List.drop_eq_getElem_cons (by simpa using hlt), List.getElem_finRange, Fin.cast_mk, Scf.forFrom_cons]
    exact Ev.bind (h ⟨k, hlt⟩) (ih (k + 1) (by omega) (by omega))

/-- A loop, by what each of its trips does. -/
theorem Ev.for {σ : Type} {w : ℕ} (l : Scf.Loop w) (hok : l.OK) {n : ℕ} (hn : l.trips = n) (a : ℕ → σ) (st : ℕ → St F)
    (body : Fin l.trips → σ → Prog (TpuEff nD τ sig (Elt F) Λ₀ .tc) σ)
    (h : ∀ k : Fin l.trips, Ev A c (body k (a k)) (st k) (a (k + 1)) (st (k + 1))) :
    Ev A c (Scf.Loop.for l hok (a 0) body) (st 0) (a n) (st n) := by
  subst hn
  unfold Scf.Loop.for
  rw [Scf.for_eq]
  exact ev_from body a st h 0 (Nat.zero_le _)

/-- A loop of no trips. -/
theorem Ev.for_none {σ : Type} {w : ℕ} (l : Scf.Loop w) (hok : l.OK) (hn : l.trips = 0) (a : σ) (s : St F)
    (body : Fin l.trips → σ → Prog (TpuEff nD τ sig (Elt F) Λ₀ .tc) σ) :
    Ev A c (Scf.Loop.for l hok a body) s a s :=
  Ev.for l hok hn (fun _ => a) (fun _ => s) body (fun k => (k.cast hn).elim0)

/-! ## What a point makes of its buffers -/

/-- A tile of zeros. -/
def none₀ : Vec F S1x64x256 .f32 := broadcast S1x64x256 (Scalar.ofBits .f32 0x00000000#32 : F .f32)

/-- At the first point of a head the two gradients it gathers are cleared. -/
def cleared (x : ℕ) (s : St F) : St F := if x = 0 then (s.fdk none₀).fdv none₀ else s

/-- The sweep down from group `a`, after `t` trips, with the carried sum. -/
def walk (r ro : FVec F S256x64 .bf16) (o : FVec F S64x256 .bf16) (tri : FVec F S512x256 .bf16) (a : ℕ) (s : St F) (R : FVec F S256x1 .f32) :
    ℕ → St F × FVec F S256x1 .f32
  | 0 => (s, R)
  | t + 1 => (down r ro o tri (a - t) (walk r ro o tri a s R t).1 (walk r ro o tri a s R t).2,
      slotR (walk r ro o tri a s R t).1 (walk r ro o tri a s R t).2 4)

/-- The weights left in the slots are pushed into the first group. -/
def landed (o : FVec F S64x256 .bf16) (s : St F) : St F where
  q := s.q
  k := s.k
  v := s.v
  o := s.o
  dq := s.dq
  dk := s.dk
  dv := put4 s.dv (fun h => 3 - h.val) (fun h => pushV o (s.w h) (s.dv (3 - h.val)))
  e := s.e
  b := s.b
  z := s.z
  dw := s.dw
  w := s.w

/-- The contents when the weights are all formed and pushed, at the point of tile `x`. -/
def weighed (x : ℕ) (s : St F) : St F :=
  landed (flat s.o) (walk (rows s.q) (rows s.o) (flat s.o) (k0_pay393 (F := F)) (x / 4)
    (across k0_pay395 (rows s.q) (rows s.o) (k0_pay393 (F := F)) (x / 4) (3 - x % 4) (cleared x s))
    (diagR k0_pay395 (rows s.q) (x / 4) (3 - x % 4) (cleared x s) 4) (x / 4)).1

/-- The contents after the point of tile `x`. -/
def after (x : ℕ) (s : St F) : St F :=
  (raised (flat s.q) (k0_pay394 (F := F)) (weighed x s) (4 * (x / 4) + 4)).pdq
    (k0_pay4 (accQ (k0_pay394 (F := F)) (weighed x s) (4 * (x / 4) + 4)))

/-! ## The parts of the body -/

theorem clear_first : ∀ i : grid0.Coords, Scalar.cmpi .ne (Scalar.extui (Scalar.cmpi .eq (BitVec.ofNat 32 (i 1).val) 0#32) : BitVec 32) 0#32 = 1#1 ↔ (i 1).val = 0 := by
  decide +kernel

theorem zeros7 : k0_pay387 (F := F) = unCol fun _ => none₀ := rfl
theorem zeros8 : k0_pay388 (F := F) = unCol fun _ => none₀ := rfl

theorem cleared_q (x : ℕ) (s : St F) : (cleared x s).q = s.q := by unfold cleared; split <;> rfl
theorem cleared_o (x : ℕ) (s : St F) : (cleared x s).o = s.o := by unfold cleared; split <;> rfl

end Cert.KernelIdeal.Own

end
-- ==== Proof.Head.lean ====
/- The head of the body, evaluated. -/
module

public import proofs.«01_k».proof.Proof.Point

@[expose] public section

set_option maxRecDepth 65536

noncomputable section

namespace Cert.KernelIdeal.Own

open Idealize.ShloMosaic Idealize.ShloMosaic.TcCoe Idealize.SL.Sem
open Cert.KernelIdeal Cert.KernelIdeal.Gen

variable {F : FTy → Type} [FloatOps F] {A : Bufs} {c : Dev nD}

set_option maxHeartbeats 800000 in
theorem ev_head (i : grid0.Coords) (s : St F) :
    Ev A c (k0_part63 i A.a2 A.h2 A.a3 A.h3 A.a4 A.h4 A.a5 A.h5 A.a6 A.h6 A.a7 A.h7 A.a8 A.h8 A.a9 A.h9 A.a10 A.h10 A.a11 A.h11 A.a12 A.h12 A.a13 A.h13) s
      ⟨BitVec.ofNat 32 (i 1).val, rows s.q, rows s.o, flat s.o, flat s.q, k0_pay393 (F := F), k0_pay394 (F := F), k0_pay395, 4#32,
        Scalar.divsi (BitVec.ofNat 32 (i 1).val) 4#32,
        Scalar.subi (Scalar.extui (Scalar.cmpi .sgt (BitVec.ofNat 32 (i 1).val) 0#32)) (Scalar.extui (Scalar.cmpi .slt (BitVec.ofNat 32 (i 1).val) 0#32)),
        Scalar.extui (Scalar.cmpi .sgt 4#32 0#32), Scalar.cmpi .slt 4#32 0#32⟩ (cleared (i 1).val s) := by
  rw [k0_part63_eq_skeleton]; unfold k0_part63_skel
  dsimp only
  by_cases h : (i 1).val = 0
  · rw [dif_pos ((clear_first i).mpr h)]
    unfold cleared; rw [if_pos h]
    apply Ev.bind (Ev.whole7 rfl)
    apply Ev.bind (Ev.fill7 none₀ rfl zeros7)
    apply Ev.bind (Ev.whole8 rfl)
    apply Ev.bind (Ev.fill8 none₀ rfl zeros8)
    apply Ev.bind (Ev.load2 rfl)
    apply Ev.bind (Ev.load5 rfl)
    apply Ev.bind (Ev.load5 rfl)
    apply Ev.bind (Ev.load2 rfl)
    exact Ev.ret _ _
  · rw [dif_neg (fun hh => h ((clear_first i).mp hh))]
    unfold cleared; rw [if_neg h]
    apply Ev.bind (Ev.load2 rfl)
    apply Ev.bind (Ev.load5 rfl)
    apply Ev.bind (Ev.load5 rfl)
    apply Ev.bind (Ev.load2 rfl)
    exact Ev.ret _ _

end Cert.KernelIdeal.Own

end
-- ==== Proof.Down.lean ====
/- One trip of the sweep down from the diagonal, evaluated. -/
module

public import proofs.«01_k».proof.Proof.Tiles

@[expose] public section

set_option maxRecDepth 65536

noncomputable section

namespace Cert.KernelIdeal.Own

open Idealize.ShloMosaic Idealize.ShloMosaic.TcCoe
open Cert.KernelIdeal Cert.KernelIdeal.Gen

variable {F : FTy → Type} [FloatOps F] {A : Bufs} {c : Dev nD}

theorem ev_down (i : grid0.Coords) (t : Fin (k0_t1_loop i).trips) (a : ℕ)
    (o16_0 : k0_off16 i t 0#32 = ![0, 0, 256 * (4 * a + 0)]) (o17_0 : k0_off17 i t 0#32 = ![0, 0, 256 * (4 * (a - 2) + 0)])
    (o18_0 : k0_off18 i t 0#32 = ![4 * (a - 1) + 0, 0, 0])
    (o16_1 : k0_off16 i t 1#32 = ![0, 0, 256 * (4 * a + 1)]) (o17_1 : k0_off17 i t 1#32 = ![0, 0, 256 * (4 * (a - 2) + 1)])
    (o18_1 : k0_off18 i t 1#32 = ![4 * (a - 1) + 1, 0, 0])
    (o16_2 : k0_off16 i t 2#32 = ![0, 0, 256 * (4 * a + 2)]) (o17_2 : k0_off17 i t 2#32 = ![0, 0, 256 * (4 * (a - 2) + 2)])
    (o18_2 : k0_off18 i t 2#32 = ![4 * (a - 1) + 2, 0, 0])
    (o16_3 : k0_off16 i t 3#32 = ![0, 0, 256 * (4 * a + 3)]) (o17_3 : k0_off17 i t 3#32 = ![0, 0, 256 * (4 * (a - 2) + 3)])
    (o18_3 : k0_off18 i t 3#32 = ![4 * (a - 1) + 3, 0, 0])
    (arg1 : BitVec 32) (v7 v12 : FVec F S256x64 .bf16) (v14 : FVec F S64x256 .bf16) (v23 : FVec F S512x256 .bf16) (v28 : IVec S256x256 1)
    (c4 v29 v34 v36 : BitVec 32) (v37 : BitVec 1) (v45 : BitVec 32) (s : St F) (R : FVec F S256x1 .f32) :
    Ev A c (k0_t1_body i A.a2 A.h2 A.a3 A.h3 A.a4 A.h4 A.a5 A.h5 A.a6 A.h6 A.a7 A.h7 A.a8 A.h8 A.a9 A.h9 A.a10 A.h10 A.a11 A.h11 A.a12 A.h12 A.a13 A.h13 arg1 v7 v12 v14 v23 v28 c4 v29 v34 v36 v37 v45 t R) s
      (slotR s R 4) (down v7 v12 v14 v23 a s R) := by
  apply Ev.cast
  ·
    unfold k0_t1_body
    apply Ev.bind
    · rw [k0_part28_eq_skeleton]; unfold k0_part28_skel
      apply Ev.bind (Ev.load8 _ o16_3)
      apply Ev.bind (Ev.load13 0 rfl)
      apply Ev.bind (Ev.load8 _ o16_3)
      apply Ev.bind (Ev.store8 _ o16_3)
      apply Ev.bind (Ev.load8 _ o16_2)
      apply Ev.bind (Ev.load13 1 rfl)
      exact Ev.ret _ _
    apply Ev.bind
    · rw [k0_part29_eq_skeleton]; unfold k0_part29_skel
      apply Ev.bind (Ev.load8 _ o16_2)
      apply Ev.bind (Ev.store8 _ o16_2)
      apply Ev.bind (Ev.load8 _ o16_1)
      apply Ev.bind (Ev.load13 2 rfl)
      apply Ev.bind (Ev.load8 _ o16_1)
      apply Ev.bind (Ev.store8 _ o16_1)
      apply Ev.bind (Ev.load8 _ o16_0)
      apply Ev.bind (Ev.load13 3 rfl)
      apply Ev.bind (Ev.load8 _ o16_0)
      apply Ev.bind (Ev.store8 _ o16_0)
      apply Ev.bind (Ev.load12 0 rfl)
      exact Ev.ret _ _
    apply Ev.bind
    · rw [k0_part30_eq_skeleton]; unfold k0_part30_skel
      apply Ev.bind (Ev.load12 1 rfl)
      apply Ev.bind (Ev.load12 2 rfl)
      apply Ev.bind (Ev.load12 3 rfl)
      apply Ev.bind (Ev.load11 0 rfl)
      apply Ev.bind (Ev.load11 1 rfl)
      apply Ev.bind (Ev.load11 2 rfl)
      apply Ev.bind (Ev.load11 3 rfl)
      exact Ev.ret _ _
    apply Ev.bind
    · rw [k0_part31_eq_skeleton]; unfold k0_part31_skel
      exact Ev.ret _ _
    apply Ev.bind
    · rw [k0_part32_eq_skeleton]; unfold k0_part32_skel
      apply Ev.bind (Ev.load3 _ o17_3)
      apply Ev.bind (Ev.load11 0 rfl)
      apply Ev.bind (Ev.store11 0 rfl)
      apply Ev.bind (Ev.load3 _ o17_2)
      apply Ev.bind (Ev.load11 1 rfl)
      apply Ev.bind (Ev.store11 1 rfl)
      apply Ev.bind (Ev.load3 _ o17_1)
      apply Ev.bind (Ev.load11 2 rfl)
      exact Ev.ret _ _
    apply Ev.bind
    · rw [k0_part33_eq_skeleton]; unfold k0_part33_skel
      apply Ev.bind (Ev.store11 2 rfl)
      apply Ev.bind (Ev.load3 _ o17_0)
      apply Ev.bind (Ev.load11 3 rfl)
      apply Ev.bind (Ev.store11 3 rfl)
      apply Ev.bind (Ev.load4 _ o17_3)
      apply Ev.bind (Ev.load12 0 rfl)
      apply Ev.bind (Ev.store12 0 rfl)
      apply Ev.bind (Ev.load4 _ o17_2)
      exact Ev.ret _ _
    apply Ev.bind
    · rw [k0_part34_eq_skeleton]; unfold k0_part34_skel
      apply Ev.bind (Ev.load12 1 rfl)
      apply Ev.bind (Ev.store12 1 rfl)
      apply Ev.bind (Ev.load4 _ o17_1)
      apply Ev.bind (Ev.load12 2 rfl)
      apply Ev.bind (Ev.store12 2 rfl)
      apply Ev.bind (Ev.load4 _ o17_0)
      apply Ev.bind (Ev.load12 3 rfl)
      apply Ev.bind (Ev.store12 3 rfl)
      exact Ev.ret _ _
    apply Ev.bind
    · rw [k0_part35_eq_skeleton]; unfold k0_part35_skel
      apply Ev.bind (Ev.load13 0 rfl)
      apply Ev.bind (Ev.store13 0 rfl)
      apply Ev.bind (Ev.load9 _ o18_3)
      apply Ev.bind (Ev.store9 _ o18_3)
      apply Ev.bind (Ev.load10 _ o18_3)
      apply Ev.bind (Ev.store10 _ o18_3)
      exact Ev.ret _ _
    apply Ev.bind
    · rw [k0_part36_eq_skeleton]; unfold k0_part36_skel
      apply Ev.bind (Ev.load13 1 rfl)
      apply Ev.bind (Ev.store13 1 rfl)
      apply Ev.bind (Ev.load9 _ o18_2)
      apply Ev.bind (Ev.store9 _ o18_2)
      apply Ev.bind (Ev.load10 _ o18_2)
      apply Ev.bind (Ev.store10 _ o18_2)
      apply Ev.bind (Ev.load13 2 rfl)
      apply Ev.bind (Ev.store13 2 rfl)
      apply Ev.bind (Ev.load9 _ o18_1)
      apply Ev.bind (Ev.store9 _ o18_1)
      apply Ev.bind (Ev.load10 _ o18_1)
      apply Ev.bind (Ev.store10 _ o18_1)
      apply Ev.bind (Ev.load13 3 rfl)
      apply Ev.bind (Ev.store13 3 rfl)
      apply Ev.bind (Ev.load9 _ o18_0)
      exact Ev.ret _ _
    apply Ev.bind (Ev.store9 _ o18_0)
    apply Ev.bind (Ev.load10 _ o18_0)
    apply Ev.bind (Ev.store10 _ o18_0)
    exact Ev.ret _ _
  · simp only [St.pdv_q, St.pdv_k, St.pdv_v, St.pdv_o, St.pdv_dq, St.pdv_dk, St.pdv_dv, St.pdv_e, St.pdv_b, St.pdv_z, St.pdv_dw, St.pdv_w, St.pe_q, St.pe_k, St.pe_v, St.pe_o, St.pe_dq, St.pe_dk, St.pe_dv, St.pe_e, St.pe_b, St.pe_z, St.pe_dw, St.pe_w, St.pb_q, St.pb_k, St.pb_v, St.pb_o, St.pb_dq, St.pb_dk, St.pb_dv, St.pb_e, St.pb_b, St.pb_z, St.pb_dw, St.pb_w, St.pz_q, St.pz_k, St.pz_v, St.pz_o, St.pz_dq, St.pz_dk, St.pz_dv, St.pz_e, St.pz_b, St.pz_z, St.pz_dw, St.pz_w, St.pdw_q, St.pdw_k, St.pdw_v, St.pdw_o, St.pdw_dq, St.pdw_dk, St.pdw_dv, St.pdw_e, St.pdw_b, St.pdw_z, St.pdw_dw, St.pdw_w, St.pw_q, St.pw_k, St.pw_v, St.pw_o, St.pw_dq, St.pw_dk, St.pw_dv, St.pw_e, St.pw_b, St.pw_z, St.pw_dw, St.pw_w, Function.update_apply, Nat.add_left_cancel_iff, reduceCtorEq, Nat.reduceEqDiff, if_false, if_true, ite_false, ite_true, reduceIte]
    rfl
  · apply St.ext
    all_goals try simp only [St.pdv_q, St.pdv_k, St.pdv_v, St.pdv_o, St.pdv_dq, St.pdv_dk, St.pdv_dv, St.pdv_e, St.pdv_b, St.pdv_z, St.pdv_dw, St.pdv_w, St.pe_q, St.pe_k, St.pe_v, St.pe_o, St.pe_dq, St.pe_dk, St.pe_dv, St.pe_e, St.pe_b, St.pe_z, St.pe_dw, St.pe_w, St.pb_q, St.pb_k, St.pb_v, St.pb_o, St.pb_dq, St.pb_dk, St.pb_dv, St.pb_e, St.pb_b, St.pb_z, St.pb_dw, St.pb_w, St.pz_q, St.pz_k, St.pz_v, St.pz_o, St.pz_dq, St.pz_dk, St.pz_dv, St.pz_e, St.pz_b, St.pz_z, St.pz_dw, St.pz_w, St.pdw_q, St.pdw_k, St.pdw_v, St.pdw_o, St.pdw_dq, St.pdw_dk, St.pdw_dv, St.pdw_e, St.pdw_b, St.pdw_z, St.pdw_dw, St.pdw_w, St.pw_q, St.pw_k, St.pw_v, St.pw_o, St.pw_dq, St.pw_dk, St.pw_dv, St.pw_e, St.pw_b, St.pw_z, St.pw_dw, St.pw_w, Function.update_apply, Nat.add_left_cancel_iff, reduceCtorEq, Nat.reduceEqDiff, if_false, if_true, ite_false, ite_true, reduceIte]
    all_goals first | rfl | trace_state

end Cert.KernelIdeal.Own

end
-- ==== Proof.Sweep.lean ====
/- The sweep down, evaluated. -/
module

public import proofs.«01_k».proof.Proof.Point
public import proofs.«01_k».proof.Proof.Down

@[expose] public section

set_option maxRecDepth 65536

noncomputable section

namespace Cert.KernelIdeal.Own

open Idealize.ShloMosaic Idealize.ShloMosaic.TcCoe Idealize.SL.Sem
open Cert.KernelIdeal Cert.KernelIdeal.Gen

variable {F : FTy → Type} [FloatOps F] {A : Bufs} {c : Dev nD}

set_option maxHeartbeats 1600000 in
theorem ev_sweep (i : grid0.Coords) (arg1 : BitVec 32) (v7 v12 : FVec F S256x64 .bf16) (v14 : FVec F S64x256 .bf16)
    (v23 : FVec F S512x256 .bf16) (v28 : IVec S256x256 1) (c4_i32 v29 v34 v36 v45 v65 : BitVec 32) (v37 : BitVec 1) (s₀ s : St F) (v60 R : FVec F S256x1 .f32)
    (hR : v60 = R) (hs : s₀ = s) :
    Ev A c (do
        let v66 : FVec F S256x1 .f32 ← Scf.Loop.for (k0_t1_loop i) (k0_t1_ok i) v60 (k0_t1_body i A.a2 A.h2 A.a3 A.h3 A.a4 A.h4 A.a5 A.h5 A.a6 A.h6 A.a7 A.h7 A.a8 A.h8 A.a9 A.h9 A.a10 A.h10 A.a11 A.h11 A.a12 A.h12 A.a13 A.h13 arg1 v7 v12 v14 v23 v28 c4_i32 v29 v34 v36 v37 v45)
        let v67 : FVec F S256x1 .f32 ← Scf.Loop.for (k0_t2_loop i) (k0_t2_ok i) v66 (k0_t2_body i A.a2 A.h2 A.a3 A.h3 A.a4 A.h4 A.a5 A.h5 A.a6 A.h6 A.a7 A.h7 A.a8 A.h8 A.a9 A.h9 A.a10 A.h10 A.a11 A.h11 A.a12 A.h12 A.a13 A.h13 arg1 v7 v12 v14 v23 v28 c4_i32 v29 v34 v36 v37 v45 v65)
        let v70 : Vec F S1x64x256 .f32 ← Prog.lift (.load A.a8 (Rect.unit (s := S1x64x8192) ![0, 0, 768] S1x64x256.size inb_S1x64x8192_S1x64x256_0_0_768).toLoadRect (View.loadsAt_vmem h_S1x64x256))
        let v72 : Vec F S1x256x256 .bf16 ← Prog.lift (.load A.a13 (Rect.unit (s := S4x256x256) ![0, 0, 0] S1x256x256.size inb_S4x256x256_S1x256x256_0_0_0).toLoadRect (View.loadsAt_vmem h_S1x256x256))
        pure (⟨v45, 768#32, k0_pay412 v70, k0_pay413 v14 v72⟩ : Σ' (v45 : BitVec 32) (v68 : BitVec 32) (v71 : FVec F S64x256 .f32), FVec F S64x256 .f32)) s₀
      ⟨v45, 768#32, flatf ((walk v7 v12 v14 v23 (J i) s R (J i)).1.dv 3), k0_pay413 v14 ((walk v7 v12 v14 v23 (J i) s R (J i)).1.w 0)⟩
      (walk v7 v12 v14 v23 (J i) s R (J i)).1 := by
  subst hR hs
  apply Ev.bind (Ev.for (k0_t1_loop i) (k0_t1_ok i) (trips1 i)
    (fun t => (walk v7 v12 v14 v23 (J i) s₀ v60 t).2) (fun t => (walk v7 v12 v14 v23 (J i) s₀ v60 t).1) _ (fun t => ?_))

  · apply Ev.bind (Ev.for_none (k0_t2_loop i) (k0_t2_ok i) (trips2 i) _ _ _)
    apply Ev.bind (Ev.load8 3 rfl)
    apply Ev.bind (Ev.load13 0 rfl)
    exact Ev.ret _ _
  · exact ev_down i t (J i - t.val) (off16 i t 0) (off17 i t 0) (off18 i t 0) (off16 i t 1) (off17 i t 1) (off18 i t 1)
      (off16 i t 2) (off17 i t 2) (off18 i t 2) (off16 i t 3) (off17 i t 3) (off18 i t 3) _ _ _ _ _ _ _ _ _ _ _ _ _ _

end Cert.KernelIdeal.Own

end
-- ==== Proof.DiagThree.lean ====
/- The diagonal group, evaluated: the point's own tile in slot 0. -/
module

public import proofs.«01_k».proof.Proof.Sweep

@[expose] public section

set_option maxRecDepth 65536

noncomputable section

namespace Cert.KernelIdeal.Own

open Idealize.ShloMosaic Idealize.ShloMosaic.TcCoe Idealize.SL.Sem
open Cert.KernelIdeal Cert.KernelIdeal.Gen

variable {F : FTy → Type} [FloatOps F] {A : Bufs} {c : Dev nD}

set_option maxHeartbeats 800000 in
theorem ev_mid_0 (i : grid0.Coords) (arg1 : BitVec 32) (v7 v12 : FVec F S256x64 .bf16) (v14 : FVec F S64x256 .bf16)
    (v23 : FVec F S512x256 .bf16) (v28 : IVec S256x256 1) (c4_i32 v29 v34 v36 : BitVec 32) (v37 : BitVec 1) (s : St F)
    (k0_h2 : k0_cond2 i = 1#1) (k0_h3 : k0_cond3 i = 1#1) (k0_h4 : k0_cond4 i = 1#1) :
    Ev A c (k0_part64 i A.a2 A.h2 A.a3 A.h3 A.a4 A.h4 A.a5 A.h5 A.a6 A.h6 A.a7 A.h7 A.a8 A.h8 A.a9 A.h9 A.a10 A.h10 A.a11 A.h11 A.a12 A.h12 A.a13 A.h13 arg1 v7 v12 v14 v23 v28 c4_i32 v29 v34 v36 v37) s
      ⟨Scalar.select (Scalar.andi (Scalar.cmpi .ne v34 (Scalar.subi v36 (Scalar.extui v37))) (Scalar.cmpi .ne (Scalar.remsi arg1 c4_i32) 0#32)) (Scalar.subi v29 1#32) v29,
        768#32, flatf ((walk v7 v12 v14 v23 (J i) (across v28 v7 v12 v23 (J i) 0 s) (diagR v28 v7 (J i) 0 s 4) (J i)).1.dv 3), k0_pay413 v14 ((walk v7 v12 v14 v23 (J i) (across v28 v7 v12 v23 (J i) 0 s) (diagR v28 v7 (J i) 0 s 4) (J i)).1.w 0)⟩
      (walk v7 v12 v14 v23 (J i) (across v28 v7 v12 v23 (J i) 0 s) (diagR v28 v7 (J i) 0 s 4) (J i)).1 := by
  have hr := case4 i k0_h2 k0_h3 k0_h4
  rw [k0_part64_eq_skeleton]; unfold k0_part64_skel
  dsimp only
  rw [dif_pos k0_h2, dif_pos k0_h3, dif_pos k0_h4]
  have o2_0 : k0_off2 i 0#32 = ![0, 0, 256 * (4 * (J i - 1) + 0)] := off2 i 0
  have o2_1 : k0_off2 i 1#32 = ![0, 0, 256 * (4 * (J i - 1) + 1)] := off2 i 1
  have o2_2 : k0_off2 i 2#32 = ![0, 0, 256 * (4 * (J i - 1) + 2)] := off2 i 2
  have o2_3 : k0_off2 i 3#32 = ![0, 0, 256 * (4 * (J i - 1) + 3)] := off2 i 3
  have o1_0 : k0_off1 i 0#32 = ![0, 0, 256 * (4 * J i + 3)] := off1 i 0 hr
  have o3_0 : k0_off3 i 0#32 = ![4 * J i + 3, 0, 0] := off3 i 0 hr
  have o1_1 : k0_off1 i 1#32 = ![0, 0, 256 * (4 * J i + 2)] := off1 i 1 hr
  have o3_1 : k0_off3 i 1#32 = ![4 * J i + 2, 0, 0] := off3 i 1 hr
  have o1_2 : k0_off1 i 2#32 = ![0, 0, 256 * (4 * J i + 1)] := off1 i 2 hr
  have o3_2 : k0_off3 i 2#32 = ![4 * J i + 1, 0, 0] := off3 i 2 hr
  have o1_3 : k0_off1 i 3#32 = ![0, 0, 256 * (4 * J i + 0)] := off1 i 3 hr
  have o3_3 : k0_off3 i 3#32 = ![4 * J i + 0, 0, 0] := off3 i 3 hr
  apply Ev.bind
  · rw [k0_part1_eq_skeleton]; unfold k0_part1_skel
    apply Ev.bind (Ev.load3 _ o1_0)
    apply Ev.bind (Ev.load3 _ o1_1)
    apply Ev.bind (Ev.load3 _ o1_2)
    apply Ev.bind (Ev.load3 _ o1_3)
    apply Ev.bind (Ev.load4 _ o1_0)
    exact Ev.ret _ _
  apply Ev.bind
  · rw [k0_part2_eq_skeleton]; unfold k0_part2_skel
    apply Ev.bind (Ev.load4 _ o1_1)
    apply Ev.bind (Ev.load4 _ o1_2)
    apply Ev.bind (Ev.load4 _ o1_3)
    exact Ev.ret _ _
  apply Ev.bind
  · rw [k0_part3_eq_skeleton]; unfold k0_part3_skel
    exact Ev.ret _ _
  apply Ev.bind
  · rw [k0_part4_eq_skeleton]; unfold k0_part4_skel
    apply Ev.bind (Ev.load3 _ o2_3)
    apply Ev.bind (Ev.load11 0 rfl)
    apply Ev.bind (Ev.store11 0 rfl)
    apply Ev.bind (Ev.load3 _ o2_2)
    apply Ev.bind (Ev.load11 1 rfl)
    apply Ev.bind (Ev.store11 1 rfl)
    apply Ev.bind (Ev.load3 _ o2_1)
    exact Ev.ret _ _
  apply Ev.bind
  · rw [k0_part5_eq_skeleton]; unfold k0_part5_skel
    apply Ev.bind (Ev.load11 2 rfl)
    apply Ev.bind (Ev.store11 2 rfl)
    apply Ev.bind (Ev.load3 _ o2_0)
    apply Ev.bind (Ev.load11 3 rfl)
    apply Ev.bind (Ev.store11 3 rfl)
    apply Ev.bind (Ev.load4 _ o2_3)
    apply Ev.bind (Ev.load12 0 rfl)
    apply Ev.bind (Ev.store12 0 rfl)
    exact Ev.ret _ _
  apply Ev.bind
  · rw [k0_part6_eq_skeleton]; unfold k0_part6_skel
    apply Ev.bind (Ev.load4 _ o2_2)
    apply Ev.bind (Ev.load12 1 rfl)
    apply Ev.bind (Ev.store12 1 rfl)
    apply Ev.bind (Ev.load4 _ o2_1)
    apply Ev.bind (Ev.load12 2 rfl)
    apply Ev.bind (Ev.store12 2 rfl)
    apply Ev.bind (Ev.load4 _ o2_0)
    apply Ev.bind (Ev.load12 3 rfl)
    apply Ev.bind (Ev.store12 3 rfl)
    exact Ev.ret _ _
  apply Ev.bind
  · rw [k0_part7_eq_skeleton]; unfold k0_part7_skel
    apply Ev.bind (Ev.load13 0 rfl)
    apply Ev.bind (Ev.store13 0 rfl)
    apply Ev.bind (Ev.load9 _ o3_0)
    apply Ev.bind (Ev.store9 _ o3_0)
    apply Ev.bind (Ev.load10 _ o3_0)
    apply Ev.bind (Ev.store10 _ o3_0)
    exact Ev.ret _ _
  apply Ev.bind
  · rw [k0_part8_eq_skeleton]; unfold k0_part8_skel
    apply Ev.bind (Ev.load13 1 rfl)
    apply Ev.bind (Ev.store13 1 rfl)
    apply Ev.bind (Ev.load9 _ o3_1)
    apply Ev.bind (Ev.store9 _ o3_1)
    apply Ev.bind (Ev.load10 _ o3_1)
    apply Ev.bind (Ev.store10 _ o3_1)
    apply Ev.bind (Ev.load13 2 rfl)
    apply Ev.bind (Ev.store13 2 rfl)
    apply Ev.bind (Ev.load9 _ o3_2)
    apply Ev.bind (Ev.store9 _ o3_2)
    apply Ev.bind (Ev.load10 _ o3_2)
    apply Ev.bind (Ev.store10 _ o3_2)
    apply Ev.bind (Ev.load13 3 rfl)
    apply Ev.bind (Ev.store13 3 rfl)
    exact Ev.ret _ _
  apply Ev.bind (Ev.load9 _ o3_3)
  apply Ev.bind (Ev.store9 _ o3_3)
  apply Ev.bind (Ev.load10 _ o3_3)
  apply Ev.bind (Ev.store10 _ o3_3)
  apply ev_sweep
  · try simp only [St.pe_q, St.pe_k, St.pe_v, St.pe_o, St.pe_dq, St.pe_dk, St.pe_dv, St.pe_e, St.pe_b, St.pe_z, St.pe_dw, St.pe_w, St.pb_q, St.pb_k, St.pb_v, St.pb_o, St.pb_dq, St.pb_dk, St.pb_dv, St.pb_e, St.pb_b, St.pb_z, St.pb_dw, St.pb_w, St.pz_q, St.pz_k, St.pz_v, St.pz_o, St.pz_dq, St.pz_dk, St.pz_dv, St.pz_e, St.pz_b, St.pz_z, St.pz_dw, St.pz_w, St.pdw_q, St.pdw_k, St.pdw_v, St.pdw_o, St.pdw_dq, St.pdw_dk, St.pdw_dv, St.pdw_e, St.pdw_b, St.pdw_z, St.pdw_dw, St.pdw_w, St.pw_q, St.pw_k, St.pw_v, St.pw_o, St.pw_dq, St.pw_dk, St.pw_dv, St.pw_e, St.pw_b, St.pw_z, St.pw_dw, St.pw_w, Function.update_apply, Nat.add_left_cancel_iff, reduceCtorEq, Nat.reduceEqDiff, if_false, if_true, ite_false, ite_true, reduceIte]
    rfl
  · apply St.ext
    all_goals try simp only [St.pe_q, St.pe_k, St.pe_v, St.pe_o, St.pe_dq, St.pe_dk, St.pe_dv, St.pe_e, St.pe_b, St.pe_z, St.pe_dw, St.pe_w, St.pb_q, St.pb_k, St.pb_v, St.pb_o, St.pb_dq, St.pb_dk, St.pb_dv, St.pb_e, St.pb_b, St.pb_z, St.pb_dw, St.pb_w, St.pz_q, St.pz_k, St.pz_v, St.pz_o, St.pz_dq, St.pz_dk, St.pz_dv, St.pz_e, St.pz_b, St.pz_z, St.pz_dw, St.pz_w, St.pdw_q, St.pdw_k, St.pdw_v, St.pdw_o, St.pdw_dq, St.pdw_dk, St.pdw_dv, St.pdw_e, St.pdw_b, St.pdw_z, St.pdw_dw, St.pdw_w, St.pw_q, St.pw_k, St.pw_v, St.pw_o, St.pw_dq, St.pw_dk, St.pw_dv, St.pw_e, St.pw_b, St.pw_z, St.pw_dw, St.pw_w, Function.update_apply, Nat.add_left_cancel_iff, reduceCtorEq, Nat.reduceEqDiff, if_false, if_true, ite_false, ite_true, reduceIte]
    all_goals rfl

end Cert.KernelIdeal.Own

end
-- ==== Proof.DiagTwo.lean ====
/- The diagonal group, evaluated: the point's own tile in slot 1. -/
module

public import proofs.«01_k».proof.Proof.Sweep

@[expose] public section

set_option maxRecDepth 65536

noncomputable section

namespace Cert.KernelIdeal.Own

open Idealize.ShloMosaic Idealize.ShloMosaic.TcCoe Idealize.SL.Sem
open Cert.KernelIdeal Cert.KernelIdeal.Gen

variable {F : FTy → Type} [FloatOps F] {A : Bufs} {c : Dev nD}

set_option maxHeartbeats 800000 in
theorem ev_mid_1 (i : grid0.Coords) (arg1 : BitVec 32) (v7 v12 : FVec F S256x64 .bf16) (v14 : FVec F S64x256 .bf16)
    (v23 : FVec F S512x256 .bf16) (v28 : IVec S256x256 1) (c4_i32 v29 v34 v36 : BitVec 32) (v37 : BitVec 1) (s : St F)
    (k0_h2 : k0_cond2 i = 1#1) (k0_h3 : k0_cond3 i = 1#1) (k0_h4 : ¬ k0_cond4 i = 1#1) :
    Ev A c (k0_part64 i A.a2 A.h2 A.a3 A.h3 A.a4 A.h4 A.a5 A.h5 A.a6 A.h6 A.a7 A.h7 A.a8 A.h8 A.a9 A.h9 A.a10 A.h10 A.a11 A.h11 A.a12 A.h12 A.a13 A.h13 arg1 v7 v12 v14 v23 v28 c4_i32 v29 v34 v36 v37) s
      ⟨Scalar.select (Scalar.andi (Scalar.cmpi .ne v34 (Scalar.subi v36 (Scalar.extui v37))) (Scalar.cmpi .ne (Scalar.remsi arg1 c4_i32) 0#32)) (Scalar.subi v29 1#32) v29,
        768#32, flatf ((walk v7 v12 v14 v23 (J i) (across v28 v7 v12 v23 (J i) 1 s) (diagR v28 v7 (J i) 1 s 4) (J i)).1.dv 3), k0_pay413 v14 ((walk v7 v12 v14 v23 (J i) (across v28 v7 v12 v23 (J i) 1 s) (diagR v28 v7 (J i) 1 s 4) (J i)).1.w 0)⟩
      (walk v7 v12 v14 v23 (J i) (across v28 v7 v12 v23 (J i) 1 s) (diagR v28 v7 (J i) 1 s 4) (J i)).1 := by
  have hr := case3 i k0_h2 k0_h3 k0_h4
  rw [k0_part64_eq_skeleton]; unfold k0_part64_skel
  dsimp only
  rw [dif_pos k0_h2, dif_pos k0_h3, dif_neg k0_h4]
  have o5_0 : k0_off5 i 0#32 = ![0, 0, 256 * (4 * (J i - 1) + 0)] := off5 i 0
  have o5_1 : k0_off5 i 1#32 = ![0, 0, 256 * (4 * (J i - 1) + 1)] := off5 i 1
  have o5_2 : k0_off5 i 2#32 = ![0, 0, 256 * (4 * (J i - 1) + 2)] := off5 i 2
  have o5_3 : k0_off5 i 3#32 = ![0, 0, 256 * (4 * (J i - 1) + 3)] := off5 i 3
  have o4_0 : k0_off4 i 0#32 = ![0, 0, 256 * (4 * J i + 2)] := off4 i 0 hr
  have o7_0 : k0_off7 i 0#32 = ![4 * J i + 2, 0, 0] := off7 i 0 hr
  have o4_1 : k0_off4 i 1#32 = ![0, 0, 256 * (4 * J i + 1)] := off4 i 1 hr
  have o7_1 : k0_off7 i 1#32 = ![4 * J i + 1, 0, 0] := off7 i 1 hr
  have o4_2 : k0_off4 i 2#32 = ![0, 0, 256 * (4 * J i + 0)] := off4 i 2 hr
  have o7_2 : k0_off7 i 2#32 = ![4 * J i + 0, 0, 0] := off7 i 2 hr
  have o6 := off6 i hr
  apply Ev.bind
  · rw [k0_part9_eq_skeleton]; unfold k0_part9_skel
    apply Ev.bind (Ev.load3 _ o4_0)
    apply Ev.bind (Ev.load3 _ o4_1)
    apply Ev.bind (Ev.load3 _ o4_2)
    apply Ev.bind (Ev.load4 _ o4_0)
    apply Ev.bind (Ev.load4 _ o4_1)
    exact Ev.ret _ _
  apply Ev.bind
  · rw [k0_part10_eq_skeleton]; unfold k0_part10_skel
    apply Ev.bind (Ev.load4 _ o4_2)
    exact Ev.ret _ _
  apply Ev.bind
  · rw [k0_part11_eq_skeleton]; unfold k0_part11_skel
    apply Ev.bind (Ev.load3 _ o5_3)
    apply Ev.bind (Ev.load11 0 rfl)
    apply Ev.bind (Ev.store11 0 rfl)
    apply Ev.bind (Ev.load3 _ o5_2)
    exact Ev.ret _ _
  apply Ev.bind
  · rw [k0_part12_eq_skeleton]; unfold k0_part12_skel
    apply Ev.bind (Ev.load11 1 rfl)
    apply Ev.bind (Ev.store11 1 rfl)
    apply Ev.bind (Ev.load3 _ o5_1)
    apply Ev.bind (Ev.load11 2 rfl)
    apply Ev.bind (Ev.store11 2 rfl)
    apply Ev.bind (Ev.load3 _ o5_0)
    apply Ev.bind (Ev.load11 3 rfl)
    apply Ev.bind (Ev.store11 3 rfl)
    exact Ev.ret _ _
  apply Ev.bind
  · rw [k0_part13_eq_skeleton]; unfold k0_part13_skel
    apply Ev.bind (Ev.load4 _ o5_3)
    apply Ev.bind (Ev.load12 0 rfl)
    apply Ev.bind (Ev.store12 0 rfl)
    apply Ev.bind (Ev.load4 _ o5_2)
    apply Ev.bind (Ev.load12 1 rfl)
    apply Ev.bind (Ev.store12 1 rfl)
    apply Ev.bind (Ev.load4 _ o5_1)
    apply Ev.bind (Ev.load12 2 rfl)
    apply Ev.bind (Ev.store12 2 rfl)
    apply Ev.bind (Ev.load4 _ o5_0)
    exact Ev.ret _ _
  apply Ev.bind
  · rw [k0_part14_eq_skeleton]; unfold k0_part14_skel
    apply Ev.bind (Ev.load12 3 rfl)
    apply Ev.bind (Ev.store12 3 rfl)
    apply Ev.bind (Ev.load13 0 rfl)
    apply Ev.bind (Ev.store13 0 rfl)
    apply Ev.bind (Ev.load9 _ o6)
    apply Ev.bind (Ev.store9 _ o6)
    exact Ev.ret _ _
  apply Ev.bind
  · rw [k0_part15_eq_skeleton]; unfold k0_part15_skel
    apply Ev.bind (Ev.load10 _ o6)
    apply Ev.bind (Ev.store10 _ o6)
    apply Ev.bind (Ev.load13 1 rfl)
    apply Ev.bind (Ev.store13 1 rfl)
    apply Ev.bind (Ev.load9 _ o7_0)
    apply Ev.bind (Ev.store9 _ o7_0)
    apply Ev.bind (Ev.load10 _ o7_0)
    apply Ev.bind (Ev.store10 _ o7_0)
    apply Ev.bind (Ev.load13 2 rfl)
    apply Ev.bind (Ev.store13 2 rfl)
    apply Ev.bind (Ev.load9 _ o7_1)
    apply Ev.bind (Ev.store9 _ o7_1)
    apply Ev.bind (Ev.load10 _ o7_1)
    exact Ev.ret _ _
  apply Ev.bind (Ev.store10 _ o7_1)
  apply Ev.bind (Ev.load13 3 rfl)
  apply Ev.bind (Ev.store13 3 rfl)
  apply Ev.bind (Ev.load9 _ o7_2)
  apply Ev.bind (Ev.store9 _ o7_2)
  apply Ev.bind (Ev.load10 _ o7_2)
  apply Ev.bind (Ev.store10 _ o7_2)
  apply ev_sweep
  · try simp only [St.pe_q, St.pe_k, St.pe_v, St.pe_o, St.pe_dq, St.pe_dk, St.pe_dv, St.pe_e, St.pe_b, St.pe_z, St.pe_dw, St.pe_w, St.pb_q, St.pb_k, St.pb_v, St.pb_o, St.pb_dq, St.pb_dk, St.pb_dv, St.pb_e, St.pb_b, St.pb_z, St.pb_dw, St.pb_w, St.pz_q, St.pz_k, St.pz_v, St.pz_o, St.pz_dq, St.pz_dk, St.pz_dv, St.pz_e, St.pz_b, St.pz_z, St.pz_dw, St.pz_w, St.pdw_q, St.pdw_k, St.pdw_v, St.pdw_o, St.pdw_dq, St.pdw_dk, St.pdw_dv, St.pdw_e, St.pdw_b, St.pdw_z, St.pdw_dw, St.pdw_w, St.pw_q, St.pw_k, St.pw_v, St.pw_o, St.pw_dq, St.pw_dk, St.pw_dv, St.pw_e, St.pw_b, St.pw_z, St.pw_dw, St.pw_w, Function.update_apply, Nat.add_left_cancel_iff, reduceCtorEq, Nat.reduceEqDiff, if_false, if_true, ite_false, ite_true, reduceIte]
    rfl
  · apply St.ext
    all_goals try simp only [St.pe_q, St.pe_k, St.pe_v, St.pe_o, St.pe_dq, St.pe_dk, St.pe_dv, St.pe_e, St.pe_b, St.pe_z, St.pe_dw, St.pe_w, St.pb_q, St.pb_k, St.pb_v, St.pb_o, St.pb_dq, St.pb_dk, St.pb_dv, St.pb_e, St.pb_b, St.pb_z, St.pb_dw, St.pb_w, St.pz_q, St.pz_k, St.pz_v, St.pz_o, St.pz_dq, St.pz_dk, St.pz_dv, St.pz_e, St.pz_b, St.pz_z, St.pz_dw, St.pz_w, St.pdw_q, St.pdw_k, St.pdw_v, St.pdw_o, St.pdw_dq, St.pdw_dk, St.pdw_dv, St.pdw_e, St.pdw_b, St.pdw_z, St.pdw_dw, St.pdw_w, St.pw_q, St.pw_k, St.pw_v, St.pw_o, St.pw_dq, St.pw_dk, St.pw_dv, St.pw_e, St.pw_b, St.pw_z, St.pw_dw, St.pw_w, Function.update_apply, Nat.add_left_cancel_iff, reduceCtorEq, Nat.reduceEqDiff, if_false, if_true, ite_false, ite_true, reduceIte]
    all_goals rfl

end Cert.KernelIdeal.Own

end
-- ==== Proof.DiagOne.lean ====
/- The diagonal group, evaluated: the point's own tile in slot 2. -/
module

public import proofs.«01_k».proof.Proof.Sweep

@[expose] public section

set_option maxRecDepth 65536

noncomputable section

namespace Cert.KernelIdeal.Own

open Idealize.ShloMosaic Idealize.ShloMosaic.TcCoe Idealize.SL.Sem
open Cert.KernelIdeal Cert.KernelIdeal.Gen

variable {F : FTy → Type} [FloatOps F] {A : Bufs} {c : Dev nD}

set_option maxHeartbeats 800000 in
theorem ev_mid_2 (i : grid0.Coords) (arg1 : BitVec 32) (v7 v12 : FVec F S256x64 .bf16) (v14 : FVec F S64x256 .bf16)
    (v23 : FVec F S512x256 .bf16) (v28 : IVec S256x256 1) (c4_i32 v29 v34 v36 : BitVec 32) (v37 : BitVec 1) (s : St F)
    (k0_h2 : k0_cond2 i = 1#1) (k0_h3 : ¬ k0_cond3 i = 1#1) :
    Ev A c (k0_part64 i A.a2 A.h2 A.a3 A.h3 A.a4 A.h4 A.a5 A.h5 A.a6 A.h6 A.a7 A.h7 A.a8 A.h8 A.a9 A.h9 A.a10 A.h10 A.a11 A.h11 A.a12 A.h12 A.a13 A.h13 arg1 v7 v12 v14 v23 v28 c4_i32 v29 v34 v36 v37) s
      ⟨Scalar.select (Scalar.andi (Scalar.cmpi .ne v34 (Scalar.subi v36 (Scalar.extui v37))) (Scalar.cmpi .ne (Scalar.remsi arg1 c4_i32) 0#32)) (Scalar.subi v29 1#32) v29,
        768#32, flatf ((walk v7 v12 v14 v23 (J i) (across v28 v7 v12 v23 (J i) 2 s) (diagR v28 v7 (J i) 2 s 4) (J i)).1.dv 3), k0_pay413 v14 ((walk v7 v12 v14 v23 (J i) (across v28 v7 v12 v23 (J i) 2 s) (diagR v28 v7 (J i) 2 s 4) (J i)).1.w 0)⟩
      (walk v7 v12 v14 v23 (J i) (across v28 v7 v12 v23 (J i) 2 s) (diagR v28 v7 (J i) 2 s 4) (J i)).1 := by
  have hr := case2 i k0_h2 k0_h3
  rw [k0_part64_eq_skeleton]; unfold k0_part64_skel
  dsimp only
  rw [dif_pos k0_h2, dif_neg k0_h3]
  have o9_0 : k0_off9 i 0#32 = ![0, 0, 256 * (4 * (J i - 1) + 0)] := off9 i 0
  have o9_1 : k0_off9 i 1#32 = ![0, 0, 256 * (4 * (J i - 1) + 1)] := off9 i 1
  have o9_2 : k0_off9 i 2#32 = ![0, 0, 256 * (4 * (J i - 1) + 2)] := off9 i 2
  have o9_3 : k0_off9 i 3#32 = ![0, 0, 256 * (4 * (J i - 1) + 3)] := off9 i 3
  have o8_0 : k0_off8 i 0#32 = ![0, 0, 256 * (4 * J i + 1)] := off8 i 0 hr
  have o10_0 : k0_off10 i 0#32 = ![4 * J i + 3, 0, 0] := off10 i 0 hr
  have o11_0 : k0_off11 i 0#32 = ![4 * J i + 1, 0, 0] := off11 i 0 hr
  have o8_1 : k0_off8 i 1#32 = ![0, 0, 256 * (4 * J i + 0)] := off8 i 1 hr
  have o10_1 : k0_off10 i 1#32 = ![4 * J i + 2, 0, 0] := off10 i 1 hr
  have o11_1 : k0_off11 i 1#32 = ![4 * J i + 0, 0, 0] := off11 i 1 hr
  apply Ev.bind
  · rw [k0_part16_eq_skeleton]; unfold k0_part16_skel
    apply Ev.bind (Ev.load3 _ o8_0)
    apply Ev.bind (Ev.load3 _ o8_1)
    apply Ev.bind (Ev.load4 _ o8_0)
    apply Ev.bind (Ev.load4 _ o8_1)
    exact Ev.ret _ _
  apply Ev.bind
  · rw [k0_part17_eq_skeleton]; unfold k0_part17_skel
    apply Ev.bind (Ev.load3 _ o9_3)
    exact Ev.ret _ _
  apply Ev.bind
  · rw [k0_part18_eq_skeleton]; unfold k0_part18_skel
    apply Ev.bind (Ev.load11 0 rfl)
    apply Ev.bind (Ev.store11 0 rfl)
    apply Ev.bind (Ev.load3 _ o9_2)
    apply Ev.bind (Ev.load11 1 rfl)
    apply Ev.bind (Ev.store11 1 rfl)
    apply Ev.bind (Ev.load3 _ o9_1)
    apply Ev.bind (Ev.load11 2 rfl)
    apply Ev.bind (Ev.store11 2 rfl)
    apply Ev.bind (Ev.load3 _ o9_0)
    apply Ev.bind (Ev.load11 3 rfl)
    apply Ev.bind (Ev.store11 3 rfl)
    exact Ev.ret _ _
  apply Ev.bind
  · rw [k0_part19_eq_skeleton]; unfold k0_part19_skel
    apply Ev.bind (Ev.load4 _ o9_3)
    apply Ev.bind (Ev.load12 0 rfl)
    apply Ev.bind (Ev.store12 0 rfl)
    apply Ev.bind (Ev.load4 _ o9_2)
    apply Ev.bind (Ev.load12 1 rfl)
    apply Ev.bind (Ev.store12 1 rfl)
    apply Ev.bind (Ev.load4 _ o9_1)
    exact Ev.ret _ _
  apply Ev.bind
  · rw [k0_part20_eq_skeleton]; unfold k0_part20_skel
    apply Ev.bind (Ev.load12 2 rfl)
    apply Ev.bind (Ev.store12 2 rfl)
    apply Ev.bind (Ev.load4 _ o9_0)
    apply Ev.bind (Ev.load12 3 rfl)
    apply Ev.bind (Ev.store12 3 rfl)
    apply Ev.bind (Ev.load13 0 rfl)
    apply Ev.bind (Ev.store13 0 rfl)
    exact Ev.ret _ _
  apply Ev.bind
  · rw [k0_part21_eq_skeleton]; unfold k0_part21_skel
    apply Ev.bind (Ev.load9 _ o10_0)
    apply Ev.bind (Ev.store9 _ o10_0)
    apply Ev.bind (Ev.load10 _ o10_0)
    apply Ev.bind (Ev.store10 _ o10_0)
    apply Ev.bind (Ev.load13 1 rfl)
    apply Ev.bind (Ev.store13 1 rfl)
    apply Ev.bind (Ev.load9 _ o10_1)
    apply Ev.bind (Ev.store9 _ o10_1)
    apply Ev.bind (Ev.load10 _ o10_1)
    apply Ev.bind (Ev.store10 _ o10_1)
    apply Ev.bind (Ev.load13 2 rfl)
    apply Ev.bind (Ev.store13 2 rfl)
    exact Ev.ret _ _
  apply Ev.bind (Ev.load9 _ o11_0)
  apply Ev.bind (Ev.store9 _ o11_0)
  apply Ev.bind (Ev.load10 _ o11_0)
  apply Ev.bind (Ev.store10 _ o11_0)
  apply Ev.bind (Ev.load13 3 rfl)
  apply Ev.bind (Ev.store13 3 rfl)
  apply Ev.bind (Ev.load9 _ o11_1)
  apply Ev.bind (Ev.store9 _ o11_1)
  apply Ev.bind (Ev.load10 _ o11_1)
  apply Ev.bind (Ev.store10 _ o11_1)
  apply ev_sweep
  · try simp only [St.pe_q, St.pe_k, St.pe_v, St.pe_o, St.pe_dq, St.pe_dk, St.pe_dv, St.pe_e, St.pe_b, St.pe_z, St.pe_dw, St.pe_w, St.pb_q, St.pb_k, St.pb_v, St.pb_o, St.pb_dq, St.pb_dk, St.pb_dv, St.pb_e, St.pb_b, St.pb_z, St.pb_dw, St.pb_w, St.pz_q, St.pz_k, St.pz_v, St.pz_o, St.pz_dq, St.pz_dk, St.pz_dv, St.pz_e, St.pz_b, St.pz_z, St.pz_dw, St.pz_w, St.pdw_q, St.pdw_k, St.pdw_v, St.pdw_o, St.pdw_dq, St.pdw_dk, St.pdw_dv, St.pdw_e, St.pdw_b, St.pdw_z, St.pdw_dw, St.pdw_w, St.pw_q, St.pw_k, St.pw_v, St.pw_o, St.pw_dq, St.pw_dk, St.pw_dv, St.pw_e, St.pw_b, St.pw_z, St.pw_dw, St.pw_w, Function.update_apply, Nat.add_left_cancel_iff, reduceCtorEq, Nat.reduceEqDiff, if_false, if_true, ite_false, ite_true, reduceIte]
    rfl
  · apply St.ext
    all_goals try simp only [St.pe_q, St.pe_k, St.pe_v, St.pe_o, St.pe_dq, St.pe_dk, St.pe_dv, St.pe_e, St.pe_b, St.pe_z, St.pe_dw, St.pe_w, St.pb_q, St.pb_k, St.pb_v, St.pb_o, St.pb_dq, St.pb_dk, St.pb_dv, St.pb_e, St.pb_b, St.pb_z, St.pb_dw, St.pb_w, St.pz_q, St.pz_k, St.pz_v, St.pz_o, St.pz_dq, St.pz_dk, St.pz_dv, St.pz_e, St.pz_b, St.pz_z, St.pz_dw, St.pz_w, St.pdw_q, St.pdw_k, St.pdw_v, St.pdw_o, St.pdw_dq, St.pdw_dk, St.pdw_dv, St.pdw_e, St.pdw_b, St.pdw_z, St.pdw_dw, St.pdw_w, St.pw_q, St.pw_k, St.pw_v, St.pw_o, St.pw_dq, St.pw_dk, St.pw_dv, St.pw_e, St.pw_b, St.pw_z, St.pw_dw, St.pw_w, Function.update_apply, Nat.add_left_cancel_iff, reduceCtorEq, Nat.reduceEqDiff, if_false, if_true, ite_false, ite_true, reduceIte]
    all_goals rfl

end Cert.KernelIdeal.Own

end
-- ==== Proof.DiagNought.lean ====
/- The diagonal group, evaluated: the point's own tile in slot 3. -/
module

public import proofs.«01_k».proof.Proof.Sweep

@[expose] public section

set_option maxRecDepth 65536

noncomputable section

namespace Cert.KernelIdeal.Own

open Idealize.ShloMosaic Idealize.ShloMosaic.TcCoe Idealize.SL.Sem
open Cert.KernelIdeal Cert.KernelIdeal.Gen

variable {F : FTy → Type} [FloatOps F] {A : Bufs} {c : Dev nD}

set_option maxHeartbeats 800000 in
theorem ev_mid_3 (i : grid0.Coords) (arg1 : BitVec 32) (v7 v12 : FVec F S256x64 .bf16) (v14 : FVec F S64x256 .bf16)
    (v23 : FVec F S512x256 .bf16) (v28 : IVec S256x256 1) (c4_i32 v29 v34 v36 : BitVec 32) (v37 : BitVec 1) (s : St F)
    (k0_h2 : ¬ k0_cond2 i = 1#1) :
    Ev A c (k0_part64 i A.a2 A.h2 A.a3 A.h3 A.a4 A.h4 A.a5 A.h5 A.a6 A.h6 A.a7 A.h7 A.a8 A.h8 A.a9 A.h9 A.a10 A.h10 A.a11 A.h11 A.a12 A.h12 A.a13 A.h13 arg1 v7 v12 v14 v23 v28 c4_i32 v29 v34 v36 v37) s
      ⟨Scalar.select (Scalar.andi (Scalar.cmpi .ne v34 (Scalar.subi v36 (Scalar.extui v37))) (Scalar.cmpi .ne (Scalar.remsi arg1 c4_i32) 0#32)) (Scalar.subi v29 1#32) v29,
        768#32, flatf ((walk v7 v12 v14 v23 (J i) (across v28 v7 v12 v23 (J i) 3 s) (diagR v28 v7 (J i) 3 s 4) (J i)).1.dv 3), k0_pay413 v14 ((walk v7 v12 v14 v23 (J i) (across v28 v7 v12 v23 (J i) 3 s) (diagR v28 v7 (J i) 3 s 4) (J i)).1.w 0)⟩
      (walk v7 v12 v14 v23 (J i) (across v28 v7 v12 v23 (J i) 3 s) (diagR v28 v7 (J i) 3 s 4) (J i)).1 := by
  have hr := case1 i k0_h2
  rw [k0_part64_eq_skeleton]; unfold k0_part64_skel
  dsimp only
  rw [dif_neg k0_h2]
  have o13_0 : k0_off13 i 0#32 = ![0, 0, 256 * (4 * (J i - 1) + 0)] := off13 i 0
  have o13_1 : k0_off13 i 1#32 = ![0, 0, 256 * (4 * (J i - 1) + 1)] := off13 i 1
  have o13_2 : k0_off13 i 2#32 = ![0, 0, 256 * (4 * (J i - 1) + 2)] := off13 i 2
  have o13_3 : k0_off13 i 3#32 = ![0, 0, 256 * (4 * (J i - 1) + 3)] := off13 i 3
  have o14_0 : k0_off14 i 0#32 = ![4 * J i + 3, 0, 0] := off14 i 0 hr
  have o14_1 : k0_off14 i 1#32 = ![4 * J i + 2, 0, 0] := off14 i 1 hr
  have o14_2 : k0_off14 i 2#32 = ![4 * J i + 1, 0, 0] := off14 i 2 hr
  have o12 : k0_off12 i = ![0, 0, 256 * (4 * J i + 0)] := off12 i hr
  have o15 : k0_off15 i = ![4 * J i + 0, 0, 0] := off15 i hr
  apply Ev.bind
  · rw [k0_part22_eq_skeleton]; unfold k0_part22_skel
    apply Ev.bind (Ev.load3 _ o12)
    apply Ev.bind (Ev.load4 _ o12)
    exact Ev.ret _ _
  apply Ev.bind
  · rw [k0_part23_eq_skeleton]; unfold k0_part23_skel
    apply Ev.bind (Ev.load3 _ o13_3)
    apply Ev.bind (Ev.load11 0 rfl)
    apply Ev.bind (Ev.store11 0 rfl)
    apply Ev.bind (Ev.load3 _ o13_2)
    apply Ev.bind (Ev.load11 1 rfl)
    apply Ev.bind (Ev.store11 1 rfl)
    apply Ev.bind (Ev.load3 _ o13_1)
    apply Ev.bind (Ev.load11 2 rfl)
    apply Ev.bind (Ev.store11 2 rfl)
    exact Ev.ret _ _
  apply Ev.bind
  · rw [k0_part24_eq_skeleton]; unfold k0_part24_skel
    apply Ev.bind (Ev.load3 _ o13_0)
    apply Ev.bind (Ev.load11 3 rfl)
    apply Ev.bind (Ev.store11 3 rfl)
    apply Ev.bind (Ev.load4 _ o13_3)
    apply Ev.bind (Ev.load12 0 rfl)
    apply Ev.bind (Ev.store12 0 rfl)
    apply Ev.bind (Ev.load4 _ o13_2)
    exact Ev.ret _ _
  apply Ev.bind
  · rw [k0_part25_eq_skeleton]; unfold k0_part25_skel
    apply Ev.bind (Ev.load12 1 rfl)
    apply Ev.bind (Ev.store12 1 rfl)
    apply Ev.bind (Ev.load4 _ o13_1)
    apply Ev.bind (Ev.load12 2 rfl)
    apply Ev.bind (Ev.store12 2 rfl)
    apply Ev.bind (Ev.load4 _ o13_0)
    apply Ev.bind (Ev.load12 3 rfl)
    apply Ev.bind (Ev.store12 3 rfl)
    exact Ev.ret _ _
  apply Ev.bind
  · rw [k0_part26_eq_skeleton]; unfold k0_part26_skel
    apply Ev.bind (Ev.load13 0 rfl)
    apply Ev.bind (Ev.store13 0 rfl)
    apply Ev.bind (Ev.load9 _ o14_0)
    apply Ev.bind (Ev.store9 _ o14_0)
    apply Ev.bind (Ev.load10 _ o14_0)
    apply Ev.bind (Ev.store10 _ o14_0)
    apply Ev.bind (Ev.load13 1 rfl)
    apply Ev.bind (Ev.store13 1 rfl)
    apply Ev.bind (Ev.load9 _ o14_1)
    apply Ev.bind (Ev.store9 _ o14_1)
    apply Ev.bind (Ev.load10 _ o14_1)
    apply Ev.bind (Ev.store10 _ o14_1)
    exact Ev.ret _ _
  apply Ev.bind
  · rw [k0_part27_eq_skeleton]; unfold k0_part27_skel
    apply Ev.bind (Ev.load13 2 rfl)
    apply Ev.bind (Ev.store13 2 rfl)
    apply Ev.bind (Ev.load9 _ o14_2)
    apply Ev.bind (Ev.store9 _ o14_2)
    apply Ev.bind (Ev.load10 _ o14_2)
    apply Ev.bind (Ev.store10 _ o14_2)
    apply Ev.bind (Ev.load13 3 rfl)
    apply Ev.bind (Ev.store13 3 rfl)
    apply Ev.bind (Ev.load9 _ o15)
    apply Ev.bind (Ev.store9 _ o15)
    apply Ev.bind (Ev.load10 _ o15)
    apply Ev.bind (Ev.store10 _ o15)
    exact Ev.ret _ _
  apply ev_sweep
  · try simp only [St.pe_q, St.pe_k, St.pe_v, St.pe_o, St.pe_dq, St.pe_dk, St.pe_dv, St.pe_e, St.pe_b, St.pe_z, St.pe_dw, St.pe_w, St.pb_q, St.pb_k, St.pb_v, St.pb_o, St.pb_dq, St.pb_dk, St.pb_dv, St.pb_e, St.pb_b, St.pb_z, St.pb_dw, St.pb_w, St.pz_q, St.pz_k, St.pz_v, St.pz_o, St.pz_dq, St.pz_dk, St.pz_dv, St.pz_e, St.pz_b, St.pz_z, St.pz_dw, St.pz_w, St.pdw_q, St.pdw_k, St.pdw_v, St.pdw_o, St.pdw_dq, St.pdw_dk, St.pdw_dv, St.pdw_e, St.pdw_b, St.pdw_z, St.pdw_dw, St.pdw_w, St.pw_q, St.pw_k, St.pw_v, St.pw_o, St.pw_dq, St.pw_dk, St.pw_dv, St.pw_e, St.pw_b, St.pw_z, St.pw_dw, St.pw_w, Function.update_apply, Nat.add_left_cancel_iff, reduceCtorEq, Nat.reduceEqDiff, if_false, if_true, ite_false, ite_true, reduceIte]
    rfl
  · apply St.ext
    all_goals try simp only [St.pe_q, St.pe_k, St.pe_v, St.pe_o, St.pe_dq, St.pe_dk, St.pe_dv, St.pe_e, St.pe_b, St.pe_z, St.pe_dw, St.pe_w, St.pb_q, St.pb_k, St.pb_v, St.pb_o, St.pb_dq, St.pb_dk, St.pb_dv, St.pb_e, St.pb_b, St.pb_z, St.pb_dw, St.pb_w, St.pz_q, St.pz_k, St.pz_v, St.pz_o, St.pz_dq, St.pz_dk, St.pz_dv, St.pz_e, St.pz_b, St.pz_z, St.pz_dw, St.pz_w, St.pdw_q, St.pdw_k, St.pdw_v, St.pdw_o, St.pdw_dq, St.pdw_dk, St.pdw_dv, St.pdw_e, St.pdw_b, St.pdw_z, St.pdw_dw, St.pdw_w, St.pw_q, St.pw_k, St.pw_v, St.pw_o, St.pw_dq, St.pw_dk, St.pw_dv, St.pw_e, St.pw_b, St.pw_z, St.pw_dw, St.pw_w, Function.update_apply, Nat.add_left_cancel_iff, reduceCtorEq, Nat.reduceEqDiff, if_false, if_true, ite_false, ite_true, reduceIte]
    all_goals rfl

end Cert.KernelIdeal.Own

end
-- ==== Proof.Mid.lean ====
/- The diagonal group and the sweep down, evaluated. -/
module

public import proofs.«01_k».proof.Proof.DiagThree
public import proofs.«01_k».proof.Proof.DiagTwo
public import proofs.«01_k».proof.Proof.DiagOne
public import proofs.«01_k».proof.Proof.DiagNought

@[expose] public section

set_option maxRecDepth 65536

noncomputable section

namespace Cert.KernelIdeal.Own

open Idealize.ShloMosaic Idealize.ShloMosaic.TcCoe Idealize.SL.Sem
open Cert.KernelIdeal Cert.KernelIdeal.Gen

variable {F : FTy → Type} [FloatOps F] {A : Bufs} {c : Dev nD}

set_option maxHeartbeats 1600000 in
theorem ev_mid (i : grid0.Coords) (arg1 : BitVec 32) (v7 v12 : FVec F S256x64 .bf16) (v14 : FVec F S64x256 .bf16)
    (v23 : FVec F S512x256 .bf16) (v28 : IVec S256x256 1) (c4_i32 v29 v34 v36 : BitVec 32) (v37 : BitVec 1) (s p : St F) (d : ℕ)
    (hd : d = 3 - (i 1).val % 4)
    (hp : p = (walk v7 v12 v14 v23 (J i) (across v28 v7 v12 v23 (J i) d s) (diagR v28 v7 (J i) d s 4) (J i)).1) :
    Ev A c (k0_part64 i A.a2 A.h2 A.a3 A.h3 A.a4 A.h4 A.a5 A.h5 A.a6 A.h6 A.a7 A.h7 A.a8 A.h8 A.a9 A.h9 A.a10 A.h10 A.a11 A.h11 A.a12 A.h12 A.a13 A.h13 arg1 v7 v12 v14 v23 v28 c4_i32 v29 v34 v36 v37) s
      ⟨Scalar.select (Scalar.andi (Scalar.cmpi .ne v34 (Scalar.subi v36 (Scalar.extui v37))) (Scalar.cmpi .ne (Scalar.remsi arg1 c4_i32) 0#32)) (Scalar.subi v29 1#32) v29,
        768#32, flatf (p.dv 3), k0_pay413 v14 (p.w 0)⟩ p := by
  rcases Classical.em (k0_cond2 i = 1#1) with k0_h2 | k0_h2
  · rcases Classical.em (k0_cond3 i = 1#1) with k0_h3 | k0_h3
    · rcases Classical.em (k0_cond4 i = 1#1) with k0_h4 | k0_h4
      · have hr := case4 i k0_h2 k0_h3 k0_h4
        obtain rfl : d = 0 := by omega
        subst hp
        exact ev_mid_0 i arg1 v7 v12 v14 v23 v28 c4_i32 v29 v34 v36 v37 s k0_h2 k0_h3 k0_h4
      · have hr := case3 i k0_h2 k0_h3 k0_h4
        obtain rfl : d = 1 := by omega
        subst hp
        exact ev_mid_1 i arg1 v7 v12 v14 v23 v28 c4_i32 v29 v34 v36 v37 s k0_h2 k0_h3 k0_h4
    · have hr := case2 i k0_h2 k0_h3
      obtain rfl : d = 2 := by omega
      subst hp
      exact ev_mid_2 i arg1 v7 v12 v14 v23 v28 c4_i32 v29 v34 v36 v37 s k0_h2 k0_h3
  · have hr := case1 i k0_h2
    obtain rfl : d = 3 := by omega
    subst hp
    exact ev_mid_3 i arg1 v7 v12 v14 v23 v28 c4_i32 v29 v34 v36 v37 s k0_h2

end Cert.KernelIdeal.Own

end
-- ==== Proof.Up.lean ====
/- One trip of the sweep up, and the last half trip, evaluated. -/
module

public import proofs.«01_k».proof.Proof.Tiles

@[expose] public section

set_option maxRecDepth 65536

noncomputable section

namespace Cert.KernelIdeal.Own

open Idealize.ShloMosaic Idealize.ShloMosaic.TcCoe Idealize.SL.Sem
open Cert.KernelIdeal Cert.KernelIdeal.Gen

variable {F : FTy → Type} [FloatOps F] {A : Bufs} {c : Dev nD}

section Fields

variable (q : FVec F S64x256 .bf16) (pre : FVec F S256x256 .bf16) (s : St F) (n : ℕ)

theorem raised_q : (raised q pre s n).q = s.q := rfl
theorem raised_k : (raised q pre s n).k = s.k := rfl
theorem raised_v : (raised q pre s n).v = s.v := rfl
theorem raised_o : (raised q pre s n).o = s.o := rfl
theorem raised_dq : (raised q pre s n).dq = s.dq := rfl
theorem raised_dv : (raised q pre s n).dv = s.dv := rfl
theorem raised_e : (raised q pre s n).e = s.e := rfl
theorem raised_b : (raised q pre s n).b = s.b := rfl
theorem raised_z : (raised q pre s n).z = s.z := rfl
theorem raised_dw : (raised q pre s n).dw = s.dw := rfl
theorem raised_w : (raised q pre s n).w = s.w := rfl
theorem raised_dk : (raised q pre s n).dk = fun m => if m < n then pushK q (gradZ pre s m) (s.dk m) else s.dk m := rfl

end Fields

theorem not_lt_base (n h : ℕ) : (n + h < n) = False := eq_false (by omega)

theorem upd1 {α : Type} (f g : ℕ → α) (n : ℕ) :
    Function.update (fun m => if m < n then g m else f m) n (g n) = fun m => if m < n + 1 then g m else f m := by
  funext m
  by_cases h : m = n
  · subst h
    rw [Function.update_self, if_pos (Nat.lt_succ_self m)]
  · rw [Function.update_of_ne h]
    by_cases h' : m < n
    · rw [if_pos h', if_pos (by omega)]
    · rw [if_neg h', if_neg (by omega)]

theorem upd4 {α : Type} (f g : ℕ → α) (n : ℕ) :
    Function.update (Function.update (Function.update (Function.update (fun m => if m < n then g m else f m)
      (n + 0) (g (n + 0))) (n + 1) (g (n + 1))) (n + 2) (g (n + 2))) (n + 3) (g (n + 3))
      = fun m => if m < n + 4 then g m else f m := by
  rw [Nat.add_zero, upd1, upd1, upd1, upd1]

theorem upd8 {α : Type} (f g : ℕ → α) (n : ℕ) :
    Function.update (Function.update (Function.update (Function.update (Function.update (Function.update (Function.update
      (Function.update (fun m => if m < n then g m else f m)
      (n + 0) (g (n + 0))) (n + 1) (g (n + 1))) (n + 2) (g (n + 2))) (n + 3) (g (n + 3))) (n + 4) (g (n + 4)))
      (n + 5) (g (n + 5))) (n + 6) (g (n + 6))) (n + 7) (g (n + 7))
      = fun m => if m < n + 8 then g m else f m := by
  rw [upd4, upd1, upd1, upd1, upd1]

theorem ev_up (i : grid0.Coords) (t : Fin (k0_t3_loop i).trips)
    (o22_0 : k0_off22 i t 0#32 = ![8 * t.val + 0, 0, 0]) (o23_0 : k0_off23 i t 0#32 = ![0, 0, 256 * (8 * t.val + 0)])
    (o22_1 : k0_off22 i t 1#32 = ![8 * t.val + 1, 0, 0]) (o23_1 : k0_off23 i t 1#32 = ![0, 0, 256 * (8 * t.val + 1)])
    (o22_2 : k0_off22 i t 2#32 = ![8 * t.val + 2, 0, 0]) (o23_2 : k0_off23 i t 2#32 = ![0, 0, 256 * (8 * t.val + 2)])
    (o22_3 : k0_off22 i t 3#32 = ![8 * t.val + 3, 0, 0]) (o23_3 : k0_off23 i t 3#32 = ![0, 0, 256 * (8 * t.val + 3)])
    (o22_4 : k0_off22 i t 4#32 = ![8 * t.val + 4, 0, 0]) (o23_4 : k0_off23 i t 4#32 = ![0, 0, 256 * (8 * t.val + 4)])
    (o22_5 : k0_off22 i t 5#32 = ![8 * t.val + 5, 0, 0]) (o23_5 : k0_off23 i t 5#32 = ![0, 0, 256 * (8 * t.val + 5)])
    (o22_6 : k0_off22 i t 6#32 = ![8 * t.val + 6, 0, 0]) (o23_6 : k0_off23 i t 6#32 = ![0, 0, 256 * (8 * t.val + 6)])
    (o22_7 : k0_off22 i t 7#32 = ![8 * t.val + 7, 0, 0]) (o23_7 : k0_off23 i t 7#32 = ![0, 0, 256 * (8 * t.val + 7)])
    (v14 v16 : FVec F S64x256 .bf16) (v27 : FVec F S256x256 .bf16) (v45 v104 : BitVec 32) (v107 : FVec F S64x256 .f32) (s : St F) :
    Ev A c (k0_t3_body i A.a2 A.h2 A.a3 A.h3 A.a4 A.h4 A.a5 A.h5 A.a6 A.h6 A.a7 A.h7 A.a8 A.h8 A.a9 A.h9 A.a10 A.h10 A.a11 A.h11 A.a12 A.h12 A.a13 A.h13 v14 v16 v27 v45 v104 v107 t (accQ v27 s (8 * t.val), accP s (8 * t.val)))
      (raised v16 v27 s (8 * t.val)) (accQ v27 s (8 * t.val + 8), accP s (8 * t.val + 8)) (raised v16 v27 s (8 * t.val + 8)) := by
  apply Ev.cast
  · unfold k0_t3_body
    apply Ev.bind
    · rw [k0_part46_eq_skeleton]; unfold k0_part46_skel
      apply Ev.bind (Ev.load9 _ o22_0)
      apply Ev.bind (Ev.load9 _ o22_1)
      apply Ev.bind (Ev.load9 _ o22_2)
      apply Ev.bind (Ev.load9 _ o22_3)
      apply Ev.bind (Ev.load9 _ o22_4)
      apply Ev.bind (Ev.load9 _ o22_5)
      apply Ev.bind (Ev.load9 _ o22_6)
      apply Ev.bind (Ev.load9 _ o22_7)
      exact Ev.ret _ _
    apply Ev.bind
    · rw [k0_part47_eq_skeleton]; unfold k0_part47_skel
      apply Ev.bind (Ev.load10 _ o22_0)
      apply Ev.bind (Ev.load7 _ o23_0)
      apply Ev.bind (Ev.load7 _ o23_0)
      apply Ev.bind (Ev.store7 _ o23_0)
      exact Ev.ret _ _
    apply Ev.bind
    · rw [k0_part48_eq_skeleton]; unfold k0_part48_skel
      apply Ev.bind (Ev.load3 _ o23_0)
      apply Ev.bind (Ev.load10 _ o22_1)
      apply Ev.bind (Ev.load7 _ o23_1)
      apply Ev.bind (Ev.load7 _ o23_1)
      apply Ev.bind (Ev.store7 _ o23_1)
      apply Ev.bind (Ev.load3 _ o23_1)
      apply Ev.bind (Ev.load10 _ o22_2)
      exact Ev.ret _ _
    apply Ev.bind
    · rw [k0_part49_eq_skeleton]; unfold k0_part49_skel
      apply Ev.bind (Ev.load7 _ o23_2)
      apply Ev.bind (Ev.load7 _ o23_2)
      apply Ev.bind (Ev.store7 _ o23_2)
      apply Ev.bind (Ev.load3 _ o23_2)
      apply Ev.bind (Ev.load10 _ o22_3)
      apply Ev.bind (Ev.load7 _ o23_3)
      exact Ev.ret _ _
    apply Ev.bind
    · rw [k0_part50_eq_skeleton]; unfold k0_part50_skel
      apply Ev.bind (Ev.load7 _ o23_3)
      apply Ev.bind (Ev.store7 _ o23_3)
      apply Ev.bind (Ev.load3 _ o23_3)
      apply Ev.bind (Ev.load10 _ o22_4)
      apply Ev.bind (Ev.load7 _ o23_4)
      apply Ev.bind (Ev.load7 _ o23_4)
      apply Ev.bind (Ev.store7 _ o23_4)
      exact Ev.ret _ _
    apply Ev.bind
    · rw [k0_part51_eq_skeleton]; unfold k0_part51_skel
      apply Ev.bind (Ev.load3 _ o23_4)
      apply Ev.bind (Ev.load10 _ o22_5)
      apply Ev.bind (Ev.load7 _ o23_5)
      apply Ev.bind (Ev.load7 _ o23_5)
      apply Ev.bind (Ev.store7 _ o23_5)
      apply Ev.bind (Ev.load3 _ o23_5)
      apply Ev.bind (Ev.load10 _ o22_6)
      exact Ev.ret _ _
    apply Ev.bind
    · rw [k0_part52_eq_skeleton]; unfold k0_part52_skel
      apply Ev.bind (Ev.load7 _ o23_6)
      apply Ev.bind (Ev.load7 _ o23_6)
      apply Ev.bind (Ev.store7 _ o23_6)
      apply Ev.bind (Ev.load3 _ o23_6)
      apply Ev.bind (Ev.load10 _ o22_7)
      apply Ev.bind (Ev.load7 _ o23_7)
      exact Ev.ret _ _
    apply Ev.bind (Ev.load7 _ o23_7)
    apply Ev.bind (Ev.store7 _ o23_7)
    apply Ev.bind (Ev.load3 _ o23_7)
    exact Ev.ret _ _
  · simp only [St.pdk_q, St.pdk_k, St.pdk_v, St.pdk_o, St.pdk_dq, St.pdk_dk, St.pdk_dv, St.pdk_e, St.pdk_b, St.pdk_z, St.pdk_dw, St.pdk_w, raised_q, raised_k, raised_v, raised_o, raised_dq, raised_dk, raised_dv, raised_e, raised_b, raised_z, raised_dw, raised_w, Function.update_apply, Nat.add_left_cancel_iff, reduceCtorEq, Nat.reduceEqDiff, if_false, if_true, ite_false, ite_true, reduceIte, not_lt_base]
    rfl
  · apply St.ext
    all_goals try simp only [St.pdk_q, St.pdk_k, St.pdk_v, St.pdk_o, St.pdk_dq, St.pdk_dk, St.pdk_dv, St.pdk_e, St.pdk_b, St.pdk_z, St.pdk_dw, St.pdk_w, raised_q, raised_k, raised_v, raised_o, raised_dq, raised_dk, raised_dv, raised_e, raised_b, raised_z, raised_dw, raised_w, Function.update_apply, Nat.add_left_cancel_iff, reduceCtorEq, Nat.reduceEqDiff, if_false, if_true, ite_false, ite_true, reduceIte, not_lt_base]
    all_goals first | rfl | skip
    exact upd8 s.dk (fun m => pushK v16 (gradZ v27 s m) (s.dk m)) (8 * t.val)

end Cert.KernelIdeal.Own

end
-- ==== Proof.Land.lean ====
/- The sweep up, evaluated. -/
module

public import proofs.«01_k».proof.Proof.Point
public import proofs.«01_k».proof.Proof.Up

@[expose] public section

set_option maxRecDepth 65536

noncomputable section

namespace Cert.KernelIdeal.Own

open Idealize.ShloMosaic Idealize.ShloMosaic.TcCoe Idealize.SL.Sem
open Cert.KernelIdeal Cert.KernelIdeal.Gen

variable {F : FTy → Type} [FloatOps F] {A : Bufs} {c : Dev nD}

/-- The last three slots pushed. -/
def landing (o : FVec F S64x256 .bf16) (s : St F) : St F :=
  ((s.pdv 3 (pushV o (s.w 0) (s.dv 3))).pdv 2 (pushV o (s.w 1) (s.dv 2))).pdv 1 (pushV o (s.w 2) (s.dv 1))

set_option maxHeartbeats 1600000 in
theorem ev_land (i : grid0.Coords) (v14 : FVec F S64x256 .bf16) (v68 : BitVec 32) (s : St F) (v16 : FVec F S64x256 .bf16)
    (v27 : FVec F S256x256 .bf16) (v45 : BitVec 32) :
    Ev A c (k0_part65 i A.a2 A.h2 A.a3 A.h3 A.a4 A.h4 A.a5 A.h5 A.a6 A.h6 A.a7 A.h7 A.a8 A.h8 A.a9 A.h9 A.a10 A.h10 A.a11 A.h11 A.a12 A.h12 A.a13 A.h13 v14 v68 (flatf (s.dv 3)) (k0_pay413 v14 (s.w 0))) s ⟨0#32, flatf (s.dv 0)⟩ (landing v14 s)
      ∧ Ev A c (k0_part66 i A.a2 A.h2 A.a3 A.h3 A.a4 A.h4 A.a5 A.h5 A.a6 A.h6 A.a7 A.h7 A.a8 A.h8 A.a9 A.h9 A.a10 A.h10 A.a11 A.h11 A.a12 A.h12 A.a13 A.h13 v14 v16 v27 v45 0#32 (flatf (s.dv 0))) (landing v14 s)
          ⟨accQ v27 (landed v14 s) (8 * ((J i + 1) / 2)), accP (landed v14 s) (8 * ((J i + 1) / 2)), Scalar.select (Scalar.cmpi .eq 2#32 0#32) 1#32 2#32⟩
          (raised v16 v27 (landed v14 s) (8 * ((J i + 1) / 2))) := by
  refine ⟨?_, ?_⟩
  · rw [k0_part65_eq_skeleton]; unfold k0_part65_skel
    apply Ev.bind (Ev.load8 3 rfl)
    apply Ev.bind (Ev.store8 3 rfl)
    apply Ev.bind (Ev.load8 2 rfl)
    apply Ev.bind (Ev.load13 1 rfl)
    apply Ev.bind (Ev.load8 2 rfl)
    apply Ev.bind (Ev.store8 2 rfl)
    apply Ev.bind (Ev.load8 1 rfl)
    apply Ev.bind (Ev.load13 2 rfl)
    apply Ev.bind (Ev.load8 1 rfl)
    apply Ev.bind (Ev.store8 1 rfl)
    apply Ev.bind (Ev.load8 0 rfl)
    exact Ev.ret _ _
  · rw [k0_part66_eq_skeleton]; unfold k0_part66_skel
    dsimp only
    apply Ev.bind (Ev.load13 3 rfl)
    apply Ev.bind (Ev.load8 0 rfl)
    apply Ev.bind (s₁ := raised v16 v27 (landed v14 s) (8 * 0)) (a := ⟨⟩)
    · apply Ev.cast
      · exact Ev.store8 0 rfl
      · rfl
      · apply St.ext
        all_goals try unfold landing
        all_goals try simp only [St.pdv_q, St.pdv_k, St.pdv_v, St.pdv_o, St.pdv_dq, St.pdv_dk, St.pdv_dv, St.pdv_e, St.pdv_b, St.pdv_z, St.pdv_dw, St.pdv_w, Function.update_apply, Nat.add_left_cancel_iff, reduceCtorEq, Nat.reduceEqDiff, if_false, if_true, ite_false, ite_true, reduceIte]
        all_goals rfl
    apply Ev.bind (Ev.for (k0_t3_loop i) (k0_t3_ok i) (trips3 i)
      (fun t => (accQ v27 (landed v14 s) (8 * t), accP (landed v14 s) (8 * t)))
      (fun t => raised v16 v27 (landed v14 s) (8 * t)) _
      (fun t => ?_))

    · apply Ev.bind (Ev.for_none (k0_t4_loop i) (k0_t4_ok i) (trips4 i) _ _ _)
      exact Ev.ret _ _
    · exact ev_up i t (off22 i t 0) (off23 i t 0) (off22 i t 1) (off23 i t 1) (off22 i t 2) (off23 i t 2) (off22 i t 3) (off23 i t 3)
        (off22 i t 4) (off23 i t 4) (off22 i t 5) (off23 i t 5) (off22 i t 6) (off23 i t 6) (off22 i t 7) (off23 i t 7) _ _ _ _ _ _ _

end Cert.KernelIdeal.Own

end
-- ==== Proof.Body.lean ====
/- One point of the grid, evaluated. -/
module

public import proofs.«01_k».proof.Proof.Head
public import proofs.«01_k».proof.Proof.Mid
public import proofs.«01_k».proof.Proof.Land

@[expose] public section

set_option maxRecDepth 65536

noncomputable section

namespace Cert.KernelIdeal.Own

open Idealize.ShloMosaic Idealize.ShloMosaic.TcCoe Idealize.SL.Sem
open Cert.KernelIdeal Cert.KernelIdeal.Gen

variable {F : FTy → Type} [FloatOps F] {A : Bufs} {c : Dev nD}

set_option maxHeartbeats 1600000 in
theorem ev_out (i : grid0.Coords) (v156 R : FVec F S64x256 .f32) (s₀ s : St F) (hR : v156 = R) (hs : s₀ = s) :
    Ev A c (do
      let v159 : Vec F S1x64x256 .f32 ← Prog.lift (.load A.a6 (Rect.unit (s := S1x64x256) ![0, 0, 0] S1x64x256.size inb_S1x64x256_S1x64x256_0_0_0).toLoadRect (View.loadsAt_vmem h_S1x64x256))
      Prog.lift (.store A.a6 (Rect.unit (s := S1x64x256) ![0, 0, 0] S1x64x256.size inb_S1x64x256_S1x64x256_0_0_0) (k0_pay4 v156) Finset.univ (View.stores_vmem_bits_univ h_S1x64x256 rfl) (.inl rfl))
      (pure ⟨⟩ : Prog (TpuEff nD τ sig (Elt F) Λ₀ .tc) PUnit)) s₀ ⟨⟩ (s.pdq (k0_pay4 R)) := by
  subst hR hs
  apply Ev.bind (Ev.load6 rfl)
  apply Ev.bind (Ev.store6 rfl)
  exact Ev.ret _ _

set_option maxHeartbeats 1600000 in
/-- The body takes the contents `s` at a point to `after … s`. -/
theorem ev_body (i : grid0.Coords) (s : St F) :
    Ev A c (cc0_attn_bwd i A.a2 A.h2 A.a3 A.h3 A.a4 A.h4 A.a5 A.h5 A.a6 A.h6 A.a7 A.h7 A.a8 A.h8 A.a9 A.h9 A.a10 A.h10 A.a11 A.h11 A.a12 A.h12 A.a13 A.h13) s ⟨⟩ (after (i 1).val s) := by
  rw [cc0_attn_bwd_eq_skeleton]; unfold cc0_attn_bwd_skel
  obtain ⟨d, hd⟩ : ∃ d, d = 3 - (i 1).val % 4 := ⟨_, rfl⟩
  obtain ⟨p, hp⟩ : ∃ p, p = (walk (rows s.q) (rows s.o) (flat s.o) (k0_pay393 (F := F)) (J i)
      (across k0_pay395 (rows s.q) (rows s.o) (k0_pay393 (F := F)) (J i) d (cleared (i 1).val s))
      (diagR k0_pay395 (rows s.q) (J i) d (cleared (i 1).val s) 4) (J i)).1 := ⟨_, rfl⟩
  obtain ⟨u, hu⟩ : ∃ u, u = landed (flat s.o) p := ⟨_, rfl⟩
  have e : after (i 1).val s = (raised (flat s.q) (k0_pay394 (F := F)) u (4 * J i + 4)).pdq (k0_pay4 (accQ (k0_pay394 (F := F)) u (4 * J i + 4))) := by
    rw [hu, hp, hd]; rfl
  rw [e]
  apply Ev.bind (ev_head i s)
  apply Ev.bind (ev_mid i _ _ _ _ _ _ _ _ _ _ _ _ p d hd hp)
  apply Ev.bind (ev_land i _ _ p _ _ _).1
  apply Ev.bind (ev_land i _ 0#32 p _ _ _).2
  rw [← hu]
  dsimp only
  rcases Classical.em (k0_cond5 i = 1#1) with k0_h5 | k0_h5
  · have hj := (case5 i).mp k0_h5
    rw [dif_pos k0_h5]
    have e' : 8 * ((J i + 1) / 2) = 4 * J i := by omega
    rw [e']
    have o26_0 : k0_off26 i 0#32 = ![4 * J i + 0, 0, 0] := off26 i 0
    have o27_0 : k0_off27 i 0#32 = ![0, 0, 256 * (4 * J i + 0)] := off27 i 0
    have o26_1 : k0_off26 i 1#32 = ![4 * J i + 1, 0, 0] := off26 i 1
    have o27_1 : k0_off27 i 1#32 = ![0, 0, 256 * (4 * J i + 1)] := off27 i 1
    have o26_2 : k0_off26 i 2#32 = ![4 * J i + 2, 0, 0] := off26 i 2
    have o27_2 : k0_off27 i 2#32 = ![0, 0, 256 * (4 * J i + 2)] := off27 i 2
    have o26_3 : k0_off26 i 3#32 = ![4 * J i + 3, 0, 0] := off26 i 3
    have o27_3 : k0_off27 i 3#32 = ![0, 0, 256 * (4 * J i + 3)] := off27 i 3
    apply Ev.bind
    · rw [k0_part60_eq_skeleton]; unfold k0_part60_skel
      apply Ev.bind (Ev.load9 _ o26_0)
      apply Ev.bind (Ev.load9 _ o26_1)
      apply Ev.bind (Ev.load9 _ o26_2)
      apply Ev.bind (Ev.load9 _ o26_3)
      apply Ev.bind (Ev.load10 _ o26_0)
      exact Ev.ret _ _
    apply Ev.bind
    · rw [k0_part61_eq_skeleton]; unfold k0_part61_skel
      apply Ev.bind (Ev.load7 _ o27_0)
      apply Ev.bind (Ev.load7 _ o27_0)
      apply Ev.bind (Ev.store7 _ o27_0)
      apply Ev.bind (Ev.load3 _ o27_0)
      apply Ev.bind (Ev.load10 _ o26_1)
      apply Ev.bind (Ev.load7 _ o27_1)
      apply Ev.bind (Ev.load7 _ o27_1)
      apply Ev.bind (Ev.store7 _ o27_1)
      exact Ev.ret _ _
    apply Ev.bind
    · rw [k0_part62_eq_skeleton]; unfold k0_part62_skel
      apply Ev.bind (Ev.load3 _ o27_1)
      apply Ev.bind (Ev.load10 _ o26_2)
      apply Ev.bind (Ev.load7 _ o27_2)
      apply Ev.bind (Ev.load7 _ o27_2)
      apply Ev.bind (Ev.store7 _ o27_2)
      apply Ev.bind (Ev.load3 _ o27_2)
      exact Ev.ret _ _
    apply Ev.bind (Ev.load10 _ o26_3)
    apply Ev.bind (Ev.load7 _ o27_3)
    apply Ev.bind (Ev.load7 _ o27_3)
    apply Ev.bind (Ev.store7 _ o27_3)
    apply Ev.bind (Ev.load3 _ o27_3)
    apply ev_out i
    · simp only [St.pdk_q, St.pdk_k, St.pdk_v, St.pdk_o, St.pdk_dq, St.pdk_dk, St.pdk_dv, St.pdk_e, St.pdk_b, St.pdk_z, St.pdk_dw, St.pdk_w, raised_q, raised_k, raised_v, raised_o, raised_dq, raised_dk, raised_dv, raised_e, raised_b, raised_z, raised_dw, raised_w, Function.update_apply, Nat.add_left_cancel_iff, reduceCtorEq, Nat.reduceEqDiff, if_false, if_true, ite_false, ite_true, reduceIte, not_lt_base]
      rfl
    · apply St.ext
      all_goals try simp only [St.pdk_q, St.pdk_k, St.pdk_v, St.pdk_o, St.pdk_dq, St.pdk_dk, St.pdk_dv, St.pdk_e, St.pdk_b, St.pdk_z, St.pdk_dw, St.pdk_w, raised_q, raised_k, raised_v, raised_o, raised_dq, raised_dk, raised_dv, raised_e, raised_b, raised_z, raised_dw, raised_w, Function.update_apply, Nat.add_left_cancel_iff, reduceCtorEq, Nat.reduceEqDiff, if_false, if_true, ite_false, ite_true, reduceIte, not_lt_base]
      all_goals first | rfl | skip
      exact upd4 u.dk (fun m => pushK (flat s.q) (gradZ (k0_pay394 (F := F)) u m) (u.dk m)) (4 * J i)
  · have hj : ¬ J i % 2 = 0 := fun h => k0_h5 ((case5 i).mpr h)
    rw [dif_neg k0_h5]
    have e' : 8 * ((J i + 1) / 2) = 4 * J i + 4 := by omega
    rw [e']
    exact ev_out i _ _ _ _ rfl rfl
  all_goals first | exact 0#32 | exact flat s.q | exact k0_pay394 (F := F)

end Cert.KernelIdeal.Own

end
-- ==== Proof.Run.lean ====
/- The kernel's run, at any value instance: the body at a grid point from the buffers as the pipeline hands them over,
   the body obligation with the three gradients left unnamed, and the run of @main that ends with the arguments as they
   were and every counter at zero. -/
module

public import proofs.«01_k».proof.Proof.Body
public import Idealize.ShloMosaic.Lib.Pipeline.Frame

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

/-! ## Whole arrays cut into tiles -/

/-- Tile `n` of a row of 8192. -/
def cutCol {α : Type} (X : S1x64x8192.Idx → α) (n : ℕ) (x : S1x64x256.Idx) : α :=
  X fun
    | ⟨0, _⟩ => x (0 : Fin 3)
    | ⟨1, _⟩ => x (1 : Fin 3)
    | ⟨2, _⟩ => (⟨(256 * n + (x (2 : Fin 3)).val) % 8192, Nat.mod_lt _ (Nat.zero_lt_succ 8191)⟩ : Fin 8192)

theorem unCol_cutCol {α : Type} (X : S1x64x8192.Idx → α) : unCol (cutCol X) = X := by
  funext i
  show X _ = X i
  congr 1
  funext a
  match a with
  | ⟨0, _⟩ => rfl
  | ⟨1, _⟩ => rfl
  | ⟨2, _⟩ => exact Fin.ext (by
      have h2 : (i (2 : Fin 3)).val < 8192 := (i (2 : Fin 3)).isLt
      show (256 * ((i (2 : Fin 3)).val / 256) + (i (2 : Fin 3)).val % 256) % 8192 = (i (2 : Fin 3)).val
      omega)

/-- Tile `n` of a stack of 32. -/
def cutStack32 {α : Type} (X : S32x256x256.Idx → α) (n : ℕ) (x : S1x256x256.Idx) : α :=
  X fun
    | ⟨0, _⟩ => (⟨n % 32, Nat.mod_lt _ (Nat.zero_lt_succ 31)⟩ : Fin 32)
    | ⟨1, _⟩ => x (1 : Fin 3)
    | ⟨2, _⟩ => x (2 : Fin 3)

theorem unStack32_cut {α : Type} (X : S32x256x256.Idx → α) : unStack32 (cutStack32 X) = X := by
  funext i
  show X _ = X i
  congr 1
  funext a
  match a with
  | ⟨0, _⟩ => exact Fin.ext (Nat.mod_eq_of_lt (i (0 : Fin 3)).isLt)
  | ⟨1, _⟩ => rfl
  | ⟨2, _⟩ => rfl

/-- Tile `n` of a stack of four. -/
def cutStack4 {α : Type} (X : S4x256x256.Idx → α) (n : ℕ) (x : S1x256x256.Idx) : α :=
  X fun
    | ⟨0, _⟩ => (⟨n % 4, Nat.mod_lt _ (Nat.zero_lt_succ 3)⟩ : Fin 4)
    | ⟨1, _⟩ => x (1 : Fin 3)
    | ⟨2, _⟩ => x (2 : Fin 3)

theorem unStack4_cut {α : Type} (X : S4x256x256.Idx → α) : unStack4 (cutStack4 X) = X := by
  funext i
  show X _ = X i
  congr 1
  funext a
  match a with
  | ⟨0, _⟩ => exact Fin.ext (Nat.mod_eq_of_lt (i (0 : Fin 3)).isLt)
  | ⟨1, _⟩ => rfl
  | ⟨2, _⟩ => rfl

/-! ## A held buffer as the pipeline states it -/

theorem owns_pt (c : Dev nD) {s : Shape} {e : EltTy} (m : Memref sig .tc .vmem s e) (h : m.IsWhole) (X : s.Idx → Elt F e) :
    (owns (c : Thread nD τ) m fullShare X : sProp 𝕄) ⊢ pt c m h X := by
  unfold owns pt
  iintro ⟨%f, %hf, H⟩
  obtain rfl := h.eq_unread hf
  iexact H

theorem pt_owns (c : Dev nD) {s : Shape} {e : EltTy} (m : Memref sig .tc .vmem s e) (h : m.IsWhole) (X : s.Idx → Elt F e) :
    (pt c m h X : sProp 𝕄) ⊢ owns (c : Thread nD τ) m fullShare X := by
  unfold owns pt
  iintro H
  iexists _
  isplitr; swap; · iexact H
  ipureintro; exact h.read_unread X

/-- The contents at a point, from what the pipeline's buffers and the scratch hold. -/
def entry (q : Vec F S1x64x256 .bf16) (k v : Vec F S1x64x8192 .bf16) (o : Vec F S1x64x256 .bf16)
    (dq : Vec F S1x64x256 .f32) (dk dv : Vec F S1x64x8192 .f32)
    (e : Vec F S32x256x256 .f32) (b : Vec F S32x256x256 .bf16) (z dw : Vec F S4x256x256 .f32) (w : Vec F S4x256x256 .bf16) : St F :=
  ⟨q, cutCol k, cutCol v, o, dq, cutCol dk, cutCol dv, cutStack32 e, cutStack32 b, cutStack4 z, cutStack4 dw, cutStack4 w⟩

/-! ## The body at a point -/

/-- The buffers the pipeline hands the body at point `t`. -/
abbrev bufs (t : Fin cfg0.N) : Bufs :=
  ⟨win0_0.stage (cfg0.slots t 0), hstage0_0 ((cfg0.slots t 0).cast nbuf0_0), win0_1.stage (cfg0.slots t 1), hstage0_1 ((cfg0.slots t 1).cast nbuf0_1),
   win0_2.stage (cfg0.slots t 2), hstage0_2 ((cfg0.slots t 2).cast nbuf0_2), win0_3.stage (cfg0.slots t 3), hstage0_3 ((cfg0.slots t 3).cast nbuf0_3),
   win0_4.stage (cfg0.slots t 4), hstage0_4 ((cfg0.slots t 4).cast nbuf0_4), win0_5.stage (cfg0.slots t 5), hstage0_5 ((cfg0.slots t 5).cast nbuf0_5),
   win0_6.stage (cfg0.slots t 6), hstage0_6 ((cfg0.slots t 6).cast nbuf0_6),
   Memref.whole cc0_scratch0, Memref.isWhole_whole _, Memref.whole cc0_scratch1, Memref.isWhole_whole _, Memref.whole cc0_scratch2, Memref.isWhole_whole _,
   Memref.whole cc0_scratch3, Memref.isWhole_whole _, Memref.whole cc0_scratch4, Memref.isWhole_whole _⟩

/-- The scratch buffers, each at some contents, as the body's own. -/
theorem scratch_eq (c : Dev nD) :
    (Pipeline.ΦA spec0 c : sProp 𝕄)
      = iprop(((∃ d, owns (c : Thread nD τ) (Memref.whole cc0_scratch0) fullShare d) ∗ (∃ d, owns (c : Thread nD τ) (Memref.whole cc0_scratch1) fullShare d)
          ∗ (∃ d, owns (c : Thread nD τ) (Memref.whole cc0_scratch2) fullShare d) ∗ (∃ d, owns (c : Thread nD τ) (Memref.whole cc0_scratch3) fullShare d)
          ∗ (∃ d, owns (c : Thread nD τ) (Memref.whole cc0_scratch4) fullShare d)) ∗ (∃ r, prngReg c r)) := by
  unfold Pipeline.ΦA
  rw [scopedRest0_eq]
  simp only [owns_whole]

/-- The buffers at contents `s`, given in the pipeline's form. -/
theorem held_intro (A : Bufs) (c : Dev nD) (q : Vec F S1x64x256 .bf16) (k v : Vec F S1x64x8192 .bf16) (o : Vec F S1x64x256 .bf16)
    (dq : Vec F S1x64x256 .f32) (dk dv : Vec F S1x64x8192 .f32)
    (e : Vec F S32x256x256 .f32) (b : Vec F S32x256x256 .bf16) (z dw : Vec F S4x256x256 .f32) (w : Vec F S4x256x256 .bf16) :
    (iprop(owns (c : Thread nD τ) A.a2 fullShare q ∗ owns (c : Thread nD τ) A.a3 fullShare k ∗ owns (c : Thread nD τ) A.a4 fullShare v
      ∗ owns (c : Thread nD τ) A.a5 fullShare o ∗ owns (c : Thread nD τ) A.a6 fullShare dq ∗ owns (c : Thread nD τ) A.a7 fullShare dk
      ∗ owns (c : Thread nD τ) A.a8 fullShare dv ∗ owns (c : Thread nD τ) A.a9 fullShare e ∗ owns (c : Thread nD τ) A.a10 fullShare b
      ∗ owns (c : Thread nD τ) A.a11 fullShare z ∗ owns (c : Thread nD τ) A.a12 fullShare dw ∗ owns (c : Thread nD τ) A.a13 fullShare w) : sProp 𝕄)
      ⊢ Held A c (entry q k v o dq dk dv e b z dw w) := by
  unfold Held entry
  dsimp only
  simp only [unCol_cutCol, unStack32_cut, unStack4_cut]
  iintro ⟨H2, H3, H4, H5, H6, H7, H8, H9, H10, H11, H12, H13⟩
  isplitl [H2]; · iapply (owns_pt c A.a2 A.h2 q) $$ H2
  isplitl [H3]; · iapply (owns_pt c A.a3 A.h3 k) $$ H3
  isplitl [H4]; · iapply (owns_pt c A.a4 A.h4 v) $$ H4
  isplitl [H5]; · iapply (owns_pt c A.a5 A.h5 o) $$ H5
  isplitl [H6]; · iapply (owns_pt c A.a6 A.h6 dq) $$ H6
  isplitl [H7]; · iapply (owns_pt c A.a7 A.h7 dk) $$ H7
  isplitl [H8]; · iapply (owns_pt c A.a8 A.h8 dv) $$ H8
  isplitl [H9]; · iapply (owns_pt c A.a9 A.h9 e) $$ H9
  isplitl [H10]; · iapply (owns_pt c A.a10 A.h10 b) $$ H10
  isplitl [H11]; · iapply (owns_pt c A.a11 A.h11 z) $$ H11
  isplitl [H12]; · iapply (owns_pt c A.a12 A.h12 dw) $$ H12
  iapply (owns_pt c A.a13 A.h13 w) $$ H13

theorem held_elim (A : Bufs) (c : Dev nD) (s : St F) :
    (Held A c s : sProp 𝕄) ⊢ iprop(owns (c : Thread nD τ) A.a2 fullShare s.q ∗ owns (c : Thread nD τ) A.a3 fullShare (unCol s.k)
      ∗ owns (c : Thread nD τ) A.a4 fullShare (unCol s.v)
      ∗ owns (c : Thread nD τ) A.a5 fullShare s.o ∗ owns (c : Thread nD τ) A.a6 fullShare s.dq ∗ owns (c : Thread nD τ) A.a7 fullShare (unCol s.dk)
      ∗ owns (c : Thread nD τ) A.a8 fullShare (unCol s.dv) ∗ (∃ d, owns (c : Thread nD τ) A.a9 fullShare d) ∗ (∃ d, owns (c : Thread nD τ) A.a10 fullShare d)
      ∗ (∃ d, owns (c : Thread nD τ) A.a11 fullShare d) ∗ (∃ d, owns (c : Thread nD τ) A.a12 fullShare d) ∗ (∃ d, owns (c : Thread nD τ) A.a13 fullShare d)) := by
  unfold Held
  iintro ⟨H2, H3, H4, H5, H6, H7, H8, H9, H10, H11, H12, H13⟩
  isplitl [H2]; · iapply (pt_owns c A.a2 A.h2 _) $$ H2
  isplitl [H3]; · iapply (pt_owns c A.a3 A.h3 _) $$ H3
  isplitl [H4]; · iapply (pt_owns c A.a4 A.h4 _) $$ H4
  isplitl [H5]; · iapply (pt_owns c A.a5 A.h5 _) $$ H5
  isplitl [H6]; · iapply (pt_owns c A.a6 A.h6 _) $$ H6
  isplitl [H7]; · iapply (pt_owns c A.a7 A.h7 _) $$ H7
  isplitl [H8]; · iapply (pt_owns c A.a8 A.h8 _) $$ H8
  isplitl [H9]; · iexists _; iapply (pt_owns c A.a9 A.h9 _) $$ H9
  isplitl [H10]; · iexists _; iapply (pt_owns c A.a10 A.h10 _) $$ H10
  isplitl [H11]; · iexists _; iapply (pt_owns c A.a11 A.h11 _) $$ H11
  isplitl [H12]; · iexists _; iapply (pt_owns c A.a12 A.h12 _) $$ H12
  iexists _; iapply (pt_owns c A.a13 A.h13 _) $$ H13

theorem walk_in (r ro : FVec F S256x64 .bf16) (o : FVec F S64x256 .bf16) (tri : FVec F S512x256 .bf16) (a : ℕ) (s : St F) (R : FVec F S256x1 .f32) (t : ℕ) :
    (walk r ro o tri a s R t).1.q = s.q ∧ (walk r ro o tri a s R t).1.k = s.k ∧ (walk r ro o tri a s R t).1.v = s.v ∧ (walk r ro o tri a s R t).1.o = s.o := by
  induction t with
  | zero => exact ⟨rfl, rfl, rfl, rfl⟩
  | succ t ih => exact ih

theorem cleared_k (x : ℕ) (s : St F) : (cleared x s).k = s.k := by unfold cleared; split <;> rfl
theorem cleared_v (x : ℕ) (s : St F) : (cleared x s).v = s.v := by unfold cleared; split <;> rfl

theorem after_in (x : ℕ) (s : St F) : (after x s).q = s.q ∧ (after x s).k = s.k ∧ (after x s).v = s.v ∧ (after x s).o = s.o := by
  have h := walk_in (rows s.q) (rows s.o) (flat s.o) (k0_pay393 (F := F)) (x / 4)
    (across k0_pay395 (rows s.q) (rows s.o) (k0_pay393 (F := F)) (x / 4) (3 - x % 4) (cleared x s))
    (diagR k0_pay395 (rows s.q) (x / 4) (3 - x % 4) (cleared x s) 4) (x / 4)
  exact ⟨h.1.trans (cleared_q x s), h.2.1.trans (cleared_k x s), h.2.2.1.trans (cleared_v x s), h.2.2.2.trans (cleared_o x s)⟩

/-- The body at a point, beside anything else: the inputs are left as found, the gradients at the point's, and the
    scratch at some contents. -/
theorem point_wp (c : Dev nD) (t : Fin cfg0.N) (A : Bufs) (hA : bufs t = A) (R : sProp 𝕄)
    (q : Vec F S1x64x256 .bf16) (k v : Vec F S1x64x8192 .bf16) (o : Vec F S1x64x256 .bf16)
    (dq : Vec F S1x64x256 .f32) (dk dv : Vec F S1x64x8192 .f32)
    (e : Vec F S32x256x256 .f32) (b : Vec F S32x256x256 .bf16) (z dw : Vec F S4x256x256 .f32) (w : Vec F S4x256x256 .bf16) (s : St F)
    (hs : after (grid0.coords t 1).val (entry q k v o dq dk dv e b z dw w) = s) :
    (iprop(R ∗ owns (c : Thread nD τ) A.a2 fullShare q ∗ owns (c : Thread nD τ) A.a3 fullShare k ∗ owns (c : Thread nD τ) A.a4 fullShare v
      ∗ owns (c : Thread nD τ) A.a5 fullShare o ∗ owns (c : Thread nD τ) A.a6 fullShare dq ∗ owns (c : Thread nD τ) A.a7 fullShare dk
      ∗ owns (c : Thread nD τ) A.a8 fullShare dv ∗ owns (c : Thread nD τ) A.a9 fullShare e ∗ owns (c : Thread nD τ) A.a10 fullShare b
      ∗ owns (c : Thread nD τ) A.a11 fullShare z ∗ owns (c : Thread nD τ) A.a12 fullShare dw ∗ owns (c : Thread nD τ) A.a13 fullShare w) : sProp 𝕄)
      ⊢ wp frame (wpE (defs₀ (F := F)) Variants.none (c : Thread nD τ) none) Set.univ (bodyAt0 t)
          (fun _ => iprop(R ∗ owns (c : Thread nD τ) A.a2 fullShare q ∗ owns (c : Thread nD τ) A.a3 fullShare k
            ∗ owns (c : Thread nD τ) A.a4 fullShare v
            ∗ owns (c : Thread nD τ) A.a5 fullShare o ∗ owns (c : Thread nD τ) A.a6 fullShare s.dq ∗ owns (c : Thread nD τ) A.a7 fullShare (unCol s.dk)
            ∗ owns (c : Thread nD τ) A.a8 fullShare (unCol s.dv) ∗ (∃ d, owns (c : Thread nD τ) A.a9 fullShare d) ∗ (∃ d, owns (c : Thread nD τ) A.a10 fullShare d)
            ∗ (∃ d, owns (c : Thread nD τ) A.a11 fullShare d) ∗ (∃ d, owns (c : Thread nD τ) A.a12 fullShare d) ∗ (∃ d, owns (c : Thread nD τ) A.a13 fullShare d))) := by
  have h := after_in (grid0.coords t 1).val (entry q k v o dq dk dv e b z dw w)
  rw [hs] at h
  have hq : s.q = q := h.1
  have hk : unCol s.k = k := by rw [h.2.1]; exact unCol_cutCol k
  have hv : unCol s.v = v := by rw [h.2.2.1]; exact unCol_cutCol v
  have ho : s.o = o := h.2.2.2
  have h₂ : (Held A c s : sProp 𝕄) ⊢ _ := held_elim A c s
  rw [hq, hk, hv, ho] at h₂
  have h₁ := held_intro A c q k v o dq dk dv e b z dw w
  subst hA
  have hrun := (ev_body (A := bufs t) (c := c) (grid0.coords t) (entry q k v o dq dk dv e b z dw w)).run (fun _ => Held (bufs t) c s) (by rw [hs])
  exact (sep_mono .rfl (h₁.trans hrun)).trans ((wp_frame_l _ _ _).trans (wp_mono _ _ _ fun _ => sep_mono .rfl h₂))

/-! ## The obligation with the gradients unnamed -/

variable (m : (ℓ : Loc nD τ sig) → Buf (Elt F) ℓ) (ρ : Dev nD → PrngReg)

/-- The three gradients. -/
def unnamed : Fin 7 → Bool := fun w => decide (4 ≤ w.val)

/-- The inputs are left as found and nothing is said of the gradients. -/
def loose (_ : Fin 1) (c : Dev nD) : Dat τ (Elt F) Unit ℕ (UR sig nD τ) ℕ cfg0 c where
  A w := V m c (Pipeline.arrRef spec0 w)
  after := fun w t => match w with
    | ⟨0, _⟩ => iblk m c 0 t
    | ⟨1, _⟩ => iblk m c 1 t
    | ⟨2, _⟩ => iblk m c 2 t
    | ⟨3, _⟩ => iblk m c 3 t
    | ⟨4, h⟩ => Dat.unnamed (cfg := cfg0) ⟨4, h⟩ t
    | ⟨5, h⟩ => Dat.unnamed (cfg := cfg0) ⟨5, h⟩ t
    | ⟨6, h⟩ => Dat.unnamed (cfg := cfg0) ⟨6, h⟩ t
  Φ _ := Pipeline.ΦA spec0 c
  q _ := fullShare
  owed _ := 0

theorem loose_A (c : Dev nD) (w : Fin cfg0.W) : (loose m 0 c).A w = V m c (Pipeline.arrRef spec0 w) := by dsimp only [loose]

def loosePre (c : Dev nD) (t : Fin cfg0.N) : sProp 𝕄 :=
  iprop((loose m 0 c).Φ t.castSucc ∗ (loose m 0 c).owesAt () t.castSucc
    ∗ (∃ d, owns (c : Thread nD τ) (bufs t).a2 fullShare ((loose m 0 c).before 0 t d))
    ∗ (∃ d, owns (c : Thread nD τ) (bufs t).a3 fullShare ((loose m 0 c).before 1 t d))
    ∗ (∃ d, owns (c : Thread nD τ) (bufs t).a4 fullShare ((loose m 0 c).before 2 t d))
    ∗ (∃ d, owns (c : Thread nD τ) (bufs t).a5 fullShare ((loose m 0 c).before 3 t d))
    ∗ (∃ d, owns (c : Thread nD τ) (bufs t).a6 fullShare d)
    ∗ (∃ d, owns (c : Thread nD τ) (bufs t).a7 fullShare d)
    ∗ (∃ d, owns (c : Thread nD τ) (bufs t).a8 fullShare d))

def loosePost (c : Dev nD) (t : Fin cfg0.N) : sProp 𝕄 :=
  iprop((loose m 0 c).Φ t.succ ∗ (loose m 0 c).owesAt () t.succ
    ∗ owns (c : Thread nD τ) (bufs t).a2 fullShare ((loose m 0 c).after 0 t)
    ∗ owns (c : Thread nD τ) (bufs t).a3 fullShare ((loose m 0 c).after 1 t)
    ∗ owns (c : Thread nD τ) (bufs t).a4 fullShare ((loose m 0 c).after 2 t)
    ∗ owns (c : Thread nD τ) (bufs t).a5 fullShare ((loose m 0 c).after 3 t)
    ∗ (∃ d, owns (c : Thread nD τ) (bufs t).a6 fullShare d)
    ∗ (∃ d, owns (c : Thread nD τ) (bufs t).a7 fullShare d)
    ∗ (∃ d, owns (c : Thread nD τ) (bufs t).a8 fullShare d))

theorem loose_sound (c : Dev nD) (t : Fin cfg0.N) :
    loosePre m c t ⊢ wp frame (wpE (defs₀ (F := F)) Variants.none c none) Set.univ (bodyAt0 t) (fun _ => loosePost m c t) := by
  unfold loosePre loosePost
  rw [show (loose m 0 c).Φ t.succ = (loose m 0 c).Φ t.castSucc from rfl,
    show (loose m 0 c).owesAt () t.succ = (loose m 0 c).owesAt () t.castSucc from rfl,
    show (loose m 0 c).Φ t.castSucc = Pipeline.ΦA spec0 c from rfl, scratch_eq]
  simp only [before0_0_of m (loose m 0 c) (loose_A m c 0) (fun _ => rfl) t, before0_1_of m (loose m 0 c) (loose_A m c 1) (fun _ => rfl) t,
    before0_2_of m (loose m 0 c) (loose_A m c 2) (fun _ => rfl) t, before0_3_of m (loose m 0 c) (loose_A m c 3) (fun _ => rfl) t]
  iintro ⟨⟨⟨⟨%d9, H9⟩, ⟨%d10, H10⟩, ⟨%d11, H11⟩, ⟨%d12, H12⟩, ⟨%d13, H13⟩⟩, Hg⟩, HO, ⟨%d2, H2⟩, ⟨%d3, H3⟩, ⟨%d4, H4⟩, ⟨%d5, H5⟩, ⟨%d6, H6⟩, ⟨%d7, H7⟩, ⟨%d8, H8⟩⟩
  iapply (wp_mono _ _ _ (Q := fun _ => iprop(((∃ r, prngReg c r) ∗ (loose m 0 c).owesAt () t.castSucc) ∗ _)) fun _ => ?_)
  rotate_left
  · iapply (point_wp c t (bufs t) rfl (iprop((∃ r, prngReg c r) ∗ (loose m 0 c).owesAt () t.castSucc)) (iblk m c 0 t) (iblk m c 1 t) (iblk m c 2 t) (iblk m c 3 t)
      d6 d7 d8 d9 d10 d11 d12 d13 _ rfl)
    isplitl [Hg HO]
    · isplitl [Hg]; · iexact Hg
      iexact HO
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  · generalize after (grid0.coords t 1).val (entry (iblk m c 0 t) (iblk m c 1 t) (iblk m c 2 t) (iblk m c 3 t) d6 d7 d8 d9 d10 d11 d12 d13) = s
    iintro ⟨⟨Hg, HO⟩, H2, H3, H4, H5, H6, H7, H8, ⟨%e9, H9⟩, ⟨%e10, H10⟩, ⟨%e11, H11⟩, ⟨%e12, H12⟩, ⟨%e13, H13⟩⟩
    isplitl [H9 H10 H11 H12 H13 Hg]
    · isplitl [H9 H10 H11 H12 H13]
      · isplitl [H9]; · iexists _; iexact H9
        isplitl [H10]; · iexists _; iexact H10
        isplitl [H11]; · iexists _; iexact H11
        isplitl [H12]; · iexists _; iexact H12
        iexists _; iexact H13
      iexact Hg
    isplitl [HO]; · iexact HO
    isplitl [H2]; · iexact H2
    isplitl [H3]; · iexact H3
    isplitl [H4]; · iexact H4
    isplitl [H5]; · iexact H5
    isplitl [H6]; · iexists _; iexact H6
    isplitl [H7]; · iexists _; iexact H7
    iexists _; iexact H8

theorem loose_row (t : Fin cfg0.N) : defs₀ (F := F) .tc cfg0.body (cfg0.bodyArgs t (cfg0.slots t)) = bodyAt0 t := by
  unfold defs₀; rw [Defs.onTc_tc]

theorem loose_obligation (c : Dev nD) :
    BodyObligation (loose (F := F) m 0 c) (defs₀ (F := F)) Variants.none () Set.univ unnamed := fun t => by
  rw [bigSep_W0, bigSep_W0, loose_row]
  exact triple_restated (loose_sound m c t) rfl .rfl fun _ => .rfl

set_option backward.isDefEq.respectTransparency.types false in
theorem run_loose :
    θ_run defs (onTc (τ := τ) (main (F := F))) (s₀ m ρ)
      (fun r => Pipeline.RDat.FramePost (cfgs 0) (fun c => (loose m 0 c).toRForget unnamed) (V m) r ∧ r.2.sem = fun _ => 0) :=
  Pipeline.θ_run_frame_track_forget (Q' := _) cfgs (loose m) (0 : Fin 1) launch0 defs₀ Variants.none unnamed m ρ main
    (hbody := fun c => (loose_obligation m c).loose) (hshare := fun c => (loose m 0 c).share_full fun _ => rfl)
    (howed := fun _ _ => rfl) (V := V m) (hmain := hmain m Variants.none) (hA := loose_A m)
    (hin := fun _ => .rfl) (hout := fun _ => .rfl) (hQ' := fun _ h => h)

/-- @main ends, its arguments as they were and every counter at zero. -/
theorem run_main :
    θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
      ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩, h.2⟩) (run_loose m ρ)

end Cert.KernelIdeal.Own

end
-- ==== Proof.Spec.lean ====
/- The gradient of one head's attention over the reals, element by element, and the few sums it is made of. -/
module

public import Idealize.ShloMosaic.PureOps.Ideal
public import Mathlib.Algebra.BigOperators.Intervals

@[expose] public section

noncomputable section

namespace Cert.Spec

open Idealize.ShloMosaic Finset

/-- One head: the scaled queries, the keys, the values and the output's gradient, by feature and position. -/
structure Head where
  q : ℕ → ℕ → ℝ
  k : ℕ → ℕ → ℝ
  v : ℕ → ℕ → ℝ
  o : ℕ → ℕ → ℝ

variable (H : Head)

/-- The logarithm of the logistic function, -/
def lbr (z : ℝ) : ℝ := min z 0 - Real.log (1 + Real.exp (min z 0 + min z 0 - z))

/-- and of its complement. -/
def lcr (z : ℝ) : ℝ := lbr z - z

def Z (t s : ℕ) : ℝ := ∑ d ∈ range 64, H.q d t * H.k d s

def Y (t s : ℕ) : ℝ := ∑ d ∈ range 64, H.o d t * H.v d s

def X (t s : ℕ) : ℝ := if s < t then lcr (Z H t s) else 0

/-- The logarithms of the complements from position `n` on. -/
def tail (t n : ℕ) : ℝ := ∑ r ∈ Ico n 8192, X H t r

def W (t s : ℕ) : ℝ := if s < t then Real.exp (lbr (Z H t s) + tail H t (s + 1)) else 0

def E (t s : ℕ) : ℝ := Y H t s * W H t s

def B (t s : ℕ) : ℝ := if s < t then Real.exp (lbr (Z H t s)) else 0

/-- The sum before position `n`. -/
def pre (t n : ℕ) : ℝ := ∑ r ∈ range n, E H t r

/-- The gradient of the logits. -/
def G (t s : ℕ) : ℝ := E H t s - B H t s * (E H t s + pre H t s)

/-- The gradients gathered over the first `n` positions: of the queries before scaling, -/
def gQ (d t n : ℕ) : ℝ := ∑ s ∈ range n, H.k d s * G H t s

/-- the keys -/
def gK (d s n : ℕ) : ℝ := ∑ t ∈ range n, H.q d t * G H t s

/-- and the values. -/
def gV (d s n : ℕ) : ℝ := ∑ t ∈ range n, H.o d t * W H t s

variable {H}

theorem X_past {t s : ℕ} (h : t ≤ s) : X H t s = 0 := if_neg (not_lt.2 h)
theorem W_past {t s : ℕ} (h : t ≤ s) : W H t s = 0 := if_neg (not_lt.2 h)
theorem B_past {t s : ℕ} (h : t ≤ s) : B H t s = 0 := if_neg (not_lt.2 h)
theorem E_past {t s : ℕ} (h : t ≤ s) : E H t s = 0 := by unfold E; rw [W_past h, mul_zero]
theorem G_past {t s : ℕ} (h : t ≤ s) : G H t s = 0 := by unfold G; rw [E_past h, B_past h]; ring

theorem tail_past {t n : ℕ} (h : t ≤ n) : tail H t n = 0 :=
  sum_eq_zero fun r hr => X_past (h.trans (mem_Ico.1 hr).1)

/-- A stretch of 256 positions, of which those after the `j`-th are summed. -/
theorem tail_split {t n j : ℕ} (hn : 256 * n + 256 ≤ 8192) (hj : j < 256) :
    (∑ r ∈ range 256, X H t (256 * n + r) * (if j < r then 1 else 0)) + tail H t (256 * (n + 1)) = tail H t (256 * n + j + 1) := by
  have h1 : (∑ r ∈ range 256, X H t (256 * n + r) * (if j < r then 1 else 0)) = ∑ r ∈ Ico (256 * n + j + 1) (256 * (n + 1)), X H t r := by
    have e : ∀ r ∈ range 256, X H t (256 * n + r) * (if j < r then 1 else 0) = if j < r then X H t (256 * n + r) else 0 := by
      intro r _; split <;> ring
    rw [sum_congr rfl e, ← sum_filter]
    have : (range 256).filter (fun r => j < r) = Ico (j + 1) 256 := by
      ext r; simp only [mem_filter, mem_range, mem_Ico]; omega
    rw [this, sum_Ico_add (fun r => X H t r) (j + 1) 256 (256 * n)]
    congr 1
    congr 1 <;> omega
  rw [h1]
  unfold tail
  exact sum_Ico_consecutive _ (by omega) (by omega)

theorem tail_step {t n : ℕ} (hn : 256 * n + 256 ≤ 8192) :
    tail H t (256 * (n + 1)) + ∑ r ∈ range 256, X H t (256 * n + r) = tail H t (256 * n) := by
  unfold tail
  have h1 : (∑ r ∈ range 256, X H t (256 * n + r)) = ∑ r ∈ Ico (256 * n) (256 * (n + 1)), X H t r := by
    rw [sum_Ico_eq_sum_range]
    congr 1
    congr 1
    omega
  rw [h1, add_comm]
  exact sum_Ico_consecutive _ (by omega) (by omega)

theorem pre_split {t n j : ℕ} (hj : j < 256) :
    (∑ r ∈ range 256, E H t (256 * n + r) * (if r < j then 1 else 0)) + pre H t (256 * n) = pre H t (256 * n + j) := by
  have e : ∀ r ∈ range 256, E H t (256 * n + r) * (if r < j then 1 else 0) = if r < j then E H t (256 * n + r) else 0 := by
    intro r _; split <;> ring
  rw [sum_congr rfl e, ← sum_filter]
  have : (range 256).filter (fun r => r < j) = range j := by
    ext r; simp only [mem_filter, mem_range]; omega
  rw [this]
  unfold pre
  rw [sum_range_add, add_comm]

theorem pre_step {t n : ℕ} : pre H t (256 * n) + ∑ r ∈ range 256, E H t (256 * n + r) = pre H t (256 * (n + 1)) := by
  unfold pre
  rw [show 256 * (n + 1) = 256 * n + 256 by ring, sum_range_add]

theorem gQ_step {d t n : ℕ} : gQ H d t (256 * n) + ∑ r ∈ range 256, H.k d (256 * n + r) * G H t (256 * n + r) = gQ H d t (256 * (n + 1)) := by
  unfold gQ
  rw [show 256 * (n + 1) = 256 * n + 256 by ring, sum_range_add]

theorem gK_step {d s n : ℕ} : gK H d s (256 * n) + ∑ r ∈ range 256, H.q d (256 * n + r) * G H (256 * n + r) s = gK H d s (256 * (n + 1)) := by
  unfold gK
  rw [show 256 * (n + 1) = 256 * n + 256 by ring, sum_range_add]

theorem gV_step {d s n : ℕ} : gV H d s (256 * n) + ∑ r ∈ range 256, H.o d (256 * n + r) * W H (256 * n + r) s = gV H d s (256 * (n + 1)) := by
  unfold gV
  rw [show 256 * (n + 1) = 256 * n + 256 by ring, sum_range_add]

/-- Past the diagonal nothing is gathered. -/
theorem gQ_all {d t n : ℕ} (h : t ≤ n) (hn : n ≤ 8192) : gQ H d t n = gQ H d t 8192 := by
  unfold gQ
  rw [← sum_range_add_sum_Ico _ hn]
  rw [sum_eq_zero (s := Ico n 8192), add_zero]
  intro s hs
  rw [G_past (h.trans (mem_Ico.1 hs).1), mul_zero]

/-! ## Real numbers among the extended ones -/

theorem coe_sum (n : ℕ) (f : ℕ → ℝ) : ∑ x : Fin n, ((f x.val : ℝ) : EReal) = ((∑ k ∈ range n, f k : ℝ) : EReal) := by
  rw [Fin.sum_univ_eq_sum_range (fun k => ((f k : ℝ) : EReal))]
  induction n with
  | zero => simp
  | succ n ih => rw [sum_range_succ, sum_range_succ, ih, EReal.coe_add]

theorem coe_min (a b : ℝ) : min (a : EReal) (b : EReal) = ((min a b : ℝ) : EReal) :=
  (EReal.coe_strictMono.monotone.map_min).symm

theorem coe_max (a b : ℝ) : max (a : EReal) (b : EReal) = ((max a b : ℝ) : EReal) :=
  (EReal.coe_strictMono.monotone.map_max).symm

theorem log_one_add_exp (r : ℝ) : Ideal.log (1 + Ideal.exp (r : EReal)) = ((Real.log (1 + Real.exp r) : ℝ) : EReal) := by
  rw [Ideal.exp_coe, ← EReal.coe_one, ← EReal.coe_add, Ideal.log_coe, if_neg]
  have := Real.exp_pos r
  linarith

theorem lb_coe (r : ℝ) : min (r : EReal) 0 - Ideal.log (1 + Ideal.exp (min (r : EReal) 0 + min (r : EReal) 0 - (r : EReal))) = ((lbr r : ℝ) : EReal) := by
  rw [← EReal.coe_zero, coe_min, ← EReal.coe_add, ← EReal.coe_sub, log_one_add_exp, ← EReal.coe_sub]
  rfl

end Cert.Spec

end
-- ==== Proof.Lift.lean ====
/- What the tile operations make of tiles of real numbers. -/
module

public import proofs.«01_k».proof.Proof.Point
public import proofs.«01_k».proof.Proof.Spec
public import Idealize.ShloMosaic.Lib.Pointwise
public import Idealize.ShloMosaic.Lib.WordCmp

@[expose] public section

set_option maxRecDepth 16384

noncomputable section

namespace Cert.KernelIdeal.Own

open Idealize.ShloMosaic Idealize.ShloMosaic.TcCoe
open Cert.KernelIdeal Cert.KernelIdeal.Gen
open Cert.Spec (lbr lcr coe_sum)
open Finset (range)

/-! ## Tiles of real numbers -/

def T (x : S256x256.Idx → EReal) (f : ℕ → ℕ → ℝ) : Prop := ∀ i j : Fin 256, x (ix2 i j) = ((f i.val j.val : ℝ) : EReal)
def T1 (x : S1x256x256.Idx → EReal) (f : ℕ → ℕ → ℝ) : Prop := ∀ i j : Fin 256, x (ix3 0 i j) = ((f i.val j.val : ℝ) : EReal)
def C1 (x : S1x64x256.Idx → EReal) (f : ℕ → ℕ → ℝ) : Prop := ∀ (i : Fin 64) (j : Fin 256), x (ix3 0 i j) = ((f i.val j.val : ℝ) : EReal)
def D1 (x : S64x256.Idx → EReal) (f : ℕ → ℕ → ℝ) : Prop := ∀ (i : Fin 64) (j : Fin 256), x (ix2 i j) = ((f i.val j.val : ℝ) : EReal)
def Q1 (x : S256x64.Idx → EReal) (f : ℕ → ℕ → ℝ) : Prop := ∀ (i : Fin 256) (j : Fin 64), x (ix2 i j) = ((f i.val j.val : ℝ) : EReal)
def R1 (x : S256x1.Idx → EReal) (f : ℕ → ℝ) : Prop := ∀ i : Fin 256, x (ix2 i 0) = ((f i.val : ℝ) : EReal)

theorem T.to {x : S256x256.Idx → EReal} {f g : ℕ → ℕ → ℝ} (h : T x f) (e : ∀ i j, i < 256 → j < 256 → f i j = g i j) : T x g :=
  fun i j => by rw [h, e _ _ i.2 j.2]
theorem T1.to {x : S1x256x256.Idx → EReal} {f g : ℕ → ℕ → ℝ} (h : T1 x f) (e : ∀ i j, i < 256 → j < 256 → f i j = g i j) : T1 x g :=
  fun i j => by rw [h, e _ _ i.2 j.2]
theorem C1.to {x : S1x64x256.Idx → EReal} {f g : ℕ → ℕ → ℝ} (h : C1 x f) (e : ∀ i j, i < 64 → j < 256 → f i j = g i j) : C1 x g :=
  fun i j => by rw [h, e _ _ i.2 j.2]
theorem D1.to {x : S64x256.Idx → EReal} {f g : ℕ → ℕ → ℝ} (h : D1 x f) (e : ∀ i j, i < 64 → j < 256 → f i j = g i j) : D1 x g :=
  fun i j => by rw [h, e _ _ i.2 j.2]
theorem R1.to {x : S256x1.Idx → EReal} {f g : ℕ → ℝ} (h : R1 x f) (e : ∀ i, i < 256 → f i = g i) : R1 x g :=
  fun i => by rw [h, e _ i.2]

/-! ## Literals and masks -/

theorem lit_one : Ideal.ofBits .f32 0x3F800000#32 = ((1 : ℝ) : EReal) := by
  simp [Ideal.ofBits, Ideal.ieee, -EReal.coe_mul]
  norm_num
theorem lit_eighth : Ideal.ofBits .f32 0x3E000000#32 = ((1 / 8 : ℝ) : EReal) := by
  simp [Ideal.ofBits, Ideal.ieee, -EReal.coe_mul]
  norm_num

theorem mask_coe (b : BitVec 1) : FloatOps.sitofp (F := Ideal) .f32 (BitVec.setWidth 32 b) = (((if b = 1#1 then 1 else 0 : ℝ)) : EReal) := by
  have : ∀ b : BitVec 1, (BitVec.setWidth 32 b).toInt = if b = 1#1 then 1 else 0 := by decide
  show (((BitVec.setWidth 32 b).toInt : ℝ) : EReal) = _
  rw [this]
  split <;> simp

theorem slt_one {i j : ℕ} (hi : i < 8192) (hj : j < 8192) : Scalar.cmpi .slt (BitVec.ofNat 32 i) (BitVec.ofNat 32 j) = 1#1 ↔ i < j :=
  WordCmp.cmpi_slt_ofNat_eq_one_iff (by omega) (by omega)

theorem mask_slt {i j : ℕ} (hi : i < 8192) (hj : j < 8192) :
    FloatOps.sitofp (F := Ideal) .f32 (BitVec.setWidth 32 (Scalar.cmpi .slt (BitVec.ofNat 32 i) (BitVec.ofNat 32 j))) = (((if i < j then 1 else 0 : ℝ)) : EReal) := by
  rw [mask_coe]
  simp only [slt_one hi hj]

theorem mask_sgt {i j : ℕ} (hi : i < 8192) (hj : j < 8192) :
    FloatOps.sitofp (F := Ideal) .f32 (BitVec.setWidth 32 (Scalar.cmpi .sgt (BitVec.ofNat 32 i) (BitVec.ofNat 32 j))) = (((if j < i then 1 else 0 : ℝ)) : EReal) := by
  rw [mask_coe]
  have : Scalar.cmpi .sgt (BitVec.ofNat 32 i) (BitVec.ofNat 32 j) = 1#1 ↔ j < i := by
    rw [← slt_one hj hi]
    rfl
  simp only [this]

/-! ## The operations -/

variable {f g h : ℕ → ℕ → ℝ}

theorem up_T {x : FVec Ideal S256x256 .f32} (hx : T x f) : T1 (up x) f := fun i j => by pointwise [up]; exact hx i j
theorem upb_T {x : FVec Ideal S256x256 .bf16} (hx : T x f) : T1 (upb x) f := fun i j => by pointwise [upb]; exact hx i j
theorem dn_T {x : Vec Ideal S1x256x256 .f32} (hx : T1 x f) : T (dn x) f := fun i j => by pointwise [dn]; exact hx i j
theorem dnb_T {x : Vec Ideal S1x256x256 .bf16} (hx : T1 x f) : T (dnb x) f := fun i j => by pointwise [dnb]; exact hx i j
theorem half_T {x : FVec Ideal S256x256 .f32} (hx : T x f) : T (half x) f := fun i j => by pointwise [half]; exact hx i j
theorem flat_D {x : Vec Ideal S1x64x256 .bf16} (hx : C1 x f) : D1 (flat x) f := fun i j => by pointwise [flat]; exact hx i j
theorem rows_Q {x : Vec Ideal S1x64x256 .bf16} (hx : C1 x f) : Q1 (rows x) (fun i d => f d i) := fun i j => by
  pointwise [rows, flat]; exact hx j i

theorem zero_T : T (zero (F := Ideal)) (fun _ _ => 0) := fun i j => by pointwise [zero]; simp
theorem zerob_T : T (zerob (F := Ideal)) (fun _ _ => 0) := fun i j => by pointwise [zerob]; simp
theorem none_C : C1 (none₀ (F := Ideal)) (fun _ _ => 0) := fun i j => by pointwise [none₀]; simp
theorem nought_R : R1 (broadcast S256x1 (Scalar.ofBits .f32 0x00000000#32 : Ideal .f32)) (fun _ => 0) := fun i => by pointwise []; simp
theorem nought_D : D1 (broadcast S64x256 (Scalar.ofBits .f32 0x00000000#32 : Ideal .f32)) (fun _ _ => 0) := fun i j => by pointwise []; simp

theorem mul_T {x y : FVec Ideal S256x256 .f32} (hx : T x f) (hy : T y g) : T (mulf x y) (fun i j => f i j * g i j) := fun i j => by
  pointwise []
  rw [hx, hy, EReal.coe_mul]

theorem exp_T {x : FVec Ideal S256x256 .f32} (hx : T x f) : T (exp x) (fun i j => Real.exp (f i j)) := fun i j => by
  pointwise []
  rw [hx, Ideal.exp_coe]

theorem prod_T {r : FVec Ideal S256x64 .bf16} {k : Vec Ideal S1x64x256 .bf16} (hr : Q1 r f) (hk : C1 k g) :
    T (prod r k) (fun i j => ∑ d ∈ range 64, f i d * g d j) := fun i j => by
  pointwise [prod, flat]
  simp only [hr i _, hk _ j, ← EReal.coe_mul]
  exact coe_sum 64 (fun d => f i d * g d j)

theorem lb_T {z : FVec Ideal S256x256 .f32} (hz : T z f) : T (lb z) (fun i j => lbr (f i j)) := fun i j => by
  pointwise [lb]
  rw [hz]
  exact Cert.Spec.lb_coe _

theorem lc_T {z : FVec Ideal S256x256 .f32} (hz : T z f) : T (lc z) (fun i j => lcr (f i j)) := fun i j => by
  have := lb_T hz i j
  pointwise [lc]
  rw [this, hz, ← EReal.coe_sub]
  rfl

theorem pay393 (i : Fin 256) (j : Fin 256) : (k0_pay393 (F := Ideal)) (ix2 ⟨i.val, by omega⟩ j) = (((if j.val < i.val then 1 else 0 : ℝ)) : EReal) := by
  unfold_payloads
  pointwise []
  exact mask_sgt (by omega) (by omega)

theorem aft_T {l : FVec Ideal S256x256 .f32} (hl : T l f) :
    T (aft (k0_pay393 (F := Ideal)) l) (fun i j => ∑ r ∈ range 256, f i r * if j < r then 1 else 0) := fun i j => by
  pointwise [aft, split]
  have z : ∀ x : Fin 256, l (ix2 i x) - l (ix2 i x) = 0 := fun x => by
    rw [hl, ← EReal.coe_sub, sub_self, EReal.coe_zero]
  simp only [z, zero_mul, Finset.sum_const_zero, add_zero]
  simp only [hl i _, pay393, ← EReal.coe_mul]
  exact coe_sum 256 (fun r => f i r * if j.val < r then 1 else 0)

theorem nxt_R {R : FVec Ideal S256x1 .f32} {l : FVec Ideal S256x256 .f32} {p : ℕ → ℝ} (hR : R1 R p) (hl : T l f) :
    R1 (nxt R l) (fun i => p i + ∑ r ∈ range 256, f i r) := fun i => by
  pointwise [nxt]
  simp only [hR i, hl i _]
  rw [coe_sum 256 (fun r => f i r), ← EReal.coe_add]

theorem wgt_T {a l : FVec Ideal S256x256 .f32} {R : FVec Ideal S256x1 .f32} {p : ℕ → ℝ} (ha : T a g) (hl : T l f) (hR : R1 R p) :
    T (wgt (k0_pay393 (F := Ideal)) a l R) (fun i j => Real.exp (g i j + ((∑ r ∈ range 256, f i r * if j < r then 1 else 0) + p i))) := fun i j => by
  have := aft_T hl i j
  pointwise [wgt]
  rw [this, ha, hR, ← EReal.coe_add, ← EReal.coe_add, Ideal.exp_coe, add_assoc]

theorem sel_T {x : FVec Ideal S256x256 .f32} (hx : T x f) : T (select k0_pay395 x (zero (F := Ideal))) (fun i j => if j < i then f i j else 0) := fun i j => by
  have := zero_T i j
  have h5 : k0_pay395 (ix2 i j) = Scalar.cmpi .slt (BitVec.ofNat 32 j.val) (BitVec.ofNat 32 i.val) := by
    unfold_payloads
    pointwise []
    rfl
  pointwise []
  rw [this, hx, h5]
  have h6 := slt_one (i := j.val) (j := i.val) (by omega) (by omega)
  by_cases hc : j.val < i.val
  · rw [h6.2 hc, if_pos hc]
    exact ValueIdx.select_one _ _
  · rw [if_neg hc]
    exact if_neg (fun e => hc (h6.1 e))

theorem pushV_C {o : FVec Ideal S64x256 .bf16} {w : Vec Ideal S1x256x256 .bf16} {d : Vec Ideal S1x64x256 .f32} (ho : D1 o f) (hw : T1 w g) (hd : C1 d h) :
    C1 (pushV o w d) (fun i j => h i j + ∑ r ∈ range 256, f i r * g r j) := fun i j => by
  pointwise [pushV, lift, flatf, dnb]
  simp only [hd i j, ho i _, hw _ j, ← EReal.coe_mul]
  rw [coe_sum 256 (fun r => f i r * g r j), ← EReal.coe_add]

theorem pushK_C {q : FVec Ideal S64x256 .bf16} {w : FVec Ideal S256x256 .bf16} {d : Vec Ideal S1x64x256 .f32} (ho : D1 q f) (hw : T w g) (hd : C1 d h) :
    C1 (pushK q w d) (fun i j => h i j + ∑ r ∈ range 256, f i r * g r j) := fun i j => by
  pointwise [pushK, lift, flatf]
  simp only [hd i j, ho i _, hw _ j, ← EReal.coe_mul]
  rw [coe_sum 256 (fun r => f i r * g r j), ← EReal.coe_add]

theorem pushQ_D {acc : FVec Ideal S64x256 .f32} {k : Vec Ideal S1x64x256 .bf16} {w : FVec Ideal S256x256 .bf16} (ha : D1 acc h) (hk : C1 k f) (hw : T w g) :
    D1 (pushQ acc k w) (fun i j => h i j + ∑ r ∈ range 256, f i r * g j r) := fun i j => by
  pointwise [pushQ, flat]
  simp only [ha i j, hk i _, hw j _, ← EReal.coe_mul]
  rw [coe_sum 256 (fun r => f i r * g j r), ← EReal.coe_add]

theorem pay4_C {acc : FVec Ideal S64x256 .f32} (ha : D1 acc f) : C1 (k0_pay4 acc) (fun i j => f i j * (1 / 8)) := fun i j => by
  unfold_payloads
  pointwise []
  rw [ha, lit_eighth, ← EReal.coe_mul]

theorem pay394 (i : Fin 256) (j : Fin 256) : (k0_pay394 (F := Ideal)) (ix2 i j) = (((if i.val < j.val then 1 else 0 : ℝ)) : EReal) := by
  unfold_payloads
  pointwise []
  exact mask_slt (by omega) (by omega)

theorem gz_T {e : FVec Ideal S256x256 .f32} {b : FVec Ideal S256x256 .bf16} {P : FVec Ideal S256x1 .f32} {p : ℕ → ℝ} (he : T e f) (hb : T b g) (hP : R1 P p) :
    T (gz (k0_pay394 (F := Ideal)) e b P) (fun i j => f i j - g i j * (f i j + ((∑ r ∈ range 256, f i r * if r < j then 1 else 0) + p i))) := fun i j => by
  pointwise [gz, half]
  simp only [he i _, hb i j, hP i, pay394 _ j, ← EReal.coe_mul]
  rw [coe_sum 256 (fun r => f i r * if r < j.val then 1 else 0)]
  simp only [← EReal.coe_mul, ← EReal.coe_add, ← EReal.coe_sub, add_assoc]

end Cert.KernelIdeal.Own

end
-- ==== Proof.State.lean ====
/- The contents of the buffers through a point of the grid, when the inputs are real numbers: each tile is the tile of
   the head's gradient it is named for. -/
module

public import proofs.«01_k».proof.Proof.Lift

@[expose] public section

set_option maxRecDepth 16384

noncomputable section

namespace Cert.KernelIdeal.Own

open Idealize.ShloMosaic Idealize.ShloMosaic.TcCoe
open Cert.KernelIdeal Cert.KernelIdeal.Gen
open Cert.Spec
open Finset (range)

/-! ## Four tiles replaced -/

theorem put4_in {α : Type} {f : ℕ → α} {n : Fin 4 → ℕ} {y : Fin 4 → α} {a m : ℕ} (hn : ∀ h, n h = 4 * a + (3 - h.val))
    (h₁ : 4 * a ≤ m) (h₂ : m < 4 * a + 4) : put4 f n y m = y ⟨4 * a + 3 - m, by omega⟩ := by
  have e0 : n 0 = 4 * a + 3 := hn 0
  have e1 : n 1 = 4 * a + 2 := hn 1
  have e2 : n 2 = 4 * a + 1 := hn 2
  have e3 : n 3 = 4 * a := hn 3
  unfold put4
  rw [e0, e1, e2, e3]
  obtain rfl | rfl | rfl | rfl : m = 4 * a ∨ m = 4 * a + 1 ∨ m = 4 * a + 2 ∨ m = 4 * a + 3 := by omega
  · rw [Function.update_self]
    congr 1; exact Fin.ext (by show 3 = 4 * a + 3 - 4 * a; omega)
  · rw [Function.update_of_ne (by omega), Function.update_self]
    congr 1; exact Fin.ext (by show 2 = 4 * a + 3 - (4 * a + 1); omega)
  · rw [Function.update_of_ne (by omega), Function.update_of_ne (by omega), Function.update_self]
    congr 1; exact Fin.ext (by show 1 = 4 * a + 3 - (4 * a + 2); omega)
  · rw [Function.update_of_ne (by omega), Function.update_of_ne (by omega), Function.update_of_ne (by omega), Function.update_self]
    congr 1; exact Fin.ext (by show 0 = 4 * a + 3 - (4 * a + 3); omega)

theorem put4_out {α : Type} {f : ℕ → α} {n : Fin 4 → ℕ} {y : Fin 4 → α} {a m : ℕ} (hn : ∀ h, n h = 4 * a + (3 - h.val))
    (h : m < 4 * a ∨ 4 * a + 4 ≤ m) : put4 f n y m = f m := by
  have e0 : n 0 = 4 * a + 3 := hn 0
  have e1 : n 1 = 4 * a + 2 := hn 1
  have e2 : n 2 = 4 * a + 1 := hn 2
  have e3 : n 3 = 4 * a := hn 3
  unfold put4
  rw [e0, e1, e2, e3, Function.update_of_ne (by omega), Function.update_of_ne (by omega), Function.update_of_ne (by omega),
    Function.update_of_ne (by omega)]

theorem put4_slot {α : Type} {f : ℕ → α} {y : Fin 4 → α} {m : ℕ} (hm : m < 4) : put4 f (fun h => h.val) y m = y ⟨m, hm⟩ := by
  unfold put4
  obtain rfl | rfl | rfl | rfl : m = 0 ∨ m = 1 ∨ m = 2 ∨ m = 3 := by omega
  · rw [Function.update_of_ne (by decide), Function.update_of_ne (by decide), Function.update_of_ne (by decide)]
    exact Function.update_self _ _ _
  · rw [Function.update_of_ne (by decide), Function.update_of_ne (by decide)]
    exact Function.update_self _ _ _
  · rw [Function.update_of_ne (by decide)]
    exact Function.update_self _ _ _
  · exact Function.update_self _ _ _

/-! ## Tiles of a head -/

/-- The tile in the rows of tile `x` and the columns of tile `n`. -/
def tl (f : ℕ → ℕ → ℝ) (x n : ℕ) : ℕ → ℕ → ℝ := fun i j => f (256 * x + i) (256 * n + j)

/-- A tile of columns. -/
def cl (f : ℕ → ℕ → ℝ) (n : ℕ) : ℕ → ℕ → ℝ := fun d j => f d (256 * n + j)

variable {H : Head} {x : ℕ}

/-- The buffers hold the head's inputs for the point of tile `x`. -/
structure Good (H : Head) (x : ℕ) (s : St Ideal) : Prop where
  q : C1 s.q (cl H.q x)
  o : C1 s.o (cl H.o x)
  k : ∀ n, n < 32 → C1 (s.k n) (cl H.k n)
  v : ∀ n, n < 32 → C1 (s.v n) (cl H.v n)

theorem carry_R {R : FVec Ideal S256x1 .f32} {l : ℕ → FVec Ideal S256x256 .f32} {top : ℕ}
    (hR : R1 R (fun i => tail H (256 * x + i) (256 * top))) (ht : top ≤ 32) :
    ∀ h, h ≤ top → (∀ j, j < h → T (l j) (tl (X H) x (top - 1 - j))) → R1 (carry R l h) (fun i => tail H (256 * x + i) (256 * (top - h))) := by
  intro h
  induction h with
  | zero => intro _ _; exact hR
  | succ h ih =>
    intro hh hl
    refine (nxt_R (ih (by omega) fun j hj => hl j (by omega)) (hl h (by omega))).to fun i _ => ?_
    have e : top - h = (top - 1 - h) + 1 := by omega
    have e' : top - (h + 1) = top - 1 - h := by omega
    rw [e, e']
    exact tail_step (by omega)

theorem lc_X {z : FVec Ideal S256x256 .f32} {n : ℕ} (hn : n < x) (hz : T z (tl (Z H) x n)) : T (lc z) (tl (X H) x n) :=
  (lc_T hz).to fun i j hi hj => by
    show _ = X H _ _
    unfold X; rw [if_pos (by omega)]; rfl

theorem wgt_raw {z l : FVec Ideal S256x256 .f32} {R : FVec Ideal S256x1 .f32} {n : ℕ} (hn : n < 32) (hz : T z (tl (Z H) x n)) (hl : T l (tl (X H) x n))
    (hR : R1 R (fun i => tail H (256 * x + i) (256 * (n + 1)))) :
    T (wgt (k0_pay393 (F := Ideal)) (lb z) l R) (fun i j => Real.exp (lbr (Z H (256 * x + i) (256 * n + j)) + tail H (256 * x + i) (256 * n + j + 1))) :=
  (wgt_T (lb_T hz) hl hR).to fun i j hi hj => by
    rw [← tail_split (H := H) (t := 256 * x + i) (n := n) (by omega) hj]; rfl

theorem wgt_W {z l : FVec Ideal S256x256 .f32} {R : FVec Ideal S256x1 .f32} {n : ℕ} (hx : x < 32) (hn : n < x) (hz : T z (tl (Z H) x n)) (hl : T l (tl (X H) x n))
    (hR : R1 R (fun i => tail H (256 * x + i) (256 * (n + 1)))) : T (wgt (k0_pay393 (F := Ideal)) (lb z) l R) (tl (W H) x n) :=
  (wgt_raw (by omega) hz hl hR).to fun i j hi hj => by
    show _ = W H _ _
    unfold W; rw [if_pos (by omega)]

theorem exp_B {z : FVec Ideal S256x256 .f32} {n : ℕ} (hn : n < x) (hz : T z (tl (Z H) x n)) : T (exp (lb z)) (tl (B H) x n) :=
  (exp_T (lb_T hz)).to fun i j hi hj => by
    show _ = B H _ _
    unfold B; rw [if_pos (by omega)]; rfl

theorem prod_Z {s : St Ideal} (hs : Good H x s) {n : ℕ} (hn : n < 32) : T (prod (rows s.q) (s.k n)) (tl (Z H) x n) :=
  prod_T (rows_Q hs.q) (hs.k n hn)

theorem prod_Y {s : St Ideal} (hs : Good H x s) {n : ℕ} (hn : n < 32) : T (prod (rows s.o) (s.v n)) (tl (Y H) x n) :=
  prod_T (rows_Q hs.o) (hs.v n hn)

/-! ## Between two groups -/

/-- What the weights in the slots add to the gradient of the values. -/
def more (H : Head) (x n : ℕ) : ℕ → ℕ → ℝ := fun d j => ∑ r ∈ range 256, H.o d (256 * x + r) * W H (256 * x + r) (256 * n + j)

/-- Group `a` is weighed and not pushed, and the products of the group before it are formed. -/
structure Mid (H : Head) (x a : ℕ) (q o : Vec Ideal S1x64x256 .bf16) (dk : ℕ → Vec Ideal S1x64x256 .f32) (s : St Ideal) (R : FVec Ideal S256x1 .f32) : Prop where
  good : Good H x s
  hq : s.q = q
  ho : s.o = o
  hdk : s.dk = dk
  e : ∀ n, 4 * a ≤ n → n < 4 * (x / 4) + 4 → T1 (s.e n) (tl (E H) x n)
  b : ∀ n, 4 * a ≤ n → n < 4 * (x / 4) + 4 → T1 (s.b n) (tl (B H) x n)
  w : ∀ h, h < 4 → T1 (s.w h) (tl (W H) x (4 * a + 3 - h))
  z : 1 ≤ a → ∀ h, h < 4 → T1 (s.z h) (tl (Z H) x (4 * (a - 1) + 3 - h))
  dw : 1 ≤ a → ∀ h, h < 4 → T1 (s.dw h) (tl (Y H) x (4 * (a - 1) + 3 - h))
  R : R1 R (fun i => tail H (256 * x + i) (256 * (4 * a)))
  dv : ∀ n, n < 32 → C1 (s.dv n) (fun d j => gV H d (256 * n + j) (256 * x) + if 4 * a + 4 ≤ n then more H x n d j else 0)

variable {a : ℕ} {q o : Vec Ideal S1x64x256 .bf16} {dk : ℕ → Vec Ideal S1x64x256 .f32} {s : St Ideal} {R : FVec Ideal S256x1 .f32}

theorem slot_X (h : Mid H x a q o dk s R) (ha : 1 ≤ a) (hax : a ≤ x / 4) {j : ℕ} (hj : j < 4) : T (lc (slotZ s j)) (tl (X H) x (4 * a - 1 - j)) := by
  have := lc_X (n := 4 * (a - 1) + 3 - j) (by omega) (dn_T (h.z ha j hj))
  rw [show 4 * a - 1 - j = 4 * (a - 1) + 3 - j by omega]
  exact this

theorem slot_R (h : Mid H x a q o dk s R) (hx : x < 32) (ha : 1 ≤ a) (hax : a ≤ x / 4) {j : ℕ} (hj : j ≤ 4) :
    R1 (slotR s R j) (fun i => tail H (256 * x + i) (256 * (4 * a - j))) :=
  carry_R h.R (by omega) j (by omega) fun i hi => slot_X h ha hax (by omega)

theorem slot_W (h : Mid H x a q o dk s R) (hx : x < 32) (ha : 1 ≤ a) (hax : a ≤ x / 4) {j : ℕ} (hj : j < 4) :
    T (slotW (k0_pay393 (F := Ideal)) s R j) (tl (W H) x (4 * (a - 1) + 3 - j)) := by
  have e : 4 * a - 1 - j = 4 * (a - 1) + 3 - j := by omega
  have hX := slot_X h ha hax hj
  have hR := slot_R h hx ha hax (j := j) (by omega)
  rw [e] at hX
  rw [show 4 * a - j = 4 * (a - 1) + 3 - j + 1 by omega] at hR
  exact wgt_W hx (by omega) (dn_T (h.z ha j hj)) hX hR

/-- Pushing the weights of group `a`. -/
theorem push_dv (h : Mid H x a q o dk s R) {n : ℕ} (h₁ : 4 * a ≤ n) (h₂ : n < 4 * a + 4) (hn : n < 32) :
    C1 (pushV (flat o) (s.w (4 * a + 3 - n)) (s.dv n)) (fun d j => gV H d (256 * n + j) (256 * x) + more H x n d j) := by
  have hw := h.w (4 * a + 3 - n) (by omega)
  rw [show 4 * a + 3 - (4 * a + 3 - n) = n by omega] at hw
  have ho := h.good.o
  rw [h.ho] at ho
  refine (pushV_C (flat_D ho) hw (h.dv n hn)).to fun d j _ _ => ?_
  rw [if_neg (by omega), add_zero]
  rfl

theorem down_mid (h : Mid H x a q o dk s R) (hx : x < 32) (ha : 1 ≤ a) (hax : a ≤ x / 4) :
    Mid H x (a - 1) q o dk (down (rows q) (rows o) (flat o) (k0_pay393 (F := Ideal)) a s R) (slotR s R 4) where
  good := ⟨h.good.q, h.good.o, h.good.k, h.good.v⟩
  hq := h.hq
  ho := h.ho
  hdk := h.hdk
  e n h₁ h₂ := by
    unfold down
    dsimp only
    by_cases hn : n < 4 * (a - 1) + 4
    · rw [put4_in (a := a - 1) (fun _ => rfl) h₁ hn]
      refine up_T ?_
      have hW := slot_W h hx ha hax (j := 4 * (a - 1) + 3 - n) (by omega)
      have hY := dn_T (h.dw ha (4 * (a - 1) + 3 - n) (by omega))
      rw [show 4 * (a - 1) + 3 - (4 * (a - 1) + 3 - n) = n by omega] at hW hY
      exact mul_T hY hW
    · rw [put4_out (a := a - 1) (fun _ => rfl) (.inr (by omega))]
      exact h.e n (by omega) h₂
  b n h₁ h₂ := by
    unfold down
    dsimp only
    by_cases hn : n < 4 * (a - 1) + 4
    · rw [put4_in (a := a - 1) (fun _ => rfl) h₁ hn]
      refine upb_T (half_T ?_)
      have hZ := dn_T (h.z ha (4 * (a - 1) + 3 - n) (by omega))
      rw [show 4 * (a - 1) + 3 - (4 * (a - 1) + 3 - n) = n by omega] at hZ
      exact exp_B (by omega) hZ
    · rw [put4_out (a := a - 1) (fun _ => rfl) (.inr (by omega))]
      exact h.b n (by omega) h₂
  w j hj := by
    unfold down
    dsimp only
    rw [put4_slot hj]
    exact upb_T (half_T (slot_W h hx ha hax hj))
  z ha' j hj := by
    unfold down
    dsimp only
    rw [put4_slot hj]
    refine up_T ?_
    have := prod_Z h.good (n := 4 * (a - 2) + (3 - j)) (by omega)
    rw [h.hq] at this
    rw [show 4 * (a - 1 - 1) + 3 - j = 4 * (a - 2) + (3 - j) by omega]
    exact this
  dw ha' j hj := by
    unfold down
    dsimp only
    rw [put4_slot hj]
    refine up_T ?_
    have := prod_Y h.good (n := 4 * (a - 2) + (3 - j)) (by omega)
    rw [h.ho] at this
    rw [show 4 * (a - 1 - 1) + 3 - j = 4 * (a - 2) + (3 - j) by omega]
    exact this
  R := by
    have := slot_R h hx ha hax (j := 4) (by omega)
    rw [show 4 * a - 4 = 4 * (a - 1) by omega] at this
    exact this
  dv n hn := by
    unfold down
    dsimp only
    by_cases h₁ : 4 * a ≤ n
    · by_cases h₂ : n < 4 * a + 4
      · rw [put4_in (a := a) (fun _ => rfl) h₁ h₂]
        have hp := push_dv h h₁ h₂ hn
        have e : 4 * a + (3 - (4 * a + 3 - n)) = n := by omega
        show C1 (pushV (flat o) (s.w (4 * a + 3 - n)) (s.dv (4 * a + (3 - (4 * a + 3 - n))))) _
        rw [e]
        refine hp.to fun d j _ _ => ?_
        rw [if_pos (by omega)]
      · rw [put4_out (a := a) (fun _ => rfl) (.inr (by omega))]
        refine (h.dv n hn).to fun d j _ _ => ?_
        rw [if_pos (by omega), if_pos (by omega)]
    · rw [put4_out (a := a) (fun _ => rfl) (.inl (by omega))]
      refine (h.dv n hn).to fun d j _ _ => ?_
      rw [if_neg (by omega), if_neg (by omega)]

theorem walk_mid (hx : x < 32) (h : Mid H x (x / 4) q o dk s R) :
    ∀ t, t ≤ x / 4 → Mid H x (x / 4 - t) q o dk (walk (rows q) (rows o) (flat o) (k0_pay393 (F := Ideal)) (x / 4) s R t).1
      (walk (rows q) (rows o) (flat o) (k0_pay393 (F := Ideal)) (x / 4) s R t).2 := by
  intro t
  induction t with
  | zero => intro _; exact h
  | succ t ih =>
    intro ht
    have := down_mid (ih (by omega)) hx (by omega) (by omega)
    rw [show x / 4 - t - 1 = x / 4 - (t + 1) by omega] at this
    exact this

/-! ## The diagonal group -/

section Diag

variable (hx : x < 32) (hs : Good H x s)
include hx hs

theorem diag_Z {h : ℕ} (hh : h < 4) : T (diagZ (rows s.q) (x / 4) s h) (tl (Z H) x (4 * (x / 4) + (3 - h))) :=
  prod_Z hs (by omega)

theorem diag_X {h : ℕ} (hh : h < 4) (hd : 3 - x % 4 ≤ h) :
    T (diagC k0_pay395 (rows s.q) (x / 4) (3 - x % 4) s h) (tl (X H) x (4 * (x / 4) + (3 - h))) := by
  have hz := diag_Z hx hs hh
  unfold diagC
  by_cases e : h = 3 - x % 4
  · rw [if_pos e]
    have en : 4 * (x / 4) + (3 - h) = x := by omega
    rw [en] at hz ⊢
    refine (sel_T (lc_T hz)).to fun i j hi hj => ?_
    show _ = X H _ _
    unfold X
    by_cases c : j < i
    · rw [if_pos c, if_pos (by omega)]; rfl
    · rw [if_neg c, if_neg (by omega)]
  · rw [if_neg e]
    exact lc_X (by omega) hz

theorem diag_R {h : ℕ} (hh : h ≤ 4) (hd : 3 - x % 4 ≤ h) :
    R1 (diagR k0_pay395 (rows s.q) (x / 4) (3 - x % 4) s h) (fun i => tail H (256 * x + i) (256 * (x + 1 - (h - (3 - x % 4))))) := by
  refine carry_R (nought_R.to fun i hi => ?_) (by omega) _ (by omega) fun j hj => ?_
  · rw [tail_past (by omega)]
  · have := diag_X hx hs (h := 3 - x % 4 + j) (by omega) (by omega)
    rw [show 4 * (x / 4) + (3 - (3 - x % 4 + j)) = x + 1 - 1 - j by omega] at this
    exact this

theorem diag_W {h : ℕ} (hh : h < 4) (hd : 3 - x % 4 ≤ h) :
    T (diagW k0_pay395 (rows s.q) (k0_pay393 (F := Ideal)) (x / 4) (3 - x % 4) s h) (tl (W H) x (4 * (x / 4) + (3 - h))) := by
  have hz := diag_Z hx hs hh
  have hl := diag_X hx hs hh hd
  have hR := diag_R hx hs (h := h) (by omega) hd
  rw [show x + 1 - (h - (3 - x % 4)) = 4 * (x / 4) + (3 - h) + 1 by omega] at hR
  have hw := wgt_raw (by omega) hz hl hR
  unfold diagW
  by_cases e : h = 3 - x % 4
  · rw [if_pos e]
    have en : 4 * (x / 4) + (3 - h) = x := by omega
    rw [en] at hw ⊢
    refine (sel_T hw).to fun i j hi hj => ?_
    show _ = W H _ _
    unfold W
    by_cases c : j < i
    · rw [if_pos c, if_pos (by omega)]
    · rw [if_neg c, if_neg (by omega)]
  · rw [if_neg e]
    refine hw.to fun i j hi hj => ?_
    show _ = W H _ _
    unfold W
    rw [if_pos (by omega)]

theorem diag_B {h : ℕ} (hh : h < 4) (hd : 3 - x % 4 ≤ h) :
    T (diagB k0_pay395 (rows s.q) (x / 4) (3 - x % 4) s h) (tl (B H) x (4 * (x / 4) + (3 - h))) := by
  have hz := diag_Z hx hs hh
  unfold diagB
  by_cases e : h = 3 - x % 4
  · rw [if_pos e]
    have en : 4 * (x / 4) + (3 - h) = x := by omega
    rw [en] at hz ⊢
    refine (sel_T (exp_T (lb_T hz))).to fun i j hi hj => ?_
    show _ = B H _ _
    unfold B
    by_cases c : j < i
    · rw [if_pos c, if_pos (by omega)]; rfl
    · rw [if_neg c, if_neg (by omega)]
  · rw [if_neg e]
    exact exp_B (by omega) hz

theorem across_mid (hv : ∀ n, n < 32 → C1 (s.dv n) (fun d j => gV H d (256 * n + j) (256 * x))) :
    Mid H x (x / 4) s.q s.o s.dk (across k0_pay395 (rows s.q) (rows s.o) (k0_pay393 (F := Ideal)) (x / 4) (3 - x % 4) s)
      (diagR k0_pay395 (rows s.q) (x / 4) (3 - x % 4) s 4) where
  good := ⟨hs.q, hs.o, hs.k, hs.v⟩
  hq := rfl
  ho := rfl
  hdk := rfl
  e n h₁ h₂ := by
    unfold across
    dsimp only
    rw [put4_in (a := x / 4) (fun _ => rfl) h₁ h₂]
    try dsimp only
    by_cases c : 4 * (x / 4) + 3 - n < 3 - x % 4
    · rw [if_pos c]
      refine (up_T zero_T).to fun i j hi hj => ?_
      exact (E_past (by omega)).symm
    · rw [if_neg c]
      have e : 4 * (x / 4) + (3 - (4 * (x / 4) + 3 - n)) = n := by omega
      have hW := diag_W hx hs (h := 4 * (x / 4) + 3 - n) (by omega) (by omega)
      rw [e] at hW ⊢
      exact up_T (mul_T (prod_Y hs (by omega)) hW)
  b n h₁ h₂ := by
    unfold across
    dsimp only
    rw [put4_in (a := x / 4) (fun _ => rfl) h₁ h₂]
    try dsimp only
    by_cases c : 4 * (x / 4) + 3 - n < 3 - x % 4
    · rw [if_pos c]
      refine (upb_T zerob_T).to fun i j hi hj => ?_
      exact (B_past (by omega)).symm
    · rw [if_neg c]
      have e : 4 * (x / 4) + (3 - (4 * (x / 4) + 3 - n)) = n := by omega
      have hB := diag_B hx hs (h := 4 * (x / 4) + 3 - n) (by omega) (by omega)
      rw [e] at hB
      exact upb_T (half_T hB)
  w j hj := by
    unfold across
    dsimp only
    rw [put4_slot hj]
    try dsimp only
    by_cases c : j < 3 - x % 4
    · rw [if_pos c]
      refine (upb_T zerob_T).to fun i j hi hj => ?_
      exact (W_past (by omega)).symm
    · rw [if_neg c]
      have hW := diag_W hx hs hj (by omega)
      rw [show 4 * (x / 4) + 3 - j = 4 * (x / 4) + (3 - j) by omega]
      exact upb_T (half_T hW)
  z ha j hj := by
    unfold across
    dsimp only
    rw [put4_slot hj]
    rw [show 4 * (x / 4 - 1) + 3 - j = 4 * (x / 4 - 1) + (3 - j) by omega]
    exact up_T (prod_Z hs (by omega))
  dw ha j hj := by
    unfold across
    dsimp only
    rw [put4_slot hj]
    rw [show 4 * (x / 4 - 1) + 3 - j = 4 * (x / 4 - 1) + (3 - j) by omega]
    exact up_T (prod_Y hs (by omega))
  R := by
    have := diag_R hx hs (h := 4) (by omega) (by omega)
    rw [show x + 1 - (4 - (3 - x % 4)) = 4 * (x / 4) by omega] at this
    exact this
  dv n hn := by
    refine (hv n hn).to fun d j _ hj => ?_
    by_cases c : 4 * (x / 4) + 4 ≤ n
    · rw [if_pos c]
      unfold more
      rw [Finset.sum_eq_zero, add_zero]
      intro r hr
      have := Finset.mem_range.1 hr
      rw [W_past (by omega), mul_zero]
    · rw [if_neg c, add_zero]

end Diag

/-! ## The weights formed and pushed -/

/-- What is left when all the weights are pushed. -/
structure Done (H : Head) (x : ℕ) (q o : Vec Ideal S1x64x256 .bf16) (dk : ℕ → Vec Ideal S1x64x256 .f32) (s : St Ideal) : Prop where
  good : Good H x s
  hdk : s.dk = dk
  e : ∀ n, n < 4 * (x / 4) + 4 → T1 (s.e n) (tl (E H) x n)
  b : ∀ n, n < 4 * (x / 4) + 4 → T1 (s.b n) (tl (B H) x n)
  dv : ∀ n, n < 32 → C1 (s.dv n) (fun d j => gV H d (256 * n + j) (256 * (x + 1)))

theorem landed_done (h : Mid H x 0 q o dk s R) (hx : x < 32) : Done H x q o dk (landed (flat o) s) where
  good := ⟨h.good.q, h.good.o, h.good.k, h.good.v⟩
  hdk := h.hdk
  e n hn := h.e n (by omega) hn
  b n hn := h.b n (by omega) hn
  dv n hn := by
    unfold landed
    dsimp only
    by_cases h₂ : n < 4
    · rw [put4_in (a := 0) (fun h => by omega) (by omega) (by omega)]
      have hp := push_dv h (n := n) (by omega) (by omega) hn
      show C1 (pushV (flat o) (s.w (4 * 0 + 3 - n)) (s.dv (3 - (4 * 0 + 3 - n)))) _
      rw [show 3 - (4 * 0 + 3 - n) = n by omega]
      exact hp.to fun d j _ _ => gV_step
    · rw [put4_out (a := 0) (fun h => by omega) (.inr (by omega))]
      refine (h.dv n hn).to fun d j _ _ => ?_
      rw [if_pos (by omega)]
      exact gV_step

theorem weighed_done (hx : x < 32) (hs : Good H x s)
    (hv : x ≠ 0 → ∀ n, n < 32 → C1 (s.dv n) (fun d j => gV H d (256 * n + j) (256 * x))) :
    Done H x s.q s.o (cleared x s).dk (weighed x s) := by
  have hg : Good H x (cleared x s) := by
    constructor
    · rw [cleared_q]; exact hs.q
    · rw [cleared_o]; exact hs.o
    · unfold cleared; split <;> exact hs.k
    · unfold cleared; split <;> exact hs.v
  have hv' : ∀ n, n < 32 → C1 ((cleared x s).dv n) (fun d j => gV H d (256 * n + j) (256 * x)) := by
    intro n hn
    unfold cleared
    by_cases c : x = 0
    · rw [if_pos c]
      subst c
      exact none_C.to fun d j _ _ => by unfold gV; simp
    · rw [if_neg c]; exact hv c n hn
  have h1 := across_mid hx hg hv'
  rw [cleared_q, cleared_o] at h1
  have h2 := walk_mid hx h1 (x / 4) le_rfl
  rw [Nat.sub_self] at h2
  exact landed_done h2 hx

/-! ## The sweep up -/

section Up

variable (h : Done H x q o dk s) (hx : x < 32)
include h hx

theorem accP_pre : ∀ n, n ≤ 4 * (x / 4) + 4 → R1 (accP s n) (fun i => pre H (256 * x + i) (256 * n)) := by
  intro n
  induction n with
  | zero => intro _; exact nought_R.to fun i _ => by unfold pre; simp
  | succ n ih => intro hn; exact (nxt_R (ih (by omega)) (dn_T (h.e n (by omega)))).to fun i _ => pre_step

theorem gradZ_G {n : ℕ} (hn : n < 4 * (x / 4) + 4) : T (gradZ (k0_pay394 (F := Ideal)) s n) (tl (G H) x n) :=
  (gz_T (dn_T (h.e n hn)) (dnb_T (h.b n hn)) (accP_pre h hx n (by omega))).to fun i j _ hj => by
    show _ = G H _ _
    unfold G
    rw [← pre_split (H := H) (t := 256 * x + i) (n := n) hj]
    rfl

theorem accQ_gQ : ∀ n, n ≤ 4 * (x / 4) + 4 → D1 (accQ (k0_pay394 (F := Ideal)) s n) (fun d i => gQ H d (256 * x + i) (256 * n)) := by
  intro n
  induction n with
  | zero => intro _; exact nought_D.to fun d i _ _ => by unfold gQ; simp
  | succ n ih =>
    intro hn
    exact (pushQ_D (ih (by omega)) (h.good.k n (by omega)) (gradZ_G h hx (n := n) (by omega))).to fun d i _ _ => gQ_step

end Up

/-- The point of tile `x`: the gradient of its queries, and the two gradients gathered over the tiles so far. -/
theorem after_good (hx : x < 32) (hs : Good H x s)
    (hk : x ≠ 0 → ∀ n, n < 32 → C1 (s.dk n) (fun d j => gK H d (256 * n + j) (256 * x)))
    (hv : x ≠ 0 → ∀ n, n < 32 → C1 (s.dv n) (fun d j => gV H d (256 * n + j) (256 * x))) :
    C1 (after x s).dq (fun d i => gQ H d (256 * x + i) 8192 * (1 / 8))
      ∧ (∀ n, n < 32 → C1 ((after x s).dk n) (fun d j => gK H d (256 * n + j) (256 * (x + 1))))
      ∧ (∀ n, n < 32 → C1 ((after x s).dv n) (fun d j => gV H d (256 * n + j) (256 * (x + 1)))) := by
  have h := weighed_done hx hs hv
  refine ⟨?_, fun n hn => ?_, fun n hn => h.dv n hn⟩
  · refine (pay4_C (accQ_gQ h hx (4 * (x / 4) + 4) le_rfl)).to fun d i _ hi => ?_
    rw [gQ_all (by omega) (by omega)]
  · have hk' : C1 ((cleared x s).dk n) (fun d j => gK H d (256 * n + j) (256 * x)) := by
      unfold cleared
      by_cases c : x = 0
      · rw [if_pos c]
        subst c
        exact none_C.to fun d j _ _ => by unfold gK; simp
      · rw [if_neg c]; exact hk c n hn
    have hd := congrFun h.hdk n
    show C1 (if n < 4 * (x / 4) + 4 then pushK (flat s.q) (gradZ (k0_pay394 (F := Ideal)) (weighed x s) n) ((weighed x s).dk n) else (weighed x s).dk n) _
    rw [hd]
    by_cases c : n < 4 * (x / 4) + 4
    · rw [if_pos c]
      exact (pushK_C (flat_D hs.q) (gradZ_G h hx c) hk').to fun d j _ _ => gK_step
    · rw [if_neg c]
      refine hk'.to fun d j _ _ => ?_
      rw [← gK_step, Finset.sum_eq_zero, add_zero]
      intro r hr
      have := Finset.mem_range.1 hr
      rw [G_past (by omega), mul_zero]

end Cert.KernelIdeal.Own

end
-- ==== Proof.Blocks.lean ====
/- The blocks the kernel is handed over the extended reals, from arguments that are real numbers. -/
module

public import proofs.«01_k».proof.Proof.State
public import proofs.«01_k».proof.Proof.Run
public import Idealize.ShloMosaic.Lib.Pipeline.ValueKit
public import Idealize.ShloMosaic.Lib.Claim

@[expose] public section

set_option maxRecDepth 16384

noncomputable section

namespace Cert.KernelIdeal.Own

open Idealize.ShloMosaic Idealize.ShloMosaic.TcCoe
open Cert.KernelIdeal Cert.KernelIdeal.Gen
open Cert.Spec
open Finset (range)

/-! ## Points and blocks -/

theorem coords_1 : ∀ t : Fin cfg0.N, (grid0.coords t 1).val = t.val % 32 := by decide +kernel
theorem index_0 : ∀ t : Fin cfg0.N, win0_0.index t = ![t.val / 32, 0, t.val % 32] := by decide +kernel
theorem index_1 : ∀ t : Fin cfg0.N, win0_1.index t = ![t.val / 32, 0, 0] := by decide +kernel
theorem index_2 : ∀ t : Fin cfg0.N, win0_2.index t = ![t.val / 32, 0, 0] := by decide +kernel
theorem index_3 : ∀ t : Fin cfg0.N, win0_3.index t = ![t.val / 32, 0, t.val % 32] := by decide +kernel
theorem index_4 : ∀ t : Fin cfg0.N, win0_4.index t = ![t.val / 32, 0, t.val % 32] := by decide +kernel
theorem index_5 : ∀ t : Fin cfg0.N, win0_5.index t = ![t.val / 32, 0, 0] := by decide +kernel
theorem index_6 : ∀ t : Fin cfg0.N, win0_6.index t = ![t.val / 32, 0, 0] := by decide +kernel

variable (m : (ℓ : Loc nD τ sig) → Buf (Elt Ideal) ℓ)

def in0 (c : Dev nD) : S8192x512.Idx → EReal := m ((c.tc : Thread nD τ).loc main_arg0)
def in1 (c : Dev nD) : S8192x512.Idx → EReal := m ((c.tc : Thread nD τ).loc main_arg1)
def in2 (c : Dev nD) : S8192x512.Idx → EReal := m ((c.tc : Thread nD τ).loc main_arg2)
def in3 (c : Dev nD) : S8192x512.Idx → EReal := m ((c.tc : Thread nD τ).loc main_arg3)

/-- An array of real numbers. -/
def IsReal (x : S8192x512.Idx → EReal) (f : ℕ → ℕ → ℝ) : Prop := ∀ (i : Fin 8192) (j : Fin 512), x (ix2 i j) = ((f i.val j.val : ℝ) : EReal)

/-- The four arguments on a core are the real arrays `a`. -/
def Real4 (c : Dev nD) (a : Fin 4 → ℕ → ℕ → ℝ) : Prop :=
  IsReal (in0 m c) (a 0) ∧ IsReal (in1 m c) (a 1) ∧ IsReal (in2 m c) (a 2) ∧ IsReal (in3 m c) (a 3)

/-- Head `h` of the arrays, the queries scaled. -/
def headOf (a : Fin 4 → ℕ → ℕ → ℝ) (h : ℕ) : Head where
  q d t := a 0 t (64 * h + d) * (1 / 8)
  k d t := a 1 t (64 * h + d)
  v d t := a 2 t (64 * h + d)
  o d t := a 3 t (64 * h + d)

variable {m} {c : Dev nD} {a : Fin 4 → ℕ → ℕ → ℝ}

theorem entry_q (h : Fin 8) (i : Fin 64) (j : Fin 8192) :
    @Eq EReal (V m c main_v4 (ix3 h i j)) (in0 m c (ix2 j ⟨64 * h.val + i.val, by omega⟩) * Ideal.ofBits .f32 0x3E000000#32) := by
  entry_read
  pointwise []
  exact congrArg (fun n => in0 m c (ix2 j n) * Ideal.ofBits .f32 0x3E000000#32) (Fin.ext (by show h.val * 64 + i.val = 64 * h.val + i.val; omega))

theorem entry_k (h : Fin 8) (i : Fin 64) (j : Fin 8192) :
    @Eq EReal (V m c main_v9 (ix3 h i j)) (in1 m c (ix2 j ⟨64 * h.val + i.val, by omega⟩)) := by
  entry_read
  pointwise []
  exact congrArg (fun n => in1 m c (ix2 j n)) (Fin.ext (by show h.val * 64 + i.val = 64 * h.val + i.val; omega))

theorem entry_v (h : Fin 8) (i : Fin 64) (j : Fin 8192) :
    @Eq EReal (V m c main_v14 (ix3 h i j)) (in2 m c (ix2 j ⟨64 * h.val + i.val, by omega⟩)) := by
  entry_read
  pointwise []
  exact congrArg (fun n => in2 m c (ix2 j n)) (Fin.ext (by show h.val * 64 + i.val = 64 * h.val + i.val; omega))

theorem entry_o (h : Fin 8) (i : Fin 64) (j : Fin 8192) :
    @Eq EReal (V m c main_v19 (ix3 h i j)) (in3 m c (ix2 j ⟨64 * h.val + i.val, by omega⟩)) := by
  entry_read
  pointwise []
  exact congrArg (fun n => in3 m c (ix2 j n)) (Fin.ext (by show h.val * 64 + i.val = 64 * h.val + i.val; omega))

theorem block_q (H : Real4 m c a) (t : Fin cfg0.N) : C1 (iblk m c 0 t) (cl (headOf a (t.val / 32)).q (t.val % 32)) := fun i j => by
  have ht : t.val < 256 := t.isLt
  have e : iblk m c 0 t (ix3 0 i j) = V m c main_v4 (ix3 ⟨t.val / 32, by omega⟩ i ⟨256 * (t.val % 32) + j.val, by omega⟩) := by
    blk_ext [iblk, index_0 t]
  rw [e]
  refine (entry_q _ _ _).trans ?_
  rw [H.1, lit_eighth, ← EReal.coe_mul]
  rfl

theorem block_k (H : Real4 m c a) (t : Fin cfg0.N) (n : ℕ) (hn : n < 32) : C1 (cutCol (iblk m c 1 t) n) (cl (headOf a (t.val / 32)).k n) := fun i j => by
  have ht : t.val < 256 := t.isLt
  have e : cutCol (iblk m c 1 t) n (ix3 0 i j) = V m c main_v9 (ix3 ⟨t.val / 32, by omega⟩ i ⟨256 * n + j.val, by omega⟩) := by
    unfold cutCol
    blk_ext [iblk, index_1 t]
  rw [e]
  refine (entry_k _ _ _).trans ?_
  rw [H.2.1]
  rfl

theorem block_v (H : Real4 m c a) (t : Fin cfg0.N) (n : ℕ) (hn : n < 32) : C1 (cutCol (iblk m c 2 t) n) (cl (headOf a (t.val / 32)).v n) := fun i j => by
  have ht : t.val < 256 := t.isLt
  have e : cutCol (iblk m c 2 t) n (ix3 0 i j) = V m c main_v14 (ix3 ⟨t.val / 32, by omega⟩ i ⟨256 * n + j.val, by omega⟩) := by
    unfold cutCol
    blk_ext [iblk, index_2 t]
  rw [e]
  refine (entry_v _ _ _).trans ?_
  rw [H.2.2.1]
  rfl

theorem block_o (H : Real4 m c a) (t : Fin cfg0.N) : C1 (iblk m c 3 t) (cl (headOf a (t.val / 32)).o (t.val % 32)) := fun i j => by
  have ht : t.val < 256 := t.isLt
  have e : iblk m c 3 t (ix3 0 i j) = V m c main_v19 (ix3 ⟨t.val / 32, by omega⟩ i ⟨256 * (t.val % 32) + j.val, by omega⟩) := by
    blk_ext [iblk, index_3 t]
  rw [e]
  refine (entry_o _ _ _).trans ?_
  rw [H.2.2.2]
  rfl

end Cert.KernelIdeal.Own

end
-- ==== Proof.Value.lean ====
/- The kernel's three results over the extended reals, from arguments that are real numbers. -/
module

public import proofs.«01_k».proof.Proof.Blocks

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen
open Cert.Spec

local notation "𝕄" => MT nD τ sig Unit (Elt Ideal) ℕ (UR sig nD τ) ℕ

/-! ## Blocks as whole functions -/

theorem ix_C (y : S1x64x256.Idx) : y = ix3 0 (y (1 : Fin 3)) (y (2 : Fin 3)) := by
  funext a
  match a with
  | ⟨0, _⟩ => exact Subsingleton.elim (α := Fin 1) _ _
  | ⟨1, _⟩ => rfl
  | ⟨2, _⟩ => rfl

theorem C1.eq {x : S1x64x256.Idx → EReal} {f : ℕ → ℕ → ℝ} (h : C1 x f) :
    x = fun y => ((f (y (1 : Fin 3)).val (y (2 : Fin 3)).val : ℝ) : EReal) := by
  funext y
  rw [ix_C y]
  exact h _ _

theorem unCol_C {x : ℕ → S1x64x256.Idx → EReal} {f : ℕ → ℕ → ℝ} (h : ∀ n, n < 32 → C1 (x n) (fun d j => f d (256 * n + j))) :
    unCol x = fun y : S1x64x8192.Idx => ((f (y (1 : Fin 3)).val (y (2 : Fin 3)).val : ℝ) : EReal) := by
  funext y
  have h2 : (y (2 : Fin 3)).val < 8192 := (y (2 : Fin 3)).isLt
  show x ((y (2 : Fin 3)).val / 256) (inCol y) = _
  rw [(h ((y (2 : Fin 3)).val / 256) (by omega)).eq]
  show ((f (y (1 : Fin 3)).val (256 * ((y (2 : Fin 3)).val / 256) + (y (2 : Fin 3)).val % 256) : ℝ) : EReal) = _
  rw [Nat.div_add_mod]

theorem cutCol_C {x : S1x64x8192.Idx → EReal} {f : ℕ → ℕ → ℝ} (hx : x = fun y => ((f (y (1 : Fin 3)).val (y (2 : Fin 3)).val : ℝ) : EReal)) {n : ℕ} (hn : n < 32) :
    C1 (cutCol x n) (fun d j => f d (256 * n + j)) := fun i j => by
  subst hx
  show ((f i.val ((256 * n + j.val) % 8192) : ℝ) : EReal) = _
  rw [Nat.mod_eq_of_lt (by omega)]

/-! ## The body's obligation with the gradients named -/

variable (m : (ℓ : Loc nD τ sig) → Buf (Elt Ideal) ℓ) (a : Dev nD → Fin 4 → ℕ → ℕ → ℝ)

/-- The gradient of the queries at a point. -/
def outQ (c : Dev nD) (t : ℕ) : S1x64x256.Idx → EReal :=
  fun y => ((gQ (headOf (a c) (t / 32)) (y (1 : Fin 3)).val (256 * (t % 32) + (y (2 : Fin 3)).val) 8192 * (1 / 8) : ℝ) : EReal)

/-- The gradients of the keys and of the values gathered up to a point. -/
def outK (c : Dev nD) (t : ℕ) : S1x64x8192.Idx → EReal :=
  fun y => ((gK (headOf (a c) (t / 32)) (y (1 : Fin 3)).val (y (2 : Fin 3)).val (256 * (t % 32 + 1)) : ℝ) : EReal)

def outV (c : Dev nD) (t : ℕ) : S1x64x8192.Idx → EReal :=
  fun y => ((gV (headOf (a c) (t / 32)) (y (1 : Fin 3)).val (y (2 : Fin 3)).val (256 * (t % 32 + 1)) : ℝ) : EReal)

def tight (_ : Fin 1) (c : Dev nD) : Dat τ (Elt Ideal) Unit ℕ (UR sig nD τ) ℕ cfg0 c where
  A w := V m c (Pipeline.arrRef spec0 w)
  after := fun w t => match w with
    | ⟨0, _⟩ => iblk m c 0 t
    | ⟨1, _⟩ => iblk m c 1 t
    | ⟨2, _⟩ => iblk m c 2 t
    | ⟨3, _⟩ => iblk m c 3 t
    | ⟨4, _⟩ => outQ a c t.val
    | ⟨5, _⟩ => outK a c t.val
    | ⟨6, _⟩ => outV a c t.val
  Φ _ := Pipeline.ΦA spec0 c
  q _ := fullShare
  owed _ := 0

theorem tight_A (c : Dev nD) (w : Fin cfg0.W) : (tight m a 0 c).A w = V m c (Pipeline.arrRef spec0 w) := by dsimp only [tight]

/-- What a point makes of its buffers, from what the points before it left. -/
theorem point_values (c : Dev nD) (H : Real4 m c (a c)) (t : Fin cfg0.N) (dq : Vec Ideal S1x64x256 .f32) (dk dv : Vec Ideal S1x64x8192 .f32)
    (e : Vec Ideal S32x256x256 .f32) (b : Vec Ideal S32x256x256 .bf16) (z dw : Vec Ideal S4x256x256 .f32) (w : Vec Ideal S4x256x256 .bf16)
    (hk : t.val % 32 ≠ 0 → dk = outK a c (t.val - 1)) (hv : t.val % 32 ≠ 0 → dv = outV a c (t.val - 1)) :
    (after (grid0.coords t 1).val (entry (iblk m c 0 t) (iblk m c 1 t) (iblk m c 2 t) (iblk m c 3 t) dq dk dv e b z dw w)).dq = outQ a c t.val
    ∧ unCol (after (grid0.coords t 1).val (entry (iblk m c 0 t) (iblk m c 1 t) (iblk m c 2 t) (iblk m c 3 t) dq dk dv e b z dw w)).dk = outK a c t.val
    ∧ unCol (after (grid0.coords t 1).val (entry (iblk m c 0 t) (iblk m c 1 t) (iblk m c 2 t) (iblk m c 3 t) dq dk dv e b z dw w)).dv = outV a c t.val := by
  rw [coords_1]
  have hg : Good (headOf (a c) (t.val / 32)) (t.val % 32) (entry (iblk m c 0 t) (iblk m c 1 t) (iblk m c 2 t) (iblk m c 3 t) dq dk dv e b z dw w) :=
    ⟨block_q H t, block_o H t, fun n hn => block_k H t n hn, fun n hn => block_v H t n hn⟩
  obtain ⟨h1, h2, h3⟩ := after_good (H := headOf (a c) (t.val / 32)) (x := t.val % 32)
    (s := entry (iblk m c 0 t) (iblk m c 1 t) (iblk m c 2 t) (iblk m c 3 t) dq dk dv e b z dw w) (by omega) hg
    (fun h0 n hn => by
      have e1 : (t.val - 1) / 32 = t.val / 32 := by omega
      have e2 : (t.val - 1) % 32 + 1 = t.val % 32 := by omega
      refine cutCol_C (f := fun d s => gK (headOf (a c) (t.val / 32)) d s (256 * (t.val % 32))) ?_ hn
      rw [hk h0]; unfold outK; rw [e1, e2])
    (fun h0 n hn => by
      have e1 : (t.val - 1) / 32 = t.val / 32 := by omega
      have e2 : (t.val - 1) % 32 + 1 = t.val % 32 := by omega
      refine cutCol_C (f := fun d s => gV (headOf (a c) (t.val / 32)) d s (256 * (t.val % 32))) ?_ hn
      rw [hv h0]; unfold outV; rw [e1, e2])
  exact ⟨h1.eq, unCol_C (f := fun d s => gK (headOf (a c) (t.val / 32)) d s (256 * (t.val % 32 + 1))) h2,
    unCol_C (f := fun d s => gV (headOf (a c) (t.val / 32)) d s (256 * (t.val % 32 + 1))) h3⟩

theorem found_5 (c : Dev nD) (t : Fin cfg0.N) (h : t.val % 32 ≠ 0) (d) : (tight m a 0 c).before 5 t d = outK a c (t.val - 1) :=
  Dat.before_out_kept (tight m a 0 c) 5 rfl t (by omega)
    (by
      have := (flush0_5 ⟨t.val - 1, Nat.lt_of_le_of_lt (Nat.sub_le _ _) t.isLt⟩).not.2 (by show ¬ (t.val - 1) % 32 = 31; omega)
      exact eq_false_of_ne_true this) (fun _ => rfl) (fun _ _ => rfl) d

theorem found_6 (c : Dev nD) (t : Fin cfg0.N) (h : t.val % 32 ≠ 0) (d) : (tight m a 0 c).before 6 t d = outV a c (t.val - 1) :=
  Dat.before_out_kept (tight m a 0 c) 6 rfl t (by omega)
    (by
      have := (flush0_6 ⟨t.val - 1, Nat.lt_of_le_of_lt (Nat.sub_le _ _) t.isLt⟩).not.2 (by show ¬ (t.val - 1) % 32 = 31; omega)
      exact eq_false_of_ne_true this) (fun _ => rfl) (fun _ _ => rfl) d

def tightPre (c : Dev nD) (t : Fin cfg0.N) : sProp 𝕄 :=
  iprop((tight m a 0 c).Φ t.castSucc ∗ (tight m a 0 c).owesAt () t.castSucc
    ∗ (∃ d, owns (c : Thread nD τ) (bufs t).a2 fullShare ((tight m a 0 c).before 0 t d))
    ∗ (∃ d, owns (c : Thread nD τ) (bufs t).a3 fullShare ((tight m a 0 c).before 1 t d))
    ∗ (∃ d, owns (c : Thread nD τ) (bufs t).a4 fullShare ((tight m a 0 c).before 2 t d))
    ∗ (∃ d, owns (c : Thread nD τ) (bufs t).a5 fullShare ((tight m a 0 c).before 3 t d))
    ∗ (∃ d, owns (c : Thread nD τ) (bufs t).a6 fullShare ((tight m a 0 c).before 4 t d))
    ∗ (∃ d, owns (c : Thread nD τ) (bufs t).a7 fullShare ((tight m a 0 c).before 5 t d))
    ∗ (∃ d, owns (c : Thread nD τ) (bufs t).a8 fullShare ((tight m a 0 c).before 6 t d)))

def tightPost (c : Dev nD) (t : Fin cfg0.N) : sProp 𝕄 :=
  iprop((tight m a 0 c).Φ t.succ ∗ (tight m a 0 c).owesAt () t.succ
    ∗ owns (c : Thread nD τ) (bufs t).a2 fullShare ((tight m a 0 c).after 0 t)
    ∗ owns (c : Thread nD τ) (bufs t).a3 fullShare ((tight m a 0 c).after 1 t)
    ∗ owns (c : Thread nD τ) (bufs t).a4 fullShare ((tight m a 0 c).after 2 t)
    ∗ owns (c : Thread nD τ) (bufs t).a5 fullShare ((tight m a 0 c).after 3 t)
    ∗ owns (c : Thread nD τ) (bufs t).a6 fullShare ((tight m a 0 c).after 4 t)
    ∗ owns (c : Thread nD τ) (bufs t).a7 fullShare ((tight m a 0 c).after 5 t)
    ∗ owns (c : Thread nD τ) (bufs t).a8 fullShare ((tight m a 0 c).after 6 t))

theorem tight_sound (c : Dev nD) (H : Real4 m c (a c)) (t : Fin cfg0.N) :
    tightPre m a c t ⊢ wp frame (wpE (defs₀ (F := Ideal)) Variants.none c none) Set.univ (bodyAt0 t) (fun _ => tightPost m a c t) := by
  unfold tightPre tightPost
  rw [show (tight m a 0 c).Φ t.succ = (tight m a 0 c).Φ t.castSucc from rfl,
    show (tight m a 0 c).owesAt () t.succ = (tight m a 0 c).owesAt () t.castSucc from rfl,
    show (tight m a 0 c).Φ t.castSucc = Pipeline.ΦA spec0 c from rfl, scratch_eq]
  simp only [before0_0_of m (tight m a 0 c) (tight_A m a c 0) (fun _ => rfl) t, before0_1_of m (tight m a 0 c) (tight_A m a c 1) (fun _ => rfl) t,
    before0_2_of m (tight m a 0 c) (tight_A m a c 2) (fun _ => rfl) t, before0_3_of m (tight m a 0 c) (tight_A m a c 3) (fun _ => rfl) t]
  rw [show (tight m a 0 c).after 4 t = outQ a c t.val from rfl, show (tight m a 0 c).after 5 t = outK a c t.val from rfl,
    show (tight m a 0 c).after 6 t = outV a c t.val from rfl]
  iintro ⟨⟨⟨⟨%d9, H9⟩, ⟨%d10, H10⟩, ⟨%d11, H11⟩, ⟨%d12, H12⟩, ⟨%d13, H13⟩⟩, Hg⟩, HO, ⟨%d2, H2⟩, ⟨%d3, H3⟩, ⟨%d4, H4⟩, ⟨%d5, H5⟩, ⟨%d6, H6⟩, ⟨%d7, H7⟩, ⟨%d8, H8⟩⟩
  have hp := point_values m a c H t ((tight m a 0 c).before 4 t d6) ((tight m a 0 c).before 5 t d7) ((tight m a 0 c).before 6 t d8) d9 d10 d11 d12 d13
    (fun h => found_5 m a c t h d7) (fun h => found_6 m a c t h d8)
  have hw := point_wp c t (bufs t) rfl (iprop((∃ r, prngReg c r) ∗ (tight m a 0 c).owesAt () t.castSucc)) (iblk m c 0 t) (iblk m c 1 t) (iblk m c 2 t) (iblk m c 3 t)
      ((tight m a 0 c).before 4 t d6) ((tight m a 0 c).before 5 t d7) ((tight m a 0 c).before 6 t d8) d9 d10 d11 d12 d13 _ rfl
  rw [hp.1, hp.2.1, hp.2.2] at hw
  iapply (wp_mono _ _ _ (Q := fun _ => iprop(((∃ r, prngReg c r) ∗ (tight m a 0 c).owesAt () t.castSucc) ∗ _)) fun _ => ?_)
  rotate_left
  · iapply hw
    isplitl [Hg HO]
    · isplitl [Hg]; · iexact Hg
      iexact HO
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  · iintro ⟨⟨Hg, HO⟩, H2, H3, H4, H5, H6, H7, H8, ⟨%e9, H9⟩, ⟨%e10, H10⟩, ⟨%e11, H11⟩, ⟨%e12, H12⟩, ⟨%e13, H13⟩⟩
    isplitl [H9 H10 H11 H12 H13 Hg]
    · isplitl [H9 H10 H11 H12 H13]
      · isplitl [H9]; · iexists _; iexact H9
        isplitl [H10]; · iexists _; iexact H10
        isplitl [H11]; · iexists _; iexact H11
        isplitl [H12]; · iexists _; iexact H12
        iexists _; iexact H13
      iexact Hg
    isplitl [HO]; · iexact HO
    isplitl [H2]; · iexact H2
    isplitl [H3]; · iexact H3
    isplitl [H4]; · iexact H4
    isplitl [H5]; · iexact H5
    isplitl [H6]; · iexact H6
    isplitl [H7]; · iexact H7
    iexact H8

theorem tight_obligation (c : Dev nD) (H : Real4 m c (a c)) :
    BodyObligation (tight m a 0 c) (defs₀ (F := Ideal)) Variants.none () Set.univ := fun t => by
  rw [bigSep_W0, bigSep_W0, loose_row]
  exact triple_restated (tight_sound m a c H t) rfl .rfl fun _ => .rfl

/-! ## The run -/

/-- The three results. -/
def resQ (c : Dev nD) : S8x64x8192.Idx → EReal :=
  fun y => ((gQ (headOf (a c) (y (0 : Fin 3)).val) (y (1 : Fin 3)).val (y (2 : Fin 3)).val 8192 * (1 / 8) : ℝ) : EReal)
def resK (c : Dev nD) : S8x64x8192.Idx → EReal :=
  fun y => ((gK (headOf (a c) (y (0 : Fin 3)).val) (y (1 : Fin 3)).val (y (2 : Fin 3)).val 8192 : ℝ) : EReal)
def resV (c : Dev nD) : S8x64x8192.Idx → EReal :=
  fun y => ((gV (headOf (a c) (y (0 : Fin 3)).val) (y (1 : Fin 3)).val (y (2 : Fin 3)).val 8192 : ℝ) : EReal)

theorem final_4 (c : Dev nD) : (tight m a 0 c).arrAt 4 (cfgs 0).N = resQ a c := by
  refine (tight m a 0 c).arrAt_eq_of_covers 4 _ (by decide +kernel) fun t hf y => ?_
  have h0 : (((cfg0.win 4).blk t).view.emb y 0).val = t.val / 32 := by
    have hy : (y (0 : Fin 3)).val < 1 := (y (0 : Fin 3)).isLt
    blk_simp [index_4 t]
    try first | omega | (simp; omega)
  have h1 : (((cfg0.win 4).blk t).view.emb y 1).val = (y (1 : Fin 3)).val := by
    blk_simp [index_4 t]
    try first | omega | (simp; done)
  have h2 : (((cfg0.win 4).blk t).view.emb y 2).val = 256 * (t.val % 32) + (y (2 : Fin 3)).val := by
    blk_simp [index_4 t]
    try first | omega | (simp; omega)
  blk_simp
  show outQ a c t.val y = resQ a c (((cfg0.win 4).blk t).view.emb y)
  unfold outQ resQ
  rw [h0, h1, h2]

theorem final_5 (c : Dev nD) : (tight m a 0 c).arrAt 5 (cfgs 0).N = resK a c := by
  refine (tight m a 0 c).arrAt_eq_of_covers 5 _ (by decide +kernel) fun t hf y => ?_
  have h0 : (((cfg0.win 5).blk t).view.emb y 0).val = t.val / 32 := by
    have hy : (y (0 : Fin 3)).val < 1 := (y (0 : Fin 3)).isLt
    blk_simp [index_5 t]
    try first | omega | (simp; omega)
  have h1 : (((cfg0.win 5).blk t).view.emb y 1).val = (y (1 : Fin 3)).val := by
    blk_simp [index_5 t]
    try first | omega | (simp; done)
  have h2 : (((cfg0.win 5).blk t).view.emb y 2).val = (y (2 : Fin 3)).val := by
    blk_simp [index_5 t]
    try first | omega | (simp; omega)
  have hl := (flush0_5 t).1 hf
  blk_simp
  show outK a c t.val y = resK a c (((cfg0.win 5).blk t).view.emb y)
  unfold outK resK
  rw [h0, h1, h2, hl]

theorem final_6 (c : Dev nD) : (tight m a 0 c).arrAt 6 (cfgs 0).N = resV a c := by
  refine (tight m a 0 c).arrAt_eq_of_covers 6 _ (by decide +kernel) fun t hf y => ?_
  have h0 : (((cfg0.win 6).blk t).view.emb y 0).val = t.val / 32 := by
    have hy : (y (0 : Fin 3)).val < 1 := (y (0 : Fin 3)).isLt
    blk_simp [index_6 t]
    try first | omega | (simp; omega)
  have h1 : (((cfg0.win 6).blk t).view.emb y 1).val = (y (1 : Fin 3)).val := by
    blk_simp [index_6 t]
    try first | omega | (simp; done)
  have h2 : (((cfg0.win 6).blk t).view.emb y 2).val = (y (2 : Fin 3)).val := by
    blk_simp [index_6 t]
    try first | omega | (simp; omega)
  have hl := (flush0_6 t).1 hf
  blk_simp
  show outV a c t.val y = resV a c (((cfg0.win 6).blk t).view.emb y)
  unfold outV resV
  rw [h0, h1, h2, hl]

set_option backward.isDefEq.respectTransparency.types false in
theorem run_tight (ρ : Dev nD → PrngReg) (H : ∀ c, Real4 m c (a c)) :
    θ_run defs (onTc (τ := τ) (main (F := Ideal))) (s₀ m ρ)
      (Pipeline.FramePost (cfgs) (tight m a) 0 (V m)) :=
  Pipeline.θ_run_frame_track (cfgs) (tight m a) (0 : Fin 1) launch0 defs₀ Variants.none m ρ main
    (hbody := fun c => (tight_obligation m a c (H c)).loose) (hshare := fun c => (tight m a 0 c).share_full fun _ => rfl)
    (howed := fun _ _ => rfl) (V := V m) (hmain := hmain m Variants.none) (hA := tight_A m a)
    (hin := fun _ => .rfl) (hout := fun _ => .rfl)

theorem run_values (ρ : Dev nD → PrngReg) (H : ∀ c, Real4 m c (a c)) :
    θ_run defs (onTc (τ := τ) (main (F := Ideal))) ⟨m, fun _ => 0, ρ⟩ (fun r => ∀ c : Dev nD,
      r.2.mem ((c.tc : Thread nD τ).loc main_v20_0) = resQ a c
      ∧ r.2.mem ((c.tc : Thread nD τ).loc main_v20_1) = resK a c
      ∧ r.2.mem ((c.tc : Thread nD τ).loc main_v20_2) = resV a c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 4).trans (final_4 m a c), ((h c).1 5).trans (final_5 m a c), ((h c).1 6).trans (final_6 m a c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) (run_tight m a ρ H)

end Cert.KernelIdeal.Own

end
-- ==== Proof.Ref.lean ====
/- The reference's three results over the extended reals, from arguments that are real numbers. -/
module

public import proofs.«01_k».proof.Proof.Gen.ReferenceIdeal.Read
public import proofs.«01_k».proof.Proof.Blocks

@[expose] public section

set_option maxRecDepth 16384

noncomputable section

namespace Cert.ReferenceIdeal.Own

open Idealize.ShloMosaic Idealize.ShloMosaic.TcCoe
open Cert.ReferenceIdeal Cert.ReferenceIdeal.Gen Cert.ReferenceIdeal.Read
open Cert.Spec
open Cert.KernelIdeal.Own (IsReal headOf lit_eighth slt_one)
open Finset (range Ico sum_congr)

/-! ## The operations on real numbers -/

theorem mul_r (a b : ℝ) : FloatOps.mulf (F := Ideal) (φ := .f32) (a : EReal) (b : EReal) = ((a * b : ℝ) : EReal) := (EReal.coe_mul a b).symm
theorem add_r (a b : ℝ) : FloatOps.addf (F := Ideal) (φ := .f32) (a : EReal) (b : EReal) = ((a + b : ℝ) : EReal) := (EReal.coe_add a b).symm
theorem sub_r (a b : ℝ) : FloatOps.subf (F := Ideal) (φ := .f32) (a : EReal) (b : EReal) = ((a - b : ℝ) : EReal) := (EReal.coe_sub a b).symm
theorem neg_r (a : ℝ) : FloatOps.hostNegf (F := Ideal) (φ := .f32) (a : EReal) = ((-a : ℝ) : EReal) := (EReal.coe_neg a).symm
theorem max_r (a b : ℝ) : FloatOps.maximumf (F := Ideal) (φ := .f32) (a : EReal) (b : EReal) = ((max a b : ℝ) : EReal) := coe_max a b
theorem exp_r (a : ℝ) : FloatOps.hostUnary (F := Ideal) .exp (φ := .f32) (a : EReal) = ((Real.exp a : ℝ) : EReal) := Ideal.exp_coe a
theorem abs_r (a : ℝ) : FloatOps.hostAbsf (F := Ideal) (φ := .f32) (a : EReal) = ((max a (-a) : ℝ) : EReal) := by
  show max (a : EReal) (-(a : EReal)) = _
  rw [← EReal.coe_neg, coe_max]
theorem log1p_exp_r (a : ℝ) : FloatOps.hostUnary (F := Ideal) .log1p (φ := .f32) ((Real.exp a : ℝ) : EReal) = ((Real.log (1 + Real.exp a) : ℝ) : EReal) := by
  rw [← log_one_add_exp, Ideal.exp_coe]
  rfl
theorem zero_r : FloatOps.ofBits (F := Ideal) .f32 0x00000000#32 = ((0 : ℝ) : EReal) := by
  show Ideal.ofBits .f32 0x00000000#32 = _
  simp [Ideal.ofBits, Ideal.ieee]
theorem inf_r : FloatOps.ofBits (F := Ideal) .f32 0x7F800000#32 = (⊤ : EReal) := by
  show Ideal.ofBits .f32 0x7F800000#32 = _
  simp [Ideal.ofBits, Ideal.ieee]
theorem une_r (a : ℝ) : FloatOps.cmpf (F := Ideal) (φ := .f32) .une (a : EReal) (a : EReal) = 0#1 := by
  show Ideal.cmp .une (a : EReal) (a : EReal) = 0#1
  simp [Ideal.cmp]
theorem oeq_r (a : ℝ) : FloatOps.cmpf (F := Ideal) (φ := .f32) .oeq (a : EReal) (⊤ : EReal) = 0#1 := by
  show Ideal.cmp .oeq (a : EReal) (⊤ : EReal) = 0#1
  simp [Ideal.cmp]

theorem sel_r {b : BitVec 1} {p : Prop} [Decidable p] (h : b = 1#1 ↔ p) (x y : ℝ) :
    Scalar.select b (x : EReal) (y : EReal) = ((if p then x else y : ℝ) : EReal) := by
  show (if b = 1#1 then (x : EReal) else (y : EReal)) = _
  by_cases hp : p
  · rw [if_pos (h.2 hp), if_pos hp]
  · rw [if_neg fun e => hp (h.1 e), if_neg hp]

theorem sel_0 (x y : EReal) : Scalar.select 0#1 x y = y := rfl

/-! ## Sums over a window -/

/-- An array over heads, queries and keys. -/
def M (x : S1x8x8192x8192.Idx → EReal) (f : ℕ → ℕ → ℕ → ℝ) : Prop := ∀ i, x i = ((f (i 1).val (i 2).val (i 3).val : ℝ) : EReal)

theorem foldl_plus {N : ℕ} (g : Fin N → EReal) (v : EReal) : (List.finRange N).foldl (fun r n => r + g n) v = v + ∑ n, g n := by
  rw [← List.sum_ofFn, List.ofFn_eq_map]
  generalize List.finRange N = l
  induction l generalizing v with
  | nil => simp
  | cons x l ih => rw [List.foldl_cons, ih, List.map_cons, List.sum_cons, add_assoc]

theorem window_eq {s t u : Shape} (window strides lo hi : Fin s.rank → ℕ) (x : s.Idx → EReal) (init : u.Idx → EReal) (h : s.ReduceWindows window strides lo hi t)
    (hu : 0 < u.numel) (j : t.Idx) :
    Host.reduceWindowAdd (F := Ideal) (φ := .f32) window strides lo hi x init h hu j
      = init (Shape.Idx.first hu) + ∑ w : (⟨s.rank, window⟩ : Shape).Idx,
        (if hin : ∀ a, lo a ≤ (j (a.cast h.1.symm)).val * strides a + (w a).val ∧ (j (a.cast h.1.symm)).val * strides a + (w a).val - lo a < s.size a
          then x (fun a => ⟨(j (a.cast h.1.symm)).val * strides a + (w a).val - lo a, (hin a).2⟩) else init (Shape.Idx.first hu)) := by
  refine (foldl_plus (N := (⟨s.rank, window⟩ : Shape).numel) _ _).trans ?_
  refine congrArg (fun z : EReal => init (Shape.Idx.first hu) + z) (Eq.trans (Finset.sum_congr rfl fun n _ => ?_) (Equiv.sum_comp (M := EReal) (Shape.rowMajor ⟨s.rank, window⟩).symm (fun w : (⟨s.rank, window⟩ : Shape).Idx =>
    (if hin : ∀ a, lo a ≤ (j (a.cast h.1.symm)).val * strides a + (w a).val ∧ (j (a.cast h.1.symm)).val * strides a + (w a).val - lo a < s.size a
      then x (fun a => ⟨(j (a.cast h.1.symm)).val * strides a + (w a).val - lo a, (hin a).2⟩) else init (Shape.Idx.first hu)))))
  exact dite_congr rfl (fun _ => rfl) (fun _ => rfl)

theorem window_sum (lo hi : Fin 4 → ℕ) (h : S1x8x8192x8192.ReduceWindows ![1, 1, 1, 8192] ![1, 1, 1, 1] ![0, 0, 0, lo 3] ![0, 0, 0, hi 3] S1x8x8192x8192)
    (hu : 0 < S_.numel) (x : S1x8x8192x8192.Idx → EReal) (f : ℕ → ℕ → ℕ → ℝ) (hx : M x f)
    (init : S_.Idx → EReal) (hinit : ∀ i, init i = ((0 : ℝ) : EReal)) (j : S1x8x8192x8192.Idx) :
    Host.reduceWindowAdd (F := Ideal) (φ := .f32) ![1, 1, 1, 8192] ![1, 1, 1, 1] ![0, 0, 0, lo 3] ![0, 0, 0, hi 3] x init h hu j
      = ((∑ w ∈ range 8192, (if lo 3 ≤ (j 3).val + w ∧ (j 3).val + w - lo 3 < 8192 then f (j 1).val (j 2).val ((j 3).val + w - lo 3) else 0) : ℝ) : EReal) := by
  refine (window_eq _ _ _ _ _ _ _ _ _).trans ?_
  rw [hinit, EReal.coe_zero, zero_add]
  rw [sum_idx4]
  simp only [Fin.sum_univ_one]
  rw [← coe_sum]
  refine Finset.sum_congr rfl fun w _ => ?_
  have h0 : (j 0).val < 1 := (j 0).isLt
  have h1 : (j 1).val < 8 := (j 1).isLt
  have h2 : (j 2).val < 8192 := (j 2).isLt
  split
  · next hin =>
    have h3 := hin 3
    change lo 3 ≤ (j 3).val * 1 + w.val ∧ (j 3).val * 1 + w.val - lo 3 < 8192 at h3
    rw [Nat.mul_one] at h3
    rw [if_pos h3, hx]
    show ((f ((j 1).val * 1 + 0 - 0) ((j 2).val * 1 + 0 - 0) ((j 3).val * 1 + w.val - lo 3) : ℝ) : EReal) = _
    simp only [Nat.mul_one, Nat.add_zero, Nat.sub_zero]
  · next hin =>
    rw [if_neg fun h3 => hin fun a => by
      match a with
      | ⟨0, _⟩ => exact ⟨Nat.zero_le _, show (j 0).val * 1 + 0 - 0 < 1 by omega⟩
      | ⟨1, _⟩ => exact ⟨Nat.zero_le _, show (j 1).val * 1 + 0 - 0 < 8 by omega⟩
      | ⟨2, _⟩ => exact ⟨Nat.zero_le _, show (j 2).val * 1 + 0 - 0 < 8192 by omega⟩
      | ⟨3, _⟩ =>
        show lo 3 ≤ (j 3).val * 1 + w.val ∧ (j 3).val * 1 + w.val - lo 3 < 8192
        rw [Nat.mul_one]
        exact h3]
    exact EReal.coe_zero.symm

theorem window_from (f : ℕ → ℝ) {s : ℕ} (hs : s < 8192) :
    (∑ w ∈ range 8192, if 0 ≤ s + w ∧ s + w - 0 < 8192 then f (s + w - 0) else 0) = ∑ r ∈ Ico s 8192, f r := by
  rw [Finset.sum_Ico_eq_sum_range, ← Finset.sum_filter]
  refine Finset.sum_congr ?_ fun w _ => by rw [Nat.sub_zero]
  ext w
  simp only [Finset.mem_filter, Finset.mem_range]
  omega

theorem window_upto (f : ℕ → ℝ) {s : ℕ} (hs : s < 8192) :
    (∑ w ∈ range 8192, if 8191 ≤ s + w ∧ s + w - 8191 < 8192 then f (s + w - 8191) else 0) = ∑ r ∈ range (s + 1), f r := by
  rw [← Finset.sum_filter]
  refine Finset.sum_nbij' (fun w => s + w - 8191) (fun r => r + 8191 - s) ?_ ?_ ?_ ?_ ?_
  · intro w hw
    simp only [Finset.mem_filter, Finset.mem_range] at hw ⊢
    omega
  · intro w hw
    simp only [Finset.mem_filter, Finset.mem_range] at hw ⊢
    omega
  · intro w hw
    simp only [Finset.mem_filter, Finset.mem_range] at hw ⊢
    omega
  · intro w hw
    simp only [Finset.mem_filter, Finset.mem_range] at hw ⊢
    omega
  · intro w hw
    rfl

/-! ## The logistic function -/

theorem lbr_eq (z : ℝ) : lbr z = -(max (-z) 0 + Real.log (1 + Real.exp (-max (-z - 0) (-(-z - 0))))) := by
  unfold lbr
  rcases le_total z 0 with h | h
  · rw [min_eq_left h, max_eq_left (by linarith), max_eq_left (by linarith)]
    rw [show z + z - z = -(-z - 0) by ring]
    ring
  · rw [min_eq_right h, max_eq_right (by linarith), max_eq_right (by linarith)]
    rw [show (0 : ℝ) + 0 - z = - -(-z - 0) by ring]
    ring

theorem exp_lcr (z : ℝ) : Real.exp (lcr z) = 1 - Real.exp (lbr z) := by
  unfold lcr lbr
  rcases le_total z 0 with h | h
  · rw [min_eq_left h, show z + z - z = z by ring]
    have hp := Real.exp_pos z
    rw [show z - Real.log (1 + Real.exp z) - z = -Real.log (1 + Real.exp z) by ring, Real.exp_neg, Real.exp_sub, Real.exp_log (by linarith)]
    field_simp
    ring
  · rw [min_eq_right h, show (0 : ℝ) + 0 - z = -z by ring]
    have hp := Real.exp_pos (-z)
    rw [show 0 - Real.log (1 + Real.exp (-z)) - z = -z - Real.log (1 + Real.exp (-z)) by ring, zero_sub, Real.exp_neg (Real.log _), Real.exp_sub, Real.exp_log (by linarith)]
    field_simp
    ring

/-! ## The arguments by head -/

variable {x0 x1 x2 x3 : S8192x512.Idx → EReal} {a : Fin 4 → ℕ → ℕ → ℝ}

theorem real_at {x : S8192x512.Idx → EReal} {f : ℕ → ℕ → ℝ} (hx : IsReal x f) (y : S8192x512.Idx) : x y = ((f (y 0).val (y 1).val : ℝ) : EReal) := by
  have := hx (y 0) (y 1)
  rw [← this]
  exact congrArg x (eq_ix2 y)

theorem v0_at {f : ℕ → ℕ → ℝ} (hx : IsReal x0 f) (i : S1x8192x8x64.Idx) : val_main_v0 (F := Ideal) x0 i = ((f (i 1).val (64 * (i 2).val + (i 3).val) : ℝ) : EReal) := by
  have b0 : (i 0).val < 1 := (i 0).isLt
  have b1 : (i 1).val < 8192 := (i 1).isLt
  have b2 : (i 2).val < 8 := (i 2).isLt
  have b3 : (i 3).val < 64 := (i 3).isLt
  rw [val_main_v0_apply, real_at hx]
  show ((f (((((i 0).val * 8192 + (i 1).val) * 8 + (i 2).val) * 64 + (i 3).val) / 512) (((((i 0).val * 8192 + (i 1).val) * 8 + (i 2).val) * 64 + (i 3).val) % 512) : ℝ) : EReal) = _
  rw [show ((((i 0).val * 8192 + (i 1).val) * 8 + (i 2).val) * 64 + (i 3).val) / 512 = (i 1).val by omega,
    show ((((i 0).val * 8192 + (i 1).val) * 8 + (i 2).val) * 64 + (i 3).val) % 512 = 64 * (i 2).val + (i 3).val by omega]

theorem v1_at {f : ℕ → ℕ → ℝ} (hx : IsReal x1 f) (i : S1x8192x8x64.Idx) : val_main_v1 (F := Ideal) x1 i = ((f (i 1).val (64 * (i 2).val + (i 3).val) : ℝ) : EReal) :=
  v0_at hx i
theorem v2_at {f : ℕ → ℕ → ℝ} (hx : IsReal x2 f) (i : S1x8192x8x64.Idx) : val_main_v2 (F := Ideal) x2 i = ((f (i 1).val (64 * (i 2).val + (i 3).val) : ℝ) : EReal) :=
  v0_at hx i
theorem v24_at {f : ℕ → ℕ → ℝ} (hx : IsReal x3 f) (i : S1x8192x8x64.Idx) : val_main_v24 (F := Ideal) x3 i = ((f (i 1).val (64 * (i 2).val + (i 3).val) : ℝ) : EReal) :=
  v0_at hx i
theorem v25_at {f : ℕ → ℕ → ℝ} (hx : IsReal x3 f) (i : S1x8x64x8192.Idx) : val_main_v25 (F := Ideal) x3 i = ((f (i 3).val (64 * (i 1).val + (i 2).val) : ℝ) : EReal) := by
  rw [val_main_v25_apply, v24_at hx]

/-! ## The stages -/

theorem at_mask (i : S1x8x8192x8192.Idx) : val_main_v15_1 (F := Ideal) i = 1#1 ↔ (i 3).val < (i 2).val := by
  rw [val_main_v15_1_apply, val_main_v12_apply, val_main_v10_apply, val_main_v11_apply, val_main_v9_apply, val_main_v7_apply, val_main_v8_apply, val_main_v6_apply]
  have b2 : (i 2).val < 8192 := (i 2).isLt
  have b3 : (i 3).val < 8192 := (i 3).isLt
  exact slt_one b3 b2

theorem at_mask' (i : S1x8x8192x8192.Idx) : val_main_v20_1 (F := Ideal) i = 1#1 ↔ (i 3).val < (i 2).val := at_mask i

theorem at_z (h0 : IsReal x0 (a 0)) (h1 : IsReal x1 (a 1)) : M (val_main_v5 (F := Ideal) x0 x1) (fun h t s => Z (headOf a h) t s) := fun i => by
  rw [val_main_v5_apply, val_main_v3_apply, val_main_v4_apply, val_main_cst_apply]
  simp only [v0_at h0, v1_at h1, ← EReal.coe_mul]
  rw [coe_sum 64 (fun d => a 0 (i 2).val (64 * (i 1).val + d) * a 1 (i 3).val (64 * (i 1).val + d))]
  rw [show FloatOps.ofBits (F := Ideal) .f32 0x3E000000#32 = ((1 / 8 : ℝ) : EReal) from lit_eighth, mul_r, Finset.sum_mul]
  unfold Z headOf
  congr 1
  refine sum_congr rfl fun d _ => ?_
  ring

theorem at_soft (h0 : IsReal x0 (a 0)) (h1 : IsReal x1 (a 1)) : M (val_main_call0_v1_0 (F := Ideal) x0 x1) (fun h t s => -lbr (Z (headOf a h) t s)) := fun i => by
  rw [val_main_call0_v1_0_apply, val_main_call0_call0_v4_apply, val_main_call0_call0_v3_apply, val_main_call0_v0_apply, val_main_call0_call0_v2_apply, val_main_call0_call0_cst_apply,
    at_z h0 h1, zero_r, neg_r, sub_r, une_r, sel_0]
  rw [val_main_call0_call0_v11_apply, val_main_call0_call0_v1_apply, val_main_call0_call0_v10_apply, val_main_call0_call0_v9_apply, val_main_call0_call0_v8_apply, val_main_call0_call0_v7_apply,
    val_main_call0_call0_v3_apply, val_main_call0_v0_apply, val_main_call0_call0_v2_apply, val_main_call0_call0_v0_apply, val_main_call0_call0_cst_apply,
    at_z h0 h1, zero_r, neg_r, sub_r, abs_r, neg_r, exp_r, log1p_exp_r, max_r, add_r]
  dsimp only
  rw [lbr_eq, neg_neg]

theorem at_lb (h0 : IsReal x0 (a 0)) (h1 : IsReal x1 (a 1)) : M (val_main_v13_0 (F := Ideal) x0 x1) (fun h t s => lbr (Z (headOf a h) t s)) := fun i => by
  rw [val_main_v13_0_apply, at_soft h0 h1, neg_r, neg_neg]

theorem at_cb (h0 : IsReal x0 (a 0)) (h1 : IsReal x1 (a 1)) : M (val_main_v13_1 (F := Ideal) x0 x1) (fun h t s => 1 - Real.exp (lbr (Z (headOf a h) t s))) := fun i => by
  rw [val_main_v13_1_apply, val_main_call0_call0_v21_apply, val_main_call0_call0_v16_apply, val_main_call0_call0_v20_apply, val_main_call0_call0_v14_apply, val_main_call0_call0_v18_apply,
    val_main_call0_call0_v13_apply, val_main_call0_call0_v17_apply, val_main_call0_call0_cst_0_apply, val_main_call0_call0_cst_2_apply, val_main_call0_v0_apply,
    at_z h0 h1, at_soft h0 h1, inf_r, neg_r, oeq_r, oeq_r, sel_0, sel_0, sub_r, exp_r]
  dsimp only
  rw [← exp_lcr]
  unfold lcr
  rw [sub_neg_eq_add, neg_add_eq_sub]

theorem at_x (h0 : IsReal x0 (a 0)) (h1 : IsReal x1 (a 1)) : M (val_main_v15_0 (F := Ideal) x0 x1) (fun h t s => X (headOf a h) t s) := fun i => by
  rw [val_main_v15_0_apply, val_main_v14_apply, val_main_call1_v2_apply, val_main_call1_v0_apply, val_main_cst_0_apply, at_z h0 h1, at_lb h0 h1, sub_r, zero_r, sel_r (at_mask i)]
  rfl

theorem at_tail (h0 : IsReal x0 (a 0)) (h1 : IsReal x1 (a 1)) : M (val_main_v16 (F := Ideal) x0 x1) (fun h t s => tail (headOf a h) t s) := fun i => by
  unfold val_main_v16
  have b3 : (i 3).val < 8192 := (i 3).isLt
  refine (window_sum ![0, 0, 0, 0] ![0, 0, 0, 8191] _ _ _ _ (at_x h0 h1) _ (fun j => ?_) i).trans ?_
  · rw [val_main_call2_v0_apply, val_main_call2_cst_apply, zero_r]
  · exact congrArg _ (window_from (fun r => X (headOf a (i 1).val) (i 2).val r) b3)

theorem at_w (h0 : IsReal x0 (a 0)) (h1 : IsReal x1 (a 1)) :
    M (val_main_v19 (F := Ideal) x0 x1) (fun h t s => Real.exp (lbr (Z (headOf a h) t s) + tail (headOf a h) t (s + 1))) := fun i => by
  have b3 : (i 3).val < 8192 := (i 3).isLt
  rw [val_main_v19_apply, val_main_v18_apply, val_main_v17_apply, at_tail h0 h1, at_x h0 h1, at_lb h0 h1, sub_r, add_r, exp_r]
  congr 3
  dsimp only
  unfold tail
  rw [Finset.sum_eq_sum_Ico_succ_bot b3, add_sub_cancel_left]

theorem at_W (h0 : IsReal x0 (a 0)) (h1 : IsReal x1 (a 1)) : M (val_main_v20_0 (F := Ideal) x0 x1) (fun h t s => W (headOf a h) t s) := fun i => by
  rw [val_main_v20_0_apply, val_main_call3_v2_apply, val_main_call3_v0_apply, val_main_cst_1_apply, at_w h0 h1, zero_r, sel_r (at_mask' i)]
  rfl

theorem at_y (h2 : IsReal x2 (a 2)) (h3 : IsReal x3 (a 3)) : M (val_main_v26 (F := Ideal) x2 x3) (fun h t s => Y (headOf a h) t s) := fun i => by
  rw [val_main_v26_apply]
  simp only [v25_at h3, v2_at h2, ← EReal.coe_mul]
  exact coe_sum 64 (fun d => a 3 (i 2).val (64 * (i 1).val + d) * a 2 (i 3).val (64 * (i 1).val + d))

theorem at_e (h0 : IsReal x0 (a 0)) (h1 : IsReal x1 (a 1)) (h2 : IsReal x2 (a 2)) (h3 : IsReal x3 (a 3)) :
    M (val_main_v30 (F := Ideal) x0 x1 x2 x3) (fun h t s => E (headOf a h) t s) := fun i => by
  rw [val_main_v30_apply, val_main_v29_apply, val_main_call4_v0_apply, val_main_call4_cst_apply, at_y h2 h3, at_w h0 h1, zero_r, sel_r (at_mask' i), mul_r]
  congr 1
  dsimp only
  unfold E W
  split <;> simp only [zero_mul, mul_zero]

theorem at_upto (h0 : IsReal x0 (a 0)) (h1 : IsReal x1 (a 1)) (h2 : IsReal x2 (a 2)) (h3 : IsReal x3 (a 3)) :
    M (val_main_v32 (F := Ideal) x0 x1 x2 x3) (fun h t s => pre (headOf a h) t (s + 1)) := fun i => by
  unfold val_main_v32
  have b3 : (i 3).val < 8192 := (i 3).isLt
  refine (window_sum ![0, 0, 0, 8191] ![0, 0, 0, 0] _ _ _ _ (at_e h0 h1 h2 h3) _ (fun j => ?_) i).trans ?_
  · rw [val_main_call5_v0_apply, val_main_call5_cst_apply, zero_r]
  · exact congrArg _ (window_upto (fun r => E (headOf a (i 1).val) (i 2).val r) b3)

theorem at_pre (h0 : IsReal x0 (a 0)) (h1 : IsReal x1 (a 1)) (h2 : IsReal x2 (a 2)) (h3 : IsReal x3 (a 3)) :
    M (val_main_v34 (F := Ideal) x0 x1 x2 x3) (fun h t s => if s < t then pre (headOf a h) t s else 0) := fun i => by
  rw [val_main_v34_apply, val_main_v33_apply, val_main_v31_apply, val_main_call6_v0_apply, val_main_call6_cst_apply, at_e h0 h1 h2 h3, at_upto h0 h1 h2 h3, neg_r, add_r, zero_r,
    sel_r (at_mask i)]
  congr 2
  dsimp only
  unfold pre
  rw [Finset.sum_range_succ]
  ring

theorem at_g (h0 : IsReal x0 (a 0)) (h1 : IsReal x1 (a 1)) (h2 : IsReal x2 (a 2)) (h3 : IsReal x3 (a 3)) :
    M (val_main_v40 (F := Ideal) x0 x1 x2 x3) (fun h t s => G (headOf a h) t s * (1 / 8)) := fun i => by
  rw [val_main_v40_apply, val_main_v38_apply, val_main_v35_apply, val_main_v37_apply, val_main_call7_v1_apply, val_main_call7_v0_apply, val_main_v36_apply, val_main_v39_apply, val_main_cst_2_apply,
    at_e h0 h1 h2 h3, at_pre h0 h1 h2 h3, at_cb h0 h1, show FloatOps.ofBits (F := Ideal) .f32 0x3E000000#32 = ((1 / 8 : ℝ) : EReal) from lit_eighth]
  simp only [add_r, neg_r, mul_r]
  congr 2
  by_cases h : (i 3).val < (i 2).val
  · rw [if_pos h]
    unfold G B
    rw [if_pos h]
    ring
  · rw [if_neg h, G_past (not_lt.1 h), E_past (not_lt.1 h)]
    ring

/-! ## The results -/

theorem at_dq (h0 : IsReal x0 (a 0)) (h1 : IsReal x1 (a 1)) (h2 : IsReal x2 (a 2)) (h3 : IsReal x3 (a 3)) (i : S1x8x8192x64.Idx) :
    val_main_v43 (F := Ideal) x0 x1 x2 x3 i = ((gQ (headOf a (i 1).val) (i 3).val (i 2).val 8192 * (1 / 8) : ℝ) : EReal) := by
  rw [val_main_v43_apply]
  simp only [at_g h0 h1 h2 h3 _, v1_at h1, ← EReal.coe_mul]
  refine (coe_sum 8192 (fun s => G (headOf a (i 1).val) (i 2).val s * (1 / 8) * a 1 s (64 * (i 1).val + (i 3).val))).trans ?_
  congr 1
  unfold gQ
  rw [Finset.sum_mul]
  refine sum_congr rfl fun s _ => ?_
  show _ = a 1 s (64 * (i 1).val + (i 3).val) * _ * _
  ring

theorem at_dk (h0 : IsReal x0 (a 0)) (h1 : IsReal x1 (a 1)) (h2 : IsReal x2 (a 2)) (h3 : IsReal x3 (a 3)) (i : S1x8x8192x64.Idx) :
    val_main_v41 (F := Ideal) x0 x1 x2 x3 i = ((gK (headOf a (i 1).val) (i 3).val (i 2).val 8192 : ℝ) : EReal) := by
  rw [val_main_v41_apply]
  simp only [at_g h0 h1 h2 h3 _, v0_at h0, ← EReal.coe_mul]
  refine (coe_sum 8192 (fun t => G (headOf a (i 1).val) t (i 2).val * (1 / 8) * a 0 t (64 * (i 1).val + (i 3).val))).trans ?_
  congr 1
  unfold gK
  refine sum_congr rfl fun s _ => ?_
  show _ = a 0 s (64 * (i 1).val + (i 3).val) * (1 / 8) * _
  ring

theorem at_dv (h0 : IsReal x0 (a 0)) (h1 : IsReal x1 (a 1)) (h3 : IsReal x3 (a 3)) (i : S1x8x64x8192.Idx) :
    val_main_v27 (F := Ideal) x0 x1 x3 i = ((gV (headOf a (i 1).val) (i 2).val (i 3).val 8192 : ℝ) : EReal) := by
  rw [val_main_v27_apply]
  simp only [at_W h0 h1 _, v25_at h3, ← EReal.coe_mul]
  exact coe_sum 8192 (fun t => a 3 t (64 * (i 1).val + (i 2).val) * W (headOf a (i 1).val) t (i 3).val)

theorem place (y : S8x64x8192.Idx) : (idx_main_v47 (idx_main_v48 (idx_main_v49 y)) 1).val = (y 2).val
    ∧ (idx_main_v47 (idx_main_v48 (idx_main_v49 y)) 2).val = (y 0).val ∧ (idx_main_v47 (idx_main_v48 (idx_main_v49 y)) 3).val = (y 1).val := by
  have b0 : (y 0).val < 8 := (y 0).isLt
  have b1 : (y 1).val < 64 := (y 1).isLt
  have b2 : (y 2).val < 8192 := (y 2).isLt
  have e1 : (((y 0).val * 64 + (y 1).val) * 8192 + (y 2).val) % 8192 = (y 2).val := by omega
  have e2 : (((y 0).val * 64 + (y 1).val) * 8192 + (y 2).val) / 8192 = (y 0).val * 64 + (y 1).val := by omega
  refine ⟨?_, ?_, ?_⟩
  · show ((((y 0).val * 64 + (y 1).val) * 8192 + (y 2).val) % 8192 * 512 + (((y 0).val * 64 + (y 1).val) * 8192 + (y 2).val) / 8192) / 512 % 8192 = _
    rw [e1, e2]
    omega
  · show ((((y 0).val * 64 + (y 1).val) * 8192 + (y 2).val) % 8192 * 512 + (((y 0).val * 64 + (y 1).val) * 8192 + (y 2).val) / 8192) / 64 % 8 = _
    rw [e1, e2]
    omega
  · show ((((y 0).val * 64 + (y 1).val) * 8192 + (y 2).val) % 8192 * 512 + (((y 0).val * 64 + (y 1).val) * 8192 + (y 2).val) / 8192) % 64 = _
    rw [e1, e2]
    omega

theorem res_q (h0 : IsReal x0 (a 0)) (h1 : IsReal x1 (a 1)) (h2 : IsReal x2 (a 2)) (h3 : IsReal x3 (a 3)) (y : S8x64x8192.Idx) :
    val_main_v49 (F := Ideal) x0 x1 x2 x3 y = ((gQ (headOf a (y 0).val) (y 1).val (y 2).val 8192 * (1 / 8) : ℝ) : EReal) := by
  obtain ⟨p1, p2, p3⟩ := place y
  rw [val_main_v49_apply, val_main_v48_apply, val_main_v47_apply, val_main_v44_apply, at_dq h0 h1 h2 h3, ← p1, ← p2, ← p3]

theorem res_k (h0 : IsReal x0 (a 0)) (h1 : IsReal x1 (a 1)) (h2 : IsReal x2 (a 2)) (h3 : IsReal x3 (a 3)) (y : S8x64x8192.Idx) :
    val_main_v51 (F := Ideal) x0 x1 x2 x3 y = ((gK (headOf a (y 0).val) (y 1).val (y 2).val 8192 : ℝ) : EReal) := by
  obtain ⟨p1, p2, p3⟩ := place y
  rw [val_main_v51_apply, val_main_v50_apply, val_main_v46_apply, val_main_v42_apply, at_dk h0 h1 h2 h3, ← p1, ← p2, ← p3]

theorem res_v (h0 : IsReal x0 (a 0)) (h1 : IsReal x1 (a 1)) (h3 : IsReal x3 (a 3)) (y : S8x64x8192.Idx) :
    val_main_v53 (F := Ideal) x0 x1 x3 y = ((gV (headOf a (y 0).val) (y 1).val (y 2).val 8192 : ℝ) : EReal) := by
  obtain ⟨p1, p2, p3⟩ := place y
  rw [val_main_v53_apply, val_main_v52_apply, val_main_v45_apply, val_main_v28_apply, at_dv h0 h1 h3, ← p1, ← p2, ← p3]

end Cert.ReferenceIdeal.Own

end
-- ==== Proof.Real.lean ====
/- What the precondition gives: the arguments are real numbers. -/
module

public import proofs.«01_k».proof.Pre_finite
public import proofs.«01_k».proof.Proof.Blocks
public import Idealize.ShloMosaic.Lib.ReduceAll
public import Idealize.ShloMosaic.Lib.Affine

@[expose] public section

noncomputable section

namespace Cert.Proof

open Idealize.ShloMosaic
open Cert.Pre_finite (S8192x512 S_)
open Cert.KernelIdeal.Own (IsReal)

theorem finite_facts : Cert.Pre_finite.Facts where
  bcast_S_S8192x512 := by decide
  reducesTo_S8192x512_S_d0_1 := by decide
  h_S_ := by decide

instance : Subsingleton S_.Idx := ⟨fun _ _ => funext fun k => k.elim0⟩

/-- The numbers of an array, zero where it is infinite. -/
def numbers (x : S8192x512.Idx → EReal) (i j : ℕ) : ℝ :=
  if h : i < 8192 ∧ j < 512 then (x (ix2 (⟨i, h.1⟩ : Fin 8192) (⟨j, h.2⟩ : Fin 512))).toReal else 0

theorem real_of_lt {x : EReal} (h : FloatOps.cmpf (F := Ideal) (φ := .f32) .olt (FloatOps.hostAbsf (F := Ideal) (φ := .f32) x) (FloatOps.ofBits (F := Ideal) .f32 0x7F800000#32) = 1#1) :
    ((x.toReal : ℝ) : EReal) = x := by
  have e : Ideal.ofBits .f32 0x7F800000#32 = ⊤ := by simp [Ideal.ofBits, Ideal.ieee]
  change BitVec.ofBool (decide (max x (-x) < Ideal.ofBits .f32 0x7F800000#32)) = 1#1 at h
  rw [e] at h
  have hlt : max x (-x) < ⊤ := by
    by_contra hn
    rw [decide_eq_false hn] at h
    exact absurd h (by decide)
  rw [max_lt_iff] at hlt
  refine EReal.coe_toReal hlt.1.ne fun hb => ?_
  rw [hb] at hlt
  simp at hlt

theorem isReal_of {x : S8192x512.Idx → EReal} (h : ∀ i : S8192x512.Idx, ((x i).toReal : EReal) = x i) : IsReal x (numbers x) := fun i j => by
  unfold numbers
  rw [dif_pos ⟨i.2, j.2⟩]
  exact (h _).symm

theorem real_args (hF : Cert.Pre_finite.Facts) (x0 x1 x2 x3 : S8192x512.Idx → EReal)
    (h : Cert.Pre_finite.fn (F := Ideal) x0 x1 x2 x3 = fun _ => 1#1) :
    IsReal x0 (numbers x0) ∧ IsReal x1 (numbers x1) ∧ IsReal x2 (numbers x2) ∧ IsReal x3 (numbers x3) := by
  have h' := congrFun h (fun k => k.elim0)
  obtain ⟨h012, h3⟩ := IntOp.andi_eq_one.1 h'
  obtain ⟨h01, h2⟩ := IntOp.andi_eq_one.1 h012
  obtain ⟨h0, h1⟩ := IntOp.andi_eq_one.1 h01
  exact ⟨isReal_of fun i => real_of_lt (Host.reduce_andi_all _ _ _ _ _ h0 i), isReal_of fun i => real_of_lt (Host.reduce_andi_all _ _ _ _ _ h1 i),
    isReal_of fun i => real_of_lt (Host.reduce_andi_all _ _ _ _ _ h2 i), isReal_of fun i => real_of_lt (Host.reduce_andi_all _ _ _ _ _ h3 i)⟩

end Cert.Proof

end
-- ==== Proof.GradX.lean ====
/- The gradient of the projection's input and of its norm's gain: the kernel's blocks of 256 rows against the
   reference's 8192 rows. -/
module

public import proofs.«01_k».proof.Proof.Gen.Kernel2Ideal.Value
public import proofs.«01_k».proof.Proof.Gen.Reference2Ideal.Read
public import Idealize.ShloMosaic.Lib.Claim
public import Idealize.ShloMosaic.Lib.Pipeline.ValueKit
public import Idealize.ShloMosaic.Lib.Pointwise

@[expose] public section

set_option maxRecDepth 16384

noncomputable section

namespace Cert.Kernel2Ideal.Own

open Idealize.ShloMosaic Idealize.ShloMosaic.TcCoe Idealize.ShloMosaic.Tactic
open Cert.Kernel2Ideal Cert.Kernel2Ideal.Gen
open Cert.Reference2Ideal.Read

theorem hz2 : (![0, 0] : Fin 2 → Nat) = fun _ => 0 := funext fun a => by fin_cases a <;> rfl

/-! ## What a point leaves in each output's buffer -/

section
variable {F : FTy → Type} [FloatOps F]
variable (c : Dev nD) (i : grid0.Coords) (arg1 : Memref sig .tc .vmem S256x5120 .f32) (harg1 : arg1.IsWhole)
  (arg2 : Memref sig .tc .vmem S256x1024 .f32) (harg2 : arg2.IsWhole) (arg3 : Memref sig .tc .vmem S1x1024 .f32) (harg3 : arg3.IsWhole)
  (arg4 : Memref sig .tc .vmem S1024x5120 .bf16) (harg4 : arg4.IsWhole) (arg5 : Memref sig .tc .vmem S256x1024 .f32) (harg5 : arg5.IsWhole)
  (arg6 : Memref sig .tc .vmem S256x1024 .f32) (harg6 : arg6.IsWhole) (arg7 : Memref sig .tc .vmem S1x1024 .f32) (harg7 : arg7.IsWhole)
  (x0 : Vec F S256x5120 .f32) (x1 : Vec F S256x1024 .f32) (x2 : Vec F S1x1024 .f32) (x3 : Vec F S1024x5120 .bf16) (x4 : Vec F S256x1024 .f32)
  (xo6 : Vec F S1x1024 .f32)

theorem first_5 (hc0 : cond0_0 i) :
    out0_A_5 c i arg1 harg1 arg2 harg2 arg3 harg3 arg4 harg4 arg5 harg5 arg6 harg6 arg7 harg7 hc0 x0 x1 x2 x3 x4
      = k0_pay1 x1 (k0_pay9 x0 x3 x1 x2) (k0_pay10 x0 x3 x1 x2) x4 := by
  unfold out0_A_5
  rw [View.read_writes_eq_canon _ _ _ (cover0_A_5 c i arg1 harg1 arg2 harg2 arg3 harg3 arg4 harg4 arg5 harg5 arg6 harg6 arg7 harg7 hc0 x0 x1 x2 x3 x4)]
  unfold kernelRun0_A
  dsimp only
  try sl_unfold_words
  rw [View.canon_unit_zero hz2]
  simp only [View.readAt_eq_ld, harg1.read_unread, harg2.read_unread, harg3.read_unread, harg4.read_unread, harg5.read_unread, harg6.read_unread, harg7.read_unread, View.ld_unit_zero (S := S256x5120) hz2, View.ld_unit_zero (S := S256x1024) hz2, View.ld_unit_zero (S := S1x1024) hz2, View.ld_unit_zero (S := S1024x5120) hz2, shapeCast_self]

theorem later_5 (hc0 : ¬cond0_0 i) :
    out0_B_5 c i arg1 harg1 arg2 harg2 arg3 harg3 arg4 harg4 arg5 harg5 arg6 harg6 arg7 harg7 hc0 x0 x1 x2 x3 x4 xo6
      = k0_pay1 x1 (k0_pay9 x0 x3 x1 x2) (k0_pay10 x0 x3 x1 x2) x4 := by
  unfold out0_B_5
  rw [View.read_writes_eq_canon _ _ _ (cover0_B_5 c i arg1 harg1 arg2 harg2 arg3 harg3 arg4 harg4 arg5 harg5 arg6 harg6 arg7 harg7 hc0 x0 x1 x2 x3 x4 xo6)]
  unfold kernelRun0_B
  dsimp only
  try sl_unfold_words
  rw [View.canon_unit_zero hz2]
  simp only [View.readAt_eq_ld, harg1.read_unread, harg2.read_unread, harg3.read_unread, harg4.read_unread, harg5.read_unread, harg6.read_unread, harg7.read_unread, View.ld_unit_zero (S := S256x5120) hz2, View.ld_unit_zero (S := S256x1024) hz2, View.ld_unit_zero (S := S1x1024) hz2, View.ld_unit_zero (S := S1024x5120) hz2, shapeCast_self]

theorem first_6 (hc0 : cond0_0 i) :
    out0_A_6 c i arg1 harg1 arg2 harg2 arg3 harg3 arg4 harg4 arg5 harg5 arg6 harg6 arg7 harg7 hc0 x0 x1 x2 x3 x4
      = k0_pay2 (k0_pay7 x0 x3 x1) (k0_pay3 (F := F)) := by
  unfold out0_A_6
  rw [View.read_writes_eq_canon _ _ _ (cover0_A_6 c i arg1 harg1 arg2 harg2 arg3 harg3 arg4 harg4 arg5 harg5 arg6 harg6 arg7 harg7 hc0 x0 x1 x2 x3 x4)]
  unfold kernelRun0_A
  dsimp only
  try sl_unfold_words
  rw [View.canon_cons_unit_zero (S := S1x1024) hz2, View.readCov_unit_zero (S := S1x1024) _ hz2]
  simp only [View.readAt_eq_ld, harg1.read_unread, harg2.read_unread, harg3.read_unread, harg4.read_unread, harg5.read_unread, harg6.read_unread, harg7.read_unread, View.ld_unit_zero (S := S256x5120) hz2, View.ld_unit_zero (S := S256x1024) hz2, View.ld_unit_zero (S := S1x1024) hz2, View.ld_unit_zero (S := S1024x5120) hz2, shapeCast_self]

theorem later_6 (hc0 : ¬cond0_0 i) :
    out0_B_6 c i arg1 harg1 arg2 harg2 arg3 harg3 arg4 harg4 arg5 harg5 arg6 harg6 arg7 harg7 hc0 x0 x1 x2 x3 x4 xo6
      = k0_pay2 (k0_pay7 x0 x3 x1) xo6 := by
  unfold out0_B_6
  rw [View.read_writes_eq_canon _ _ _ (cover0_B_6 c i arg1 harg1 arg2 harg2 arg3 harg3 arg4 harg4 arg5 harg5 arg6 harg6 arg7 harg7 hc0 x0 x1 x2 x3 x4 xo6)]
  unfold kernelRun0_B
  dsimp only
  try sl_unfold_words
  rw [View.canon_unit_zero hz2]
  simp only [View.readAt_eq_ld, harg1.read_unread, harg2.read_unread, harg3.read_unread, harg4.read_unread, harg5.read_unread, harg6.read_unread, harg7.read_unread, View.ld_unit_zero (S := S256x5120) hz2, View.ld_unit_zero (S := S256x1024) hz2, View.ld_unit_zero (S := S1x1024) hz2, View.ld_unit_zero (S := S1024x5120) hz2, shapeCast_self]

end

/-! ## A block of rows against the reference's rows -/

variable (X : S8192x1024.Idx → EReal) (G : S1024.Idx → EReal) (W : S1024x5120.Idx → EReal) (P : S8192x5120.Idx → EReal) (D : S8192x1024.Idx → EReal)

theorem row_of (x0 : S256x5120.Idx → EReal) (x1 : S256x1024.Idx → EReal) (x2 : S1x1024.Idx → EReal) (x3 : S1024x5120.Idx → EReal) (x4 : S256x1024.Idx → EReal)
    (r : Fin 256) (l : Fin 8192) (d : Fin 1024)
    (h0 : ∀ k, x0 (ix2 r k) = P (ix2 l k)) (h1 : ∀ k, x1 (ix2 r k) = X (ix2 l k)) (h2 : ∀ k, x2 (ix2 0 k) = G (ix1 k))
    (h3 : ∀ k n, x3 (ix2 k n) = W (ix2 k n)) (h4 : ∀ k, x4 (ix2 r k) = D (ix2 l k)) :
    @Eq EReal (k0_pay1 (F := Ideal) x1 (k0_pay9 (F := Ideal) x0 x3 x1 x2) (k0_pay10 (F := Ideal) x0 x3 x1 x2) x4 (ix2 r d)) (val_main_v40 (F := Ideal) X G W P D (ix2 l d)) := by
  unfold_payloads
  pointwise [val_main_v0, val_main_v1, val_main_v2, val_main_v3, val_main_v4, val_main_v5, val_main_v6, val_main_v7, val_main_v8, val_main_v9, val_main_v10, val_main_v11, val_main_v12, val_main_v13, val_main_v14, val_main_v15, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_cst, val_main_cst_0, val_main_cst_1, val_main_cst_2, val_main_cst_3, val_main_cst_4, val_main_cst_5, val_main_cst_6, val_main_cst_7]
  simp only [h0, h1, h2, h3, h4]

theorem gain_of (x0 : S256x5120.Idx → EReal) (x1 : S256x1024.Idx → EReal) (x3 : S1024x5120.Idx → EReal) (at' : Fin 256 → Fin 8192) (acc : S1x1024.Idx → EReal) (d : Fin 1024)
    (h0 : ∀ r k, x0 (ix2 r k) = P (ix2 (at' r) k)) (h1 : ∀ r k, x1 (ix2 r k) = X (ix2 (at' r) k))
    (h3 : ∀ k n, x3 (ix2 k n) = W (ix2 k n)) :
    @Eq EReal (k0_pay2 (F := Ideal) (k0_pay7 (F := Ideal) x0 x3 x1) acc (ix2 0 d)) (acc (ix2 0 d) + ∑ r : Fin 256, val_main_v20 (F := Ideal) X W P (ix2 (at' r) d)) := by
  unfold_payloads
  pointwise [val_main_v20, val_main_v12, val_main_v11, val_main_v7, val_main_v6, val_main_v5, val_main_v4, val_main_v3, val_main_v2, val_main_v1, val_main_v0, val_main_v19, val_main_cst, val_main_cst_0, val_main_cst_1]
  simp only [h0, h1, h3]

/-! ## The blocks, as read from the arguments -/

section
variable (m : (ℓ : Loc nD τ sig) → Buf (Elt Ideal) ℓ) (c : Dev nD)

def inX : S8192x1024.Idx → EReal := m ((c.tc : Thread nD τ).loc main_arg0)
def inG : S1024.Idx → EReal := m ((c.tc : Thread nD τ).loc main_arg1)
def inW : S1024x5120.Idx → EReal := m ((c.tc : Thread nD τ).loc main_arg2)
def inP : S8192x5120.Idx → EReal := m ((c.tc : Thread nD τ).loc main_arg3)
def inD : S8192x1024.Idx → EReal := m ((c.tc : Thread nD τ).loc main_arg4)

theorem index_0 : ∀ t : Fin cfg0.N, win0_0.index t = ![t.val, 0] := by decide +kernel
theorem index_1 : ∀ t : Fin cfg0.N, win0_1.index t = ![t.val, 0] := by decide +kernel
theorem index_2 : ∀ t : Fin cfg0.N, win0_2.index t = ![0, 0] := by decide +kernel
theorem index_3 : ∀ t : Fin cfg0.N, win0_3.index t = ![0, 0] := by decide +kernel
theorem index_4 : ∀ t : Fin cfg0.N, win0_4.index t = ![t.val, 0] := by decide +kernel
theorem index_5 : ∀ t : Fin cfg0.N, win0_5.index t = ![t.val, 0] := by decide +kernel
theorem index_6 : ∀ t : Fin cfg0.N, win0_6.index t = ![0, 0] := by decide +kernel

/-- The row of the whole array at row `r` of block `n`. -/
def rowAt (n : ℕ) (r : Fin 256) : Fin 8192 := ⟨(n * 256 + r.val) % 8192, Nat.mod_lt _ (by decide)⟩

theorem block_p (t : Fin cfg0.N) (r : Fin 256) (k : Fin 5120) : @Eq EReal (iblk m c 0 t (ix2 r k)) (inP m c (ix2 (rowAt t.val r) k)) := by
  have ht : t.val < 32 := t.isLt
  have e : iblk m c 0 t (ix2 r k) = V m c main_arg3 (ix2 (rowAt t.val r) k) := by
    unfold rowAt
    blk_ext [iblk, index_0 t]
  rw [e, V_main_arg3]
  rfl

theorem block_x (t : Fin cfg0.N) (r : Fin 256) (k : Fin 1024) : @Eq EReal (iblk m c 1 t (ix2 r k)) (inX m c (ix2 (rowAt t.val r) k)) := by
  have ht : t.val < 32 := t.isLt
  have e : iblk m c 1 t (ix2 r k) = V m c main_arg0 (ix2 (rowAt t.val r) k) := by
    unfold rowAt
    blk_ext [iblk, index_1 t]
  rw [e, V_main_arg0]
  rfl

theorem block_g (t : Fin cfg0.N) (k : Fin 1024) : @Eq EReal (iblk m c 2 t (ix2 0 k)) (inG m c (ix1 k)) := by
  have e : iblk m c 2 t (ix2 0 k) = V m c (Pipeline.arrRef spec0 2) (ix2 0 k) := by
    blk_ext [iblk, index_2 t]
  rw [e]
  entry_read
  pointwise []
  rfl

theorem block_w (t : Fin cfg0.N) (k : Fin 1024) (n : Fin 5120) : @Eq EReal (iblk m c 3 t (ix2 k n)) (inW m c (ix2 k n)) := by
  have e : iblk m c 3 t (ix2 k n) = V m c (Pipeline.arrRef spec0 3) (ix2 k n) := by
    blk_ext [iblk, index_3 t]
  rw [e]
  entry_read
  rfl

theorem block_d (t : Fin cfg0.N) (r : Fin 256) (k : Fin 1024) : @Eq EReal (iblk m c 4 t (ix2 r k)) (inD m c (ix2 (rowAt t.val r) k)) := by
  have ht : t.val < 32 := t.isLt
  have e : iblk m c 4 t (ix2 r k) = V m c main_arg4 (ix2 (rowAt t.val r) k) := by
    unfold rowAt
    blk_ext [iblk, index_4 t]
  rw [e, V_main_arg4]
  rfl

/-! ## The two results -/

theorem left_5 (t : Fin cfg0.N) : (outsAt0 m c t.val t.isLt).1
    = k0_pay1 (iblk m c 1 t) (k0_pay9 (iblk m c 0 t) (iblk m c 3 t) (iblk m c 1 t) (iblk m c 2 t)) (k0_pay10 (iblk m c 0 t) (iblk m c 3 t) (iblk m c 1 t) (iblk m c 2 t)) (iblk m c 4 t) := by
  by_cases h0 : t.val % 32 = 0
  · rw [outsAt0_A m c t h0]; dsimp only; exact first_5 (F := Ideal) ..
  · rw [outsAt0_B m c t h0]; dsimp only; exact later_5 (F := Ideal) ..

/-- The input's gradient, as the reference has it. -/
def resX : S8192x1024.Idx → EReal := val_main_v40 (F := Ideal) (inX m c) (inG m c) (inW m c) (inP m c) (inD m c)

theorem final_5 : (dats m 0 c).arrAt 5 cfg0.N = resX m c := by
  refine (dats m 0 c).arrAt_eq_of_covers 5 _ (by decide +kernel) fun t hf y => ?_
  have ht : t.val < 32 := t.isLt
  show @Eq EReal ((dats m 0 c).after 5 t y) _
  rw [after0_5, left_5]
  have hy : (y (0 : Fin 2)).val < 256 := (y (0 : Fin 2)).isLt
  have h0 : (((cfg0.win 5).blk t).view.emb y 0).val = t.val * 256 + (y (0 : Fin 2)).val := by
    blk_simp [index_5 t]
    try first | omega | (simp; omega)
  have h1 : (((cfg0.win 5).blk t).view.emb y 1).val = (y (1 : Fin 2)).val := by
    blk_simp [index_5 t]
    try first | omega | (simp; done)
  have he : ((cfg0.win 5).blk t).view.emb y = ix2 (rowAt t.val (y (0 : Fin 2))) (y (1 : Fin 2)) := by
    funext a
    match a with
    | ⟨0, _⟩ => exact Fin.ext (h0.trans (by unfold rowAt; show _ = (t.val * 256 + (y (0 : Fin 2)).val) % 8192; omega))
    | ⟨1, _⟩ => exact Fin.ext h1
  rw [he]
  have hy2 : y = ix2 (y (0 : Fin 2)) (y (1 : Fin 2)) := by
    funext a
    match a with
    | ⟨0, _⟩ => rfl
    | ⟨1, _⟩ => rfl
  refine Eq.trans ?_ (row_of (inX m c) (inG m c) (inW m c) (inP m c) (inD m c) (iblk m c 0 t) (iblk m c 1 t) (iblk m c 2 t) (iblk m c 3 t) (iblk m c 4 t) (y (0 : Fin 2)) (rowAt t.val (y (0 : Fin 2))) (y (1 : Fin 2))
    (fun k => block_p m c t _ k) (fun k => block_x m c t _ k) (fun k => block_g m c t k) (fun k n => block_w m c t k n) (fun k => block_d m c t _ k))
  exact congrArg _ hy2

/-- What point `n` adds to the gain's gradient. -/
def share (n : ℕ) (y : S1x1024.Idx) : EReal := ∑ r : Fin 256, val_main_v20 (F := Ideal) (inX m c) (inW m c) (inP m c) (ix2 (rowAt n r) (y (1 : Fin 2)))

def reset (n : ℕ) (h : n < cfg0.N) : Vec Ideal S1x1024 .f32 := k0_pay2 (k0_pay7 (iblk m c 0 ⟨n, h⟩) (iblk m c 3 ⟨n, h⟩) (iblk m c 1 ⟨n, h⟩)) (k0_pay3 (F := Ideal))
def step (n : ℕ) (h : n < cfg0.N) (acc : Vec Ideal S1x1024 .f32) : Vec Ideal S1x1024 .f32 := k0_pay2 (k0_pay7 (iblk m c 0 ⟨n, h⟩) (iblk m c 3 ⟨n, h⟩) (iblk m c 1 ⟨n, h⟩)) acc

theorem step_at (n : ℕ) (h : n < cfg0.N) (acc : Vec Ideal S1x1024 .f32) (y : S1x1024.Idx) : @Eq EReal (step m c n h acc y) (acc y + share m c n y) := by
  idx_vars y
  rw [Subsingleton.elim y0 0]
  exact gain_of (inX m c) (inW m c) (inP m c) (iblk m c 0 ⟨n, h⟩) (iblk m c 1 ⟨n, h⟩) (iblk m c 3 ⟨n, h⟩) (rowAt n) acc y1
    (fun r k => block_p m c ⟨n, h⟩ r k) (fun r k => block_x m c ⟨n, h⟩ r k) (fun k j => block_w m c ⟨n, h⟩ k j)

theorem reset_at (n : ℕ) (h : n < cfg0.N) (y : S1x1024.Idx) : @Eq EReal (reset m c n h y) (0 + share m c n y) := by
  have e : @Eq EReal (k0_pay3 (F := Ideal) y) 0 := by
    idx_vars y
    pointwise [k0_pay3]
  refine (step_at m c n h (k0_pay3 (F := Ideal)) y).trans ?_
  rw [e]

theorem left_6 (t : Fin cfg0.N) : (outsAt0 m c t.val t.isLt).2 = Pipeline.accAt (reset m c) (step m c) (32 * (t.val / 32)) (t.val % 32)
      (by have h1 := t.isLt; have h2 := Nat.div_add_mod t.val 32; omega) :=
  Pipeline.eq_accAt_of_mod (fun n h => (outsAt0 m c n h).2) 32 (reset m c) (step m c)
    (fun n h hn => by rw [outsAt0_A m c ⟨n, h⟩ (by (try dsimp only); omega)]; dsimp only; exact first_6 (F := Ideal) ..)
    (fun n h hn => by have hN := lt_of_lt_of_eq h (show cfg0.N = 32 from N_0); rw [outsAt0_B m c ⟨n + 1, h⟩ (by (try dsimp only); omega)]; dsimp only; exact later_6 (F := Ideal) ..)
    (by decide) t.val t.isLt _

theorem sum_blocks (f : ℕ → EReal) (b a : ℕ) : ∑ s ∈ Finset.range a, ∑ k : Fin b, f (s * b + k.val) = ∑ l ∈ Finset.range (a * b), f l := by
  induction a with
  | zero => simp
  | succ a ih => rw [Finset.sum_range_succ, ih, Nat.succ_mul, Finset.sum_range_add, Finset.sum_range fun x => f (a * b + x)]

/-- The gain's gradient, as the reference has it. -/
def resG : S1x1024.Idx → EReal := val_main_v41 (F := Ideal) (inX m c) (inW m c) (inP m c)

theorem resG_at (y : S1x1024.Idx) : resG m c y = ∑ l : Fin 8192, val_main_v20 (F := Ideal) (inX m c) (inW m c) (inP m c) (ix2 l (y (1 : Fin 2))) := by
  idx_vars y
  unfold resG
  pointwise [val_main_v41, val_main_v25, val_main_v22, val_main_v21, val_main_cst_3, val_main_cst_4]
  simp

/-- Row `j`'s term of the gain's gradient. -/
def rowGain (y : S1x1024.Idx) (j : ℕ) : EReal := val_main_v20 (F := Ideal) (inX m c) (inW m c) (inP m c) (ix2 ⟨j % 8192, Nat.mod_lt _ (by decide)⟩ (y (1 : Fin 2)))

theorem whole_sum (b : ℕ) (hb : b = 0) (h : b + 31 < cfg0.N) (y : S1x1024.Idx) :
    @Eq EReal (Pipeline.accAt (reset m c) (step m c) b 31 h y) (resG m c y) := by
  subst hb
  refine (Pipeline.accAt_add_apply (β := EReal) _ _ (fun _ => 0) (share m c) 0 31 (fun h i => reset_at m c _ h i) (fun n h acc i _ _ => step_at m c n h acc i) 31 (le_refl 31) h y).trans ?_
  rw [zero_add, resG_at]
  have e : ∀ l : Fin 8192, val_main_v20 (F := Ideal) (inX m c) (inW m c) (inP m c) (ix2 l (y (1 : Fin 2))) = rowGain m c y l.val := fun l => by
    unfold rowGain
    rw [show (⟨l.val % 8192, Nat.mod_lt _ (by decide)⟩ : Fin 8192) = l from Fin.ext (Nat.mod_eq_of_lt l.isLt)]
  rw [Finset.sum_congr rfl fun l _ => e l, ← Finset.sum_range (fun j => rowGain m c y j), ← sum_blocks (rowGain m c y) 256 32]
  refine Finset.sum_congr rfl fun s _ => ?_
  unfold share rowGain rowAt
  rw [Nat.zero_add]

theorem final_6 : (dats m 0 c).arrAt 6 cfg0.N = resG m c := by
  refine (dats m 0 c).arrAt_eq_of_covers 6 _ (by decide +kernel) fun t hf y => ?_
  have hm : t.val % 32 = 31 := (flush0_6 t).mp hf
  have ht : t.val < 32 := t.isLt
  have hy : (y (0 : Fin 2)).val < 1 := (y (0 : Fin 2)).isLt
  show @Eq EReal ((dats m 0 c).after 6 t y) _
  rw [after0_6, left_6]
  have h0 : (((cfg0.win 6).blk t).view.emb y 0).val = (y (0 : Fin 2)).val := by
    blk_simp [index_6 t]
    try first | omega | (simp; done)
  have h1 : (((cfg0.win 6).blk t).view.emb y 1).val = (y (1 : Fin 2)).val := by
    blk_simp [index_6 t]
    try first | omega | (simp; done)
  have he : ((cfg0.win 6).blk t).view.emb y = y := by
    funext a
    match a with
    | ⟨0, _⟩ => exact Fin.ext h0
    | ⟨1, _⟩ => exact Fin.ext h1
  rw [he]
  have e : ∀ (b j : ℕ) (h : b + j < cfg0.N) (b' j' : ℕ) (h' : b' + j' < cfg0.N), b = b' → j = j' →
      Pipeline.accAt (reset m c) (step m c) b j h = Pipeline.accAt (reset m c) (step m c) b' j' h' := by
    intro b j h b' j' h' hb hj; subst hb; subst hj; rfl
  rw [e _ _ _ 0 31 (by decide) (by omega) hm]
  exact whole_sum m c 0 rfl _ y

end

end Cert.Kernel2Ideal.Own
-- ==== Proof.GradW.lean ====
/- The gradient of the projection's weights: the kernel's sum over four blocks of 2048 rows is the reference's sum over
   all 8192 rows. -/
module

public import proofs.«01_k».proof.Proof.Gen.Kernel3Ideal.Value
public import proofs.«01_k».proof.Proof.Gen.Reference3Ideal.Read
public import Idealize.ShloMosaic.Lib.Claim
public import Idealize.ShloMosaic.Lib.Pipeline.ValueKit
public import Idealize.ShloMosaic.Lib.Pointwise

@[expose] public section

set_option maxRecDepth 16384

noncomputable section

namespace Cert.Kernel3Ideal.Own

open Idealize.ShloMosaic Idealize.ShloMosaic.TcCoe Idealize.ShloMosaic.Tactic
open Cert.Kernel3Ideal Cert.Kernel3Ideal.Gen

variable (m : (ℓ : Loc nD τ sig) → Buf (Elt Ideal) ℓ) (c : Dev nD)

theorem index_0 : ∀ t : Fin cfg0.N, win0_0.index t = ![t.val % 4, t.val / 4] := by decide +kernel
theorem index_1 : ∀ t : Fin cfg0.N, win0_1.index t = ![0, t.val % 4] := by decide +kernel

/-- The input row by row, and the gradient of the projection. -/
def inX : S8192x1024.Idx → EReal := m ((c.tc : Thread nD τ).loc main_arg0)
def inG : S1024.Idx → EReal := m ((c.tc : Thread nD τ).loc main_arg1)
def inP : S8192x5120.Idx → EReal := m ((c.tc : Thread nD τ).loc main_arg3)

/-- The normalised input, as the reference has it. -/
def normed : S8192x1024.Idx → EReal := Cert.Reference3Ideal.Read.val_main_v15 (F := Ideal) (inX m c) (inG m c)

/-- The kernel is handed its transpose. -/
theorem entry_h (d : Fin 1024) (l : Fin 8192) : @Eq EReal (V m c main_v14 (ix2 d l)) (normed m c (ix2 l d)) := by
  entry_read
  unfold normed Cert.Reference3Ideal.Read.val_main_v15 Cert.Reference3Ideal.Read.val_main_v14 Cert.Reference3Ideal.Read.val_main_v13 Cert.Reference3Ideal.Read.val_main_v12 Cert.Reference3Ideal.Read.val_main_v11 Cert.Reference3Ideal.Read.val_main_v7 Cert.Reference3Ideal.Read.val_main_v6 Cert.Reference3Ideal.Read.val_main_v5 Cert.Reference3Ideal.Read.val_main_cst_1 Cert.Reference3Ideal.Read.val_main_v4 Cert.Reference3Ideal.Read.val_main_v3 Cert.Reference3Ideal.Read.val_main_cst_0 Cert.Reference3Ideal.Read.val_main_v2 Cert.Reference3Ideal.Read.val_main_v1 Cert.Reference3Ideal.Read.val_main_cst Cert.Reference3Ideal.Read.val_main_v0
  pointwise []
  rfl

/-- The product at row `l`, for the element `y` of block `q`. -/
def cell (q : ℕ) (y : S1x1024x640.Idx) (l : ℕ) : EReal :=
  normed m c (ix2 ⟨l % 8192, Nat.mod_lt _ (by decide)⟩ (y (1 : Fin 3))) * inP m c (ix2 ⟨l % 8192, Nat.mod_lt _ (by decide)⟩ ⟨(q * 640 + (y (2 : Fin 3)).val) % 5120, Nat.mod_lt _ (by decide)⟩)

/-- What point `n` adds at an element of its block. -/
def share (n : ℕ) (y : S1x1024x640.Idx) : EReal := ∑ k : Fin 2048, cell m c (n / 4) y (n % 4 * 2048 + k.val)

theorem block_h (t : Fin cfg0.N) (d : Fin 1024) (k : Fin 2048) :
    @Eq EReal (iblk m c 1 t (ix2 d k)) (normed m c (ix2 ⟨(t.val % 4 * 2048 + k.val) % 8192, Nat.mod_lt _ (by decide)⟩ d)) := by
  have e : iblk m c 1 t (ix2 d k) = V m c main_v14 (ix2 d ⟨(t.val % 4 * 2048 + k.val) % 8192, Nat.mod_lt _ (by decide)⟩) := by
    blk_ext [iblk, index_1 t]
  rw [e]
  exact entry_h m c _ _

theorem block_p (t : Fin cfg0.N) (k : Fin 2048) (n : Fin 640) :
    @Eq EReal (iblk m c 0 t (ix2 k n)) (inP m c (ix2 ⟨(t.val % 4 * 2048 + k.val) % 8192, Nat.mod_lt _ (by decide)⟩ ⟨(t.val / 4 * 640 + n.val) % 5120, Nat.mod_lt _ (by decide)⟩)) := by
  have ht : t.val < 32 := t.isLt
  have e : iblk m c 0 t (ix2 k n) = V m c main_arg3 (ix2 ⟨(t.val % 4 * 2048 + k.val) % 8192, Nat.mod_lt _ (by decide)⟩ ⟨(t.val / 4 * 640 + n.val) % 5120, Nat.mod_lt _ (by decide)⟩) := by
    blk_ext [iblk, index_0 t]
  rw [e, V_main_arg3]
  rfl

theorem step_at (n : ℕ) (h : n < cfg0.N) (acc : S1x1024x640.Idx → EReal) (y : S1x1024x640.Idx) :
    @Eq EReal (Value.step2 (F := Ideal) m c n h acc y) (acc y + share m c n y) := by
  unfold Value.step2 share cell
  idx_vars y
  pointwise [k0_pay2, k0_pay1]
  simp only [block_h, block_p]
  rw [Subsingleton.elim y0 0]

theorem reset_at (n : ℕ) (h : n < cfg0.N) (y : S1x1024x640.Idx) : @Eq EReal (Value.reset2 m c n h y) (0 + share m c n y) := by
  have e : @Eq EReal (k0_pay1 (F := Ideal) y) 0 := by
    idx_vars y
    pointwise [k0_pay1]
  refine (step_at m c n h (k0_pay1 (F := Ideal)) y).trans ?_
  rw [e]

theorem sum_blocks (f : ℕ → EReal) (b a : ℕ) : ∑ s ∈ Finset.range a, ∑ k : Fin b, f (s * b + k.val) = ∑ l ∈ Finset.range (a * b), f l := by
  induction a with
  | zero => simp
  | succ a ih => rw [Finset.sum_range_succ, ih, Nat.succ_mul, Finset.sum_range_add, Finset.sum_range fun x => f (a * b + x)]

theorem fold_at (q : ℕ) (h : 4 * q + 3 < cfg0.N) (y : S1x1024x640.Idx) :
    @Eq EReal (Pipeline.accAt (Value.reset2 (F := Ideal) m c) (Value.step2 m c) (4 * q) 3 h y) (∑ l : Fin 8192, cell m c q y l.val) := by
  refine (Pipeline.accAt_add_apply (β := EReal) _ _ (fun _ => 0) (share m c) (4 * q) 3 (fun h i => reset_at m c _ h i) (fun n h acc i _ _ => step_at m c n h acc i) 3 (le_refl 3) h y).trans ?_
  rw [zero_add, ← Finset.sum_range (fun l => cell m c q y l), ← sum_blocks _ 2048 4]
  refine Finset.sum_congr rfl fun s hs => ?_
  have hs' : s < 4 := Finset.mem_range.1 hs
  unfold share
  rw [show (4 * q + s) / 4 = q by omega, show (4 * q + s) % 4 = s by omega]

/-- The array the kernel leaves is the reference's. -/
theorem grads : @Eq (S8x1024x640.Idx → EReal) (Value.G2 m c) (Cert.Reference3Ideal.Read.val_main_v41 (F := Ideal) (inX m c) (inG m c) (inP m c)) := by
  funext i
  have h0 : (i 0).val < 8 := (i 0).isLt
  have h1 : (i 1).val < 1024 := (i 1).isLt
  have h2 : (i 2).val < 640 := (i 2).isLt
  have hr : Value.run2Of i = (i 0).val := by
    show 1 * ((i 0).val / 1 - 0) + 1 * ((i 1).val / 1024 - 0) + 1 * ((i 2).val / 640 - 0) = _
    omega
  have hN : cfg0.N = 32 := rfl
  unfold Value.G2
  rw [dif_pos (by rw [hr, hN]; omega)]
  refine (fold_at m c _ _ _).trans ?_
  rw [hr, Cert.Reference3Ideal.Read.val_main_v41_apply, Cert.Reference3Ideal.Read.val_main_v40_apply, Cert.Reference3Ideal.Read.val_main_v18_apply, Cert.Reference3Ideal.Read.val_main_v17_apply]
  refine Finset.sum_congr rfl fun l _ => ?_
  have hl : l.val < 8192 := l.isLt
  unfold cell normed
  rw [mul_comm]
  congr 1
  · congr 1
    funext a
    match a with
    | ⟨0, _⟩ => exact Fin.ext (by show l.val % 8192 = l.val; omega)
    | ⟨1, _⟩ => exact Fin.ext (by
        show ((i 0).val * 640 + (i 2).val % 640) % 5120 = (((i 1).val * 8 + (i 0).val) * 640 + (i 2).val) % 5120
        omega)
  · congr 1
    funext a
    match a with
    | ⟨0, _⟩ => exact Fin.ext (by show l.val % 8192 = l.val; omega)
    | ⟨1, _⟩ => exact Fin.ext (by
        show (i 1).val % 1024 = (((i 1).val * 8 + (i 0).val) * 640 + (i 2).val) / 5120
        omega)

end Cert.Kernel3Ideal.Own
-- ==== Proof.Merge.lean ====
/- The merge of the two branches and its projection: the kernel's blocks of 256 rows against the reference's 8192 rows. -/
module

public import proofs.«01_k».proof.Proof.Gen.Kernel4Ideal.Value
public import proofs.«01_k».proof.Proof.Gen.Reference4Ideal.Read
public import Idealize.ShloMosaic.Lib.Claim
public import Idealize.ShloMosaic.Lib.Pipeline.ValueKit
public import Idealize.ShloMosaic.Lib.Pointwise

@[expose] public section

set_option maxRecDepth 16384

noncomputable section

namespace Cert.Kernel4Ideal.Own

open Idealize.ShloMosaic Idealize.ShloMosaic.TcCoe Idealize.ShloMosaic.Tactic
open Cert.Kernel4Ideal Cert.Kernel4Ideal.Gen
open Cert.Reference4Ideal.Read

/-! ## A block of rows against the reference's rows -/

section
variable (A0 A1 : S8192x512.Idx → EReal) (A2 : S8192x5120.Idx → EReal) (A3 : S8192x1024.Idx → EReal) (A4 A5 : S512x1024.Idx → EReal) (A6 : S1024x1024.Idx → EReal) (A7 : S1024.Idx → EReal)
  (x0 x1 x2 : S256x512.Idx → EReal) (x3 x4 x5 : S256x1024.Idx → EReal) (x6 x7 : S512x1024.Idx → EReal) (x8 : S1024x1024.Idx → EReal) (x9 : S1x1024.Idx → EReal)

theorem out_of (r : Fin 256) (l : Fin 8192)
    (h0 : ∀ k, x0 (ix2 r k) = A0 (ix2 l k)) (h1 : ∀ k, x1 (ix2 r k) = A1 (ix2 l k)) (h2 : ∀ k, x2 (ix2 r k) = val_main_v0 (F := Ideal) A2 (ix2 l k))
    (h3 : ∀ k, x3 (ix2 r k) = val_main_v1 (F := Ideal) A2 (ix2 l k)) (h4 : ∀ k, x4 (ix2 r k) = val_main_v2 (F := Ideal) A2 (ix2 l k))
    (h6 : ∀ k n, x6 (ix2 k n) = A4 (ix2 k n)) (h7 : ∀ k n, x7 (ix2 k n) = A5 (ix2 k n)) (h8 : ∀ k n, x8 (ix2 k n) = A6 (ix2 k n)) (d : Fin 1024) :
    @Eq EReal (k0_pay2 (F := Ideal) x1 x2 x3 x0 x6 x4 x7 x8 (ix2 r d)) (val_main_v22 (F := Ideal) A0 A1 A2 A4 A5 A6 (ix2 l d)) := by
  unfold_payloads
  pointwise [val_main_v22, val_main_v21, val_main_v12, val_main_v10, val_main_v9, val_main_cst_0, val_main_v8, val_main_v7, val_main_cst, val_main_v6, val_main_v5, val_main_v11, val_main_v20, val_main_v18, val_main_v17, val_main_cst_2, val_main_v16, val_main_v15, val_main_cst_1, val_main_v14, val_main_v13, val_main_v19, val_main_v4, val_main_v3, val_main_call0_v5, val_main_call0_v4, val_main_call0_cst_0, val_main_call0_v3, val_main_call0_v2, val_main_call0_cst, val_main_call0_v1, val_main_call0_v0]
  simp only [h0, h1, h2, h3, h4, h6, h7, h8]
  rfl

theorem sum_of (r : Fin 256) (l : Fin 8192) (v : S256x1024.Idx → EReal) (q : S256x1.Idx → EReal)
    (hv : ∀ d, v (ix2 r d) = val_main_v22 (F := Ideal) A0 A1 A2 A4 A5 A6 (ix2 l d)) (hq : q (ix2 r 0) = val_main_v24 (F := Ideal) A0 A1 A2 A4 A5 A6 (ix1 l))
    (h5 : ∀ k, x5 (ix2 r k) = A3 (ix2 l k)) (h9 : ∀ k, x9 (ix2 0 k) = A7 (ix1 k)) (d : Fin 1024) :
    @Eq EReal (k0_pay1 (F := Ideal) v x5 (k0_pay3 (F := Ideal) x9) q (ix2 r d)) (val_main_v36 (F := Ideal) A0 A1 A2 A3 A4 A5 A6 A7 (ix2 l d)) := by
  unfold_payloads
  pointwise [val_main_v36, val_main_v35, val_main_v32, val_main_v31, val_main_v30, val_main_v29, val_main_v27, val_main_v25, val_main_v26, val_main_cst_4, val_main_v28, val_main_cst_5, val_main_v34, val_main_v33]
  simp only [hv, hq, h5, h9]

theorem square_of (r : Fin 256) (l : Fin 8192)
    (hv : ∀ d, @Eq EReal (k0_pay2 (F := Ideal) x1 x2 x3 x0 x6 x4 x7 x8 (ix2 r d)) (val_main_v22 (F := Ideal) A0 A1 A2 A4 A5 A6 (ix2 l d))) :
    @Eq EReal (k0_pay4 (F := Ideal) x1 x2 x3 x0 x6 x4 x7 x8 (ix2 r 0)) (val_main_v24 (F := Ideal) A0 A1 A2 A4 A5 A6 (ix1 l)) := by
  pointwise [k0_pay4, val_main_v24, val_main_v23, val_main_cst_3]
  simp only [hv]

end

/-! ## The blocks, as read from the arguments -/

section
variable (m : (ℓ : Loc nD τ sig) → Buf (Elt Ideal) ℓ) (c : Dev nD)

def in0 : S8192x512.Idx → EReal := m ((c.tc : Thread nD τ).loc main_arg0)
def in1 : S8192x512.Idx → EReal := m ((c.tc : Thread nD τ).loc main_arg1)
def in2 : S8192x5120.Idx → EReal := m ((c.tc : Thread nD τ).loc main_arg2)
def in3 : S8192x1024.Idx → EReal := m ((c.tc : Thread nD τ).loc main_arg3)
def in4 : S512x1024.Idx → EReal := m ((c.tc : Thread nD τ).loc main_arg4)
def in5 : S512x1024.Idx → EReal := m ((c.tc : Thread nD τ).loc main_arg5)
def in6 : S1024x1024.Idx → EReal := m ((c.tc : Thread nD τ).loc main_arg6)
def in7 : S1024.Idx → EReal := m ((c.tc : Thread nD τ).loc main_arg7)

theorem index_0 : ∀ t : Fin cfg0.N, win0_0.index t = ![t.val, 0] := by decide +kernel
theorem index_1 : ∀ t : Fin cfg0.N, win0_1.index t = ![t.val, 0] := by decide +kernel
theorem index_2 : ∀ t : Fin cfg0.N, win0_2.index t = ![t.val, 5] := by decide +kernel
theorem index_3 : ∀ t : Fin cfg0.N, win0_3.index t = ![t.val, 3] := by decide +kernel
theorem index_4 : ∀ t : Fin cfg0.N, win0_4.index t = ![t.val, 4] := by decide +kernel
theorem index_5 : ∀ t : Fin cfg0.N, win0_5.index t = ![t.val, 0] := by decide +kernel
theorem index_6 : ∀ t : Fin cfg0.N, win0_6.index t = ![0, 0] := by decide +kernel
theorem index_7 : ∀ t : Fin cfg0.N, win0_7.index t = ![0, 0] := by decide +kernel
theorem index_8 : ∀ t : Fin cfg0.N, win0_8.index t = ![0, 0] := by decide +kernel
theorem index_9 : ∀ t : Fin cfg0.N, win0_9.index t = ![0, 0] := by decide +kernel
theorem index_10 : ∀ t : Fin cfg0.N, win0_10.index t = ![t.val, 0] := by decide +kernel
theorem index_11 : ∀ t : Fin cfg0.N, win0_11.index t = ![t.val, 0] := by decide +kernel

/-- The row of the whole array at row `r` of block `n`. -/
def rowAt (n : ℕ) (r : Fin 256) : Fin 8192 := ⟨(n * 256 + r.val) % 8192, Nat.mod_lt _ (by decide)⟩

theorem block_0 (t : Fin cfg0.N) (r : Fin 256) (k : Fin 512) : @Eq EReal (iblk m c 0 t (ix2 r k)) (in0 m c (ix2 (rowAt t.val r) k)) := by
  have ht : t.val < 32 := t.isLt
  have e : iblk m c 0 t (ix2 r k) = V m c main_arg0 (ix2 (rowAt t.val r) k) := by
    unfold rowAt
    blk_ext [iblk, index_0 t]
  rw [e, V_main_arg0]
  rfl

theorem block_1 (t : Fin cfg0.N) (r : Fin 256) (k : Fin 512) : @Eq EReal (iblk m c 1 t (ix2 r k)) (in1 m c (ix2 (rowAt t.val r) k)) := by
  have ht : t.val < 32 := t.isLt
  have e : iblk m c 1 t (ix2 r k) = V m c main_arg1 (ix2 (rowAt t.val r) k) := by
    unfold rowAt
    blk_ext [iblk, index_1 t]
  rw [e, V_main_arg1]
  rfl

theorem block_2 (t : Fin cfg0.N) (r : Fin 256) (k : Fin 512) : @Eq EReal (iblk m c 2 t (ix2 r k)) (in2 m c (ix2 (rowAt t.val r) ⟨2560 + k.val, by have := k.isLt; omega⟩)) := by
  have ht : t.val < 32 := t.isLt
  have e : iblk m c 2 t (ix2 r k) = V m c main_arg2 (ix2 (rowAt t.val r) ⟨2560 + k.val, by have := k.isLt; omega⟩) := by
    unfold rowAt
    blk_ext [iblk, index_2 t]
  rw [e, V_main_arg2]
  rfl

theorem block_3 (t : Fin cfg0.N) (r : Fin 256) (k : Fin 1024) : @Eq EReal (iblk m c 3 t (ix2 r k)) (in2 m c (ix2 (rowAt t.val r) ⟨3072 + k.val, by have := k.isLt; omega⟩)) := by
  have ht : t.val < 32 := t.isLt
  have e : iblk m c 3 t (ix2 r k) = V m c main_arg2 (ix2 (rowAt t.val r) ⟨3072 + k.val, by have := k.isLt; omega⟩) := by
    unfold rowAt
    blk_ext [iblk, index_3 t]
  rw [e, V_main_arg2]
  rfl

theorem block_4 (t : Fin cfg0.N) (r : Fin 256) (k : Fin 1024) : @Eq EReal (iblk m c 4 t (ix2 r k)) (in2 m c (ix2 (rowAt t.val r) ⟨4096 + k.val, by have := k.isLt; omega⟩)) := by
  have ht : t.val < 32 := t.isLt
  have e : iblk m c 4 t (ix2 r k) = V m c main_arg2 (ix2 (rowAt t.val r) ⟨4096 + k.val, by have := k.isLt; omega⟩) := by
    unfold rowAt
    blk_ext [iblk, index_4 t]
  rw [e, V_main_arg2]
  rfl

theorem block_5 (t : Fin cfg0.N) (r : Fin 256) (k : Fin 1024) : @Eq EReal (iblk m c 5 t (ix2 r k)) (in3 m c (ix2 (rowAt t.val r) k)) := by
  have ht : t.val < 32 := t.isLt
  have e : iblk m c 5 t (ix2 r k) = V m c main_arg3 (ix2 (rowAt t.val r) k) := by
    unfold rowAt
    blk_ext [iblk, index_5 t]
  rw [e, V_main_arg3]
  rfl

theorem block_6 (t : Fin cfg0.N) (k : Fin 512) (n : Fin 1024) : @Eq EReal (iblk m c 6 t (ix2 k n)) (in4 m c (ix2 k n)) := by
  have e : iblk m c 6 t (ix2 k n) = V m c (Pipeline.arrRef spec0 6) (ix2 k n) := by
    blk_ext [iblk, index_6 t]
  rw [e]
  entry_read
  rfl

theorem block_7 (t : Fin cfg0.N) (k : Fin 512) (n : Fin 1024) : @Eq EReal (iblk m c 7 t (ix2 k n)) (in5 m c (ix2 k n)) := by
  have e : iblk m c 7 t (ix2 k n) = V m c (Pipeline.arrRef spec0 7) (ix2 k n) := by
    blk_ext [iblk, index_7 t]
  rw [e]
  entry_read
  rfl

theorem block_8 (t : Fin cfg0.N) (k : Fin 1024) (n : Fin 1024) : @Eq EReal (iblk m c 8 t (ix2 k n)) (in6 m c (ix2 k n)) := by
  have e : iblk m c 8 t (ix2 k n) = V m c (Pipeline.arrRef spec0 8) (ix2 k n) := by
    blk_ext [iblk, index_8 t]
  rw [e]
  entry_read
  rfl

theorem block_9 (t : Fin cfg0.N) (k : Fin 1024) : @Eq EReal (iblk m c 9 t (ix2 0 k)) (in7 m c (ix1 k)) := by
  have e : iblk m c 9 t (ix2 0 k) = V m c (Pipeline.arrRef spec0 9) (ix2 0 k) := by
    blk_ext [iblk, index_9 t]
  rw [e]
  entry_read
  pointwise []
  rfl

theorem block_z (t : Fin cfg0.N) (r : Fin 256) (k : Fin 512) : @Eq EReal (iblk m c 2 t (ix2 r k)) (val_main_v0 (F := Ideal) (in2 m c) (ix2 (rowAt t.val r) k)) := by
  rw [val_main_v0_apply]
  exact (block_2 m c t r k).trans (congrArg _ (funext fun a => match a with | ⟨0, _⟩ => rfl | ⟨1, _⟩ => rfl))

theorem block_gs (t : Fin cfg0.N) (r : Fin 256) (k : Fin 1024) : @Eq EReal (iblk m c 3 t (ix2 r k)) (val_main_v1 (F := Ideal) (in2 m c) (ix2 (rowAt t.val r) k)) := by
  rw [val_main_v1_apply]
  exact (block_3 m c t r k).trans (congrArg _ (funext fun a => match a with | ⟨0, _⟩ => rfl | ⟨1, _⟩ => rfl))

theorem block_ga (t : Fin cfg0.N) (r : Fin 256) (k : Fin 1024) : @Eq EReal (iblk m c 4 t (ix2 r k)) (val_main_v2 (F := Ideal) (in2 m c) (ix2 (rowAt t.val r) k)) := by
  rw [val_main_v2_apply]
  exact (block_4 m c t r k).trans (congrArg _ (funext fun a => match a with | ⟨0, _⟩ => rfl | ⟨1, _⟩ => rfl))

/-! ## The two results -/

theorem left_10 (t : Fin cfg0.N) : (dats m 0 c).after 10 t
    = k0_pay1 (k0_pay2 (iblk m c 1 t) (iblk m c 2 t) (iblk m c 3 t) (iblk m c 0 t) (iblk m c 6 t) (iblk m c 4 t) (iblk m c 7 t) (iblk m c 8 t)) (iblk m c 5 t) (k0_pay3 (iblk m c 9 t))
        (k0_pay4 (iblk m c 1 t) (iblk m c 2 t) (iblk m c 3 t) (iblk m c 0 t) (iblk m c 6 t) (iblk m c 4 t) (iblk m c 7 t) (iblk m c 8 t)) := by
  rw [after0_10]
  frame_out

theorem left_11 (t : Fin cfg0.N) : (dats m 0 c).after 11 t
    = k0_pay2 (iblk m c 1 t) (iblk m c 2 t) (iblk m c 3 t) (iblk m c 0 t) (iblk m c 6 t) (iblk m c 4 t) (iblk m c 7 t) (iblk m c 8 t) := by
  rw [after0_11]
  frame_out

/-- The projection's result before the norm, as the reference has it. -/
def resOut : S8192x1024.Idx → EReal := val_main_v22 (F := Ideal) (in0 m c) (in1 m c) (in2 m c) (in4 m c) (in5 m c) (in6 m c)

/-- The new residual, as the reference has it. -/
def resX : S8192x1024.Idx → EReal := val_main_v36 (F := Ideal) (in0 m c) (in1 m c) (in2 m c) (in3 m c) (in4 m c) (in5 m c) (in6 m c) (in7 m c)

theorem pay2_at (t : Fin cfg0.N) (r : Fin 256) (d : Fin 1024) :
    @Eq EReal (k0_pay2 (F := Ideal) (iblk m c 1 t) (iblk m c 2 t) (iblk m c 3 t) (iblk m c 0 t) (iblk m c 6 t) (iblk m c 4 t) (iblk m c 7 t) (iblk m c 8 t) (ix2 r d)) (resOut m c (ix2 (rowAt t.val r) d)) :=
  out_of (in0 m c) (in1 m c) (in2 m c) (in4 m c) (in5 m c) (in6 m c) (iblk m c 0 t) (iblk m c 1 t) (iblk m c 2 t) (iblk m c 3 t) (iblk m c 4 t) (iblk m c 6 t) (iblk m c 7 t) (iblk m c 8 t) r (rowAt t.val r)
    (block_0 m c t r) (block_1 m c t r) (block_z m c t r) (block_gs m c t r) (block_ga m c t r) (block_6 m c t) (block_7 m c t) (block_8 m c t) d

theorem at_11 (t : Fin cfg0.N) (r : Fin 256) (d : Fin 1024) : @Eq EReal ((dats m 0 c).after 11 t (ix2 r d)) (resOut m c (ix2 (rowAt t.val r) d)) := by
  rw [left_11]
  exact pay2_at m c t r d

theorem at_10 (t : Fin cfg0.N) (r : Fin 256) (d : Fin 1024) : @Eq EReal ((dats m 0 c).after 10 t (ix2 r d)) (resX m c (ix2 (rowAt t.val r) d)) := by
  rw [left_10]
  exact sum_of (in0 m c) (in1 m c) (in2 m c) (in3 m c) (in4 m c) (in5 m c) (in6 m c) (in7 m c) (iblk m c 5 t) (iblk m c 9 t) r (rowAt t.val r) _ _
    (pay2_at m c t r) (square_of (in0 m c) (in1 m c) (in2 m c) (in4 m c) (in5 m c) (in6 m c) _ _ _ _ _ _ _ _ r (rowAt t.val r) (pay2_at m c t r)) (block_5 m c t r) (block_9 m c t) d

theorem final_10 : (dats m 0 c).arrAt 10 cfg0.N = resX m c := by
  refine (dats m 0 c).arrAt_eq_of_covers 10 _ (by decide +kernel) fun t hf y => ?_
  have ht : t.val < 32 := t.isLt
  show @Eq EReal ((dats m 0 c).after 10 t y) _
  have hy : (y (0 : Fin 2)).val < 256 := (y (0 : Fin 2)).isLt
  have h0 : (((cfg0.win 10).blk t).view.emb y 0).val = t.val * 256 + (y (0 : Fin 2)).val := by
    blk_simp [index_10 t]
    try first | omega | (simp; omega)
  have h1 : (((cfg0.win 10).blk t).view.emb y 1).val = (y (1 : Fin 2)).val := by
    blk_simp [index_10 t]
    try first | omega | (simp; done)
  have he : ((cfg0.win 10).blk t).view.emb y = ix2 (rowAt t.val (y (0 : Fin 2))) (y (1 : Fin 2)) := by
    funext a
    match a with
    | ⟨0, _⟩ => exact Fin.ext (h0.trans (by unfold rowAt; show _ = (t.val * 256 + (y (0 : Fin 2)).val) % 8192; omega))
    | ⟨1, _⟩ => exact Fin.ext h1
  rw [he]
  have hy2 : y = ix2 (y (0 : Fin 2)) (y (1 : Fin 2)) := by
    funext a
    match a with
    | ⟨0, _⟩ => rfl
    | ⟨1, _⟩ => rfl
  refine Eq.trans ?_ (at_10 m c t (y (0 : Fin 2)) (y (1 : Fin 2)))
  exact congrArg _ hy2

theorem final_11 : (dats m 0 c).arrAt 11 cfg0.N = resOut m c := by
  refine (dats m 0 c).arrAt_eq_of_covers 11 _ (by decide +kernel) fun t hf y => ?_
  have ht : t.val < 32 := t.isLt
  show @Eq EReal ((dats m 0 c).after 11 t y) _
  have hy : (y (0 : Fin 2)).val < 256 := (y (0 : Fin 2)).isLt
  have h0 : (((cfg0.win 11).blk t).view.emb y 0).val = t.val * 256 + (y (0 : Fin 2)).val := by
    blk_simp [index_11 t]
    try first | omega | (simp; omega)
  have h1 : (((cfg0.win 11).blk t).view.emb y 1).val = (y (1 : Fin 2)).val := by
    blk_simp [index_11 t]
    try first | omega | (simp; done)
  have he : ((cfg0.win 11).blk t).view.emb y = ix2 (rowAt t.val (y (0 : Fin 2))) (y (1 : Fin 2)) := by
    funext a
    match a with
    | ⟨0, _⟩ => exact Fin.ext (h0.trans (by unfold rowAt; show _ = (t.val * 256 + (y (0 : Fin 2)).val) % 8192; omega))
    | ⟨1, _⟩ => exact Fin.ext h1
  rw [he]
  have hy2 : y = ix2 (y (0 : Fin 2)) (y (1 : Fin 2)) := by
    funext a
    match a with
    | ⟨0, _⟩ => rfl
    | ⟨1, _⟩ => rfl
  refine Eq.trans ?_ (at_11 m c t (y (0 : Fin 2)) (y (1 : Fin 2)))
  exact congrArg _ hy2

end

end Cert.Kernel4Ideal.Own
-- ==== Proof.MergeGradA.lean ====
/- The gradients of the merge of the two branches and of its projection: the kernel's blocks of 256 rows against the
   reference's 8192 rows. -/
module

public import proofs.«01_k».proof.Proof.Gen.Kernel5Ideal.Value
public import proofs.«01_k».proof.Proof.Gen.Reference5Ideal.Read
public import Idealize.ShloMosaic.Lib.Claim
public import Idealize.ShloMosaic.Lib.Pipeline.ValueKit
public import Idealize.ShloMosaic.Lib.Pointwise

@[expose] public section

set_option maxRecDepth 16384

noncomputable section

namespace Cert.Kernel5Ideal.Own

open Idealize.ShloMosaic Idealize.ShloMosaic.TcCoe Idealize.ShloMosaic.Tactic
open Cert.Kernel5Ideal Cert.Kernel5Ideal.Gen
open Cert.Reference5Ideal.Read

/-! ## A block of rows against the reference's rows -/

section
variable (A0 : S8192x1024.Idx → EReal) (A1 A2 : S8192x512.Idx → EReal) (A3 : S8192x5120.Idx → EReal) (A4 A5 : S512x1024.Idx → EReal) (A6 : S1024x1024.Idx → EReal) (A7 : S1024.Idx → EReal)
  (r : Fin 256) (l : Fin 8192)

theorem v64_of (x0 x1 : S256x1024.Idx → EReal) (x10 : S1x1024.Idx → EReal)
    (h0 : ∀ k : Fin 1024, x0 (ix2 r k) = A0 (ix2 l k)) (h1 : ∀ k : Fin 1024, x1 (ix2 r k) = val_main_v28 (F := Ideal) A1 A2 A3 A4 A5 A6 (ix2 l k)) (h10 : ∀ k, x10 (ix2 0 k) = A7 (ix1 k)) (k : Fin 1024) :
    @Eq EReal (k0_pay12 (F := Ideal) x1 x10 x0 (ix2 r k)) (val_main_v64 (F := Ideal) A0 A1 A2 A3 A4 A5 A6 A7 (ix2 l k)) := by
  pointwise [k0_pay12, k0_pay10, k0_pay9, k0_pay8, val_main_v64, val_main_v62, val_main_v55, val_main_v49, val_main_v48, val_main_v42, val_main_v54, val_main_v36, val_main_v35, val_main_v33, val_main_v31, val_main_v30, val_main_v29, val_main_cst_5, val_main_v32, val_main_cst_6, val_main_v34, val_main_cst_7, val_main_v61, val_main_v60, val_main_v59, val_main_v58, val_main_v56, val_main_v53, val_main_v52, val_main_v51, val_main_cst_11, val_main_v39, val_main_v38, val_main_cst_8, val_main_v37, val_main_v57, val_main_cst_12, val_main_cst_13, val_main_v63]
  simp only [h0, h1, h10]

theorem v3_2_of (x4 : S256x512.Idx → EReal)
    (h4 : ∀ k : Fin 512, x4 (ix2 r k) = val_main_v0 (F := Ideal) A3 (ix2 l k)) (k : Fin 512) :
    @Eq EReal (k0_pay14 (F := Ideal) x4 (ix2 r k)) (val_main_v3_2 (F := Ideal) A3 (ix2 l k)) := by
  pointwise [k0_pay14, val_main_v3_2, val_main_call0_v4, val_main_call0_cst_0, val_main_call0_v3, val_main_call0_v2, val_main_call0_cst, val_main_call0_v1, val_main_call0_v0]
  simp only [h4]
  rfl

theorem v3_1_of (x4 : S256x512.Idx → EReal)
    (h4 : ∀ k : Fin 512, x4 (ix2 r k) = val_main_v0 (F := Ideal) A3 (ix2 l k)) (k : Fin 512) :
    @Eq EReal (k0_pay15 (F := Ideal) x4 (ix2 r k)) (val_main_v3_1 (F := Ideal) A3 (ix2 l k)) := by
  pointwise [k0_pay15, k0_pay14, val_main_v3_1, val_main_v3_2, val_main_call0_v4, val_main_call0_cst_0, val_main_call0_v3, val_main_call0_v2, val_main_call0_cst, val_main_call0_v1, val_main_call0_v0, val_main_call0_v7, val_main_call0_v6, val_main_call0_cst_1]
  simp only [h4]
  rfl

theorem v3_0_of (x4 : S256x512.Idx → EReal)
    (h4 : ∀ k : Fin 512, x4 (ix2 r k) = val_main_v0 (F := Ideal) A3 (ix2 l k)) (k : Fin 512) :
    @Eq EReal (k0_pay16 (F := Ideal) x4 (ix2 r k)) (val_main_v3_0 (F := Ideal) A3 (ix2 l k)) := by
  pointwise [k0_pay16, k0_pay14, val_main_v3_0, val_main_v3_2, val_main_call0_v4, val_main_call0_cst_0, val_main_call0_v3, val_main_call0_v2, val_main_call0_cst, val_main_call0_v1, val_main_call0_v0]
  simp only [h4]
  rfl

theorem v4_of (x3 x4 : S256x512.Idx → EReal)
    (h3 : ∀ k : Fin 512, x3 (ix2 r k) = A2 (ix2 l k)) (h4 : ∀ k : Fin 512, x4 (ix2 r k) = val_main_v0 (F := Ideal) A3 (ix2 l k)) (k : Fin 512) :
    @Eq EReal (k0_pay17 (F := Ideal) x3 x4 (ix2 r k)) (val_main_v4 (F := Ideal) A2 A3 (ix2 l k)) := by
  pointwise [k0_pay17, k0_pay16, k0_pay14, val_main_v4, val_main_v3_0, val_main_v3_2, val_main_call0_v4, val_main_call0_cst_0, val_main_call0_v3, val_main_call0_v2, val_main_call0_cst, val_main_call0_v1, val_main_call0_v0]
  simp only [h3, h4]
  rfl

theorem v14_of (x2 : S256x512.Idx → EReal) (x7 : S512x1024.Idx → EReal)
    (h2 : ∀ k : Fin 512, x2 (ix2 r k) = A1 (ix2 l k)) (h7 : ∀ (k : Fin 512) (n : Fin 1024), x7 (ix2 k n) = A4 (ix2 k n)) (k : Fin 1024) :
    @Eq EReal (k0_pay18 (F := Ideal) x2 x7 (ix2 r k)) (val_main_v14 (F := Ideal) A1 A4 (ix2 l k)) := by
  pointwise [k0_pay18, val_main_v14]
  simp only [h2, h7]

theorem v25_of (x3 x4 : S256x512.Idx → EReal) (x8 : S512x1024.Idx → EReal)
    (h3 : ∀ k : Fin 512, x3 (ix2 r k) = A2 (ix2 l k)) (h4 : ∀ k : Fin 512, x4 (ix2 r k) = val_main_v0 (F := Ideal) A3 (ix2 l k)) (h8 : ∀ (k : Fin 512) (n : Fin 1024), x8 (ix2 k n) = A5 (ix2 k n)) (k : Fin 1024) :
    @Eq EReal (k0_pay19 (F := Ideal) x3 x4 x8 (ix2 r k)) (val_main_v25 (F := Ideal) A2 A3 A5 (ix2 l k)) := by
  pointwise [k0_pay19, k0_pay17, k0_pay16, k0_pay14, val_main_v25, val_main_v4, val_main_v3_0, val_main_v3_2, val_main_call0_v4, val_main_call0_cst_0, val_main_call0_v3, val_main_call0_v2, val_main_call0_cst, val_main_call0_v1, val_main_call0_v0]
  simp only [h3, h4, h8]
  rfl

theorem v10_of (x : S256x1024.Idx → EReal)
    (h : ∀ k : Fin 1024, x (ix2 r k) = val_main_v1 (F := Ideal) A3 (ix2 l k)) (k : Fin 1024) :
    @Eq EReal (k0_pay20 (F := Ideal) x (ix2 r k)) (val_main_v10 (F := Ideal) A3 (ix2 l k)) := by
  pointwise [k0_pay20, val_main_v10, val_main_v9, val_main_cst_0, val_main_v8, val_main_v7, val_main_cst, val_main_v6, val_main_v5]
  simp only [h]
  rfl

theorem v13_of (x : S256x1024.Idx → EReal)
    (h : ∀ k : Fin 1024, x (ix2 r k) = val_main_v1 (F := Ideal) A3 (ix2 l k)) (k : Fin 1024) :
    @Eq EReal (k0_pay21 (F := Ideal) x (ix2 r k)) (val_main_v13 (F := Ideal) A3 (ix2 l k)) := by
  pointwise [k0_pay21, k0_pay20, val_main_v13, val_main_v10, val_main_v9, val_main_cst_0, val_main_v8, val_main_v7, val_main_cst, val_main_v6, val_main_v5, val_main_v12, val_main_v11, val_main_cst_1]
  simp only [h]
  rfl

theorem v21_of (x : S256x1024.Idx → EReal)
    (h : ∀ k : Fin 1024, x (ix2 r k) = val_main_v2 (F := Ideal) A3 (ix2 l k)) (k : Fin 1024) :
    @Eq EReal (k0_pay22 (F := Ideal) x (ix2 r k)) (val_main_v21 (F := Ideal) A3 (ix2 l k)) := by
  pointwise [k0_pay22, val_main_v21, val_main_v20, val_main_cst_3, val_main_v19, val_main_v18, val_main_cst_2, val_main_v17, val_main_v16]
  simp only [h]
  rfl

theorem v24_of (x : S256x1024.Idx → EReal)
    (h : ∀ k : Fin 1024, x (ix2 r k) = val_main_v2 (F := Ideal) A3 (ix2 l k)) (k : Fin 1024) :
    @Eq EReal (k0_pay23 (F := Ideal) x (ix2 r k)) (val_main_v24 (F := Ideal) A3 (ix2 l k)) := by
  pointwise [k0_pay23, k0_pay22, val_main_v24, val_main_v21, val_main_v20, val_main_cst_3, val_main_v19, val_main_v18, val_main_cst_2, val_main_v17, val_main_v16, val_main_v23, val_main_v22, val_main_cst_4]
  simp only [h]
  rfl

theorem v27_of (x2 x3 x4 : S256x512.Idx → EReal) (x5 x6 : S256x1024.Idx → EReal) (x7 x8 : S512x1024.Idx → EReal)
    (ha : ∀ k : Fin 1024, @Eq EReal (k0_pay20 (F := Ideal) x5 (ix2 r k)) (val_main_v10 (F := Ideal) A3 (ix2 l k))) (hb : ∀ k : Fin 1024, @Eq EReal (k0_pay18 (F := Ideal) x2 x7 (ix2 r k)) (val_main_v14 (F := Ideal) A1 A4 (ix2 l k)))
    (hc : ∀ k : Fin 1024, @Eq EReal (k0_pay22 (F := Ideal) x6 (ix2 r k)) (val_main_v21 (F := Ideal) A3 (ix2 l k))) (hd : ∀ k : Fin 1024, @Eq EReal (k0_pay19 (F := Ideal) x3 x4 x8 (ix2 r k)) (val_main_v25 (F := Ideal) A2 A3 A5 (ix2 l k))) (k : Fin 1024) :
    @Eq EReal (k0_pay24 (F := Ideal) x2 x3 x4 x5 x7 x6 x8 (ix2 r k)) (val_main_v27 (F := Ideal) A1 A2 A3 A4 A5 (ix2 l k)) := by
  pointwise [k0_pay24, val_main_v27, val_main_v26, val_main_v15]
  simp only [ha, hb, hc, hd]

theorem v67_of (D : S256x1024.Idx → EReal) (x9 : S1024x1024.Idx → EReal)
    (hD : ∀ k : Fin 1024, D (ix2 r k) = val_main_v64 (F := Ideal) A0 A1 A2 A3 A4 A5 A6 A7 (ix2 l k)) (h9 : ∀ (k : Fin 1024) (n : Fin 1024), x9 (ix2 k n) = A6 (ix2 k n)) (k : Fin 1024) :
    @Eq EReal (k0_pay26 (F := Ideal) D x9 (ix2 r k)) (val_main_v67 (F := Ideal) A0 A1 A2 A3 A4 A5 A6 A7 (ix2 l k)) := by
  pointwise [k0_pay26, val_main_v67]
  simp only [hD, h9]

theorem v68_of (D p : S256x1024.Idx → EReal) (x9 : S1024x1024.Idx → EReal)
    (hM : ∀ k : Fin 1024, @Eq EReal (k0_pay26 (F := Ideal) D x9 (ix2 r k)) (val_main_v67 (F := Ideal) A0 A1 A2 A3 A4 A5 A6 A7 (ix2 l k))) (hp : ∀ k : Fin 1024, p (ix2 r k) = val_main_v21 (F := Ideal) A3 (ix2 l k)) (k : Fin 1024) :
    @Eq EReal (k0_pay27 (F := Ideal) D p x9 (ix2 r k)) (val_main_v68 (F := Ideal) A0 A1 A2 A3 A4 A5 A6 A7 (ix2 l k)) := by
  pointwise [k0_pay27, val_main_v68]
  simp only [hM, hp]

theorem v74_of (D p : S256x1024.Idx → EReal) (x9 : S1024x1024.Idx → EReal)
    (hM : ∀ k : Fin 1024, @Eq EReal (k0_pay26 (F := Ideal) D x9 (ix2 r k)) (val_main_v67 (F := Ideal) A0 A1 A2 A3 A4 A5 A6 A7 (ix2 l k))) (hp : ∀ k : Fin 1024, p (ix2 r k) = val_main_v10 (F := Ideal) A3 (ix2 l k)) (k : Fin 1024) :
    @Eq EReal (k0_pay29 (F := Ideal) D p x9 (ix2 r k)) (val_main_v74 (F := Ideal) A0 A1 A2 A3 A4 A5 A6 A7 (ix2 l k)) := by
  pointwise [k0_pay29, val_main_v74]
  simp only [hM, hp]

theorem v73_of (D p q : S256x1024.Idx → EReal) (x9 : S1024x1024.Idx → EReal)
    (hM : ∀ k : Fin 1024, @Eq EReal (k0_pay26 (F := Ideal) D x9 (ix2 r k)) (val_main_v67 (F := Ideal) A0 A1 A2 A3 A4 A5 A6 A7 (ix2 l k))) (hp : ∀ k : Fin 1024, p (ix2 r k) = val_main_v25 (F := Ideal) A2 A3 A5 (ix2 l k)) (hq : ∀ k : Fin 1024, q (ix2 r k) = val_main_v24 (F := Ideal) A3 (ix2 l k)) (k : Fin 1024) :
    @Eq EReal (k0_pay28 (F := Ideal) D p q x9 (ix2 r k)) (val_main_v73 (F := Ideal) A0 A1 A2 A3 A4 A5 A6 A7 (ix2 l k)) := by
  pointwise [k0_pay28, val_main_v73, val_main_v69]
  simp only [hM, hp, hq]

theorem v79_of (D p q : S256x1024.Idx → EReal) (x9 : S1024x1024.Idx → EReal)
    (hM : ∀ k : Fin 1024, @Eq EReal (k0_pay26 (F := Ideal) D x9 (ix2 r k)) (val_main_v67 (F := Ideal) A0 A1 A2 A3 A4 A5 A6 A7 (ix2 l k))) (hp : ∀ k : Fin 1024, p (ix2 r k) = val_main_v14 (F := Ideal) A1 A4 (ix2 l k)) (hq : ∀ k : Fin 1024, q (ix2 r k) = val_main_v13 (F := Ideal) A3 (ix2 l k)) (k : Fin 1024) :
    @Eq EReal (k0_pay30 (F := Ideal) D p q x9 (ix2 r k)) (val_main_v79 (F := Ideal) A0 A1 A2 A3 A4 A5 A6 A7 (ix2 l k)) := by
  pointwise [k0_pay30, val_main_v79, val_main_v75]
  simp only [hM, hp, hq]

theorem v78_of (D p : S256x1024.Idx → EReal) (x9 : S1024x1024.Idx → EReal) (x7 : S512x1024.Idx → EReal)
    (hN : ∀ k : Fin 1024, @Eq EReal (k0_pay29 (F := Ideal) D p x9 (ix2 r k)) (val_main_v74 (F := Ideal) A0 A1 A2 A3 A4 A5 A6 A7 (ix2 l k))) (h7 : ∀ (k : Fin 512) (n : Fin 1024), x7 (ix2 k n) = A4 (ix2 k n)) (k : Fin 512) :
    @Eq EReal (k0_pay31 (F := Ideal) D p x9 x7 (ix2 r k)) (val_main_v78 (F := Ideal) A0 A1 A2 A3 A4 A5 A6 A7 (ix2 l k)) := by
  pointwise [k0_pay31, val_main_v78]
  simp only [hN, h7]

theorem v72_of (p : S256x1024.Idx → EReal) (x8 : S512x1024.Idx → EReal)
    (hp : ∀ k : Fin 1024, p (ix2 r k) = val_main_v68 (F := Ideal) A0 A1 A2 A3 A4 A5 A6 A7 (ix2 l k)) (h8 : ∀ (k : Fin 512) (n : Fin 1024), x8 (ix2 k n) = A5 (ix2 k n)) (k : Fin 512) :
    @Eq EReal (k0_pay1 (F := Ideal) p x8 (ix2 r k)) (val_main_v72 (F := Ideal) A0 A1 A2 A3 A4 A5 A6 A7 (ix2 l k)) := by
  pointwise [k0_pay1, val_main_v72]
  simp only [hp, h8]

theorem v81_of (q : S256x512.Idx → EReal) (p : S256x1024.Idx → EReal) (x8 : S512x1024.Idx → EReal)
    (hO : ∀ k : Fin 512, @Eq EReal (k0_pay1 (F := Ideal) p x8 (ix2 r k)) (val_main_v72 (F := Ideal) A0 A1 A2 A3 A4 A5 A6 A7 (ix2 l k))) (hq : ∀ k : Fin 512, q (ix2 r k) = val_main_v3_0 (F := Ideal) A3 (ix2 l k)) (k : Fin 512) :
    @Eq EReal (k0_pay2 (F := Ideal) q p x8 (ix2 r k)) (val_main_v81 (F := Ideal) A0 A1 A2 A3 A4 A5 A6 A7 (ix2 l k)) := by
  pointwise [k0_pay2, val_main_v81]
  simp only [hO, hq]

theorem v82_of (x3 x4 q w : S256x512.Idx → EReal) (p : S256x1024.Idx → EReal) (x8 : S512x1024.Idx → EReal)
    (hO : ∀ k : Fin 512, @Eq EReal (k0_pay1 (F := Ideal) p x8 (ix2 r k)) (val_main_v72 (F := Ideal) A0 A1 A2 A3 A4 A5 A6 A7 (ix2 l k))) (h3 : ∀ k : Fin 512, x3 (ix2 r k) = A2 (ix2 l k)) (h4 : ∀ k : Fin 512, x4 (ix2 r k) = val_main_v0 (F := Ideal) A3 (ix2 l k)) (hq : ∀ k : Fin 512, q (ix2 r k) = val_main_v3_2 (F := Ideal) A3 (ix2 l k)) (hw : ∀ k : Fin 512, w (ix2 r k) = val_main_v3_1 (F := Ideal) A3 (ix2 l k)) (k : Fin 512) :
    @Eq EReal (k0_pay3 (F := Ideal) x3 x4 q w p x8 (ix2 r k)) (val_main_v82 (F := Ideal) A0 A1 A2 A3 A4 A5 A6 A7 (ix2 l k)) := by
  pointwise [k0_pay3, val_main_v82, val_main_call1_v1, val_main_v80, val_main_call1_v2, val_main_call1_v0]
  simp only [hO, h3, h4, hq, hw]

end

/-! ## What a block adds to the gradients of the weights -/

section
variable (A0 : S8192x1024.Idx → EReal) (A1 A2 : S8192x512.Idx → EReal) (A3 : S8192x5120.Idx → EReal) (A4 A5 : S512x1024.Idx → EReal) (A6 : S1024x1024.Idx → EReal) (A7 : S1024.Idx → EReal)
  (rows : Fin 256 → Fin 8192)

theorem add_14 (D q : S256x1024.Idx → EReal) (a : S1024x1024.Idx → EReal)
    (hD : ∀ (r : Fin 256) (k : Fin 1024), @Eq EReal (D (ix2 r k)) (val_main_v64 (F := Ideal) A0 A1 A2 A3 A4 A5 A6 A7 (ix2 (rows r) k)))
    (hq : ∀ (r : Fin 256) (k : Fin 1024), @Eq EReal (q (ix2 r k)) (val_main_v27 (F := Ideal) A1 A2 A3 A4 A5 (ix2 (rows r) k))) (i j : Fin 1024) :
    @Eq EReal (k0_pay25 (F := Ideal) D q a (ix2 i j)) (a (ix2 i j) + ∑ r : Fin 256, val_main_v64 (F := Ideal) A0 A1 A2 A3 A4 A5 A6 A7 (ix2 (rows r) j) * val_main_v27 (F := Ideal) A1 A2 A3 A4 A5 (ix2 (rows r) i)) := by
  pointwise [k0_pay25]
  simp only [hD, hq, mul_comm (val_main_v27 (F := Ideal) _ _ _ _ _ _)]

theorem add_15 (D p : S256x1024.Idx → EReal) (x2 : S256x512.Idx → EReal) (x9 : S1024x1024.Idx → EReal) (a : S512x1024.Idx → EReal)
    (hN : ∀ (r : Fin 256) (k : Fin 1024), @Eq EReal (k0_pay29 (F := Ideal) D p x9 (ix2 r k)) (val_main_v74 (F := Ideal) A0 A1 A2 A3 A4 A5 A6 A7 (ix2 (rows r) k)))
    (h2 : ∀ (r : Fin 256) (k : Fin 512), x2 (ix2 r k) = A1 (ix2 (rows r) k)) (i : Fin 512) (j : Fin 1024) :
    @Eq EReal (k0_pay32 (F := Ideal) D x2 p x9 a (ix2 i j)) (a (ix2 i j) + ∑ r : Fin 256, val_main_v74 (F := Ideal) A0 A1 A2 A3 A4 A5 A6 A7 (ix2 (rows r) j) * A1 (ix2 (rows r) i)) := by
  pointwise [k0_pay32]
  simp only [hN, h2, mul_comm (A1 _)]

theorem add_16 (D p : S256x1024.Idx → EReal) (q : S256x512.Idx → EReal) (x9 : S1024x1024.Idx → EReal) (a : S512x1024.Idx → EReal)
    (hN : ∀ (r : Fin 256) (k : Fin 1024), @Eq EReal (k0_pay27 (F := Ideal) D p x9 (ix2 r k)) (val_main_v68 (F := Ideal) A0 A1 A2 A3 A4 A5 A6 A7 (ix2 (rows r) k)))
    (hq : ∀ (r : Fin 256) (k : Fin 512), @Eq EReal (q (ix2 r k)) (val_main_v4 (F := Ideal) A2 A3 (ix2 (rows r) k))) (i : Fin 512) (j : Fin 1024) :
    @Eq EReal (k0_pay33 (F := Ideal) D q p x9 a (ix2 i j)) (a (ix2 i j) + ∑ r : Fin 256, val_main_v68 (F := Ideal) A0 A1 A2 A3 A4 A5 A6 A7 (ix2 (rows r) j) * val_main_v4 (F := Ideal) A2 A3 (ix2 (rows r) i)) := by
  pointwise [k0_pay33]
  simp only [hN, hq, mul_comm (val_main_v4 (F := Ideal) _ _ _)]

theorem add_17 (x0 x1 : S256x1024.Idx → EReal) (a : S1x1024.Idx → EReal)
    (h0 : ∀ (r : Fin 256) (k : Fin 1024), x0 (ix2 r k) = A0 (ix2 (rows r) k)) (h1 : ∀ (r : Fin 256) (k : Fin 1024), @Eq EReal (x1 (ix2 r k)) (val_main_v28 (F := Ideal) A1 A2 A3 A4 A5 A6 (ix2 (rows r) k))) (j : Fin 1024) :
    @Eq EReal (k0_pay13 (F := Ideal) (k0_pay11 (F := Ideal) x1 x0) a (ix2 0 j)) (a (ix2 0 j) + ∑ r : Fin 256, val_main_v45 (F := Ideal) A0 A1 A2 A3 A4 A5 A6 (ix2 (rows r) j)) := by
  pointwise [k0_pay13, k0_pay11, k0_pay10, k0_pay9, k0_pay8, val_main_v45, val_main_v41, val_main_v40, val_main_v36, val_main_v35, val_main_v33, val_main_v31, val_main_v30, val_main_v29, val_main_cst_5, val_main_v32, val_main_cst_6, val_main_v34, val_main_cst_7]
  simp only [h0, h1]

end

/-! ## The blocks, as read from the arguments -/

section
variable (m : (ℓ : Loc nD τ sig) → Buf (Elt Ideal) ℓ) (c : Dev nD)

def in0 : S8192x1024.Idx → EReal := m ((c.tc : Thread nD τ).loc main_arg0)
def in1 : S8192x512.Idx → EReal := m ((c.tc : Thread nD τ).loc main_arg1)
def in2 : S8192x512.Idx → EReal := m ((c.tc : Thread nD τ).loc main_arg2)
def in3 : S8192x5120.Idx → EReal := m ((c.tc : Thread nD τ).loc main_arg3)
def in4 : S512x1024.Idx → EReal := m ((c.tc : Thread nD τ).loc main_arg4)
def in5 : S512x1024.Idx → EReal := m ((c.tc : Thread nD τ).loc main_arg5)
def in6 : S1024x1024.Idx → EReal := m ((c.tc : Thread nD τ).loc main_arg6)
def in7 : S1024.Idx → EReal := m ((c.tc : Thread nD τ).loc main_arg7)

theorem index_0 : ∀ t : Fin cfg0.N, win0_0.index t = ![t.val, 0] := by decide +kernel
theorem index_1 : ∀ t : Fin cfg0.N, win0_1.index t = ![t.val, 0] := by decide +kernel
theorem index_2 : ∀ t : Fin cfg0.N, win0_2.index t = ![t.val, 0] := by decide +kernel
theorem index_3 : ∀ t : Fin cfg0.N, win0_3.index t = ![t.val, 0] := by decide +kernel
theorem index_4 : ∀ t : Fin cfg0.N, win0_4.index t = ![t.val, 5] := by decide +kernel
theorem index_5 : ∀ t : Fin cfg0.N, win0_5.index t = ![t.val, 3] := by decide +kernel
theorem index_6 : ∀ t : Fin cfg0.N, win0_6.index t = ![t.val, 4] := by decide +kernel
theorem index_7 : ∀ t : Fin cfg0.N, win0_7.index t = ![0, 0] := by decide +kernel
theorem index_8 : ∀ t : Fin cfg0.N, win0_8.index t = ![0, 0] := by decide +kernel
theorem index_9 : ∀ t : Fin cfg0.N, win0_9.index t = ![0, 0] := by decide +kernel
theorem index_10 : ∀ t : Fin cfg0.N, win0_10.index t = ![0, 0] := by decide +kernel
theorem index_11 : ∀ t : Fin cfg0.N, win0_11.index t = ![t.val, 0] := by decide +kernel
theorem index_12 : ∀ t : Fin cfg0.N, win0_12.index t = ![t.val, 0] := by decide +kernel
theorem index_13 : ∀ t : Fin cfg0.N, win0_13.index t = ![t.val, 0] := by decide +kernel
theorem index_14 : ∀ t : Fin cfg0.N, win0_14.index t = ![0, 0] := by decide +kernel
theorem index_15 : ∀ t : Fin cfg0.N, win0_15.index t = ![0, 0] := by decide +kernel
theorem index_16 : ∀ t : Fin cfg0.N, win0_16.index t = ![0, 0] := by decide +kernel
theorem index_17 : ∀ t : Fin cfg0.N, win0_17.index t = ![0, 0] := by decide +kernel

/-- The row of the whole array at row `r` of block `n`. -/
def rowAt (n : ℕ) (r : Fin 256) : Fin 8192 := ⟨(n * 256 + r.val) % 8192, Nat.mod_lt _ (by decide)⟩

theorem block_0 (t : Fin cfg0.N) (r : Fin 256) (k : Fin 1024) : @Eq EReal (iblk m c 0 t (ix2 r k)) (in0 m c (ix2 (rowAt t.val r) k)) := by
  have ht : t.val < 32 := t.isLt
  have e : iblk m c 0 t (ix2 r k) = V m c main_arg0 (ix2 (rowAt t.val r) k) := by
    unfold rowAt
    blk_ext [iblk, index_0 t]
  rw [e, V_main_arg0]
  rfl

theorem block_2 (t : Fin cfg0.N) (r : Fin 256) (k : Fin 512) : @Eq EReal (iblk m c 2 t (ix2 r k)) (in1 m c (ix2 (rowAt t.val r) k)) := by
  have ht : t.val < 32 := t.isLt
  have e : iblk m c 2 t (ix2 r k) = V m c main_arg1 (ix2 (rowAt t.val r) k) := by
    unfold rowAt
    blk_ext [iblk, index_2 t]
  rw [e, V_main_arg1]
  rfl

theorem block_3 (t : Fin cfg0.N) (r : Fin 256) (k : Fin 512) : @Eq EReal (iblk m c 3 t (ix2 r k)) (in2 m c (ix2 (rowAt t.val r) k)) := by
  have ht : t.val < 32 := t.isLt
  have e : iblk m c 3 t (ix2 r k) = V m c main_arg2 (ix2 (rowAt t.val r) k) := by
    unfold rowAt
    blk_ext [iblk, index_3 t]
  rw [e, V_main_arg2]
  rfl

theorem block_4 (t : Fin cfg0.N) (r : Fin 256) (k : Fin 512) : @Eq EReal (iblk m c 4 t (ix2 r k)) (in3 m c (ix2 (rowAt t.val r) ⟨2560 + k.val, by have := k.isLt; omega⟩)) := by
  have ht : t.val < 32 := t.isLt
  have e : iblk m c 4 t (ix2 r k) = V m c main_arg3 (ix2 (rowAt t.val r) ⟨2560 + k.val, by have := k.isLt; omega⟩) := by
    unfold rowAt
    blk_ext [iblk, index_4 t]
  rw [e, V_main_arg3]
  rfl

theorem block_5 (t : Fin cfg0.N) (r : Fin 256) (k : Fin 1024) : @Eq EReal (iblk m c 5 t (ix2 r k)) (in3 m c (ix2 (rowAt t.val r) ⟨3072 + k.val, by have := k.isLt; omega⟩)) := by
  have ht : t.val < 32 := t.isLt
  have e : iblk m c 5 t (ix2 r k) = V m c main_arg3 (ix2 (rowAt t.val r) ⟨3072 + k.val, by have := k.isLt; omega⟩) := by
    unfold rowAt
    blk_ext [iblk, index_5 t]
  rw [e, V_main_arg3]
  rfl

theorem block_6 (t : Fin cfg0.N) (r : Fin 256) (k : Fin 1024) : @Eq EReal (iblk m c 6 t (ix2 r k)) (in3 m c (ix2 (rowAt t.val r) ⟨4096 + k.val, by have := k.isLt; omega⟩)) := by
  have ht : t.val < 32 := t.isLt
  have e : iblk m c 6 t (ix2 r k) = V m c main_arg3 (ix2 (rowAt t.val r) ⟨4096 + k.val, by have := k.isLt; omega⟩) := by
    unfold rowAt
    blk_ext [iblk, index_6 t]
  rw [e, V_main_arg3]
  rfl

theorem block_7 (t : Fin cfg0.N) (k : Fin 512) (n : Fin 1024) : @Eq EReal (iblk m c 7 t (ix2 k n)) (in4 m c (ix2 k n)) := by
  have e : iblk m c 7 t (ix2 k n) = V m c (Pipeline.arrRef spec0 7) (ix2 k n) := by
    blk_ext [iblk, index_7 t]
  rw [e]
  entry_read
  rfl

theorem block_8 (t : Fin cfg0.N) (k : Fin 512) (n : Fin 1024) : @Eq EReal (iblk m c 8 t (ix2 k n)) (in5 m c (ix2 k n)) := by
  have e : iblk m c 8 t (ix2 k n) = V m c (Pipeline.arrRef spec0 8) (ix2 k n) := by
    blk_ext [iblk, index_8 t]
  rw [e]
  entry_read
  rfl

theorem block_9 (t : Fin cfg0.N) (k : Fin 1024) (n : Fin 1024) : @Eq EReal (iblk m c 9 t (ix2 k n)) (in6 m c (ix2 k n)) := by
  have e : iblk m c 9 t (ix2 k n) = V m c (Pipeline.arrRef spec0 9) (ix2 k n) := by
    blk_ext [iblk, index_9 t]
  rw [e]
  entry_read
  rfl

theorem block_10 (t : Fin cfg0.N) (k : Fin 1024) : @Eq EReal (iblk m c 10 t (ix2 0 k)) (in7 m c (ix1 k)) := by
  have e : iblk m c 10 t (ix2 0 k) = V m c (Pipeline.arrRef spec0 10) (ix2 0 k) := by
    blk_ext [iblk, index_10 t]
  rw [e]
  unfold V
  simp only [hostOps0, hostOps0_1, hostOps0_2, List.flatten_cons, List.flatten_nil, List.cons_append, List.nil_append, List.append_nil]
  entry_read
  pointwise []
  rfl

/-- The forward pass's projection, which the kernel is handed. -/
theorem block_1 (t : Fin cfg0.N) (r : Fin 256) (k : Fin 1024) : @Eq EReal (iblk m c 1 t (ix2 r k)) (val_main_v28 (F := Ideal) (in1 m c) (in2 m c) (in3 m c) (in4 m c) (in5 m c) (in6 m c) (ix2 (rowAt t.val r) k)) := by
  have ht : t.val < 32 := t.isLt
  have e : iblk m c 1 t (ix2 r k) = V m c (Pipeline.arrRef spec0 1) (ix2 (rowAt t.val r) k) := by
    unfold rowAt
    blk_ext [iblk, index_1 t]
  rw [e]
  unfold V
  simp only [hostOps0, hostOps0_1, hostOps0_2, List.flatten_cons, List.flatten_nil, List.cons_append, List.nil_append, List.append_nil]
  entry_read
  simp -implicitDefEqProofs only [StableHlo.TRef.toBuf, StableHlo.TRef.ofBuf, cast_cast, cast_eq]
  pointwise [val_main_v28, val_main_v27, val_main_v15, val_main_v10, val_main_v9, val_main_cst_0, val_main_v8, val_main_v7, val_main_cst, val_main_v6, val_main_v5, val_main_v1, val_main_v14, val_main_v26, val_main_v21, val_main_v20, val_main_cst_3, val_main_v19, val_main_v18, val_main_cst_2, val_main_v17, val_main_v16, val_main_v2, val_main_v25, val_main_v4, val_main_v3_0, val_main_v0, val_main_v3_2, val_main_call0_v4, val_main_call0_cst_0, val_main_call0_v3, val_main_call0_v2, val_main_call0_cst, val_main_call0_v1, val_main_call0_v0]
  rfl

theorem block_z (t : Fin cfg0.N) (r : Fin 256) (k : Fin 512) : @Eq EReal (iblk m c 4 t (ix2 r k)) (val_main_v0 (F := Ideal) (in3 m c) (ix2 (rowAt t.val r) k)) := by
  rw [val_main_v0_apply]
  exact (block_4 m c t r k).trans (congrArg _ (funext fun a => match a with | ⟨0, _⟩ => rfl | ⟨1, _⟩ => rfl))

theorem block_gs (t : Fin cfg0.N) (r : Fin 256) (k : Fin 1024) : @Eq EReal (iblk m c 5 t (ix2 r k)) (val_main_v1 (F := Ideal) (in3 m c) (ix2 (rowAt t.val r) k)) := by
  rw [val_main_v1_apply]
  exact (block_5 m c t r k).trans (congrArg _ (funext fun a => match a with | ⟨0, _⟩ => rfl | ⟨1, _⟩ => rfl))

theorem block_ga (t : Fin cfg0.N) (r : Fin 256) (k : Fin 1024) : @Eq EReal (iblk m c 6 t (ix2 r k)) (val_main_v2 (F := Ideal) (in3 m c) (ix2 (rowAt t.val r) k)) := by
  rw [val_main_v2_apply]
  exact (block_6 m c t r k).trans (congrArg _ (funext fun a => match a with | ⟨0, _⟩ => rfl | ⟨1, _⟩ => rfl))

/-! ## A point's values -/

theorem dout (t : Fin cfg0.N) (r : Fin 256) (k : Fin 1024) : @Eq EReal ((k0_pay12 (F := Ideal) (iblk m c 1 t) (iblk m c 10 t) (iblk m c 0 t)) (ix2 r k)) (val_main_v64 (F := Ideal) (in0 m c) (in1 m c) (in2 m c) (in3 m c) (in4 m c) (in5 m c) (in6 m c) (in7 m c) (ix2 (rowAt t.val r) k)) := by
  apply v64_of
  all_goals first
    | exact block_0 m c t r
    | exact block_1 m c t r
    | exact block_10 m c t

theorem sz (t : Fin cfg0.N) (r : Fin 256) (k : Fin 512) : @Eq EReal ((k0_pay14 (F := Ideal) (iblk m c 4 t)) (ix2 r k)) (val_main_v3_2 (F := Ideal) (in3 m c) (ix2 (rowAt t.val r) k)) := by
  apply v3_2_of
  all_goals first
    | exact block_z m c t r

theorem dsz (t : Fin cfg0.N) (r : Fin 256) (k : Fin 512) : @Eq EReal ((k0_pay15 (F := Ideal) (iblk m c 4 t)) (ix2 r k)) (val_main_v3_1 (F := Ideal) (in3 m c) (ix2 (rowAt t.val r) k)) := by
  apply v3_1_of
  all_goals first
    | exact block_z m c t r

theorem gate (t : Fin cfg0.N) (r : Fin 256) (k : Fin 512) : @Eq EReal ((k0_pay16 (F := Ideal) (iblk m c 4 t)) (ix2 r k)) (val_main_v3_0 (F := Ideal) (in3 m c) (ix2 (rowAt t.val r) k)) := by
  apply v3_0_of
  all_goals first
    | exact block_z m c t r

theorem ya (t : Fin cfg0.N) (r : Fin 256) (k : Fin 512) : @Eq EReal ((k0_pay17 (F := Ideal) (iblk m c 3 t) (iblk m c 4 t)) (ix2 r k)) (val_main_v4 (F := Ideal) (in2 m c) (in3 m c) (ix2 (rowAt t.val r) k)) := by
  apply v4_of
  all_goals first
    | exact block_3 m c t r
    | exact block_z m c t r

theorem ps (t : Fin cfg0.N) (r : Fin 256) (k : Fin 1024) : @Eq EReal ((k0_pay18 (F := Ideal) (iblk m c 2 t) (iblk m c 7 t)) (ix2 r k)) (val_main_v14 (F := Ideal) (in1 m c) (in4 m c) (ix2 (rowAt t.val r) k)) := by
  apply v14_of
  all_goals first
    | exact block_2 m c t r
    | exact block_7 m c t

theorem pa (t : Fin cfg0.N) (r : Fin 256) (k : Fin 1024) : @Eq EReal ((k0_pay19 (F := Ideal) (iblk m c 3 t) (iblk m c 4 t) (iblk m c 8 t)) (ix2 r k)) (val_main_v25 (F := Ideal) (in2 m c) (in3 m c) (in5 m c) (ix2 (rowAt t.val r) k)) := by
  apply v25_of
  all_goals first
    | exact block_3 m c t r
    | exact block_z m c t r
    | exact block_8 m c t

theorem ss (t : Fin cfg0.N) (r : Fin 256) (k : Fin 1024) : @Eq EReal ((k0_pay20 (F := Ideal) (iblk m c 5 t)) (ix2 r k)) (val_main_v10 (F := Ideal) (in3 m c) (ix2 (rowAt t.val r) k)) := by
  apply v10_of
  all_goals first
    | exact block_gs m c t r

theorem dss (t : Fin cfg0.N) (r : Fin 256) (k : Fin 1024) : @Eq EReal ((k0_pay21 (F := Ideal) (iblk m c 5 t)) (ix2 r k)) (val_main_v13 (F := Ideal) (in3 m c) (ix2 (rowAt t.val r) k)) := by
  apply v13_of
  all_goals first
    | exact block_gs m c t r

theorem sa (t : Fin cfg0.N) (r : Fin 256) (k : Fin 1024) : @Eq EReal ((k0_pay22 (F := Ideal) (iblk m c 6 t)) (ix2 r k)) (val_main_v21 (F := Ideal) (in3 m c) (ix2 (rowAt t.val r) k)) := by
  apply v21_of
  all_goals first
    | exact block_ga m c t r

theorem dsa (t : Fin cfg0.N) (r : Fin 256) (k : Fin 1024) : @Eq EReal ((k0_pay23 (F := Ideal) (iblk m c 6 t)) (ix2 r k)) (val_main_v24 (F := Ideal) (in3 m c) (ix2 (rowAt t.val r) k)) := by
  apply v24_of
  all_goals first
    | exact block_ga m c t r

theorem merged (t : Fin cfg0.N) (r : Fin 256) (k : Fin 1024) : @Eq EReal ((k0_pay24 (F := Ideal) (iblk m c 2 t) (iblk m c 3 t) (iblk m c 4 t) (iblk m c 5 t) (iblk m c 7 t) (iblk m c 6 t) (iblk m c 8 t)) (ix2 r k)) (val_main_v27 (F := Ideal) (in1 m c) (in2 m c) (in3 m c) (in4 m c) (in5 m c) (ix2 (rowAt t.val r) k)) := by
  exact v27_of (ha := ss m c t r) (hb := ps m c t r) (hc := sa m c t r) (hd := pa m c t r) (k := k) ..

theorem dmerged (t : Fin cfg0.N) (r : Fin 256) (k : Fin 1024) : @Eq EReal (k0_pay26 (F := Ideal) (k0_pay12 (F := Ideal) (iblk m c 1 t) (iblk m c 10 t) (iblk m c 0 t)) (iblk m c 9 t) (ix2 r k)) (val_main_v67 (F := Ideal) (in0 m c) (in1 m c) (in2 m c) (in3 m c) (in4 m c) (in5 m c) (in6 m c) (in7 m c) (ix2 (rowAt t.val r) k)) := by
  apply v67_of
  all_goals first
    | exact dout m c t r
    | exact block_9 m c t

theorem dpa (t : Fin cfg0.N) (r : Fin 256) (k : Fin 1024) : @Eq EReal ((k0_pay27 (F := Ideal) (k0_pay12 (F := Ideal) (iblk m c 1 t) (iblk m c 10 t) (iblk m c 0 t)) (k0_pay22 (F := Ideal) (iblk m c 6 t)) (iblk m c 9 t)) (ix2 r k)) (val_main_v68 (F := Ideal) (in0 m c) (in1 m c) (in2 m c) (in3 m c) (in4 m c) (in5 m c) (in6 m c) (in7 m c) (ix2 (rowAt t.val r) k)) := by
  exact v68_of (hM := dmerged m c t r) (hp := sa m c t r) (k := k) ..

theorem dps (t : Fin cfg0.N) (r : Fin 256) (k : Fin 1024) : @Eq EReal (k0_pay29 (F := Ideal) (k0_pay12 (F := Ideal) (iblk m c 1 t) (iblk m c 10 t) (iblk m c 0 t)) (k0_pay20 (F := Ideal) (iblk m c 5 t)) (iblk m c 9 t) (ix2 r k)) (val_main_v74 (F := Ideal) (in0 m c) (in1 m c) (in2 m c) (in3 m c) (in4 m c) (in5 m c) (in6 m c) (in7 m c) (ix2 (rowAt t.val r) k)) := by
  exact v74_of (hM := dmerged m c t r) (hp := ss m c t r) (k := k) ..

theorem dga (t : Fin cfg0.N) (r : Fin 256) (k : Fin 1024) : @Eq EReal (k0_pay28 (F := Ideal) (k0_pay12 (F := Ideal) (iblk m c 1 t) (iblk m c 10 t) (iblk m c 0 t)) (k0_pay19 (F := Ideal) (iblk m c 3 t) (iblk m c 4 t) (iblk m c 8 t)) (k0_pay23 (F := Ideal) (iblk m c 6 t)) (iblk m c 9 t) (ix2 r k)) (val_main_v73 (F := Ideal) (in0 m c) (in1 m c) (in2 m c) (in3 m c) (in4 m c) (in5 m c) (in6 m c) (in7 m c) (ix2 (rowAt t.val r) k)) := by
  exact v73_of (hM := dmerged m c t r) (hp := pa m c t r) (hq := dsa m c t r) (k := k) ..

theorem dgs (t : Fin cfg0.N) (r : Fin 256) (k : Fin 1024) : @Eq EReal (k0_pay30 (F := Ideal) (k0_pay12 (F := Ideal) (iblk m c 1 t) (iblk m c 10 t) (iblk m c 0 t)) (k0_pay18 (F := Ideal) (iblk m c 2 t) (iblk m c 7 t)) (k0_pay21 (F := Ideal) (iblk m c 5 t)) (iblk m c 9 t) (ix2 r k)) (val_main_v79 (F := Ideal) (in0 m c) (in1 m c) (in2 m c) (in3 m c) (in4 m c) (in5 m c) (in6 m c) (in7 m c) (ix2 (rowAt t.val r) k)) := by
  exact v79_of (hM := dmerged m c t r) (hp := ps m c t r) (hq := dss m c t r) (k := k) ..

theorem dys (t : Fin cfg0.N) (r : Fin 256) (k : Fin 512) : @Eq EReal (k0_pay31 (F := Ideal) (k0_pay12 (F := Ideal) (iblk m c 1 t) (iblk m c 10 t) (iblk m c 0 t)) (k0_pay20 (F := Ideal) (iblk m c 5 t)) (iblk m c 9 t) (iblk m c 7 t) (ix2 r k)) (val_main_v78 (F := Ideal) (in0 m c) (in1 m c) (in2 m c) (in3 m c) (in4 m c) (in5 m c) (in6 m c) (in7 m c) (ix2 (rowAt t.val r) k)) := by
  exact v78_of (hN := dps m c t r) (h7 := block_7 m c t) (k := k) ..

theorem dya (t : Fin cfg0.N) (r : Fin 256) (k : Fin 512) : @Eq EReal (k0_pay1 (F := Ideal) (k0_pay27 (F := Ideal) (k0_pay12 (F := Ideal) (iblk m c 1 t) (iblk m c 10 t) (iblk m c 0 t)) (k0_pay22 (F := Ideal) (iblk m c 6 t)) (iblk m c 9 t)) (iblk m c 8 t) (ix2 r k)) (val_main_v72 (F := Ideal) (in0 m c) (in1 m c) (in2 m c) (in3 m c) (in4 m c) (in5 m c) (in6 m c) (in7 m c) (ix2 (rowAt t.val r) k)) := by
  apply v72_of
  all_goals first
    | exact dpa m c t r
    | exact block_8 m c t

theorem dattn (t : Fin cfg0.N) (r : Fin 256) (k : Fin 512) : @Eq EReal (k0_pay2 (F := Ideal) (k0_pay16 (F := Ideal) (iblk m c 4 t)) (k0_pay27 (F := Ideal) (k0_pay12 (F := Ideal) (iblk m c 1 t) (iblk m c 10 t) (iblk m c 0 t)) (k0_pay22 (F := Ideal) (iblk m c 6 t)) (iblk m c 9 t)) (iblk m c 8 t) (ix2 r k)) (val_main_v81 (F := Ideal) (in0 m c) (in1 m c) (in2 m c) (in3 m c) (in4 m c) (in5 m c) (in6 m c) (in7 m c) (ix2 (rowAt t.val r) k)) := by
  exact v81_of (hO := dya m c t r) (hq := gate m c t r) (k := k) ..

theorem dz (t : Fin cfg0.N) (r : Fin 256) (k : Fin 512) : @Eq EReal (k0_pay3 (F := Ideal) (iblk m c 3 t) (iblk m c 4 t) (k0_pay14 (F := Ideal) (iblk m c 4 t)) (k0_pay15 (F := Ideal) (iblk m c 4 t)) (k0_pay27 (F := Ideal) (k0_pay12 (F := Ideal) (iblk m c 1 t) (iblk m c 10 t) (iblk m c 0 t)) (k0_pay22 (F := Ideal) (iblk m c 6 t)) (iblk m c 9 t)) (iblk m c 8 t) (ix2 r k)) (val_main_v82 (F := Ideal) (in0 m c) (in1 m c) (in2 m c) (in3 m c) (in4 m c) (in5 m c) (in6 m c) (in7 m c) (ix2 (rowAt t.val r) k)) := by
  exact v82_of (hO := dya m c t r) (h3 := block_3 m c t r) (h4 := block_z m c t r) (hq := sz m c t r) (hw := dsz m c t r) (k := k) ..

end

end Cert.Kernel5Ideal.Own
-- ==== Proof.MergeGradLeft.lean ====
/- What a point of the merge's gradient kernel leaves in each of its outputs' buffers, in terms of its input blocks. -/
module

public import proofs.«01_k».proof.Proof.Gen.Kernel5Ideal.Value
public import Idealize.ShloMosaic.Lib.Claim
public import Idealize.ShloMosaic.Lib.Pipeline.ValueKit
public import Idealize.ShloMosaic.Lib.Pointwise

@[expose] public section

set_option maxRecDepth 16384

noncomputable section

namespace Cert.Kernel5Ideal.Own

open Idealize.ShloMosaic Idealize.ShloMosaic.TcCoe Idealize.ShloMosaic.Tactic
open Cert.Kernel5Ideal Cert.Kernel5Ideal.Gen

/-! ## What a point leaves in each output's buffer -/

theorem hz2 : (![0, 0] : Fin 2 → Nat) = fun _ => 0 := funext fun a => by fin_cases a <;> rfl

section
variable (c : Dev nD) (i : grid0.Coords)
  (arg1 : Memref sig .tc .vmem S256x1024 .f32) (harg1 : arg1.IsWhole)
  (arg2 : Memref sig .tc .vmem S256x1024 .f32) (harg2 : arg2.IsWhole)
  (arg3 : Memref sig .tc .vmem S256x512 .f32) (harg3 : arg3.IsWhole)
  (arg4 : Memref sig .tc .vmem S256x512 .f32) (harg4 : arg4.IsWhole)
  (arg5 : Memref sig .tc .vmem S256x512 .f32) (harg5 : arg5.IsWhole)
  (arg6 : Memref sig .tc .vmem S256x1024 .f32) (harg6 : arg6.IsWhole)
  (arg7 : Memref sig .tc .vmem S256x1024 .f32) (harg7 : arg7.IsWhole)
  (arg8 : Memref sig .tc .vmem S512x1024 .bf16) (harg8 : arg8.IsWhole)
  (arg9 : Memref sig .tc .vmem S512x1024 .bf16) (harg9 : arg9.IsWhole)
  (arg10 : Memref sig .tc .vmem S1024x1024 .bf16) (harg10 : arg10.IsWhole)
  (arg11 : Memref sig .tc .vmem S1x1024 .f32) (harg11 : arg11.IsWhole)
  (arg12 : Memref sig .tc .vmem S256x512 .f32) (harg12 : arg12.IsWhole)
  (arg13 : Memref sig .tc .vmem S256x512 .f32) (harg13 : arg13.IsWhole)
  (arg14 : Memref sig .tc .vmem S256x2560 .f32) (harg14 : arg14.IsWhole)
  (arg15 : Memref sig .tc .vmem S1024x1024 .f32) (harg15 : arg15.IsWhole)
  (arg16 : Memref sig .tc .vmem S512x1024 .f32) (harg16 : arg16.IsWhole)
  (arg17 : Memref sig .tc .vmem S512x1024 .f32) (harg17 : arg17.IsWhole)
  (arg18 : Memref sig .tc .vmem S1x1024 .f32) (harg18 : arg18.IsWhole)
  (x0 : Vec Ideal S256x1024 .f32)
  (x1 : Vec Ideal S256x1024 .f32)
  (x2 : Vec Ideal S256x512 .f32)
  (x3 : Vec Ideal S256x512 .f32)
  (x4 : Vec Ideal S256x512 .f32)
  (x5 : Vec Ideal S256x1024 .f32)
  (x6 : Vec Ideal S256x1024 .f32)
  (x7 : Vec Ideal S512x1024 .bf16)
  (x8 : Vec Ideal S512x1024 .bf16)
  (x9 : Vec Ideal S1024x1024 .bf16)
  (x10 : Vec Ideal S1x1024 .f32)
  (xo14 : Vec Ideal S1024x1024 .f32)
  (xo15 : Vec Ideal S512x1024 .f32)
  (xo16 : Vec Ideal S512x1024 .f32)
  (xo17 : Vec Ideal S1x1024 .f32)

theorem first_11 (hc0 : cond0_0 i) :
    out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10
      = k0_pay31 (F := Ideal) (k0_pay12 (F := Ideal) x1 x10 x0) (k0_pay20 (F := Ideal) x5) x9 x7 := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10)]
  unfold kernelRun0_A
  dsimp only
  try sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S256x1024) hz2, View.ld_unit_zero (S := S256x512) hz2, View.ld_unit_zero (S := S512x1024) hz2, View.ld_unit_zero (S := S1024x1024) hz2, View.ld_unit_zero (S := S1x1024) hz2, View.ld_unit_zero (S := S256x2560) hz2, shapeCast_self]

theorem later_11 (hc0 : ¬cond0_0 i) :
    out0_B_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 xo14 xo15 xo16 xo17
      = k0_pay31 (F := Ideal) (k0_pay12 (F := Ideal) x1 x10 x0) (k0_pay20 (F := Ideal) x5) x9 x7 := by
  unfold out0_B_11
  rw [View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 xo14 xo15 xo16 xo17)]
  unfold kernelRun0_B
  dsimp only
  try sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S256x1024) hz2, View.ld_unit_zero (S := S256x512) hz2, View.ld_unit_zero (S := S512x1024) hz2, View.ld_unit_zero (S := S1024x1024) hz2, View.ld_unit_zero (S := S1x1024) hz2, View.ld_unit_zero (S := S256x2560) hz2, shapeCast_self]

theorem first_12 (hc0 : cond0_0 i) :
    out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10
      = k0_pay2 (F := Ideal) (k0_pay16 (F := Ideal) x4) (k0_pay27 (F := Ideal) (k0_pay12 (F := Ideal) x1 x10 x0) (k0_pay22 (F := Ideal) x6) x9) x8 := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10)]
  unfold kernelRun0_A
  dsimp only
  try sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S256x1024) hz2, View.ld_unit_zero (S := S256x512) hz2, View.ld_unit_zero (S := S512x1024) hz2, View.ld_unit_zero (S := S1024x1024) hz2, View.ld_unit_zero (S := S1x1024) hz2, View.ld_unit_zero (S := S256x2560) hz2, shapeCast_self]

theorem later_12 (hc0 : ¬cond0_0 i) :
    out0_B_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 xo14 xo15 xo16 xo17
      = k0_pay2 (F := Ideal) (k0_pay16 (F := Ideal) x4) (k0_pay27 (F := Ideal) (k0_pay12 (F := Ideal) x1 x10 x0) (k0_pay22 (F := Ideal) x6) x9) x8 := by
  unfold out0_B_12
  rw [View.read_writes_eq_canon _ _ _ (cover0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 xo14 xo15 xo16 xo17)]
  unfold kernelRun0_B
  dsimp only
  try sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S256x1024) hz2, View.ld_unit_zero (S := S256x512) hz2, View.ld_unit_zero (S := S512x1024) hz2, View.ld_unit_zero (S := S1024x1024) hz2, View.ld_unit_zero (S := S1x1024) hz2, View.ld_unit_zero (S := S256x2560) hz2, shapeCast_self]

theorem first_13 (hc0 : cond0_0 i) (G : S256x2560.Idx → EReal)
    (hz : ∀ (r : Fin 256) (k : Fin 512), @Eq EReal (k0_pay3 (F := Ideal) x3 x4 (k0_pay14 (F := Ideal) x4) (k0_pay15 (F := Ideal) x4) (k0_pay27 (F := Ideal) (k0_pay12 (F := Ideal) x1 x10 x0) (k0_pay22 (F := Ideal) x6) x9) x8 (ix2 r k)) (G (ix2 r ⟨k.val, by have := k.isLt; omega⟩)))
    (hs : ∀ (r : Fin 256) (k : Fin 1024), @Eq EReal (k0_pay30 (F := Ideal) (k0_pay12 (F := Ideal) x1 x10 x0) (k0_pay18 (F := Ideal) x2 x7) (k0_pay21 (F := Ideal) x5) x9 (ix2 r k)) (G (ix2 r ⟨512 + k.val, by have := k.isLt; omega⟩)))
    (ha : ∀ (r : Fin 256) (k : Fin 1024), @Eq EReal (k0_pay28 (F := Ideal) (k0_pay12 (F := Ideal) x1 x10 x0) (k0_pay19 (F := Ideal) x3 x4 x8) (k0_pay23 (F := Ideal) x6) x9 (ix2 r k)) (G (ix2 r ⟨1536 + k.val, by have := k.isLt; omega⟩))) (y : S256x2560.Idx) :
    @Eq EReal (out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 y) (G y) := by
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10)]
  refine View.canon_apply_of_pieces (Val := Elt Ideal) G _ ?_ y (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 y)
  unfold kernelRun0_A
  dsimp only
  try sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S256x1024) hz2, View.ld_unit_zero (S := S256x512) hz2, View.ld_unit_zero (S := S512x1024) hz2, View.ld_unit_zero (S := S1024x1024) hz2, View.ld_unit_zero (S := S1x1024) hz2, View.ld_unit_zero (S := S256x2560) hz2, shapeCast_self, List.forall_mem_cons]
  refine ⟨fun x => ?_, fun x => ?_, fun x => ?_, fun _ h => nomatch h⟩
  · have hx : x = ix2 (x (0 : Fin 2)) (x (1 : Fin 2)) := by
      funext a
      match a with
      | ⟨0, _⟩ => rfl
      | ⟨1, _⟩ => rfl
    refine (congrArg _ hx).trans ((ha _ _).trans (congrArg G ?_))
    funext a
    match a with
    | ⟨0, _⟩ => exact Fin.ext (by (try blk_simp []); first | done | rfl)
    | ⟨1, _⟩ => exact Fin.ext (by (try blk_simp []); first | done | rfl)
  · have hx : x = ix2 (x (0 : Fin 2)) (x (1 : Fin 2)) := by
      funext a
      match a with
      | ⟨0, _⟩ => rfl
      | ⟨1, _⟩ => rfl
    refine (congrArg _ hx).trans ((hs _ _).trans (congrArg G ?_))
    funext a
    match a with
    | ⟨0, _⟩ => exact Fin.ext (by (try blk_simp []); first | done | rfl)
    | ⟨1, _⟩ => exact Fin.ext (by (try blk_simp []); first | done | rfl)
  · have hx : x = ix2 (x (0 : Fin 2)) (x (1 : Fin 2)) := by
      funext a
      match a with
      | ⟨0, _⟩ => rfl
      | ⟨1, _⟩ => rfl
    refine (congrArg _ hx).trans ((hz _ _).trans (congrArg G ?_))
    funext a
    match a with
    | ⟨0, _⟩ => exact Fin.ext (by (try blk_simp []); first | done | rfl)
    | ⟨1, _⟩ => exact Fin.ext (by (try blk_simp []); first | done | rfl)

theorem later_13 (hc0 : ¬cond0_0 i) (G : S256x2560.Idx → EReal)
    (hz : ∀ (r : Fin 256) (k : Fin 512), @Eq EReal (k0_pay3 (F := Ideal) x3 x4 (k0_pay14 (F := Ideal) x4) (k0_pay15 (F := Ideal) x4) (k0_pay27 (F := Ideal) (k0_pay12 (F := Ideal) x1 x10 x0) (k0_pay22 (F := Ideal) x6) x9) x8 (ix2 r k)) (G (ix2 r ⟨k.val, by have := k.isLt; omega⟩)))
    (hs : ∀ (r : Fin 256) (k : Fin 1024), @Eq EReal (k0_pay30 (F := Ideal) (k0_pay12 (F := Ideal) x1 x10 x0) (k0_pay18 (F := Ideal) x2 x7) (k0_pay21 (F := Ideal) x5) x9 (ix2 r k)) (G (ix2 r ⟨512 + k.val, by have := k.isLt; omega⟩)))
    (ha : ∀ (r : Fin 256) (k : Fin 1024), @Eq EReal (k0_pay28 (F := Ideal) (k0_pay12 (F := Ideal) x1 x10 x0) (k0_pay19 (F := Ideal) x3 x4 x8) (k0_pay23 (F := Ideal) x6) x9 (ix2 r k)) (G (ix2 r ⟨1536 + k.val, by have := k.isLt; omega⟩))) (y : S256x2560.Idx) :
    @Eq EReal (out0_B_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 xo14 xo15 xo16 xo17 y) (G y) := by
  unfold out0_B_13
  rw [View.read_writes_eq_canon _ _ _ (cover0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 xo14 xo15 xo16 xo17)]
  refine View.canon_apply_of_pieces (Val := Elt Ideal) G _ ?_ y (cover0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 xo14 xo15 xo16 xo17 y)
  unfold kernelRun0_B
  dsimp only
  try sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S256x1024) hz2, View.ld_unit_zero (S := S256x512) hz2, View.ld_unit_zero (S := S512x1024) hz2, View.ld_unit_zero (S := S1024x1024) hz2, View.ld_unit_zero (S := S1x1024) hz2, View.ld_unit_zero (S := S256x2560) hz2, shapeCast_self, List.forall_mem_cons]
  refine ⟨fun x => ?_, fun x => ?_, fun x => ?_, fun _ h => nomatch h⟩
  · have hx : x = ix2 (x (0 : Fin 2)) (x (1 : Fin 2)) := by
      funext a
      match a with
      | ⟨0, _⟩ => rfl
      | ⟨1, _⟩ => rfl
    refine (congrArg _ hx).trans ((ha _ _).trans (congrArg G ?_))
    funext a
    match a with
    | ⟨0, _⟩ => exact Fin.ext (by (try blk_simp []); first | done | rfl)
    | ⟨1, _⟩ => exact Fin.ext (by (try blk_simp []); first | done | rfl)
  · have hx : x = ix2 (x (0 : Fin 2)) (x (1 : Fin 2)) := by
      funext a
      match a with
      | ⟨0, _⟩ => rfl
      | ⟨1, _⟩ => rfl
    refine (congrArg _ hx).trans ((hs _ _).trans (congrArg G ?_))
    funext a
    match a with
    | ⟨0, _⟩ => exact Fin.ext (by (try blk_simp []); first | done | rfl)
    | ⟨1, _⟩ => exact Fin.ext (by (try blk_simp []); first | done | rfl)
  · have hx : x = ix2 (x (0 : Fin 2)) (x (1 : Fin 2)) := by
      funext a
      match a with
      | ⟨0, _⟩ => rfl
      | ⟨1, _⟩ => rfl
    refine (congrArg _ hx).trans ((hz _ _).trans (congrArg G ?_))
    funext a
    match a with
    | ⟨0, _⟩ => exact Fin.ext (by (try blk_simp []); first | done | rfl)
    | ⟨1, _⟩ => exact Fin.ext (by (try blk_simp []); first | done | rfl)

theorem first_14 (hc0 : cond0_0 i) :
    out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10
      = k0_pay25 (F := Ideal) (k0_pay12 (F := Ideal) x1 x10 x0) (k0_pay24 (F := Ideal) x2 x3 x4 x5 x7 x6 x8) (k0_pay4 (F := Ideal)) := by
  unfold out0_A_14
  rw [View.read_writes_eq_canon _ _ _ (cover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10)]
  unfold kernelRun0_A
  dsimp only
  try sl_unfold_words
  rw [View.canon_cons_unit_zero (S := S1024x1024) hz2, View.readCov_unit_zero (S := S1024x1024) _ hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S256x1024) hz2, View.ld_unit_zero (S := S256x512) hz2, View.ld_unit_zero (S := S512x1024) hz2, View.ld_unit_zero (S := S1024x1024) hz2, View.ld_unit_zero (S := S1x1024) hz2, View.ld_unit_zero (S := S256x2560) hz2, shapeCast_self]

theorem later_14 (hc0 : ¬cond0_0 i) :
    out0_B_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 xo14 xo15 xo16 xo17
      = k0_pay25 (F := Ideal) (k0_pay12 (F := Ideal) x1 x10 x0) (k0_pay24 (F := Ideal) x2 x3 x4 x5 x7 x6 x8) xo14 := by
  unfold out0_B_14
  rw [View.read_writes_eq_canon _ _ _ (cover0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 xo14 xo15 xo16 xo17)]
  unfold kernelRun0_B
  dsimp only
  try sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S256x1024) hz2, View.ld_unit_zero (S := S256x512) hz2, View.ld_unit_zero (S := S512x1024) hz2, View.ld_unit_zero (S := S1024x1024) hz2, View.ld_unit_zero (S := S1x1024) hz2, View.ld_unit_zero (S := S256x2560) hz2, shapeCast_self]

theorem first_15 (hc0 : cond0_0 i) :
    out0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10
      = k0_pay32 (F := Ideal) (k0_pay12 (F := Ideal) x1 x10 x0) x2 (k0_pay20 (F := Ideal) x5) x9 (k0_pay5 (F := Ideal)) := by
  unfold out0_A_15
  rw [View.read_writes_eq_canon _ _ _ (cover0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10)]
  unfold kernelRun0_A
  dsimp only
  try sl_unfold_words
  rw [View.canon_cons_unit_zero (S := S512x1024) hz2, View.readCov_unit_zero (S := S512x1024) _ hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S256x1024) hz2, View.ld_unit_zero (S := S256x512) hz2, View.ld_unit_zero (S := S512x1024) hz2, View.ld_unit_zero (S := S1024x1024) hz2, View.ld_unit_zero (S := S1x1024) hz2, View.ld_unit_zero (S := S256x2560) hz2, shapeCast_self]

theorem later_15 (hc0 : ¬cond0_0 i) :
    out0_B_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 xo14 xo15 xo16 xo17
      = k0_pay32 (F := Ideal) (k0_pay12 (F := Ideal) x1 x10 x0) x2 (k0_pay20 (F := Ideal) x5) x9 xo15 := by
  unfold out0_B_15
  rw [View.read_writes_eq_canon _ _ _ (cover0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 xo14 xo15 xo16 xo17)]
  unfold kernelRun0_B
  dsimp only
  try sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S256x1024) hz2, View.ld_unit_zero (S := S256x512) hz2, View.ld_unit_zero (S := S512x1024) hz2, View.ld_unit_zero (S := S1024x1024) hz2, View.ld_unit_zero (S := S1x1024) hz2, View.ld_unit_zero (S := S256x2560) hz2, shapeCast_self]

theorem first_16 (hc0 : cond0_0 i) :
    out0_A_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10
      = k0_pay33 (F := Ideal) (k0_pay12 (F := Ideal) x1 x10 x0) (k0_pay17 (F := Ideal) x3 x4) (k0_pay22 (F := Ideal) x6) x9 (k0_pay6 (F := Ideal)) := by
  unfold out0_A_16
  rw [View.read_writes_eq_canon _ _ _ (cover0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10)]
  unfold kernelRun0_A
  dsimp only
  try sl_unfold_words
  rw [View.canon_cons_unit_zero (S := S512x1024) hz2, View.readCov_unit_zero (S := S512x1024) _ hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S256x1024) hz2, View.ld_unit_zero (S := S256x512) hz2, View.ld_unit_zero (S := S512x1024) hz2, View.ld_unit_zero (S := S1024x1024) hz2, View.ld_unit_zero (S := S1x1024) hz2, View.ld_unit_zero (S := S256x2560) hz2, shapeCast_self]

theorem later_16 (hc0 : ¬cond0_0 i) :
    out0_B_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 xo14 xo15 xo16 xo17
      = k0_pay33 (F := Ideal) (k0_pay12 (F := Ideal) x1 x10 x0) (k0_pay17 (F := Ideal) x3 x4) (k0_pay22 (F := Ideal) x6) x9 xo16 := by
  unfold out0_B_16
  rw [View.read_writes_eq_canon _ _ _ (cover0_B_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 xo14 xo15 xo16 xo17)]
  unfold kernelRun0_B
  dsimp only
  try sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S256x1024) hz2, View.ld_unit_zero (S := S256x512) hz2, View.ld_unit_zero (S := S512x1024) hz2, View.ld_unit_zero (S := S1024x1024) hz2, View.ld_unit_zero (S := S1x1024) hz2, View.ld_unit_zero (S := S256x2560) hz2, shapeCast_self]

theorem first_17 (hc0 : cond0_0 i) :
    out0_A_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10
      = k0_pay13 (F := Ideal) (k0_pay11 (F := Ideal) x1 x0) (k0_pay7 (F := Ideal)) := by
  unfold out0_A_17
  rw [View.read_writes_eq_canon _ _ _ (cover0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10)]
  unfold kernelRun0_A
  dsimp only
  try sl_unfold_words
  rw [View.canon_cons_unit_zero (S := S1x1024) hz2, View.readCov_unit_zero (S := S1x1024) _ hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S256x1024) hz2, View.ld_unit_zero (S := S256x512) hz2, View.ld_unit_zero (S := S512x1024) hz2, View.ld_unit_zero (S := S1024x1024) hz2, View.ld_unit_zero (S := S1x1024) hz2, View.ld_unit_zero (S := S256x2560) hz2, shapeCast_self]

theorem later_17 (hc0 : ¬cond0_0 i) :
    out0_B_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 xo14 xo15 xo16 xo17
      = k0_pay13 (F := Ideal) (k0_pay11 (F := Ideal) x1 x0) xo17 := by
  unfold out0_B_17
  rw [View.read_writes_eq_canon _ _ _ (cover0_B_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 xo14 xo15 xo16 xo17)]
  unfold kernelRun0_B
  dsimp only
  try sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S256x1024) hz2, View.ld_unit_zero (S := S256x512) hz2, View.ld_unit_zero (S := S512x1024) hz2, View.ld_unit_zero (S := S1024x1024) hz2, View.ld_unit_zero (S := S1x1024) hz2, View.ld_unit_zero (S := S256x2560) hz2, shapeCast_self]

end

end Cert.Kernel5Ideal.Own
-- ==== Proof.MergeGrad.lean ====
/- The gradients of the merge of the two branches and of its projection: the kernel's arrays are the reference's. -/
module

public import proofs.«01_k».proof.Proof.Gen.Kernel5Ideal.Value
public import proofs.«01_k».proof.Proof.Gen.Reference5Ideal.Read
public import Idealize.ShloMosaic.Lib.Claim
public import Idealize.ShloMosaic.Lib.Pipeline.ValueKit
public import Idealize.ShloMosaic.Lib.Pointwise
public import proofs.«01_k».proof.Proof.MergeGradA
public import proofs.«01_k».proof.Proof.MergeGradLeft

@[expose] public section

set_option maxRecDepth 16384

noncomputable section

namespace Cert.Kernel5Ideal.Own

open Idealize.ShloMosaic Idealize.ShloMosaic.TcCoe Idealize.ShloMosaic.Tactic
open Cert.Kernel5Ideal Cert.Kernel5Ideal.Gen
open Cert.Reference5Ideal.Read

section
variable (m : (ℓ : Loc nD τ sig) → Buf (Elt Ideal) ℓ) (c : Dev nD)

/-! ## The results of rows -/

def resYs : S8192x512.Idx → EReal := val_main_v78 (F := Ideal) (in0 m c) (in1 m c) (in2 m c) (in3 m c) (in4 m c) (in5 m c) (in6 m c) (in7 m c)

theorem left_11 (t : Fin cfg0.N) : (outsAt0 m c t.val t.isLt).1 = k0_pay31 (F := Ideal) (k0_pay12 (F := Ideal) (iblk m c 1 t) (iblk m c 10 t) (iblk m c 0 t)) (k0_pay20 (F := Ideal) (iblk m c 5 t)) (iblk m c 9 t) (iblk m c 7 t) := by
  by_cases h0 : t.val % 32 = 0
  · rw [outsAt0_A m c t h0]
    dsimp only
    exact first_11 ..
  · rw [outsAt0_B m c t h0]
    dsimp only
    exact later_11 ..

theorem after_11 (t : Fin cfg0.N) (r : Fin 256) (k : Fin 512) : @Eq EReal ((dats m 0 c).after 11 t (ix2 r k)) (resYs m c (ix2 (rowAt t.val r) k)) := by
  rw [after0_11, left_11]
  exact dys m c t r k

theorem final_11 : (dats m 0 c).arrAt 11 cfg0.N = resYs m c := by
  refine (dats m 0 c).arrAt_eq_of_covers 11 _ (by decide +kernel) fun t hf y => ?_
  have ht : t.val < 32 := t.isLt
  show @Eq EReal ((dats m 0 c).after 11 t y) _
  have hy : (y (0 : Fin 2)).val < 256 := (y (0 : Fin 2)).isLt
  have h0 : (((cfg0.win 11).blk t).view.emb y 0).val = t.val * 256 + (y (0 : Fin 2)).val := by
    blk_simp [index_11 t]
    try first | omega | (simp; omega)
  have h1 : (((cfg0.win 11).blk t).view.emb y 1).val = (y (1 : Fin 2)).val := by
    blk_simp [index_11 t]
    try first | omega | (simp; done)
  have he : ((cfg0.win 11).blk t).view.emb y = ix2 (rowAt t.val (y (0 : Fin 2))) (y (1 : Fin 2)) := by
    funext a
    match a with
    | ⟨0, _⟩ => exact Fin.ext (h0.trans (by unfold rowAt; show _ = (t.val * 256 + (y (0 : Fin 2)).val) % 8192; omega))
    | ⟨1, _⟩ => exact Fin.ext h1
  rw [he]
  have hy2 : y = ix2 (y (0 : Fin 2)) (y (1 : Fin 2)) := by
    funext a
    match a with
    | ⟨0, _⟩ => rfl
    | ⟨1, _⟩ => rfl
  refine Eq.trans ?_ (after_11 m c t (y (0 : Fin 2)) (y (1 : Fin 2)))
  exact congrArg _ hy2

def resO : S8192x512.Idx → EReal := val_main_v81 (F := Ideal) (in0 m c) (in1 m c) (in2 m c) (in3 m c) (in4 m c) (in5 m c) (in6 m c) (in7 m c)

theorem left_12 (t : Fin cfg0.N) : (outsAt0 m c t.val t.isLt).2.1 = k0_pay2 (F := Ideal) (k0_pay16 (F := Ideal) (iblk m c 4 t)) (k0_pay27 (F := Ideal) (k0_pay12 (F := Ideal) (iblk m c 1 t) (iblk m c 10 t) (iblk m c 0 t)) (k0_pay22 (F := Ideal) (iblk m c 6 t)) (iblk m c 9 t)) (iblk m c 8 t) := by
  by_cases h0 : t.val % 32 = 0
  · rw [outsAt0_A m c t h0]
    dsimp only
    exact first_12 ..
  · rw [outsAt0_B m c t h0]
    dsimp only
    exact later_12 ..

theorem after_12 (t : Fin cfg0.N) (r : Fin 256) (k : Fin 512) : @Eq EReal ((dats m 0 c).after 12 t (ix2 r k)) (resO m c (ix2 (rowAt t.val r) k)) := by
  rw [after0_12, left_12]
  exact dattn m c t r k

theorem final_12 : (dats m 0 c).arrAt 12 cfg0.N = resO m c := by
  refine (dats m 0 c).arrAt_eq_of_covers 12 _ (by decide +kernel) fun t hf y => ?_
  have ht : t.val < 32 := t.isLt
  show @Eq EReal ((dats m 0 c).after 12 t y) _
  have hy : (y (0 : Fin 2)).val < 256 := (y (0 : Fin 2)).isLt
  have h0 : (((cfg0.win 12).blk t).view.emb y 0).val = t.val * 256 + (y (0 : Fin 2)).val := by
    blk_simp [index_12 t]
    try first | omega | (simp; omega)
  have h1 : (((cfg0.win 12).blk t).view.emb y 1).val = (y (1 : Fin 2)).val := by
    blk_simp [index_12 t]
    try first | omega | (simp; done)
  have he : ((cfg0.win 12).blk t).view.emb y = ix2 (rowAt t.val (y (0 : Fin 2))) (y (1 : Fin 2)) := by
    funext a
    match a with
    | ⟨0, _⟩ => exact Fin.ext (h0.trans (by unfold rowAt; show _ = (t.val * 256 + (y (0 : Fin 2)).val) % 8192; omega))
    | ⟨1, _⟩ => exact Fin.ext h1
  rw [he]
  have hy2 : y = ix2 (y (0 : Fin 2)) (y (1 : Fin 2)) := by
    funext a
    match a with
    | ⟨0, _⟩ => rfl
    | ⟨1, _⟩ => rfl
  refine Eq.trans ?_ (after_12 m c t (y (0 : Fin 2)) (y (1 : Fin 2)))
  exact congrArg _ hy2

def resTail : S8192x2560.Idx → EReal := val_main_v83 (F := Ideal) (in0 m c) (in1 m c) (in2 m c) (in3 m c) (in4 m c) (in5 m c) (in6 m c) (in7 m c)

theorem tail_hz (t : Fin cfg0.N) (r : Fin 256) (k : Fin 512) : @Eq EReal (k0_pay3 (F := Ideal) (iblk m c 3 t) (iblk m c 4 t) (k0_pay14 (F := Ideal) (iblk m c 4 t)) (k0_pay15 (F := Ideal) (iblk m c 4 t)) (k0_pay27 (F := Ideal) (k0_pay12 (F := Ideal) (iblk m c 1 t) (iblk m c 10 t) (iblk m c 0 t)) (k0_pay22 (F := Ideal) (iblk m c 6 t)) (iblk m c 9 t)) (iblk m c 8 t) (ix2 r k)) (resTail m c (ix2 (rowAt t.val r) ⟨k.val, by have := k.isLt; omega⟩)) := by
  refine (dz m c t r k).trans ?_
  have hk := k.isLt
  unfold resTail
  pointwise [val_main_v83]

theorem tail_hs (t : Fin cfg0.N) (r : Fin 256) (k : Fin 1024) : @Eq EReal (k0_pay30 (F := Ideal) (k0_pay12 (F := Ideal) (iblk m c 1 t) (iblk m c 10 t) (iblk m c 0 t)) (k0_pay18 (F := Ideal) (iblk m c 2 t) (iblk m c 7 t)) (k0_pay21 (F := Ideal) (iblk m c 5 t)) (iblk m c 9 t) (ix2 r k)) (resTail m c (ix2 (rowAt t.val r) ⟨512 + k.val, by have := k.isLt; omega⟩)) := by
  refine (dgs m c t r k).trans ?_
  have hk := k.isLt
  unfold resTail
  pointwise [val_main_v83]

theorem tail_ha (t : Fin cfg0.N) (r : Fin 256) (k : Fin 1024) : @Eq EReal (k0_pay28 (F := Ideal) (k0_pay12 (F := Ideal) (iblk m c 1 t) (iblk m c 10 t) (iblk m c 0 t)) (k0_pay19 (F := Ideal) (iblk m c 3 t) (iblk m c 4 t) (iblk m c 8 t)) (k0_pay23 (F := Ideal) (iblk m c 6 t)) (iblk m c 9 t) (ix2 r k)) (resTail m c (ix2 (rowAt t.val r) ⟨1536 + k.val, by have := k.isLt; omega⟩)) := by
  refine (dga m c t r k).trans ?_
  have hk := k.isLt
  unfold resTail
  pointwise [val_main_v83]
  rw [dif_neg (by omega), dif_neg (by omega)]
  refine congrArg (fun z : Fin 1024 => val_main_v73 (F := Ideal) (in0 m c) (in1 m c) (in2 m c) (in3 m c) (in4 m c) (in5 m c) (in6 m c) (in7 m c) (ix2 (rowAt t.val r) z)) (Fin.ext ?_)
  show k.val = 1536 + k.val - 512 - 1024
  omega

theorem after_13 (t : Fin cfg0.N) (r : Fin 256) (k : Fin 2560) : @Eq EReal ((dats m 0 c).after 13 t (ix2 r k)) (resTail m c (ix2 (rowAt t.val r) k)) := by
  rw [after0_13]
  by_cases h0 : t.val % 32 = 0
  · rw [outsAt0_A m c t h0]
    dsimp only
    exact first_13 (G := fun y => resTail m c (ix2 (rowAt t.val (y (0 : Fin 2))) (y (1 : Fin 2)))) (hz := tail_hz m c t) (hs := tail_hs m c t) (ha := tail_ha m c t) (y := ix2 r k) ..
  · rw [outsAt0_B m c t h0]
    dsimp only
    exact later_13 (G := fun y => resTail m c (ix2 (rowAt t.val (y (0 : Fin 2))) (y (1 : Fin 2)))) (hz := tail_hz m c t) (hs := tail_hs m c t) (ha := tail_ha m c t) (y := ix2 r k) ..

theorem final_13 : (dats m 0 c).arrAt 13 cfg0.N = resTail m c := by
  refine (dats m 0 c).arrAt_eq_of_covers 13 _ (by decide +kernel) fun t hf y => ?_
  have ht : t.val < 32 := t.isLt
  show @Eq EReal ((dats m 0 c).after 13 t y) _
  have hy : (y (0 : Fin 2)).val < 256 := (y (0 : Fin 2)).isLt
  have h0 : (((cfg0.win 13).blk t).view.emb y 0).val = t.val * 256 + (y (0 : Fin 2)).val := by
    blk_simp [index_13 t]
    try first | omega | (simp; omega)
  have h1 : (((cfg0.win 13).blk t).view.emb y 1).val = (y (1 : Fin 2)).val := by
    blk_simp [index_13 t]
    try first | omega | (simp; done)
  have he : ((cfg0.win 13).blk t).view.emb y = ix2 (rowAt t.val (y (0 : Fin 2))) (y (1 : Fin 2)) := by
    funext a
    match a with
    | ⟨0, _⟩ => exact Fin.ext (h0.trans (by unfold rowAt; show _ = (t.val * 256 + (y (0 : Fin 2)).val) % 8192; omega))
    | ⟨1, _⟩ => exact Fin.ext h1
  rw [he]
  have hy2 : y = ix2 (y (0 : Fin 2)) (y (1 : Fin 2)) := by
    funext a
    match a with
    | ⟨0, _⟩ => rfl
    | ⟨1, _⟩ => rfl
  refine Eq.trans ?_ (after_13 m c t (y (0 : Fin 2)) (y (1 : Fin 2)))
  exact congrArg _ hy2

/-! ## The results added up over the rows -/

theorem sum_blocks (f : ℕ → EReal) (b a : ℕ) : ∑ s ∈ Finset.range a, ∑ k : Fin b, f (s * b + k.val) = ∑ l ∈ Finset.range (a * b), f l := by
  induction a with
  | zero => simp
  | succ a ih => rw [Finset.sum_range_succ, ih, Nat.succ_mul, Finset.sum_range_add, Finset.sum_range fun x => f (a * b + x)]

/-- Adding up block by block is adding up row by row. -/
theorem sum_rows (f : Fin 8192 → EReal) : ∑ s ∈ Finset.range 32, ∑ r : Fin 256, f (rowAt (0 + s) r) = ∑ l : Fin 8192, f l := by
  have e : ∀ l : Fin 8192, f l = (fun j : ℕ => f ⟨j % 8192, Nat.mod_lt _ (by decide)⟩) l.val := fun l => by
    show f l = f ⟨l.val % 8192, _⟩
    exact congrArg f (Fin.ext (Nat.mod_eq_of_lt l.isLt).symm)
  rw [Finset.sum_congr rfl fun l _ => e l, ← Finset.sum_range (fun j : ℕ => f ⟨j % 8192, Nat.mod_lt _ (by decide)⟩),
    ← sum_blocks (fun j : ℕ => f ⟨j % 8192, Nat.mod_lt _ (by decide)⟩) 256 32]
  refine Finset.sum_congr rfl fun s _ => Finset.sum_congr rfl fun r _ => ?_
  unfold rowAt
  rw [Nat.zero_add]

def resWout : S1024x1024.Idx → EReal := val_main_v66 (F := Ideal) (in0 m c) (in1 m c) (in2 m c) (in3 m c) (in4 m c) (in5 m c) (in6 m c) (in7 m c)

def term_14 (y : S1024x1024.Idx) (l : Fin 8192) : EReal := val_main_v64 (F := Ideal) (in0 m c) (in1 m c) (in2 m c) (in3 m c) (in4 m c) (in5 m c) (in6 m c) (in7 m c) (ix2 l (y (1 : Fin 2))) * val_main_v27 (F := Ideal) (in1 m c) (in2 m c) (in3 m c) (in4 m c) (in5 m c) (ix2 l (y (0 : Fin 2)))
def share_14 (n : ℕ) (y : S1024x1024.Idx) : EReal := ∑ r : Fin 256, term_14 m c y (rowAt n r)
def reset_14 (n : ℕ) (h : n < cfg0.N) : Vec Ideal S1024x1024 .f32 := k0_pay25 (F := Ideal) (k0_pay12 (F := Ideal) (iblk m c 1 ⟨n, h⟩) (iblk m c 10 ⟨n, h⟩) (iblk m c 0 ⟨n, h⟩)) (k0_pay24 (F := Ideal) (iblk m c 2 ⟨n, h⟩) (iblk m c 3 ⟨n, h⟩) (iblk m c 4 ⟨n, h⟩) (iblk m c 5 ⟨n, h⟩) (iblk m c 7 ⟨n, h⟩) (iblk m c 6 ⟨n, h⟩) (iblk m c 8 ⟨n, h⟩)) (k0_pay4 (F := Ideal))
def step_14 (n : ℕ) (h : n < cfg0.N) (acc : Vec Ideal S1024x1024 .f32) : Vec Ideal S1024x1024 .f32 := k0_pay25 (F := Ideal) (k0_pay12 (F := Ideal) (iblk m c 1 ⟨n, h⟩) (iblk m c 10 ⟨n, h⟩) (iblk m c 0 ⟨n, h⟩)) (k0_pay24 (F := Ideal) (iblk m c 2 ⟨n, h⟩) (iblk m c 3 ⟨n, h⟩) (iblk m c 4 ⟨n, h⟩) (iblk m c 5 ⟨n, h⟩) (iblk m c 7 ⟨n, h⟩) (iblk m c 6 ⟨n, h⟩) (iblk m c 8 ⟨n, h⟩)) acc

theorem step_14_at (n : ℕ) (h : n < cfg0.N) (acc : Vec Ideal S1024x1024 .f32) (y : S1024x1024.Idx) : @Eq EReal (step_14 m c n h acc y) (acc y + share_14 m c n y) := by
  idx_vars y
  exact add_14 (rows := rowAt n) (a := acc) (i := y0) (j := y1) (hD := fun r k => dout m c ⟨n, h⟩ r k) (hq := fun r k => merged m c ⟨n, h⟩ r k) ..

theorem reset_14_at (n : ℕ) (h : n < cfg0.N) (y : S1024x1024.Idx) : @Eq EReal (reset_14 m c n h y) (0 + share_14 m c n y) := by
  have e : @Eq EReal ((k0_pay4 (F := Ideal)) y) 0 := by
    idx_vars y
    pointwise [k0_pay4]
  refine (step_14_at m c n h (k0_pay4 (F := Ideal)) y).trans ?_
  rw [e]

theorem left_14 (t : Fin cfg0.N) : (outsAt0 m c t.val t.isLt).2.2.2.1 = Pipeline.accAt (reset_14 m c) (step_14 m c) (32 * (t.val / 32)) (t.val % 32)
      (by have h1 := t.isLt; have h2 := Nat.div_add_mod t.val 32; omega) :=
  Pipeline.eq_accAt_of_mod (fun n h => (outsAt0 m c n h).2.2.2.1) 32 (reset_14 m c) (step_14 m c)
    (fun n h hn => by rw [outsAt0_A m c ⟨n, h⟩ (by (try dsimp only); omega)]; dsimp only; exact first_14 ..)
    (fun n h hn => by have hN := lt_of_lt_of_eq h (show cfg0.N = 32 from N_0); rw [outsAt0_B m c ⟨n + 1, h⟩ (by (try dsimp only); omega)]; dsimp only; exact later_14 ..)
    (by decide) t.val t.isLt _

theorem resWout_at (y : S1024x1024.Idx) : resWout m c y = ∑ l : Fin 8192, term_14 m c y l := by
  idx_vars y
  unfold resWout term_14
  pointwise [val_main_v66, val_main_v65]

theorem whole_14 (b : ℕ) (hb : b = 0) (h : b + 31 < cfg0.N) (y : S1024x1024.Idx) :
    @Eq EReal (Pipeline.accAt (reset_14 m c) (step_14 m c) b 31 h y) (resWout m c y) := by
  subst hb
  refine (Pipeline.accAt_add_apply (β := EReal) _ _ (fun _ => 0) (share_14 m c) 0 31 (fun h i => reset_14_at m c _ h i) (fun n h acc i _ _ => step_14_at m c n h acc i) 31 (le_refl 31) h y).trans ?_
  rw [zero_add, resWout_at, ← sum_rows (term_14 m c y)]
  rfl

theorem final_14 : (dats m 0 c).arrAt 14 cfg0.N = resWout m c := by
  refine (dats m 0 c).arrAt_eq_of_covers 14 _ (by decide +kernel) fun t hf y => ?_
  have hm : t.val % 32 = 31 := (flush0_14 t).mp hf
  have ht : t.val < 32 := t.isLt
  have hy : (y (0 : Fin 2)).val < 1024 := (y (0 : Fin 2)).isLt
  show @Eq EReal ((dats m 0 c).after 14 t y) _
  rw [after0_14, left_14]
  have h0 : (((cfg0.win 14).blk t).view.emb y 0).val = (y (0 : Fin 2)).val := by
    blk_simp [index_14 t]
    try first | omega | (simp; done)
  have h1 : (((cfg0.win 14).blk t).view.emb y 1).val = (y (1 : Fin 2)).val := by
    blk_simp [index_14 t]
    try first | omega | (simp; done)
  have he : ((cfg0.win 14).blk t).view.emb y = y := by
    funext a
    match a with
    | ⟨0, _⟩ => exact Fin.ext h0
    | ⟨1, _⟩ => exact Fin.ext h1
  rw [he]
  have e : ∀ (b j : ℕ) (h : b + j < cfg0.N) (b' j' : ℕ) (h' : b' + j' < cfg0.N), b = b' → j = j' →
      Pipeline.accAt (reset_14 m c) (step_14 m c) b j h = Pipeline.accAt (reset_14 m c) (step_14 m c) b' j' h' := by
    intro b j h b' j' h' hb hj; subst hb; subst hj; rfl
  rw [e _ _ _ 0 31 (by decide) (by omega) hm]
  exact whole_14 m c 0 rfl _ y

def resWbs : S512x1024.Idx → EReal := val_main_v77 (F := Ideal) (in0 m c) (in1 m c) (in2 m c) (in3 m c) (in4 m c) (in5 m c) (in6 m c) (in7 m c)

def term_15 (y : S512x1024.Idx) (l : Fin 8192) : EReal := val_main_v74 (F := Ideal) (in0 m c) (in1 m c) (in2 m c) (in3 m c) (in4 m c) (in5 m c) (in6 m c) (in7 m c) (ix2 l (y (1 : Fin 2))) * in1 m c (ix2 l (y (0 : Fin 2)))
def share_15 (n : ℕ) (y : S512x1024.Idx) : EReal := ∑ r : Fin 256, term_15 m c y (rowAt n r)
def reset_15 (n : ℕ) (h : n < cfg0.N) : Vec Ideal S512x1024 .f32 := k0_pay32 (F := Ideal) (k0_pay12 (F := Ideal) (iblk m c 1 ⟨n, h⟩) (iblk m c 10 ⟨n, h⟩) (iblk m c 0 ⟨n, h⟩)) (iblk m c 2 ⟨n, h⟩) (k0_pay20 (F := Ideal) (iblk m c 5 ⟨n, h⟩)) (iblk m c 9 ⟨n, h⟩) (k0_pay5 (F := Ideal))
def step_15 (n : ℕ) (h : n < cfg0.N) (acc : Vec Ideal S512x1024 .f32) : Vec Ideal S512x1024 .f32 := k0_pay32 (F := Ideal) (k0_pay12 (F := Ideal) (iblk m c 1 ⟨n, h⟩) (iblk m c 10 ⟨n, h⟩) (iblk m c 0 ⟨n, h⟩)) (iblk m c 2 ⟨n, h⟩) (k0_pay20 (F := Ideal) (iblk m c 5 ⟨n, h⟩)) (iblk m c 9 ⟨n, h⟩) acc

theorem step_15_at (n : ℕ) (h : n < cfg0.N) (acc : Vec Ideal S512x1024 .f32) (y : S512x1024.Idx) : @Eq EReal (step_15 m c n h acc y) (acc y + share_15 m c n y) := by
  idx_vars y
  exact add_15 (rows := rowAt n) (a := acc) (i := y0) (j := y1) (hN := fun r k => dps m c ⟨n, h⟩ r k) (h2 := fun r k => block_2 m c ⟨n, h⟩ r k) ..

theorem reset_15_at (n : ℕ) (h : n < cfg0.N) (y : S512x1024.Idx) : @Eq EReal (reset_15 m c n h y) (0 + share_15 m c n y) := by
  have e : @Eq EReal ((k0_pay5 (F := Ideal)) y) 0 := by
    idx_vars y
    pointwise [k0_pay5]
  refine (step_15_at m c n h (k0_pay5 (F := Ideal)) y).trans ?_
  rw [e]

theorem left_15 (t : Fin cfg0.N) : (outsAt0 m c t.val t.isLt).2.2.2.2.1 = Pipeline.accAt (reset_15 m c) (step_15 m c) (32 * (t.val / 32)) (t.val % 32)
      (by have h1 := t.isLt; have h2 := Nat.div_add_mod t.val 32; omega) :=
  Pipeline.eq_accAt_of_mod (fun n h => (outsAt0 m c n h).2.2.2.2.1) 32 (reset_15 m c) (step_15 m c)
    (fun n h hn => by rw [outsAt0_A m c ⟨n, h⟩ (by (try dsimp only); omega)]; dsimp only; exact first_15 ..)
    (fun n h hn => by have hN := lt_of_lt_of_eq h (show cfg0.N = 32 from N_0); rw [outsAt0_B m c ⟨n + 1, h⟩ (by (try dsimp only); omega)]; dsimp only; exact later_15 ..)
    (by decide) t.val t.isLt _

theorem resWbs_at (y : S512x1024.Idx) : resWbs m c y = ∑ l : Fin 8192, term_15 m c y l := by
  idx_vars y
  unfold resWbs term_15
  pointwise [val_main_v77, val_main_v76]

theorem whole_15 (b : ℕ) (hb : b = 0) (h : b + 31 < cfg0.N) (y : S512x1024.Idx) :
    @Eq EReal (Pipeline.accAt (reset_15 m c) (step_15 m c) b 31 h y) (resWbs m c y) := by
  subst hb
  refine (Pipeline.accAt_add_apply (β := EReal) _ _ (fun _ => 0) (share_15 m c) 0 31 (fun h i => reset_15_at m c _ h i) (fun n h acc i _ _ => step_15_at m c n h acc i) 31 (le_refl 31) h y).trans ?_
  rw [zero_add, resWbs_at, ← sum_rows (term_15 m c y)]
  rfl

theorem final_15 : (dats m 0 c).arrAt 15 cfg0.N = resWbs m c := by
  refine (dats m 0 c).arrAt_eq_of_covers 15 _ (by decide +kernel) fun t hf y => ?_
  have hm : t.val % 32 = 31 := (flush0_15 t).mp hf
  have ht : t.val < 32 := t.isLt
  have hy : (y (0 : Fin 2)).val < 512 := (y (0 : Fin 2)).isLt
  show @Eq EReal ((dats m 0 c).after 15 t y) _
  rw [after0_15, left_15]
  have h0 : (((cfg0.win 15).blk t).view.emb y 0).val = (y (0 : Fin 2)).val := by
    blk_simp [index_15 t]
    try first | omega | (simp; done)
  have h1 : (((cfg0.win 15).blk t).view.emb y 1).val = (y (1 : Fin 2)).val := by
    blk_simp [index_15 t]
    try first | omega | (simp; done)
  have he : ((cfg0.win 15).blk t).view.emb y = y := by
    funext a
    match a with
    | ⟨0, _⟩ => exact Fin.ext h0
    | ⟨1, _⟩ => exact Fin.ext h1
  rw [he]
  have e : ∀ (b j : ℕ) (h : b + j < cfg0.N) (b' j' : ℕ) (h' : b' + j' < cfg0.N), b = b' → j = j' →
      Pipeline.accAt (reset_15 m c) (step_15 m c) b j h = Pipeline.accAt (reset_15 m c) (step_15 m c) b' j' h' := by
    intro b j h b' j' h' hb hj; subst hb; subst hj; rfl
  rw [e _ _ _ 0 31 (by decide) (by omega) hm]
  exact whole_15 m c 0 rfl _ y

def resWba : S512x1024.Idx → EReal := val_main_v71 (F := Ideal) (in0 m c) (in1 m c) (in2 m c) (in3 m c) (in4 m c) (in5 m c) (in6 m c) (in7 m c)

def term_16 (y : S512x1024.Idx) (l : Fin 8192) : EReal := val_main_v68 (F := Ideal) (in0 m c) (in1 m c) (in2 m c) (in3 m c) (in4 m c) (in5 m c) (in6 m c) (in7 m c) (ix2 l (y (1 : Fin 2))) * val_main_v4 (F := Ideal) (in2 m c) (in3 m c) (ix2 l (y (0 : Fin 2)))
def share_16 (n : ℕ) (y : S512x1024.Idx) : EReal := ∑ r : Fin 256, term_16 m c y (rowAt n r)
def reset_16 (n : ℕ) (h : n < cfg0.N) : Vec Ideal S512x1024 .f32 := k0_pay33 (F := Ideal) (k0_pay12 (F := Ideal) (iblk m c 1 ⟨n, h⟩) (iblk m c 10 ⟨n, h⟩) (iblk m c 0 ⟨n, h⟩)) (k0_pay17 (F := Ideal) (iblk m c 3 ⟨n, h⟩) (iblk m c 4 ⟨n, h⟩)) (k0_pay22 (F := Ideal) (iblk m c 6 ⟨n, h⟩)) (iblk m c 9 ⟨n, h⟩) (k0_pay6 (F := Ideal))
def step_16 (n : ℕ) (h : n < cfg0.N) (acc : Vec Ideal S512x1024 .f32) : Vec Ideal S512x1024 .f32 := k0_pay33 (F := Ideal) (k0_pay12 (F := Ideal) (iblk m c 1 ⟨n, h⟩) (iblk m c 10 ⟨n, h⟩) (iblk m c 0 ⟨n, h⟩)) (k0_pay17 (F := Ideal) (iblk m c 3 ⟨n, h⟩) (iblk m c 4 ⟨n, h⟩)) (k0_pay22 (F := Ideal) (iblk m c 6 ⟨n, h⟩)) (iblk m c 9 ⟨n, h⟩) acc

theorem step_16_at (n : ℕ) (h : n < cfg0.N) (acc : Vec Ideal S512x1024 .f32) (y : S512x1024.Idx) : @Eq EReal (step_16 m c n h acc y) (acc y + share_16 m c n y) := by
  idx_vars y
  exact add_16 (rows := rowAt n) (a := acc) (i := y0) (j := y1) (hN := fun r k => dpa m c ⟨n, h⟩ r k) (hq := fun r k => ya m c ⟨n, h⟩ r k) ..

theorem reset_16_at (n : ℕ) (h : n < cfg0.N) (y : S512x1024.Idx) : @Eq EReal (reset_16 m c n h y) (0 + share_16 m c n y) := by
  have e : @Eq EReal ((k0_pay6 (F := Ideal)) y) 0 := by
    idx_vars y
    pointwise [k0_pay6]
  refine (step_16_at m c n h (k0_pay6 (F := Ideal)) y).trans ?_
  rw [e]

theorem left_16 (t : Fin cfg0.N) : (outsAt0 m c t.val t.isLt).2.2.2.2.2.1 = Pipeline.accAt (reset_16 m c) (step_16 m c) (32 * (t.val / 32)) (t.val % 32)
      (by have h1 := t.isLt; have h2 := Nat.div_add_mod t.val 32; omega) :=
  Pipeline.eq_accAt_of_mod (fun n h => (outsAt0 m c n h).2.2.2.2.2.1) 32 (reset_16 m c) (step_16 m c)
    (fun n h hn => by rw [outsAt0_A m c ⟨n, h⟩ (by (try dsimp only); omega)]; dsimp only; exact first_16 ..)
    (fun n h hn => by have hN := lt_of_lt_of_eq h (show cfg0.N = 32 from N_0); rw [outsAt0_B m c ⟨n + 1, h⟩ (by (try dsimp only); omega)]; dsimp only; exact later_16 ..)
    (by decide) t.val t.isLt _

theorem resWba_at (y : S512x1024.Idx) : resWba m c y = ∑ l : Fin 8192, term_16 m c y l := by
  idx_vars y
  unfold resWba term_16
  pointwise [val_main_v71, val_main_v70]

theorem whole_16 (b : ℕ) (hb : b = 0) (h : b + 31 < cfg0.N) (y : S512x1024.Idx) :
    @Eq EReal (Pipeline.accAt (reset_16 m c) (step_16 m c) b 31 h y) (resWba m c y) := by
  subst hb
  refine (Pipeline.accAt_add_apply (β := EReal) _ _ (fun _ => 0) (share_16 m c) 0 31 (fun h i => reset_16_at m c _ h i) (fun n h acc i _ _ => step_16_at m c n h acc i) 31 (le_refl 31) h y).trans ?_
  rw [zero_add, resWba_at, ← sum_rows (term_16 m c y)]
  rfl

theorem final_16 : (dats m 0 c).arrAt 16 cfg0.N = resWba m c := by
  refine (dats m 0 c).arrAt_eq_of_covers 16 _ (by decide +kernel) fun t hf y => ?_
  have hm : t.val % 32 = 31 := (flush0_16 t).mp hf
  have ht : t.val < 32 := t.isLt
  have hy : (y (0 : Fin 2)).val < 512 := (y (0 : Fin 2)).isLt
  show @Eq EReal ((dats m 0 c).after 16 t y) _
  rw [after0_16, left_16]
  have h0 : (((cfg0.win 16).blk t).view.emb y 0).val = (y (0 : Fin 2)).val := by
    blk_simp [index_16 t]
    try first | omega | (simp; done)
  have h1 : (((cfg0.win 16).blk t).view.emb y 1).val = (y (1 : Fin 2)).val := by
    blk_simp [index_16 t]
    try first | omega | (simp; done)
  have he : ((cfg0.win 16).blk t).view.emb y = y := by
    funext a
    match a with
    | ⟨0, _⟩ => exact Fin.ext h0
    | ⟨1, _⟩ => exact Fin.ext h1
  rw [he]
  have e : ∀ (b j : ℕ) (h : b + j < cfg0.N) (b' j' : ℕ) (h' : b' + j' < cfg0.N), b = b' → j = j' →
      Pipeline.accAt (reset_16 m c) (step_16 m c) b j h = Pipeline.accAt (reset_16 m c) (step_16 m c) b' j' h' := by
    intro b j h b' j' h' hb hj; subst hb; subst hj; rfl
  rw [e _ _ _ 0 31 (by decide) (by omega) hm]
  exact whole_16 m c 0 rfl _ y

def resG : S1x1024.Idx → EReal := val_main_v84 (F := Ideal) (in0 m c) (in1 m c) (in2 m c) (in3 m c) (in4 m c) (in5 m c) (in6 m c)

def term_17 (y : S1x1024.Idx) (l : Fin 8192) : EReal := val_main_v45 (F := Ideal) (in0 m c) (in1 m c) (in2 m c) (in3 m c) (in4 m c) (in5 m c) (in6 m c) (ix2 l (y (1 : Fin 2)))
def share_17 (n : ℕ) (y : S1x1024.Idx) : EReal := ∑ r : Fin 256, term_17 m c y (rowAt n r)
def reset_17 (n : ℕ) (h : n < cfg0.N) : Vec Ideal S1x1024 .f32 := k0_pay13 (F := Ideal) (k0_pay11 (F := Ideal) (iblk m c 1 ⟨n, h⟩) (iblk m c 0 ⟨n, h⟩)) (k0_pay7 (F := Ideal))
def step_17 (n : ℕ) (h : n < cfg0.N) (acc : Vec Ideal S1x1024 .f32) : Vec Ideal S1x1024 .f32 := k0_pay13 (F := Ideal) (k0_pay11 (F := Ideal) (iblk m c 1 ⟨n, h⟩) (iblk m c 0 ⟨n, h⟩)) acc

theorem step_17_at (n : ℕ) (h : n < cfg0.N) (acc : Vec Ideal S1x1024 .f32) (y : S1x1024.Idx) : @Eq EReal (step_17 m c n h acc y) (acc y + share_17 m c n y) := by
  idx_vars y
  rw [Subsingleton.elim y0 0]
  exact add_17 (rows := rowAt n) (a := acc) (j := y1) (h0 := fun r k => block_0 m c ⟨n, h⟩ r k) (h1 := fun r k => block_1 m c ⟨n, h⟩ r k) ..

theorem reset_17_at (n : ℕ) (h : n < cfg0.N) (y : S1x1024.Idx) : @Eq EReal (reset_17 m c n h y) (0 + share_17 m c n y) := by
  have e : @Eq EReal ((k0_pay7 (F := Ideal)) y) 0 := by
    idx_vars y
    pointwise [k0_pay7]
  refine (step_17_at m c n h (k0_pay7 (F := Ideal)) y).trans ?_
  rw [e]

theorem left_17 (t : Fin cfg0.N) : (outsAt0 m c t.val t.isLt).2.2.2.2.2.2 = Pipeline.accAt (reset_17 m c) (step_17 m c) (32 * (t.val / 32)) (t.val % 32)
      (by have h1 := t.isLt; have h2 := Nat.div_add_mod t.val 32; omega) :=
  Pipeline.eq_accAt_of_mod (fun n h => (outsAt0 m c n h).2.2.2.2.2.2) 32 (reset_17 m c) (step_17 m c)
    (fun n h hn => by rw [outsAt0_A m c ⟨n, h⟩ (by (try dsimp only); omega)]; dsimp only; exact first_17 ..)
    (fun n h hn => by have hN := lt_of_lt_of_eq h (show cfg0.N = 32 from N_0); rw [outsAt0_B m c ⟨n + 1, h⟩ (by (try dsimp only); omega)]; dsimp only; exact later_17 ..)
    (by decide) t.val t.isLt _

theorem resG_at (y : S1x1024.Idx) : resG m c y = ∑ l : Fin 8192, term_17 m c y l := by
  idx_vars y
  unfold resG term_17
  pointwise [val_main_v84, val_main_v50, val_main_v47, val_main_v46, val_main_cst_9, val_main_cst_10]
  simp

theorem whole_17 (b : ℕ) (hb : b = 0) (h : b + 31 < cfg0.N) (y : S1x1024.Idx) :
    @Eq EReal (Pipeline.accAt (reset_17 m c) (step_17 m c) b 31 h y) (resG m c y) := by
  subst hb
  refine (Pipeline.accAt_add_apply (β := EReal) _ _ (fun _ => 0) (share_17 m c) 0 31 (fun h i => reset_17_at m c _ h i) (fun n h acc i _ _ => step_17_at m c n h acc i) 31 (le_refl 31) h y).trans ?_
  rw [zero_add, resG_at, ← sum_rows (term_17 m c y)]
  rfl

theorem final_17 : (dats m 0 c).arrAt 17 cfg0.N = resG m c := by
  refine (dats m 0 c).arrAt_eq_of_covers 17 _ (by decide +kernel) fun t hf y => ?_
  have hm : t.val % 32 = 31 := (flush0_17 t).mp hf
  have ht : t.val < 32 := t.isLt
  have hy : (y (0 : Fin 2)).val < 1 := (y (0 : Fin 2)).isLt
  show @Eq EReal ((dats m 0 c).after 17 t y) _
  rw [after0_17, left_17]
  have h0 : (((cfg0.win 17).blk t).view.emb y 0).val = (y (0 : Fin 2)).val := by
    blk_simp [index_17 t]
    try first | omega | (simp; done)
  have h1 : (((cfg0.win 17).blk t).view.emb y 1).val = (y (1 : Fin 2)).val := by
    blk_simp [index_17 t]
    try first | omega | (simp; done)
  have he : ((cfg0.win 17).blk t).view.emb y = y := by
    funext a
    match a with
    | ⟨0, _⟩ => exact Fin.ext h0
    | ⟨1, _⟩ => exact Fin.ext h1
  rw [he]
  have e : ∀ (b j : ℕ) (h : b + j < cfg0.N) (b' j' : ℕ) (h' : b' + j' < cfg0.N), b = b' → j = j' →
      Pipeline.accAt (reset_17 m c) (step_17 m c) b j h = Pipeline.accAt (reset_17 m c) (step_17 m c) b' j' h' := by
    intro b j h b' j' h' hb hj; subst hb; subst hj; rfl
  rw [e _ _ _ 0 31 (by decide) (by omega) hm]
  exact whole_17 m c 0 rfl _ y

end

end Cert.Kernel5Ideal.Own
-- ==== Proof.Glu.lean ====
/- The gated linear unit: the kernel's blocks of 512 rows against the reference's 8192 rows. -/
module

public import proofs.«01_k».proof.Proof.Gen.Kernel6Ideal.Value
public import proofs.«01_k».proof.Proof.Gen.Reference6Ideal.Read
public import Idealize.ShloMosaic.Lib.Claim
public import Idealize.ShloMosaic.Lib.Pipeline.ValueKit
public import Idealize.ShloMosaic.Lib.Pointwise

@[expose] public section

set_option maxRecDepth 16384

noncomputable section

namespace Cert.Kernel6Ideal.Own

open Idealize.ShloMosaic Idealize.ShloMosaic.TcCoe Idealize.ShloMosaic.Tactic
open Cert.Kernel6Ideal Cert.Kernel6Ideal.Gen
open Cert.Reference6Ideal.Read

/-! ## A block of rows against the reference's rows -/

theorem row_of (A0 : S8192x512.Idx → EReal) (A1 : S8192x5120.Idx → EReal) (A2 : S512x1024.Idx → EReal) (A3 : S1024.Idx → EReal)
    (x0 x1 : S512x512.Idx → EReal) (x2 : S512x1024.Idx → EReal) (x3 : S1x1024.Idx → EReal) (r : Fin 512) (l : Fin 8192)
    (h0 : ∀ k, x0 (ix2 r k) = A0 (ix2 l k)) (h1 : ∀ k, x1 (ix2 r k) = val_main_v0 (F := Ideal) A1 (ix2 l k))
    (h2 : ∀ k n, x2 (ix2 k n) = A2 (ix2 k n)) (h3 : ∀ k, x3 (ix2 0 k) = A3 (ix1 k)) (d : Fin 512) :
    @Eq EReal (k0_pay1 (F := Ideal) x0 x2 x3 x1 (ix2 r d)) (val_main_v28 (F := Ideal) A0 A1 A2 A3 (ix2 l d)) := by
  unfold_payloads
  pointwise [val_main_v28, val_main_v26, val_main_v18, val_main_v17, val_main_v14, val_main_v13, val_main_v12, val_main_v11, val_main_cst_2, val_main_v10, val_main_v9, val_main_cst_1, val_main_v8, val_main_v7, val_main_v6, val_main_cst_0, val_main_v5, val_main_v4, val_main_v3, val_main_cst, val_main_v2, val_main_v1, val_main_v16, val_main_v15, val_main_v25, val_main_v24, val_main_cst_4, val_main_v23, val_main_v22, val_main_cst_3, val_main_v21, val_main_v20, val_main_v19, val_main_v27, val_main_call0_v5, val_main_call0_v4, val_main_call0_cst_0, val_main_call0_v3, val_main_call0_v2, val_main_call0_cst, val_main_call0_v1, val_main_call0_v0]
  simp only [h0, h1, h2, h3, mul_assoc]
  rfl

/-! ## The blocks, as read from the arguments -/

section
variable (m : (ℓ : Loc nD τ sig) → Buf (Elt Ideal) ℓ) (c : Dev nD)

def in0 : S8192x512.Idx → EReal := m ((c.tc : Thread nD τ).loc main_arg0)
def in1 : S8192x5120.Idx → EReal := m ((c.tc : Thread nD τ).loc main_arg1)
def in2 : S512x1024.Idx → EReal := m ((c.tc : Thread nD τ).loc main_arg2)
def in3 : S1024.Idx → EReal := m ((c.tc : Thread nD τ).loc main_arg3)

theorem index_0 : ∀ t : Fin cfg0.N, win0_0.index t = ![t.val, 0] := by decide +kernel
theorem index_1 : ∀ t : Fin cfg0.N, win0_1.index t = ![t.val, 1] := by decide +kernel
theorem index_2 : ∀ t : Fin cfg0.N, win0_2.index t = ![0, 0] := by decide +kernel
theorem index_3 : ∀ t : Fin cfg0.N, win0_3.index t = ![0, 0] := by decide +kernel
theorem index_4 : ∀ t : Fin cfg0.N, win0_4.index t = ![t.val, 0] := by decide +kernel

/-- The row of the whole array at row `r` of block `n`. -/
def rowAt (n : ℕ) (r : Fin 512) : Fin 8192 := ⟨(n * 512 + r.val) % 8192, Nat.mod_lt _ (by decide)⟩

theorem block_0 (t : Fin cfg0.N) (r : Fin 512) (k : Fin 512) : @Eq EReal (iblk m c 0 t (ix2 r k)) (in0 m c (ix2 (rowAt t.val r) k)) := by
  have ht : t.val < 16 := t.isLt
  have e : iblk m c 0 t (ix2 r k) = V m c main_arg0 (ix2 (rowAt t.val r) k) := by
    unfold rowAt
    blk_ext [iblk, index_0 t]
  rw [e, V_main_arg0]
  rfl

theorem block_1 (t : Fin cfg0.N) (r : Fin 512) (k : Fin 512) : @Eq EReal (iblk m c 1 t (ix2 r k)) (in1 m c (ix2 (rowAt t.val r) ⟨512 + k.val, by have := k.isLt; omega⟩)) := by
  have ht : t.val < 16 := t.isLt
  have e : iblk m c 1 t (ix2 r k) = V m c main_arg1 (ix2 (rowAt t.val r) ⟨512 + k.val, by have := k.isLt; omega⟩) := by
    unfold rowAt
    blk_ext [iblk, index_1 t]
  rw [e, V_main_arg1]
  rfl

theorem block_2 (t : Fin cfg0.N) (k : Fin 512) (n : Fin 1024) : @Eq EReal (iblk m c 2 t (ix2 k n)) (in2 m c (ix2 k n)) := by
  have e : iblk m c 2 t (ix2 k n) = V m c (Pipeline.arrRef spec0 2) (ix2 k n) := by
    blk_ext [iblk, index_2 t]
  rw [e]
  entry_read
  rfl

theorem block_3 (t : Fin cfg0.N) (k : Fin 1024) : @Eq EReal (iblk m c 3 t (ix2 0 k)) (in3 m c (ix1 k)) := by
  have e : iblk m c 3 t (ix2 0 k) = V m c (Pipeline.arrRef spec0 3) (ix2 0 k) := by
    blk_ext [iblk, index_3 t]
  rw [e]
  entry_read
  pointwise []
  rfl

theorem block_z (t : Fin cfg0.N) (r : Fin 512) (k : Fin 512) : @Eq EReal (iblk m c 1 t (ix2 r k)) (val_main_v0 (F := Ideal) (in1 m c) (ix2 (rowAt t.val r) k)) := by
  rw [val_main_v0_apply]
  exact (block_1 m c t r k).trans (congrArg _ (funext fun a => match a with | ⟨0, _⟩ => rfl | ⟨1, _⟩ => rfl))

/-! ## The result -/

theorem left_4 (t : Fin cfg0.N) : (dats m 0 c).after 4 t = k0_pay1 (iblk m c 0 t) (iblk m c 2 t) (iblk m c 3 t) (iblk m c 1 t) := by
  rw [after0_4]
  frame_out

/-- The unit's result, as the reference has it. -/
def res : S8192x512.Idx → EReal := val_main_v28 (F := Ideal) (in0 m c) (in1 m c) (in2 m c) (in3 m c)

theorem at_4 (t : Fin cfg0.N) (r : Fin 512) (d : Fin 512) : @Eq EReal ((dats m 0 c).after 4 t (ix2 r d)) (res m c (ix2 (rowAt t.val r) d)) := by
  rw [left_4]
  exact row_of (in0 m c) (in1 m c) (in2 m c) (in3 m c) (iblk m c 0 t) (iblk m c 1 t) (iblk m c 2 t) (iblk m c 3 t) r (rowAt t.val r)
    (block_0 m c t r) (block_z m c t r) (block_2 m c t) (block_3 m c t) d

theorem final_4 : (dats m 0 c).arrAt 4 cfg0.N = res m c := by
  refine (dats m 0 c).arrAt_eq_of_covers 4 _ (by decide +kernel) fun t hf y => ?_
  have ht : t.val < 16 := t.isLt
  show @Eq EReal ((dats m 0 c).after 4 t y) _
  have hy : (y (0 : Fin 2)).val < 512 := (y (0 : Fin 2)).isLt
  have h0 : (((cfg0.win 4).blk t).view.emb y 0).val = t.val * 512 + (y (0 : Fin 2)).val := by
    blk_simp [index_4 t]
    try first | omega | (simp; omega)
  have h1 : (((cfg0.win 4).blk t).view.emb y 1).val = (y (1 : Fin 2)).val := by
    blk_simp [index_4 t]
    try first | omega | (simp; done)
  have he : ((cfg0.win 4).blk t).view.emb y = ix2 (rowAt t.val (y (0 : Fin 2))) (y (1 : Fin 2)) := by
    funext a
    match a with
    | ⟨0, _⟩ => exact Fin.ext (h0.trans (by unfold rowAt; show _ = (t.val * 512 + (y (0 : Fin 2)).val) % 8192; omega))
    | ⟨1, _⟩ => exact Fin.ext h1
  rw [he]
  have hy2 : y = ix2 (y (0 : Fin 2)) (y (1 : Fin 2)) := by
    funext a
    match a with
    | ⟨0, _⟩ => rfl
    | ⟨1, _⟩ => rfl
  refine Eq.trans ?_ (at_4 m c t (y (0 : Fin 2)) (y (1 : Fin 2)))
  exact congrArg _ hy2

end

end Cert.Kernel6Ideal.Own
-- ==== Proof.GluGrad.lean ====
/- The gradients of the gated unit after the state-space branch: the kernel's blocks of 512 rows against the reference's
   8192 rows. -/
module

public import proofs.«01_k».proof.Proof.Gen.Kernel7Ideal.Value
public import proofs.«01_k».proof.Proof.Gen.Reference7Ideal.Read
public import Idealize.ShloMosaic.Lib.Claim
public import Idealize.ShloMosaic.Lib.Pipeline.ValueKit
public import Idealize.ShloMosaic.Lib.Pointwise

@[expose] public section

set_option maxRecDepth 16384

noncomputable section

namespace Cert.Kernel7Ideal.Own

open Idealize.ShloMosaic Idealize.ShloMosaic.TcCoe Idealize.ShloMosaic.Tactic
open Cert.Kernel7Ideal Cert.Kernel7Ideal.Gen
open Cert.Reference7Ideal.Read

/-! ## A block of rows against the reference's rows -/

section
variable (A0 A1 : S8192x512.Idx → EReal) (A2 : S8192x5120.Idx → EReal) (A3 : S512x1024.Idx → EReal) (A4 : S1024.Idx → EReal)
  (r : Fin 512) (l : Fin 8192)

theorem v5_of (x1 : S512x512.Idx → EReal)
    (h1 : ∀ k : Fin 512, x1 (ix2 r k) = A1 (ix2 l k)) (k : Fin 512) :
    @Eq EReal (k0_pay5 (F := Ideal) x1 (ix2 r k)) (val_main_v5 (F := Ideal) A1 (ix2 l k)) := by
  pointwise [k0_pay5, val_main_v5, val_main_v4, val_main_cst, val_main_v3]
  simp only [h1]

theorem v16_of (x1 : S512x512.Idx → EReal)
    (h1 : ∀ k : Fin 512, x1 (ix2 r k) = A1 (ix2 l k)) (k : Fin 512) :
    @Eq EReal (k0_pay7 (F := Ideal) x1 (ix2 r k)) (val_main_v16 (F := Ideal) A1 (ix2 l k)) := by
  pointwise [k0_pay7, k0_pay6, val_main_v16, val_main_v13, val_main_v12, val_main_cst_2, val_main_v11, val_main_v10, val_main_v9, val_main_cst_1, val_main_v8, val_main_v7, val_main_v6, val_main_cst_0, val_main_v2, val_main_v1, val_main_v15, val_main_v14, val_main_cst_3]
  simp only [h1, mul_assoc]

theorem v20_of (x1 : S512x512.Idx → EReal)
    (h1 : ∀ k : Fin 512, x1 (ix2 r k) = A1 (ix2 l k)) (k : Fin 512) :
    @Eq EReal (k0_pay8 (F := Ideal) x1 (ix2 r k)) (val_main_v20 (F := Ideal) A1 (ix2 l k)) := by
  pointwise [k0_pay8, k0_pay6, val_main_v20, val_main_v19, val_main_cst_5, val_main_v18, val_main_v17, val_main_cst_4, val_main_v11, val_main_v10, val_main_v9, val_main_cst_1, val_main_v8, val_main_v7, val_main_v6, val_main_cst_0, val_main_v2, val_main_v1]
  simp only [h1, mul_assoc]

theorem v21_of (x1 : S512x512.Idx → EReal)
    (h1 : ∀ k : Fin 512, x1 (ix2 r k) = A1 (ix2 l k)) (k : Fin 512) :
    @Eq EReal (k0_pay9 (F := Ideal) x1 (ix2 r k)) (val_main_v21 (F := Ideal) A1 (ix2 l k)) := by
  pointwise [k0_pay9, k0_pay8, k0_pay6, val_main_v21, val_main_v20, val_main_v19, val_main_cst_5, val_main_v18, val_main_v17, val_main_cst_4, val_main_v11, val_main_v10, val_main_v9, val_main_cst_1, val_main_v8, val_main_v7, val_main_v6, val_main_cst_0, val_main_v2, val_main_v1]
  simp only [h1, mul_assoc]

theorem v25_of (x1 : S512x512.Idx → EReal) (x3 : S512x1024.Idx → EReal) (x4 : S1x1024.Idx → EReal)
    (hg : ∀ k : Fin 512, @Eq EReal (k0_pay9 (F := Ideal) x1 (ix2 r k)) (val_main_v21 (F := Ideal) A1 (ix2 l k))) (h3 : ∀ (k : Fin 512) (n : Fin 1024), x3 (ix2 k n) = A3 (ix2 k n)) (h4 : ∀ k, x4 (ix2 0 k) = A4 (ix1 k)) (k : Fin 1024) :
    @Eq EReal (k0_pay10 (F := Ideal) x1 x3 x4 (ix2 r k)) (val_main_v25 (F := Ideal) A1 A3 A4 (ix2 l k)) := by
  pointwise [k0_pay10, val_main_v25, val_main_v22, val_main_v24, val_main_v23]
  simp only [hg, h3, h4]

theorem v26_of (x1 : S512x512.Idx → EReal) (x3 : S512x1024.Idx → EReal) (x4 : S1x1024.Idx → EReal)
    (hp : ∀ k : Fin 1024, @Eq EReal (k0_pay10 (F := Ideal) x1 x3 x4 (ix2 r k)) (val_main_v25 (F := Ideal) A1 A3 A4 (ix2 l k))) (k : Fin 512) :
    @Eq EReal (k0_pay11 (F := Ideal) x1 x3 x4 (ix2 r k)) (val_main_v26 (F := Ideal) A1 A3 A4 (ix2 l k)) := by
  pointwise [k0_pay11, val_main_v26]
  simp only [hp]

theorem v33_of (x1 : S512x512.Idx → EReal) (x3 : S512x1024.Idx → EReal) (x4 : S1x1024.Idx → EReal)
    (hp : ∀ k : Fin 1024, @Eq EReal (k0_pay10 (F := Ideal) x1 x3 x4 (ix2 r k)) (val_main_v25 (F := Ideal) A1 A3 A4 (ix2 l k))) (k : Fin 512) :
    @Eq EReal (k0_pay12 (F := Ideal) x1 x3 x4 (ix2 r k)) (val_main_v33 (F := Ideal) A1 A3 A4 (ix2 l k)) := by
  pointwise [k0_pay12, val_main_v33, val_main_v32, val_main_cst_7, val_main_v31, val_main_v30, val_main_cst_6, val_main_v29, val_main_v28, val_main_v27]
  simp only [hp]
  rfl

theorem v35_of (x1 : S512x512.Idx → EReal) (x3 : S512x1024.Idx → EReal) (x4 : S1x1024.Idx → EReal)
    (hs : ∀ k : Fin 512, @Eq EReal (k0_pay12 (F := Ideal) x1 x3 x4 (ix2 r k)) (val_main_v33 (F := Ideal) A1 A3 A4 (ix2 l k))) (k : Fin 512) :
    @Eq EReal (k0_pay13 (F := Ideal) x1 x3 x4 (ix2 r k)) (val_main_v35 (F := Ideal) A1 A3 A4 (ix2 l k)) := by
  pointwise [k0_pay13, val_main_v35, val_main_v34, val_main_cst_8]
  simp only [hs]

theorem v42_of (z a b x0 : S512x512.Idx → EReal)
    (ha : ∀ k : Fin 512, @Eq EReal (a (ix2 r k)) (val_main_v26 (F := Ideal) A1 A3 A4 (ix2 l k))) (hb : ∀ k : Fin 512, @Eq EReal (b (ix2 r k)) (val_main_v33 (F := Ideal) A1 A3 A4 (ix2 l k)))
    (hz : ∀ k : Fin 512, @Eq EReal (z (ix2 r k)) (val_main_v0 (F := Ideal) A2 (ix2 l k))) (h0 : ∀ k : Fin 512, x0 (ix2 r k) = A0 (ix2 l k)) (k : Fin 512) :
    @Eq EReal (k0_pay15 (F := Ideal) z a b x0 (ix2 r k)) (val_main_v42 (F := Ideal) A0 A1 A2 A3 A4 (ix2 l k)) := by
  pointwise [k0_pay15, k0_pay14, val_main_v42, val_main_call1_v1, val_main_v40, val_main_v37, val_main_v38_2, val_main_call0_v4, val_main_call0_cst_0, val_main_call0_v3, val_main_call0_v2, val_main_call0_cst, val_main_call0_v1, val_main_call0_v0, val_main_call1_v2, val_main_call1_v0, val_main_v38_1, val_main_call0_v7, val_main_call0_v6, val_main_call0_cst_1]
  simp only [ha, hb, hz, h0]
  rfl

theorem v46_of (z a b e x0 : S512x512.Idx → EReal)
    (ha : ∀ k : Fin 512, @Eq EReal (a (ix2 r k)) (val_main_v26 (F := Ideal) A1 A3 A4 (ix2 l k))) (hb : ∀ k : Fin 512, @Eq EReal (b (ix2 r k)) (val_main_v33 (F := Ideal) A1 A3 A4 (ix2 l k))) (he : ∀ k : Fin 512, @Eq EReal (e (ix2 r k)) (val_main_v35 (F := Ideal) A1 A3 A4 (ix2 l k)))
    (hz : ∀ k : Fin 512, @Eq EReal (z (ix2 r k)) (val_main_v0 (F := Ideal) A2 (ix2 l k))) (h0 : ∀ k : Fin 512, x0 (ix2 r k) = A0 (ix2 l k)) (k : Fin 1024) :
    @Eq EReal (k0_pay16 (F := Ideal) z a b e x0 (ix2 r k)) (val_main_v46 (F := Ideal) A0 A1 A2 A3 A4 (ix2 l k)) := by
  pointwise [k0_pay16, k0_pay14, val_main_v46, val_main_v44, val_main_v41, val_main_v38_0, val_main_v38_2, val_main_call0_v4, val_main_call0_cst_0, val_main_call0_v3, val_main_call0_v2, val_main_call0_cst, val_main_call0_v1, val_main_call0_v0, val_main_v45, val_main_v43, val_main_v36]
  by_cases hk : k.val < 512
  · simp only [dif_pos hk, ha, hb, he, hz, h0, add_zero, zero_add]
    rfl
  · simp only [dif_neg hk, ha, hb, he, hz, h0, add_zero, zero_add]
    rfl

theorem v64_of (x1 p q u z a b e x0 : S512x512.Idx → EReal) (x3 : S512x1024.Idx → EReal)
    (hd : ∀ k : Fin 1024, @Eq EReal (k0_pay16 (F := Ideal) z a b e x0 (ix2 r k)) (val_main_v46 (F := Ideal) A0 A1 A2 A3 A4 (ix2 l k)))
    (hp : ∀ k : Fin 512, @Eq EReal (p (ix2 r k)) (val_main_v5 (F := Ideal) A1 (ix2 l k))) (hq : ∀ k : Fin 512, @Eq EReal (q (ix2 r k)) (val_main_v16 (F := Ideal) A1 (ix2 l k))) (hu : ∀ k : Fin 512, @Eq EReal (u (ix2 r k)) (val_main_v20 (F := Ideal) A1 (ix2 l k)))
    (h1 : ∀ k : Fin 512, x1 (ix2 r k) = A1 (ix2 l k)) (h3 : ∀ (k : Fin 512) (n : Fin 1024), x3 (ix2 k n) = A3 (ix2 k n)) (k : Fin 512) :
    @Eq EReal (k0_pay17 (F := Ideal) x1 p q u z a b e x0 x3 (ix2 r k)) (val_main_v64 (F := Ideal) A0 A1 A2 A3 A4 (ix2 l k)) := by
  pointwise [k0_pay17, val_main_v64, val_main_v60, val_main_v54, val_main_v52, val_main_v59, val_main_v58, val_main_cst_12, val_main_v57, val_main_v56, val_main_v55, val_main_cst_11, val_main_v53, val_main_v63, val_main_v62, val_main_v61, val_main_cst_13]
  simp only [hd, hp, hq, hu, h1, h3]

end

/-! ## What a block adds to the gradients of the weights -/

section
variable (A0 A1 : S8192x512.Idx → EReal) (A2 : S8192x5120.Idx → EReal) (A3 : S512x1024.Idx → EReal) (A4 : S1024.Idx → EReal)
  (rows : Fin 512 → Fin 8192)

theorem add_7 (g : S512x512.Idx → EReal) (p a : S512x1024.Idx → EReal)
    (hg : ∀ (r : Fin 512) (k : Fin 512), @Eq EReal (g (ix2 r k)) (val_main_v21 (F := Ideal) A1 (ix2 (rows r) k)))
    (hp : ∀ (r : Fin 512) (k : Fin 1024), @Eq EReal (p (ix2 r k)) (val_main_v46 (F := Ideal) A0 A1 A2 A3 A4 (ix2 (rows r) k))) (i : Fin 512) (j : Fin 1024) :
    @Eq EReal (k0_pay1 (F := Ideal) g p a (ix2 i j)) (a (ix2 i j) + ∑ r : Fin 512, val_main_v46 (F := Ideal) A0 A1 A2 A3 A4 (ix2 (rows r) j) * val_main_v21 (F := Ideal) A1 (ix2 (rows r) i)) := by
  pointwise [k0_pay1]
  simp only [hg, hp, mul_comm (val_main_v21 (F := Ideal) _ _)]

theorem add_8 (p : S512x1024.Idx → EReal) (a : S1x1024.Idx → EReal)
    (hp : ∀ (r : Fin 512) (k : Fin 1024), @Eq EReal (p (ix2 r k)) (val_main_v46 (F := Ideal) A0 A1 A2 A3 A4 (ix2 (rows r) k))) (j : Fin 1024) :
    @Eq EReal (k0_pay2 (F := Ideal) p a (ix2 0 j)) (a (ix2 0 j) + ∑ r : Fin 512, val_main_v46 (F := Ideal) A0 A1 A2 A3 A4 (ix2 (rows r) j)) := by
  pointwise [k0_pay2]
  simp only [hp]

end

/-! ## What a point leaves in each output's buffer -/

theorem hz2 : (![0, 0] : Fin 2 → Nat) = fun _ => 0 := funext fun a => by fin_cases a <;> rfl

section
variable (c : Dev nD) (i : grid0.Coords)
  (arg1 : Memref sig .tc .vmem S512x512 .f32) (harg1 : arg1.IsWhole)
  (arg2 : Memref sig .tc .vmem S512x512 .f32) (harg2 : arg2.IsWhole)
  (arg3 : Memref sig .tc .vmem S512x512 .f32) (harg3 : arg3.IsWhole)
  (arg4 : Memref sig .tc .vmem S512x1024 .bf16) (harg4 : arg4.IsWhole)
  (arg5 : Memref sig .tc .vmem S1x1024 .f32) (harg5 : arg5.IsWhole)
  (arg6 : Memref sig .tc .vmem S512x512 .f32) (harg6 : arg6.IsWhole)
  (arg7 : Memref sig .tc .vmem S512x512 .f32) (harg7 : arg7.IsWhole)
  (arg8 : Memref sig .tc .vmem S512x1024 .f32) (harg8 : arg8.IsWhole)
  (arg9 : Memref sig .tc .vmem S1x1024 .f32) (harg9 : arg9.IsWhole)
  (x0 : Vec Ideal S512x512 .f32)
  (x1 : Vec Ideal S512x512 .f32)
  (x2 : Vec Ideal S512x512 .f32)
  (x3 : Vec Ideal S512x1024 .bf16)
  (x4 : Vec Ideal S1x1024 .f32)
  (xo7 : Vec Ideal S512x1024 .f32)
  (xo8 : Vec Ideal S1x1024 .f32)

theorem first_5 (hc0 : cond0_0 i) :
    out0_A_5 (F := Ideal) c i arg1 harg1 arg2 harg2 arg3 harg3 arg4 harg4 arg5 harg5 arg6 harg6 arg7 harg7 arg8 harg8 arg9 harg9 hc0 x0 x1 x2 x3 x4
      = k0_pay17 (F := Ideal) x1 (k0_pay5 (F := Ideal) x1) (k0_pay7 (F := Ideal) x1) (k0_pay8 (F := Ideal) x1) x2 (k0_pay11 (F := Ideal) x1 x3 x4) (k0_pay12 (F := Ideal) x1 x3 x4) (k0_pay13 (F := Ideal) x1 x3 x4) x0 x3 := by
  unfold out0_A_5
  rw [View.read_writes_eq_canon _ _ _ (cover0_A_5 c i arg1 harg1 arg2 harg2 arg3 harg3 arg4 harg4 arg5 harg5 arg6 harg6 arg7 harg7 arg8 harg8 arg9 harg9 hc0 x0 x1 x2 x3 x4)]
  unfold kernelRun0_A
  dsimp only
  try sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, View.ld_unit_zero (S := S512x512) hz2, View.ld_unit_zero (S := S512x1024) hz2, View.ld_unit_zero (S := S1x1024) hz2, shapeCast_self]

theorem later_5 (hc0 : ¬cond0_0 i) :
    out0_B_5 (F := Ideal) c i arg1 harg1 arg2 harg2 arg3 harg3 arg4 harg4 arg5 harg5 arg6 harg6 arg7 harg7 arg8 harg8 arg9 harg9 hc0 x0 x1 x2 x3 x4 xo7 xo8
      = k0_pay17 (F := Ideal) x1 (k0_pay5 (F := Ideal) x1) (k0_pay7 (F := Ideal) x1) (k0_pay8 (F := Ideal) x1) x2 (k0_pay11 (F := Ideal) x1 x3 x4) (k0_pay12 (F := Ideal) x1 x3 x4) (k0_pay13 (F := Ideal) x1 x3 x4) x0 x3 := by
  unfold out0_B_5
  rw [View.read_writes_eq_canon _ _ _ (cover0_B_5 c i arg1 harg1 arg2 harg2 arg3 harg3 arg4 harg4 arg5 harg5 arg6 harg6 arg7 harg7 arg8 harg8 arg9 harg9 hc0 x0 x1 x2 x3 x4 xo7 xo8)]
  unfold kernelRun0_B
  dsimp only
  try sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, View.ld_unit_zero (S := S512x512) hz2, View.ld_unit_zero (S := S512x1024) hz2, View.ld_unit_zero (S := S1x1024) hz2, shapeCast_self]

theorem first_6 (hc0 : cond0_0 i) :
    out0_A_6 (F := Ideal) c i arg1 harg1 arg2 harg2 arg3 harg3 arg4 harg4 arg5 harg5 arg6 harg6 arg7 harg7 arg8 harg8 arg9 harg9 hc0 x0 x1 x2 x3 x4
      = k0_pay15 (F := Ideal) x2 (k0_pay11 (F := Ideal) x1 x3 x4) (k0_pay12 (F := Ideal) x1 x3 x4) x0 := by
  unfold out0_A_6
  rw [View.read_writes_eq_canon _ _ _ (cover0_A_6 c i arg1 harg1 arg2 harg2 arg3 harg3 arg4 harg4 arg5 harg5 arg6 harg6 arg7 harg7 arg8 harg8 arg9 harg9 hc0 x0 x1 x2 x3 x4)]
  unfold kernelRun0_A
  dsimp only
  try sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, View.ld_unit_zero (S := S512x512) hz2, View.ld_unit_zero (S := S512x1024) hz2, View.ld_unit_zero (S := S1x1024) hz2, shapeCast_self]

theorem later_6 (hc0 : ¬cond0_0 i) :
    out0_B_6 (F := Ideal) c i arg1 harg1 arg2 harg2 arg3 harg3 arg4 harg4 arg5 harg5 arg6 harg6 arg7 harg7 arg8 harg8 arg9 harg9 hc0 x0 x1 x2 x3 x4 xo7 xo8
      = k0_pay15 (F := Ideal) x2 (k0_pay11 (F := Ideal) x1 x3 x4) (k0_pay12 (F := Ideal) x1 x3 x4) x0 := by
  unfold out0_B_6
  rw [View.read_writes_eq_canon _ _ _ (cover0_B_6 c i arg1 harg1 arg2 harg2 arg3 harg3 arg4 harg4 arg5 harg5 arg6 harg6 arg7 harg7 arg8 harg8 arg9 harg9 hc0 x0 x1 x2 x3 x4 xo7 xo8)]
  unfold kernelRun0_B
  dsimp only
  try sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, View.ld_unit_zero (S := S512x512) hz2, View.ld_unit_zero (S := S512x1024) hz2, View.ld_unit_zero (S := S1x1024) hz2, shapeCast_self]

theorem first_7 (hc0 : cond0_0 i) :
    out0_A_7 (F := Ideal) c i arg1 harg1 arg2 harg2 arg3 harg3 arg4 harg4 arg5 harg5 arg6 harg6 arg7 harg7 arg8 harg8 arg9 harg9 hc0 x0 x1 x2 x3 x4
      = k0_pay1 (F := Ideal) (k0_pay9 (F := Ideal) x1) (k0_pay16 (F := Ideal) x2 (k0_pay11 (F := Ideal) x1 x3 x4) (k0_pay12 (F := Ideal) x1 x3 x4) (k0_pay13 (F := Ideal) x1 x3 x4) x0) (k0_pay3 (F := Ideal)) := by
  unfold out0_A_7
  rw [View.read_writes_eq_canon _ _ _ (cover0_A_7 c i arg1 harg1 arg2 harg2 arg3 harg3 arg4 harg4 arg5 harg5 arg6 harg6 arg7 harg7 arg8 harg8 arg9 harg9 hc0 x0 x1 x2 x3 x4)]
  unfold kernelRun0_A
  dsimp only
  try sl_unfold_words
  rw [View.canon_cons_unit_zero (S := S512x1024) hz2, View.readCov_unit_zero (S := S512x1024) _ hz2]
  simp only [View.readAt_eq_ld, harg1.read_unread, harg2.read_unread, harg3.read_unread, harg4.read_unread, harg5.read_unread, harg6.read_unread, harg7.read_unread, harg8.read_unread, harg9.read_unread, View.ld_unit_zero (S := S512x512) hz2, View.ld_unit_zero (S := S512x1024) hz2, View.ld_unit_zero (S := S1x1024) hz2, shapeCast_self]

theorem later_7 (hc0 : ¬cond0_0 i) :
    out0_B_7 (F := Ideal) c i arg1 harg1 arg2 harg2 arg3 harg3 arg4 harg4 arg5 harg5 arg6 harg6 arg7 harg7 arg8 harg8 arg9 harg9 hc0 x0 x1 x2 x3 x4 xo7 xo8
      = k0_pay1 (F := Ideal) (k0_pay9 (F := Ideal) x1) (k0_pay16 (F := Ideal) x2 (k0_pay11 (F := Ideal) x1 x3 x4) (k0_pay12 (F := Ideal) x1 x3 x4) (k0_pay13 (F := Ideal) x1 x3 x4) x0) xo7 := by
  unfold out0_B_7
  rw [View.read_writes_eq_canon _ _ _ (cover0_B_7 c i arg1 harg1 arg2 harg2 arg3 harg3 arg4 harg4 arg5 harg5 arg6 harg6 arg7 harg7 arg8 harg8 arg9 harg9 hc0 x0 x1 x2 x3 x4 xo7 xo8)]
  unfold kernelRun0_B
  dsimp only
  try sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, View.ld_unit_zero (S := S512x512) hz2, View.ld_unit_zero (S := S512x1024) hz2, View.ld_unit_zero (S := S1x1024) hz2, shapeCast_self]

theorem first_8 (hc0 : cond0_0 i) :
    out0_A_8 (F := Ideal) c i arg1 harg1 arg2 harg2 arg3 harg3 arg4 harg4 arg5 harg5 arg6 harg6 arg7 harg7 arg8 harg8 arg9 harg9 hc0 x0 x1 x2 x3 x4
      = k0_pay2 (F := Ideal) (k0_pay16 (F := Ideal) x2 (k0_pay11 (F := Ideal) x1 x3 x4) (k0_pay12 (F := Ideal) x1 x3 x4) (k0_pay13 (F := Ideal) x1 x3 x4) x0) (k0_pay4 (F := Ideal)) := by
  unfold out0_A_8
  rw [View.read_writes_eq_canon _ _ _ (cover0_A_8 c i arg1 harg1 arg2 harg2 arg3 harg3 arg4 harg4 arg5 harg5 arg6 harg6 arg7 harg7 arg8 harg8 arg9 harg9 hc0 x0 x1 x2 x3 x4)]
  unfold kernelRun0_A
  dsimp only
  try sl_unfold_words
  rw [View.canon_cons_unit_zero (S := S1x1024) hz2, View.readCov_unit_zero (S := S1x1024) _ hz2]
  simp only [View.readAt_eq_ld, harg1.read_unread, harg2.read_unread, harg3.read_unread, harg4.read_unread, harg5.read_unread, harg6.read_unread, harg7.read_unread, harg8.read_unread, harg9.read_unread, View.ld_unit_zero (S := S512x512) hz2, View.ld_unit_zero (S := S512x1024) hz2, View.ld_unit_zero (S := S1x1024) hz2, shapeCast_self]

theorem later_8 (hc0 : ¬cond0_0 i) :
    out0_B_8 (F := Ideal) c i arg1 harg1 arg2 harg2 arg3 harg3 arg4 harg4 arg5 harg5 arg6 harg6 arg7 harg7 arg8 harg8 arg9 harg9 hc0 x0 x1 x2 x3 x4 xo7 xo8
      = k0_pay2 (F := Ideal) (k0_pay16 (F := Ideal) x2 (k0_pay11 (F := Ideal) x1 x3 x4) (k0_pay12 (F := Ideal) x1 x3 x4) (k0_pay13 (F := Ideal) x1 x3 x4) x0) xo8 := by
  unfold out0_B_8
  rw [View.read_writes_eq_canon _ _ _ (cover0_B_8 c i arg1 harg1 arg2 harg2 arg3 harg3 arg4 harg4 arg5 harg5 arg6 harg6 arg7 harg7 arg8 harg8 arg9 harg9 hc0 x0 x1 x2 x3 x4 xo7 xo8)]
  unfold kernelRun0_B
  dsimp only
  try sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, View.ld_unit_zero (S := S512x512) hz2, View.ld_unit_zero (S := S512x1024) hz2, View.ld_unit_zero (S := S1x1024) hz2, shapeCast_self]

end

/-! ## The blocks, as read from the arguments -/

section
variable (m : (ℓ : Loc nD τ sig) → Buf (Elt Ideal) ℓ) (c : Dev nD)

def in0 : S8192x512.Idx → EReal := m ((c.tc : Thread nD τ).loc main_arg0)
def in1 : S8192x512.Idx → EReal := m ((c.tc : Thread nD τ).loc main_arg1)
def in2 : S8192x5120.Idx → EReal := m ((c.tc : Thread nD τ).loc main_arg2)
def in3 : S512x1024.Idx → EReal := m ((c.tc : Thread nD τ).loc main_arg3)
def in4 : S1024.Idx → EReal := m ((c.tc : Thread nD τ).loc main_arg4)

theorem index_0 : ∀ t : Fin cfg0.N, win0_0.index t = ![t.val, 0] := by decide +kernel
theorem index_1 : ∀ t : Fin cfg0.N, win0_1.index t = ![t.val, 0] := by decide +kernel
theorem index_2 : ∀ t : Fin cfg0.N, win0_2.index t = ![t.val, 1] := by decide +kernel
theorem index_3 : ∀ t : Fin cfg0.N, win0_3.index t = ![0, 0] := by decide +kernel
theorem index_4 : ∀ t : Fin cfg0.N, win0_4.index t = ![0, 0] := by decide +kernel
theorem index_5 : ∀ t : Fin cfg0.N, win0_5.index t = ![t.val, 0] := by decide +kernel
theorem index_6 : ∀ t : Fin cfg0.N, win0_6.index t = ![t.val, 0] := by decide +kernel
theorem index_7 : ∀ t : Fin cfg0.N, win0_7.index t = ![0, 0] := by decide +kernel
theorem index_8 : ∀ t : Fin cfg0.N, win0_8.index t = ![0, 0] := by decide +kernel

/-- The row of the whole array at row `r` of block `n`. -/
def rowAt (n : ℕ) (r : Fin 512) : Fin 8192 := ⟨(n * 512 + r.val) % 8192, Nat.mod_lt _ (by decide)⟩

theorem block_0 (t : Fin cfg0.N) (r : Fin 512) (k : Fin 512) : @Eq EReal (iblk m c 0 t (ix2 r k)) (in0 m c (ix2 (rowAt t.val r) k)) := by
  have ht : t.val < 16 := t.isLt
  have e : iblk m c 0 t (ix2 r k) = V m c main_arg0 (ix2 (rowAt t.val r) k) := by
    unfold rowAt
    blk_ext [iblk, index_0 t]
  rw [e, V_main_arg0]
  rfl

theorem block_1 (t : Fin cfg0.N) (r : Fin 512) (k : Fin 512) : @Eq EReal (iblk m c 1 t (ix2 r k)) (in1 m c (ix2 (rowAt t.val r) k)) := by
  have ht : t.val < 16 := t.isLt
  have e : iblk m c 1 t (ix2 r k) = V m c main_arg1 (ix2 (rowAt t.val r) k) := by
    unfold rowAt
    blk_ext [iblk, index_1 t]
  rw [e, V_main_arg1]
  rfl

theorem block_2 (t : Fin cfg0.N) (r : Fin 512) (k : Fin 512) : @Eq EReal (iblk m c 2 t (ix2 r k)) (in2 m c (ix2 (rowAt t.val r) ⟨512 + k.val, by have := k.isLt; omega⟩)) := by
  have ht : t.val < 16 := t.isLt
  have e : iblk m c 2 t (ix2 r k) = V m c main_arg2 (ix2 (rowAt t.val r) ⟨512 + k.val, by have := k.isLt; omega⟩) := by
    unfold rowAt
    blk_ext [iblk, index_2 t]
  rw [e, V_main_arg2]
  rfl

theorem block_3 (t : Fin cfg0.N) (k : Fin 512) (n : Fin 1024) : @Eq EReal (iblk m c 3 t (ix2 k n)) (in3 m c (ix2 k n)) := by
  have e : iblk m c 3 t (ix2 k n) = V m c (Pipeline.arrRef spec0 3) (ix2 k n) := by
    blk_ext [iblk, index_3 t]
  rw [e]
  entry_read
  rfl

theorem block_4 (t : Fin cfg0.N) (k : Fin 1024) : @Eq EReal (iblk m c 4 t (ix2 0 k)) (in4 m c (ix1 k)) := by
  have e : iblk m c 4 t (ix2 0 k) = V m c (Pipeline.arrRef spec0 4) (ix2 0 k) := by
    blk_ext [iblk, index_4 t]
  rw [e]
  entry_read
  pointwise []
  rfl

theorem block_z (t : Fin cfg0.N) (r : Fin 512) (k : Fin 512) : @Eq EReal (iblk m c 2 t (ix2 r k)) (val_main_v0 (F := Ideal) (in2 m c) (ix2 (rowAt t.val r) k)) := by
  rw [val_main_v0_apply]
  exact (block_2 m c t r k).trans (congrArg _ (funext fun a => match a with | ⟨0, _⟩ => rfl | ⟨1, _⟩ => rfl))

/-! ## A point's values -/

theorem cub (t : Fin cfg0.N) (r : Fin 512) (k : Fin 512) : @Eq EReal (k0_pay5 (F := Ideal) (iblk m c 1 t) (ix2 r k)) (val_main_v5 (F := Ideal) (in1 m c) (ix2 (rowAt t.val r) k)) :=
  v5_of (h1 := block_1 m c t r) (k := k) ..

theorem slope (t : Fin cfg0.N) (r : Fin 512) (k : Fin 512) : @Eq EReal (k0_pay7 (F := Ideal) (iblk m c 1 t) (ix2 r k)) (val_main_v16 (F := Ideal) (in1 m c) (ix2 (rowAt t.val r) k)) :=
  v16_of (h1 := block_1 m c t r) (k := k) ..

theorem half (t : Fin cfg0.N) (r : Fin 512) (k : Fin 512) : @Eq EReal (k0_pay8 (F := Ideal) (iblk m c 1 t) (ix2 r k)) (val_main_v20 (F := Ideal) (in1 m c) (ix2 (rowAt t.val r) k)) :=
  v20_of (h1 := block_1 m c t r) (k := k) ..

theorem gelu (t : Fin cfg0.N) (r : Fin 512) (k : Fin 512) : @Eq EReal (k0_pay9 (F := Ideal) (iblk m c 1 t) (ix2 r k)) (val_main_v21 (F := Ideal) (in1 m c) (ix2 (rowAt t.val r) k)) :=
  v21_of (h1 := block_1 m c t r) (k := k) ..

theorem pre (t : Fin cfg0.N) (r : Fin 512) (k : Fin 1024) : @Eq EReal (k0_pay10 (F := Ideal) (iblk m c 1 t) (iblk m c 3 t) (iblk m c 4 t) (ix2 r k)) (val_main_v25 (F := Ideal) (in1 m c) (in3 m c) (in4 m c) (ix2 (rowAt t.val r) k)) :=
  v25_of (hg := gelu m c t r) (h3 := block_3 m c t) (h4 := block_4 m c t) (k := k) ..

theorem left (t : Fin cfg0.N) (r : Fin 512) (k : Fin 512) : @Eq EReal ((k0_pay11 (F := Ideal) (iblk m c 1 t) (iblk m c 3 t) (iblk m c 4 t)) (ix2 r k)) (val_main_v26 (F := Ideal) (in1 m c) (in3 m c) (in4 m c) (ix2 (rowAt t.val r) k)) :=
  v26_of (hp := pre m c t r) (k := k) ..

theorem gate (t : Fin cfg0.N) (r : Fin 512) (k : Fin 512) : @Eq EReal ((k0_pay12 (F := Ideal) (iblk m c 1 t) (iblk m c 3 t) (iblk m c 4 t)) (ix2 r k)) (val_main_v33 (F := Ideal) (in1 m c) (in3 m c) (in4 m c) (ix2 (rowAt t.val r) k)) :=
  v33_of (hp := pre m c t r) (k := k) ..

theorem cogate (t : Fin cfg0.N) (r : Fin 512) (k : Fin 512) : @Eq EReal ((k0_pay13 (F := Ideal) (iblk m c 1 t) (iblk m c 3 t) (iblk m c 4 t)) (ix2 r k)) (val_main_v35 (F := Ideal) (in1 m c) (in3 m c) (in4 m c) (ix2 (rowAt t.val r) k)) :=
  v35_of (hs := gate m c t r) (k := k) ..

theorem dz (t : Fin cfg0.N) (r : Fin 512) (k : Fin 512) : @Eq EReal (k0_pay15 (F := Ideal) (iblk m c 2 t) (k0_pay11 (F := Ideal) (iblk m c 1 t) (iblk m c 3 t) (iblk m c 4 t)) (k0_pay12 (F := Ideal) (iblk m c 1 t) (iblk m c 3 t) (iblk m c 4 t)) (iblk m c 0 t) (ix2 r k)) (val_main_v42 (F := Ideal) (in0 m c) (in1 m c) (in2 m c) (in3 m c) (in4 m c) (ix2 (rowAt t.val r) k)) :=
  v42_of (ha := left m c t r) (hb := gate m c t r) (hz := block_z m c t r) (h0 := block_0 m c t r) (k := k) ..

theorem dpre (t : Fin cfg0.N) (r : Fin 512) (k : Fin 1024) : @Eq EReal ((k0_pay16 (F := Ideal) (iblk m c 2 t) (k0_pay11 (F := Ideal) (iblk m c 1 t) (iblk m c 3 t) (iblk m c 4 t)) (k0_pay12 (F := Ideal) (iblk m c 1 t) (iblk m c 3 t) (iblk m c 4 t)) (k0_pay13 (F := Ideal) (iblk m c 1 t) (iblk m c 3 t) (iblk m c 4 t)) (iblk m c 0 t)) (ix2 r k)) (val_main_v46 (F := Ideal) (in0 m c) (in1 m c) (in2 m c) (in3 m c) (in4 m c) (ix2 (rowAt t.val r) k)) :=
  v46_of (ha := left m c t r) (hb := gate m c t r) (he := cogate m c t r) (hz := block_z m c t r) (h0 := block_0 m c t r) (k := k) ..

theorem dy (t : Fin cfg0.N) (r : Fin 512) (k : Fin 512) : @Eq EReal (k0_pay17 (F := Ideal) (iblk m c 1 t) (k0_pay5 (F := Ideal) (iblk m c 1 t)) (k0_pay7 (F := Ideal) (iblk m c 1 t)) (k0_pay8 (F := Ideal) (iblk m c 1 t)) (iblk m c 2 t) (k0_pay11 (F := Ideal) (iblk m c 1 t) (iblk m c 3 t) (iblk m c 4 t)) (k0_pay12 (F := Ideal) (iblk m c 1 t) (iblk m c 3 t) (iblk m c 4 t)) (k0_pay13 (F := Ideal) (iblk m c 1 t) (iblk m c 3 t) (iblk m c 4 t)) (iblk m c 0 t) (iblk m c 3 t) (ix2 r k)) (val_main_v64 (F := Ideal) (in0 m c) (in1 m c) (in2 m c) (in3 m c) (in4 m c) (ix2 (rowAt t.val r) k)) :=
  v64_of (hd := dpre m c t r) (hp := cub m c t r) (hq := slope m c t r) (hu := half m c t r) (h1 := block_1 m c t r) (h3 := block_3 m c t) (k := k) ..

def resY : S8192x512.Idx → EReal := val_main_v64 (F := Ideal) (in0 m c) (in1 m c) (in2 m c) (in3 m c) (in4 m c)

theorem left_5 (t : Fin cfg0.N) : (outsAt0 m c t.val t.isLt).1 = k0_pay17 (F := Ideal) (iblk m c 1 t) (k0_pay5 (F := Ideal) (iblk m c 1 t)) (k0_pay7 (F := Ideal) (iblk m c 1 t)) (k0_pay8 (F := Ideal) (iblk m c 1 t)) (iblk m c 2 t) (k0_pay11 (F := Ideal) (iblk m c 1 t) (iblk m c 3 t) (iblk m c 4 t)) (k0_pay12 (F := Ideal) (iblk m c 1 t) (iblk m c 3 t) (iblk m c 4 t)) (k0_pay13 (F := Ideal) (iblk m c 1 t) (iblk m c 3 t) (iblk m c 4 t)) (iblk m c 0 t) (iblk m c 3 t) := by
  by_cases h0 : t.val % 16 = 0
  · rw [outsAt0_A m c t h0]
    dsimp only
    exact first_5 ..
  · rw [outsAt0_B m c t h0]
    dsimp only
    exact later_5 ..

theorem after_5 (t : Fin cfg0.N) (r : Fin 512) (k : Fin 512) : @Eq EReal ((dats m 0 c).after 5 t (ix2 r k)) (resY m c (ix2 (rowAt t.val r) k)) := by
  rw [after0_5, left_5]
  exact dy m c t r k

theorem final_5 : (dats m 0 c).arrAt 5 cfg0.N = resY m c := by
  refine (dats m 0 c).arrAt_eq_of_covers 5 _ (by decide +kernel) fun t hf y => ?_
  have ht : t.val < 16 := t.isLt
  show @Eq EReal ((dats m 0 c).after 5 t y) _
  have hy : (y (0 : Fin 2)).val < 512 := (y (0 : Fin 2)).isLt
  have h0 : (((cfg0.win 5).blk t).view.emb y 0).val = t.val * 512 + (y (0 : Fin 2)).val := by
    blk_simp [index_5 t]
    try first | omega | (simp; omega)
  have h1 : (((cfg0.win 5).blk t).view.emb y 1).val = (y (1 : Fin 2)).val := by
    blk_simp [index_5 t]
    try first | omega | (simp; done)
  have he : ((cfg0.win 5).blk t).view.emb y = ix2 (rowAt t.val (y (0 : Fin 2))) (y (1 : Fin 2)) := by
    funext a
    match a with
    | ⟨0, _⟩ => exact Fin.ext (h0.trans (by unfold rowAt; show _ = (t.val * 512 + (y (0 : Fin 2)).val) % 8192; omega))
    | ⟨1, _⟩ => exact Fin.ext h1
  rw [he]
  have hy2 : y = ix2 (y (0 : Fin 2)) (y (1 : Fin 2)) := by
    funext a
    match a with
    | ⟨0, _⟩ => rfl
    | ⟨1, _⟩ => rfl
  refine Eq.trans ?_ (after_5 m c t (y (0 : Fin 2)) (y (1 : Fin 2)))
  exact congrArg _ hy2

def resZ : S8192x512.Idx → EReal := val_main_v42 (F := Ideal) (in0 m c) (in1 m c) (in2 m c) (in3 m c) (in4 m c)

theorem left_6 (t : Fin cfg0.N) : (outsAt0 m c t.val t.isLt).2.1 = k0_pay15 (F := Ideal) (iblk m c 2 t) (k0_pay11 (F := Ideal) (iblk m c 1 t) (iblk m c 3 t) (iblk m c 4 t)) (k0_pay12 (F := Ideal) (iblk m c 1 t) (iblk m c 3 t) (iblk m c 4 t)) (iblk m c 0 t) := by
  by_cases h0 : t.val % 16 = 0
  · rw [outsAt0_A m c t h0]
    dsimp only
    exact first_6 ..
  · rw [outsAt0_B m c t h0]
    dsimp only
    exact later_6 ..

theorem after_6 (t : Fin cfg0.N) (r : Fin 512) (k : Fin 512) : @Eq EReal ((dats m 0 c).after 6 t (ix2 r k)) (resZ m c (ix2 (rowAt t.val r) k)) := by
  rw [after0_6, left_6]
  exact dz m c t r k

theorem final_6 : (dats m 0 c).arrAt 6 cfg0.N = resZ m c := by
  refine (dats m 0 c).arrAt_eq_of_covers 6 _ (by decide +kernel) fun t hf y => ?_
  have ht : t.val < 16 := t.isLt
  show @Eq EReal ((dats m 0 c).after 6 t y) _
  have hy : (y (0 : Fin 2)).val < 512 := (y (0 : Fin 2)).isLt
  have h0 : (((cfg0.win 6).blk t).view.emb y 0).val = t.val * 512 + (y (0 : Fin 2)).val := by
    blk_simp [index_6 t]
    try first | omega | (simp; omega)
  have h1 : (((cfg0.win 6).blk t).view.emb y 1).val = (y (1 : Fin 2)).val := by
    blk_simp [index_6 t]
    try first | omega | (simp; done)
  have he : ((cfg0.win 6).blk t).view.emb y = ix2 (rowAt t.val (y (0 : Fin 2))) (y (1 : Fin 2)) := by
    funext a
    match a with
    | ⟨0, _⟩ => exact Fin.ext (h0.trans (by unfold rowAt; show _ = (t.val * 512 + (y (0 : Fin 2)).val) % 8192; omega))
    | ⟨1, _⟩ => exact Fin.ext h1
  rw [he]
  have hy2 : y = ix2 (y (0 : Fin 2)) (y (1 : Fin 2)) := by
    funext a
    match a with
    | ⟨0, _⟩ => rfl
    | ⟨1, _⟩ => rfl
  refine Eq.trans ?_ (after_6 m c t (y (0 : Fin 2)) (y (1 : Fin 2)))
  exact congrArg _ hy2

/-! ## The results added up over the rows -/

theorem sum_blocks (f : ℕ → EReal) (b a : ℕ) : ∑ s ∈ Finset.range a, ∑ k : Fin b, f (s * b + k.val) = ∑ l ∈ Finset.range (a * b), f l := by
  induction a with
  | zero => simp
  | succ a ih => rw [Finset.sum_range_succ, ih, Nat.succ_mul, Finset.sum_range_add, Finset.sum_range fun x => f (a * b + x)]

/-- Adding up block by block is adding up row by row. -/
theorem sum_rows (f : Fin 8192 → EReal) : ∑ s ∈ Finset.range 16, ∑ r : Fin 512, f (rowAt (0 + s) r) = ∑ l : Fin 8192, f l := by
  have e : ∀ l : Fin 8192, f l = (fun j : ℕ => f ⟨j % 8192, Nat.mod_lt _ (by decide)⟩) l.val := fun l => by
    show f l = f ⟨l.val % 8192, _⟩
    exact congrArg f (Fin.ext (Nat.mod_eq_of_lt l.isLt).symm)
  rw [Finset.sum_congr rfl fun l _ => e l, ← Finset.sum_range (fun j : ℕ => f ⟨j % 8192, Nat.mod_lt _ (by decide)⟩),
    ← sum_blocks (fun j : ℕ => f ⟨j % 8192, Nat.mod_lt _ (by decide)⟩) 512 16]
  refine Finset.sum_congr rfl fun s _ => Finset.sum_congr rfl fun r _ => ?_
  unfold rowAt
  rw [Nat.zero_add]

def resW : S512x1024.Idx → EReal := val_main_v51 (F := Ideal) (in0 m c) (in1 m c) (in2 m c) (in3 m c) (in4 m c)

def term_7 (y : S512x1024.Idx) (l : Fin 8192) : EReal := val_main_v46 (F := Ideal) (in0 m c) (in1 m c) (in2 m c) (in3 m c) (in4 m c) (ix2 l (y (1 : Fin 2))) * val_main_v21 (F := Ideal) (in1 m c) (ix2 l (y (0 : Fin 2)))
def share_7 (n : ℕ) (y : S512x1024.Idx) : EReal := ∑ r : Fin 512, term_7 m c y (rowAt n r)
def reset_7 (n : ℕ) (h : n < cfg0.N) : Vec Ideal S512x1024 .f32 := k0_pay1 (F := Ideal) (k0_pay9 (F := Ideal) (iblk m c 1 ⟨n, h⟩)) (k0_pay16 (F := Ideal) (iblk m c 2 ⟨n, h⟩) (k0_pay11 (F := Ideal) (iblk m c 1 ⟨n, h⟩) (iblk m c 3 ⟨n, h⟩) (iblk m c 4 ⟨n, h⟩)) (k0_pay12 (F := Ideal) (iblk m c 1 ⟨n, h⟩) (iblk m c 3 ⟨n, h⟩) (iblk m c 4 ⟨n, h⟩)) (k0_pay13 (F := Ideal) (iblk m c 1 ⟨n, h⟩) (iblk m c 3 ⟨n, h⟩) (iblk m c 4 ⟨n, h⟩)) (iblk m c 0 ⟨n, h⟩)) (k0_pay3 (F := Ideal))
def step_7 (n : ℕ) (h : n < cfg0.N) (acc : Vec Ideal S512x1024 .f32) : Vec Ideal S512x1024 .f32 := k0_pay1 (F := Ideal) (k0_pay9 (F := Ideal) (iblk m c 1 ⟨n, h⟩)) (k0_pay16 (F := Ideal) (iblk m c 2 ⟨n, h⟩) (k0_pay11 (F := Ideal) (iblk m c 1 ⟨n, h⟩) (iblk m c 3 ⟨n, h⟩) (iblk m c 4 ⟨n, h⟩)) (k0_pay12 (F := Ideal) (iblk m c 1 ⟨n, h⟩) (iblk m c 3 ⟨n, h⟩) (iblk m c 4 ⟨n, h⟩)) (k0_pay13 (F := Ideal) (iblk m c 1 ⟨n, h⟩) (iblk m c 3 ⟨n, h⟩) (iblk m c 4 ⟨n, h⟩)) (iblk m c 0 ⟨n, h⟩)) acc

theorem step_7_at (n : ℕ) (h : n < cfg0.N) (acc : Vec Ideal S512x1024 .f32) (y : S512x1024.Idx) : @Eq EReal (step_7 m c n h acc y) (acc y + share_7 m c n y) := by
  idx_vars y
  exact add_7 (rows := rowAt n) (a := acc) (i := y0) (j := y1) (hg := fun r k => gelu m c ⟨n, h⟩ r k) (hp := fun r k => dpre m c ⟨n, h⟩ r k) ..

theorem reset_7_at (n : ℕ) (h : n < cfg0.N) (y : S512x1024.Idx) : @Eq EReal (reset_7 m c n h y) (0 + share_7 m c n y) := by
  have e : @Eq EReal ((k0_pay3 (F := Ideal)) y) 0 := by
    idx_vars y
    pointwise [k0_pay3]
  refine (step_7_at m c n h (k0_pay3 (F := Ideal)) y).trans ?_
  rw [e]

theorem left_7 (t : Fin cfg0.N) : (outsAt0 m c t.val t.isLt).2.2.1 = Pipeline.accAt (reset_7 m c) (step_7 m c) (16 * (t.val / 16)) (t.val % 16)
      (by have h1 := t.isLt; have h2 := Nat.div_add_mod t.val 16; omega) :=
  Pipeline.eq_accAt_of_mod (fun n h => (outsAt0 m c n h).2.2.1) 16 (reset_7 m c) (step_7 m c)
    (fun n h hn => by rw [outsAt0_A m c ⟨n, h⟩ (by (try dsimp only); omega)]; dsimp only; exact first_7 ..)
    (fun n h hn => by have hN := lt_of_lt_of_eq h (show cfg0.N = 16 from N_0); rw [outsAt0_B m c ⟨n + 1, h⟩ (by (try dsimp only); omega)]; dsimp only; exact later_7 ..)
    (by decide) t.val t.isLt _

theorem resW_at (y : S512x1024.Idx) : resW m c y = ∑ l : Fin 8192, term_7 m c y l := by
  idx_vars y
  unfold resW term_7
  pointwise [val_main_v51, val_main_v50]

theorem whole_7 (b : ℕ) (hb : b = 0) (h : b + 15 < cfg0.N) (y : S512x1024.Idx) :
    @Eq EReal (Pipeline.accAt (reset_7 m c) (step_7 m c) b 15 h y) (resW m c y) := by
  subst hb
  refine (Pipeline.accAt_add_apply (β := EReal) _ _ (fun _ => 0) (share_7 m c) 0 15 (fun h i => reset_7_at m c _ h i) (fun n h acc i _ _ => step_7_at m c n h acc i) 15 (le_refl 15) h y).trans ?_
  rw [zero_add, resW_at, ← sum_rows (term_7 m c y)]
  rfl

theorem final_7 : (dats m 0 c).arrAt 7 cfg0.N = resW m c := by
  refine (dats m 0 c).arrAt_eq_of_covers 7 _ (by decide +kernel) fun t hf y => ?_
  have hm : t.val % 16 = 15 := (flush0_7 t).mp hf
  have ht : t.val < 16 := t.isLt
  have hy : (y (0 : Fin 2)).val < 512 := (y (0 : Fin 2)).isLt
  show @Eq EReal ((dats m 0 c).after 7 t y) _
  rw [after0_7, left_7]
  have h0 : (((cfg0.win 7).blk t).view.emb y 0).val = (y (0 : Fin 2)).val := by
    blk_simp [index_7 t]
    try first | omega | (simp; done)
  have h1 : (((cfg0.win 7).blk t).view.emb y 1).val = (y (1 : Fin 2)).val := by
    blk_simp [index_7 t]
    try first | omega | (simp; done)
  have he : ((cfg0.win 7).blk t).view.emb y = y := by
    funext a
    match a with
    | ⟨0, _⟩ => exact Fin.ext h0
    | ⟨1, _⟩ => exact Fin.ext h1
  rw [he]
  have e : ∀ (b j : ℕ) (h : b + j < cfg0.N) (b' j' : ℕ) (h' : b' + j' < cfg0.N), b = b' → j = j' →
      Pipeline.accAt (reset_7 m c) (step_7 m c) b j h = Pipeline.accAt (reset_7 m c) (step_7 m c) b' j' h' := by
    intro b j h b' j' h' hb hj; subst hb; subst hj; rfl
  rw [e _ _ _ 0 15 (by decide) (by omega) hm]
  exact whole_7 m c 0 rfl _ y

def resB : S1x1024.Idx → EReal := val_main_v65 (F := Ideal) (in0 m c) (in1 m c) (in2 m c) (in3 m c) (in4 m c)

def term_8 (y : S1x1024.Idx) (l : Fin 8192) : EReal := val_main_v46 (F := Ideal) (in0 m c) (in1 m c) (in2 m c) (in3 m c) (in4 m c) (ix2 l (y (1 : Fin 2)))
def share_8 (n : ℕ) (y : S1x1024.Idx) : EReal := ∑ r : Fin 512, term_8 m c y (rowAt n r)
def reset_8 (n : ℕ) (h : n < cfg0.N) : Vec Ideal S1x1024 .f32 := k0_pay2 (F := Ideal) (k0_pay16 (F := Ideal) (iblk m c 2 ⟨n, h⟩) (k0_pay11 (F := Ideal) (iblk m c 1 ⟨n, h⟩) (iblk m c 3 ⟨n, h⟩) (iblk m c 4 ⟨n, h⟩)) (k0_pay12 (F := Ideal) (iblk m c 1 ⟨n, h⟩) (iblk m c 3 ⟨n, h⟩) (iblk m c 4 ⟨n, h⟩)) (k0_pay13 (F := Ideal) (iblk m c 1 ⟨n, h⟩) (iblk m c 3 ⟨n, h⟩) (iblk m c 4 ⟨n, h⟩)) (iblk m c 0 ⟨n, h⟩)) (k0_pay4 (F := Ideal))
def step_8 (n : ℕ) (h : n < cfg0.N) (acc : Vec Ideal S1x1024 .f32) : Vec Ideal S1x1024 .f32 := k0_pay2 (F := Ideal) (k0_pay16 (F := Ideal) (iblk m c 2 ⟨n, h⟩) (k0_pay11 (F := Ideal) (iblk m c 1 ⟨n, h⟩) (iblk m c 3 ⟨n, h⟩) (iblk m c 4 ⟨n, h⟩)) (k0_pay12 (F := Ideal) (iblk m c 1 ⟨n, h⟩) (iblk m c 3 ⟨n, h⟩) (iblk m c 4 ⟨n, h⟩)) (k0_pay13 (F := Ideal) (iblk m c 1 ⟨n, h⟩) (iblk m c 3 ⟨n, h⟩) (iblk m c 4 ⟨n, h⟩)) (iblk m c 0 ⟨n, h⟩)) acc

theorem step_8_at (n : ℕ) (h : n < cfg0.N) (acc : Vec Ideal S1x1024 .f32) (y : S1x1024.Idx) : @Eq EReal (step_8 m c n h acc y) (acc y + share_8 m c n y) := by
  idx_vars y
  rw [Subsingleton.elim y0 0]
  exact add_8 (rows := rowAt n) (a := acc) (j := y1) (hp := fun r k => dpre m c ⟨n, h⟩ r k) ..

theorem reset_8_at (n : ℕ) (h : n < cfg0.N) (y : S1x1024.Idx) : @Eq EReal (reset_8 m c n h y) (0 + share_8 m c n y) := by
  have e : @Eq EReal ((k0_pay4 (F := Ideal)) y) 0 := by
    idx_vars y
    pointwise [k0_pay4]
  refine (step_8_at m c n h (k0_pay4 (F := Ideal)) y).trans ?_
  rw [e]

theorem left_8 (t : Fin cfg0.N) : (outsAt0 m c t.val t.isLt).2.2.2 = Pipeline.accAt (reset_8 m c) (step_8 m c) (16 * (t.val / 16)) (t.val % 16)
      (by have h1 := t.isLt; have h2 := Nat.div_add_mod t.val 16; omega) :=
  Pipeline.eq_accAt_of_mod (fun n h => (outsAt0 m c n h).2.2.2) 16 (reset_8 m c) (step_8 m c)
    (fun n h hn => by rw [outsAt0_A m c ⟨n, h⟩ (by (try dsimp only); omega)]; dsimp only; exact first_8 ..)
    (fun n h hn => by have hN := lt_of_lt_of_eq h (show cfg0.N = 16 from N_0); rw [outsAt0_B m c ⟨n + 1, h⟩ (by (try dsimp only); omega)]; dsimp only; exact later_8 ..)
    (by decide) t.val t.isLt _

theorem resB_at (y : S1x1024.Idx) : resB m c y = ∑ l : Fin 8192, term_8 m c y l := by
  idx_vars y
  unfold resB term_8
  pointwise [val_main_v65, val_main_v49, val_main_v48, val_main_v47, val_main_cst_9, val_main_cst_10]
  simp

theorem whole_8 (b : ℕ) (hb : b = 0) (h : b + 15 < cfg0.N) (y : S1x1024.Idx) :
    @Eq EReal (Pipeline.accAt (reset_8 m c) (step_8 m c) b 15 h y) (resB m c y) := by
  subst hb
  refine (Pipeline.accAt_add_apply (β := EReal) _ _ (fun _ => 0) (share_8 m c) 0 15 (fun h i => reset_8_at m c _ h i) (fun n h acc i _ _ => step_8_at m c n h acc i) 15 (le_refl 15) h y).trans ?_
  rw [zero_add, resB_at, ← sum_rows (term_8 m c y)]
  rfl

theorem final_8 : (dats m 0 c).arrAt 8 cfg0.N = resB m c := by
  refine (dats m 0 c).arrAt_eq_of_covers 8 _ (by decide +kernel) fun t hf y => ?_
  have hm : t.val % 16 = 15 := (flush0_8 t).mp hf
  have ht : t.val < 16 := t.isLt
  have hy : (y (0 : Fin 2)).val < 1 := (y (0 : Fin 2)).isLt
  show @Eq EReal ((dats m 0 c).after 8 t y) _
  rw [after0_8, left_8]
  have h0 : (((cfg0.win 8).blk t).view.emb y 0).val = (y (0 : Fin 2)).val := by
    blk_simp [index_8 t]
    try first | omega | (simp; done)
  have h1 : (((cfg0.win 8).blk t).view.emb y 1).val = (y (1 : Fin 2)).val := by
    blk_simp [index_8 t]
    try first | omega | (simp; done)
  have he : ((cfg0.win 8).blk t).view.emb y = y := by
    funext a
    match a with
    | ⟨0, _⟩ => exact Fin.ext h0
    | ⟨1, _⟩ => exact Fin.ext h1
  rw [he]
  have e : ∀ (b j : ℕ) (h : b + j < cfg0.N) (b' j' : ℕ) (h' : b' + j' < cfg0.N), b = b' → j = j' →
      Pipeline.accAt (reset_8 m c) (step_8 m c) b j h = Pipeline.accAt (reset_8 m c) (step_8 m c) b' j' h' := by
    intro b j h b' j' h' hb hj; subst hb; subst hj; rfl
  rw [e _ _ _ 0 15 (by decide) (by omega) hm]
  exact whole_8 m c 0 rfl _ y

end

end Cert.Kernel7Ideal.Own
-- ==== Proof.Parts.lean ====
/- The merge of the two branches and the gated unit, each with its gradients: every kernel ends with its arguments as they
   were and every counter at zero, and from any arguments with the results that its reference ends with. -/
module

public import proofs.«01_k».proof.Defs
public import proofs.«01_k».proof.Proof.Gen.Kernel4.Frame
public import proofs.«01_k».proof.Proof.Gen.Reference4Ideal.Run
public import proofs.«01_k».proof.Proof.Gen.Kernel5.Frame
public import proofs.«01_k».proof.Proof.Gen.Reference5Ideal.Run
public import proofs.«01_k».proof.Proof.Gen.Kernel6.Frame
public import proofs.«01_k».proof.Proof.Gen.Reference6Ideal.Run
public import proofs.«01_k».proof.Proof.Gen.Kernel7.Frame
public import proofs.«01_k».proof.Proof.Gen.Reference7Ideal.Run
public import proofs.«01_k».proof.Proof.Merge
public import proofs.«01_k».proof.Proof.MergeGrad
public import proofs.«01_k».proof.Proof.Glu
public import proofs.«01_k».proof.Proof.GluGrad
public import Idealize.ShloMosaic.Adequacy
public import Idealize.ShloMosaic.Init

@[expose] public section

noncomputable section

namespace Cert.Proof

open Idealize.ShloMosaic Idealize.ShloMosaic.TcCoe Idealize.SL.Sem

/-! ## The merge of the two branches and its projection -/

theorem frame_kernel4 : Cert.quiescent_Kernel4 := fun m ρ _ => Cert.Kernel4.Gen.frame m ρ
theorem frame_kernel4_ideal : Cert.quiescent_Kernel4Ideal := fun m ρ _ => Cert.Kernel4Ideal.Gen.frame m ρ
theorem frame_reference4 : Cert.quiescent_Reference4Ideal := fun m ρ _ =>
  (θ_run Cert.Reference4Ideal.defs _ _).mono (fun r h => ⟨fun c => (h c).2.2, sem_eq_zero_of_no_sems (by decide) r.2⟩)
    (Cert.Reference4Ideal.Value.run (F := Ideal) m ρ)

theorem same_merge : Cert.algebraic_Kernel4Ideal_Reference4Ideal := fun m g m' g' _ hagree => by
  refine ⟨fun c => Cert.Kernel4Ideal.Own.resX m c, fun c => Cert.Kernel4Ideal.Own.resOut m c, ?_, ?_⟩
  · refine (θ_run Cert.Kernel4Ideal.defs _ _).mono (fun r h c => ?_) (Cert.Kernel4Ideal.Value.run_blocks (F := Ideal) m g)
    obtain ⟨h0, h1, rest⟩ := h c
    exact ⟨h0.trans (Cert.Kernel4Ideal.Own.final_10 m c), h1.trans (Cert.Kernel4Ideal.Own.final_11 m c), rest⟩
  · refine (θ_run Cert.Reference4Ideal.defs _ _).mono (fun r h c => ?_) (Cert.Reference4Ideal.Value.run (F := Ideal) m' g')
    obtain ⟨e0, e1, e2, e3, e4, e5, e6, e7⟩ := hagree c
    obtain ⟨h0, h1, rest⟩ := h c
    refine ⟨h0.trans ?_, h1.trans ?_, rest⟩
    · rw [Cert.Reference4Ideal.Read.val_main_v36_eq, e0, e1, e2, e3, e4, e5, e6, e7]
      rfl
    · rw [Cert.Reference4Ideal.Read.val_main_v22_eq, e0, e1, e2, e4, e5, e6]
      rfl

/-! ## Its gradients -/

theorem frame_kernel5 : Cert.quiescent_Kernel5 := fun m ρ _ => Cert.Kernel5.Gen.frame m ρ
theorem frame_kernel5_ideal : Cert.quiescent_Kernel5Ideal := fun m ρ _ => Cert.Kernel5Ideal.Gen.frame m ρ
theorem frame_reference5 : Cert.quiescent_Reference5Ideal := fun m ρ _ =>
  (θ_run Cert.Reference5Ideal.defs _ _).mono (fun r h => ⟨fun c => (h c).2.2.2.2.2.2.2, sem_eq_zero_of_no_sems (by decide) r.2⟩)
    (Cert.Reference5Ideal.Value.run (F := Ideal) m ρ)

set_option maxHeartbeats 2000000 in
theorem same_merge_gradients : Cert.algebraic_Kernel5Ideal_Reference5Ideal := fun m g m' g' _ hagree => by
  refine ⟨fun c => Cert.Kernel5Ideal.Own.resYs m c, fun c => Cert.Kernel5Ideal.Own.resO m c, fun c => Cert.Kernel5Ideal.Own.resTail m c, fun c => Cert.Kernel5Ideal.Own.resWout m c, fun c => Cert.Kernel5Ideal.Own.resWbs m c, fun c => Cert.Kernel5Ideal.Own.resWba m c, fun c => Cert.Kernel5Ideal.Own.resG m c, ?_, ?_⟩
  · refine (θ_run Cert.Kernel5Ideal.defs _ _).mono (fun r h c => ?_) (Cert.Kernel5Ideal.Value.run_blocks (F := Ideal) m g)
    obtain ⟨h0, h1, h2, h3, h4, h5, h6, rest⟩ := h c
    exact ⟨h0.trans (Cert.Kernel5Ideal.Own.final_11 m c), h1.trans (Cert.Kernel5Ideal.Own.final_12 m c), h2.trans (Cert.Kernel5Ideal.Own.final_13 m c), h3.trans (Cert.Kernel5Ideal.Own.final_14 m c), h4.trans (Cert.Kernel5Ideal.Own.final_15 m c), h5.trans (Cert.Kernel5Ideal.Own.final_16 m c), h6.trans (Cert.Kernel5Ideal.Own.final_17 m c), rest⟩
  · refine (θ_run Cert.Reference5Ideal.defs _ _).mono (fun r h c => ?_) (Cert.Reference5Ideal.Value.run (F := Ideal) m' g')
    obtain ⟨e0, e1, e2, e3, e4, e5, e6, e7⟩ := hagree c
    obtain ⟨h0, h1, h2, h3, h4, h5, h6, rest⟩ := h c
    have a0 : StableHlo.launchContents m' c (Proc.devRef .tc Cert.Reference5Ideal.main_arg0) = Cert.Kernel5Ideal.Own.in0 m c := e0
    have a1 : StableHlo.launchContents m' c (Proc.devRef .tc Cert.Reference5Ideal.main_arg1) = Cert.Kernel5Ideal.Own.in1 m c := e1
    have a2 : StableHlo.launchContents m' c (Proc.devRef .tc Cert.Reference5Ideal.main_arg2) = Cert.Kernel5Ideal.Own.in2 m c := e2
    have a3 : StableHlo.launchContents m' c (Proc.devRef .tc Cert.Reference5Ideal.main_arg3) = Cert.Kernel5Ideal.Own.in3 m c := e3
    have a4 : StableHlo.launchContents m' c (Proc.devRef .tc Cert.Reference5Ideal.main_arg4) = Cert.Kernel5Ideal.Own.in4 m c := e4
    have a5 : StableHlo.launchContents m' c (Proc.devRef .tc Cert.Reference5Ideal.main_arg5) = Cert.Kernel5Ideal.Own.in5 m c := e5
    have a6 : StableHlo.launchContents m' c (Proc.devRef .tc Cert.Reference5Ideal.main_arg6) = Cert.Kernel5Ideal.Own.in6 m c := e6
    have a7 : StableHlo.launchContents m' c (Proc.devRef .tc Cert.Reference5Ideal.main_arg7) = Cert.Kernel5Ideal.Own.in7 m c := e7
    refine ⟨h0.trans ?_, h1.trans ?_, h2.trans ?_, h3.trans ?_, h4.trans ?_, h5.trans ?_, h6.trans ?_, rest⟩
    · rw [Cert.Reference5Ideal.Read.val_main_v78_eq, a0, a1, a2, a3, a4, a5, a6, a7]
      rfl
    · rw [Cert.Reference5Ideal.Read.val_main_v81_eq, a0, a1, a2, a3, a4, a5, a6, a7]
      rfl
    · rw [Cert.Reference5Ideal.Read.val_main_v83_eq, a0, a1, a2, a3, a4, a5, a6, a7]
      rfl
    · rw [Cert.Reference5Ideal.Read.val_main_v66_eq, a0, a1, a2, a3, a4, a5, a6, a7]
      rfl
    · rw [Cert.Reference5Ideal.Read.val_main_v77_eq, a0, a1, a2, a3, a4, a5, a6, a7]
      rfl
    · rw [Cert.Reference5Ideal.Read.val_main_v71_eq, a0, a1, a2, a3, a4, a5, a6, a7]
      rfl
    · rw [Cert.Reference5Ideal.Read.val_main_v84_eq, a0, a1, a2, a3, a4, a5, a6]
      rfl

/-! ## The gated unit -/

theorem frame_kernel6 : Cert.quiescent_Kernel6 := fun m ρ _ => Cert.Kernel6.Gen.frame m ρ
theorem frame_kernel6_ideal : Cert.quiescent_Kernel6Ideal := fun m ρ _ => Cert.Kernel6Ideal.Gen.frame m ρ
theorem frame_reference6 : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

theorem same_unit : Cert.algebraic_Kernel6Ideal_Reference6Ideal := fun m g m' g' _ hagree => by
  refine ⟨fun c => Cert.Kernel6Ideal.Own.res m c, ?_, ?_⟩
  · refine (θ_run Cert.Kernel6Ideal.defs _ _).mono (fun r h c => ?_) (Cert.Kernel6Ideal.Value.run_blocks (F := Ideal) m g)
    obtain ⟨h0, rest⟩ := h c
    exact ⟨h0.trans (Cert.Kernel6Ideal.Own.final_4 m c), rest⟩
  · refine (θ_run Cert.Reference6Ideal.defs _ _).mono (fun r h c => ?_) (Cert.Reference6Ideal.Value.run (F := Ideal) m' g')
    obtain ⟨e0, e1, e2, e3⟩ := hagree c
    obtain ⟨h0, rest⟩ := h c
    refine ⟨h0.trans ?_, rest⟩
    · rw [Cert.Reference6Ideal.Read.val_main_v28_eq, e0, e1, e2, e3]
      rfl

/-! ## Its gradients -/

theorem frame_kernel7 : Cert.quiescent_Kernel7 := fun m ρ _ => Cert.Kernel7.Gen.frame m ρ
theorem frame_kernel7_ideal : Cert.quiescent_Kernel7Ideal := fun m ρ _ => Cert.Kernel7Ideal.Gen.frame m ρ
theorem frame_reference7 : Cert.quiescent_Reference7Ideal := fun m ρ _ =>
  (θ_run Cert.Reference7Ideal.defs _ _).mono (fun r h => ⟨fun c => (h c).2.2.2.2, sem_eq_zero_of_no_sems (by decide) r.2⟩)
    (Cert.Reference7Ideal.Value.run (F := Ideal) m ρ)

theorem same_unit_gradients : Cert.algebraic_Kernel7Ideal_Reference7Ideal := fun m g m' g' _ hagree => by
  refine ⟨fun c => Cert.Kernel7Ideal.Own.resY m c, fun c => Cert.Kernel7Ideal.Own.resZ m c, fun c => Cert.Kernel7Ideal.Own.resW m c, fun c => Cert.Kernel7Ideal.Own.resB m c, ?_, ?_⟩
  · refine (θ_run Cert.Kernel7Ideal.defs _ _).mono (fun r h c => ?_) (Cert.Kernel7Ideal.Value.run_blocks (F := Ideal) m g)
    obtain ⟨h0, h1, h2, h3, rest⟩ := h c
    exact ⟨h0.trans (Cert.Kernel7Ideal.Own.final_5 m c), h1.trans (Cert.Kernel7Ideal.Own.final_6 m c), h2.trans (Cert.Kernel7Ideal.Own.final_7 m c), h3.trans (Cert.Kernel7Ideal.Own.final_8 m c), rest⟩
  · refine (θ_run Cert.Reference7Ideal.defs _ _).mono (fun r h c => ?_) (Cert.Reference7Ideal.Value.run (F := Ideal) m' g')
    obtain ⟨e0, e1, e2, e3, e4⟩ := hagree c
    obtain ⟨h0, h1, h2, h3, rest⟩ := h c
    refine ⟨h0.trans ?_, h1.trans ?_, h2.trans ?_, h3.trans ?_, rest⟩
    · rw [Cert.Reference7Ideal.Read.val_main_v64_eq, e0, e1, e2, e3, e4]
      rfl
    · rw [Cert.Reference7Ideal.Read.val_main_v42_eq, e0, e1, e2, e3, e4]
      rfl
    · rw [Cert.Reference7Ideal.Read.val_main_v51_eq, e0, e1, e2, e3, e4]
      rfl
    · rw [Cert.Reference7Ideal.Read.val_main_v65_eq, e0, e1, e2, e3, e4]
      rfl

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.Value
public import proofs.«01_k».proof.Proof.Ref
public import proofs.«01_k».proof.Proof.Real
public import proofs.«01_k».proof.Proof.Gen.Kernel2.Frame
public import proofs.«01_k».proof.Proof.Gen.Kernel3.Frame
public import proofs.«01_k».proof.Proof.Gen.Reference2Ideal.Run
public import proofs.«01_k».proof.Proof.Gen.Reference3Ideal.Run
public import proofs.«01_k».proof.Proof.GradX
public import proofs.«01_k».proof.Proof.GradW
public import proofs.«01_k».proof.Proof.Parts
public import Idealize.ShloMosaic.Adequacy
public import Idealize.ShloMosaic.Init

@[expose] public section

noncomputable section

namespace Cert.Proof

open Idealize.ShloMosaic Idealize.ShloMosaic.TcCoe Idealize.SL.Sem

/-- The one launched body, in both programs. -/
theorem rows_same : Cert.Kernel.defs₀ (F := Bits) = Cert.KernelIdeal.defs₀ (F := Bits) := by
  refine congrArg Defs.onTc (funext fun l => funext fun ts => ?_)
  match l, ts with
  | 0, (t, s) => rfl
  | ⟨_ + 1, h⟩, _ => exact absurd h (Nat.not_lt.2 (Nat.le_add_left _ _))

theorem defs_same : Cert.Kernel.defs (F := Bits) = Cert.KernelIdeal.defs (F := Bits) :=
  congrArg (Pipeline.defs (Cert.KernelIdeal.pcfgs (F := Bits))) rows_same

theorem frame_kernel : Cert.quiescent_Kernel := fun m ρ _ => by
  rw [defs_same]
  exact (θ_run Cert.KernelIdeal.defs _ _).mono (fun _ h => h) (Cert.KernelIdeal.Own.run_main (F := Bits) m ρ)

theorem frame_kernel_ideal : Cert.quiescent_KernelIdeal := fun m ρ _ =>
  (θ_run Cert.KernelIdeal.defs _ _).mono (fun _ h => h) (Cert.KernelIdeal.Own.run_main (F := Ideal) m ρ)

theorem frame_reference : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

theorem frame_kernel_ideal_finite : Cert.quiescent_KernelIdeal_pre_finite (hPre_finite := finite_facts) := fun m ρ _ => frame_kernel_ideal m ρ trivial

theorem frame_reference_finite : Cert.quiescent_ReferenceIdeal_pre_finite (hPre_finite := finite_facts) := fun m ρ _ => frame_reference m ρ trivial

/-- The numbers of the four arguments on a core. -/
def given (m : (ℓ : Loc Cert.KernelIdeal.nD Cert.KernelIdeal.τ Cert.KernelIdeal.sig) → Buf (Elt Ideal) ℓ) (c : Dev Cert.KernelIdeal.nD) : Fin 4 → ℕ → ℕ → ℝ
  | 0 => numbers (Cert.KernelIdeal.Own.in0 m c)
  | 1 => numbers (Cert.KernelIdeal.Own.in1 m c)
  | 2 => numbers (Cert.KernelIdeal.Own.in2 m c)
  | 3 => numbers (Cert.KernelIdeal.Own.in3 m c)

theorem same_gradients : Cert.algebraic_KernelIdeal_ReferenceIdeal_pre_finite (hPre_finite := finite_facts) := fun m g m' g' hpre hagree => by
  have H : ∀ c, Cert.KernelIdeal.Own.Real4 m c (given m c) := fun c => real_args finite_facts _ _ _ _ (hpre c)
  refine ⟨fun c => Cert.KernelIdeal.Own.resQ (given m) c, fun c => Cert.KernelIdeal.Own.resK (given m) c, fun c => Cert.KernelIdeal.Own.resV (given m) c,
    Cert.KernelIdeal.Own.run_values m (given m) g H, ?_⟩
  refine (θ_run Cert.ReferenceIdeal.defs _ _).mono (fun r h c => ?_) (Cert.ReferenceIdeal.Value.run (F := Ideal) m' g')
  obtain ⟨e0, e1, e2, e3⟩ := hagree c
  obtain ⟨r0, r1, r2, r3⟩ := H c
  obtain ⟨hq, hk, hv, rest⟩ := h c
  refine ⟨hq.trans ?_, hk.trans ?_, hv.trans ?_, rest⟩
  · rw [Cert.ReferenceIdeal.Read.val_main_v49_eq, e0, e1, e2, e3]
    exact funext fun y => Cert.ReferenceIdeal.Own.res_q r0 r1 r2 r3 y
  · rw [Cert.ReferenceIdeal.Read.val_main_v51_eq, e0, e1, e2, e3]
    exact funext fun y => Cert.ReferenceIdeal.Own.res_k r0 r1 r2 r3 y
  · rw [Cert.ReferenceIdeal.Read.val_main_v53_eq, e0, e1, e3]
    exact funext fun y => Cert.ReferenceIdeal.Own.res_v r0 r1 r3 y

/-! ## The projection's backward pass -/

theorem frame_kernel2 : Cert.quiescent_Kernel2 := fun m ρ _ => Cert.Kernel2.Gen.frame m ρ
theorem frame_kernel2_ideal : Cert.quiescent_Kernel2Ideal := fun m ρ _ => Cert.Kernel2Ideal.Gen.frame m ρ
theorem frame_reference2 : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run (F := Ideal) m ρ)

theorem same_input_gradients : Cert.algebraic_Kernel2Ideal_Reference2Ideal := fun m g m' g' _ hagree => by
  refine ⟨fun c => Cert.Kernel2Ideal.Own.resX m c, fun c => Cert.Kernel2Ideal.Own.resG m c, ?_, ?_⟩
  · refine (θ_run Cert.Kernel2Ideal.defs _ _).mono (fun r h c => ?_) (Cert.Kernel2Ideal.Value.run_blocks (F := Ideal) m g)
    obtain ⟨hx, hg, rest⟩ := h c
    exact ⟨hx.trans (Cert.Kernel2Ideal.Own.final_5 m c), hg.trans (Cert.Kernel2Ideal.Own.final_6 m c), rest⟩
  · refine (θ_run Cert.Reference2Ideal.defs _ _).mono (fun r h c => ?_) (Cert.Reference2Ideal.Value.run (F := Ideal) m' g')
    obtain ⟨e0, e1, e2, e3, e4⟩ := hagree c
    obtain ⟨hx, hg, rest⟩ := h c
    refine ⟨hx.trans ?_, hg.trans ?_, rest⟩
    · rw [Cert.Reference2Ideal.Read.val_main_v40_eq, e0, e1, e2, e3, e4]
      rfl
    · rw [Cert.Reference2Ideal.Read.val_main_v41_eq, e0, e2, e3]
      rfl

theorem frame_kernel3 : Cert.quiescent_Kernel3 := fun m ρ _ => Cert.Kernel3.Gen.frame m ρ
theorem frame_kernel3_ideal : Cert.quiescent_Kernel3Ideal := fun m ρ _ => Cert.Kernel3Ideal.Gen.frame m ρ
theorem frame_reference3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem same_weight_gradient : Cert.algebraic_Kernel3Ideal_Reference3Ideal := fun m g m' g' _ hagree => by
  refine ⟨fun c => Cert.Kernel3Ideal.Value.G2 m c, Cert.Kernel3Ideal.Value.run (F := Ideal) m g, ?_⟩
  refine (θ_run Cert.Reference3Ideal.defs _ _).mono (fun r h c => ?_) (Cert.Reference3Ideal.Value.run (F := Ideal) m' g')
  obtain ⟨e0, e1, e2, e3⟩ := hagree c
  obtain ⟨hw, rest⟩ := h c
  refine ⟨hw.trans ?_, rest⟩
  rw [Cert.Reference3Ideal.Read.val_main_v41_eq, e0, e1, e3]
  exact (Cert.Kernel3Ideal.Own.grads m c).symm

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  finite_facts,
  frame_kernel, frame_kernel_ideal, frame_kernel_ideal_finite, frame_reference, frame_reference_finite,
  frame_kernel2, frame_kernel2_ideal, frame_reference2, frame_kernel3, frame_kernel3_ideal, frame_reference3,
  frame_kernel4, frame_kernel4_ideal, frame_reference4,
  frame_kernel5, frame_kernel5_ideal, frame_reference5,
  frame_kernel6, frame_kernel6_ideal, frame_reference6,
  frame_kernel7, frame_kernel7_ideal, frame_reference7,
  trivial, same_gradients, trivial, same_input_gradients, trivial, same_weight_gradient,
  trivial, same_merge, trivial, same_merge_gradients, trivial, same_unit, trivial, same_unit_gradients⟩

end Cert.Proof

end
